-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_AllToAll (m : (ℓ : Loc Cert.AllToAll.nD Cert.AllToAll.τ Cert.AllToAll.sig) → Buf (Elt Bits) ℓ) : Prop :=
  True

def Pre_AllToAllIdeal (m : (ℓ : Loc Cert.AllToAllIdeal.nD Cert.AllToAllIdeal.τ Cert.AllToAllIdeal.sig) → Buf (Elt Ideal) ℓ) : Prop :=
  True

def Pre_AllToAllRefIdeal (m : (ℓ : Loc Cert.AllToAllRefIdeal.nD Cert.AllToAllRefIdeal.τ Cert.AllToAllRefIdeal.sig) → Buf (Elt Ideal) ℓ) : Prop :=
  True

def Pre_AllToAllRef (m : (ℓ : Loc Cert.AllToAllRef.nD Cert.AllToAllRef.τ Cert.AllToAllRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_GradAda (m : (ℓ : Loc Cert.GradAda.nD Cert.GradAda.τ Cert.GradAda.sig) → Buf (Elt Bits) ℓ) : Prop :=
  True

def Pre_GradAdaIdeal (m : (ℓ : Loc Cert.GradAdaIdeal.nD Cert.GradAdaIdeal.τ Cert.GradAdaIdeal.sig) → Buf (Elt Ideal) ℓ) : Prop :=
  True

def Pre_GradAdaRefIdeal (m : (ℓ : Loc Cert.GradAdaRefIdeal.nD Cert.GradAdaRefIdeal.τ Cert.GradAdaRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_PairIn0 (m : (ℓ : Loc Cert.PairIn0.nD Cert.PairIn0.τ Cert.PairIn0.sig) → Buf (Elt Bits) ℓ) : Prop :=
  True

def Pre_PairIn0Ideal (m : (ℓ : Loc Cert.PairIn0Ideal.nD Cert.PairIn0Ideal.τ Cert.PairIn0Ideal.sig) → Buf (Elt Ideal) ℓ) : Prop :=
  True

def Pre_PairIn0RefIdeal (m : (ℓ : Loc Cert.PairIn0RefIdeal.nD Cert.PairIn0RefIdeal.τ Cert.PairIn0RefIdeal.sig) → Buf (Elt Ideal) ℓ) : Prop :=
  True

def Pre_PairIn0Ref (m : (ℓ : Loc Cert.PairIn0Ref.nD Cert.PairIn0Ref.τ Cert.PairIn0Ref.sig) → Buf (Elt Bits) ℓ) : Prop :=
  True

def Pre_PairIn1 (m : (ℓ : Loc Cert.PairIn1.nD Cert.PairIn1.τ Cert.PairIn1.sig) → Buf (Elt Bits) ℓ) : Prop :=
  True

def Pre_PairIn1Ideal (m : (ℓ : Loc Cert.PairIn1Ideal.nD Cert.PairIn1Ideal.τ Cert.PairIn1Ideal.sig) → Buf (Elt Ideal) ℓ) : Prop :=
  True

def Pre_PairIn1RefIdeal (m : (ℓ : Loc Cert.PairIn1RefIdeal.nD Cert.PairIn1RefIdeal.τ Cert.PairIn1RefIdeal.sig) → Buf (Elt Ideal) ℓ) : Prop :=
  True

def Pre_PairIn1Ref (m : (ℓ : Loc Cert.PairIn1Ref.nD Cert.PairIn1Ref.τ Cert.PairIn1Ref.sig) → Buf (Elt Bits) ℓ) : Prop :=
  True

def Pre_PairOut0 (m : (ℓ : Loc Cert.PairOut0.nD Cert.PairOut0.τ Cert.PairOut0.sig) → Buf (Elt Bits) ℓ) : Prop :=
  True

def Pre_PairOut0Ideal (m : (ℓ : Loc Cert.PairOut0Ideal.nD Cert.PairOut0Ideal.τ Cert.PairOut0Ideal.sig) → Buf (Elt Ideal) ℓ) : Prop :=
  True

def Pre_PairOut0RefIdeal (m : (ℓ : Loc Cert.PairOut0RefIdeal.nD Cert.PairOut0RefIdeal.τ Cert.PairOut0RefIdeal.sig) → Buf (Elt Ideal) ℓ) : Prop :=
  True

def Pre_PairOut0Ref (m : (ℓ : Loc Cert.PairOut0Ref.nD Cert.PairOut0Ref.τ Cert.PairOut0Ref.sig) → Buf (Elt Bits) ℓ) : Prop :=
  True

def Pre_PairOut1 (m : (ℓ : Loc Cert.PairOut1.nD Cert.PairOut1.τ Cert.PairOut1.sig) → Buf (Elt Bits) ℓ) : Prop :=
  True

def Pre_PairOut1Ideal (m : (ℓ : Loc Cert.PairOut1Ideal.nD Cert.PairOut1Ideal.τ Cert.PairOut1Ideal.sig) → Buf (Elt Ideal) ℓ) : Prop :=
  True

def Pre_PairOut1RefIdeal (m : (ℓ : Loc Cert.PairOut1RefIdeal.nD Cert.PairOut1RefIdeal.τ Cert.PairOut1RefIdeal.sig) → Buf (Elt Ideal) ℓ) : Prop :=
  True

def Pre_PairOut1Ref (m : (ℓ : Loc Cert.PairOut1Ref.nD Cert.PairOut1Ref.τ Cert.PairOut1Ref.sig) → Buf (Elt Bits) ℓ) : Prop :=
  True

def Pre_PairUp0 (m : (ℓ : Loc Cert.PairUp0.nD Cert.PairUp0.τ Cert.PairUp0.sig) → Buf (Elt Bits) ℓ) : Prop :=
  True

def Pre_PairUp0Ideal (m : (ℓ : Loc Cert.PairUp0Ideal.nD Cert.PairUp0Ideal.τ Cert.PairUp0Ideal.sig) → Buf (Elt Ideal) ℓ) : Prop :=
  True

def Pre_PairUp0RefIdeal (m : (ℓ : Loc Cert.PairUp0RefIdeal.nD Cert.PairUp0RefIdeal.τ Cert.PairUp0RefIdeal.sig) → Buf (Elt Ideal) ℓ) : Prop :=
  True

def Pre_PairUp0Ref (m : (ℓ : Loc Cert.PairUp0Ref.nD Cert.PairUp0Ref.τ Cert.PairUp0Ref.sig) → Buf (Elt Bits) ℓ) : Prop :=
  True

def Pre_PairUp1 (m : (ℓ : Loc Cert.PairUp1.nD Cert.PairUp1.τ Cert.PairUp1.sig) → Buf (Elt Bits) ℓ) : Prop :=
  True

def Pre_PairUp1Ideal (m : (ℓ : Loc Cert.PairUp1Ideal.nD Cert.PairUp1Ideal.τ Cert.PairUp1Ideal.sig) → Buf (Elt Ideal) ℓ) : Prop :=
  True

def Pre_PairUp1RefIdeal (m : (ℓ : Loc Cert.PairUp1RefIdeal.nD Cert.PairUp1RefIdeal.τ Cert.PairUp1RefIdeal.sig) → Buf (Elt Ideal) ℓ) : Prop :=
  True

def Pre_PairUp1Ref (m : (ℓ : Loc Cert.PairUp1Ref.nD Cert.PairUp1Ref.τ Cert.PairUp1Ref.sig) → Buf (Elt Bits) ℓ) : Prop :=
  True

def Pre_PairDown0 (m : (ℓ : Loc Cert.PairDown0.nD Cert.PairDown0.τ Cert.PairDown0.sig) → Buf (Elt Bits) ℓ) : Prop :=
  True

def Pre_PairDown0Ideal (m : (ℓ : Loc Cert.PairDown0Ideal.nD Cert.PairDown0Ideal.τ Cert.PairDown0Ideal.sig) → Buf (Elt Ideal) ℓ) : Prop :=
  True

def Pre_PairDown0RefIdeal (m : (ℓ : Loc Cert.PairDown0RefIdeal.nD Cert.PairDown0RefIdeal.τ Cert.PairDown0RefIdeal.sig) → Buf (Elt Ideal) ℓ) : Prop :=
  True

def Pre_PairDown0Ref (m : (ℓ : Loc Cert.PairDown0Ref.nD Cert.PairDown0Ref.τ Cert.PairDown0Ref.sig) → Buf (Elt Bits) ℓ) : Prop :=
  True

def Pre_PairDown1 (m : (ℓ : Loc Cert.PairDown1.nD Cert.PairDown1.τ Cert.PairDown1.sig) → Buf (Elt Bits) ℓ) : Prop :=
  True

def Pre_PairDown1Ideal (m : (ℓ : Loc Cert.PairDown1Ideal.nD Cert.PairDown1Ideal.τ Cert.PairDown1Ideal.sig) → Buf (Elt Ideal) ℓ) : Prop :=
  True

def Pre_PairDown1RefIdeal (m : (ℓ : Loc Cert.PairDown1RefIdeal.nD Cert.PairDown1RefIdeal.τ Cert.PairDown1RefIdeal.sig) → Buf (Elt Ideal) ℓ) : Prop :=
  True

def Pre_PairDown1Ref (m : (ℓ : Loc Cert.PairDown1Ref.nD Cert.PairDown1Ref.τ Cert.PairDown1Ref.sig) → Buf (Elt Bits) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_ProjInBwd (m : (ℓ : Loc Cert.ProjInBwd.nD Cert.ProjInBwd.τ Cert.ProjInBwd.sig) → Buf (Elt Bits) ℓ) : Prop :=
  True

def Pre_ProjInBwdIdeal (m : (ℓ : Loc Cert.ProjInBwdIdeal.nD Cert.ProjInBwdIdeal.τ Cert.ProjInBwdIdeal.sig) → Buf (Elt Ideal) ℓ) : Prop :=
  True

def Pre_ProjInBwdRefIdeal (m : (ℓ : Loc Cert.ProjInBwdRefIdeal.nD Cert.ProjInBwdRefIdeal.τ Cert.ProjInBwdRefIdeal.sig) → Buf (Elt Ideal) ℓ) : Prop :=
  True

def Pre_ProjOutBwd (m : (ℓ : Loc Cert.ProjOutBwd.nD Cert.ProjOutBwd.τ Cert.ProjOutBwd.sig) → Buf (Elt Bits) ℓ) : Prop :=
  True

def Pre_ProjOutBwdIdeal (m : (ℓ : Loc Cert.ProjOutBwdIdeal.nD Cert.ProjOutBwdIdeal.τ Cert.ProjOutBwdIdeal.sig) → Buf (Elt Ideal) ℓ) : Prop :=
  True

def Pre_ProjOutBwdRefIdeal (m : (ℓ : Loc Cert.ProjOutBwdRefIdeal.nD Cert.ProjOutBwdRefIdeal.τ Cert.ProjOutBwdRefIdeal.sig) → Buf (Elt Ideal) ℓ) : Prop :=
  True

def Pre_FfnUpBwd (m : (ℓ : Loc Cert.FfnUpBwd.nD Cert.FfnUpBwd.τ Cert.FfnUpBwd.sig) → Buf (Elt Bits) ℓ) : Prop :=
  True

def Pre_FfnUpBwdIdeal (m : (ℓ : Loc Cert.FfnUpBwdIdeal.nD Cert.FfnUpBwdIdeal.τ Cert.FfnUpBwdIdeal.sig) → Buf (Elt Ideal) ℓ) : Prop :=
  True

def Pre_FfnUpBwdRefIdeal (m : (ℓ : Loc Cert.FfnUpBwdRefIdeal.nD Cert.FfnUpBwdRefIdeal.τ Cert.FfnUpBwdRefIdeal.sig) → Buf (Elt Ideal) ℓ) : Prop :=
  True

def Pre_FfnDownBwd (m : (ℓ : Loc Cert.FfnDownBwd.nD Cert.FfnDownBwd.τ Cert.FfnDownBwd.sig) → Buf (Elt Bits) ℓ) : Prop :=
  True

def Pre_FfnDownBwdIdeal (m : (ℓ : Loc Cert.FfnDownBwdIdeal.nD Cert.FfnDownBwdIdeal.τ Cert.FfnDownBwdIdeal.sig) → Buf (Elt Ideal) ℓ) : Prop :=
  True

def Pre_FfnDownBwdRefIdeal (m : (ℓ : Loc Cert.FfnDownBwdRefIdeal.nD Cert.FfnDownBwdRefIdeal.τ Cert.FfnDownBwdRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6)
      ∧ r.2.mem ((c.tc : Thread Cert.GatherRef.nD Cert.GatherRef.τ).loc Cert.GatherRef.main_arg7) = m ((c.tc : Thread Cert.GatherRef.nD Cert.GatherRef.τ).loc Cert.GatherRef.main_arg7))
      ∧ r.2.sem = fun _ => 0)

def quiescent_AllToAll [hAllToAll : Cert.AllToAll.Facts] : Prop :=
  ∀ (m : (ℓ : Loc Cert.AllToAll.nD Cert.AllToAll.τ Cert.AllToAll.sig) → Buf (Elt Bits) ℓ) (g : Dev Cert.AllToAll.nD → PrngReg), Pre_AllToAll m →
    θ_run (Cert.AllToAll.defs (F := Bits)) (onTc (τ := Cert.AllToAll.τ) (Cert.AllToAll.main (F := Bits))) ⟨m, fun _ => 0, g⟩ (fun r => (∀ c : Dev Cert.AllToAll.nD,
      r.2.mem ((c.tc : Thread Cert.AllToAll.nD Cert.AllToAll.τ).loc Cert.AllToAll.main_arg0) = m ((c.tc : Thread Cert.AllToAll.nD Cert.AllToAll.τ).loc Cert.AllToAll.main_arg0)
      ∧ r.2.mem ((c.tc : Thread Cert.AllToAll.nD Cert.AllToAll.τ).loc Cert.AllToAll.main_arg1) = m ((c.tc : Thread Cert.AllToAll.nD Cert.AllToAll.τ).loc Cert.AllToAll.main_arg1)
      ∧ r.2.mem ((c.tc : Thread Cert.AllToAll.nD Cert.AllToAll.τ).loc Cert.AllToAll.main_arg2) = m ((c.tc : Thread Cert.AllToAll.nD Cert.AllToAll.τ).loc Cert.AllToAll.main_arg2)
      ∧ r.2.mem ((c.tc : Thread Cert.AllToAll.nD Cert.AllToAll.τ).loc Cert.AllToAll.main_arg3) = m ((c.tc : Thread Cert.AllToAll.nD Cert.AllToAll.τ).loc Cert.AllToAll.main_arg3)
      ∧ r.2.mem ((c.tc : Thread Cert.AllToAll.nD Cert.AllToAll.τ).loc Cert.AllToAll.main_arg4) = m ((c.tc : Thread Cert.AllToAll.nD Cert.AllToAll.τ).loc Cert.AllToAll.main_arg4)
      ∧ r.2.mem ((c.tc : Thread Cert.AllToAll.nD Cert.AllToAll.τ).loc Cert.AllToAll.main_arg5) = m ((c.tc : Thread Cert.AllToAll.nD Cert.AllToAll.τ).loc Cert.AllToAll.main_arg5)
      ∧ r.2.mem ((c.tc : Thread Cert.AllToAll.nD Cert.AllToAll.τ).loc Cert.AllToAll.main_arg6) = m ((c.tc : Thread Cert.AllToAll.nD Cert.AllToAll.τ).loc Cert.AllToAll.main_arg6)
      ∧ r.2.mem ((c.tc : Thread Cert.AllToAll.nD Cert.AllToAll.τ).loc Cert.AllToAll.main_arg7) = m ((c.tc : Thread Cert.AllToAll.nD Cert.AllToAll.τ).loc Cert.AllToAll.main_arg7))
      ∧ r.2.sem = fun _ => 0)

def quiescent_AllToAllIdeal [hAllToAllIdeal : Cert.AllToAllIdeal.Facts] : Prop :=
  ∀ (m : (ℓ : Loc Cert.AllToAllIdeal.nD Cert.AllToAllIdeal.τ Cert.AllToAllIdeal.sig) → Buf (Elt Ideal) ℓ) (g : Dev Cert.AllToAllIdeal.nD → PrngReg), Pre_AllToAllIdeal m →
    θ_run (Cert.AllToAllIdeal.defs (F := Ideal)) (onTc (τ := Cert.AllToAllIdeal.τ) (Cert.AllToAllIdeal.main (F := Ideal))) ⟨m, fun _ => 0, g⟩ (fun r => (∀ c : Dev Cert.AllToAllIdeal.nD,
      r.2.mem ((c.tc : Thread Cert.AllToAllIdeal.nD Cert.AllToAllIdeal.τ).loc Cert.AllToAllIdeal.main_arg0) = m ((c.tc : Thread Cert.AllToAllIdeal.nD Cert.AllToAllIdeal.τ).loc Cert.AllToAllIdeal.main_arg0)
      ∧ r.2.mem ((c.tc : Thread Cert.AllToAllIdeal.nD Cert.AllToAllIdeal.τ).loc Cert.AllToAllIdeal.main_arg1) = m ((c.tc : Thread Cert.AllToAllIdeal.nD Cert.AllToAllIdeal.τ).loc Cert.AllToAllIdeal.main_arg1)
      ∧ r.2.mem ((c.tc : Thread Cert.AllToAllIdeal.nD Cert.AllToAllIdeal.τ).loc Cert.AllToAllIdeal.main_arg2) = m ((c.tc : Thread Cert.AllToAllIdeal.nD Cert.AllToAllIdeal.τ).loc Cert.AllToAllIdeal.main_arg2)
      ∧ r.2.mem ((c.tc : Thread Cert.AllToAllIdeal.nD Cert.AllToAllIdeal.τ).loc Cert.AllToAllIdeal.main_arg3) = m ((c.tc : Thread Cert.AllToAllIdeal.nD Cert.AllToAllIdeal.τ).loc Cert.AllToAllIdeal.main_arg3)
      ∧ r.2.mem ((c.tc : Thread Cert.AllToAllIdeal.nD Cert.AllToAllIdeal.τ).loc Cert.AllToAllIdeal.main_arg4) = m ((c.tc : Thread Cert.AllToAllIdeal.nD Cert.AllToAllIdeal.τ).loc Cert.AllToAllIdeal.main_arg4)
      ∧ r.2.mem ((c.tc : Thread Cert.AllToAllIdeal.nD Cert.AllToAllIdeal.τ).loc Cert.AllToAllIdeal.main_arg5) = m ((c.tc : Thread Cert.AllToAllIdeal.nD Cert.AllToAllIdeal.τ).loc Cert.AllToAllIdeal.main_arg5)
      ∧ r.2.mem ((c.tc : Thread Cert.AllToAllIdeal.nD Cert.AllToAllIdeal.τ).loc Cert.AllToAllIdeal.main_arg6) = m ((c.tc : Thread Cert.AllToAllIdeal.nD Cert.AllToAllIdeal.τ).loc Cert.AllToAllIdeal.main_arg6)
      ∧ r.2.mem ((c.tc : Thread Cert.AllToAllIdeal.nD Cert.AllToAllIdeal.τ).loc Cert.AllToAllIdeal.main_arg7) = m ((c.tc : Thread Cert.AllToAllIdeal.nD Cert.AllToAllIdeal.τ).loc Cert.AllToAllIdeal.main_arg7))
      ∧ r.2.sem = fun _ => 0)

def quiescent_AllToAllRefIdeal [hAllToAllRefIdeal : Cert.AllToAllRefIdeal.Facts] : Prop :=
  ∀ (m : (ℓ : Loc Cert.AllToAllRefIdeal.nD Cert.AllToAllRefIdeal.τ Cert.AllToAllRefIdeal.sig) → Buf (Elt Ideal) ℓ) (g : Dev Cert.AllToAllRefIdeal.nD → PrngReg), Pre_AllToAllRefIdeal m →
    θ_run (Cert.AllToAllRefIdeal.defs (F := Ideal)) (onTc (τ := Cert.AllToAllRefIdeal.τ) (Cert.AllToAllRefIdeal.main (F := Ideal))) ⟨m, fun _ => 0, g⟩ (fun r => (∀ c : Dev Cert.AllToAllRefIdeal.nD,
      r.2.mem ((c.tc : Thread Cert.AllToAllRefIdeal.nD Cert.AllToAllRefIdeal.τ).loc Cert.AllToAllRefIdeal.main_arg0) = m ((c.tc : Thread Cert.AllToAllRefIdeal.nD Cert.AllToAllRefIdeal.τ).loc Cert.AllToAllRefIdeal.main_arg0)
      ∧ r.2.mem ((c.tc : Thread Cert.AllToAllRefIdeal.nD Cert.AllToAllRefIdeal.τ).loc Cert.AllToAllRefIdeal.main_arg1) = m ((c.tc : Thread Cert.AllToAllRefIdeal.nD Cert.AllToAllRefIdeal.τ).loc Cert.AllToAllRefIdeal.main_arg1)
      ∧ r.2.mem ((c.tc : Thread Cert.AllToAllRefIdeal.nD Cert.AllToAllRefIdeal.τ).loc Cert.AllToAllRefIdeal.main_arg2) = m ((c.tc : Thread Cert.AllToAllRefIdeal.nD Cert.AllToAllRefIdeal.τ).loc Cert.AllToAllRefIdeal.main_arg2)
      ∧ r.2.mem ((c.tc : Thread Cert.AllToAllRefIdeal.nD Cert.AllToAllRefIdeal.τ).loc Cert.AllToAllRefIdeal.main_arg3) = m ((c.tc : Thread Cert.AllToAllRefIdeal.nD Cert.AllToAllRefIdeal.τ).loc Cert.AllToAllRefIdeal.main_arg3)
      ∧ r.2.mem ((c.tc : Thread Cert.AllToAllRefIdeal.nD Cert.AllToAllRefIdeal.τ).loc Cert.AllToAllRefIdeal.main_arg4) = m ((c.tc : Thread Cert.AllToAllRefIdeal.nD Cert.AllToAllRefIdeal.τ).loc Cert.AllToAllRefIdeal.main_arg4)
      ∧ r.2.mem ((c.tc : Thread Cert.AllToAllRefIdeal.nD Cert.AllToAllRefIdeal.τ).loc Cert.AllToAllRefIdeal.main_arg5) = m ((c.tc : Thread Cert.AllToAllRefIdeal.nD Cert.AllToAllRefIdeal.τ).loc Cert.AllToAllRefIdeal.main_arg5)
      ∧ r.2.mem ((c.tc : Thread Cert.AllToAllRefIdeal.nD Cert.AllToAllRefIdeal.τ).loc Cert.AllToAllRefIdeal.main_arg6) = m ((c.tc : Thread Cert.AllToAllRefIdeal.nD Cert.AllToAllRefIdeal.τ).loc Cert.AllToAllRefIdeal.main_arg6)
      ∧ r.2.mem ((c.tc : Thread Cert.AllToAllRefIdeal.nD Cert.AllToAllRefIdeal.τ).loc Cert.AllToAllRefIdeal.main_arg7) = m ((c.tc : Thread Cert.AllToAllRefIdeal.nD Cert.AllToAllRefIdeal.τ).loc Cert.AllToAllRefIdeal.main_arg7))
      ∧ r.2.sem = fun _ => 0)

def quiescent_AllToAllRef [hAllToAllRef : Cert.AllToAllRef.Facts] : Prop :=
  ∀ (m : (ℓ : Loc Cert.AllToAllRef.nD Cert.AllToAllRef.τ Cert.AllToAllRef.sig) → Buf (Elt Bits) ℓ) (g : Dev Cert.AllToAllRef.nD → PrngReg), Pre_AllToAllRef m →
    θ_run (Cert.AllToAllRef.defs (F := Bits)) (onTc (τ := Cert.AllToAllRef.τ) (Cert.AllToAllRef.main (F := Bits))) ⟨m, fun _ => 0, g⟩ (fun r => (∀ c : Dev Cert.AllToAllRef.nD,
      r.2.mem ((c.tc : Thread Cert.AllToAllRef.nD Cert.AllToAllRef.τ).loc Cert.AllToAllRef.main_arg0) = m ((c.tc : Thread Cert.AllToAllRef.nD Cert.AllToAllRef.τ).loc Cert.AllToAllRef.main_arg0)
      ∧ r.2.mem ((c.tc : Thread Cert.AllToAllRef.nD Cert.AllToAllRef.τ).loc Cert.AllToAllRef.main_arg1) = m ((c.tc : Thread Cert.AllToAllRef.nD Cert.AllToAllRef.τ).loc Cert.AllToAllRef.main_arg1)
      ∧ r.2.mem ((c.tc : Thread Cert.AllToAllRef.nD Cert.AllToAllRef.τ).loc Cert.AllToAllRef.main_arg2) = m ((c.tc : Thread Cert.AllToAllRef.nD Cert.AllToAllRef.τ).loc Cert.AllToAllRef.main_arg2)
      ∧ r.2.mem ((c.tc : Thread Cert.AllToAllRef.nD Cert.AllToAllRef.τ).loc Cert.AllToAllRef.main_arg3) = m ((c.tc : Thread Cert.AllToAllRef.nD Cert.AllToAllRef.τ).loc Cert.AllToAllRef.main_arg3)
      ∧ r.2.mem ((c.tc : Thread Cert.AllToAllRef.nD Cert.AllToAllRef.τ).loc Cert.AllToAllRef.main_arg4) = m ((c.tc : Thread Cert.AllToAllRef.nD Cert.AllToAllRef.τ).loc Cert.AllToAllRef.main_arg4)
      ∧ r.2.mem ((c.tc : Thread Cert.AllToAllRef.nD Cert.AllToAllRef.τ).loc Cert.AllToAllRef.main_arg5) = m ((c.tc : Thread Cert.AllToAllRef.nD Cert.AllToAllRef.τ).loc Cert.AllToAllRef.main_arg5)
      ∧ r.2.mem ((c.tc : Thread Cert.AllToAllRef.nD Cert.AllToAllRef.τ).loc Cert.AllToAllRef.main_arg6) = m ((c.tc : Thread Cert.AllToAllRef.nD Cert.AllToAllRef.τ).loc Cert.AllToAllRef.main_arg6)
      ∧ r.2.mem ((c.tc : Thread Cert.AllToAllRef.nD Cert.AllToAllRef.τ).loc Cert.AllToAllRef.main_arg7) = m ((c.tc : Thread Cert.AllToAllRef.nD Cert.AllToAllRef.τ).loc Cert.AllToAllRef.main_arg7))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2)
      ∧ r.2.mem ((c.tc : Thread Cert.Swap.nD Cert.Swap.τ).loc Cert.Swap.main_arg3) = m ((c.tc : Thread Cert.Swap.nD Cert.Swap.τ).loc Cert.Swap.main_arg3)
      ∧ r.2.mem ((c.tc : Thread Cert.Swap.nD Cert.Swap.τ).loc Cert.Swap.main_arg4) = m ((c.tc : Thread Cert.Swap.nD Cert.Swap.τ).loc Cert.Swap.main_arg4)
      ∧ r.2.mem ((c.tc : Thread Cert.Swap.nD Cert.Swap.τ).loc Cert.Swap.main_arg5) = m ((c.tc : Thread Cert.Swap.nD Cert.Swap.τ).loc Cert.Swap.main_arg5)
      ∧ r.2.mem ((c.tc : Thread Cert.Swap.nD Cert.Swap.τ).loc Cert.Swap.main_arg6) = m ((c.tc : Thread Cert.Swap.nD Cert.Swap.τ).loc Cert.Swap.main_arg6)
      ∧ r.2.mem ((c.tc : Thread Cert.Swap.nD Cert.Swap.τ).loc Cert.Swap.main_arg7) = m ((c.tc : Thread Cert.Swap.nD Cert.Swap.τ).loc Cert.Swap.main_arg7))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
      ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
      ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4)
      ∧ r.2.mem ((c.tc : Thread Cert.SwapIdeal.nD Cert.SwapIdeal.τ).loc Cert.SwapIdeal.main_arg5) = m ((c.tc : Thread Cert.SwapIdeal.nD Cert.SwapIdeal.τ).loc Cert.SwapIdeal.main_arg5)
      ∧ r.2.mem ((c.tc : Thread Cert.SwapIdeal.nD Cert.SwapIdeal.τ).loc Cert.SwapIdeal.main_arg6) = m ((c.tc : Thread Cert.SwapIdeal.nD Cert.SwapIdeal.τ).loc Cert.SwapIdeal.main_arg6)
      ∧ r.2.mem ((c.tc : Thread Cert.SwapIdeal.nD Cert.SwapIdeal.τ).loc Cert.SwapIdeal.main_arg7) = m ((c.tc : Thread Cert.SwapIdeal.nD Cert.SwapIdeal.τ).loc Cert.SwapIdeal.main_arg7))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2)
      ∧ r.2.mem ((c.tc : Thread Cert.SwapRefIdeal.nD Cert.SwapRefIdeal.τ).loc Cert.SwapRefIdeal.main_arg3) = m ((c.tc : Thread Cert.SwapRefIdeal.nD Cert.SwapRefIdeal.τ).loc Cert.SwapRefIdeal.main_arg3)
      ∧ r.2.mem ((c.tc : Thread Cert.SwapRefIdeal.nD Cert.SwapRefIdeal.τ).loc Cert.SwapRefIdeal.main_arg4) = m ((c.tc : Thread Cert.SwapRefIdeal.nD Cert.SwapRefIdeal.τ).loc Cert.SwapRefIdeal.main_arg4)
      ∧ r.2.mem ((c.tc : Thread Cert.SwapRefIdeal.nD Cert.SwapRefIdeal.τ).loc Cert.SwapRefIdeal.main_arg5) = m ((c.tc : Thread Cert.SwapRefIdeal.nD Cert.SwapRefIdeal.τ).loc Cert.SwapRefIdeal.main_arg5)
      ∧ r.2.mem ((c.tc : Thread Cert.SwapRefIdeal.nD Cert.SwapRefIdeal.τ).loc Cert.SwapRefIdeal.main_arg6) = m ((c.tc : Thread Cert.SwapRefIdeal.nD Cert.SwapRefIdeal.τ).loc Cert.SwapRefIdeal.main_arg6)
      ∧ r.2.mem ((c.tc : Thread Cert.SwapRefIdeal.nD Cert.SwapRefIdeal.τ).loc Cert.SwapRefIdeal.main_arg7) = m ((c.tc : Thread Cert.SwapRefIdeal.nD Cert.SwapRefIdeal.τ).loc Cert.SwapRefIdeal.main_arg7))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1)
      ∧ r.2.mem ((c.tc : Thread Cert.SwapRef.nD Cert.SwapRef.τ).loc Cert.SwapRef.main_arg2) = m ((c.tc : Thread Cert.SwapRef.nD Cert.SwapRef.τ).loc Cert.SwapRef.main_arg2)
      ∧ r.2.mem ((c.tc : Thread Cert.SwapRef.nD Cert.SwapRef.τ).loc Cert.SwapRef.main_arg3) = m ((c.tc : Thread Cert.SwapRef.nD Cert.SwapRef.τ).loc Cert.SwapRef.main_arg3)
      ∧ r.2.mem ((c.tc : Thread Cert.SwapRef.nD Cert.SwapRef.τ).loc Cert.SwapRef.main_arg4) = m ((c.tc : Thread Cert.SwapRef.nD Cert.SwapRef.τ).loc Cert.SwapRef.main_arg4)
      ∧ r.2.mem ((c.tc : Thread Cert.SwapRef.nD Cert.SwapRef.τ).loc Cert.SwapRef.main_arg5) = m ((c.tc : Thread Cert.SwapRef.nD Cert.SwapRef.τ).loc Cert.SwapRef.main_arg5)
      ∧ r.2.mem ((c.tc : Thread Cert.SwapRef.nD Cert.SwapRef.τ).loc Cert.SwapRef.main_arg6) = m ((c.tc : Thread Cert.SwapRef.nD Cert.SwapRef.τ).loc Cert.SwapRef.main_arg6)
      ∧ r.2.mem ((c.tc : Thread Cert.SwapRef.nD Cert.SwapRef.τ).loc Cert.SwapRef.main_arg7) = m ((c.tc : Thread Cert.SwapRef.nD Cert.SwapRef.τ).loc Cert.SwapRef.main_arg7))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1)
      ∧ r.2.mem ((c.tc : Thread Cert.Share.nD Cert.Share.τ).loc Cert.Share.main_arg2) = m ((c.tc : Thread Cert.Share.nD Cert.Share.τ).loc Cert.Share.main_arg2)
      ∧ r.2.mem ((c.tc : Thread Cert.Share.nD Cert.Share.τ).loc Cert.Share.main_arg3) = m ((c.tc : Thread Cert.Share.nD Cert.Share.τ).loc Cert.Share.main_arg3)
      ∧ r.2.mem ((c.tc : Thread Cert.Share.nD Cert.Share.τ).loc Cert.Share.main_arg4) = m ((c.tc : Thread Cert.Share.nD Cert.Share.τ).loc Cert.Share.main_arg4)
      ∧ r.2.mem ((c.tc : Thread Cert.Share.nD Cert.Share.τ).loc Cert.Share.main_arg5) = m ((c.tc : Thread Cert.Share.nD Cert.Share.τ).loc Cert.Share.main_arg5)
      ∧ r.2.mem ((c.tc : Thread Cert.Share.nD Cert.Share.τ).loc Cert.Share.main_arg6) = m ((c.tc : Thread Cert.Share.nD Cert.Share.τ).loc Cert.Share.main_arg6)
      ∧ r.2.mem ((c.tc : Thread Cert.Share.nD Cert.Share.τ).loc Cert.Share.main_arg7) = m ((c.tc : Thread Cert.Share.nD Cert.Share.τ).loc Cert.Share.main_arg7))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
      ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
      ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
      ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
      ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0)
      ∧ r.2.mem ((c.tc : Thread Cert.ShareRefIdeal.nD Cert.ShareRefIdeal.τ).loc Cert.ShareRefIdeal.main_arg1) = m ((c.tc : Thread Cert.ShareRefIdeal.nD Cert.ShareRefIdeal.τ).loc Cert.ShareRefIdeal.main_arg1)
      ∧ r.2.mem ((c.tc : Thread Cert.ShareRefIdeal.nD Cert.ShareRefIdeal.τ).loc Cert.ShareRefIdeal.main_arg2) = m ((c.tc : Thread Cert.ShareRefIdeal.nD Cert.ShareRefIdeal.τ).loc Cert.ShareRefIdeal.main_arg2)
      ∧ r.2.mem ((c.tc : Thread Cert.ShareRefIdeal.nD Cert.ShareRefIdeal.τ).loc Cert.ShareRefIdeal.main_arg3) = m ((c.tc : Thread Cert.ShareRefIdeal.nD Cert.ShareRefIdeal.τ).loc Cert.ShareRefIdeal.main_arg3)
      ∧ r.2.mem ((c.tc : Thread Cert.ShareRefIdeal.nD Cert.ShareRefIdeal.τ).loc Cert.ShareRefIdeal.main_arg4) = m ((c.tc : Thread Cert.ShareRefIdeal.nD Cert.ShareRefIdeal.τ).loc Cert.ShareRefIdeal.main_arg4)
      ∧ r.2.mem ((c.tc : Thread Cert.ShareRefIdeal.nD Cert.ShareRefIdeal.τ).loc Cert.ShareRefIdeal.main_arg5) = m ((c.tc : Thread Cert.ShareRefIdeal.nD Cert.ShareRefIdeal.τ).loc Cert.ShareRefIdeal.main_arg5)
      ∧ r.2.mem ((c.tc : Thread Cert.ShareRefIdeal.nD Cert.ShareRefIdeal.τ).loc Cert.ShareRefIdeal.main_arg6) = m ((c.tc : Thread Cert.ShareRefIdeal.nD Cert.ShareRefIdeal.τ).loc Cert.ShareRefIdeal.main_arg6)
      ∧ r.2.mem ((c.tc : Thread Cert.ShareRefIdeal.nD Cert.ShareRefIdeal.τ).loc Cert.ShareRefIdeal.main_arg7) = m ((c.tc : Thread Cert.ShareRefIdeal.nD Cert.ShareRefIdeal.τ).loc Cert.ShareRefIdeal.main_arg7))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0)
      ∧ r.2.mem ((c.tc : Thread Cert.ShareRef.nD Cert.ShareRef.τ).loc Cert.ShareRef.main_arg1) = m ((c.tc : Thread Cert.ShareRef.nD Cert.ShareRef.τ).loc Cert.ShareRef.main_arg1)
      ∧ r.2.mem ((c.tc : Thread Cert.ShareRef.nD Cert.ShareRef.τ).loc Cert.ShareRef.main_arg2) = m ((c.tc : Thread Cert.ShareRef.nD Cert.ShareRef.τ).loc Cert.ShareRef.main_arg2)
      ∧ r.2.mem ((c.tc : Thread Cert.ShareRef.nD Cert.ShareRef.τ).loc Cert.ShareRef.main_arg3) = m ((c.tc : Thread Cert.ShareRef.nD Cert.ShareRef.τ).loc Cert.ShareRef.main_arg3)
      ∧ r.2.mem ((c.tc : Thread Cert.ShareRef.nD Cert.ShareRef.τ).loc Cert.ShareRef.main_arg4) = m ((c.tc : Thread Cert.ShareRef.nD Cert.ShareRef.τ).loc Cert.ShareRef.main_arg4)
      ∧ r.2.mem ((c.tc : Thread Cert.ShareRef.nD Cert.ShareRef.τ).loc Cert.ShareRef.main_arg5) = m ((c.tc : Thread Cert.ShareRef.nD Cert.ShareRef.τ).loc Cert.ShareRef.main_arg5)
      ∧ r.2.mem ((c.tc : Thread Cert.ShareRef.nD Cert.ShareRef.τ).loc Cert.ShareRef.main_arg6) = m ((c.tc : Thread Cert.ShareRef.nD Cert.ShareRef.τ).loc Cert.ShareRef.main_arg6)
      ∧ r.2.mem ((c.tc : Thread Cert.ShareRef.nD Cert.ShareRef.τ).loc Cert.ShareRef.main_arg7) = m ((c.tc : Thread Cert.ShareRef.nD Cert.ShareRef.τ).loc Cert.ShareRef.main_arg7))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_GradAda [hGradAda : Cert.GradAda.Facts] : Prop :=
  ∀ (m : (ℓ : Loc Cert.GradAda.nD Cert.GradAda.τ Cert.GradAda.sig) → Buf (Elt Bits) ℓ) (g : Dev Cert.GradAda.nD → PrngReg), Pre_GradAda m →
    θ_run (Cert.GradAda.defs (F := Bits)) (onTc (τ := Cert.GradAda.τ) (Cert.GradAda.main (F := Bits))) ⟨m, fun _ => 0, g⟩ (fun r => (∀ c : Dev Cert.GradAda.nD,
      r.2.mem ((c.tc : Thread Cert.GradAda.nD Cert.GradAda.τ).loc Cert.GradAda.main_arg0) = m ((c.tc : Thread Cert.GradAda.nD Cert.GradAda.τ).loc Cert.GradAda.main_arg0)
      ∧ r.2.mem ((c.tc : Thread Cert.GradAda.nD Cert.GradAda.τ).loc Cert.GradAda.main_arg1) = m ((c.tc : Thread Cert.GradAda.nD Cert.GradAda.τ).loc Cert.GradAda.main_arg1))
      ∧ r.2.sem = fun _ => 0)

def quiescent_GradAdaIdeal [hGradAdaIdeal : Cert.GradAdaIdeal.Facts] : Prop :=
  ∀ (m : (ℓ : Loc Cert.GradAdaIdeal.nD Cert.GradAdaIdeal.τ Cert.GradAdaIdeal.sig) → Buf (Elt Ideal) ℓ) (g : Dev Cert.GradAdaIdeal.nD → PrngReg), Pre_GradAdaIdeal m →
    θ_run (Cert.GradAdaIdeal.defs (F := Ideal)) (onTc (τ := Cert.GradAdaIdeal.τ) (Cert.GradAdaIdeal.main (F := Ideal))) ⟨m, fun _ => 0, g⟩ (fun r => (∀ c : Dev Cert.GradAdaIdeal.nD,
      r.2.mem ((c.tc : Thread Cert.GradAdaIdeal.nD Cert.GradAdaIdeal.τ).loc Cert.GradAdaIdeal.main_arg0) = m ((c.tc : Thread Cert.GradAdaIdeal.nD Cert.GradAdaIdeal.τ).loc Cert.GradAdaIdeal.main_arg0)
      ∧ r.2.mem ((c.tc : Thread Cert.GradAdaIdeal.nD Cert.GradAdaIdeal.τ).loc Cert.GradAdaIdeal.main_arg1) = m ((c.tc : Thread Cert.GradAdaIdeal.nD Cert.GradAdaIdeal.τ).loc Cert.GradAdaIdeal.main_arg1))
      ∧ r.2.sem = fun _ => 0)

def quiescent_GradAdaRefIdeal [hGradAdaRefIdeal : Cert.GradAdaRefIdeal.Facts] : Prop :=
  ∀ (m : (ℓ : Loc Cert.GradAdaRefIdeal.nD Cert.GradAdaRefIdeal.τ Cert.GradAdaRefIdeal.sig) → Buf (Elt Ideal) ℓ) (g : Dev Cert.GradAdaRefIdeal.nD → PrngReg), Pre_GradAdaRefIdeal m →
    θ_run (Cert.GradAdaRefIdeal.defs (F := Ideal)) (onTc (τ := Cert.GradAdaRefIdeal.τ) (Cert.GradAdaRefIdeal.main (F := Ideal))) ⟨m, fun _ => 0, g⟩ (fun r => (∀ c : Dev Cert.GradAdaRefIdeal.nD,
      r.2.mem ((c.tc : Thread Cert.GradAdaRefIdeal.nD Cert.GradAdaRefIdeal.τ).loc Cert.GradAdaRefIdeal.main_arg0) = m ((c.tc : Thread Cert.GradAdaRefIdeal.nD Cert.GradAdaRefIdeal.τ).loc Cert.GradAdaRefIdeal.main_arg0)
      ∧ r.2.mem ((c.tc : Thread Cert.GradAdaRefIdeal.nD Cert.GradAdaRefIdeal.τ).loc Cert.GradAdaRefIdeal.main_arg1) = m ((c.tc : Thread Cert.GradAdaRefIdeal.nD Cert.GradAdaRefIdeal.τ).loc Cert.GradAdaRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_PairIn0 [hPairIn0 : Cert.PairIn0.Facts] : Prop :=
  ∀ (m : (ℓ : Loc Cert.PairIn0.nD Cert.PairIn0.τ Cert.PairIn0.sig) → Buf (Elt Bits) ℓ) (g : Dev Cert.PairIn0.nD → PrngReg), Pre_PairIn0 m →
    θ_run (Cert.PairIn0.defs (F := Bits)) (onTc (τ := Cert.PairIn0.τ) (Cert.PairIn0.main (F := Bits))) ⟨m, fun _ => 0, g⟩ (fun r => (∀ c : Dev Cert.PairIn0.nD,
      r.2.mem ((c.tc : Thread Cert.PairIn0.nD Cert.PairIn0.τ).loc Cert.PairIn0.main_arg0) = m ((c.tc : Thread Cert.PairIn0.nD Cert.PairIn0.τ).loc Cert.PairIn0.main_arg0)
      ∧ r.2.mem ((c.tc : Thread Cert.PairIn0.nD Cert.PairIn0.τ).loc Cert.PairIn0.main_arg1) = m ((c.tc : Thread Cert.PairIn0.nD Cert.PairIn0.τ).loc Cert.PairIn0.main_arg1))
      ∧ r.2.sem = fun _ => 0)

def quiescent_PairIn0Ideal [hPairIn0Ideal : Cert.PairIn0Ideal.Facts] : Prop :=
  ∀ (m : (ℓ : Loc Cert.PairIn0Ideal.nD Cert.PairIn0Ideal.τ Cert.PairIn0Ideal.sig) → Buf (Elt Ideal) ℓ) (g : Dev Cert.PairIn0Ideal.nD → PrngReg), Pre_PairIn0Ideal m →
    θ_run (Cert.PairIn0Ideal.defs (F := Ideal)) (onTc (τ := Cert.PairIn0Ideal.τ) (Cert.PairIn0Ideal.main (F := Ideal))) ⟨m, fun _ => 0, g⟩ (fun r => (∀ c : Dev Cert.PairIn0Ideal.nD,
      r.2.mem ((c.tc : Thread Cert.PairIn0Ideal.nD Cert.PairIn0Ideal.τ).loc Cert.PairIn0Ideal.main_arg0) = m ((c.tc : Thread Cert.PairIn0Ideal.nD Cert.PairIn0Ideal.τ).loc Cert.PairIn0Ideal.main_arg0)
      ∧ r.2.mem ((c.tc : Thread Cert.PairIn0Ideal.nD Cert.PairIn0Ideal.τ).loc Cert.PairIn0Ideal.main_arg1) = m ((c.tc : Thread Cert.PairIn0Ideal.nD Cert.PairIn0Ideal.τ).loc Cert.PairIn0Ideal.main_arg1))
      ∧ r.2.sem = fun _ => 0)

def quiescent_PairIn0RefIdeal [hPairIn0RefIdeal : Cert.PairIn0RefIdeal.Facts] : Prop :=
  ∀ (m : (ℓ : Loc Cert.PairIn0RefIdeal.nD Cert.PairIn0RefIdeal.τ Cert.PairIn0RefIdeal.sig) → Buf (Elt Ideal) ℓ) (g : Dev Cert.PairIn0RefIdeal.nD → PrngReg), Pre_PairIn0RefIdeal m →
    θ_run (Cert.PairIn0RefIdeal.defs (F := Ideal)) (onTc (τ := Cert.PairIn0RefIdeal.τ) (Cert.PairIn0RefIdeal.main (F := Ideal))) ⟨m, fun _ => 0, g⟩ (fun r => (∀ c : Dev Cert.PairIn0RefIdeal.nD,
      r.2.mem ((c.tc : Thread Cert.PairIn0RefIdeal.nD Cert.PairIn0RefIdeal.τ).loc Cert.PairIn0RefIdeal.main_arg0) = m ((c.tc : Thread Cert.PairIn0RefIdeal.nD Cert.PairIn0RefIdeal.τ).loc Cert.PairIn0RefIdeal.main_arg0)
      ∧ r.2.mem ((c.tc : Thread Cert.PairIn0RefIdeal.nD Cert.PairIn0RefIdeal.τ).loc Cert.PairIn0RefIdeal.main_arg1) = m ((c.tc : Thread Cert.PairIn0RefIdeal.nD Cert.PairIn0RefIdeal.τ).loc Cert.PairIn0RefIdeal.main_arg1))
      ∧ r.2.sem = fun _ => 0)

def quiescent_PairIn0Ref [hPairIn0Ref : Cert.PairIn0Ref.Facts] : Prop :=
  ∀ (m : (ℓ : Loc Cert.PairIn0Ref.nD Cert.PairIn0Ref.τ Cert.PairIn0Ref.sig) → Buf (Elt Bits) ℓ) (g : Dev Cert.PairIn0Ref.nD → PrngReg), Pre_PairIn0Ref m →
    θ_run (Cert.PairIn0Ref.defs (F := Bits)) (onTc (τ := Cert.PairIn0Ref.τ) (Cert.PairIn0Ref.main (F := Bits))) ⟨m, fun _ => 0, g⟩ (fun r => (∀ c : Dev Cert.PairIn0Ref.nD,
      r.2.mem ((c.tc : Thread Cert.PairIn0Ref.nD Cert.PairIn0Ref.τ).loc Cert.PairIn0Ref.main_arg0) = m ((c.tc : Thread Cert.PairIn0Ref.nD Cert.PairIn0Ref.τ).loc Cert.PairIn0Ref.main_arg0)
      ∧ r.2.mem ((c.tc : Thread Cert.PairIn0Ref.nD Cert.PairIn0Ref.τ).loc Cert.PairIn0Ref.main_arg1) = m ((c.tc : Thread Cert.PairIn0Ref.nD Cert.PairIn0Ref.τ).loc Cert.PairIn0Ref.main_arg1))
      ∧ r.2.sem = fun _ => 0)

def quiescent_PairIn1 [hPairIn1 : Cert.PairIn1.Facts] : Prop :=
  ∀ (m : (ℓ : Loc Cert.PairIn1.nD Cert.PairIn1.τ Cert.PairIn1.sig) → Buf (Elt Bits) ℓ) (g : Dev Cert.PairIn1.nD → PrngReg), Pre_PairIn1 m →
    θ_run (Cert.PairIn1.defs (F := Bits)) (onTc (τ := Cert.PairIn1.τ) (Cert.PairIn1.main (F := Bits))) ⟨m, fun _ => 0, g⟩ (fun r => (∀ c : Dev Cert.PairIn1.nD,
      r.2.mem ((c.tc : Thread Cert.PairIn1.nD Cert.PairIn1.τ).loc Cert.PairIn1.main_arg0) = m ((c.tc : Thread Cert.PairIn1.nD Cert.PairIn1.τ).loc Cert.PairIn1.main_arg0)
      ∧ r.2.mem ((c.tc : Thread Cert.PairIn1.nD Cert.PairIn1.τ).loc Cert.PairIn1.main_arg1) = m ((c.tc : Thread Cert.PairIn1.nD Cert.PairIn1.τ).loc Cert.PairIn1.main_arg1))
      ∧ r.2.sem = fun _ => 0)

def quiescent_PairIn1Ideal [hPairIn1Ideal : Cert.PairIn1Ideal.Facts] : Prop :=
  ∀ (m : (ℓ : Loc Cert.PairIn1Ideal.nD Cert.PairIn1Ideal.τ Cert.PairIn1Ideal.sig) → Buf (Elt Ideal) ℓ) (g : Dev Cert.PairIn1Ideal.nD → PrngReg), Pre_PairIn1Ideal m →
    θ_run (Cert.PairIn1Ideal.defs (F := Ideal)) (onTc (τ := Cert.PairIn1Ideal.τ) (Cert.PairIn1Ideal.main (F := Ideal))) ⟨m, fun _ => 0, g⟩ (fun r => (∀ c : Dev Cert.PairIn1Ideal.nD,
      r.2.mem ((c.tc : Thread Cert.PairIn1Ideal.nD Cert.PairIn1Ideal.τ).loc Cert.PairIn1Ideal.main_arg0) = m ((c.tc : Thread Cert.PairIn1Ideal.nD Cert.PairIn1Ideal.τ).loc Cert.PairIn1Ideal.main_arg0)
      ∧ r.2.mem ((c.tc : Thread Cert.PairIn1Ideal.nD Cert.PairIn1Ideal.τ).loc Cert.PairIn1Ideal.main_arg1) = m ((c.tc : Thread Cert.PairIn1Ideal.nD Cert.PairIn1Ideal.τ).loc Cert.PairIn1Ideal.main_arg1))
      ∧ r.2.sem = fun _ => 0)

def quiescent_PairIn1RefIdeal [hPairIn1RefIdeal : Cert.PairIn1RefIdeal.Facts] : Prop :=
  ∀ (m : (ℓ : Loc Cert.PairIn1RefIdeal.nD Cert.PairIn1RefIdeal.τ Cert.PairIn1RefIdeal.sig) → Buf (Elt Ideal) ℓ) (g : Dev Cert.PairIn1RefIdeal.nD → PrngReg), Pre_PairIn1RefIdeal m →
    θ_run (Cert.PairIn1RefIdeal.defs (F := Ideal)) (onTc (τ := Cert.PairIn1RefIdeal.τ) (Cert.PairIn1RefIdeal.main (F := Ideal))) ⟨m, fun _ => 0, g⟩ (fun r => (∀ c : Dev Cert.PairIn1RefIdeal.nD,
      r.2.mem ((c.tc : Thread Cert.PairIn1RefIdeal.nD Cert.PairIn1RefIdeal.τ).loc Cert.PairIn1RefIdeal.main_arg0) = m ((c.tc : Thread Cert.PairIn1RefIdeal.nD Cert.PairIn1RefIdeal.τ).loc Cert.PairIn1RefIdeal.main_arg0)
      ∧ r.2.mem ((c.tc : Thread Cert.PairIn1RefIdeal.nD Cert.PairIn1RefIdeal.τ).loc Cert.PairIn1RefIdeal.main_arg1) = m ((c.tc : Thread Cert.PairIn1RefIdeal.nD Cert.PairIn1RefIdeal.τ).loc Cert.PairIn1RefIdeal.main_arg1))
      ∧ r.2.sem = fun _ => 0)

def quiescent_PairIn1Ref [hPairIn1Ref : Cert.PairIn1Ref.Facts] : Prop :=
  ∀ (m : (ℓ : Loc Cert.PairIn1Ref.nD Cert.PairIn1Ref.τ Cert.PairIn1Ref.sig) → Buf (Elt Bits) ℓ) (g : Dev Cert.PairIn1Ref.nD → PrngReg), Pre_PairIn1Ref m →
    θ_run (Cert.PairIn1Ref.defs (F := Bits)) (onTc (τ := Cert.PairIn1Ref.τ) (Cert.PairIn1Ref.main (F := Bits))) ⟨m, fun _ => 0, g⟩ (fun r => (∀ c : Dev Cert.PairIn1Ref.nD,
      r.2.mem ((c.tc : Thread Cert.PairIn1Ref.nD Cert.PairIn1Ref.τ).loc Cert.PairIn1Ref.main_arg0) = m ((c.tc : Thread Cert.PairIn1Ref.nD Cert.PairIn1Ref.τ).loc Cert.PairIn1Ref.main_arg0)
      ∧ r.2.mem ((c.tc : Thread Cert.PairIn1Ref.nD Cert.PairIn1Ref.τ).loc Cert.PairIn1Ref.main_arg1) = m ((c.tc : Thread Cert.PairIn1Ref.nD Cert.PairIn1Ref.τ).loc Cert.PairIn1Ref.main_arg1))
      ∧ r.2.sem = fun _ => 0)

def quiescent_PairOut0 [hPairOut0 : Cert.PairOut0.Facts] : Prop :=
  ∀ (m : (ℓ : Loc Cert.PairOut0.nD Cert.PairOut0.τ Cert.PairOut0.sig) → Buf (Elt Bits) ℓ) (g : Dev Cert.PairOut0.nD → PrngReg), Pre_PairOut0 m →
    θ_run (Cert.PairOut0.defs (F := Bits)) (onTc (τ := Cert.PairOut0.τ) (Cert.PairOut0.main (F := Bits))) ⟨m, fun _ => 0, g⟩ (fun r => (∀ c : Dev Cert.PairOut0.nD,
      r.2.mem ((c.tc : Thread Cert.PairOut0.nD Cert.PairOut0.τ).loc Cert.PairOut0.main_arg0) = m ((c.tc : Thread Cert.PairOut0.nD Cert.PairOut0.τ).loc Cert.PairOut0.main_arg0)
      ∧ r.2.mem ((c.tc : Thread Cert.PairOut0.nD Cert.PairOut0.τ).loc Cert.PairOut0.main_arg1) = m ((c.tc : Thread Cert.PairOut0.nD Cert.PairOut0.τ).loc Cert.PairOut0.main_arg1))
      ∧ r.2.sem = fun _ => 0)

def quiescent_PairOut0Ideal [hPairOut0Ideal : Cert.PairOut0Ideal.Facts] : Prop :=
  ∀ (m : (ℓ : Loc Cert.PairOut0Ideal.nD Cert.PairOut0Ideal.τ Cert.PairOut0Ideal.sig) → Buf (Elt Ideal) ℓ) (g : Dev Cert.PairOut0Ideal.nD → PrngReg), Pre_PairOut0Ideal m →
    θ_run (Cert.PairOut0Ideal.defs (F := Ideal)) (onTc (τ := Cert.PairOut0Ideal.τ) (Cert.PairOut0Ideal.main (F := Ideal))) ⟨m, fun _ => 0, g⟩ (fun r => (∀ c : Dev Cert.PairOut0Ideal.nD,
      r.2.mem ((c.tc : Thread Cert.PairOut0Ideal.nD Cert.PairOut0Ideal.τ).loc Cert.PairOut0Ideal.main_arg0) = m ((c.tc : Thread Cert.PairOut0Ideal.nD Cert.PairOut0Ideal.τ).loc Cert.PairOut0Ideal.main_arg0)
      ∧ r.2.mem ((c.tc : Thread Cert.PairOut0Ideal.nD Cert.PairOut0Ideal.τ).loc Cert.PairOut0Ideal.main_arg1) = m ((c.tc : Thread Cert.PairOut0Ideal.nD Cert.PairOut0Ideal.τ).loc Cert.PairOut0Ideal.main_arg1))
      ∧ r.2.sem = fun _ => 0)

def quiescent_PairOut0RefIdeal [hPairOut0RefIdeal : Cert.PairOut0RefIdeal.Facts] : Prop :=
  ∀ (m : (ℓ : Loc Cert.PairOut0RefIdeal.nD Cert.PairOut0RefIdeal.τ Cert.PairOut0RefIdeal.sig) → Buf (Elt Ideal) ℓ) (g : Dev Cert.PairOut0RefIdeal.nD → PrngReg), Pre_PairOut0RefIdeal m →
    θ_run (Cert.PairOut0RefIdeal.defs (F := Ideal)) (onTc (τ := Cert.PairOut0RefIdeal.τ) (Cert.PairOut0RefIdeal.main (F := Ideal))) ⟨m, fun _ => 0, g⟩ (fun r => (∀ c : Dev Cert.PairOut0RefIdeal.nD,
      r.2.mem ((c.tc : Thread Cert.PairOut0RefIdeal.nD Cert.PairOut0RefIdeal.τ).loc Cert.PairOut0RefIdeal.main_arg0) = m ((c.tc : Thread Cert.PairOut0RefIdeal.nD Cert.PairOut0RefIdeal.τ).loc Cert.PairOut0RefIdeal.main_arg0)
      ∧ r.2.mem ((c.tc : Thread Cert.PairOut0RefIdeal.nD Cert.PairOut0RefIdeal.τ).loc Cert.PairOut0RefIdeal.main_arg1) = m ((c.tc : Thread Cert.PairOut0RefIdeal.nD Cert.PairOut0RefIdeal.τ).loc Cert.PairOut0RefIdeal.main_arg1))
      ∧ r.2.sem = fun _ => 0)

def quiescent_PairOut0Ref [hPairOut0Ref : Cert.PairOut0Ref.Facts] : Prop :=
  ∀ (m : (ℓ : Loc Cert.PairOut0Ref.nD Cert.PairOut0Ref.τ Cert.PairOut0Ref.sig) → Buf (Elt Bits) ℓ) (g : Dev Cert.PairOut0Ref.nD → PrngReg), Pre_PairOut0Ref m →
    θ_run (Cert.PairOut0Ref.defs (F := Bits)) (onTc (τ := Cert.PairOut0Ref.τ) (Cert.PairOut0Ref.main (F := Bits))) ⟨m, fun _ => 0, g⟩ (fun r => (∀ c : Dev Cert.PairOut0Ref.nD,
      r.2.mem ((c.tc : Thread Cert.PairOut0Ref.nD Cert.PairOut0Ref.τ).loc Cert.PairOut0Ref.main_arg0) = m ((c.tc : Thread Cert.PairOut0Ref.nD Cert.PairOut0Ref.τ).loc Cert.PairOut0Ref.main_arg0)
      ∧ r.2.mem ((c.tc : Thread Cert.PairOut0Ref.nD Cert.PairOut0Ref.τ).loc Cert.PairOut0Ref.main_arg1) = m ((c.tc : Thread Cert.PairOut0Ref.nD Cert.PairOut0Ref.τ).loc Cert.PairOut0Ref.main_arg1))
      ∧ r.2.sem = fun _ => 0)

def quiescent_PairOut1 [hPairOut1 : Cert.PairOut1.Facts] : Prop :=
  ∀ (m : (ℓ : Loc Cert.PairOut1.nD Cert.PairOut1.τ Cert.PairOut1.sig) → Buf (Elt Bits) ℓ) (g : Dev Cert.PairOut1.nD → PrngReg), Pre_PairOut1 m →
    θ_run (Cert.PairOut1.defs (F := Bits)) (onTc (τ := Cert.PairOut1.τ) (Cert.PairOut1.main (F := Bits))) ⟨m, fun _ => 0, g⟩ (fun r => (∀ c : Dev Cert.PairOut1.nD,
      r.2.mem ((c.tc : Thread Cert.PairOut1.nD Cert.PairOut1.τ).loc Cert.PairOut1.main_arg0) = m ((c.tc : Thread Cert.PairOut1.nD Cert.PairOut1.τ).loc Cert.PairOut1.main_arg0)
      ∧ r.2.mem ((c.tc : Thread Cert.PairOut1.nD Cert.PairOut1.τ).loc Cert.PairOut1.main_arg1) = m ((c.tc : Thread Cert.PairOut1.nD Cert.PairOut1.τ).loc Cert.PairOut1.main_arg1))
      ∧ r.2.sem = fun _ => 0)

def quiescent_PairOut1Ideal [hPairOut1Ideal : Cert.PairOut1Ideal.Facts] : Prop :=
  ∀ (m : (ℓ : Loc Cert.PairOut1Ideal.nD Cert.PairOut1Ideal.τ Cert.PairOut1Ideal.sig) → Buf (Elt Ideal) ℓ) (g : Dev Cert.PairOut1Ideal.nD → PrngReg), Pre_PairOut1Ideal m →
    θ_run (Cert.PairOut1Ideal.defs (F := Ideal)) (onTc (τ := Cert.PairOut1Ideal.τ) (Cert.PairOut1Ideal.main (F := Ideal))) ⟨m, fun _ => 0, g⟩ (fun r => (∀ c : Dev Cert.PairOut1Ideal.nD,
      r.2.mem ((c.tc : Thread Cert.PairOut1Ideal.nD Cert.PairOut1Ideal.τ).loc Cert.PairOut1Ideal.main_arg0) = m ((c.tc : Thread Cert.PairOut1Ideal.nD Cert.PairOut1Ideal.τ).loc Cert.PairOut1Ideal.main_arg0)
      ∧ r.2.mem ((c.tc : Thread Cert.PairOut1Ideal.nD Cert.PairOut1Ideal.τ).loc Cert.PairOut1Ideal.main_arg1) = m ((c.tc : Thread Cert.PairOut1Ideal.nD Cert.PairOut1Ideal.τ).loc Cert.PairOut1Ideal.main_arg1))
      ∧ r.2.sem = fun _ => 0)

def quiescent_PairOut1RefIdeal [hPairOut1RefIdeal : Cert.PairOut1RefIdeal.Facts] : Prop :=
  ∀ (m : (ℓ : Loc Cert.PairOut1RefIdeal.nD Cert.PairOut1RefIdeal.τ Cert.PairOut1RefIdeal.sig) → Buf (Elt Ideal) ℓ) (g : Dev Cert.PairOut1RefIdeal.nD → PrngReg), Pre_PairOut1RefIdeal m →
    θ_run (Cert.PairOut1RefIdeal.defs (F := Ideal)) (onTc (τ := Cert.PairOut1RefIdeal.τ) (Cert.PairOut1RefIdeal.main (F := Ideal))) ⟨m, fun _ => 0, g⟩ (fun r => (∀ c : Dev Cert.PairOut1RefIdeal.nD,
      r.2.mem ((c.tc : Thread Cert.PairOut1RefIdeal.nD Cert.PairOut1RefIdeal.τ).loc Cert.PairOut1RefIdeal.main_arg0) = m ((c.tc : Thread Cert.PairOut1RefIdeal.nD Cert.PairOut1RefIdeal.τ).loc Cert.PairOut1RefIdeal.main_arg0)
      ∧ r.2.mem ((c.tc : Thread Cert.PairOut1RefIdeal.nD Cert.PairOut1RefIdeal.τ).loc Cert.PairOut1RefIdeal.main_arg1) = m ((c.tc : Thread Cert.PairOut1RefIdeal.nD Cert.PairOut1RefIdeal.τ).loc Cert.PairOut1RefIdeal.main_arg1))
      ∧ r.2.sem = fun _ => 0)

def quiescent_PairOut1Ref [hPairOut1Ref : Cert.PairOut1Ref.Facts] : Prop :=
  ∀ (m : (ℓ : Loc Cert.PairOut1Ref.nD Cert.PairOut1Ref.τ Cert.PairOut1Ref.sig) → Buf (Elt Bits) ℓ) (g : Dev Cert.PairOut1Ref.nD → PrngReg), Pre_PairOut1Ref m →
    θ_run (Cert.PairOut1Ref.defs (F := Bits)) (onTc (τ := Cert.PairOut1Ref.τ) (Cert.PairOut1Ref.main (F := Bits))) ⟨m, fun _ => 0, g⟩ (fun r => (∀ c : Dev Cert.PairOut1Ref.nD,
      r.2.mem ((c.tc : Thread Cert.PairOut1Ref.nD Cert.PairOut1Ref.τ).loc Cert.PairOut1Ref.main_arg0) = m ((c.tc : Thread Cert.PairOut1Ref.nD Cert.PairOut1Ref.τ).loc Cert.PairOut1Ref.main_arg0)
      ∧ r.2.mem ((c.tc : Thread Cert.PairOut1Ref.nD Cert.PairOut1Ref.τ).loc Cert.PairOut1Ref.main_arg1) = m ((c.tc : Thread Cert.PairOut1Ref.nD Cert.PairOut1Ref.τ).loc Cert.PairOut1Ref.main_arg1))
      ∧ r.2.sem = fun _ => 0)

def quiescent_PairUp0 [hPairUp0 : Cert.PairUp0.Facts] : Prop :=
  ∀ (m : (ℓ : Loc Cert.PairUp0.nD Cert.PairUp0.τ Cert.PairUp0.sig) → Buf (Elt Bits) ℓ) (g : Dev Cert.PairUp0.nD → PrngReg), Pre_PairUp0 m →
    θ_run (Cert.PairUp0.defs (F := Bits)) (onTc (τ := Cert.PairUp0.τ) (Cert.PairUp0.main (F := Bits))) ⟨m, fun _ => 0, g⟩ (fun r => (∀ c : Dev Cert.PairUp0.nD,
      r.2.mem ((c.tc : Thread Cert.PairUp0.nD Cert.PairUp0.τ).loc Cert.PairUp0.main_arg0) = m ((c.tc : Thread Cert.PairUp0.nD Cert.PairUp0.τ).loc Cert.PairUp0.main_arg0)
      ∧ r.2.mem ((c.tc : Thread Cert.PairUp0.nD Cert.PairUp0.τ).loc Cert.PairUp0.main_arg1) = m ((c.tc : Thread Cert.PairUp0.nD Cert.PairUp0.τ).loc Cert.PairUp0.main_arg1))
      ∧ r.2.sem = fun _ => 0)

def quiescent_PairUp0Ideal [hPairUp0Ideal : Cert.PairUp0Ideal.Facts] : Prop :=
  ∀ (m : (ℓ : Loc Cert.PairUp0Ideal.nD Cert.PairUp0Ideal.τ Cert.PairUp0Ideal.sig) → Buf (Elt Ideal) ℓ) (g : Dev Cert.PairUp0Ideal.nD → PrngReg), Pre_PairUp0Ideal m →
    θ_run (Cert.PairUp0Ideal.defs (F := Ideal)) (onTc (τ := Cert.PairUp0Ideal.τ) (Cert.PairUp0Ideal.main (F := Ideal))) ⟨m, fun _ => 0, g⟩ (fun r => (∀ c : Dev Cert.PairUp0Ideal.nD,
      r.2.mem ((c.tc : Thread Cert.PairUp0Ideal.nD Cert.PairUp0Ideal.τ).loc Cert.PairUp0Ideal.main_arg0) = m ((c.tc : Thread Cert.PairUp0Ideal.nD Cert.PairUp0Ideal.τ).loc Cert.PairUp0Ideal.main_arg0)
      ∧ r.2.mem ((c.tc : Thread Cert.PairUp0Ideal.nD Cert.PairUp0Ideal.τ).loc Cert.PairUp0Ideal.main_arg1) = m ((c.tc : Thread Cert.PairUp0Ideal.nD Cert.PairUp0Ideal.τ).loc Cert.PairUp0Ideal.main_arg1))
      ∧ r.2.sem = fun _ => 0)

def quiescent_PairUp0RefIdeal [hPairUp0RefIdeal : Cert.PairUp0RefIdeal.Facts] : Prop :=
  ∀ (m : (ℓ : Loc Cert.PairUp0RefIdeal.nD Cert.PairUp0RefIdeal.τ Cert.PairUp0RefIdeal.sig) → Buf (Elt Ideal) ℓ) (g : Dev Cert.PairUp0RefIdeal.nD → PrngReg), Pre_PairUp0RefIdeal m →
    θ_run (Cert.PairUp0RefIdeal.defs (F := Ideal)) (onTc (τ := Cert.PairUp0RefIdeal.τ) (Cert.PairUp0RefIdeal.main (F := Ideal))) ⟨m, fun _ => 0, g⟩ (fun r => (∀ c : Dev Cert.PairUp0RefIdeal.nD,
      r.2.mem ((c.tc : Thread Cert.PairUp0RefIdeal.nD Cert.PairUp0RefIdeal.τ).loc Cert.PairUp0RefIdeal.main_arg0) = m ((c.tc : Thread Cert.PairUp0RefIdeal.nD Cert.PairUp0RefIdeal.τ).loc Cert.PairUp0RefIdeal.main_arg0)
      ∧ r.2.mem ((c.tc : Thread Cert.PairUp0RefIdeal.nD Cert.PairUp0RefIdeal.τ).loc Cert.PairUp0RefIdeal.main_arg1) = m ((c.tc : Thread Cert.PairUp0RefIdeal.nD Cert.PairUp0RefIdeal.τ).loc Cert.PairUp0RefIdeal.main_arg1))
      ∧ r.2.sem = fun _ => 0)

def quiescent_PairUp0Ref [hPairUp0Ref : Cert.PairUp0Ref.Facts] : Prop :=
  ∀ (m : (ℓ : Loc Cert.PairUp0Ref.nD Cert.PairUp0Ref.τ Cert.PairUp0Ref.sig) → Buf (Elt Bits) ℓ) (g : Dev Cert.PairUp0Ref.nD → PrngReg), Pre_PairUp0Ref m →
    θ_run (Cert.PairUp0Ref.defs (F := Bits)) (onTc (τ := Cert.PairUp0Ref.τ) (Cert.PairUp0Ref.main (F := Bits))) ⟨m, fun _ => 0, g⟩ (fun r => (∀ c : Dev Cert.PairUp0Ref.nD,
      r.2.mem ((c.tc : Thread Cert.PairUp0Ref.nD Cert.PairUp0Ref.τ).loc Cert.PairUp0Ref.main_arg0) = m ((c.tc : Thread Cert.PairUp0Ref.nD Cert.PairUp0Ref.τ).loc Cert.PairUp0Ref.main_arg0)
      ∧ r.2.mem ((c.tc : Thread Cert.PairUp0Ref.nD Cert.PairUp0Ref.τ).loc Cert.PairUp0Ref.main_arg1) = m ((c.tc : Thread Cert.PairUp0Ref.nD Cert.PairUp0Ref.τ).loc Cert.PairUp0Ref.main_arg1))
      ∧ r.2.sem = fun _ => 0)

def quiescent_PairUp1 [hPairUp1 : Cert.PairUp1.Facts] : Prop :=
  ∀ (m : (ℓ : Loc Cert.PairUp1.nD Cert.PairUp1.τ Cert.PairUp1.sig) → Buf (Elt Bits) ℓ) (g : Dev Cert.PairUp1.nD → PrngReg), Pre_PairUp1 m →
    θ_run (Cert.PairUp1.defs (F := Bits)) (onTc (τ := Cert.PairUp1.τ) (Cert.PairUp1.main (F := Bits))) ⟨m, fun _ => 0, g⟩ (fun r => (∀ c : Dev Cert.PairUp1.nD,
      r.2.mem ((c.tc : Thread Cert.PairUp1.nD Cert.PairUp1.τ).loc Cert.PairUp1.main_arg0) = m ((c.tc : Thread Cert.PairUp1.nD Cert.PairUp1.τ).loc Cert.PairUp1.main_arg0)
      ∧ r.2.mem ((c.tc : Thread Cert.PairUp1.nD Cert.PairUp1.τ).loc Cert.PairUp1.main_arg1) = m ((c.tc : Thread Cert.PairUp1.nD Cert.PairUp1.τ).loc Cert.PairUp1.main_arg1))
      ∧ r.2.sem = fun _ => 0)

def quiescent_PairUp1Ideal [hPairUp1Ideal : Cert.PairUp1Ideal.Facts] : Prop :=
  ∀ (m : (ℓ : Loc Cert.PairUp1Ideal.nD Cert.PairUp1Ideal.τ Cert.PairUp1Ideal.sig) → Buf (Elt Ideal) ℓ) (g : Dev Cert.PairUp1Ideal.nD → PrngReg), Pre_PairUp1Ideal m →
    θ_run (Cert.PairUp1Ideal.defs (F := Ideal)) (onTc (τ := Cert.PairUp1Ideal.τ) (Cert.PairUp1Ideal.main (F := Ideal))) ⟨m, fun _ => 0, g⟩ (fun r => (∀ c : Dev Cert.PairUp1Ideal.nD,
      r.2.mem ((c.tc : Thread Cert.PairUp1Ideal.nD Cert.PairUp1Ideal.τ).loc Cert.PairUp1Ideal.main_arg0) = m ((c.tc : Thread Cert.PairUp1Ideal.nD Cert.PairUp1Ideal.τ).loc Cert.PairUp1Ideal.main_arg0)
      ∧ r.2.mem ((c.tc : Thread Cert.PairUp1Ideal.nD Cert.PairUp1Ideal.τ).loc Cert.PairUp1Ideal.main_arg1) = m ((c.tc : Thread Cert.PairUp1Ideal.nD Cert.PairUp1Ideal.τ).loc Cert.PairUp1Ideal.main_arg1))
      ∧ r.2.sem = fun _ => 0)

def quiescent_PairUp1RefIdeal [hPairUp1RefIdeal : Cert.PairUp1RefIdeal.Facts] : Prop :=
  ∀ (m : (ℓ : Loc Cert.PairUp1RefIdeal.nD Cert.PairUp1RefIdeal.τ Cert.PairUp1RefIdeal.sig) → Buf (Elt Ideal) ℓ) (g : Dev Cert.PairUp1RefIdeal.nD → PrngReg), Pre_PairUp1RefIdeal m →
    θ_run (Cert.PairUp1RefIdeal.defs (F := Ideal)) (onTc (τ := Cert.PairUp1RefIdeal.τ) (Cert.PairUp1RefIdeal.main (F := Ideal))) ⟨m, fun _ => 0, g⟩ (fun r => (∀ c : Dev Cert.PairUp1RefIdeal.nD,
      r.2.mem ((c.tc : Thread Cert.PairUp1RefIdeal.nD Cert.PairUp1RefIdeal.τ).loc Cert.PairUp1RefIdeal.main_arg0) = m ((c.tc : Thread Cert.PairUp1RefIdeal.nD Cert.PairUp1RefIdeal.τ).loc Cert.PairUp1RefIdeal.main_arg0)
      ∧ r.2.mem ((c.tc : Thread Cert.PairUp1RefIdeal.nD Cert.PairUp1RefIdeal.τ).loc Cert.PairUp1RefIdeal.main_arg1) = m ((c.tc : Thread Cert.PairUp1RefIdeal.nD Cert.PairUp1RefIdeal.τ).loc Cert.PairUp1RefIdeal.main_arg1))
      ∧ r.2.sem = fun _ => 0)

def quiescent_PairUp1Ref [hPairUp1Ref : Cert.PairUp1Ref.Facts] : Prop :=
  ∀ (m : (ℓ : Loc Cert.PairUp1Ref.nD Cert.PairUp1Ref.τ Cert.PairUp1Ref.sig) → Buf (Elt Bits) ℓ) (g : Dev Cert.PairUp1Ref.nD → PrngReg), Pre_PairUp1Ref m →
    θ_run (Cert.PairUp1Ref.defs (F := Bits)) (onTc (τ := Cert.PairUp1Ref.τ) (Cert.PairUp1Ref.main (F := Bits))) ⟨m, fun _ => 0, g⟩ (fun r => (∀ c : Dev Cert.PairUp1Ref.nD,
      r.2.mem ((c.tc : Thread Cert.PairUp1Ref.nD Cert.PairUp1Ref.τ).loc Cert.PairUp1Ref.main_arg0) = m ((c.tc : Thread Cert.PairUp1Ref.nD Cert.PairUp1Ref.τ).loc Cert.PairUp1Ref.main_arg0)
      ∧ r.2.mem ((c.tc : Thread Cert.PairUp1Ref.nD Cert.PairUp1Ref.τ).loc Cert.PairUp1Ref.main_arg1) = m ((c.tc : Thread Cert.PairUp1Ref.nD Cert.PairUp1Ref.τ).loc Cert.PairUp1Ref.main_arg1))
      ∧ r.2.sem = fun _ => 0)

def quiescent_PairDown0 [hPairDown0 : Cert.PairDown0.Facts] : Prop :=
  ∀ (m : (ℓ : Loc Cert.PairDown0.nD Cert.PairDown0.τ Cert.PairDown0.sig) → Buf (Elt Bits) ℓ) (g : Dev Cert.PairDown0.nD → PrngReg), Pre_PairDown0 m →
    θ_run (Cert.PairDown0.defs (F := Bits)) (onTc (τ := Cert.PairDown0.τ) (Cert.PairDown0.main (F := Bits))) ⟨m, fun _ => 0, g⟩ (fun r => (∀ c : Dev Cert.PairDown0.nD,
      r.2.mem ((c.tc : Thread Cert.PairDown0.nD Cert.PairDown0.τ).loc Cert.PairDown0.main_arg0) = m ((c.tc : Thread Cert.PairDown0.nD Cert.PairDown0.τ).loc Cert.PairDown0.main_arg0)
      ∧ r.2.mem ((c.tc : Thread Cert.PairDown0.nD Cert.PairDown0.τ).loc Cert.PairDown0.main_arg1) = m ((c.tc : Thread Cert.PairDown0.nD Cert.PairDown0.τ).loc Cert.PairDown0.main_arg1))
      ∧ r.2.sem = fun _ => 0)

def quiescent_PairDown0Ideal [hPairDown0Ideal : Cert.PairDown0Ideal.Facts] : Prop :=
  ∀ (m : (ℓ : Loc Cert.PairDown0Ideal.nD Cert.PairDown0Ideal.τ Cert.PairDown0Ideal.sig) → Buf (Elt Ideal) ℓ) (g : Dev Cert.PairDown0Ideal.nD → PrngReg), Pre_PairDown0Ideal m →
    θ_run (Cert.PairDown0Ideal.defs (F := Ideal)) (onTc (τ := Cert.PairDown0Ideal.τ) (Cert.PairDown0Ideal.main (F := Ideal))) ⟨m, fun _ => 0, g⟩ (fun r => (∀ c : Dev Cert.PairDown0Ideal.nD,
      r.2.mem ((c.tc : Thread Cert.PairDown0Ideal.nD Cert.PairDown0Ideal.τ).loc Cert.PairDown0Ideal.main_arg0) = m ((c.tc : Thread Cert.PairDown0Ideal.nD Cert.PairDown0Ideal.τ).loc Cert.PairDown0Ideal.main_arg0)
      ∧ r.2.mem ((c.tc : Thread Cert.PairDown0Ideal.nD Cert.PairDown0Ideal.τ).loc Cert.PairDown0Ideal.main_arg1) = m ((c.tc : Thread Cert.PairDown0Ideal.nD Cert.PairDown0Ideal.τ).loc Cert.PairDown0Ideal.main_arg1))
      ∧ r.2.sem = fun _ => 0)

def quiescent_PairDown0RefIdeal [hPairDown0RefIdeal : Cert.PairDown0RefIdeal.Facts] : Prop :=
  ∀ (m : (ℓ : Loc Cert.PairDown0RefIdeal.nD Cert.PairDown0RefIdeal.τ Cert.PairDown0RefIdeal.sig) → Buf (Elt Ideal) ℓ) (g : Dev Cert.PairDown0RefIdeal.nD → PrngReg), Pre_PairDown0RefIdeal m →
    θ_run (Cert.PairDown0RefIdeal.defs (F := Ideal)) (onTc (τ := Cert.PairDown0RefIdeal.τ) (Cert.PairDown0RefIdeal.main (F := Ideal))) ⟨m, fun _ => 0, g⟩ (fun r => (∀ c : Dev Cert.PairDown0RefIdeal.nD,
      r.2.mem ((c.tc : Thread Cert.PairDown0RefIdeal.nD Cert.PairDown0RefIdeal.τ).loc Cert.PairDown0RefIdeal.main_arg0) = m ((c.tc : Thread Cert.PairDown0RefIdeal.nD Cert.PairDown0RefIdeal.τ).loc Cert.PairDown0RefIdeal.main_arg0)
      ∧ r.2.mem ((c.tc : Thread Cert.PairDown0RefIdeal.nD Cert.PairDown0RefIdeal.τ).loc Cert.PairDown0RefIdeal.main_arg1) = m ((c.tc : Thread Cert.PairDown0RefIdeal.nD Cert.PairDown0RefIdeal.τ).loc Cert.PairDown0RefIdeal.main_arg1))
      ∧ r.2.sem = fun _ => 0)

def quiescent_PairDown0Ref [hPairDown0Ref : Cert.PairDown0Ref.Facts] : Prop :=
  ∀ (m : (ℓ : Loc Cert.PairDown0Ref.nD Cert.PairDown0Ref.τ Cert.PairDown0Ref.sig) → Buf (Elt Bits) ℓ) (g : Dev Cert.PairDown0Ref.nD → PrngReg), Pre_PairDown0Ref m →
    θ_run (Cert.PairDown0Ref.defs (F := Bits)) (onTc (τ := Cert.PairDown0Ref.τ) (Cert.PairDown0Ref.main (F := Bits))) ⟨m, fun _ => 0, g⟩ (fun r => (∀ c : Dev Cert.PairDown0Ref.nD,
      r.2.mem ((c.tc : Thread Cert.PairDown0Ref.nD Cert.PairDown0Ref.τ).loc Cert.PairDown0Ref.main_arg0) = m ((c.tc : Thread Cert.PairDown0Ref.nD Cert.PairDown0Ref.τ).loc Cert.PairDown0Ref.main_arg0)
      ∧ r.2.mem ((c.tc : Thread Cert.PairDown0Ref.nD Cert.PairDown0Ref.τ).loc Cert.PairDown0Ref.main_arg1) = m ((c.tc : Thread Cert.PairDown0Ref.nD Cert.PairDown0Ref.τ).loc Cert.PairDown0Ref.main_arg1))
      ∧ r.2.sem = fun _ => 0)

def quiescent_PairDown1 [hPairDown1 : Cert.PairDown1.Facts] : Prop :=
  ∀ (m : (ℓ : Loc Cert.PairDown1.nD Cert.PairDown1.τ Cert.PairDown1.sig) → Buf (Elt Bits) ℓ) (g : Dev Cert.PairDown1.nD → PrngReg), Pre_PairDown1 m →
    θ_run (Cert.PairDown1.defs (F := Bits)) (onTc (τ := Cert.PairDown1.τ) (Cert.PairDown1.main (F := Bits))) ⟨m, fun _ => 0, g⟩ (fun r => (∀ c : Dev Cert.PairDown1.nD,
      r.2.mem ((c.tc : Thread Cert.PairDown1.nD Cert.PairDown1.τ).loc Cert.PairDown1.main_arg0) = m ((c.tc : Thread Cert.PairDown1.nD Cert.PairDown1.τ).loc Cert.PairDown1.main_arg0)
      ∧ r.2.mem ((c.tc : Thread Cert.PairDown1.nD Cert.PairDown1.τ).loc Cert.PairDown1.main_arg1) = m ((c.tc : Thread Cert.PairDown1.nD Cert.PairDown1.τ).loc Cert.PairDown1.main_arg1))
      ∧ r.2.sem = fun _ => 0)

def quiescent_PairDown1Ideal [hPairDown1Ideal : Cert.PairDown1Ideal.Facts] : Prop :=
  ∀ (m : (ℓ : Loc Cert.PairDown1Ideal.nD Cert.PairDown1Ideal.τ Cert.PairDown1Ideal.sig) → Buf (Elt Ideal) ℓ) (g : Dev Cert.PairDown1Ideal.nD → PrngReg), Pre_PairDown1Ideal m →
    θ_run (Cert.PairDown1Ideal.defs (F := Ideal)) (onTc (τ := Cert.PairDown1Ideal.τ) (Cert.PairDown1Ideal.main (F := Ideal))) ⟨m, fun _ => 0, g⟩ (fun r => (∀ c : Dev Cert.PairDown1Ideal.nD,
      r.2.mem ((c.tc : Thread Cert.PairDown1Ideal.nD Cert.PairDown1Ideal.τ).loc Cert.PairDown1Ideal.main_arg0) = m ((c.tc : Thread Cert.PairDown1Ideal.nD Cert.PairDown1Ideal.τ).loc Cert.PairDown1Ideal.main_arg0)
      ∧ r.2.mem ((c.tc : Thread Cert.PairDown1Ideal.nD Cert.PairDown1Ideal.τ).loc Cert.PairDown1Ideal.main_arg1) = m ((c.tc : Thread Cert.PairDown1Ideal.nD Cert.PairDown1Ideal.τ).loc Cert.PairDown1Ideal.main_arg1))
      ∧ r.2.sem = fun _ => 0)

def quiescent_PairDown1RefIdeal [hPairDown1RefIdeal : Cert.PairDown1RefIdeal.Facts] : Prop :=
  ∀ (m : (ℓ : Loc Cert.PairDown1RefIdeal.nD Cert.PairDown1RefIdeal.τ Cert.PairDown1RefIdeal.sig) → Buf (Elt Ideal) ℓ) (g : Dev Cert.PairDown1RefIdeal.nD → PrngReg), Pre_PairDown1RefIdeal m →
    θ_run (Cert.PairDown1RefIdeal.defs (F := Ideal)) (onTc (τ := Cert.PairDown1RefIdeal.τ) (Cert.PairDown1RefIdeal.main (F := Ideal))) ⟨m, fun _ => 0, g⟩ (fun r => (∀ c : Dev Cert.PairDown1RefIdeal.nD,
      r.2.mem ((c.tc : Thread Cert.PairDown1RefIdeal.nD Cert.PairDown1RefIdeal.τ).loc Cert.PairDown1RefIdeal.main_arg0) = m ((c.tc : Thread Cert.PairDown1RefIdeal.nD Cert.PairDown1RefIdeal.τ).loc Cert.PairDown1RefIdeal.main_arg0)
      ∧ r.2.mem ((c.tc : Thread Cert.PairDown1RefIdeal.nD Cert.PairDown1RefIdeal.τ).loc Cert.PairDown1RefIdeal.main_arg1) = m ((c.tc : Thread Cert.PairDown1RefIdeal.nD Cert.PairDown1RefIdeal.τ).loc Cert.PairDown1RefIdeal.main_arg1))
      ∧ r.2.sem = fun _ => 0)

def quiescent_PairDown1Ref [hPairDown1Ref : Cert.PairDown1Ref.Facts] : Prop :=
  ∀ (m : (ℓ : Loc Cert.PairDown1Ref.nD Cert.PairDown1Ref.τ Cert.PairDown1Ref.sig) → Buf (Elt Bits) ℓ) (g : Dev Cert.PairDown1Ref.nD → PrngReg), Pre_PairDown1Ref m →
    θ_run (Cert.PairDown1Ref.defs (F := Bits)) (onTc (τ := Cert.PairDown1Ref.τ) (Cert.PairDown1Ref.main (F := Bits))) ⟨m, fun _ => 0, g⟩ (fun r => (∀ c : Dev Cert.PairDown1Ref.nD,
      r.2.mem ((c.tc : Thread Cert.PairDown1Ref.nD Cert.PairDown1Ref.τ).loc Cert.PairDown1Ref.main_arg0) = m ((c.tc : Thread Cert.PairDown1Ref.nD Cert.PairDown1Ref.τ).loc Cert.PairDown1Ref.main_arg0)
      ∧ r.2.mem ((c.tc : Thread Cert.PairDown1Ref.nD Cert.PairDown1Ref.τ).loc Cert.PairDown1Ref.main_arg1) = m ((c.tc : Thread Cert.PairDown1Ref.nD Cert.PairDown1Ref.τ).loc Cert.PairDown1Ref.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def quiescent_ProjInBwd [hProjInBwd : Cert.ProjInBwd.Facts] : Prop :=
  ∀ (m : (ℓ : Loc Cert.ProjInBwd.nD Cert.ProjInBwd.τ Cert.ProjInBwd.sig) → Buf (Elt Bits) ℓ) (g : Dev Cert.ProjInBwd.nD → PrngReg), Pre_ProjInBwd m →
    θ_run (Cert.ProjInBwd.defs (F := Bits)) (onTc (τ := Cert.ProjInBwd.τ) (Cert.ProjInBwd.main (F := Bits))) ⟨m, fun _ => 0, g⟩ (fun r => (∀ c : Dev Cert.ProjInBwd.nD,
      r.2.mem ((c.tc : Thread Cert.ProjInBwd.nD Cert.ProjInBwd.τ).loc Cert.ProjInBwd.main_arg0) = m ((c.tc : Thread Cert.ProjInBwd.nD Cert.ProjInBwd.τ).loc Cert.ProjInBwd.main_arg0)
      ∧ r.2.mem ((c.tc : Thread Cert.ProjInBwd.nD Cert.ProjInBwd.τ).loc Cert.ProjInBwd.main_arg1) = m ((c.tc : Thread Cert.ProjInBwd.nD Cert.ProjInBwd.τ).loc Cert.ProjInBwd.main_arg1))
      ∧ r.2.sem = fun _ => 0)

def quiescent_ProjInBwdIdeal [hProjInBwdIdeal : Cert.ProjInBwdIdeal.Facts] : Prop :=
  ∀ (m : (ℓ : Loc Cert.ProjInBwdIdeal.nD Cert.ProjInBwdIdeal.τ Cert.ProjInBwdIdeal.sig) → Buf (Elt Ideal) ℓ) (g : Dev Cert.ProjInBwdIdeal.nD → PrngReg), Pre_ProjInBwdIdeal m →
    θ_run (Cert.ProjInBwdIdeal.defs (F := Ideal)) (onTc (τ := Cert.ProjInBwdIdeal.τ) (Cert.ProjInBwdIdeal.main (F := Ideal))) ⟨m, fun _ => 0, g⟩ (fun r => (∀ c : Dev Cert.ProjInBwdIdeal.nD,
      r.2.mem ((c.tc : Thread Cert.ProjInBwdIdeal.nD Cert.ProjInBwdIdeal.τ).loc Cert.ProjInBwdIdeal.main_arg0) = m ((c.tc : Thread Cert.ProjInBwdIdeal.nD Cert.ProjInBwdIdeal.τ).loc Cert.ProjInBwdIdeal.main_arg0)
      ∧ r.2.mem ((c.tc : Thread Cert.ProjInBwdIdeal.nD Cert.ProjInBwdIdeal.τ).loc Cert.ProjInBwdIdeal.main_arg1) = m ((c.tc : Thread Cert.ProjInBwdIdeal.nD Cert.ProjInBwdIdeal.τ).loc Cert.ProjInBwdIdeal.main_arg1))
      ∧ r.2.sem = fun _ => 0)

def quiescent_ProjInBwdRefIdeal [hProjInBwdRefIdeal : Cert.ProjInBwdRefIdeal.Facts] : Prop :=
  ∀ (m : (ℓ : Loc Cert.ProjInBwdRefIdeal.nD Cert.ProjInBwdRefIdeal.τ Cert.ProjInBwdRefIdeal.sig) → Buf (Elt Ideal) ℓ) (g : Dev Cert.ProjInBwdRefIdeal.nD → PrngReg), Pre_ProjInBwdRefIdeal m →
    θ_run (Cert.ProjInBwdRefIdeal.defs (F := Ideal)) (onTc (τ := Cert.ProjInBwdRefIdeal.τ) (Cert.ProjInBwdRefIdeal.main (F := Ideal))) ⟨m, fun _ => 0, g⟩ (fun r => (∀ c : Dev Cert.ProjInBwdRefIdeal.nD,
      r.2.mem ((c.tc : Thread Cert.ProjInBwdRefIdeal.nD Cert.ProjInBwdRefIdeal.τ).loc Cert.ProjInBwdRefIdeal.main_arg0) = m ((c.tc : Thread Cert.ProjInBwdRefIdeal.nD Cert.ProjInBwdRefIdeal.τ).loc Cert.ProjInBwdRefIdeal.main_arg0)
      ∧ r.2.mem ((c.tc : Thread Cert.ProjInBwdRefIdeal.nD Cert.ProjInBwdRefIdeal.τ).loc Cert.ProjInBwdRefIdeal.main_arg1) = m ((c.tc : Thread Cert.ProjInBwdRefIdeal.nD Cert.ProjInBwdRefIdeal.τ).loc Cert.ProjInBwdRefIdeal.main_arg1))
      ∧ r.2.sem = fun _ => 0)

def quiescent_ProjOutBwd [hProjOutBwd : Cert.ProjOutBwd.Facts] : Prop :=
  ∀ (m : (ℓ : Loc Cert.ProjOutBwd.nD Cert.ProjOutBwd.τ Cert.ProjOutBwd.sig) → Buf (Elt Bits) ℓ) (g : Dev Cert.ProjOutBwd.nD → PrngReg), Pre_ProjOutBwd m →
    θ_run (Cert.ProjOutBwd.defs (F := Bits)) (onTc (τ := Cert.ProjOutBwd.τ) (Cert.ProjOutBwd.main (F := Bits))) ⟨m, fun _ => 0, g⟩ (fun r => (∀ c : Dev Cert.ProjOutBwd.nD,
      r.2.mem ((c.tc : Thread Cert.ProjOutBwd.nD Cert.ProjOutBwd.τ).loc Cert.ProjOutBwd.main_arg0) = m ((c.tc : Thread Cert.ProjOutBwd.nD Cert.ProjOutBwd.τ).loc Cert.ProjOutBwd.main_arg0)
      ∧ r.2.mem ((c.tc : Thread Cert.ProjOutBwd.nD Cert.ProjOutBwd.τ).loc Cert.ProjOutBwd.main_arg1) = m ((c.tc : Thread Cert.ProjOutBwd.nD Cert.ProjOutBwd.τ).loc Cert.ProjOutBwd.main_arg1))
      ∧ r.2.sem = fun _ => 0)

def quiescent_ProjOutBwdIdeal [hProjOutBwdIdeal : Cert.ProjOutBwdIdeal.Facts] : Prop :=
  ∀ (m : (ℓ : Loc Cert.ProjOutBwdIdeal.nD Cert.ProjOutBwdIdeal.τ Cert.ProjOutBwdIdeal.sig) → Buf (Elt Ideal) ℓ) (g : Dev Cert.ProjOutBwdIdeal.nD → PrngReg), Pre_ProjOutBwdIdeal m →
    θ_run (Cert.ProjOutBwdIdeal.defs (F := Ideal)) (onTc (τ := Cert.ProjOutBwdIdeal.τ) (Cert.ProjOutBwdIdeal.main (F := Ideal))) ⟨m, fun _ => 0, g⟩ (fun r => (∀ c : Dev Cert.ProjOutBwdIdeal.nD,
      r.2.mem ((c.tc : Thread Cert.ProjOutBwdIdeal.nD Cert.ProjOutBwdIdeal.τ).loc Cert.ProjOutBwdIdeal.main_arg0) = m ((c.tc : Thread Cert.ProjOutBwdIdeal.nD Cert.ProjOutBwdIdeal.τ).loc Cert.ProjOutBwdIdeal.main_arg0)
      ∧ r.2.mem ((c.tc : Thread Cert.ProjOutBwdIdeal.nD Cert.ProjOutBwdIdeal.τ).loc Cert.ProjOutBwdIdeal.main_arg1) = m ((c.tc : Thread Cert.ProjOutBwdIdeal.nD Cert.ProjOutBwdIdeal.τ).loc Cert.ProjOutBwdIdeal.main_arg1))
      ∧ r.2.sem = fun _ => 0)

def quiescent_ProjOutBwdRefIdeal [hProjOutBwdRefIdeal : Cert.ProjOutBwdRefIdeal.Facts] : Prop :=
  ∀ (m : (ℓ : Loc Cert.ProjOutBwdRefIdeal.nD Cert.ProjOutBwdRefIdeal.τ Cert.ProjOutBwdRefIdeal.sig) → Buf (Elt Ideal) ℓ) (g : Dev Cert.ProjOutBwdRefIdeal.nD → PrngReg), Pre_ProjOutBwdRefIdeal m →
    θ_run (Cert.ProjOutBwdRefIdeal.defs (F := Ideal)) (onTc (τ := Cert.ProjOutBwdRefIdeal.τ) (Cert.ProjOutBwdRefIdeal.main (F := Ideal))) ⟨m, fun _ => 0, g⟩ (fun r => (∀ c : Dev Cert.ProjOutBwdRefIdeal.nD,
      r.2.mem ((c.tc : Thread Cert.ProjOutBwdRefIdeal.nD Cert.ProjOutBwdRefIdeal.τ).loc Cert.ProjOutBwdRefIdeal.main_arg0) = m ((c.tc : Thread Cert.ProjOutBwdRefIdeal.nD Cert.ProjOutBwdRefIdeal.τ).loc Cert.ProjOutBwdRefIdeal.main_arg0)
      ∧ r.2.mem ((c.tc : Thread Cert.ProjOutBwdRefIdeal.nD Cert.ProjOutBwdRefIdeal.τ).loc Cert.ProjOutBwdRefIdeal.main_arg1) = m ((c.tc : Thread Cert.ProjOutBwdRefIdeal.nD Cert.ProjOutBwdRefIdeal.τ).loc Cert.ProjOutBwdRefIdeal.main_arg1))
      ∧ r.2.sem = fun _ => 0)

def quiescent_FfnUpBwd [hFfnUpBwd : Cert.FfnUpBwd.Facts] : Prop :=
  ∀ (m : (ℓ : Loc Cert.FfnUpBwd.nD Cert.FfnUpBwd.τ Cert.FfnUpBwd.sig) → Buf (Elt Bits) ℓ) (g : Dev Cert.FfnUpBwd.nD → PrngReg), Pre_FfnUpBwd m →
    θ_run (Cert.FfnUpBwd.defs (F := Bits)) (onTc (τ := Cert.FfnUpBwd.τ) (Cert.FfnUpBwd.main (F := Bits))) ⟨m, fun _ => 0, g⟩ (fun r => (∀ c : Dev Cert.FfnUpBwd.nD,
      r.2.mem ((c.tc : Thread Cert.FfnUpBwd.nD Cert.FfnUpBwd.τ).loc Cert.FfnUpBwd.main_arg0) = m ((c.tc : Thread Cert.FfnUpBwd.nD Cert.FfnUpBwd.τ).loc Cert.FfnUpBwd.main_arg0)
      ∧ r.2.mem ((c.tc : Thread Cert.FfnUpBwd.nD Cert.FfnUpBwd.τ).loc Cert.FfnUpBwd.main_arg1) = m ((c.tc : Thread Cert.FfnUpBwd.nD Cert.FfnUpBwd.τ).loc Cert.FfnUpBwd.main_arg1))
      ∧ r.2.sem = fun _ => 0)

def quiescent_FfnUpBwdIdeal [hFfnUpBwdIdeal : Cert.FfnUpBwdIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg), Pre_FfnUpBwdIdeal m →
    θ_run (Cert.FfnUpBwdIdeal.defs (F := Ideal)) (onTc (τ := Cert.FfnUpBwdIdeal.τ) (Cert.FfnUpBwdIdeal.main (F := Ideal))) ⟨m, fun _ => 0, g⟩ (fun r => (∀ c : Dev Cert.FfnUpBwdIdeal.nD,
      r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
      ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1))
      ∧ r.2.sem = fun _ => 0)

def quiescent_FfnUpBwdRefIdeal [hFfnUpBwdRefIdeal : Cert.FfnUpBwdRefIdeal.Facts] : Prop :=
  ∀ (m : (ℓ : Loc Cert.FfnUpBwdRefIdeal.nD Cert.FfnUpBwdRefIdeal.τ Cert.FfnUpBwdRefIdeal.sig) → Buf (Elt Ideal) ℓ) (g : Dev Cert.FfnUpBwdRefIdeal.nD → PrngReg), Pre_FfnUpBwdRefIdeal m →
    θ_run (Cert.FfnUpBwdRefIdeal.defs (F := Ideal)) (onTc (τ := Cert.FfnUpBwdRefIdeal.τ) (Cert.FfnUpBwdRefIdeal.main (F := Ideal))) ⟨m, fun _ => 0, g⟩ (fun r => (∀ c : Dev Cert.FfnUpBwdRefIdeal.nD,
      r.2.mem ((c.tc : Thread Cert.FfnUpBwdRefIdeal.nD Cert.FfnUpBwdRefIdeal.τ).loc Cert.FfnUpBwdRefIdeal.main_arg0) = m ((c.tc : Thread Cert.FfnUpBwdRefIdeal.nD Cert.FfnUpBwdRefIdeal.τ).loc Cert.FfnUpBwdRefIdeal.main_arg0)
      ∧ r.2.mem ((c.tc : Thread Cert.FfnUpBwdRefIdeal.nD Cert.FfnUpBwdRefIdeal.τ).loc Cert.FfnUpBwdRefIdeal.main_arg1) = m ((c.tc : Thread Cert.FfnUpBwdRefIdeal.nD Cert.FfnUpBwdRefIdeal.τ).loc Cert.FfnUpBwdRefIdeal.main_arg1))
      ∧ r.2.sem = fun _ => 0)

def quiescent_FfnDownBwd [hFfnDownBwd : Cert.FfnDownBwd.Facts] : Prop :=
  ∀ (m : (ℓ : Loc Cert.FfnDownBwd.nD Cert.FfnDownBwd.τ Cert.FfnDownBwd.sig) → Buf (Elt Bits) ℓ) (g : Dev Cert.FfnDownBwd.nD → PrngReg), Pre_FfnDownBwd m →
    θ_run (Cert.FfnDownBwd.defs (F := Bits)) (onTc (τ := Cert.FfnDownBwd.τ) (Cert.FfnDownBwd.main (F := Bits))) ⟨m, fun _ => 0, g⟩ (fun r => (∀ c : Dev Cert.FfnDownBwd.nD,
      r.2.mem ((c.tc : Thread Cert.FfnDownBwd.nD Cert.FfnDownBwd.τ).loc Cert.FfnDownBwd.main_arg0) = m ((c.tc : Thread Cert.FfnDownBwd.nD Cert.FfnDownBwd.τ).loc Cert.FfnDownBwd.main_arg0)
      ∧ r.2.mem ((c.tc : Thread Cert.FfnDownBwd.nD Cert.FfnDownBwd.τ).loc Cert.FfnDownBwd.main_arg1) = m ((c.tc : Thread Cert.FfnDownBwd.nD Cert.FfnDownBwd.τ).loc Cert.FfnDownBwd.main_arg1))
      ∧ r.2.sem = fun _ => 0)

def quiescent_FfnDownBwdIdeal [hFfnDownBwdIdeal : Cert.FfnDownBwdIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1))
      ∧ r.2.sem = fun _ => 0)

def quiescent_FfnDownBwdRefIdeal [hFfnDownBwdRefIdeal : Cert.FfnDownBwdRefIdeal.Facts] : Prop :=
  ∀ (m : (ℓ : Loc Cert.FfnDownBwdRefIdeal.nD Cert.FfnDownBwdRefIdeal.τ Cert.FfnDownBwdRefIdeal.sig) → Buf (Elt Ideal) ℓ) (g : Dev Cert.FfnDownBwdRefIdeal.nD → PrngReg), Pre_FfnDownBwdRefIdeal m →
    θ_run (Cert.FfnDownBwdRefIdeal.defs (F := Ideal)) (onTc (τ := Cert.FfnDownBwdRefIdeal.τ) (Cert.FfnDownBwdRefIdeal.main (F := Ideal))) ⟨m, fun _ => 0, g⟩ (fun r => (∀ c : Dev Cert.FfnDownBwdRefIdeal.nD,
      r.2.mem ((c.tc : Thread Cert.FfnDownBwdRefIdeal.nD Cert.FfnDownBwdRefIdeal.τ).loc Cert.FfnDownBwdRefIdeal.main_arg0) = m ((c.tc : Thread Cert.FfnDownBwdRefIdeal.nD Cert.FfnDownBwdRefIdeal.τ).loc Cert.FfnDownBwdRefIdeal.main_arg0)
      ∧ r.2.mem ((c.tc : Thread Cert.FfnDownBwdRefIdeal.nD Cert.FfnDownBwdRefIdeal.τ).loc Cert.FfnDownBwdRefIdeal.main_arg1) = m ((c.tc : Thread Cert.FfnDownBwdRefIdeal.nD Cert.FfnDownBwdRefIdeal.τ).loc Cert.FfnDownBwdRefIdeal.main_arg1))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2)
      ∧ r.2.mem ((c.tc : Thread Cert.GateNorm.nD Cert.GateNorm.τ).loc Cert.GateNorm.main_arg3) = m ((c.tc : Thread Cert.GateNorm.nD Cert.GateNorm.τ).loc Cert.GateNorm.main_arg3)
      ∧ r.2.mem ((c.tc : Thread Cert.GateNorm.nD Cert.GateNorm.τ).loc Cert.GateNorm.main_arg4) = m ((c.tc : Thread Cert.GateNorm.nD Cert.GateNorm.τ).loc Cert.GateNorm.main_arg4)
      ∧ r.2.mem ((c.tc : Thread Cert.GateNorm.nD Cert.GateNorm.τ).loc Cert.GateNorm.main_arg5) = m ((c.tc : Thread Cert.GateNorm.nD Cert.GateNorm.τ).loc Cert.GateNorm.main_arg5))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
      ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4)
      ∧ r.2.mem ((c.tc : Thread Cert.GateNormIdeal.nD Cert.GateNormIdeal.τ).loc Cert.GateNormIdeal.main_arg5) = m ((c.tc : Thread Cert.GateNormIdeal.nD Cert.GateNormIdeal.τ).loc Cert.GateNormIdeal.main_arg5))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2)
      ∧ r.2.mem ((c.tc : Thread Cert.GateNormRefIdeal.nD Cert.GateNormRefIdeal.τ).loc Cert.GateNormRefIdeal.main_arg3) = m ((c.tc : Thread Cert.GateNormRefIdeal.nD Cert.GateNormRefIdeal.τ).loc Cert.GateNormRefIdeal.main_arg3)
      ∧ r.2.mem ((c.tc : Thread Cert.GateNormRefIdeal.nD Cert.GateNormRefIdeal.τ).loc Cert.GateNormRefIdeal.main_arg4) = m ((c.tc : Thread Cert.GateNormRefIdeal.nD Cert.GateNormRefIdeal.τ).loc Cert.GateNormRefIdeal.main_arg4)
      ∧ r.2.mem ((c.tc : Thread Cert.GateNormRefIdeal.nD Cert.GateNormRefIdeal.τ).loc Cert.GateNormRefIdeal.main_arg5) = m ((c.tc : Thread Cert.GateNormRefIdeal.nD Cert.GateNormRefIdeal.τ).loc Cert.GateNormRefIdeal.main_arg5))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 1792]⟩ ⟨2, ![2048, 7168]⟩ (Layout.meshBlock [2, 2, 2] ![[2], [0, 1]] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![1024, 2816]⟩ ⟨2, ![2048, 11264]⟩ (Layout.meshBlock [2, 2, 2] ![[2], [0, 1]] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![704, 2048]⟩ ⟨2, ![5632, 2048]⟩ 0 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![1024, 1792]⟩ ⟨2, ![2048, 7168]⟩ (Layout.meshBlock [2, 2, 2] ![[2], [0, 1]] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨2, ![1024, 2816]⟩ ⟨2, ![2048, 11264]⟩ (Layout.meshBlock [2, 2, 2] ![[2], [0, 1]] c) (m' (((0 : Dev Cert.GatherRefIdeal.nD).tc : Thread Cert.GatherRefIdeal.nD Cert.GatherRefIdeal.τ).loc Cert.GatherRefIdeal.main_arg6))
      ∧ m ((c.tc : Thread Cert.GatherIdeal.nD Cert.GatherIdeal.τ).loc Cert.GatherIdeal.main_arg7) = Layout.block ⟨2, ![704, 2048]⟩ ⟨2, ![5632, 2048]⟩ 0 8 c (m' (((0 : Dev Cert.GatherRefIdeal.nD).tc : Thread Cert.GatherRefIdeal.nD Cert.GatherRefIdeal.τ).loc Cert.GatherRefIdeal.main_arg7))) →
    ∃ (v0 : Buf (Elt Ideal) (((0 : Dev Cert.GatherRefIdeal.nD).tc : Thread Cert.GatherRefIdeal.nD Cert.GatherRefIdeal.τ).loc Cert.GatherRefIdeal.main_v2)) (v1 : Buf (Elt Ideal) (((0 : Dev Cert.GatherRefIdeal.nD).tc : Thread Cert.GatherRefIdeal.nD Cert.GatherRefIdeal.τ).loc Cert.GatherRefIdeal.main_v3)) (v2 : Buf (Elt Ideal) (((0 : Dev Cert.GatherRefIdeal.nD).tc : Thread Cert.GatherRefIdeal.nD Cert.GatherRefIdeal.τ).loc Cert.GatherRefIdeal.main_v6)) (v3 : Buf (Elt Ideal) (((0 : Dev Cert.GatherRefIdeal.nD).tc : Thread Cert.GatherRefIdeal.nD Cert.GatherRefIdeal.τ).loc Cert.GatherRefIdeal.main_v7)) (v4 : Buf (Elt Ideal) (((0 : Dev Cert.GatherRefIdeal.nD).tc : Thread Cert.GatherRefIdeal.nD Cert.GatherRefIdeal.τ).loc Cert.GatherRefIdeal.main_v10)) (v5 : Buf (Elt Ideal) (((0 : Dev Cert.GatherRefIdeal.nD).tc : Thread Cert.GatherRefIdeal.nD Cert.GatherRefIdeal.τ).loc Cert.GatherRefIdeal.main_v11)) (v6 : Buf (Elt Ideal) (((0 : Dev Cert.GatherRefIdeal.nD).tc : Thread Cert.GatherRefIdeal.nD Cert.GatherRefIdeal.τ).loc Cert.GatherRefIdeal.main_v14)) (v7 : Buf (Elt Ideal) (((0 : Dev Cert.GatherRefIdeal.nD).tc : Thread Cert.GatherRefIdeal.nD Cert.GatherRefIdeal.τ).loc Cert.GatherRefIdeal.main_v15)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v2) = v0
          ∧ r.2.mem (((0 : Dev Cert.GatherRefIdeal.nD).tc : Thread Cert.GatherRefIdeal.nD Cert.GatherRefIdeal.τ).loc Cert.GatherRefIdeal.main_v3) = v1
          ∧ r.2.mem (((0 : Dev Cert.GatherRefIdeal.nD).tc : Thread Cert.GatherRefIdeal.nD Cert.GatherRefIdeal.τ).loc Cert.GatherRefIdeal.main_v6) = v2
          ∧ r.2.mem (((0 : Dev Cert.GatherRefIdeal.nD).tc : Thread Cert.GatherRefIdeal.nD Cert.GatherRefIdeal.τ).loc Cert.GatherRefIdeal.main_v7) = v3
          ∧ r.2.mem (((0 : Dev Cert.GatherRefIdeal.nD).tc : Thread Cert.GatherRefIdeal.nD Cert.GatherRefIdeal.τ).loc Cert.GatherRefIdeal.main_v10) = v4
          ∧ r.2.mem (((0 : Dev Cert.GatherRefIdeal.nD).tc : Thread Cert.GatherRefIdeal.nD Cert.GatherRefIdeal.τ).loc Cert.GatherRefIdeal.main_v11) = v5
          ∧ r.2.mem (((0 : Dev Cert.GatherRefIdeal.nD).tc : Thread Cert.GatherRefIdeal.nD Cert.GatherRefIdeal.τ).loc Cert.GatherRefIdeal.main_v14) = v6
          ∧ r.2.mem (((0 : Dev Cert.GatherRefIdeal.nD).tc : Thread Cert.GatherRefIdeal.nD Cert.GatherRefIdeal.τ).loc Cert.GatherRefIdeal.main_v15) = v7
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)
          ∧ r.2.mem (((0 : Dev Cert.GatherRefIdeal.nD).tc : Thread Cert.GatherRefIdeal.nD Cert.GatherRefIdeal.τ).loc Cert.GatherRefIdeal.main_arg7) = m' (((0 : Dev Cert.GatherRefIdeal.nD).tc : Thread Cert.GatherRefIdeal.nD Cert.GatherRefIdeal.τ).loc Cert.GatherRefIdeal.main_arg7))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![1024, 1792]⟩ ⟨2, ![2048, 7168]⟩ (Layout.meshBlock [2, 2, 2] ![[2], [0, 1]] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![256, 2048]⟩ ⟨2, ![2048, 2048]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![1024, 2816]⟩ ⟨2, ![2048, 11264]⟩ (Layout.meshBlock [2, 2, 2] ![[2], [0, 1]] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![704, 2048]⟩ ⟨2, ![5632, 2048]⟩ 0 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![1024, 1792]⟩ ⟨2, ![2048, 7168]⟩ (Layout.meshBlock [2, 2, 2] ![[2], [0, 1]] c) (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.block ⟨2, ![256, 2048]⟩ ⟨2, ![2048, 2048]⟩ 0 8 c (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.blockN ⟨2, ![1024, 2816]⟩ ⟨2, ![2048, 11264]⟩ (Layout.meshBlock [2, 2, 2] ![[2], [0, 1]] c) (m' (((0 : Dev Cert.GatherRef.nD).tc : Thread Cert.GatherRef.nD Cert.GatherRef.τ).loc Cert.GatherRef.main_arg6))
      ∧ m ((c.tc : Thread Cert.Gather.nD Cert.Gather.τ).loc Cert.Gather.main_arg7) = Layout.block ⟨2, ![704, 2048]⟩ ⟨2, ![5632, 2048]⟩ 0 8 c (m' (((0 : Dev Cert.GatherRef.nD).tc : Thread Cert.GatherRef.nD Cert.GatherRef.τ).loc Cert.GatherRef.main_arg7))) →
    ∃ (v0 : Buf (Elt Bits) (((0 : Dev Cert.GatherRef.nD).tc : Thread Cert.GatherRef.nD Cert.GatherRef.τ).loc Cert.GatherRef.main_v2)) (v1 : Buf (Elt Bits) (((0 : Dev Cert.GatherRef.nD).tc : Thread Cert.GatherRef.nD Cert.GatherRef.τ).loc Cert.GatherRef.main_v3)) (v2 : Buf (Elt Bits) (((0 : Dev Cert.GatherRef.nD).tc : Thread Cert.GatherRef.nD Cert.GatherRef.τ).loc Cert.GatherRef.main_v6)) (v3 : Buf (Elt Bits) (((0 : Dev Cert.GatherRef.nD).tc : Thread Cert.GatherRef.nD Cert.GatherRef.τ).loc Cert.GatherRef.main_v7)) (v4 : Buf (Elt Bits) (((0 : Dev Cert.GatherRef.nD).tc : Thread Cert.GatherRef.nD Cert.GatherRef.τ).loc Cert.GatherRef.main_v10)) (v5 : Buf (Elt Bits) (((0 : Dev Cert.GatherRef.nD).tc : Thread Cert.GatherRef.nD Cert.GatherRef.τ).loc Cert.GatherRef.main_v11)) (v6 : Buf (Elt Bits) (((0 : Dev Cert.GatherRef.nD).tc : Thread Cert.GatherRef.nD Cert.GatherRef.τ).loc Cert.GatherRef.main_v14)) (v7 : Buf (Elt Bits) (((0 : Dev Cert.GatherRef.nD).tc : Thread Cert.GatherRef.nD Cert.GatherRef.τ).loc Cert.GatherRef.main_v15)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v2) = v0
          ∧ r.2.mem (((0 : Dev Cert.GatherRef.nD).tc : Thread Cert.GatherRef.nD Cert.GatherRef.τ).loc Cert.GatherRef.main_v3) = v1
          ∧ r.2.mem (((0 : Dev Cert.GatherRef.nD).tc : Thread Cert.GatherRef.nD Cert.GatherRef.τ).loc Cert.GatherRef.main_v6) = v2
          ∧ r.2.mem (((0 : Dev Cert.GatherRef.nD).tc : Thread Cert.GatherRef.nD Cert.GatherRef.τ).loc Cert.GatherRef.main_v7) = v3
          ∧ r.2.mem (((0 : Dev Cert.GatherRef.nD).tc : Thread Cert.GatherRef.nD Cert.GatherRef.τ).loc Cert.GatherRef.main_v10) = v4
          ∧ r.2.mem (((0 : Dev Cert.GatherRef.nD).tc : Thread Cert.GatherRef.nD Cert.GatherRef.τ).loc Cert.GatherRef.main_v11) = v5
          ∧ r.2.mem (((0 : Dev Cert.GatherRef.nD).tc : Thread Cert.GatherRef.nD Cert.GatherRef.τ).loc Cert.GatherRef.main_v14) = v6
          ∧ r.2.mem (((0 : Dev Cert.GatherRef.nD).tc : Thread Cert.GatherRef.nD Cert.GatherRef.τ).loc Cert.GatherRef.main_v15) = v7
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6)
          ∧ r.2.mem (((0 : Dev Cert.GatherRef.nD).tc : Thread Cert.GatherRef.nD Cert.GatherRef.τ).loc Cert.GatherRef.main_arg7) = m' (((0 : Dev Cert.GatherRef.nD).tc : Thread Cert.GatherRef.nD Cert.GatherRef.τ).loc Cert.GatherRef.main_arg7))

def preserves_AllToAll_AllToAllIdeal : Prop :=
  True

def algebraic_AllToAllIdeal_AllToAllRefIdeal [hAllToAllIdeal : Cert.AllToAllIdeal.Facts] [hAllToAllRefIdeal : Cert.AllToAllRefIdeal.Facts] : Prop :=
  ∀ (m : (ℓ : Loc Cert.AllToAllIdeal.nD Cert.AllToAllIdeal.τ Cert.AllToAllIdeal.sig) → Buf (Elt Ideal) ℓ) (g : Dev Cert.AllToAllIdeal.nD → PrngReg)
    (m' : (ℓ : Loc Cert.AllToAllRefIdeal.nD Cert.AllToAllRefIdeal.τ Cert.AllToAllRefIdeal.sig) → Buf (Elt Ideal) ℓ) (g' : Dev Cert.AllToAllRefIdeal.nD → PrngReg), Pre_AllToAllIdeal m →
    (∀ c : Dev Cert.AllToAllIdeal.nD,
      m ((c.tc : Thread Cert.AllToAllIdeal.nD Cert.AllToAllIdeal.τ).loc Cert.AllToAllIdeal.main_arg0) = Layout.block ⟨3, ![4, 1024, 1792]⟩ ⟨3, ![32, 1024, 1792]⟩ 0 8 c (m' (((0 : Dev Cert.AllToAllRefIdeal.nD).tc : Thread Cert.AllToAllRefIdeal.nD Cert.AllToAllRefIdeal.τ).loc Cert.AllToAllRefIdeal.main_arg0))
      ∧ m ((c.tc : Thread Cert.AllToAllIdeal.nD Cert.AllToAllIdeal.τ).loc Cert.AllToAllIdeal.main_arg1) = Layout.block ⟨3, ![4, 256, 2048]⟩ ⟨3, ![32, 256, 2048]⟩ 0 8 c (m' (((0 : Dev Cert.AllToAllRefIdeal.nD).tc : Thread Cert.AllToAllRefIdeal.nD Cert.AllToAllRefIdeal.τ).loc Cert.AllToAllRefIdeal.main_arg1))
      ∧ m ((c.tc : Thread Cert.AllToAllIdeal.nD Cert.AllToAllIdeal.τ).loc Cert.AllToAllIdeal.main_arg2) = Layout.block ⟨3, ![4, 1024, 2816]⟩ ⟨3, ![32, 1024, 2816]⟩ 0 8 c (m' (((0 : Dev Cert.AllToAllRefIdeal.nD).tc : Thread Cert.AllToAllRefIdeal.nD Cert.AllToAllRefIdeal.τ).loc Cert.AllToAllRefIdeal.main_arg2))
      ∧ m ((c.tc : Thread Cert.AllToAllIdeal.nD Cert.AllToAllIdeal.τ).loc Cert.AllToAllIdeal.main_arg3) = Layout.block ⟨3, ![4, 704, 2048]⟩ ⟨3, ![32, 704, 2048]⟩ 0 8 c (m' (((0 : Dev Cert.AllToAllRefIdeal.nD).tc : Thread Cert.AllToAllRefIdeal.nD Cert.AllToAllRefIdeal.τ).loc Cert.AllToAllRefIdeal.main_arg3))
      ∧ m ((c.tc : Thread Cert.AllToAllIdeal.nD Cert.AllToAllIdeal.τ).loc Cert.AllToAllIdeal.main_arg4) = Layout.block ⟨3, ![4, 1024, 1792]⟩ ⟨3, ![32, 1024, 1792]⟩ 0 8 c (m' (((0 : Dev Cert.AllToAllRefIdeal.nD).tc : Thread Cert.AllToAllRefIdeal.nD Cert.AllToAllRefIdeal.τ).loc Cert.AllToAllRefIdeal.main_arg4))
      ∧ m ((c.tc : Thread Cert.AllToAllIdeal.nD Cert.AllToAllIdeal.τ).loc Cert.AllToAllIdeal.main_arg5) = Layout.block ⟨3, ![4, 256, 2048]⟩ ⟨3, ![32, 256, 2048]⟩ 0 8 c (m' (((0 : Dev Cert.AllToAllRefIdeal.nD).tc : Thread Cert.AllToAllRefIdeal.nD Cert.AllToAllRefIdeal.τ).loc Cert.AllToAllRefIdeal.main_arg5))
      ∧ m ((c.tc : Thread Cert.AllToAllIdeal.nD Cert.AllToAllIdeal.τ).loc Cert.AllToAllIdeal.main_arg6) = Layout.block ⟨3, ![4, 1024, 2816]⟩ ⟨3, ![32, 1024, 2816]⟩ 0 8 c (m' (((0 : Dev Cert.AllToAllRefIdeal.nD).tc : Thread Cert.AllToAllRefIdeal.nD Cert.AllToAllRefIdeal.τ).loc Cert.AllToAllRefIdeal.main_arg6))
      ∧ m ((c.tc : Thread Cert.AllToAllIdeal.nD Cert.AllToAllIdeal.τ).loc Cert.AllToAllIdeal.main_arg7) = Layout.block ⟨3, ![4, 704, 2048]⟩ ⟨3, ![32, 704, 2048]⟩ 0 8 c (m' (((0 : Dev Cert.AllToAllRefIdeal.nD).tc : Thread Cert.AllToAllRefIdeal.nD Cert.AllToAllRefIdeal.τ).loc Cert.AllToAllRefIdeal.main_arg7))) →
    ∃ (v0 : Buf (Elt Ideal) (((0 : Dev Cert.AllToAllRefIdeal.nD).tc : Thread Cert.AllToAllRefIdeal.nD Cert.AllToAllRefIdeal.τ).loc Cert.AllToAllRefIdeal.main_v2)) (v1 : Buf (Elt Ideal) (((0 : Dev Cert.AllToAllRefIdeal.nD).tc : Thread Cert.AllToAllRefIdeal.nD Cert.AllToAllRefIdeal.τ).loc Cert.AllToAllRefIdeal.main_v5)) (v2 : Buf (Elt Ideal) (((0 : Dev Cert.AllToAllRefIdeal.nD).tc : Thread Cert.AllToAllRefIdeal.nD Cert.AllToAllRefIdeal.τ).loc Cert.AllToAllRefIdeal.main_v8)) (v3 : Buf (Elt Ideal) (((0 : Dev Cert.AllToAllRefIdeal.nD).tc : Thread Cert.AllToAllRefIdeal.nD Cert.AllToAllRefIdeal.τ).loc Cert.AllToAllRefIdeal.main_v11)) (v4 : Buf (Elt Ideal) (((0 : Dev Cert.AllToAllRefIdeal.nD).tc : Thread Cert.AllToAllRefIdeal.nD Cert.AllToAllRefIdeal.τ).loc Cert.AllToAllRefIdeal.main_v14)) (v5 : Buf (Elt Ideal) (((0 : Dev Cert.AllToAllRefIdeal.nD).tc : Thread Cert.AllToAllRefIdeal.nD Cert.AllToAllRefIdeal.τ).loc Cert.AllToAllRefIdeal.main_v17)) (v6 : Buf (Elt Ideal) (((0 : Dev Cert.AllToAllRefIdeal.nD).tc : Thread Cert.AllToAllRefIdeal.nD Cert.AllToAllRefIdeal.τ).loc Cert.AllToAllRefIdeal.main_v20)) (v7 : Buf (Elt Ideal) (((0 : Dev Cert.AllToAllRefIdeal.nD).tc : Thread Cert.AllToAllRefIdeal.nD Cert.AllToAllRefIdeal.τ).loc Cert.AllToAllRefIdeal.main_v23)),
      θ_run (Cert.AllToAllIdeal.defs (F := Ideal)) (onTc (τ := Cert.AllToAllIdeal.τ) (Cert.AllToAllIdeal.main (F := Ideal))) ⟨m, fun _ => 0, g⟩ (fun r => ∀ c : Dev Cert.AllToAllIdeal.nD,
          r.2.mem ((c.tc : Thread Cert.AllToAllIdeal.nD Cert.AllToAllIdeal.τ).loc Cert.AllToAllIdeal.main_v1_0) = Layout.block ⟨3, ![4, 1024, 1792]⟩ ⟨3, ![32, 1024, 1792]⟩ 0 8 c v0
          ∧ r.2.mem ((c.tc : Thread Cert.AllToAllIdeal.nD Cert.AllToAllIdeal.τ).loc Cert.AllToAllIdeal.main_v1_1) = Layout.block ⟨3, ![4, 256, 2048]⟩ ⟨3, ![32, 256, 2048]⟩ 0 8 c v1
          ∧ r.2.mem ((c.tc : Thread Cert.AllToAllIdeal.nD Cert.AllToAllIdeal.τ).loc Cert.AllToAllIdeal.main_v1_2) = Layout.block ⟨3, ![4, 1024, 2816]⟩ ⟨3, ![32, 1024, 2816]⟩ 0 8 c v2
          ∧ r.2.mem ((c.tc : Thread Cert.AllToAllIdeal.nD Cert.AllToAllIdeal.τ).loc Cert.AllToAllIdeal.main_v1_3) = Layout.block ⟨3, ![4, 704, 2048]⟩ ⟨3, ![32, 704, 2048]⟩ 0 8 c v3
          ∧ r.2.mem ((c.tc : Thread Cert.AllToAllIdeal.nD Cert.AllToAllIdeal.τ).loc Cert.AllToAllIdeal.main_v1_4) = Layout.block ⟨3, ![4, 1024, 1792]⟩ ⟨3, ![32, 1024, 1792]⟩ 0 8 c v4
          ∧ r.2.mem ((c.tc : Thread Cert.AllToAllIdeal.nD Cert.AllToAllIdeal.τ).loc Cert.AllToAllIdeal.main_v1_5) = Layout.block ⟨3, ![4, 256, 2048]⟩ ⟨3, ![32, 256, 2048]⟩ 0 8 c v5
          ∧ r.2.mem ((c.tc : Thread Cert.AllToAllIdeal.nD Cert.AllToAllIdeal.τ).loc Cert.AllToAllIdeal.main_v1_6) = Layout.block ⟨3, ![4, 1024, 2816]⟩ ⟨3, ![32, 1024, 2816]⟩ 0 8 c v6
          ∧ r.2.mem ((c.tc : Thread Cert.AllToAllIdeal.nD Cert.AllToAllIdeal.τ).loc Cert.AllToAllIdeal.main_v1_7) = Layout.block ⟨3, ![4, 704, 2048]⟩ ⟨3, ![32, 704, 2048]⟩ 0 8 c v7
          ∧ r.2.mem ((c.tc : Thread Cert.AllToAllIdeal.nD Cert.AllToAllIdeal.τ).loc Cert.AllToAllIdeal.main_arg0) = m ((c.tc : Thread Cert.AllToAllIdeal.nD Cert.AllToAllIdeal.τ).loc Cert.AllToAllIdeal.main_arg0)
          ∧ r.2.mem ((c.tc : Thread Cert.AllToAllIdeal.nD Cert.AllToAllIdeal.τ).loc Cert.AllToAllIdeal.main_arg1) = m ((c.tc : Thread Cert.AllToAllIdeal.nD Cert.AllToAllIdeal.τ).loc Cert.AllToAllIdeal.main_arg1)
          ∧ r.2.mem ((c.tc : Thread Cert.AllToAllIdeal.nD Cert.AllToAllIdeal.τ).loc Cert.AllToAllIdeal.main_arg2) = m ((c.tc : Thread Cert.AllToAllIdeal.nD Cert.AllToAllIdeal.τ).loc Cert.AllToAllIdeal.main_arg2)
          ∧ r.2.mem ((c.tc : Thread Cert.AllToAllIdeal.nD Cert.AllToAllIdeal.τ).loc Cert.AllToAllIdeal.main_arg3) = m ((c.tc : Thread Cert.AllToAllIdeal.nD Cert.AllToAllIdeal.τ).loc Cert.AllToAllIdeal.main_arg3)
          ∧ r.2.mem ((c.tc : Thread Cert.AllToAllIdeal.nD Cert.AllToAllIdeal.τ).loc Cert.AllToAllIdeal.main_arg4) = m ((c.tc : Thread Cert.AllToAllIdeal.nD Cert.AllToAllIdeal.τ).loc Cert.AllToAllIdeal.main_arg4)
          ∧ r.2.mem ((c.tc : Thread Cert.AllToAllIdeal.nD Cert.AllToAllIdeal.τ).loc Cert.AllToAllIdeal.main_arg5) = m ((c.tc : Thread Cert.AllToAllIdeal.nD Cert.AllToAllIdeal.τ).loc Cert.AllToAllIdeal.main_arg5)
          ∧ r.2.mem ((c.tc : Thread Cert.AllToAllIdeal.nD Cert.AllToAllIdeal.τ).loc Cert.AllToAllIdeal.main_arg6) = m ((c.tc : Thread Cert.AllToAllIdeal.nD Cert.AllToAllIdeal.τ).loc Cert.AllToAllIdeal.main_arg6)
          ∧ r.2.mem ((c.tc : Thread Cert.AllToAllIdeal.nD Cert.AllToAllIdeal.τ).loc Cert.AllToAllIdeal.main_arg7) = m ((c.tc : Thread Cert.AllToAllIdeal.nD Cert.AllToAllIdeal.τ).loc Cert.AllToAllIdeal.main_arg7))
      ∧ θ_run (Cert.AllToAllRefIdeal.defs (F := Ideal)) (onTc (τ := Cert.AllToAllRefIdeal.τ) (Cert.AllToAllRefIdeal.main (F := Ideal))) ⟨m', fun _ => 0, g'⟩ (fun r =>
          r.2.mem (((0 : Dev Cert.AllToAllRefIdeal.nD).tc : Thread Cert.AllToAllRefIdeal.nD Cert.AllToAllRefIdeal.τ).loc Cert.AllToAllRefIdeal.main_v2) = v0
          ∧ r.2.mem (((0 : Dev Cert.AllToAllRefIdeal.nD).tc : Thread Cert.AllToAllRefIdeal.nD Cert.AllToAllRefIdeal.τ).loc Cert.AllToAllRefIdeal.main_v5) = v1
          ∧ r.2.mem (((0 : Dev Cert.AllToAllRefIdeal.nD).tc : Thread Cert.AllToAllRefIdeal.nD Cert.AllToAllRefIdeal.τ).loc Cert.AllToAllRefIdeal.main_v8) = v2
          ∧ r.2.mem (((0 : Dev Cert.AllToAllRefIdeal.nD).tc : Thread Cert.AllToAllRefIdeal.nD Cert.AllToAllRefIdeal.τ).loc Cert.AllToAllRefIdeal.main_v11) = v3
          ∧ r.2.mem (((0 : Dev Cert.AllToAllRefIdeal.nD).tc : Thread Cert.AllToAllRefIdeal.nD Cert.AllToAllRefIdeal.τ).loc Cert.AllToAllRefIdeal.main_v14) = v4
          ∧ r.2.mem (((0 : Dev Cert.AllToAllRefIdeal.nD).tc : Thread Cert.AllToAllRefIdeal.nD Cert.AllToAllRefIdeal.τ).loc Cert.AllToAllRefIdeal.main_v17) = v5
          ∧ r.2.mem (((0 : Dev Cert.AllToAllRefIdeal.nD).tc : Thread Cert.AllToAllRefIdeal.nD Cert.AllToAllRefIdeal.τ).loc Cert.AllToAllRefIdeal.main_v20) = v6
          ∧ r.2.mem (((0 : Dev Cert.AllToAllRefIdeal.nD).tc : Thread Cert.AllToAllRefIdeal.nD Cert.AllToAllRefIdeal.τ).loc Cert.AllToAllRefIdeal.main_v23) = v7
          ∧ r.2.mem (((0 : Dev Cert.AllToAllRefIdeal.nD).tc : Thread Cert.AllToAllRefIdeal.nD Cert.AllToAllRefIdeal.τ).loc Cert.AllToAllRefIdeal.main_arg0) = m' (((0 : Dev Cert.AllToAllRefIdeal.nD).tc : Thread Cert.AllToAllRefIdeal.nD Cert.AllToAllRefIdeal.τ).loc Cert.AllToAllRefIdeal.main_arg0)
          ∧ r.2.mem (((0 : Dev Cert.AllToAllRefIdeal.nD).tc : Thread Cert.AllToAllRefIdeal.nD Cert.AllToAllRefIdeal.τ).loc Cert.AllToAllRefIdeal.main_arg1) = m' (((0 : Dev Cert.AllToAllRefIdeal.nD).tc : Thread Cert.AllToAllRefIdeal.nD Cert.AllToAllRefIdeal.τ).loc Cert.AllToAllRefIdeal.main_arg1)
          ∧ r.2.mem (((0 : Dev Cert.AllToAllRefIdeal.nD).tc : Thread Cert.AllToAllRefIdeal.nD Cert.AllToAllRefIdeal.τ).loc Cert.AllToAllRefIdeal.main_arg2) = m' (((0 : Dev Cert.AllToAllRefIdeal.nD).tc : Thread Cert.AllToAllRefIdeal.nD Cert.AllToAllRefIdeal.τ).loc Cert.AllToAllRefIdeal.main_arg2)
          ∧ r.2.mem (((0 : Dev Cert.AllToAllRefIdeal.nD).tc : Thread Cert.AllToAllRefIdeal.nD Cert.AllToAllRefIdeal.τ).loc Cert.AllToAllRefIdeal.main_arg3) = m' (((0 : Dev Cert.AllToAllRefIdeal.nD).tc : Thread Cert.AllToAllRefIdeal.nD Cert.AllToAllRefIdeal.τ).loc Cert.AllToAllRefIdeal.main_arg3)
          ∧ r.2.mem (((0 : Dev Cert.AllToAllRefIdeal.nD).tc : Thread Cert.AllToAllRefIdeal.nD Cert.AllToAllRefIdeal.τ).loc Cert.AllToAllRefIdeal.main_arg4) = m' (((0 : Dev Cert.AllToAllRefIdeal.nD).tc : Thread Cert.AllToAllRefIdeal.nD Cert.AllToAllRefIdeal.τ).loc Cert.AllToAllRefIdeal.main_arg4)
          ∧ r.2.mem (((0 : Dev Cert.AllToAllRefIdeal.nD).tc : Thread Cert.AllToAllRefIdeal.nD Cert.AllToAllRefIdeal.τ).loc Cert.AllToAllRefIdeal.main_arg5) = m' (((0 : Dev Cert.AllToAllRefIdeal.nD).tc : Thread Cert.AllToAllRefIdeal.nD Cert.AllToAllRefIdeal.τ).loc Cert.AllToAllRefIdeal.main_arg5)
          ∧ r.2.mem (((0 : Dev Cert.AllToAllRefIdeal.nD).tc : Thread Cert.AllToAllRefIdeal.nD Cert.AllToAllRefIdeal.τ).loc Cert.AllToAllRefIdeal.main_arg6) = m' (((0 : Dev Cert.AllToAllRefIdeal.nD).tc : Thread Cert.AllToAllRefIdeal.nD Cert.AllToAllRefIdeal.τ).loc Cert.AllToAllRefIdeal.main_arg6)
          ∧ r.2.mem (((0 : Dev Cert.AllToAllRefIdeal.nD).tc : Thread Cert.AllToAllRefIdeal.nD Cert.AllToAllRefIdeal.τ).loc Cert.AllToAllRefIdeal.main_arg7) = m' (((0 : Dev Cert.AllToAllRefIdeal.nD).tc : Thread Cert.AllToAllRefIdeal.nD Cert.AllToAllRefIdeal.τ).loc Cert.AllToAllRefIdeal.main_arg7))

def bitexact_AllToAll_AllToAllRef [hAllToAll : Cert.AllToAll.Facts] [hAllToAllRef : Cert.AllToAllRef.Facts] : Prop :=
  ∀ (m : (ℓ : Loc Cert.AllToAll.nD Cert.AllToAll.τ Cert.AllToAll.sig) → Buf (Elt Bits) ℓ) (g : Dev Cert.AllToAll.nD → PrngReg)
    (m' : (ℓ : Loc Cert.AllToAllRef.nD Cert.AllToAllRef.τ Cert.AllToAllRef.sig) → Buf (Elt Bits) ℓ) (g' : Dev Cert.AllToAllRef.nD → PrngReg), Pre_AllToAll m →
    (∀ c : Dev Cert.AllToAll.nD,
      m ((c.tc : Thread Cert.AllToAll.nD Cert.AllToAll.τ).loc Cert.AllToAll.main_arg0) = Layout.block ⟨3, ![4, 1024, 1792]⟩ ⟨3, ![32, 1024, 1792]⟩ 0 8 c (m' (((0 : Dev Cert.AllToAllRef.nD).tc : Thread Cert.AllToAllRef.nD Cert.AllToAllRef.τ).loc Cert.AllToAllRef.main_arg0))
      ∧ m ((c.tc : Thread Cert.AllToAll.nD Cert.AllToAll.τ).loc Cert.AllToAll.main_arg1) = Layout.block ⟨3, ![4, 256, 2048]⟩ ⟨3, ![32, 256, 2048]⟩ 0 8 c (m' (((0 : Dev Cert.AllToAllRef.nD).tc : Thread Cert.AllToAllRef.nD Cert.AllToAllRef.τ).loc Cert.AllToAllRef.main_arg1))
      ∧ m ((c.tc : Thread Cert.AllToAll.nD Cert.AllToAll.τ).loc Cert.AllToAll.main_arg2) = Layout.block ⟨3, ![4, 1024, 2816]⟩ ⟨3, ![32, 1024, 2816]⟩ 0 8 c (m' (((0 : Dev Cert.AllToAllRef.nD).tc : Thread Cert.AllToAllRef.nD Cert.AllToAllRef.τ).loc Cert.AllToAllRef.main_arg2))
      ∧ m ((c.tc : Thread Cert.AllToAll.nD Cert.AllToAll.τ).loc Cert.AllToAll.main_arg3) = Layout.block ⟨3, ![4, 704, 2048]⟩ ⟨3, ![32, 704, 2048]⟩ 0 8 c (m' (((0 : Dev Cert.AllToAllRef.nD).tc : Thread Cert.AllToAllRef.nD Cert.AllToAllRef.τ).loc Cert.AllToAllRef.main_arg3))
      ∧ m ((c.tc : Thread Cert.AllToAll.nD Cert.AllToAll.τ).loc Cert.AllToAll.main_arg4) = Layout.block ⟨3, ![4, 1024, 1792]⟩ ⟨3, ![32, 1024, 1792]⟩ 0 8 c (m' (((0 : Dev Cert.AllToAllRef.nD).tc : Thread Cert.AllToAllRef.nD Cert.AllToAllRef.τ).loc Cert.AllToAllRef.main_arg4))
      ∧ m ((c.tc : Thread Cert.AllToAll.nD Cert.AllToAll.τ).loc Cert.AllToAll.main_arg5) = Layout.block ⟨3, ![4, 256, 2048]⟩ ⟨3, ![32, 256, 2048]⟩ 0 8 c (m' (((0 : Dev Cert.AllToAllRef.nD).tc : Thread Cert.AllToAllRef.nD Cert.AllToAllRef.τ).loc Cert.AllToAllRef.main_arg5))
      ∧ m ((c.tc : Thread Cert.AllToAll.nD Cert.AllToAll.τ).loc Cert.AllToAll.main_arg6) = Layout.block ⟨3, ![4, 1024, 2816]⟩ ⟨3, ![32, 1024, 2816]⟩ 0 8 c (m' (((0 : Dev Cert.AllToAllRef.nD).tc : Thread Cert.AllToAllRef.nD Cert.AllToAllRef.τ).loc Cert.AllToAllRef.main_arg6))
      ∧ m ((c.tc : Thread Cert.AllToAll.nD Cert.AllToAll.τ).loc Cert.AllToAll.main_arg7) = Layout.block ⟨3, ![4, 704, 2048]⟩ ⟨3, ![32, 704, 2048]⟩ 0 8 c (m' (((0 : Dev Cert.AllToAllRef.nD).tc : Thread Cert.AllToAllRef.nD Cert.AllToAllRef.τ).loc Cert.AllToAllRef.main_arg7))) →
    ∃ (v0 : Buf (Elt Bits) (((0 : Dev Cert.AllToAllRef.nD).tc : Thread Cert.AllToAllRef.nD Cert.AllToAllRef.τ).loc Cert.AllToAllRef.main_v2)) (v1 : Buf (Elt Bits) (((0 : Dev Cert.AllToAllRef.nD).tc : Thread Cert.AllToAllRef.nD Cert.AllToAllRef.τ).loc Cert.AllToAllRef.main_v5)) (v2 : Buf (Elt Bits) (((0 : Dev Cert.AllToAllRef.nD).tc : Thread Cert.AllToAllRef.nD Cert.AllToAllRef.τ).loc Cert.AllToAllRef.main_v8)) (v3 : Buf (Elt Bits) (((0 : Dev Cert.AllToAllRef.nD).tc : Thread Cert.AllToAllRef.nD Cert.AllToAllRef.τ).loc Cert.AllToAllRef.main_v11)) (v4 : Buf (Elt Bits) (((0 : Dev Cert.AllToAllRef.nD).tc : Thread Cert.AllToAllRef.nD Cert.AllToAllRef.τ).loc Cert.AllToAllRef.main_v14)) (v5 : Buf (Elt Bits) (((0 : Dev Cert.AllToAllRef.nD).tc : Thread Cert.AllToAllRef.nD Cert.AllToAllRef.τ).loc Cert.AllToAllRef.main_v17)) (v6 : Buf (Elt Bits) (((0 : Dev Cert.AllToAllRef.nD).tc : Thread Cert.AllToAllRef.nD Cert.AllToAllRef.τ).loc Cert.AllToAllRef.main_v20)) (v7 : Buf (Elt Bits) (((0 : Dev Cert.AllToAllRef.nD).tc : Thread Cert.AllToAllRef.nD Cert.AllToAllRef.τ).loc Cert.AllToAllRef.main_v23)),
      θ_run (Cert.AllToAll.defs (F := Bits)) (onTc (τ := Cert.AllToAll.τ) (Cert.AllToAll.main (F := Bits))) ⟨m, fun _ => 0, g⟩ (fun r => ∀ c : Dev Cert.AllToAll.nD,
          r.2.mem ((c.tc : Thread Cert.AllToAll.nD Cert.AllToAll.τ).loc Cert.AllToAll.main_v1_0) = Layout.block ⟨3, ![4, 1024, 1792]⟩ ⟨3, ![32, 1024, 1792]⟩ 0 8 c v0
          ∧ r.2.mem ((c.tc : Thread Cert.AllToAll.nD Cert.AllToAll.τ).loc Cert.AllToAll.main_v1_1) = Layout.block ⟨3, ![4, 256, 2048]⟩ ⟨3, ![32, 256, 2048]⟩ 0 8 c v1
          ∧ r.2.mem ((c.tc : Thread Cert.AllToAll.nD Cert.AllToAll.τ).loc Cert.AllToAll.main_v1_2) = Layout.block ⟨3, ![4, 1024, 2816]⟩ ⟨3, ![32, 1024, 2816]⟩ 0 8 c v2
          ∧ r.2.mem ((c.tc : Thread Cert.AllToAll.nD Cert.AllToAll.τ).loc Cert.AllToAll.main_v1_3) = Layout.block ⟨3, ![4, 704, 2048]⟩ ⟨3, ![32, 704, 2048]⟩ 0 8 c v3
          ∧ r.2.mem ((c.tc : Thread Cert.AllToAll.nD Cert.AllToAll.τ).loc Cert.AllToAll.main_v1_4) = Layout.block ⟨3, ![4, 1024, 1792]⟩ ⟨3, ![32, 1024, 1792]⟩ 0 8 c v4
          ∧ r.2.mem ((c.tc : Thread Cert.AllToAll.nD Cert.AllToAll.τ).loc Cert.AllToAll.main_v1_5) = Layout.block ⟨3, ![4, 256, 2048]⟩ ⟨3, ![32, 256, 2048]⟩ 0 8 c v5
          ∧ r.2.mem ((c.tc : Thread Cert.AllToAll.nD Cert.AllToAll.τ).loc Cert.AllToAll.main_v1_6) = Layout.block ⟨3, ![4, 1024, 2816]⟩ ⟨3, ![32, 1024, 2816]⟩ 0 8 c v6
          ∧ r.2.mem ((c.tc : Thread Cert.AllToAll.nD Cert.AllToAll.τ).loc Cert.AllToAll.main_v1_7) = Layout.block ⟨3, ![4, 704, 2048]⟩ ⟨3, ![32, 704, 2048]⟩ 0 8 c v7
          ∧ r.2.mem ((c.tc : Thread Cert.AllToAll.nD Cert.AllToAll.τ).loc Cert.AllToAll.main_arg0) = m ((c.tc : Thread Cert.AllToAll.nD Cert.AllToAll.τ).loc Cert.AllToAll.main_arg0)
          ∧ r.2.mem ((c.tc : Thread Cert.AllToAll.nD Cert.AllToAll.τ).loc Cert.AllToAll.main_arg1) = m ((c.tc : Thread Cert.AllToAll.nD Cert.AllToAll.τ).loc Cert.AllToAll.main_arg1)
          ∧ r.2.mem ((c.tc : Thread Cert.AllToAll.nD Cert.AllToAll.τ).loc Cert.AllToAll.main_arg2) = m ((c.tc : Thread Cert.AllToAll.nD Cert.AllToAll.τ).loc Cert.AllToAll.main_arg2)
          ∧ r.2.mem ((c.tc : Thread Cert.AllToAll.nD Cert.AllToAll.τ).loc Cert.AllToAll.main_arg3) = m ((c.tc : Thread Cert.AllToAll.nD Cert.AllToAll.τ).loc Cert.AllToAll.main_arg3)
          ∧ r.2.mem ((c.tc : Thread Cert.AllToAll.nD Cert.AllToAll.τ).loc Cert.AllToAll.main_arg4) = m ((c.tc : Thread Cert.AllToAll.nD Cert.AllToAll.τ).loc Cert.AllToAll.main_arg4)
          ∧ r.2.mem ((c.tc : Thread Cert.AllToAll.nD Cert.AllToAll.τ).loc Cert.AllToAll.main_arg5) = m ((c.tc : Thread Cert.AllToAll.nD Cert.AllToAll.τ).loc Cert.AllToAll.main_arg5)
          ∧ r.2.mem ((c.tc : Thread Cert.AllToAll.nD Cert.AllToAll.τ).loc Cert.AllToAll.main_arg6) = m ((c.tc : Thread Cert.AllToAll.nD Cert.AllToAll.τ).loc Cert.AllToAll.main_arg6)
          ∧ r.2.mem ((c.tc : Thread Cert.AllToAll.nD Cert.AllToAll.τ).loc Cert.AllToAll.main_arg7) = m ((c.tc : Thread Cert.AllToAll.nD Cert.AllToAll.τ).loc Cert.AllToAll.main_arg7))
      ∧ θ_run (Cert.AllToAllRef.defs (F := Bits)) (onTc (τ := Cert.AllToAllRef.τ) (Cert.AllToAllRef.main (F := Bits))) ⟨m', fun _ => 0, g'⟩ (fun r =>
          r.2.mem (((0 : Dev Cert.AllToAllRef.nD).tc : Thread Cert.AllToAllRef.nD Cert.AllToAllRef.τ).loc Cert.AllToAllRef.main_v2) = v0
          ∧ r.2.mem (((0 : Dev Cert.AllToAllRef.nD).tc : Thread Cert.AllToAllRef.nD Cert.AllToAllRef.τ).loc Cert.AllToAllRef.main_v5) = v1
          ∧ r.2.mem (((0 : Dev Cert.AllToAllRef.nD).tc : Thread Cert.AllToAllRef.nD Cert.AllToAllRef.τ).loc Cert.AllToAllRef.main_v8) = v2
          ∧ r.2.mem (((0 : Dev Cert.AllToAllRef.nD).tc : Thread Cert.AllToAllRef.nD Cert.AllToAllRef.τ).loc Cert.AllToAllRef.main_v11) = v3
          ∧ r.2.mem (((0 : Dev Cert.AllToAllRef.nD).tc : Thread Cert.AllToAllRef.nD Cert.AllToAllRef.τ).loc Cert.AllToAllRef.main_v14) = v4
          ∧ r.2.mem (((0 : Dev Cert.AllToAllRef.nD).tc : Thread Cert.AllToAllRef.nD Cert.AllToAllRef.τ).loc Cert.AllToAllRef.main_v17) = v5
          ∧ r.2.mem (((0 : Dev Cert.AllToAllRef.nD).tc : Thread Cert.AllToAllRef.nD Cert.AllToAllRef.τ).loc Cert.AllToAllRef.main_v20) = v6
          ∧ r.2.mem (((0 : Dev Cert.AllToAllRef.nD).tc : Thread Cert.AllToAllRef.nD Cert.AllToAllRef.τ).loc Cert.AllToAllRef.main_v23) = v7
          ∧ r.2.mem (((0 : Dev Cert.AllToAllRef.nD).tc : Thread Cert.AllToAllRef.nD Cert.AllToAllRef.τ).loc Cert.AllToAllRef.main_arg0) = m' (((0 : Dev Cert.AllToAllRef.nD).tc : Thread Cert.AllToAllRef.nD Cert.AllToAllRef.τ).loc Cert.AllToAllRef.main_arg0)
          ∧ r.2.mem (((0 : Dev Cert.AllToAllRef.nD).tc : Thread Cert.AllToAllRef.nD Cert.AllToAllRef.τ).loc Cert.AllToAllRef.main_arg1) = m' (((0 : Dev Cert.AllToAllRef.nD).tc : Thread Cert.AllToAllRef.nD Cert.AllToAllRef.τ).loc Cert.AllToAllRef.main_arg1)
          ∧ r.2.mem (((0 : Dev Cert.AllToAllRef.nD).tc : Thread Cert.AllToAllRef.nD Cert.AllToAllRef.τ).loc Cert.AllToAllRef.main_arg2) = m' (((0 : Dev Cert.AllToAllRef.nD).tc : Thread Cert.AllToAllRef.nD Cert.AllToAllRef.τ).loc Cert.AllToAllRef.main_arg2)
          ∧ r.2.mem (((0 : Dev Cert.AllToAllRef.nD).tc : Thread Cert.AllToAllRef.nD Cert.AllToAllRef.τ).loc Cert.AllToAllRef.main_arg3) = m' (((0 : Dev Cert.AllToAllRef.nD).tc : Thread Cert.AllToAllRef.nD Cert.AllToAllRef.τ).loc Cert.AllToAllRef.main_arg3)
          ∧ r.2.mem (((0 : Dev Cert.AllToAllRef.nD).tc : Thread Cert.AllToAllRef.nD Cert.AllToAllRef.τ).loc Cert.AllToAllRef.main_arg4) = m' (((0 : Dev Cert.AllToAllRef.nD).tc : Thread Cert.AllToAllRef.nD Cert.AllToAllRef.τ).loc Cert.AllToAllRef.main_arg4)
          ∧ r.2.mem (((0 : Dev Cert.AllToAllRef.nD).tc : Thread Cert.AllToAllRef.nD Cert.AllToAllRef.τ).loc Cert.AllToAllRef.main_arg5) = m' (((0 : Dev Cert.AllToAllRef.nD).tc : Thread Cert.AllToAllRef.nD Cert.AllToAllRef.τ).loc Cert.AllToAllRef.main_arg5)
          ∧ r.2.mem (((0 : Dev Cert.AllToAllRef.nD).tc : Thread Cert.AllToAllRef.nD Cert.AllToAllRef.τ).loc Cert.AllToAllRef.main_arg6) = m' (((0 : Dev Cert.AllToAllRef.nD).tc : Thread Cert.AllToAllRef.nD Cert.AllToAllRef.τ).loc Cert.AllToAllRef.main_arg6)
          ∧ r.2.mem (((0 : Dev Cert.AllToAllRef.nD).tc : Thread Cert.AllToAllRef.nD Cert.AllToAllRef.τ).loc Cert.AllToAllRef.main_arg7) = m' (((0 : Dev Cert.AllToAllRef.nD).tc : Thread Cert.AllToAllRef.nD Cert.AllToAllRef.τ).loc Cert.AllToAllRef.main_arg7))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 2048, 1792]⟩ ⟨3, ![32, 2048, 1792]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨3, ![4, 512, 2048]⟩ ⟨3, ![32, 512, 2048]⟩ 0 8 c (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.block ⟨3, ![4, 2048, 2816]⟩ ⟨3, ![32, 2048, 2816]⟩ 0 8 c (m' (((0 : Dev Cert.SwapRefIdeal.nD).tc : Thread Cert.SwapRefIdeal.nD Cert.SwapRefIdeal.τ).loc Cert.SwapRefIdeal.main_arg2))
      ∧ m ((c.tc : Thread Cert.SwapIdeal.nD Cert.SwapIdeal.τ).loc Cert.SwapIdeal.main_arg3) = Layout.block ⟨3, ![4, 1408, 2048]⟩ ⟨3, ![32, 1408, 2048]⟩ 0 8 c (m' (((0 : Dev Cert.SwapRefIdeal.nD).tc : Thread Cert.SwapRefIdeal.nD Cert.SwapRefIdeal.τ).loc Cert.SwapRefIdeal.main_arg3))
      ∧ m ((c.tc : Thread Cert.SwapIdeal.nD Cert.SwapIdeal.τ).loc Cert.SwapIdeal.main_arg4) = Layout.block ⟨3, ![4, 2048, 1792]⟩ ⟨3, ![32, 2048, 1792]⟩ 0 8 c (m' (((0 : Dev Cert.SwapRefIdeal.nD).tc : Thread Cert.SwapRefIdeal.nD Cert.SwapRefIdeal.τ).loc Cert.SwapRefIdeal.main_arg4))
      ∧ m ((c.tc : Thread Cert.SwapIdeal.nD Cert.SwapIdeal.τ).loc Cert.SwapIdeal.main_arg5) = Layout.block ⟨3, ![4, 512, 2048]⟩ ⟨3, ![32, 512, 2048]⟩ 0 8 c (m' (((0 : Dev Cert.SwapRefIdeal.nD).tc : Thread Cert.SwapRefIdeal.nD Cert.SwapRefIdeal.τ).loc Cert.SwapRefIdeal.main_arg5))
      ∧ m ((c.tc : Thread Cert.SwapIdeal.nD Cert.SwapIdeal.τ).loc Cert.SwapIdeal.main_arg6) = Layout.block ⟨3, ![4, 2048, 2816]⟩ ⟨3, ![32, 2048, 2816]⟩ 0 8 c (m' (((0 : Dev Cert.SwapRefIdeal.nD).tc : Thread Cert.SwapRefIdeal.nD Cert.SwapRefIdeal.τ).loc Cert.SwapRefIdeal.main_arg6))
      ∧ m ((c.tc : Thread Cert.SwapIdeal.nD Cert.SwapIdeal.τ).loc Cert.SwapIdeal.main_arg7) = Layout.block ⟨3, ![4, 1408, 2048]⟩ ⟨3, ![32, 1408, 2048]⟩ 0 8 c (m' (((0 : Dev Cert.SwapRefIdeal.nD).tc : Thread Cert.SwapRefIdeal.nD Cert.SwapRefIdeal.τ).loc Cert.SwapRefIdeal.main_arg7))) →
    ∃ (v0 : Buf (Elt Ideal) (((0 : Dev Cert.SwapRefIdeal.nD).tc : Thread Cert.SwapRefIdeal.nD Cert.SwapRefIdeal.τ).loc Cert.SwapRefIdeal.main_v8)) (v1 : Buf (Elt Ideal) (((0 : Dev Cert.SwapRefIdeal.nD).tc : Thread Cert.SwapRefIdeal.nD Cert.SwapRefIdeal.τ).loc Cert.SwapRefIdeal.main_v17)) (v2 : Buf (Elt Ideal) (((0 : Dev Cert.SwapRefIdeal.nD).tc : Thread Cert.SwapRefIdeal.nD Cert.SwapRefIdeal.τ).loc Cert.SwapRefIdeal.main_v26)) (v3 : Buf (Elt Ideal) (((0 : Dev Cert.SwapRefIdeal.nD).tc : Thread Cert.SwapRefIdeal.nD Cert.SwapRefIdeal.τ).loc Cert.SwapRefIdeal.main_v35)) (v4 : Buf (Elt Ideal) (((0 : Dev Cert.SwapRefIdeal.nD).tc : Thread Cert.SwapRefIdeal.nD Cert.SwapRefIdeal.τ).loc Cert.SwapRefIdeal.main_v44)) (v5 : Buf (Elt Ideal) (((0 : Dev Cert.SwapRefIdeal.nD).tc : Thread Cert.SwapRefIdeal.nD Cert.SwapRefIdeal.τ).loc Cert.SwapRefIdeal.main_v53)) (v6 : Buf (Elt Ideal) (((0 : Dev Cert.SwapRefIdeal.nD).tc : Thread Cert.SwapRefIdeal.nD Cert.SwapRefIdeal.τ).loc Cert.SwapRefIdeal.main_v62)) (v7 : Buf (Elt Ideal) (((0 : Dev Cert.SwapRefIdeal.nD).tc : Thread Cert.SwapRefIdeal.nD Cert.SwapRefIdeal.τ).loc Cert.SwapRefIdeal.main_v71)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 1024, 1792]⟩ ⟨3, ![32, 1024, 1792]⟩ 0 8 c v0
          ∧ r.2.mem ((c.tc : Thread Cert.SwapIdeal.nD Cert.SwapIdeal.τ).loc Cert.SwapIdeal.main_v1_1) = Layout.block ⟨3, ![4, 256, 2048]⟩ ⟨3, ![32, 256, 2048]⟩ 0 8 c v1
          ∧ r.2.mem ((c.tc : Thread Cert.SwapIdeal.nD Cert.SwapIdeal.τ).loc Cert.SwapIdeal.main_v1_2) = Layout.block ⟨3, ![4, 1024, 2816]⟩ ⟨3, ![32, 1024, 2816]⟩ 0 8 c v2
          ∧ r.2.mem ((c.tc : Thread Cert.SwapIdeal.nD Cert.SwapIdeal.τ).loc Cert.SwapIdeal.main_v1_3) = Layout.block ⟨3, ![4, 704, 2048]⟩ ⟨3, ![32, 704, 2048]⟩ 0 8 c v3
          ∧ r.2.mem ((c.tc : Thread Cert.SwapIdeal.nD Cert.SwapIdeal.τ).loc Cert.SwapIdeal.main_v1_4) = Layout.block ⟨3, ![4, 1024, 1792]⟩ ⟨3, ![32, 1024, 1792]⟩ 0 8 c v4
          ∧ r.2.mem ((c.tc : Thread Cert.SwapIdeal.nD Cert.SwapIdeal.τ).loc Cert.SwapIdeal.main_v1_5) = Layout.block ⟨3, ![4, 256, 2048]⟩ ⟨3, ![32, 256, 2048]⟩ 0 8 c v5
          ∧ r.2.mem ((c.tc : Thread Cert.SwapIdeal.nD Cert.SwapIdeal.τ).loc Cert.SwapIdeal.main_v1_6) = Layout.block ⟨3, ![4, 1024, 2816]⟩ ⟨3, ![32, 1024, 2816]⟩ 0 8 c v6
          ∧ r.2.mem ((c.tc : Thread Cert.SwapIdeal.nD Cert.SwapIdeal.τ).loc Cert.SwapIdeal.main_v1_7) = Layout.block ⟨3, ![4, 704, 2048]⟩ ⟨3, ![32, 704, 2048]⟩ 0 8 c v7
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
          ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
          ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4)
          ∧ r.2.mem ((c.tc : Thread Cert.SwapIdeal.nD Cert.SwapIdeal.τ).loc Cert.SwapIdeal.main_arg5) = m ((c.tc : Thread Cert.SwapIdeal.nD Cert.SwapIdeal.τ).loc Cert.SwapIdeal.main_arg5)
          ∧ r.2.mem ((c.tc : Thread Cert.SwapIdeal.nD Cert.SwapIdeal.τ).loc Cert.SwapIdeal.main_arg6) = m ((c.tc : Thread Cert.SwapIdeal.nD Cert.SwapIdeal.τ).loc Cert.SwapIdeal.main_arg6)
          ∧ r.2.mem ((c.tc : Thread Cert.SwapIdeal.nD Cert.SwapIdeal.τ).loc Cert.SwapIdeal.main_arg7) = m ((c.tc : Thread Cert.SwapIdeal.nD Cert.SwapIdeal.τ).loc Cert.SwapIdeal.main_arg7))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_v17) = v1
          ∧ r.2.mem (((0 : Dev Cert.SwapRefIdeal.nD).tc : Thread Cert.SwapRefIdeal.nD Cert.SwapRefIdeal.τ).loc Cert.SwapRefIdeal.main_v26) = v2
          ∧ r.2.mem (((0 : Dev Cert.SwapRefIdeal.nD).tc : Thread Cert.SwapRefIdeal.nD Cert.SwapRefIdeal.τ).loc Cert.SwapRefIdeal.main_v35) = v3
          ∧ r.2.mem (((0 : Dev Cert.SwapRefIdeal.nD).tc : Thread Cert.SwapRefIdeal.nD Cert.SwapRefIdeal.τ).loc Cert.SwapRefIdeal.main_v44) = v4
          ∧ r.2.mem (((0 : Dev Cert.SwapRefIdeal.nD).tc : Thread Cert.SwapRefIdeal.nD Cert.SwapRefIdeal.τ).loc Cert.SwapRefIdeal.main_v53) = v5
          ∧ r.2.mem (((0 : Dev Cert.SwapRefIdeal.nD).tc : Thread Cert.SwapRefIdeal.nD Cert.SwapRefIdeal.τ).loc Cert.SwapRefIdeal.main_v62) = v6
          ∧ r.2.mem (((0 : Dev Cert.SwapRefIdeal.nD).tc : Thread Cert.SwapRefIdeal.nD Cert.SwapRefIdeal.τ).loc Cert.SwapRefIdeal.main_v71) = v7
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2)
          ∧ r.2.mem (((0 : Dev Cert.SwapRefIdeal.nD).tc : Thread Cert.SwapRefIdeal.nD Cert.SwapRefIdeal.τ).loc Cert.SwapRefIdeal.main_arg3) = m' (((0 : Dev Cert.SwapRefIdeal.nD).tc : Thread Cert.SwapRefIdeal.nD Cert.SwapRefIdeal.τ).loc Cert.SwapRefIdeal.main_arg3)
          ∧ r.2.mem (((0 : Dev Cert.SwapRefIdeal.nD).tc : Thread Cert.SwapRefIdeal.nD Cert.SwapRefIdeal.τ).loc Cert.SwapRefIdeal.main_arg4) = m' (((0 : Dev Cert.SwapRefIdeal.nD).tc : Thread Cert.SwapRefIdeal.nD Cert.SwapRefIdeal.τ).loc Cert.SwapRefIdeal.main_arg4)
          ∧ r.2.mem (((0 : Dev Cert.SwapRefIdeal.nD).tc : Thread Cert.SwapRefIdeal.nD Cert.SwapRefIdeal.τ).loc Cert.SwapRefIdeal.main_arg5) = m' (((0 : Dev Cert.SwapRefIdeal.nD).tc : Thread Cert.SwapRefIdeal.nD Cert.SwapRefIdeal.τ).loc Cert.SwapRefIdeal.main_arg5)
          ∧ r.2.mem (((0 : Dev Cert.SwapRefIdeal.nD).tc : Thread Cert.SwapRefIdeal.nD Cert.SwapRefIdeal.τ).loc Cert.SwapRefIdeal.main_arg6) = m' (((0 : Dev Cert.SwapRefIdeal.nD).tc : Thread Cert.SwapRefIdeal.nD Cert.SwapRefIdeal.τ).loc Cert.SwapRefIdeal.main_arg6)
          ∧ r.2.mem (((0 : Dev Cert.SwapRefIdeal.nD).tc : Thread Cert.SwapRefIdeal.nD Cert.SwapRefIdeal.τ).loc Cert.SwapRefIdeal.main_arg7) = m' (((0 : Dev Cert.SwapRefIdeal.nD).tc : Thread Cert.SwapRefIdeal.nD Cert.SwapRefIdeal.τ).loc Cert.SwapRefIdeal.main_arg7))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 2048, 1792]⟩ ⟨3, ![32, 2048, 1792]⟩ 0 8 c (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.block ⟨3, ![4, 512, 2048]⟩ ⟨3, ![32, 512, 2048]⟩ 0 8 c (m' (((0 : Dev Cert.SwapRef.nD).tc : Thread Cert.SwapRef.nD Cert.SwapRef.τ).loc Cert.SwapRef.main_arg1))
      ∧ m ((c.tc : Thread Cert.Swap.nD Cert.Swap.τ).loc Cert.Swap.main_arg2) = Layout.block ⟨3, ![4, 2048, 2816]⟩ ⟨3, ![32, 2048, 2816]⟩ 0 8 c (m' (((0 : Dev Cert.SwapRef.nD).tc : Thread Cert.SwapRef.nD Cert.SwapRef.τ).loc Cert.SwapRef.main_arg2))
      ∧ m ((c.tc : Thread Cert.Swap.nD Cert.Swap.τ).loc Cert.Swap.main_arg3) = Layout.block ⟨3, ![4, 1408, 2048]⟩ ⟨3, ![32, 1408, 2048]⟩ 0 8 c (m' (((0 : Dev Cert.SwapRef.nD).tc : Thread Cert.SwapRef.nD Cert.SwapRef.τ).loc Cert.SwapRef.main_arg3))
      ∧ m ((c.tc : Thread Cert.Swap.nD Cert.Swap.τ).loc Cert.Swap.main_arg4) = Layout.block ⟨3, ![4, 2048, 1792]⟩ ⟨3, ![32, 2048, 1792]⟩ 0 8 c (m' (((0 : Dev Cert.SwapRef.nD).tc : Thread Cert.SwapRef.nD Cert.SwapRef.τ).loc Cert.SwapRef.main_arg4))
      ∧ m ((c.tc : Thread Cert.Swap.nD Cert.Swap.τ).loc Cert.Swap.main_arg5) = Layout.block ⟨3, ![4, 512, 2048]⟩ ⟨3, ![32, 512, 2048]⟩ 0 8 c (m' (((0 : Dev Cert.SwapRef.nD).tc : Thread Cert.SwapRef.nD Cert.SwapRef.τ).loc Cert.SwapRef.main_arg5))
      ∧ m ((c.tc : Thread Cert.Swap.nD Cert.Swap.τ).loc Cert.Swap.main_arg6) = Layout.block ⟨3, ![4, 2048, 2816]⟩ ⟨3, ![32, 2048, 2816]⟩ 0 8 c (m' (((0 : Dev Cert.SwapRef.nD).tc : Thread Cert.SwapRef.nD Cert.SwapRef.τ).loc Cert.SwapRef.main_arg6))
      ∧ m ((c.tc : Thread Cert.Swap.nD Cert.Swap.τ).loc Cert.Swap.main_arg7) = Layout.block ⟨3, ![4, 1408, 2048]⟩ ⟨3, ![32, 1408, 2048]⟩ 0 8 c (m' (((0 : Dev Cert.SwapRef.nD).tc : Thread Cert.SwapRef.nD Cert.SwapRef.τ).loc Cert.SwapRef.main_arg7))) →
    ∃ (v0 : Buf (Elt Bits) (((0 : Dev Cert.SwapRef.nD).tc : Thread Cert.SwapRef.nD Cert.SwapRef.τ).loc Cert.SwapRef.main_v8)) (v1 : Buf (Elt Bits) (((0 : Dev Cert.SwapRef.nD).tc : Thread Cert.SwapRef.nD Cert.SwapRef.τ).loc Cert.SwapRef.main_v17)) (v2 : Buf (Elt Bits) (((0 : Dev Cert.SwapRef.nD).tc : Thread Cert.SwapRef.nD Cert.SwapRef.τ).loc Cert.SwapRef.main_v26)) (v3 : Buf (Elt Bits) (((0 : Dev Cert.SwapRef.nD).tc : Thread Cert.SwapRef.nD Cert.SwapRef.τ).loc Cert.SwapRef.main_v35)) (v4 : Buf (Elt Bits) (((0 : Dev Cert.SwapRef.nD).tc : Thread Cert.SwapRef.nD Cert.SwapRef.τ).loc Cert.SwapRef.main_v44)) (v5 : Buf (Elt Bits) (((0 : Dev Cert.SwapRef.nD).tc : Thread Cert.SwapRef.nD Cert.SwapRef.τ).loc Cert.SwapRef.main_v53)) (v6 : Buf (Elt Bits) (((0 : Dev Cert.SwapRef.nD).tc : Thread Cert.SwapRef.nD Cert.SwapRef.τ).loc Cert.SwapRef.main_v62)) (v7 : Buf (Elt Bits) (((0 : Dev Cert.SwapRef.nD).tc : Thread Cert.SwapRef.nD Cert.SwapRef.τ).loc Cert.SwapRef.main_v71)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 1024, 1792]⟩ ⟨3, ![32, 1024, 1792]⟩ 0 8 c v0
          ∧ r.2.mem ((c.tc : Thread Cert.Swap.nD Cert.Swap.τ).loc Cert.Swap.main_v1_1) = Layout.block ⟨3, ![4, 256, 2048]⟩ ⟨3, ![32, 256, 2048]⟩ 0 8 c v1
          ∧ r.2.mem ((c.tc : Thread Cert.Swap.nD Cert.Swap.τ).loc Cert.Swap.main_v1_2) = Layout.block ⟨3, ![4, 1024, 2816]⟩ ⟨3, ![32, 1024, 2816]⟩ 0 8 c v2
          ∧ r.2.mem ((c.tc : Thread Cert.Swap.nD Cert.Swap.τ).loc Cert.Swap.main_v1_3) = Layout.block ⟨3, ![4, 704, 2048]⟩ ⟨3, ![32, 704, 2048]⟩ 0 8 c v3
          ∧ r.2.mem ((c.tc : Thread Cert.Swap.nD Cert.Swap.τ).loc Cert.Swap.main_v1_4) = Layout.block ⟨3, ![4, 1024, 1792]⟩ ⟨3, ![32, 1024, 1792]⟩ 0 8 c v4
          ∧ r.2.mem ((c.tc : Thread Cert.Swap.nD Cert.Swap.τ).loc Cert.Swap.main_v1_5) = Layout.block ⟨3, ![4, 256, 2048]⟩ ⟨3, ![32, 256, 2048]⟩ 0 8 c v5
          ∧ r.2.mem ((c.tc : Thread Cert.Swap.nD Cert.Swap.τ).loc Cert.Swap.main_v1_6) = Layout.block ⟨3, ![4, 1024, 2816]⟩ ⟨3, ![32, 1024, 2816]⟩ 0 8 c v6
          ∧ r.2.mem ((c.tc : Thread Cert.Swap.nD Cert.Swap.τ).loc Cert.Swap.main_v1_7) = Layout.block ⟨3, ![4, 704, 2048]⟩ ⟨3, ![32, 704, 2048]⟩ 0 8 c v7
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2)
          ∧ r.2.mem ((c.tc : Thread Cert.Swap.nD Cert.Swap.τ).loc Cert.Swap.main_arg3) = m ((c.tc : Thread Cert.Swap.nD Cert.Swap.τ).loc Cert.Swap.main_arg3)
          ∧ r.2.mem ((c.tc : Thread Cert.Swap.nD Cert.Swap.τ).loc Cert.Swap.main_arg4) = m ((c.tc : Thread Cert.Swap.nD Cert.Swap.τ).loc Cert.Swap.main_arg4)
          ∧ r.2.mem ((c.tc : Thread Cert.Swap.nD Cert.Swap.τ).loc Cert.Swap.main_arg5) = m ((c.tc : Thread Cert.Swap.nD Cert.Swap.τ).loc Cert.Swap.main_arg5)
          ∧ r.2.mem ((c.tc : Thread Cert.Swap.nD Cert.Swap.τ).loc Cert.Swap.main_arg6) = m ((c.tc : Thread Cert.Swap.nD Cert.Swap.τ).loc Cert.Swap.main_arg6)
          ∧ r.2.mem ((c.tc : Thread Cert.Swap.nD Cert.Swap.τ).loc Cert.Swap.main_arg7) = m ((c.tc : Thread Cert.Swap.nD Cert.Swap.τ).loc Cert.Swap.main_arg7))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_v17) = v1
          ∧ r.2.mem (((0 : Dev Cert.SwapRef.nD).tc : Thread Cert.SwapRef.nD Cert.SwapRef.τ).loc Cert.SwapRef.main_v26) = v2
          ∧ r.2.mem (((0 : Dev Cert.SwapRef.nD).tc : Thread Cert.SwapRef.nD Cert.SwapRef.τ).loc Cert.SwapRef.main_v35) = v3
          ∧ r.2.mem (((0 : Dev Cert.SwapRef.nD).tc : Thread Cert.SwapRef.nD Cert.SwapRef.τ).loc Cert.SwapRef.main_v44) = v4
          ∧ r.2.mem (((0 : Dev Cert.SwapRef.nD).tc : Thread Cert.SwapRef.nD Cert.SwapRef.τ).loc Cert.SwapRef.main_v53) = v5
          ∧ r.2.mem (((0 : Dev Cert.SwapRef.nD).tc : Thread Cert.SwapRef.nD Cert.SwapRef.τ).loc Cert.SwapRef.main_v62) = v6
          ∧ r.2.mem (((0 : Dev Cert.SwapRef.nD).tc : Thread Cert.SwapRef.nD Cert.SwapRef.τ).loc Cert.SwapRef.main_v71) = v7
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1)
          ∧ r.2.mem (((0 : Dev Cert.SwapRef.nD).tc : Thread Cert.SwapRef.nD Cert.SwapRef.τ).loc Cert.SwapRef.main_arg2) = m' (((0 : Dev Cert.SwapRef.nD).tc : Thread Cert.SwapRef.nD Cert.SwapRef.τ).loc Cert.SwapRef.main_arg2)
          ∧ r.2.mem (((0 : Dev Cert.SwapRef.nD).tc : Thread Cert.SwapRef.nD Cert.SwapRef.τ).loc Cert.SwapRef.main_arg3) = m' (((0 : Dev Cert.SwapRef.nD).tc : Thread Cert.SwapRef.nD Cert.SwapRef.τ).loc Cert.SwapRef.main_arg3)
          ∧ r.2.mem (((0 : Dev Cert.SwapRef.nD).tc : Thread Cert.SwapRef.nD Cert.SwapRef.τ).loc Cert.SwapRef.main_arg4) = m' (((0 : Dev Cert.SwapRef.nD).tc : Thread Cert.SwapRef.nD Cert.SwapRef.τ).loc Cert.SwapRef.main_arg4)
          ∧ r.2.mem (((0 : Dev Cert.SwapRef.nD).tc : Thread Cert.SwapRef.nD Cert.SwapRef.τ).loc Cert.SwapRef.main_arg5) = m' (((0 : Dev Cert.SwapRef.nD).tc : Thread Cert.SwapRef.nD Cert.SwapRef.τ).loc Cert.SwapRef.main_arg5)
          ∧ r.2.mem (((0 : Dev Cert.SwapRef.nD).tc : Thread Cert.SwapRef.nD Cert.SwapRef.τ).loc Cert.SwapRef.main_arg6) = m' (((0 : Dev Cert.SwapRef.nD).tc : Thread Cert.SwapRef.nD Cert.SwapRef.τ).loc Cert.SwapRef.main_arg6)
          ∧ r.2.mem (((0 : Dev Cert.SwapRef.nD).tc : Thread Cert.SwapRef.nD Cert.SwapRef.τ).loc Cert.SwapRef.main_arg7) = m' (((0 : Dev Cert.SwapRef.nD).tc : Thread Cert.SwapRef.nD Cert.SwapRef.τ).loc Cert.SwapRef.main_arg7))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.blockN ⟨2, ![1024, 1792]⟩ ⟨2, ![2048, 7168]⟩ (Layout.meshBlock [2, 2, 2] ![[2], [0, 1]] c) (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![256, 2048]⟩ ⟨2, ![2048, 2048]⟩ 0 8 c (m' (((0 : Dev Cert.ShareRefIdeal.nD).tc : Thread Cert.ShareRefIdeal.nD Cert.ShareRefIdeal.τ).loc Cert.ShareRefIdeal.main_arg1))
      ∧ m ((c.tc : Thread Cert.ShareIdeal.nD Cert.ShareIdeal.τ).loc Cert.ShareIdeal.main_arg2) = Layout.blockN ⟨2, ![1024, 2816]⟩ ⟨2, ![2048, 11264]⟩ (Layout.meshBlock [2, 2, 2] ![[2], [0, 1]] c) (m' (((0 : Dev Cert.ShareRefIdeal.nD).tc : Thread Cert.ShareRefIdeal.nD Cert.ShareRefIdeal.τ).loc Cert.ShareRefIdeal.main_arg2))
      ∧ m ((c.tc : Thread Cert.ShareIdeal.nD Cert.ShareIdeal.τ).loc Cert.ShareIdeal.main_arg3) = Layout.block ⟨2, ![704, 2048]⟩ ⟨2, ![5632, 2048]⟩ 0 8 c (m' (((0 : Dev Cert.ShareRefIdeal.nD).tc : Thread Cert.ShareRefIdeal.nD Cert.ShareRefIdeal.τ).loc Cert.ShareRefIdeal.main_arg3))
      ∧ m ((c.tc : Thread Cert.ShareIdeal.nD Cert.ShareIdeal.τ).loc Cert.ShareIdeal.main_arg4) = Layout.blockN ⟨2, ![1024, 1792]⟩ ⟨2, ![2048, 7168]⟩ (Layout.meshBlock [2, 2, 2] ![[2], [0, 1]] c) (m' (((0 : Dev Cert.ShareRefIdeal.nD).tc : Thread Cert.ShareRefIdeal.nD Cert.ShareRefIdeal.τ).loc Cert.ShareRefIdeal.main_arg4))
      ∧ m ((c.tc : Thread Cert.ShareIdeal.nD Cert.ShareIdeal.τ).loc Cert.ShareIdeal.main_arg5) = Layout.block ⟨2, ![256, 2048]⟩ ⟨2, ![2048, 2048]⟩ 0 8 c (m' (((0 : Dev Cert.ShareRefIdeal.nD).tc : Thread Cert.ShareRefIdeal.nD Cert.ShareRefIdeal.τ).loc Cert.ShareRefIdeal.main_arg5))
      ∧ m ((c.tc : Thread Cert.ShareIdeal.nD Cert.ShareIdeal.τ).loc Cert.ShareIdeal.main_arg6) = Layout.blockN ⟨2, ![1024, 2816]⟩ ⟨2, ![2048, 11264]⟩ (Layout.meshBlock [2, 2, 2] ![[2], [0, 1]] c) (m' (((0 : Dev Cert.ShareRefIdeal.nD).tc : Thread Cert.ShareRefIdeal.nD Cert.ShareRefIdeal.τ).loc Cert.ShareRefIdeal.main_arg6))
      ∧ m ((c.tc : Thread Cert.ShareIdeal.nD Cert.ShareIdeal.τ).loc Cert.ShareIdeal.main_arg7) = Layout.block ⟨2, ![704, 2048]⟩ ⟨2, ![5632, 2048]⟩ 0 8 c (m' (((0 : Dev Cert.ShareRefIdeal.nD).tc : Thread Cert.ShareRefIdeal.nD Cert.ShareRefIdeal.τ).loc Cert.ShareRefIdeal.main_arg7))) →
    ∃ (v0 : Buf (Elt Ideal) (((0 : Dev Cert.ShareRefIdeal.nD).tc : Thread Cert.ShareRefIdeal.nD Cert.ShareRefIdeal.τ).loc Cert.ShareRefIdeal.main_v0)) (v1 : Buf (Elt Ideal) (((0 : Dev Cert.ShareRefIdeal.nD).tc : Thread Cert.ShareRefIdeal.nD Cert.ShareRefIdeal.τ).loc Cert.ShareRefIdeal.main_v1)) (v2 : Buf (Elt Ideal) (((0 : Dev Cert.ShareRefIdeal.nD).tc : Thread Cert.ShareRefIdeal.nD Cert.ShareRefIdeal.τ).loc Cert.ShareRefIdeal.main_v2)) (v3 : Buf (Elt Ideal) (((0 : Dev Cert.ShareRefIdeal.nD).tc : Thread Cert.ShareRefIdeal.nD Cert.ShareRefIdeal.τ).loc Cert.ShareRefIdeal.main_v3)) (v4 : Buf (Elt Ideal) (((0 : Dev Cert.ShareRefIdeal.nD).tc : Thread Cert.ShareRefIdeal.nD Cert.ShareRefIdeal.τ).loc Cert.ShareRefIdeal.main_v4)) (v5 : Buf (Elt Ideal) (((0 : Dev Cert.ShareRefIdeal.nD).tc : Thread Cert.ShareRefIdeal.nD Cert.ShareRefIdeal.τ).loc Cert.ShareRefIdeal.main_v5)) (v6 : Buf (Elt Ideal) (((0 : Dev Cert.ShareRefIdeal.nD).tc : Thread Cert.ShareRefIdeal.nD Cert.ShareRefIdeal.τ).loc Cert.ShareRefIdeal.main_v6)) (v7 : Buf (Elt Ideal) (((0 : Dev Cert.ShareRefIdeal.nD).tc : Thread Cert.ShareRefIdeal.nD Cert.ShareRefIdeal.τ).loc Cert.ShareRefIdeal.main_v7)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 1024, 1792]⟩ ⟨3, ![2, 1024, 7168]⟩ (Layout.meshBlock [2, 2, 2] ![[], [], [0, 1]] c) v0
          ∧ r.2.mem ((c.tc : Thread Cert.ShareIdeal.nD Cert.ShareIdeal.τ).loc Cert.ShareIdeal.main_v1_1) = Layout.blockN ⟨3, ![2, 256, 2048]⟩ ⟨3, ![8, 256, 2048]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 1024, 2816]⟩ ⟨3, ![2, 1024, 11264]⟩ (Layout.meshBlock [2, 2, 2] ![[], [], [0, 1]] c) v2
          ∧ r.2.mem ((c.tc : Thread Cert.ShareIdeal.nD Cert.ShareIdeal.τ).loc Cert.ShareIdeal.main_v1_3) = Layout.blockN ⟨3, ![2, 704, 2048]⟩ ⟨3, ![8, 704, 2048]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 1024, 1792]⟩ ⟨3, ![2, 1024, 7168]⟩ (Layout.meshBlock [2, 2, 2] ![[], [], [0, 1]] c) v4
          ∧ r.2.mem ((c.tc : Thread Cert.ShareIdeal.nD Cert.ShareIdeal.τ).loc Cert.ShareIdeal.main_v1_5) = Layout.blockN ⟨3, ![2, 256, 2048]⟩ ⟨3, ![8, 256, 2048]⟩ (Layout.meshBlock [2, 2, 2] ![[0, 1], [], []] c) v5
          ∧ r.2.mem ((c.tc : Thread Cert.ShareIdeal.nD Cert.ShareIdeal.τ).loc Cert.ShareIdeal.main_v1_6) = Layout.blockN ⟨3, ![2, 1024, 2816]⟩ ⟨3, ![2, 1024, 11264]⟩ (Layout.meshBlock [2, 2, 2] ![[], [], [0, 1]] c) v6
          ∧ r.2.mem ((c.tc : Thread Cert.ShareIdeal.nD Cert.ShareIdeal.τ).loc Cert.ShareIdeal.main_v1_7) = Layout.blockN ⟨3, ![2, 704, 2048]⟩ ⟨3, ![8, 704, 2048]⟩ (Layout.meshBlock [2, 2, 2] ![[0, 1], [], []] c) v7
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
          ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
          ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
          ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_v1) = v1
          ∧ r.2.mem (((0 : Dev Cert.ShareRefIdeal.nD).tc : Thread Cert.ShareRefIdeal.nD Cert.ShareRefIdeal.τ).loc Cert.ShareRefIdeal.main_v2) = v2
          ∧ r.2.mem (((0 : Dev Cert.ShareRefIdeal.nD).tc : Thread Cert.ShareRefIdeal.nD Cert.ShareRefIdeal.τ).loc Cert.ShareRefIdeal.main_v3) = v3
          ∧ r.2.mem (((0 : Dev Cert.ShareRefIdeal.nD).tc : Thread Cert.ShareRefIdeal.nD Cert.ShareRefIdeal.τ).loc Cert.ShareRefIdeal.main_v4) = v4
          ∧ r.2.mem (((0 : Dev Cert.ShareRefIdeal.nD).tc : Thread Cert.ShareRefIdeal.nD Cert.ShareRefIdeal.τ).loc Cert.ShareRefIdeal.main_v5) = v5
          ∧ r.2.mem (((0 : Dev Cert.ShareRefIdeal.nD).tc : Thread Cert.ShareRefIdeal.nD Cert.ShareRefIdeal.τ).loc Cert.ShareRefIdeal.main_v6) = v6
          ∧ r.2.mem (((0 : Dev Cert.ShareRefIdeal.nD).tc : Thread Cert.ShareRefIdeal.nD Cert.ShareRefIdeal.τ).loc Cert.ShareRefIdeal.main_v7) = v7
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1)
          ∧ r.2.mem (((0 : Dev Cert.ShareRefIdeal.nD).tc : Thread Cert.ShareRefIdeal.nD Cert.ShareRefIdeal.τ).loc Cert.ShareRefIdeal.main_arg2) = m' (((0 : Dev Cert.ShareRefIdeal.nD).tc : Thread Cert.ShareRefIdeal.nD Cert.ShareRefIdeal.τ).loc Cert.ShareRefIdeal.main_arg2)
          ∧ r.2.mem (((0 : Dev Cert.ShareRefIdeal.nD).tc : Thread Cert.ShareRefIdeal.nD Cert.ShareRefIdeal.τ).loc Cert.ShareRefIdeal.main_arg3) = m' (((0 : Dev Cert.ShareRefIdeal.nD).tc : Thread Cert.ShareRefIdeal.nD Cert.ShareRefIdeal.τ).loc Cert.ShareRefIdeal.main_arg3)
          ∧ r.2.mem (((0 : Dev Cert.ShareRefIdeal.nD).tc : Thread Cert.ShareRefIdeal.nD Cert.ShareRefIdeal.τ).loc Cert.ShareRefIdeal.main_arg4) = m' (((0 : Dev Cert.ShareRefIdeal.nD).tc : Thread Cert.ShareRefIdeal.nD Cert.ShareRefIdeal.τ).loc Cert.ShareRefIdeal.main_arg4)
          ∧ r.2.mem (((0 : Dev Cert.ShareRefIdeal.nD).tc : Thread Cert.ShareRefIdeal.nD Cert.ShareRefIdeal.τ).loc Cert.ShareRefIdeal.main_arg5) = m' (((0 : Dev Cert.ShareRefIdeal.nD).tc : Thread Cert.ShareRefIdeal.nD Cert.ShareRefIdeal.τ).loc Cert.ShareRefIdeal.main_arg5)
          ∧ r.2.mem (((0 : Dev Cert.ShareRefIdeal.nD).tc : Thread Cert.ShareRefIdeal.nD Cert.ShareRefIdeal.τ).loc Cert.ShareRefIdeal.main_arg6) = m' (((0 : Dev Cert.ShareRefIdeal.nD).tc : Thread Cert.ShareRefIdeal.nD Cert.ShareRefIdeal.τ).loc Cert.ShareRefIdeal.main_arg6)
          ∧ r.2.mem (((0 : Dev Cert.ShareRefIdeal.nD).tc : Thread Cert.ShareRefIdeal.nD Cert.ShareRefIdeal.τ).loc Cert.ShareRefIdeal.main_arg7) = m' (((0 : Dev Cert.ShareRefIdeal.nD).tc : Thread Cert.ShareRefIdeal.nD Cert.ShareRefIdeal.τ).loc Cert.ShareRefIdeal.main_arg7))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.blockN ⟨2, ![1024, 1792]⟩ ⟨2, ![2048, 7168]⟩ (Layout.meshBlock [2, 2, 2] ![[2], [0, 1]] c) (m' (((0 : Dev Cert.ShareRef.nD).tc : Thread Cert.ShareRef.nD Cert.ShareRef.τ).loc Cert.ShareRef.main_arg0))
      ∧ m ((c.tc : Thread Cert.Share.nD Cert.Share.τ).loc Cert.Share.main_arg1) = Layout.block ⟨2, ![256, 2048]⟩ ⟨2, ![2048, 2048]⟩ 0 8 c (m' (((0 : Dev Cert.ShareRef.nD).tc : Thread Cert.ShareRef.nD Cert.ShareRef.τ).loc Cert.ShareRef.main_arg1))
      ∧ m ((c.tc : Thread Cert.Share.nD Cert.Share.τ).loc Cert.Share.main_arg2) = Layout.blockN ⟨2, ![1024, 2816]⟩ ⟨2, ![2048, 11264]⟩ (Layout.meshBlock [2, 2, 2] ![[2], [0, 1]] c) (m' (((0 : Dev Cert.ShareRef.nD).tc : Thread Cert.ShareRef.nD Cert.ShareRef.τ).loc Cert.ShareRef.main_arg2))
      ∧ m ((c.tc : Thread Cert.Share.nD Cert.Share.τ).loc Cert.Share.main_arg3) = Layout.block ⟨2, ![704, 2048]⟩ ⟨2, ![5632, 2048]⟩ 0 8 c (m' (((0 : Dev Cert.ShareRef.nD).tc : Thread Cert.ShareRef.nD Cert.ShareRef.τ).loc Cert.ShareRef.main_arg3))
      ∧ m ((c.tc : Thread Cert.Share.nD Cert.Share.τ).loc Cert.Share.main_arg4) = Layout.blockN ⟨2, ![1024, 1792]⟩ ⟨2, ![2048, 7168]⟩ (Layout.meshBlock [2, 2, 2] ![[2], [0, 1]] c) (m' (((0 : Dev Cert.ShareRef.nD).tc : Thread Cert.ShareRef.nD Cert.ShareRef.τ).loc Cert.ShareRef.main_arg4))
      ∧ m ((c.tc : Thread Cert.Share.nD Cert.Share.τ).loc Cert.Share.main_arg5) = Layout.block ⟨2, ![256, 2048]⟩ ⟨2, ![2048, 2048]⟩ 0 8 c (m' (((0 : Dev Cert.ShareRef.nD).tc : Thread Cert.ShareRef.nD Cert.ShareRef.τ).loc Cert.ShareRef.main_arg5))
      ∧ m ((c.tc : Thread Cert.Share.nD Cert.Share.τ).loc Cert.Share.main_arg6) = Layout.blockN ⟨2, ![1024, 2816]⟩ ⟨2, ![2048, 11264]⟩ (Layout.meshBlock [2, 2, 2] ![[2], [0, 1]] c) (m' (((0 : Dev Cert.ShareRef.nD).tc : Thread Cert.ShareRef.nD Cert.ShareRef.τ).loc Cert.ShareRef.main_arg6))
      ∧ m ((c.tc : Thread Cert.Share.nD Cert.Share.τ).loc Cert.Share.main_arg7) = Layout.block ⟨2, ![704, 2048]⟩ ⟨2, ![5632, 2048]⟩ 0 8 c (m' (((0 : Dev Cert.ShareRef.nD).tc : Thread Cert.ShareRef.nD Cert.ShareRef.τ).loc Cert.ShareRef.main_arg7))) →
    ∃ (v0 : Buf (Elt Bits) (((0 : Dev Cert.ShareRef.nD).tc : Thread Cert.ShareRef.nD Cert.ShareRef.τ).loc Cert.ShareRef.main_v0)) (v1 : Buf (Elt Bits) (((0 : Dev Cert.ShareRef.nD).tc : Thread Cert.ShareRef.nD Cert.ShareRef.τ).loc Cert.ShareRef.main_v1)) (v2 : Buf (Elt Bits) (((0 : Dev Cert.ShareRef.nD).tc : Thread Cert.ShareRef.nD Cert.ShareRef.τ).loc Cert.ShareRef.main_v2)) (v3 : Buf (Elt Bits) (((0 : Dev Cert.ShareRef.nD).tc : Thread Cert.ShareRef.nD Cert.ShareRef.τ).loc Cert.ShareRef.main_v3)) (v4 : Buf (Elt Bits) (((0 : Dev Cert.ShareRef.nD).tc : Thread Cert.ShareRef.nD Cert.ShareRef.τ).loc Cert.ShareRef.main_v4)) (v5 : Buf (Elt Bits) (((0 : Dev Cert.ShareRef.nD).tc : Thread Cert.ShareRef.nD Cert.ShareRef.τ).loc Cert.ShareRef.main_v5)) (v6 : Buf (Elt Bits) (((0 : Dev Cert.ShareRef.nD).tc : Thread Cert.ShareRef.nD Cert.ShareRef.τ).loc Cert.ShareRef.main_v6)) (v7 : Buf (Elt Bits) (((0 : Dev Cert.ShareRef.nD).tc : Thread Cert.ShareRef.nD Cert.ShareRef.τ).loc Cert.ShareRef.main_v7)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨3, ![2, 1024, 1792]⟩ ⟨3, ![2, 1024, 7168]⟩ (Layout.meshBlock [2, 2, 2] ![[], [], [0, 1]] c) v0
          ∧ r.2.mem ((c.tc : Thread Cert.Share.nD Cert.Share.τ).loc Cert.Share.main_v1_1) = Layout.blockN ⟨3, ![2, 256, 2048]⟩ ⟨3, ![8, 256, 2048]⟩ (Layout.meshBlock [2, 2, 2] ![[0, 1], [], []] c) v1
          ∧ r.2.mem ((c.tc : Thread Cert.Share.nD Cert.Share.τ).loc Cert.Share.main_v1_2) = Layout.blockN ⟨3, ![2, 1024, 2816]⟩ ⟨3, ![2, 1024, 11264]⟩ (Layout.meshBlock [2, 2, 2] ![[], [], [0, 1]] c) v2
          ∧ r.2.mem ((c.tc : Thread Cert.Share.nD Cert.Share.τ).loc Cert.Share.main_v1_3) = Layout.blockN ⟨3, ![2, 704, 2048]⟩ ⟨3, ![8, 704, 2048]⟩ (Layout.meshBlock [2, 2, 2] ![[0, 1], [], []] c) v3
          ∧ r.2.mem ((c.tc : Thread Cert.Share.nD Cert.Share.τ).loc Cert.Share.main_v1_4) = Layout.blockN ⟨3, ![2, 1024, 1792]⟩ ⟨3, ![2, 1024, 7168]⟩ (Layout.meshBlock [2, 2, 2] ![[], [], [0, 1]] c) v4
          ∧ r.2.mem ((c.tc : Thread Cert.Share.nD Cert.Share.τ).loc Cert.Share.main_v1_5) = Layout.blockN ⟨3, ![2, 256, 2048]⟩ ⟨3, ![8, 256, 2048]⟩ (Layout.meshBlock [2, 2, 2] ![[0, 1], [], []] c) v5
          ∧ r.2.mem ((c.tc : Thread Cert.Share.nD Cert.Share.τ).loc Cert.Share.main_v1_6) = Layout.blockN ⟨3, ![2, 1024, 2816]⟩ ⟨3, ![2, 1024, 11264]⟩ (Layout.meshBlock [2, 2, 2] ![[], [], [0, 1]] c) v6
          ∧ r.2.mem ((c.tc : Thread Cert.Share.nD Cert.Share.τ).loc Cert.Share.main_v1_7) = Layout.blockN ⟨3, ![2, 704, 2048]⟩ ⟨3, ![8, 704, 2048]⟩ (Layout.meshBlock [2, 2, 2] ![[0, 1], [], []] c) v7
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1)
          ∧ r.2.mem ((c.tc : Thread Cert.Share.nD Cert.Share.τ).loc Cert.Share.main_arg2) = m ((c.tc : Thread Cert.Share.nD Cert.Share.τ).loc Cert.Share.main_arg2)
          ∧ r.2.mem ((c.tc : Thread Cert.Share.nD Cert.Share.τ).loc Cert.Share.main_arg3) = m ((c.tc : Thread Cert.Share.nD Cert.Share.τ).loc Cert.Share.main_arg3)
          ∧ r.2.mem ((c.tc : Thread Cert.Share.nD Cert.Share.τ).loc Cert.Share.main_arg4) = m ((c.tc : Thread Cert.Share.nD Cert.Share.τ).loc Cert.Share.main_arg4)
          ∧ r.2.mem ((c.tc : Thread Cert.Share.nD Cert.Share.τ).loc Cert.Share.main_arg5) = m ((c.tc : Thread Cert.Share.nD Cert.Share.τ).loc Cert.Share.main_arg5)
          ∧ r.2.mem ((c.tc : Thread Cert.Share.nD Cert.Share.τ).loc Cert.Share.main_arg6) = m ((c.tc : Thread Cert.Share.nD Cert.Share.τ).loc Cert.Share.main_arg6)
          ∧ r.2.mem ((c.tc : Thread Cert.Share.nD Cert.Share.τ).loc Cert.Share.main_arg7) = m ((c.tc : Thread Cert.Share.nD Cert.Share.τ).loc Cert.Share.main_arg7))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_v1) = v1
          ∧ r.2.mem (((0 : Dev Cert.ShareRef.nD).tc : Thread Cert.ShareRef.nD Cert.ShareRef.τ).loc Cert.ShareRef.main_v2) = v2
          ∧ r.2.mem (((0 : Dev Cert.ShareRef.nD).tc : Thread Cert.ShareRef.nD Cert.ShareRef.τ).loc Cert.ShareRef.main_v3) = v3
          ∧ r.2.mem (((0 : Dev Cert.ShareRef.nD).tc : Thread Cert.ShareRef.nD Cert.ShareRef.τ).loc Cert.ShareRef.main_v4) = v4
          ∧ r.2.mem (((0 : Dev Cert.ShareRef.nD).tc : Thread Cert.ShareRef.nD Cert.ShareRef.τ).loc Cert.ShareRef.main_v5) = v5
          ∧ r.2.mem (((0 : Dev Cert.ShareRef.nD).tc : Thread Cert.ShareRef.nD Cert.ShareRef.τ).loc Cert.ShareRef.main_v6) = v6
          ∧ r.2.mem (((0 : Dev Cert.ShareRef.nD).tc : Thread Cert.ShareRef.nD Cert.ShareRef.τ).loc Cert.ShareRef.main_v7) = v7
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0)
          ∧ r.2.mem (((0 : Dev Cert.ShareRef.nD).tc : Thread Cert.ShareRef.nD Cert.ShareRef.τ).loc Cert.ShareRef.main_arg1) = m' (((0 : Dev Cert.ShareRef.nD).tc : Thread Cert.ShareRef.nD Cert.ShareRef.τ).loc Cert.ShareRef.main_arg1)
          ∧ r.2.mem (((0 : Dev Cert.ShareRef.nD).tc : Thread Cert.ShareRef.nD Cert.ShareRef.τ).loc Cert.ShareRef.main_arg2) = m' (((0 : Dev Cert.ShareRef.nD).tc : Thread Cert.ShareRef.nD Cert.ShareRef.τ).loc Cert.ShareRef.main_arg2)
          ∧ r.2.mem (((0 : Dev Cert.ShareRef.nD).tc : Thread Cert.ShareRef.nD Cert.ShareRef.τ).loc Cert.ShareRef.main_arg3) = m' (((0 : Dev Cert.ShareRef.nD).tc : Thread Cert.ShareRef.nD Cert.ShareRef.τ).loc Cert.ShareRef.main_arg3)
          ∧ r.2.mem (((0 : Dev Cert.ShareRef.nD).tc : Thread Cert.ShareRef.nD Cert.ShareRef.τ).loc Cert.ShareRef.main_arg4) = m' (((0 : Dev Cert.ShareRef.nD).tc : Thread Cert.ShareRef.nD Cert.ShareRef.τ).loc Cert.ShareRef.main_arg4)
          ∧ r.2.mem (((0 : Dev Cert.ShareRef.nD).tc : Thread Cert.ShareRef.nD Cert.ShareRef.τ).loc Cert.ShareRef.main_arg5) = m' (((0 : Dev Cert.ShareRef.nD).tc : Thread Cert.ShareRef.nD Cert.ShareRef.τ).loc Cert.ShareRef.main_arg5)
          ∧ r.2.mem (((0 : Dev Cert.ShareRef.nD).tc : Thread Cert.ShareRef.nD Cert.ShareRef.τ).loc Cert.ShareRef.main_arg6) = m' (((0 : Dev Cert.ShareRef.nD).tc : Thread Cert.ShareRef.nD Cert.ShareRef.τ).loc Cert.ShareRef.main_arg6)
          ∧ r.2.mem (((0 : Dev Cert.ShareRef.nD).tc : Thread Cert.ShareRef.nD Cert.ShareRef.τ).loc Cert.ShareRef.main_arg7) = m' (((0 : Dev Cert.ShareRef.nD).tc : Thread Cert.ShareRef.nD Cert.ShareRef.τ).loc Cert.ShareRef.main_arg7))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_GradAda_GradAdaIdeal : Prop :=
  True

def algebraic_GradAdaIdeal_GradAdaRefIdeal [hGradAdaIdeal : Cert.GradAdaIdeal.Facts] [hGradAdaRefIdeal : Cert.GradAdaRefIdeal.Facts] : Prop :=
  ∀ (m : (ℓ : Loc Cert.GradAdaIdeal.nD Cert.GradAdaIdeal.τ Cert.GradAdaIdeal.sig) → Buf (Elt Ideal) ℓ) (g : Dev Cert.GradAdaIdeal.nD → PrngReg)
    (m' : (ℓ : Loc Cert.GradAdaRefIdeal.nD Cert.GradAdaRefIdeal.τ Cert.GradAdaRefIdeal.sig) → Buf (Elt Ideal) ℓ) (g' : Dev Cert.GradAdaRefIdeal.nD → PrngReg), Pre_GradAdaIdeal m →
    (∀ c : Dev Cert.GradAdaIdeal.nD,
      m' ((c.tc : Thread Cert.GradAdaRefIdeal.nD Cert.GradAdaRefIdeal.τ).loc Cert.GradAdaRefIdeal.main_arg0) = m ((c.tc : Thread Cert.GradAdaIdeal.nD Cert.GradAdaIdeal.τ).loc Cert.GradAdaIdeal.main_arg0)
      ∧ m' ((c.tc : Thread Cert.GradAdaRefIdeal.nD Cert.GradAdaRefIdeal.τ).loc Cert.GradAdaRefIdeal.main_arg1) = m ((c.tc : Thread Cert.GradAdaIdeal.nD Cert.GradAdaIdeal.τ).loc Cert.GradAdaIdeal.main_arg1)) →
    ∃ (v0 : (c : Dev Cert.GradAdaIdeal.nD) → Buf (Elt Ideal) ((c.tc : Thread Cert.GradAdaIdeal.nD Cert.GradAdaIdeal.τ).loc Cert.GradAdaIdeal.main_v0)),
      θ_run (Cert.GradAdaIdeal.defs (F := Ideal)) (onTc (τ := Cert.GradAdaIdeal.τ) (Cert.GradAdaIdeal.main (F := Ideal))) ⟨m, fun _ => 0, g⟩ (fun r => ∀ c : Dev Cert.GradAdaIdeal.nD,
          r.2.mem ((c.tc : Thread Cert.GradAdaIdeal.nD Cert.GradAdaIdeal.τ).loc Cert.GradAdaIdeal.main_v0) = v0 c
          ∧ r.2.mem ((c.tc : Thread Cert.GradAdaIdeal.nD Cert.GradAdaIdeal.τ).loc Cert.GradAdaIdeal.main_arg0) = m ((c.tc : Thread Cert.GradAdaIdeal.nD Cert.GradAdaIdeal.τ).loc Cert.GradAdaIdeal.main_arg0)
          ∧ r.2.mem ((c.tc : Thread Cert.GradAdaIdeal.nD Cert.GradAdaIdeal.τ).loc Cert.GradAdaIdeal.main_arg1) = m ((c.tc : Thread Cert.GradAdaIdeal.nD Cert.GradAdaIdeal.τ).loc Cert.GradAdaIdeal.main_arg1))
      ∧ θ_run (Cert.GradAdaRefIdeal.defs (F := Ideal)) (onTc (τ := Cert.GradAdaRefIdeal.τ) (Cert.GradAdaRefIdeal.main (F := Ideal))) ⟨m', fun _ => 0, g'⟩ (fun r => ∀ c : Dev Cert.GradAdaRefIdeal.nD,
          r.2.mem ((c.tc : Thread Cert.GradAdaRefIdeal.nD Cert.GradAdaRefIdeal.τ).loc Cert.GradAdaRefIdeal.main_v2) = v0 c
          ∧ r.2.mem ((c.tc : Thread Cert.GradAdaRefIdeal.nD Cert.GradAdaRefIdeal.τ).loc Cert.GradAdaRefIdeal.main_arg0) = m' ((c.tc : Thread Cert.GradAdaRefIdeal.nD Cert.GradAdaRefIdeal.τ).loc Cert.GradAdaRefIdeal.main_arg0)
          ∧ r.2.mem ((c.tc : Thread Cert.GradAdaRefIdeal.nD Cert.GradAdaRefIdeal.τ).loc Cert.GradAdaRefIdeal.main_arg1) = m' ((c.tc : Thread Cert.GradAdaRefIdeal.nD Cert.GradAdaRefIdeal.τ).loc Cert.GradAdaRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v5) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v5) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v5) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_PairIn0_PairIn0Ideal : Prop :=
  True

def algebraic_PairIn0Ideal_PairIn0RefIdeal [hPairIn0Ideal : Cert.PairIn0Ideal.Facts] [hPairIn0RefIdeal : Cert.PairIn0RefIdeal.Facts] : Prop :=
  ∀ (m : (ℓ : Loc Cert.PairIn0Ideal.nD Cert.PairIn0Ideal.τ Cert.PairIn0Ideal.sig) → Buf (Elt Ideal) ℓ) (g : Dev Cert.PairIn0Ideal.nD → PrngReg)
    (m' : (ℓ : Loc Cert.PairIn0RefIdeal.nD Cert.PairIn0RefIdeal.τ Cert.PairIn0RefIdeal.sig) → Buf (Elt Ideal) ℓ) (g' : Dev Cert.PairIn0RefIdeal.nD → PrngReg), Pre_PairIn0Ideal m →
    (∀ c : Dev Cert.PairIn0Ideal.nD,
      m' ((c.tc : Thread Cert.PairIn0RefIdeal.nD Cert.PairIn0RefIdeal.τ).loc Cert.PairIn0RefIdeal.main_arg0) = m ((c.tc : Thread Cert.PairIn0Ideal.nD Cert.PairIn0Ideal.τ).loc Cert.PairIn0Ideal.main_arg0)
      ∧ m' ((c.tc : Thread Cert.PairIn0RefIdeal.nD Cert.PairIn0RefIdeal.τ).loc Cert.PairIn0RefIdeal.main_arg1) = m ((c.tc : Thread Cert.PairIn0Ideal.nD Cert.PairIn0Ideal.τ).loc Cert.PairIn0Ideal.main_arg1)) →
    ∃ (v0 : (c : Dev Cert.PairIn0Ideal.nD) → Buf (Elt Ideal) ((c.tc : Thread Cert.PairIn0Ideal.nD Cert.PairIn0Ideal.τ).loc Cert.PairIn0Ideal.main_v1)),
      θ_run (Cert.PairIn0Ideal.defs (F := Ideal)) (onTc (τ := Cert.PairIn0Ideal.τ) (Cert.PairIn0Ideal.main (F := Ideal))) ⟨m, fun _ => 0, g⟩ (fun r => ∀ c : Dev Cert.PairIn0Ideal.nD,
          r.2.mem ((c.tc : Thread Cert.PairIn0Ideal.nD Cert.PairIn0Ideal.τ).loc Cert.PairIn0Ideal.main_v1) = v0 c
          ∧ r.2.mem ((c.tc : Thread Cert.PairIn0Ideal.nD Cert.PairIn0Ideal.τ).loc Cert.PairIn0Ideal.main_arg0) = m ((c.tc : Thread Cert.PairIn0Ideal.nD Cert.PairIn0Ideal.τ).loc Cert.PairIn0Ideal.main_arg0)
          ∧ r.2.mem ((c.tc : Thread Cert.PairIn0Ideal.nD Cert.PairIn0Ideal.τ).loc Cert.PairIn0Ideal.main_arg1) = m ((c.tc : Thread Cert.PairIn0Ideal.nD Cert.PairIn0Ideal.τ).loc Cert.PairIn0Ideal.main_arg1))
      ∧ θ_run (Cert.PairIn0RefIdeal.defs (F := Ideal)) (onTc (τ := Cert.PairIn0RefIdeal.τ) (Cert.PairIn0RefIdeal.main (F := Ideal))) ⟨m', fun _ => 0, g'⟩ (fun r => ∀ c : Dev Cert.PairIn0RefIdeal.nD,
          r.2.mem ((c.tc : Thread Cert.PairIn0RefIdeal.nD Cert.PairIn0RefIdeal.τ).loc Cert.PairIn0RefIdeal.main_v5) = v0 c
          ∧ r.2.mem ((c.tc : Thread Cert.PairIn0RefIdeal.nD Cert.PairIn0RefIdeal.τ).loc Cert.PairIn0RefIdeal.main_arg0) = m' ((c.tc : Thread Cert.PairIn0RefIdeal.nD Cert.PairIn0RefIdeal.τ).loc Cert.PairIn0RefIdeal.main_arg0)
          ∧ r.2.mem ((c.tc : Thread Cert.PairIn0RefIdeal.nD Cert.PairIn0RefIdeal.τ).loc Cert.PairIn0RefIdeal.main_arg1) = m' ((c.tc : Thread Cert.PairIn0RefIdeal.nD Cert.PairIn0RefIdeal.τ).loc Cert.PairIn0RefIdeal.main_arg1))

def bitexact_PairIn0_PairIn0Ref [hPairIn0 : Cert.PairIn0.Facts] [hPairIn0Ref : Cert.PairIn0Ref.Facts] : Prop :=
  ∀ (m : (ℓ : Loc Cert.PairIn0.nD Cert.PairIn0.τ Cert.PairIn0.sig) → Buf (Elt Bits) ℓ) (g : Dev Cert.PairIn0.nD → PrngReg)
    (m' : (ℓ : Loc Cert.PairIn0Ref.nD Cert.PairIn0Ref.τ Cert.PairIn0Ref.sig) → Buf (Elt Bits) ℓ) (g' : Dev Cert.PairIn0Ref.nD → PrngReg), Pre_PairIn0 m →
    (∀ c : Dev Cert.PairIn0.nD,
      m' ((c.tc : Thread Cert.PairIn0Ref.nD Cert.PairIn0Ref.τ).loc Cert.PairIn0Ref.main_arg0) = m ((c.tc : Thread Cert.PairIn0.nD Cert.PairIn0.τ).loc Cert.PairIn0.main_arg0)
      ∧ m' ((c.tc : Thread Cert.PairIn0Ref.nD Cert.PairIn0Ref.τ).loc Cert.PairIn0Ref.main_arg1) = m ((c.tc : Thread Cert.PairIn0.nD Cert.PairIn0.τ).loc Cert.PairIn0.main_arg1)) →
    ∃ (v0 : (c : Dev Cert.PairIn0.nD) → Buf (Elt Bits) ((c.tc : Thread Cert.PairIn0.nD Cert.PairIn0.τ).loc Cert.PairIn0.main_v1)),
      θ_run (Cert.PairIn0.defs (F := Bits)) (onTc (τ := Cert.PairIn0.τ) (Cert.PairIn0.main (F := Bits))) ⟨m, fun _ => 0, g⟩ (fun r => ∀ c : Dev Cert.PairIn0.nD,
          r.2.mem ((c.tc : Thread Cert.PairIn0.nD Cert.PairIn0.τ).loc Cert.PairIn0.main_v1) = v0 c
          ∧ r.2.mem ((c.tc : Thread Cert.PairIn0.nD Cert.PairIn0.τ).loc Cert.PairIn0.main_arg0) = m ((c.tc : Thread Cert.PairIn0.nD Cert.PairIn0.τ).loc Cert.PairIn0.main_arg0)
          ∧ r.2.mem ((c.tc : Thread Cert.PairIn0.nD Cert.PairIn0.τ).loc Cert.PairIn0.main_arg1) = m ((c.tc : Thread Cert.PairIn0.nD Cert.PairIn0.τ).loc Cert.PairIn0.main_arg1))
      ∧ θ_run (Cert.PairIn0Ref.defs (F := Bits)) (onTc (τ := Cert.PairIn0Ref.τ) (Cert.PairIn0Ref.main (F := Bits))) ⟨m', fun _ => 0, g'⟩ (fun r => ∀ c : Dev Cert.PairIn0Ref.nD,
          r.2.mem ((c.tc : Thread Cert.PairIn0Ref.nD Cert.PairIn0Ref.τ).loc Cert.PairIn0Ref.main_v5) = v0 c
          ∧ r.2.mem ((c.tc : Thread Cert.PairIn0Ref.nD Cert.PairIn0Ref.τ).loc Cert.PairIn0Ref.main_arg0) = m' ((c.tc : Thread Cert.PairIn0Ref.nD Cert.PairIn0Ref.τ).loc Cert.PairIn0Ref.main_arg0)
          ∧ r.2.mem ((c.tc : Thread Cert.PairIn0Ref.nD Cert.PairIn0Ref.τ).loc Cert.PairIn0Ref.main_arg1) = m' ((c.tc : Thread Cert.PairIn0Ref.nD Cert.PairIn0Ref.τ).loc Cert.PairIn0Ref.main_arg1))

def preserves_PairIn1_PairIn1Ideal : Prop :=
  True

def algebraic_PairIn1Ideal_PairIn1RefIdeal [hPairIn1Ideal : Cert.PairIn1Ideal.Facts] [hPairIn1RefIdeal : Cert.PairIn1RefIdeal.Facts] : Prop :=
  ∀ (m : (ℓ : Loc Cert.PairIn1Ideal.nD Cert.PairIn1Ideal.τ Cert.PairIn1Ideal.sig) → Buf (Elt Ideal) ℓ) (g : Dev Cert.PairIn1Ideal.nD → PrngReg)
    (m' : (ℓ : Loc Cert.PairIn1RefIdeal.nD Cert.PairIn1RefIdeal.τ Cert.PairIn1RefIdeal.sig) → Buf (Elt Ideal) ℓ) (g' : Dev Cert.PairIn1RefIdeal.nD → PrngReg), Pre_PairIn1Ideal m →
    (∀ c : Dev Cert.PairIn1Ideal.nD,
      m' ((c.tc : Thread Cert.PairIn1RefIdeal.nD Cert.PairIn1RefIdeal.τ).loc Cert.PairIn1RefIdeal.main_arg0) = m ((c.tc : Thread Cert.PairIn1Ideal.nD Cert.PairIn1Ideal.τ).loc Cert.PairIn1Ideal.main_arg0)
      ∧ m' ((c.tc : Thread Cert.PairIn1RefIdeal.nD Cert.PairIn1RefIdeal.τ).loc Cert.PairIn1RefIdeal.main_arg1) = m ((c.tc : Thread Cert.PairIn1Ideal.nD Cert.PairIn1Ideal.τ).loc Cert.PairIn1Ideal.main_arg1)) →
    ∃ (v0 : (c : Dev Cert.PairIn1Ideal.nD) → Buf (Elt Ideal) ((c.tc : Thread Cert.PairIn1Ideal.nD Cert.PairIn1Ideal.τ).loc Cert.PairIn1Ideal.main_v1)),
      θ_run (Cert.PairIn1Ideal.defs (F := Ideal)) (onTc (τ := Cert.PairIn1Ideal.τ) (Cert.PairIn1Ideal.main (F := Ideal))) ⟨m, fun _ => 0, g⟩ (fun r => ∀ c : Dev Cert.PairIn1Ideal.nD,
          r.2.mem ((c.tc : Thread Cert.PairIn1Ideal.nD Cert.PairIn1Ideal.τ).loc Cert.PairIn1Ideal.main_v1) = v0 c
          ∧ r.2.mem ((c.tc : Thread Cert.PairIn1Ideal.nD Cert.PairIn1Ideal.τ).loc Cert.PairIn1Ideal.main_arg0) = m ((c.tc : Thread Cert.PairIn1Ideal.nD Cert.PairIn1Ideal.τ).loc Cert.PairIn1Ideal.main_arg0)
          ∧ r.2.mem ((c.tc : Thread Cert.PairIn1Ideal.nD Cert.PairIn1Ideal.τ).loc Cert.PairIn1Ideal.main_arg1) = m ((c.tc : Thread Cert.PairIn1Ideal.nD Cert.PairIn1Ideal.τ).loc Cert.PairIn1Ideal.main_arg1))
      ∧ θ_run (Cert.PairIn1RefIdeal.defs (F := Ideal)) (onTc (τ := Cert.PairIn1RefIdeal.τ) (Cert.PairIn1RefIdeal.main (F := Ideal))) ⟨m', fun _ => 0, g'⟩ (fun r => ∀ c : Dev Cert.PairIn1RefIdeal.nD,
          r.2.mem ((c.tc : Thread Cert.PairIn1RefIdeal.nD Cert.PairIn1RefIdeal.τ).loc Cert.PairIn1RefIdeal.main_v5) = v0 c
          ∧ r.2.mem ((c.tc : Thread Cert.PairIn1RefIdeal.nD Cert.PairIn1RefIdeal.τ).loc Cert.PairIn1RefIdeal.main_arg0) = m' ((c.tc : Thread Cert.PairIn1RefIdeal.nD Cert.PairIn1RefIdeal.τ).loc Cert.PairIn1RefIdeal.main_arg0)
          ∧ r.2.mem ((c.tc : Thread Cert.PairIn1RefIdeal.nD Cert.PairIn1RefIdeal.τ).loc Cert.PairIn1RefIdeal.main_arg1) = m' ((c.tc : Thread Cert.PairIn1RefIdeal.nD Cert.PairIn1RefIdeal.τ).loc Cert.PairIn1RefIdeal.main_arg1))

def bitexact_PairIn1_PairIn1Ref [hPairIn1 : Cert.PairIn1.Facts] [hPairIn1Ref : Cert.PairIn1Ref.Facts] : Prop :=
  ∀ (m : (ℓ : Loc Cert.PairIn1.nD Cert.PairIn1.τ Cert.PairIn1.sig) → Buf (Elt Bits) ℓ) (g : Dev Cert.PairIn1.nD → PrngReg)
    (m' : (ℓ : Loc Cert.PairIn1Ref.nD Cert.PairIn1Ref.τ Cert.PairIn1Ref.sig) → Buf (Elt Bits) ℓ) (g' : Dev Cert.PairIn1Ref.nD → PrngReg), Pre_PairIn1 m →
    (∀ c : Dev Cert.PairIn1.nD,
      m' ((c.tc : Thread Cert.PairIn1Ref.nD Cert.PairIn1Ref.τ).loc Cert.PairIn1Ref.main_arg0) = m ((c.tc : Thread Cert.PairIn1.nD Cert.PairIn1.τ).loc Cert.PairIn1.main_arg0)
      ∧ m' ((c.tc : Thread Cert.PairIn1Ref.nD Cert.PairIn1Ref.τ).loc Cert.PairIn1Ref.main_arg1) = m ((c.tc : Thread Cert.PairIn1.nD Cert.PairIn1.τ).loc Cert.PairIn1.main_arg1)) →
    ∃ (v0 : (c : Dev Cert.PairIn1.nD) → Buf (Elt Bits) ((c.tc : Thread Cert.PairIn1.nD Cert.PairIn1.τ).loc Cert.PairIn1.main_v1)),
      θ_run (Cert.PairIn1.defs (F := Bits)) (onTc (τ := Cert.PairIn1.τ) (Cert.PairIn1.main (F := Bits))) ⟨m, fun _ => 0, g⟩ (fun r => ∀ c : Dev Cert.PairIn1.nD,
          r.2.mem ((c.tc : Thread Cert.PairIn1.nD Cert.PairIn1.τ).loc Cert.PairIn1.main_v1) = v0 c
          ∧ r.2.mem ((c.tc : Thread Cert.PairIn1.nD Cert.PairIn1.τ).loc Cert.PairIn1.main_arg0) = m ((c.tc : Thread Cert.PairIn1.nD Cert.PairIn1.τ).loc Cert.PairIn1.main_arg0)
          ∧ r.2.mem ((c.tc : Thread Cert.PairIn1.nD Cert.PairIn1.τ).loc Cert.PairIn1.main_arg1) = m ((c.tc : Thread Cert.PairIn1.nD Cert.PairIn1.τ).loc Cert.PairIn1.main_arg1))
      ∧ θ_run (Cert.PairIn1Ref.defs (F := Bits)) (onTc (τ := Cert.PairIn1Ref.τ) (Cert.PairIn1Ref.main (F := Bits))) ⟨m', fun _ => 0, g'⟩ (fun r => ∀ c : Dev Cert.PairIn1Ref.nD,
          r.2.mem ((c.tc : Thread Cert.PairIn1Ref.nD Cert.PairIn1Ref.τ).loc Cert.PairIn1Ref.main_v5) = v0 c
          ∧ r.2.mem ((c.tc : Thread Cert.PairIn1Ref.nD Cert.PairIn1Ref.τ).loc Cert.PairIn1Ref.main_arg0) = m' ((c.tc : Thread Cert.PairIn1Ref.nD Cert.PairIn1Ref.τ).loc Cert.PairIn1Ref.main_arg0)
          ∧ r.2.mem ((c.tc : Thread Cert.PairIn1Ref.nD Cert.PairIn1Ref.τ).loc Cert.PairIn1Ref.main_arg1) = m' ((c.tc : Thread Cert.PairIn1Ref.nD Cert.PairIn1Ref.τ).loc Cert.PairIn1Ref.main_arg1))

def preserves_PairOut0_PairOut0Ideal : Prop :=
  True

def algebraic_PairOut0Ideal_PairOut0RefIdeal [hPairOut0Ideal : Cert.PairOut0Ideal.Facts] [hPairOut0RefIdeal : Cert.PairOut0RefIdeal.Facts] : Prop :=
  ∀ (m : (ℓ : Loc Cert.PairOut0Ideal.nD Cert.PairOut0Ideal.τ Cert.PairOut0Ideal.sig) → Buf (Elt Ideal) ℓ) (g : Dev Cert.PairOut0Ideal.nD → PrngReg)
    (m' : (ℓ : Loc Cert.PairOut0RefIdeal.nD Cert.PairOut0RefIdeal.τ Cert.PairOut0RefIdeal.sig) → Buf (Elt Ideal) ℓ) (g' : Dev Cert.PairOut0RefIdeal.nD → PrngReg), Pre_PairOut0Ideal m →
    (∀ c : Dev Cert.PairOut0Ideal.nD,
      m' ((c.tc : Thread Cert.PairOut0RefIdeal.nD Cert.PairOut0RefIdeal.τ).loc Cert.PairOut0RefIdeal.main_arg0) = m ((c.tc : Thread Cert.PairOut0Ideal.nD Cert.PairOut0Ideal.τ).loc Cert.PairOut0Ideal.main_arg0)
      ∧ m' ((c.tc : Thread Cert.PairOut0RefIdeal.nD Cert.PairOut0RefIdeal.τ).loc Cert.PairOut0RefIdeal.main_arg1) = m ((c.tc : Thread Cert.PairOut0Ideal.nD Cert.PairOut0Ideal.τ).loc Cert.PairOut0Ideal.main_arg1)) →
    ∃ (v0 : (c : Dev Cert.PairOut0Ideal.nD) → Buf (Elt Ideal) ((c.tc : Thread Cert.PairOut0Ideal.nD Cert.PairOut0Ideal.τ).loc Cert.PairOut0Ideal.main_v1)),
      θ_run (Cert.PairOut0Ideal.defs (F := Ideal)) (onTc (τ := Cert.PairOut0Ideal.τ) (Cert.PairOut0Ideal.main (F := Ideal))) ⟨m, fun _ => 0, g⟩ (fun r => ∀ c : Dev Cert.PairOut0Ideal.nD,
          r.2.mem ((c.tc : Thread Cert.PairOut0Ideal.nD Cert.PairOut0Ideal.τ).loc Cert.PairOut0Ideal.main_v1) = v0 c
          ∧ r.2.mem ((c.tc : Thread Cert.PairOut0Ideal.nD Cert.PairOut0Ideal.τ).loc Cert.PairOut0Ideal.main_arg0) = m ((c.tc : Thread Cert.PairOut0Ideal.nD Cert.PairOut0Ideal.τ).loc Cert.PairOut0Ideal.main_arg0)
          ∧ r.2.mem ((c.tc : Thread Cert.PairOut0Ideal.nD Cert.PairOut0Ideal.τ).loc Cert.PairOut0Ideal.main_arg1) = m ((c.tc : Thread Cert.PairOut0Ideal.nD Cert.PairOut0Ideal.τ).loc Cert.PairOut0Ideal.main_arg1))
      ∧ θ_run (Cert.PairOut0RefIdeal.defs (F := Ideal)) (onTc (τ := Cert.PairOut0RefIdeal.τ) (Cert.PairOut0RefIdeal.main (F := Ideal))) ⟨m', fun _ => 0, g'⟩ (fun r => ∀ c : Dev Cert.PairOut0RefIdeal.nD,
          r.2.mem ((c.tc : Thread Cert.PairOut0RefIdeal.nD Cert.PairOut0RefIdeal.τ).loc Cert.PairOut0RefIdeal.main_v5) = v0 c
          ∧ r.2.mem ((c.tc : Thread Cert.PairOut0RefIdeal.nD Cert.PairOut0RefIdeal.τ).loc Cert.PairOut0RefIdeal.main_arg0) = m' ((c.tc : Thread Cert.PairOut0RefIdeal.nD Cert.PairOut0RefIdeal.τ).loc Cert.PairOut0RefIdeal.main_arg0)
          ∧ r.2.mem ((c.tc : Thread Cert.PairOut0RefIdeal.nD Cert.PairOut0RefIdeal.τ).loc Cert.PairOut0RefIdeal.main_arg1) = m' ((c.tc : Thread Cert.PairOut0RefIdeal.nD Cert.PairOut0RefIdeal.τ).loc Cert.PairOut0RefIdeal.main_arg1))

def bitexact_PairOut0_PairOut0Ref [hPairOut0 : Cert.PairOut0.Facts] [hPairOut0Ref : Cert.PairOut0Ref.Facts] : Prop :=
  ∀ (m : (ℓ : Loc Cert.PairOut0.nD Cert.PairOut0.τ Cert.PairOut0.sig) → Buf (Elt Bits) ℓ) (g : Dev Cert.PairOut0.nD → PrngReg)
    (m' : (ℓ : Loc Cert.PairOut0Ref.nD Cert.PairOut0Ref.τ Cert.PairOut0Ref.sig) → Buf (Elt Bits) ℓ) (g' : Dev Cert.PairOut0Ref.nD → PrngReg), Pre_PairOut0 m →
    (∀ c : Dev Cert.PairOut0.nD,
      m' ((c.tc : Thread Cert.PairOut0Ref.nD Cert.PairOut0Ref.τ).loc Cert.PairOut0Ref.main_arg0) = m ((c.tc : Thread Cert.PairOut0.nD Cert.PairOut0.τ).loc Cert.PairOut0.main_arg0)
      ∧ m' ((c.tc : Thread Cert.PairOut0Ref.nD Cert.PairOut0Ref.τ).loc Cert.PairOut0Ref.main_arg1) = m ((c.tc : Thread Cert.PairOut0.nD Cert.PairOut0.τ).loc Cert.PairOut0.main_arg1)) →
    ∃ (v0 : (c : Dev Cert.PairOut0.nD) → Buf (Elt Bits) ((c.tc : Thread Cert.PairOut0.nD Cert.PairOut0.τ).loc Cert.PairOut0.main_v1)),
      θ_run (Cert.PairOut0.defs (F := Bits)) (onTc (τ := Cert.PairOut0.τ) (Cert.PairOut0.main (F := Bits))) ⟨m, fun _ => 0, g⟩ (fun r => ∀ c : Dev Cert.PairOut0.nD,
          r.2.mem ((c.tc : Thread Cert.PairOut0.nD Cert.PairOut0.τ).loc Cert.PairOut0.main_v1) = v0 c
          ∧ r.2.mem ((c.tc : Thread Cert.PairOut0.nD Cert.PairOut0.τ).loc Cert.PairOut0.main_arg0) = m ((c.tc : Thread Cert.PairOut0.nD Cert.PairOut0.τ).loc Cert.PairOut0.main_arg0)
          ∧ r.2.mem ((c.tc : Thread Cert.PairOut0.nD Cert.PairOut0.τ).loc Cert.PairOut0.main_arg1) = m ((c.tc : Thread Cert.PairOut0.nD Cert.PairOut0.τ).loc Cert.PairOut0.main_arg1))
      ∧ θ_run (Cert.PairOut0Ref.defs (F := Bits)) (onTc (τ := Cert.PairOut0Ref.τ) (Cert.PairOut0Ref.main (F := Bits))) ⟨m', fun _ => 0, g'⟩ (fun r => ∀ c : Dev Cert.PairOut0Ref.nD,
          r.2.mem ((c.tc : Thread Cert.PairOut0Ref.nD Cert.PairOut0Ref.τ).loc Cert.PairOut0Ref.main_v5) = v0 c
          ∧ r.2.mem ((c.tc : Thread Cert.PairOut0Ref.nD Cert.PairOut0Ref.τ).loc Cert.PairOut0Ref.main_arg0) = m' ((c.tc : Thread Cert.PairOut0Ref.nD Cert.PairOut0Ref.τ).loc Cert.PairOut0Ref.main_arg0)
          ∧ r.2.mem ((c.tc : Thread Cert.PairOut0Ref.nD Cert.PairOut0Ref.τ).loc Cert.PairOut0Ref.main_arg1) = m' ((c.tc : Thread Cert.PairOut0Ref.nD Cert.PairOut0Ref.τ).loc Cert.PairOut0Ref.main_arg1))

def preserves_PairOut1_PairOut1Ideal : Prop :=
  True

def algebraic_PairOut1Ideal_PairOut1RefIdeal [hPairOut1Ideal : Cert.PairOut1Ideal.Facts] [hPairOut1RefIdeal : Cert.PairOut1RefIdeal.Facts] : Prop :=
  ∀ (m : (ℓ : Loc Cert.PairOut1Ideal.nD Cert.PairOut1Ideal.τ Cert.PairOut1Ideal.sig) → Buf (Elt Ideal) ℓ) (g : Dev Cert.PairOut1Ideal.nD → PrngReg)
    (m' : (ℓ : Loc Cert.PairOut1RefIdeal.nD Cert.PairOut1RefIdeal.τ Cert.PairOut1RefIdeal.sig) → Buf (Elt Ideal) ℓ) (g' : Dev Cert.PairOut1RefIdeal.nD → PrngReg), Pre_PairOut1Ideal m →
    (∀ c : Dev Cert.PairOut1Ideal.nD,
      m' ((c.tc : Thread Cert.PairOut1RefIdeal.nD Cert.PairOut1RefIdeal.τ).loc Cert.PairOut1RefIdeal.main_arg0) = m ((c.tc : Thread Cert.PairOut1Ideal.nD Cert.PairOut1Ideal.τ).loc Cert.PairOut1Ideal.main_arg0)
      ∧ m' ((c.tc : Thread Cert.PairOut1RefIdeal.nD Cert.PairOut1RefIdeal.τ).loc Cert.PairOut1RefIdeal.main_arg1) = m ((c.tc : Thread Cert.PairOut1Ideal.nD Cert.PairOut1Ideal.τ).loc Cert.PairOut1Ideal.main_arg1)) →
    ∃ (v0 : (c : Dev Cert.PairOut1Ideal.nD) → Buf (Elt Ideal) ((c.tc : Thread Cert.PairOut1Ideal.nD Cert.PairOut1Ideal.τ).loc Cert.PairOut1Ideal.main_v1)),
      θ_run (Cert.PairOut1Ideal.defs (F := Ideal)) (onTc (τ := Cert.PairOut1Ideal.τ) (Cert.PairOut1Ideal.main (F := Ideal))) ⟨m, fun _ => 0, g⟩ (fun r => ∀ c : Dev Cert.PairOut1Ideal.nD,
          r.2.mem ((c.tc : Thread Cert.PairOut1Ideal.nD Cert.PairOut1Ideal.τ).loc Cert.PairOut1Ideal.main_v1) = v0 c
          ∧ r.2.mem ((c.tc : Thread Cert.PairOut1Ideal.nD Cert.PairOut1Ideal.τ).loc Cert.PairOut1Ideal.main_arg0) = m ((c.tc : Thread Cert.PairOut1Ideal.nD Cert.PairOut1Ideal.τ).loc Cert.PairOut1Ideal.main_arg0)
          ∧ r.2.mem ((c.tc : Thread Cert.PairOut1Ideal.nD Cert.PairOut1Ideal.τ).loc Cert.PairOut1Ideal.main_arg1) = m ((c.tc : Thread Cert.PairOut1Ideal.nD Cert.PairOut1Ideal.τ).loc Cert.PairOut1Ideal.main_arg1))
      ∧ θ_run (Cert.PairOut1RefIdeal.defs (F := Ideal)) (onTc (τ := Cert.PairOut1RefIdeal.τ) (Cert.PairOut1RefIdeal.main (F := Ideal))) ⟨m', fun _ => 0, g'⟩ (fun r => ∀ c : Dev Cert.PairOut1RefIdeal.nD,
          r.2.mem ((c.tc : Thread Cert.PairOut1RefIdeal.nD Cert.PairOut1RefIdeal.τ).loc Cert.PairOut1RefIdeal.main_v5) = v0 c
          ∧ r.2.mem ((c.tc : Thread Cert.PairOut1RefIdeal.nD Cert.PairOut1RefIdeal.τ).loc Cert.PairOut1RefIdeal.main_arg0) = m' ((c.tc : Thread Cert.PairOut1RefIdeal.nD Cert.PairOut1RefIdeal.τ).loc Cert.PairOut1RefIdeal.main_arg0)
          ∧ r.2.mem ((c.tc : Thread Cert.PairOut1RefIdeal.nD Cert.PairOut1RefIdeal.τ).loc Cert.PairOut1RefIdeal.main_arg1) = m' ((c.tc : Thread Cert.PairOut1RefIdeal.nD Cert.PairOut1RefIdeal.τ).loc Cert.PairOut1RefIdeal.main_arg1))

def bitexact_PairOut1_PairOut1Ref [hPairOut1 : Cert.PairOut1.Facts] [hPairOut1Ref : Cert.PairOut1Ref.Facts] : Prop :=
  ∀ (m : (ℓ : Loc Cert.PairOut1.nD Cert.PairOut1.τ Cert.PairOut1.sig) → Buf (Elt Bits) ℓ) (g : Dev Cert.PairOut1.nD → PrngReg)
    (m' : (ℓ : Loc Cert.PairOut1Ref.nD Cert.PairOut1Ref.τ Cert.PairOut1Ref.sig) → Buf (Elt Bits) ℓ) (g' : Dev Cert.PairOut1Ref.nD → PrngReg), Pre_PairOut1 m →
    (∀ c : Dev Cert.PairOut1.nD,
      m' ((c.tc : Thread Cert.PairOut1Ref.nD Cert.PairOut1Ref.τ).loc Cert.PairOut1Ref.main_arg0) = m ((c.tc : Thread Cert.PairOut1.nD Cert.PairOut1.τ).loc Cert.PairOut1.main_arg0)
      ∧ m' ((c.tc : Thread Cert.PairOut1Ref.nD Cert.PairOut1Ref.τ).loc Cert.PairOut1Ref.main_arg1) = m ((c.tc : Thread Cert.PairOut1.nD Cert.PairOut1.τ).loc Cert.PairOut1.main_arg1)) →
    ∃ (v0 : (c : Dev Cert.PairOut1.nD) → Buf (Elt Bits) ((c.tc : Thread Cert.PairOut1.nD Cert.PairOut1.τ).loc Cert.PairOut1.main_v1)),
      θ_run (Cert.PairOut1.defs (F := Bits)) (onTc (τ := Cert.PairOut1.τ) (Cert.PairOut1.main (F := Bits))) ⟨m, fun _ => 0, g⟩ (fun r => ∀ c : Dev Cert.PairOut1.nD,
          r.2.mem ((c.tc : Thread Cert.PairOut1.nD Cert.PairOut1.τ).loc Cert.PairOut1.main_v1) = v0 c
          ∧ r.2.mem ((c.tc : Thread Cert.PairOut1.nD Cert.PairOut1.τ).loc Cert.PairOut1.main_arg0) = m ((c.tc : Thread Cert.PairOut1.nD Cert.PairOut1.τ).loc Cert.PairOut1.main_arg0)
          ∧ r.2.mem ((c.tc : Thread Cert.PairOut1.nD Cert.PairOut1.τ).loc Cert.PairOut1.main_arg1) = m ((c.tc : Thread Cert.PairOut1.nD Cert.PairOut1.τ).loc Cert.PairOut1.main_arg1))
      ∧ θ_run (Cert.PairOut1Ref.defs (F := Bits)) (onTc (τ := Cert.PairOut1Ref.τ) (Cert.PairOut1Ref.main (F := Bits))) ⟨m', fun _ => 0, g'⟩ (fun r => ∀ c : Dev Cert.PairOut1Ref.nD,
          r.2.mem ((c.tc : Thread Cert.PairOut1Ref.nD Cert.PairOut1Ref.τ).loc Cert.PairOut1Ref.main_v5) = v0 c
          ∧ r.2.mem ((c.tc : Thread Cert.PairOut1Ref.nD Cert.PairOut1Ref.τ).loc Cert.PairOut1Ref.main_arg0) = m' ((c.tc : Thread Cert.PairOut1Ref.nD Cert.PairOut1Ref.τ).loc Cert.PairOut1Ref.main_arg0)
          ∧ r.2.mem ((c.tc : Thread Cert.PairOut1Ref.nD Cert.PairOut1Ref.τ).loc Cert.PairOut1Ref.main_arg1) = m' ((c.tc : Thread Cert.PairOut1Ref.nD Cert.PairOut1Ref.τ).loc Cert.PairOut1Ref.main_arg1))

def preserves_PairUp0_PairUp0Ideal : Prop :=
  True

def algebraic_PairUp0Ideal_PairUp0RefIdeal [hPairUp0Ideal : Cert.PairUp0Ideal.Facts] [hPairUp0RefIdeal : Cert.PairUp0RefIdeal.Facts] : Prop :=
  ∀ (m : (ℓ : Loc Cert.PairUp0Ideal.nD Cert.PairUp0Ideal.τ Cert.PairUp0Ideal.sig) → Buf (Elt Ideal) ℓ) (g : Dev Cert.PairUp0Ideal.nD → PrngReg)
    (m' : (ℓ : Loc Cert.PairUp0RefIdeal.nD Cert.PairUp0RefIdeal.τ Cert.PairUp0RefIdeal.sig) → Buf (Elt Ideal) ℓ) (g' : Dev Cert.PairUp0RefIdeal.nD → PrngReg), Pre_PairUp0Ideal m →
    (∀ c : Dev Cert.PairUp0Ideal.nD,
      m' ((c.tc : Thread Cert.PairUp0RefIdeal.nD Cert.PairUp0RefIdeal.τ).loc Cert.PairUp0RefIdeal.main_arg0) = m ((c.tc : Thread Cert.PairUp0Ideal.nD Cert.PairUp0Ideal.τ).loc Cert.PairUp0Ideal.main_arg0)
      ∧ m' ((c.tc : Thread Cert.PairUp0RefIdeal.nD Cert.PairUp0RefIdeal.τ).loc Cert.PairUp0RefIdeal.main_arg1) = m ((c.tc : Thread Cert.PairUp0Ideal.nD Cert.PairUp0Ideal.τ).loc Cert.PairUp0Ideal.main_arg1)) →
    ∃ (v0 : (c : Dev Cert.PairUp0Ideal.nD) → Buf (Elt Ideal) ((c.tc : Thread Cert.PairUp0Ideal.nD Cert.PairUp0Ideal.τ).loc Cert.PairUp0Ideal.main_v1)),
      θ_run (Cert.PairUp0Ideal.defs (F := Ideal)) (onTc (τ := Cert.PairUp0Ideal.τ) (Cert.PairUp0Ideal.main (F := Ideal))) ⟨m, fun _ => 0, g⟩ (fun r => ∀ c : Dev Cert.PairUp0Ideal.nD,
          r.2.mem ((c.tc : Thread Cert.PairUp0Ideal.nD Cert.PairUp0Ideal.τ).loc Cert.PairUp0Ideal.main_v1) = v0 c
          ∧ r.2.mem ((c.tc : Thread Cert.PairUp0Ideal.nD Cert.PairUp0Ideal.τ).loc Cert.PairUp0Ideal.main_arg0) = m ((c.tc : Thread Cert.PairUp0Ideal.nD Cert.PairUp0Ideal.τ).loc Cert.PairUp0Ideal.main_arg0)
          ∧ r.2.mem ((c.tc : Thread Cert.PairUp0Ideal.nD Cert.PairUp0Ideal.τ).loc Cert.PairUp0Ideal.main_arg1) = m ((c.tc : Thread Cert.PairUp0Ideal.nD Cert.PairUp0Ideal.τ).loc Cert.PairUp0Ideal.main_arg1))
      ∧ θ_run (Cert.PairUp0RefIdeal.defs (F := Ideal)) (onTc (τ := Cert.PairUp0RefIdeal.τ) (Cert.PairUp0RefIdeal.main (F := Ideal))) ⟨m', fun _ => 0, g'⟩ (fun r => ∀ c : Dev Cert.PairUp0RefIdeal.nD,
          r.2.mem ((c.tc : Thread Cert.PairUp0RefIdeal.nD Cert.PairUp0RefIdeal.τ).loc Cert.PairUp0RefIdeal.main_v5) = v0 c
          ∧ r.2.mem ((c.tc : Thread Cert.PairUp0RefIdeal.nD Cert.PairUp0RefIdeal.τ).loc Cert.PairUp0RefIdeal.main_arg0) = m' ((c.tc : Thread Cert.PairUp0RefIdeal.nD Cert.PairUp0RefIdeal.τ).loc Cert.PairUp0RefIdeal.main_arg0)
          ∧ r.2.mem ((c.tc : Thread Cert.PairUp0RefIdeal.nD Cert.PairUp0RefIdeal.τ).loc Cert.PairUp0RefIdeal.main_arg1) = m' ((c.tc : Thread Cert.PairUp0RefIdeal.nD Cert.PairUp0RefIdeal.τ).loc Cert.PairUp0RefIdeal.main_arg1))

def bitexact_PairUp0_PairUp0Ref [hPairUp0 : Cert.PairUp0.Facts] [hPairUp0Ref : Cert.PairUp0Ref.Facts] : Prop :=
  ∀ (m : (ℓ : Loc Cert.PairUp0.nD Cert.PairUp0.τ Cert.PairUp0.sig) → Buf (Elt Bits) ℓ) (g : Dev Cert.PairUp0.nD → PrngReg)
    (m' : (ℓ : Loc Cert.PairUp0Ref.nD Cert.PairUp0Ref.τ Cert.PairUp0Ref.sig) → Buf (Elt Bits) ℓ) (g' : Dev Cert.PairUp0Ref.nD → PrngReg), Pre_PairUp0 m →
    (∀ c : Dev Cert.PairUp0.nD,
      m' ((c.tc : Thread Cert.PairUp0Ref.nD Cert.PairUp0Ref.τ).loc Cert.PairUp0Ref.main_arg0) = m ((c.tc : Thread Cert.PairUp0.nD Cert.PairUp0.τ).loc Cert.PairUp0.main_arg0)
      ∧ m' ((c.tc : Thread Cert.PairUp0Ref.nD Cert.PairUp0Ref.τ).loc Cert.PairUp0Ref.main_arg1) = m ((c.tc : Thread Cert.PairUp0.nD Cert.PairUp0.τ).loc Cert.PairUp0.main_arg1)) →
    ∃ (v0 : (c : Dev Cert.PairUp0.nD) → Buf (Elt Bits) ((c.tc : Thread Cert.PairUp0.nD Cert.PairUp0.τ).loc Cert.PairUp0.main_v1)),
      θ_run (Cert.PairUp0.defs (F := Bits)) (onTc (τ := Cert.PairUp0.τ) (Cert.PairUp0.main (F := Bits))) ⟨m, fun _ => 0, g⟩ (fun r => ∀ c : Dev Cert.PairUp0.nD,
          r.2.mem ((c.tc : Thread Cert.PairUp0.nD Cert.PairUp0.τ).loc Cert.PairUp0.main_v1) = v0 c
          ∧ r.2.mem ((c.tc : Thread Cert.PairUp0.nD Cert.PairUp0.τ).loc Cert.PairUp0.main_arg0) = m ((c.tc : Thread Cert.PairUp0.nD Cert.PairUp0.τ).loc Cert.PairUp0.main_arg0)
          ∧ r.2.mem ((c.tc : Thread Cert.PairUp0.nD Cert.PairUp0.τ).loc Cert.PairUp0.main_arg1) = m ((c.tc : Thread Cert.PairUp0.nD Cert.PairUp0.τ).loc Cert.PairUp0.main_arg1))
      ∧ θ_run (Cert.PairUp0Ref.defs (F := Bits)) (onTc (τ := Cert.PairUp0Ref.τ) (Cert.PairUp0Ref.main (F := Bits))) ⟨m', fun _ => 0, g'⟩ (fun r => ∀ c : Dev Cert.PairUp0Ref.nD,
          r.2.mem ((c.tc : Thread Cert.PairUp0Ref.nD Cert.PairUp0Ref.τ).loc Cert.PairUp0Ref.main_v5) = v0 c
          ∧ r.2.mem ((c.tc : Thread Cert.PairUp0Ref.nD Cert.PairUp0Ref.τ).loc Cert.PairUp0Ref.main_arg0) = m' ((c.tc : Thread Cert.PairUp0Ref.nD Cert.PairUp0Ref.τ).loc Cert.PairUp0Ref.main_arg0)
          ∧ r.2.mem ((c.tc : Thread Cert.PairUp0Ref.nD Cert.PairUp0Ref.τ).loc Cert.PairUp0Ref.main_arg1) = m' ((c.tc : Thread Cert.PairUp0Ref.nD Cert.PairUp0Ref.τ).loc Cert.PairUp0Ref.main_arg1))

def preserves_PairUp1_PairUp1Ideal : Prop :=
  True

def algebraic_PairUp1Ideal_PairUp1RefIdeal [hPairUp1Ideal : Cert.PairUp1Ideal.Facts] [hPairUp1RefIdeal : Cert.PairUp1RefIdeal.Facts] : Prop :=
  ∀ (m : (ℓ : Loc Cert.PairUp1Ideal.nD Cert.PairUp1Ideal.τ Cert.PairUp1Ideal.sig) → Buf (Elt Ideal) ℓ) (g : Dev Cert.PairUp1Ideal.nD → PrngReg)
    (m' : (ℓ : Loc Cert.PairUp1RefIdeal.nD Cert.PairUp1RefIdeal.τ Cert.PairUp1RefIdeal.sig) → Buf (Elt Ideal) ℓ) (g' : Dev Cert.PairUp1RefIdeal.nD → PrngReg), Pre_PairUp1Ideal m →
    (∀ c : Dev Cert.PairUp1Ideal.nD,
      m' ((c.tc : Thread Cert.PairUp1RefIdeal.nD Cert.PairUp1RefIdeal.τ).loc Cert.PairUp1RefIdeal.main_arg0) = m ((c.tc : Thread Cert.PairUp1Ideal.nD Cert.PairUp1Ideal.τ).loc Cert.PairUp1Ideal.main_arg0)
      ∧ m' ((c.tc : Thread Cert.PairUp1RefIdeal.nD Cert.PairUp1RefIdeal.τ).loc Cert.PairUp1RefIdeal.main_arg1) = m ((c.tc : Thread Cert.PairUp1Ideal.nD Cert.PairUp1Ideal.τ).loc Cert.PairUp1Ideal.main_arg1)) →
    ∃ (v0 : (c : Dev Cert.PairUp1Ideal.nD) → Buf (Elt Ideal) ((c.tc : Thread Cert.PairUp1Ideal.nD Cert.PairUp1Ideal.τ).loc Cert.PairUp1Ideal.main_v1)),
      θ_run (Cert.PairUp1Ideal.defs (F := Ideal)) (onTc (τ := Cert.PairUp1Ideal.τ) (Cert.PairUp1Ideal.main (F := Ideal))) ⟨m, fun _ => 0, g⟩ (fun r => ∀ c : Dev Cert.PairUp1Ideal.nD,
          r.2.mem ((c.tc : Thread Cert.PairUp1Ideal.nD Cert.PairUp1Ideal.τ).loc Cert.PairUp1Ideal.main_v1) = v0 c
          ∧ r.2.mem ((c.tc : Thread Cert.PairUp1Ideal.nD Cert.PairUp1Ideal.τ).loc Cert.PairUp1Ideal.main_arg0) = m ((c.tc : Thread Cert.PairUp1Ideal.nD Cert.PairUp1Ideal.τ).loc Cert.PairUp1Ideal.main_arg0)
          ∧ r.2.mem ((c.tc : Thread Cert.PairUp1Ideal.nD Cert.PairUp1Ideal.τ).loc Cert.PairUp1Ideal.main_arg1) = m ((c.tc : Thread Cert.PairUp1Ideal.nD Cert.PairUp1Ideal.τ).loc Cert.PairUp1Ideal.main_arg1))
      ∧ θ_run (Cert.PairUp1RefIdeal.defs (F := Ideal)) (onTc (τ := Cert.PairUp1RefIdeal.τ) (Cert.PairUp1RefIdeal.main (F := Ideal))) ⟨m', fun _ => 0, g'⟩ (fun r => ∀ c : Dev Cert.PairUp1RefIdeal.nD,
          r.2.mem ((c.tc : Thread Cert.PairUp1RefIdeal.nD Cert.PairUp1RefIdeal.τ).loc Cert.PairUp1RefIdeal.main_v5) = v0 c
          ∧ r.2.mem ((c.tc : Thread Cert.PairUp1RefIdeal.nD Cert.PairUp1RefIdeal.τ).loc Cert.PairUp1RefIdeal.main_arg0) = m' ((c.tc : Thread Cert.PairUp1RefIdeal.nD Cert.PairUp1RefIdeal.τ).loc Cert.PairUp1RefIdeal.main_arg0)
          ∧ r.2.mem ((c.tc : Thread Cert.PairUp1RefIdeal.nD Cert.PairUp1RefIdeal.τ).loc Cert.PairUp1RefIdeal.main_arg1) = m' ((c.tc : Thread Cert.PairUp1RefIdeal.nD Cert.PairUp1RefIdeal.τ).loc Cert.PairUp1RefIdeal.main_arg1))

def bitexact_PairUp1_PairUp1Ref [hPairUp1 : Cert.PairUp1.Facts] [hPairUp1Ref : Cert.PairUp1Ref.Facts] : Prop :=
  ∀ (m : (ℓ : Loc Cert.PairUp1.nD Cert.PairUp1.τ Cert.PairUp1.sig) → Buf (Elt Bits) ℓ) (g : Dev Cert.PairUp1.nD → PrngReg)
    (m' : (ℓ : Loc Cert.PairUp1Ref.nD Cert.PairUp1Ref.τ Cert.PairUp1Ref.sig) → Buf (Elt Bits) ℓ) (g' : Dev Cert.PairUp1Ref.nD → PrngReg), Pre_PairUp1 m →
    (∀ c : Dev Cert.PairUp1.nD,
      m' ((c.tc : Thread Cert.PairUp1Ref.nD Cert.PairUp1Ref.τ).loc Cert.PairUp1Ref.main_arg0) = m ((c.tc : Thread Cert.PairUp1.nD Cert.PairUp1.τ).loc Cert.PairUp1.main_arg0)
      ∧ m' ((c.tc : Thread Cert.PairUp1Ref.nD Cert.PairUp1Ref.τ).loc Cert.PairUp1Ref.main_arg1) = m ((c.tc : Thread Cert.PairUp1.nD Cert.PairUp1.τ).loc Cert.PairUp1.main_arg1)) →
    ∃ (v0 : (c : Dev Cert.PairUp1.nD) → Buf (Elt Bits) ((c.tc : Thread Cert.PairUp1.nD Cert.PairUp1.τ).loc Cert.PairUp1.main_v1)),
      θ_run (Cert.PairUp1.defs (F := Bits)) (onTc (τ := Cert.PairUp1.τ) (Cert.PairUp1.main (F := Bits))) ⟨m, fun _ => 0, g⟩ (fun r => ∀ c : Dev Cert.PairUp1.nD,
          r.2.mem ((c.tc : Thread Cert.PairUp1.nD Cert.PairUp1.τ).loc Cert.PairUp1.main_v1) = v0 c
          ∧ r.2.mem ((c.tc : Thread Cert.PairUp1.nD Cert.PairUp1.τ).loc Cert.PairUp1.main_arg0) = m ((c.tc : Thread Cert.PairUp1.nD Cert.PairUp1.τ).loc Cert.PairUp1.main_arg0)
          ∧ r.2.mem ((c.tc : Thread Cert.PairUp1.nD Cert.PairUp1.τ).loc Cert.PairUp1.main_arg1) = m ((c.tc : Thread Cert.PairUp1.nD Cert.PairUp1.τ).loc Cert.PairUp1.main_arg1))
      ∧ θ_run (Cert.PairUp1Ref.defs (F := Bits)) (onTc (τ := Cert.PairUp1Ref.τ) (Cert.PairUp1Ref.main (F := Bits))) ⟨m', fun _ => 0, g'⟩ (fun r => ∀ c : Dev Cert.PairUp1Ref.nD,
          r.2.mem ((c.tc : Thread Cert.PairUp1Ref.nD Cert.PairUp1Ref.τ).loc Cert.PairUp1Ref.main_v5) = v0 c
          ∧ r.2.mem ((c.tc : Thread Cert.PairUp1Ref.nD Cert.PairUp1Ref.τ).loc Cert.PairUp1Ref.main_arg0) = m' ((c.tc : Thread Cert.PairUp1Ref.nD Cert.PairUp1Ref.τ).loc Cert.PairUp1Ref.main_arg0)
          ∧ r.2.mem ((c.tc : Thread Cert.PairUp1Ref.nD Cert.PairUp1Ref.τ).loc Cert.PairUp1Ref.main_arg1) = m' ((c.tc : Thread Cert.PairUp1Ref.nD Cert.PairUp1Ref.τ).loc Cert.PairUp1Ref.main_arg1))

def preserves_PairDown0_PairDown0Ideal : Prop :=
  True

def algebraic_PairDown0Ideal_PairDown0RefIdeal [hPairDown0Ideal : Cert.PairDown0Ideal.Facts] [hPairDown0RefIdeal : Cert.PairDown0RefIdeal.Facts] : Prop :=
  ∀ (m : (ℓ : Loc Cert.PairDown0Ideal.nD Cert.PairDown0Ideal.τ Cert.PairDown0Ideal.sig) → Buf (Elt Ideal) ℓ) (g : Dev Cert.PairDown0Ideal.nD → PrngReg)
    (m' : (ℓ : Loc Cert.PairDown0RefIdeal.nD Cert.PairDown0RefIdeal.τ Cert.PairDown0RefIdeal.sig) → Buf (Elt Ideal) ℓ) (g' : Dev Cert.PairDown0RefIdeal.nD → PrngReg), Pre_PairDown0Ideal m →
    (∀ c : Dev Cert.PairDown0Ideal.nD,
      m' ((c.tc : Thread Cert.PairDown0RefIdeal.nD Cert.PairDown0RefIdeal.τ).loc Cert.PairDown0RefIdeal.main_arg0) = m ((c.tc : Thread Cert.PairDown0Ideal.nD Cert.PairDown0Ideal.τ).loc Cert.PairDown0Ideal.main_arg0)
      ∧ m' ((c.tc : Thread Cert.PairDown0RefIdeal.nD Cert.PairDown0RefIdeal.τ).loc Cert.PairDown0RefIdeal.main_arg1) = m ((c.tc : Thread Cert.PairDown0Ideal.nD Cert.PairDown0Ideal.τ).loc Cert.PairDown0Ideal.main_arg1)) →
    ∃ (v0 : (c : Dev Cert.PairDown0Ideal.nD) → Buf (Elt Ideal) ((c.tc : Thread Cert.PairDown0Ideal.nD Cert.PairDown0Ideal.τ).loc Cert.PairDown0Ideal.main_v1)),
      θ_run (Cert.PairDown0Ideal.defs (F := Ideal)) (onTc (τ := Cert.PairDown0Ideal.τ) (Cert.PairDown0Ideal.main (F := Ideal))) ⟨m, fun _ => 0, g⟩ (fun r => ∀ c : Dev Cert.PairDown0Ideal.nD,
          r.2.mem ((c.tc : Thread Cert.PairDown0Ideal.nD Cert.PairDown0Ideal.τ).loc Cert.PairDown0Ideal.main_v1) = v0 c
          ∧ r.2.mem ((c.tc : Thread Cert.PairDown0Ideal.nD Cert.PairDown0Ideal.τ).loc Cert.PairDown0Ideal.main_arg0) = m ((c.tc : Thread Cert.PairDown0Ideal.nD Cert.PairDown0Ideal.τ).loc Cert.PairDown0Ideal.main_arg0)
          ∧ r.2.mem ((c.tc : Thread Cert.PairDown0Ideal.nD Cert.PairDown0Ideal.τ).loc Cert.PairDown0Ideal.main_arg1) = m ((c.tc : Thread Cert.PairDown0Ideal.nD Cert.PairDown0Ideal.τ).loc Cert.PairDown0Ideal.main_arg1))
      ∧ θ_run (Cert.PairDown0RefIdeal.defs (F := Ideal)) (onTc (τ := Cert.PairDown0RefIdeal.τ) (Cert.PairDown0RefIdeal.main (F := Ideal))) ⟨m', fun _ => 0, g'⟩ (fun r => ∀ c : Dev Cert.PairDown0RefIdeal.nD,
          r.2.mem ((c.tc : Thread Cert.PairDown0RefIdeal.nD Cert.PairDown0RefIdeal.τ).loc Cert.PairDown0RefIdeal.main_v5) = v0 c
          ∧ r.2.mem ((c.tc : Thread Cert.PairDown0RefIdeal.nD Cert.PairDown0RefIdeal.τ).loc Cert.PairDown0RefIdeal.main_arg0) = m' ((c.tc : Thread Cert.PairDown0RefIdeal.nD Cert.PairDown0RefIdeal.τ).loc Cert.PairDown0RefIdeal.main_arg0)
          ∧ r.2.mem ((c.tc : Thread Cert.PairDown0RefIdeal.nD Cert.PairDown0RefIdeal.τ).loc Cert.PairDown0RefIdeal.main_arg1) = m' ((c.tc : Thread Cert.PairDown0RefIdeal.nD Cert.PairDown0RefIdeal.τ).loc Cert.PairDown0RefIdeal.main_arg1))

def bitexact_PairDown0_PairDown0Ref [hPairDown0 : Cert.PairDown0.Facts] [hPairDown0Ref : Cert.PairDown0Ref.Facts] : Prop :=
  ∀ (m : (ℓ : Loc Cert.PairDown0.nD Cert.PairDown0.τ Cert.PairDown0.sig) → Buf (Elt Bits) ℓ) (g : Dev Cert.PairDown0.nD → PrngReg)
    (m' : (ℓ : Loc Cert.PairDown0Ref.nD Cert.PairDown0Ref.τ Cert.PairDown0Ref.sig) → Buf (Elt Bits) ℓ) (g' : Dev Cert.PairDown0Ref.nD → PrngReg), Pre_PairDown0 m →
    (∀ c : Dev Cert.PairDown0.nD,
      m' ((c.tc : Thread Cert.PairDown0Ref.nD Cert.PairDown0Ref.τ).loc Cert.PairDown0Ref.main_arg0) = m ((c.tc : Thread Cert.PairDown0.nD Cert.PairDown0.τ).loc Cert.PairDown0.main_arg0)
      ∧ m' ((c.tc : Thread Cert.PairDown0Ref.nD Cert.PairDown0Ref.τ).loc Cert.PairDown0Ref.main_arg1) = m ((c.tc : Thread Cert.PairDown0.nD Cert.PairDown0.τ).loc Cert.PairDown0.main_arg1)) →
    ∃ (v0 : (c : Dev Cert.PairDown0.nD) → Buf (Elt Bits) ((c.tc : Thread Cert.PairDown0.nD Cert.PairDown0.τ).loc Cert.PairDown0.main_v1)),
      θ_run (Cert.PairDown0.defs (F := Bits)) (onTc (τ := Cert.PairDown0.τ) (Cert.PairDown0.main (F := Bits))) ⟨m, fun _ => 0, g⟩ (fun r => ∀ c : Dev Cert.PairDown0.nD,
          r.2.mem ((c.tc : Thread Cert.PairDown0.nD Cert.PairDown0.τ).loc Cert.PairDown0.main_v1) = v0 c
          ∧ r.2.mem ((c.tc : Thread Cert.PairDown0.nD Cert.PairDown0.τ).loc Cert.PairDown0.main_arg0) = m ((c.tc : Thread Cert.PairDown0.nD Cert.PairDown0.τ).loc Cert.PairDown0.main_arg0)
          ∧ r.2.mem ((c.tc : Thread Cert.PairDown0.nD Cert.PairDown0.τ).loc Cert.PairDown0.main_arg1) = m ((c.tc : Thread Cert.PairDown0.nD Cert.PairDown0.τ).loc Cert.PairDown0.main_arg1))
      ∧ θ_run (Cert.PairDown0Ref.defs (F := Bits)) (onTc (τ := Cert.PairDown0Ref.τ) (Cert.PairDown0Ref.main (F := Bits))) ⟨m', fun _ => 0, g'⟩ (fun r => ∀ c : Dev Cert.PairDown0Ref.nD,
          r.2.mem ((c.tc : Thread Cert.PairDown0Ref.nD Cert.PairDown0Ref.τ).loc Cert.PairDown0Ref.main_v5) = v0 c
          ∧ r.2.mem ((c.tc : Thread Cert.PairDown0Ref.nD Cert.PairDown0Ref.τ).loc Cert.PairDown0Ref.main_arg0) = m' ((c.tc : Thread Cert.PairDown0Ref.nD Cert.PairDown0Ref.τ).loc Cert.PairDown0Ref.main_arg0)
          ∧ r.2.mem ((c.tc : Thread Cert.PairDown0Ref.nD Cert.PairDown0Ref.τ).loc Cert.PairDown0Ref.main_arg1) = m' ((c.tc : Thread Cert.PairDown0Ref.nD Cert.PairDown0Ref.τ).loc Cert.PairDown0Ref.main_arg1))

def preserves_PairDown1_PairDown1Ideal : Prop :=
  True

def algebraic_PairDown1Ideal_PairDown1RefIdeal [hPairDown1Ideal : Cert.PairDown1Ideal.Facts] [hPairDown1RefIdeal : Cert.PairDown1RefIdeal.Facts] : Prop :=
  ∀ (m : (ℓ : Loc Cert.PairDown1Ideal.nD Cert.PairDown1Ideal.τ Cert.PairDown1Ideal.sig) → Buf (Elt Ideal) ℓ) (g : Dev Cert.PairDown1Ideal.nD → PrngReg)
    (m' : (ℓ : Loc Cert.PairDown1RefIdeal.nD Cert.PairDown1RefIdeal.τ Cert.PairDown1RefIdeal.sig) → Buf (Elt Ideal) ℓ) (g' : Dev Cert.PairDown1RefIdeal.nD → PrngReg), Pre_PairDown1Ideal m →
    (∀ c : Dev Cert.PairDown1Ideal.nD,
      m' ((c.tc : Thread Cert.PairDown1RefIdeal.nD Cert.PairDown1RefIdeal.τ).loc Cert.PairDown1RefIdeal.main_arg0) = m ((c.tc : Thread Cert.PairDown1Ideal.nD Cert.PairDown1Ideal.τ).loc Cert.PairDown1Ideal.main_arg0)
      ∧ m' ((c.tc : Thread Cert.PairDown1RefIdeal.nD Cert.PairDown1RefIdeal.τ).loc Cert.PairDown1RefIdeal.main_arg1) = m ((c.tc : Thread Cert.PairDown1Ideal.nD Cert.PairDown1Ideal.τ).loc Cert.PairDown1Ideal.main_arg1)) →
    ∃ (v0 : (c : Dev Cert.PairDown1Ideal.nD) → Buf (Elt Ideal) ((c.tc : Thread Cert.PairDown1Ideal.nD Cert.PairDown1Ideal.τ).loc Cert.PairDown1Ideal.main_v1)),
      θ_run (Cert.PairDown1Ideal.defs (F := Ideal)) (onTc (τ := Cert.PairDown1Ideal.τ) (Cert.PairDown1Ideal.main (F := Ideal))) ⟨m, fun _ => 0, g⟩ (fun r => ∀ c : Dev Cert.PairDown1Ideal.nD,
          r.2.mem ((c.tc : Thread Cert.PairDown1Ideal.nD Cert.PairDown1Ideal.τ).loc Cert.PairDown1Ideal.main_v1) = v0 c
          ∧ r.2.mem ((c.tc : Thread Cert.PairDown1Ideal.nD Cert.PairDown1Ideal.τ).loc Cert.PairDown1Ideal.main_arg0) = m ((c.tc : Thread Cert.PairDown1Ideal.nD Cert.PairDown1Ideal.τ).loc Cert.PairDown1Ideal.main_arg0)
          ∧ r.2.mem ((c.tc : Thread Cert.PairDown1Ideal.nD Cert.PairDown1Ideal.τ).loc Cert.PairDown1Ideal.main_arg1) = m ((c.tc : Thread Cert.PairDown1Ideal.nD Cert.PairDown1Ideal.τ).loc Cert.PairDown1Ideal.main_arg1))
      ∧ θ_run (Cert.PairDown1RefIdeal.defs (F := Ideal)) (onTc (τ := Cert.PairDown1RefIdeal.τ) (Cert.PairDown1RefIdeal.main (F := Ideal))) ⟨m', fun _ => 0, g'⟩ (fun r => ∀ c : Dev Cert.PairDown1RefIdeal.nD,
          r.2.mem ((c.tc : Thread Cert.PairDown1RefIdeal.nD Cert.PairDown1RefIdeal.τ).loc Cert.PairDown1RefIdeal.main_v5) = v0 c
          ∧ r.2.mem ((c.tc : Thread Cert.PairDown1RefIdeal.nD Cert.PairDown1RefIdeal.τ).loc Cert.PairDown1RefIdeal.main_arg0) = m' ((c.tc : Thread Cert.PairDown1RefIdeal.nD Cert.PairDown1RefIdeal.τ).loc Cert.PairDown1RefIdeal.main_arg0)
          ∧ r.2.mem ((c.tc : Thread Cert.PairDown1RefIdeal.nD Cert.PairDown1RefIdeal.τ).loc Cert.PairDown1RefIdeal.main_arg1) = m' ((c.tc : Thread Cert.PairDown1RefIdeal.nD Cert.PairDown1RefIdeal.τ).loc Cert.PairDown1RefIdeal.main_arg1))

def bitexact_PairDown1_PairDown1Ref [hPairDown1 : Cert.PairDown1.Facts] [hPairDown1Ref : Cert.PairDown1Ref.Facts] : Prop :=
  ∀ (m : (ℓ : Loc Cert.PairDown1.nD Cert.PairDown1.τ Cert.PairDown1.sig) → Buf (Elt Bits) ℓ) (g : Dev Cert.PairDown1.nD → PrngReg)
    (m' : (ℓ : Loc Cert.PairDown1Ref.nD Cert.PairDown1Ref.τ Cert.PairDown1Ref.sig) → Buf (Elt Bits) ℓ) (g' : Dev Cert.PairDown1Ref.nD → PrngReg), Pre_PairDown1 m →
    (∀ c : Dev Cert.PairDown1.nD,
      m' ((c.tc : Thread Cert.PairDown1Ref.nD Cert.PairDown1Ref.τ).loc Cert.PairDown1Ref.main_arg0) = m ((c.tc : Thread Cert.PairDown1.nD Cert.PairDown1.τ).loc Cert.PairDown1.main_arg0)
      ∧ m' ((c.tc : Thread Cert.PairDown1Ref.nD Cert.PairDown1Ref.τ).loc Cert.PairDown1Ref.main_arg1) = m ((c.tc : Thread Cert.PairDown1.nD Cert.PairDown1.τ).loc Cert.PairDown1.main_arg1)) →
    ∃ (v0 : (c : Dev Cert.PairDown1.nD) → Buf (Elt Bits) ((c.tc : Thread Cert.PairDown1.nD Cert.PairDown1.τ).loc Cert.PairDown1.main_v1)),
      θ_run (Cert.PairDown1.defs (F := Bits)) (onTc (τ := Cert.PairDown1.τ) (Cert.PairDown1.main (F := Bits))) ⟨m, fun _ => 0, g⟩ (fun r => ∀ c : Dev Cert.PairDown1.nD,
          r.2.mem ((c.tc : Thread Cert.PairDown1.nD Cert.PairDown1.τ).loc Cert.PairDown1.main_v1) = v0 c
          ∧ r.2.mem ((c.tc : Thread Cert.PairDown1.nD Cert.PairDown1.τ).loc Cert.PairDown1.main_arg0) = m ((c.tc : Thread Cert.PairDown1.nD Cert.PairDown1.τ).loc Cert.PairDown1.main_arg0)
          ∧ r.2.mem ((c.tc : Thread Cert.PairDown1.nD Cert.PairDown1.τ).loc Cert.PairDown1.main_arg1) = m ((c.tc : Thread Cert.PairDown1.nD Cert.PairDown1.τ).loc Cert.PairDown1.main_arg1))
      ∧ θ_run (Cert.PairDown1Ref.defs (F := Bits)) (onTc (τ := Cert.PairDown1Ref.τ) (Cert.PairDown1Ref.main (F := Bits))) ⟨m', fun _ => 0, g'⟩ (fun r => ∀ c : Dev Cert.PairDown1Ref.nD,
          r.2.mem ((c.tc : Thread Cert.PairDown1Ref.nD Cert.PairDown1Ref.τ).loc Cert.PairDown1Ref.main_v5) = v0 c
          ∧ r.2.mem ((c.tc : Thread Cert.PairDown1Ref.nD Cert.PairDown1Ref.τ).loc Cert.PairDown1Ref.main_arg0) = m' ((c.tc : Thread Cert.PairDown1Ref.nD Cert.PairDown1Ref.τ).loc Cert.PairDown1Ref.main_arg0)
          ∧ r.2.mem ((c.tc : Thread Cert.PairDown1Ref.nD Cert.PairDown1Ref.τ).loc Cert.PairDown1Ref.main_arg1) = m' ((c.tc : Thread Cert.PairDown1Ref.nD Cert.PairDown1Ref.τ).loc Cert.PairDown1Ref.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v4) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v4) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v2) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def preserves_ProjInBwd_ProjInBwdIdeal : Prop :=
  True

def algebraic_ProjInBwdIdeal_ProjInBwdRefIdeal [hProjInBwdIdeal : Cert.ProjInBwdIdeal.Facts] [hProjInBwdRefIdeal : Cert.ProjInBwdRefIdeal.Facts] : Prop :=
  ∀ (m : (ℓ : Loc Cert.ProjInBwdIdeal.nD Cert.ProjInBwdIdeal.τ Cert.ProjInBwdIdeal.sig) → Buf (Elt Ideal) ℓ) (g : Dev Cert.ProjInBwdIdeal.nD → PrngReg)
    (m' : (ℓ : Loc Cert.ProjInBwdRefIdeal.nD Cert.ProjInBwdRefIdeal.τ Cert.ProjInBwdRefIdeal.sig) → Buf (Elt Ideal) ℓ) (g' : Dev Cert.ProjInBwdRefIdeal.nD → PrngReg), Pre_ProjInBwdIdeal m →
    (∀ c : Dev Cert.ProjInBwdIdeal.nD,
      m' ((c.tc : Thread Cert.ProjInBwdRefIdeal.nD Cert.ProjInBwdRefIdeal.τ).loc Cert.ProjInBwdRefIdeal.main_arg0) = m ((c.tc : Thread Cert.ProjInBwdIdeal.nD Cert.ProjInBwdIdeal.τ).loc Cert.ProjInBwdIdeal.main_arg0)
      ∧ m' ((c.tc : Thread Cert.ProjInBwdRefIdeal.nD Cert.ProjInBwdRefIdeal.τ).loc Cert.ProjInBwdRefIdeal.main_arg1) = m ((c.tc : Thread Cert.ProjInBwdIdeal.nD Cert.ProjInBwdIdeal.τ).loc Cert.ProjInBwdIdeal.main_arg1)) →
    ∃ (v0 : (c : Dev Cert.ProjInBwdIdeal.nD) → Buf (Elt Ideal) ((c.tc : Thread Cert.ProjInBwdIdeal.nD Cert.ProjInBwdIdeal.τ).loc Cert.ProjInBwdIdeal.main_v0)),
      θ_run (Cert.ProjInBwdIdeal.defs (F := Ideal)) (onTc (τ := Cert.ProjInBwdIdeal.τ) (Cert.ProjInBwdIdeal.main (F := Ideal))) ⟨m, fun _ => 0, g⟩ (fun r => ∀ c : Dev Cert.ProjInBwdIdeal.nD,
          r.2.mem ((c.tc : Thread Cert.ProjInBwdIdeal.nD Cert.ProjInBwdIdeal.τ).loc Cert.ProjInBwdIdeal.main_v0) = v0 c
          ∧ r.2.mem ((c.tc : Thread Cert.ProjInBwdIdeal.nD Cert.ProjInBwdIdeal.τ).loc Cert.ProjInBwdIdeal.main_arg0) = m ((c.tc : Thread Cert.ProjInBwdIdeal.nD Cert.ProjInBwdIdeal.τ).loc Cert.ProjInBwdIdeal.main_arg0)
          ∧ r.2.mem ((c.tc : Thread Cert.ProjInBwdIdeal.nD Cert.ProjInBwdIdeal.τ).loc Cert.ProjInBwdIdeal.main_arg1) = m ((c.tc : Thread Cert.ProjInBwdIdeal.nD Cert.ProjInBwdIdeal.τ).loc Cert.ProjInBwdIdeal.main_arg1))
      ∧ θ_run (Cert.ProjInBwdRefIdeal.defs (F := Ideal)) (onTc (τ := Cert.ProjInBwdRefIdeal.τ) (Cert.ProjInBwdRefIdeal.main (F := Ideal))) ⟨m', fun _ => 0, g'⟩ (fun r => ∀ c : Dev Cert.ProjInBwdRefIdeal.nD,
          r.2.mem ((c.tc : Thread Cert.ProjInBwdRefIdeal.nD Cert.ProjInBwdRefIdeal.τ).loc Cert.ProjInBwdRefIdeal.main_v5) = v0 c
          ∧ r.2.mem ((c.tc : Thread Cert.ProjInBwdRefIdeal.nD Cert.ProjInBwdRefIdeal.τ).loc Cert.ProjInBwdRefIdeal.main_arg0) = m' ((c.tc : Thread Cert.ProjInBwdRefIdeal.nD Cert.ProjInBwdRefIdeal.τ).loc Cert.ProjInBwdRefIdeal.main_arg0)
          ∧ r.2.mem ((c.tc : Thread Cert.ProjInBwdRefIdeal.nD Cert.ProjInBwdRefIdeal.τ).loc Cert.ProjInBwdRefIdeal.main_arg1) = m' ((c.tc : Thread Cert.ProjInBwdRefIdeal.nD Cert.ProjInBwdRefIdeal.τ).loc Cert.ProjInBwdRefIdeal.main_arg1))

def preserves_ProjOutBwd_ProjOutBwdIdeal : Prop :=
  True

def algebraic_ProjOutBwdIdeal_ProjOutBwdRefIdeal [hProjOutBwdIdeal : Cert.ProjOutBwdIdeal.Facts] [hProjOutBwdRefIdeal : Cert.ProjOutBwdRefIdeal.Facts] : Prop :=
  ∀ (m : (ℓ : Loc Cert.ProjOutBwdIdeal.nD Cert.ProjOutBwdIdeal.τ Cert.ProjOutBwdIdeal.sig) → Buf (Elt Ideal) ℓ) (g : Dev Cert.ProjOutBwdIdeal.nD → PrngReg)
    (m' : (ℓ : Loc Cert.ProjOutBwdRefIdeal.nD Cert.ProjOutBwdRefIdeal.τ Cert.ProjOutBwdRefIdeal.sig) → Buf (Elt Ideal) ℓ) (g' : Dev Cert.ProjOutBwdRefIdeal.nD → PrngReg), Pre_ProjOutBwdIdeal m →
    (∀ c : Dev Cert.ProjOutBwdIdeal.nD,
      m' ((c.tc : Thread Cert.ProjOutBwdRefIdeal.nD Cert.ProjOutBwdRefIdeal.τ).loc Cert.ProjOutBwdRefIdeal.main_arg0) = m ((c.tc : Thread Cert.ProjOutBwdIdeal.nD Cert.ProjOutBwdIdeal.τ).loc Cert.ProjOutBwdIdeal.main_arg0)
      ∧ m' ((c.tc : Thread Cert.ProjOutBwdRefIdeal.nD Cert.ProjOutBwdRefIdeal.τ).loc Cert.ProjOutBwdRefIdeal.main_arg1) = m ((c.tc : Thread Cert.ProjOutBwdIdeal.nD Cert.ProjOutBwdIdeal.τ).loc Cert.ProjOutBwdIdeal.main_arg1)) →
    ∃ (v0 : (c : Dev Cert.ProjOutBwdIdeal.nD) → Buf (Elt Ideal) ((c.tc : Thread Cert.ProjOutBwdIdeal.nD Cert.ProjOutBwdIdeal.τ).loc Cert.ProjOutBwdIdeal.main_v0)),
      θ_run (Cert.ProjOutBwdIdeal.defs (F := Ideal)) (onTc (τ := Cert.ProjOutBwdIdeal.τ) (Cert.ProjOutBwdIdeal.main (F := Ideal))) ⟨m, fun _ => 0, g⟩ (fun r => ∀ c : Dev Cert.ProjOutBwdIdeal.nD,
          r.2.mem ((c.tc : Thread Cert.ProjOutBwdIdeal.nD Cert.ProjOutBwdIdeal.τ).loc Cert.ProjOutBwdIdeal.main_v0) = v0 c
          ∧ r.2.mem ((c.tc : Thread Cert.ProjOutBwdIdeal.nD Cert.ProjOutBwdIdeal.τ).loc Cert.ProjOutBwdIdeal.main_arg0) = m ((c.tc : Thread Cert.ProjOutBwdIdeal.nD Cert.ProjOutBwdIdeal.τ).loc Cert.ProjOutBwdIdeal.main_arg0)
          ∧ r.2.mem ((c.tc : Thread Cert.ProjOutBwdIdeal.nD Cert.ProjOutBwdIdeal.τ).loc Cert.ProjOutBwdIdeal.main_arg1) = m ((c.tc : Thread Cert.ProjOutBwdIdeal.nD Cert.ProjOutBwdIdeal.τ).loc Cert.ProjOutBwdIdeal.main_arg1))
      ∧ θ_run (Cert.ProjOutBwdRefIdeal.defs (F := Ideal)) (onTc (τ := Cert.ProjOutBwdRefIdeal.τ) (Cert.ProjOutBwdRefIdeal.main (F := Ideal))) ⟨m', fun _ => 0, g'⟩ (fun r => ∀ c : Dev Cert.ProjOutBwdRefIdeal.nD,
          r.2.mem ((c.tc : Thread Cert.ProjOutBwdRefIdeal.nD Cert.ProjOutBwdRefIdeal.τ).loc Cert.ProjOutBwdRefIdeal.main_v5) = v0 c
          ∧ r.2.mem ((c.tc : Thread Cert.ProjOutBwdRefIdeal.nD Cert.ProjOutBwdRefIdeal.τ).loc Cert.ProjOutBwdRefIdeal.main_arg0) = m' ((c.tc : Thread Cert.ProjOutBwdRefIdeal.nD Cert.ProjOutBwdRefIdeal.τ).loc Cert.ProjOutBwdRefIdeal.main_arg0)
          ∧ r.2.mem ((c.tc : Thread Cert.ProjOutBwdRefIdeal.nD Cert.ProjOutBwdRefIdeal.τ).loc Cert.ProjOutBwdRefIdeal.main_arg1) = m' ((c.tc : Thread Cert.ProjOutBwdRefIdeal.nD Cert.ProjOutBwdRefIdeal.τ).loc Cert.ProjOutBwdRefIdeal.main_arg1))

def preserves_FfnUpBwd_FfnUpBwdIdeal : Prop :=
  True

def algebraic_FfnUpBwdIdeal_FfnUpBwdRefIdeal [hFfnUpBwdIdeal : Cert.FfnUpBwdIdeal.Facts] [hFfnUpBwdRefIdeal : Cert.FfnUpBwdRefIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg)
    (m' : (ℓ : Loc Cert.FfnUpBwdRefIdeal.nD Cert.FfnUpBwdRefIdeal.τ Cert.FfnUpBwdRefIdeal.sig) → Buf (Elt Ideal) ℓ) (g' : Dev Cert.FfnUpBwdRefIdeal.nD → PrngReg), Pre_FfnUpBwdIdeal m →
    (∀ c : Dev Cert.FfnUpBwdIdeal.nD,
      m' ((c.tc : Thread Cert.FfnUpBwdRefIdeal.nD Cert.FfnUpBwdRefIdeal.τ).loc Cert.FfnUpBwdRefIdeal.main_arg0) = m ((c.tc : Thread Cert.FfnUpBwdIdeal.nD Cert.FfnUpBwdIdeal.τ).loc Cert.FfnUpBwdIdeal.main_arg0)
      ∧ m' ((c.tc : Thread Cert.FfnUpBwdRefIdeal.nD Cert.FfnUpBwdRefIdeal.τ).loc Cert.FfnUpBwdRefIdeal.main_arg1) = m ((c.tc : Thread Cert.FfnUpBwdIdeal.nD Cert.FfnUpBwdIdeal.τ).loc Cert.FfnUpBwdIdeal.main_arg1)) →
    ∃ (v0 : (c : Dev Cert.FfnUpBwdIdeal.nD) → Buf (Elt Ideal) ((c.tc : Thread Cert.FfnUpBwdIdeal.nD Cert.FfnUpBwdIdeal.τ).loc Cert.FfnUpBwdIdeal.main_v0)),
      θ_run (Cert.FfnUpBwdIdeal.defs (F := Ideal)) (onTc (τ := Cert.FfnUpBwdIdeal.τ) (Cert.FfnUpBwdIdeal.main (F := Ideal))) ⟨m, fun _ => 0, g⟩ (fun r => ∀ c : Dev Cert.FfnUpBwdIdeal.nD,
          r.2.mem ((c.tc : Thread Cert.FfnUpBwdIdeal.nD Cert.FfnUpBwdIdeal.τ).loc Cert.FfnUpBwdIdeal.main_v0) = v0 c
          ∧ r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
          ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1))
      ∧ θ_run (Cert.FfnUpBwdRefIdeal.defs (F := Ideal)) (onTc (τ := Cert.FfnUpBwdRefIdeal.τ) (Cert.FfnUpBwdRefIdeal.main (F := Ideal))) ⟨m', fun _ => 0, g'⟩ (fun r => ∀ c : Dev Cert.FfnUpBwdRefIdeal.nD,
          r.2.mem ((c.tc : Thread Cert.FfnUpBwdRefIdeal.nD Cert.FfnUpBwdRefIdeal.τ).loc Cert.FfnUpBwdRefIdeal.main_v5) = v0 c
          ∧ r.2.mem ((c.tc : Thread Cert.FfnUpBwdRefIdeal.nD Cert.FfnUpBwdRefIdeal.τ).loc Cert.FfnUpBwdRefIdeal.main_arg0) = m' ((c.tc : Thread Cert.FfnUpBwdRefIdeal.nD Cert.FfnUpBwdRefIdeal.τ).loc Cert.FfnUpBwdRefIdeal.main_arg0)
          ∧ r.2.mem ((c.tc : Thread Cert.FfnUpBwdRefIdeal.nD Cert.FfnUpBwdRefIdeal.τ).loc Cert.FfnUpBwdRefIdeal.main_arg1) = m' ((c.tc : Thread Cert.FfnUpBwdRefIdeal.nD Cert.FfnUpBwdRefIdeal.τ).loc Cert.FfnUpBwdRefIdeal.main_arg1))

def preserves_FfnDownBwd_FfnDownBwdIdeal : Prop :=
  True

def algebraic_FfnDownBwdIdeal_FfnDownBwdRefIdeal [hFfnDownBwdIdeal : Cert.FfnDownBwdIdeal.Facts] [hFfnDownBwdRefIdeal : Cert.FfnDownBwdRefIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg)
    (m' : (ℓ : Loc Cert.FfnDownBwdRefIdeal.nD Cert.FfnDownBwdRefIdeal.τ Cert.FfnDownBwdRefIdeal.sig) → Buf (Elt Ideal) ℓ) (g' : Dev Cert.FfnDownBwdRefIdeal.nD → PrngReg), Pre_FfnDownBwdIdeal m →
    (∀ c : Dev Cert.FfnDownBwdIdeal.nD,
      m' ((c.tc : Thread Cert.FfnDownBwdRefIdeal.nD Cert.FfnDownBwdRefIdeal.τ).loc Cert.FfnDownBwdRefIdeal.main_arg0) = m ((c.tc : Thread Cert.FfnDownBwdIdeal.nD Cert.FfnDownBwdIdeal.τ).loc Cert.FfnDownBwdIdeal.main_arg0)
      ∧ m' ((c.tc : Thread Cert.FfnDownBwdRefIdeal.nD Cert.FfnDownBwdRefIdeal.τ).loc Cert.FfnDownBwdRefIdeal.main_arg1) = m ((c.tc : Thread Cert.FfnDownBwdIdeal.nD Cert.FfnDownBwdIdeal.τ).loc Cert.FfnDownBwdIdeal.main_arg1)) →
    ∃ (v0 : (c : Dev Cert.FfnDownBwdIdeal.nD) → Buf (Elt Ideal) ((c.tc : Thread Cert.FfnDownBwdIdeal.nD Cert.FfnDownBwdIdeal.τ).loc Cert.FfnDownBwdIdeal.main_v0)),
      θ_run (Cert.FfnDownBwdIdeal.defs (F := Ideal)) (onTc (τ := Cert.FfnDownBwdIdeal.τ) (Cert.FfnDownBwdIdeal.main (F := Ideal))) ⟨m, fun _ => 0, g⟩ (fun r => ∀ c : Dev Cert.FfnDownBwdIdeal.nD,
          r.2.mem ((c.tc : Thread Cert.FfnDownBwdIdeal.nD Cert.FfnDownBwdIdeal.τ).loc Cert.FfnDownBwdIdeal.main_v0) = v0 c
          ∧ r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
          ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1))
      ∧ θ_run (Cert.FfnDownBwdRefIdeal.defs (F := Ideal)) (onTc (τ := Cert.FfnDownBwdRefIdeal.τ) (Cert.FfnDownBwdRefIdeal.main (F := Ideal))) ⟨m', fun _ => 0, g'⟩ (fun r => ∀ c : Dev Cert.FfnDownBwdRefIdeal.nD,
          r.2.mem ((c.tc : Thread Cert.FfnDownBwdRefIdeal.nD Cert.FfnDownBwdRefIdeal.τ).loc Cert.FfnDownBwdRefIdeal.main_v5) = v0 c
          ∧ r.2.mem ((c.tc : Thread Cert.FfnDownBwdRefIdeal.nD Cert.FfnDownBwdRefIdeal.τ).loc Cert.FfnDownBwdRefIdeal.main_arg0) = m' ((c.tc : Thread Cert.FfnDownBwdRefIdeal.nD Cert.FfnDownBwdRefIdeal.τ).loc Cert.FfnDownBwdRefIdeal.main_arg0)
          ∧ r.2.mem ((c.tc : Thread Cert.FfnDownBwdRefIdeal.nD Cert.FfnDownBwdRefIdeal.τ).loc Cert.FfnDownBwdRefIdeal.main_arg1) = m' ((c.tc : Thread Cert.FfnDownBwdRefIdeal.nD Cert.FfnDownBwdRefIdeal.τ).loc Cert.FfnDownBwdRefIdeal.main_arg1))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v3) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v29) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)
      ∧ m' ((c.tc : Thread Cert.GateNormRefIdeal.nD Cert.GateNormRefIdeal.τ).loc Cert.GateNormRefIdeal.main_arg3) = m ((c.tc : Thread Cert.GateNormIdeal.nD Cert.GateNormIdeal.τ).loc Cert.GateNormIdeal.main_arg3)
      ∧ m' ((c.tc : Thread Cert.GateNormRefIdeal.nD Cert.GateNormRefIdeal.τ).loc Cert.GateNormRefIdeal.main_arg4) = m ((c.tc : Thread Cert.GateNormIdeal.nD Cert.GateNormIdeal.τ).loc Cert.GateNormIdeal.main_arg4)
      ∧ m' ((c.tc : Thread Cert.GateNormRefIdeal.nD Cert.GateNormRefIdeal.τ).loc Cert.GateNormRefIdeal.main_arg5) = m ((c.tc : Thread Cert.GateNormIdeal.nD Cert.GateNormIdeal.τ).loc Cert.GateNormIdeal.main_arg5)) →
    ∃ (v0 : (c : Dev Cert.GateNormIdeal.nD) → Buf (Elt Ideal) ((c.tc : Thread Cert.GateNormIdeal.nD Cert.GateNormIdeal.τ).loc Cert.GateNormIdeal.main_v0_0)) (v1 : (c : Dev Cert.GateNormIdeal.nD) → Buf (Elt Ideal) ((c.tc : Thread Cert.GateNormIdeal.nD Cert.GateNormIdeal.τ).loc Cert.GateNormIdeal.main_v0_1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v0_0) = v0 c
          ∧ r.2.mem ((c.tc : Thread Cert.GateNormIdeal.nD Cert.GateNormIdeal.τ).loc Cert.GateNormIdeal.main_v0_1) = v1 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
          ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
          ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4)
          ∧ r.2.mem ((c.tc : Thread Cert.GateNormIdeal.nD Cert.GateNormIdeal.τ).loc Cert.GateNormIdeal.main_arg5) = m ((c.tc : Thread Cert.GateNormIdeal.nD Cert.GateNormIdeal.τ).loc Cert.GateNormIdeal.main_arg5))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v7) = v0 c
          ∧ r.2.mem ((c.tc : Thread Cert.GateNormRefIdeal.nD Cert.GateNormRefIdeal.τ).loc Cert.GateNormRefIdeal.main_v37) = v1 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2)
          ∧ r.2.mem ((c.tc : Thread Cert.GateNormRefIdeal.nD Cert.GateNormRefIdeal.τ).loc Cert.GateNormRefIdeal.main_arg3) = m' ((c.tc : Thread Cert.GateNormRefIdeal.nD Cert.GateNormRefIdeal.τ).loc Cert.GateNormRefIdeal.main_arg3)
          ∧ r.2.mem ((c.tc : Thread Cert.GateNormRefIdeal.nD Cert.GateNormRefIdeal.τ).loc Cert.GateNormRefIdeal.main_arg4) = m' ((c.tc : Thread Cert.GateNormRefIdeal.nD Cert.GateNormRefIdeal.τ).loc Cert.GateNormRefIdeal.main_arg4)
          ∧ r.2.mem ((c.tc : Thread Cert.GateNormRefIdeal.nD Cert.GateNormRefIdeal.τ).loc Cert.GateNormRefIdeal.main_arg5) = m' ((c.tc : Thread Cert.GateNormRefIdeal.nD Cert.GateNormRefIdeal.τ).loc Cert.GateNormRefIdeal.main_arg5))

def Claim : Prop :=
  ∃ (hGather : Cert.Gather.Facts) (hGatherIdeal : Cert.GatherIdeal.Facts) (hGatherRefIdeal : Cert.GatherRefIdeal.Facts) (hGatherRef : Cert.GatherRef.Facts) (hAllToAll : Cert.AllToAll.Facts) (hAllToAllIdeal : Cert.AllToAllIdeal.Facts) (hAllToAllRefIdeal : Cert.AllToAllRefIdeal.Facts) (hAllToAllRef : Cert.AllToAllRef.Facts) (hSwap : Cert.Swap.Facts) (hSwapIdeal : Cert.SwapIdeal.Facts) (hSwapRefIdeal : Cert.SwapRefIdeal.Facts) (hSwapRef : Cert.SwapRef.Facts) (hShare : Cert.Share.Facts) (hShareIdeal : Cert.ShareIdeal.Facts) (hShareRefIdeal : Cert.ShareRefIdeal.Facts) (hShareRef : Cert.ShareRef.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumSmall : Cert.SumSmall.Facts) (hSumSmallIdeal : Cert.SumSmallIdeal.Facts) (hSumSmallRefIdeal : Cert.SumSmallRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hGradAda : Cert.GradAda.Facts) (hGradAdaIdeal : Cert.GradAdaIdeal.Facts) (hGradAdaRefIdeal : Cert.GradAdaRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hPairIn0 : Cert.PairIn0.Facts) (hPairIn0Ideal : Cert.PairIn0Ideal.Facts) (hPairIn0RefIdeal : Cert.PairIn0RefIdeal.Facts) (hPairIn0Ref : Cert.PairIn0Ref.Facts) (hPairIn1 : Cert.PairIn1.Facts) (hPairIn1Ideal : Cert.PairIn1Ideal.Facts) (hPairIn1RefIdeal : Cert.PairIn1RefIdeal.Facts) (hPairIn1Ref : Cert.PairIn1Ref.Facts) (hPairOut0 : Cert.PairOut0.Facts) (hPairOut0Ideal : Cert.PairOut0Ideal.Facts) (hPairOut0RefIdeal : Cert.PairOut0RefIdeal.Facts) (hPairOut0Ref : Cert.PairOut0Ref.Facts) (hPairOut1 : Cert.PairOut1.Facts) (hPairOut1Ideal : Cert.PairOut1Ideal.Facts) (hPairOut1RefIdeal : Cert.PairOut1RefIdeal.Facts) (hPairOut1Ref : Cert.PairOut1Ref.Facts) (hPairUp0 : Cert.PairUp0.Facts) (hPairUp0Ideal : Cert.PairUp0Ideal.Facts) (hPairUp0RefIdeal : Cert.PairUp0RefIdeal.Facts) (hPairUp0Ref : Cert.PairUp0Ref.Facts) (hPairUp1 : Cert.PairUp1.Facts) (hPairUp1Ideal : Cert.PairUp1Ideal.Facts) (hPairUp1RefIdeal : Cert.PairUp1RefIdeal.Facts) (hPairUp1Ref : Cert.PairUp1Ref.Facts) (hPairDown0 : Cert.PairDown0.Facts) (hPairDown0Ideal : Cert.PairDown0Ideal.Facts) (hPairDown0RefIdeal : Cert.PairDown0RefIdeal.Facts) (hPairDown0Ref : Cert.PairDown0Ref.Facts) (hPairDown1 : Cert.PairDown1.Facts) (hPairDown1Ideal : Cert.PairDown1Ideal.Facts) (hPairDown1RefIdeal : Cert.PairDown1RefIdeal.Facts) (hPairDown1Ref : Cert.PairDown1Ref.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hAdaFwd : Cert.AdaFwd.Facts) (hAdaFwdIdeal : Cert.AdaFwdIdeal.Facts) (hAdaFwdRefIdeal : Cert.AdaFwdRefIdeal.Facts) (hProjInBwd : Cert.ProjInBwd.Facts) (hProjInBwdIdeal : Cert.ProjInBwdIdeal.Facts) (hProjInBwdRefIdeal : Cert.ProjInBwdRefIdeal.Facts) (hProjOutBwd : Cert.ProjOutBwd.Facts) (hProjOutBwdIdeal : Cert.ProjOutBwdIdeal.Facts) (hProjOutBwdRefIdeal : Cert.ProjOutBwdRefIdeal.Facts) (hFfnUpBwd : Cert.FfnUpBwd.Facts) (hFfnUpBwdIdeal : Cert.FfnUpBwdIdeal.Facts) (hFfnUpBwdRefIdeal : Cert.FfnUpBwdRefIdeal.Facts) (hFfnDownBwd : Cert.FfnDownBwd.Facts) (hFfnDownBwdIdeal : Cert.FfnDownBwdIdeal.Facts) (hFfnDownBwdRefIdeal : Cert.FfnDownBwdRefIdeal.Facts) (hAdaBwd : Cert.AdaBwd.Facts) (hAdaBwdIdeal : Cert.AdaBwdIdeal.Facts) (hAdaBwdRefIdeal : Cert.AdaBwdRefIdeal.Facts) (hNormIn : Cert.NormIn.Facts) (hNormInIdeal : Cert.NormInIdeal.Facts) (hNormInRefIdeal : Cert.NormInRefIdeal.Facts) (hGateNorm : Cert.GateNorm.Facts) (hGateNormIdeal : Cert.GateNormIdeal.Facts) (hGateNormRefIdeal : Cert.GateNormRefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_AllToAll (hAllToAll := hAllToAll)
    ∧ quiescent_AllToAllIdeal (hAllToAllIdeal := hAllToAllIdeal)
    ∧ quiescent_AllToAllRefIdeal (hAllToAllRefIdeal := hAllToAllRefIdeal)
    ∧ quiescent_AllToAllRef (hAllToAllRef := hAllToAllRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_GradAda (hGradAda := hGradAda)
    ∧ quiescent_GradAdaIdeal (hGradAdaIdeal := hGradAdaIdeal)
    ∧ quiescent_GradAdaRefIdeal (hGradAdaRefIdeal := hGradAdaRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_PairIn0 (hPairIn0 := hPairIn0)
    ∧ quiescent_PairIn0Ideal (hPairIn0Ideal := hPairIn0Ideal)
    ∧ quiescent_PairIn0RefIdeal (hPairIn0RefIdeal := hPairIn0RefIdeal)
    ∧ quiescent_PairIn0Ref (hPairIn0Ref := hPairIn0Ref)
    ∧ quiescent_PairIn1 (hPairIn1 := hPairIn1)
    ∧ quiescent_PairIn1Ideal (hPairIn1Ideal := hPairIn1Ideal)
    ∧ quiescent_PairIn1RefIdeal (hPairIn1RefIdeal := hPairIn1RefIdeal)
    ∧ quiescent_PairIn1Ref (hPairIn1Ref := hPairIn1Ref)
    ∧ quiescent_PairOut0 (hPairOut0 := hPairOut0)
    ∧ quiescent_PairOut0Ideal (hPairOut0Ideal := hPairOut0Ideal)
    ∧ quiescent_PairOut0RefIdeal (hPairOut0RefIdeal := hPairOut0RefIdeal)
    ∧ quiescent_PairOut0Ref (hPairOut0Ref := hPairOut0Ref)
    ∧ quiescent_PairOut1 (hPairOut1 := hPairOut1)
    ∧ quiescent_PairOut1Ideal (hPairOut1Ideal := hPairOut1Ideal)
    ∧ quiescent_PairOut1RefIdeal (hPairOut1RefIdeal := hPairOut1RefIdeal)
    ∧ quiescent_PairOut1Ref (hPairOut1Ref := hPairOut1Ref)
    ∧ quiescent_PairUp0 (hPairUp0 := hPairUp0)
    ∧ quiescent_PairUp0Ideal (hPairUp0Ideal := hPairUp0Ideal)
    ∧ quiescent_PairUp0RefIdeal (hPairUp0RefIdeal := hPairUp0RefIdeal)
    ∧ quiescent_PairUp0Ref (hPairUp0Ref := hPairUp0Ref)
    ∧ quiescent_PairUp1 (hPairUp1 := hPairUp1)
    ∧ quiescent_PairUp1Ideal (hPairUp1Ideal := hPairUp1Ideal)
    ∧ quiescent_PairUp1RefIdeal (hPairUp1RefIdeal := hPairUp1RefIdeal)
    ∧ quiescent_PairUp1Ref (hPairUp1Ref := hPairUp1Ref)
    ∧ quiescent_PairDown0 (hPairDown0 := hPairDown0)
    ∧ quiescent_PairDown0Ideal (hPairDown0Ideal := hPairDown0Ideal)
    ∧ quiescent_PairDown0RefIdeal (hPairDown0RefIdeal := hPairDown0RefIdeal)
    ∧ quiescent_PairDown0Ref (hPairDown0Ref := hPairDown0Ref)
    ∧ quiescent_PairDown1 (hPairDown1 := hPairDown1)
    ∧ quiescent_PairDown1Ideal (hPairDown1Ideal := hPairDown1Ideal)
    ∧ quiescent_PairDown1RefIdeal (hPairDown1RefIdeal := hPairDown1RefIdeal)
    ∧ quiescent_PairDown1Ref (hPairDown1Ref := hPairDown1Ref)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_ProjInBwd (hProjInBwd := hProjInBwd)
    ∧ quiescent_ProjInBwdIdeal (hProjInBwdIdeal := hProjInBwdIdeal)
    ∧ quiescent_ProjInBwdRefIdeal (hProjInBwdRefIdeal := hProjInBwdRefIdeal)
    ∧ quiescent_ProjOutBwd (hProjOutBwd := hProjOutBwd)
    ∧ quiescent_ProjOutBwdIdeal (hProjOutBwdIdeal := hProjOutBwdIdeal)
    ∧ quiescent_ProjOutBwdRefIdeal (hProjOutBwdRefIdeal := hProjOutBwdRefIdeal)
    ∧ quiescent_FfnUpBwd (hFfnUpBwd := hFfnUpBwd)
    ∧ quiescent_FfnUpBwdIdeal (hFfnUpBwdIdeal := hFfnUpBwdIdeal)
    ∧ quiescent_FfnUpBwdRefIdeal (hFfnUpBwdRefIdeal := hFfnUpBwdRefIdeal)
    ∧ quiescent_FfnDownBwd (hFfnDownBwd := hFfnDownBwd)
    ∧ quiescent_FfnDownBwdIdeal (hFfnDownBwdIdeal := hFfnDownBwdIdeal)
    ∧ quiescent_FfnDownBwdRefIdeal (hFfnDownBwdRefIdeal := hFfnDownBwdRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_AllToAll_AllToAllIdeal
    ∧ algebraic_AllToAllIdeal_AllToAllRefIdeal (hAllToAllIdeal := hAllToAllIdeal) (hAllToAllRefIdeal := hAllToAllRefIdeal)
    ∧ bitexact_AllToAll_AllToAllRef (hAllToAll := hAllToAll) (hAllToAllRef := hAllToAllRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_GradAda_GradAdaIdeal
    ∧ algebraic_GradAdaIdeal_GradAdaRefIdeal (hGradAdaIdeal := hGradAdaIdeal) (hGradAdaRefIdeal := hGradAdaRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_PairIn0_PairIn0Ideal
    ∧ algebraic_PairIn0Ideal_PairIn0RefIdeal (hPairIn0Ideal := hPairIn0Ideal) (hPairIn0RefIdeal := hPairIn0RefIdeal)
    ∧ bitexact_PairIn0_PairIn0Ref (hPairIn0 := hPairIn0) (hPairIn0Ref := hPairIn0Ref)
    ∧ preserves_PairIn1_PairIn1Ideal
    ∧ algebraic_PairIn1Ideal_PairIn1RefIdeal (hPairIn1Ideal := hPairIn1Ideal) (hPairIn1RefIdeal := hPairIn1RefIdeal)
    ∧ bitexact_PairIn1_PairIn1Ref (hPairIn1 := hPairIn1) (hPairIn1Ref := hPairIn1Ref)
    ∧ preserves_PairOut0_PairOut0Ideal
    ∧ algebraic_PairOut0Ideal_PairOut0RefIdeal (hPairOut0Ideal := hPairOut0Ideal) (hPairOut0RefIdeal := hPairOut0RefIdeal)
    ∧ bitexact_PairOut0_PairOut0Ref (hPairOut0 := hPairOut0) (hPairOut0Ref := hPairOut0Ref)
    ∧ preserves_PairOut1_PairOut1Ideal
    ∧ algebraic_PairOut1Ideal_PairOut1RefIdeal (hPairOut1Ideal := hPairOut1Ideal) (hPairOut1RefIdeal := hPairOut1RefIdeal)
    ∧ bitexact_PairOut1_PairOut1Ref (hPairOut1 := hPairOut1) (hPairOut1Ref := hPairOut1Ref)
    ∧ preserves_PairUp0_PairUp0Ideal
    ∧ algebraic_PairUp0Ideal_PairUp0RefIdeal (hPairUp0Ideal := hPairUp0Ideal) (hPairUp0RefIdeal := hPairUp0RefIdeal)
    ∧ bitexact_PairUp0_PairUp0Ref (hPairUp0 := hPairUp0) (hPairUp0Ref := hPairUp0Ref)
    ∧ preserves_PairUp1_PairUp1Ideal
    ∧ algebraic_PairUp1Ideal_PairUp1RefIdeal (hPairUp1Ideal := hPairUp1Ideal) (hPairUp1RefIdeal := hPairUp1RefIdeal)
    ∧ bitexact_PairUp1_PairUp1Ref (hPairUp1 := hPairUp1) (hPairUp1Ref := hPairUp1Ref)
    ∧ preserves_PairDown0_PairDown0Ideal
    ∧ algebraic_PairDown0Ideal_PairDown0RefIdeal (hPairDown0Ideal := hPairDown0Ideal) (hPairDown0RefIdeal := hPairDown0RefIdeal)
    ∧ bitexact_PairDown0_PairDown0Ref (hPairDown0 := hPairDown0) (hPairDown0Ref := hPairDown0Ref)
    ∧ preserves_PairDown1_PairDown1Ideal
    ∧ algebraic_PairDown1Ideal_PairDown1RefIdeal (hPairDown1Ideal := hPairDown1Ideal) (hPairDown1RefIdeal := hPairDown1RefIdeal)
    ∧ bitexact_PairDown1_PairDown1Ref (hPairDown1 := hPairDown1) (hPairDown1Ref := hPairDown1Ref)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_ProjInBwd_ProjInBwdIdeal
    ∧ algebraic_ProjInBwdIdeal_ProjInBwdRefIdeal (hProjInBwdIdeal := hProjInBwdIdeal) (hProjInBwdRefIdeal := hProjInBwdRefIdeal)
    ∧ preserves_ProjOutBwd_ProjOutBwdIdeal
    ∧ algebraic_ProjOutBwdIdeal_ProjOutBwdRefIdeal (hProjOutBwdIdeal := hProjOutBwdIdeal) (hProjOutBwdRefIdeal := hProjOutBwdRefIdeal)
    ∧ preserves_FfnUpBwd_FfnUpBwdIdeal
    ∧ algebraic_FfnUpBwdIdeal_FfnUpBwdRefIdeal (hFfnUpBwdIdeal := hFfnUpBwdIdeal) (hFfnUpBwdRefIdeal := hFfnUpBwdRefIdeal)
    ∧ preserves_FfnDownBwd_FfnDownBwdIdeal
    ∧ algebraic_FfnDownBwdIdeal_FfnDownBwdRefIdeal (hFfnDownBwdIdeal := hFfnDownBwdIdeal) (hFfnDownBwdRefIdeal := hFfnDownBwdRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_NormIn_NormInIdeal
    ∧ algebraic_NormInIdeal_NormInRefIdeal (hNormInIdeal := hNormInIdeal) (hNormInRefIdeal := hNormInRefIdeal)
    ∧ preserves_GateNorm_GateNormIdeal
    ∧ algebraic_GateNormIdeal_GateNormRefIdeal (hGateNormIdeal := hGateNormIdeal) (hGateNormRefIdeal := hGateNormRefIdeal)
-- ==== Gather.lean ====
abbrev S1024x1792 : Shape := ⟨2, ![1024, 1792]⟩
abbrev S256x2048 : Shape := ⟨2, ![256, 2048]⟩
abbrev S1024x2816 : Shape := ⟨2, ![1024, 2816]⟩
abbrev S704x2048 : Shape := ⟨2, ![704, 2048]⟩
abbrev S8x1024x1792 : Shape := ⟨3, ![8, 1024, 1792]⟩
abbrev S8x256x2048 : Shape := ⟨3, ![8, 256, 2048]⟩
abbrev S8x1024x2816 : Shape := ⟨3, ![8, 1024, 2816]⟩
abbrev S8x704x2048 : Shape := ⟨3, ![8, 704, 2048]⟩
abbrev S8x7 : Shape := ⟨2, ![8, 7]⟩
abbrev S8 : Shape := ⟨1, ![8]⟩
abbrev S1 : Shape := ⟨1, ![1]⟩
abbrev S_ : Shape := ⟨0, ![]⟩
abbrev S1x1024x1792 : Shape := ⟨3, ![1, 1024, 1792]⟩
abbrev S1x256x2048 : Shape := ⟨3, ![1, 256, 2048]⟩
abbrev S1x1024x2816 : Shape := ⟨3, ![1, 1024, 2816]⟩
abbrev S1x704x2048 : Shape := ⟨3, ![1, 704, 2048]⟩
abbrev S1x1 : Shape := ⟨2, ![1, 1]⟩

abbrev nBuf : Space → Nat
  | .hbm => 16
  | .vmem => 0
  | .smem => 0
  | _ => 0

abbrev bufTy : (tb : Table) → Fin (tcTables nBuf tb) → BufTy
  | .hbm, ⟨0, _⟩ => ⟨S1024x1792, .bf16⟩
  | .hbm, ⟨1, _⟩ => ⟨S256x2048, .bf16⟩
  | .hbm, ⟨2, _⟩ => ⟨S1024x2816, .bf16⟩
  | .hbm, ⟨3, _⟩ => ⟨S704x2048, .bf16⟩
  | .hbm, ⟨4, _⟩ => ⟨S1024x1792, .bf16⟩
  | .hbm, ⟨5, _⟩ => ⟨S256x2048, .bf16⟩
  | .hbm, ⟨6, _⟩ => ⟨S1024x2816, .bf16⟩
  | .hbm, ⟨7, _⟩ => ⟨S704x2048, .bf16⟩
  | .hbm, ⟨8, _⟩ => ⟨S8x1024x1792, .bf16⟩
  | .hbm, ⟨9, _⟩ => ⟨S8x256x2048, .bf16⟩
  | .hbm, ⟨10, _⟩ => ⟨S8x1024x2816, .bf16⟩
  | .hbm, ⟨11, _⟩ => ⟨S8x704x2048, .bf16⟩
  | .hbm, ⟨12, _⟩ => ⟨S8x1024x1792, .bf16⟩
  | .hbm, ⟨13, _⟩ => ⟨S8x256x2048, .bf16⟩
  | .hbm, ⟨14, _⟩ => ⟨S8x1024x2816, .bf16⟩
  | .hbm, ⟨15, _⟩ => ⟨S8x704x2048, .bf16⟩
  | _, _ => ⟨S1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_24 : BitVec 32 := 0#32
  let c0_i32_25 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_35 : BitVec 32 := 0#32
  let c0_i32_36 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_46 : BitVec 32 := 0#32
  let c0_i32_47 : BitVec 32 := 0#32
  ![v25.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_56 : BitVec 32 := 0#32
  let c0_i32_57 : BitVec 32 := 0#32
  ![v29.toNat, 0, 0]
def k0_dev1 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v206 : BitVec 32 := Scalar.muli v2 c4_i32_111
  let v207 : BitVec 32 := Scalar.addi c0_i32_112 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v208 : BitVec 32 := Scalar.muli v5 c2_i32_113
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_114 : BitVec 32 := 1#32
  let v210 : BitVec 32 := Scalar.muli v9 c1_i32_114
  let v211 : BitVec 32 := Scalar.addi v209 v210
  v211.toNat
def k0_dev2 (d0 : Dev nD) : Nat :=
  let c0_i32_122 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_121 : BitVec 32 := 4#32
  let v218 : BitVec 32 := Scalar.muli v10 c4_i32_121
  let v219 : BitVec 32 := Scalar.addi c0_i32_122 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v220 : BitVec 32 := Scalar.muli v5 c2_i32_123
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v222 : BitVec 32 := Scalar.muli v8 c1_i32_124
  let v223 : BitVec 32 := Scalar.addi v221 v222
  v223.toNat
def k0_dev3 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v230 : BitVec 32 := Scalar.muli v2 c4_i32_131
  let v231 : BitVec 32 := Scalar.addi c0_i32_132 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_133 : BitVec 32 := 2#32
  let v232 : BitVec 32 := Scalar.muli v11 c2_i32_133
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v234 : BitVec 32 := Scalar.muli v8 c1_i32_134
  let v235 : BitVec 32 := Scalar.addi v233 v234
  v235.toNat
def k0_dev4 (d0 : Dev nD) : Nat :=
  let c0_i32_142 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_141 : BitVec 32 := 4#32
  let v242 : BitVec 32 := Scalar.muli v12 c4_i32_141
  let v243 : BitVec 32 := Scalar.addi c0_i32_142 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_143 : BitVec 32 := 2#32
  let v244 : BitVec 32 := Scalar.muli v13 c2_i32_143
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v246 : BitVec 32 := Scalar.muli v8 c1_i32_144
  let v247 : BitVec 32 := Scalar.addi v245 v246
  v247.toNat
def k0_dev5 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v254 : BitVec 32 := Scalar.muli v2 c4_i32_151
  let v255 : BitVec 32 := Scalar.addi c0_i32_152 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v256 : BitVec 32 := Scalar.muli v5 c2_i32_153
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_154 : BitVec 32 := 1#32
  let v258 : BitVec 32 := Scalar.muli v9 c1_i32_154
  let v259 : BitVec 32 := Scalar.addi v257 v258
  v259.toNat
def k0_dev6 (d0 : Dev nD) : Nat :=
  let c0_i32_162 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_161 : BitVec 32 := 4#32
  let v266 : BitVec 32 := Scalar.muli v10 c4_i32_161
  let v267 : BitVec 32 := Scalar.addi c0_i32_162 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v268 : BitVec 32 := Scalar.muli v5 c2_i32_163
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v270 : BitVec 32 := Scalar.muli v8 c1_i32_164
  let v271 : BitVec 32 := Scalar.addi v269 v270
  v271.toNat
def k0_dev7 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v278 : BitVec 32 := Scalar.muli v2 c4_i32_171
  let v279 : BitVec 32 := Scalar.addi c0_i32_172 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_173 : BitVec 32 := 2#32
  let v280 : BitVec 32 := Scalar.muli v11 c2_i32_173
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v282 : BitVec 32 := Scalar.muli v8 c1_i32_174
  let v283 : BitVec 32 := Scalar.addi v281 v282
  v283.toNat
def k0_dev8 (d0 : Dev nD) : Nat :=
  let c0_i32_182 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_181 : BitVec 32 := 4#32
  let v290 : BitVec 32 := Scalar.muli v12 c4_i32_181
  let v291 : BitVec 32 := Scalar.addi c0_i32_182 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_183 : BitVec 32 := 2#32
  let v292 : BitVec 32 := Scalar.muli v13 c2_i32_183
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v294 : BitVec 32 := Scalar.muli v8 c1_i32_184
  let v295 : BitVec 32 := Scalar.addi v293 v294
  v295.toNat
def k0_dev9 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v302 : BitVec 32 := Scalar.muli v2 c4_i32_191
  let v303 : BitVec 32 := Scalar.addi c0_i32_192 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v304 : BitVec 32 := Scalar.muli v5 c2_i32_193
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_194 : BitVec 32 := 1#32
  let v306 : BitVec 32 := Scalar.muli v9 c1_i32_194
  let v307 : BitVec 32 := Scalar.addi v305 v306
  v307.toNat
def k0_dev10 (d0 : Dev nD) : Nat :=
  let c0_i32_202 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_201 : BitVec 32 := 4#32
  let v314 : BitVec 32 := Scalar.muli v10 c4_i32_201
  let v315 : BitVec 32 := Scalar.addi c0_i32_202 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v316 : BitVec 32 := Scalar.muli v5 c2_i32_203
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v318 : BitVec 32 := Scalar.muli v8 c1_i32_204
  let v319 : BitVec 32 := Scalar.addi v317 v318
  v319.toNat
def k0_dev11 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v326 : BitVec 32 := Scalar.muli v2 c4_i32_211
  let v327 : BitVec 32 := Scalar.addi c0_i32_212 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_213 : BitVec 32 := 2#32
  let v328 : BitVec 32 := Scalar.muli v11 c2_i32_213
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v330 : BitVec 32 := Scalar.muli v8 c1_i32_214
  let v331 : BitVec 32 := Scalar.addi v329 v330
  v331.toNat
def k0_dev12 (d0 : Dev nD) : Nat :=
  let c0_i32_222 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_221 : BitVec 32 := 4#32
  let v338 : BitVec 32 := Scalar.muli v12 c4_i32_221
  let v339 : BitVec 32 := Scalar.addi c0_i32_222 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_223 : BitVec 32 := 2#32
  let v340 : BitVec 32 := Scalar.muli v13 c2_i32_223
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v342 : BitVec 32 := Scalar.muli v8 c1_i32_224
  let v343 : BitVec 32 := Scalar.addi v341 v342
  v343.toNat
def k0_dev13 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v350 : BitVec 32 := Scalar.muli v2 c4_i32_231
  let v351 : BitVec 32 := Scalar.addi c0_i32_232 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v352 : BitVec 32 := Scalar.muli v5 c2_i32_233
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_234 : BitVec 32 := 1#32
  let v354 : BitVec 32 := Scalar.muli v9 c1_i32_234
  let v355 : BitVec 32 := Scalar.addi v353 v354
  v355.toNat
def k0_dev14 (d0 : Dev nD) : Nat :=
  let c0_i32_242 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_241 : BitVec 32 := 4#32
  let v362 : BitVec 32 := Scalar.muli v10 c4_i32_241
  let v363 : BitVec 32 := Scalar.addi c0_i32_242 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v364 : BitVec 32 := Scalar.muli v5 c2_i32_243
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v366 : BitVec 32 := Scalar.muli v8 c1_i32_244
  let v367 : BitVec 32 := Scalar.addi v365 v366
  v367.toNat
def k0_dev15 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v374 : BitVec 32 := Scalar.muli v2 c4_i32_251
  let v375 : BitVec 32 := Scalar.addi c0_i32_252 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_253 : BitVec 32 := 2#32
  let v376 : BitVec 32 := Scalar.muli v11 c2_i32_253
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v378 : BitVec 32 := Scalar.muli v8 c1_i32_254
  let v379 : BitVec 32 := Scalar.addi v377 v378
  v379.toNat
def k0_dev16 (d0 : Dev nD) : Nat :=
  let c0_i32_262 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_261 : BitVec 32 := 4#32
  let v386 : BitVec 32 := Scalar.muli v12 c4_i32_261
  let v387 : BitVec 32 := Scalar.addi c0_i32_262 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_263 : BitVec 32 := 2#32
  let v388 : BitVec 32 := Scalar.muli v13 c2_i32_263
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v390 : BitVec 32 := Scalar.muli v8 c1_i32_264
  let v391 : BitVec 32 := Scalar.addi v389 v390
  v391.toNat
def k0_dev17 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v398 : BitVec 32 := Scalar.muli v2 c4_i32_271
  let v399 : BitVec 32 := Scalar.addi c0_i32_272 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v400 : BitVec 32 := Scalar.muli v5 c2_i32_273
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_274 : BitVec 32 := 1#32
  let v402 : BitVec 32 := Scalar.muli v9 c1_i32_274
  let v403 : BitVec 32 := Scalar.addi v401 v402
  v403.toNat
def k0_dev18 (d0 : Dev nD) : Nat :=
  let c0_i32_282 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_281 : BitVec 32 := 4#32
  let v410 : BitVec 32 := Scalar.muli v10 c4_i32_281
  let v411 : BitVec 32 := Scalar.addi c0_i32_282 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v412 : BitVec 32 := Scalar.muli v5 c2_i32_283
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v414 : BitVec 32 := Scalar.muli v8 c1_i32_284
  let v415 : BitVec 32 := Scalar.addi v413 v414
  v415.toNat
def k0_dev19 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v422 : BitVec 32 := Scalar.muli v2 c4_i32_291
  let v423 : BitVec 32 := Scalar.addi c0_i32_292 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_293 : BitVec 32 := 2#32
  let v424 : BitVec 32 := Scalar.muli v11 c2_i32_293
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v426 : BitVec 32 := Scalar.muli v8 c1_i32_294
  let v427 : BitVec 32 := Scalar.addi v425 v426
  v427.toNat
def k0_dev20 (d0 : Dev nD) : Nat :=
  let c0_i32_302 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_301 : BitVec 32 := 4#32
  let v434 : BitVec 32 := Scalar.muli v12 c4_i32_301
  let v435 : BitVec 32 := Scalar.addi c0_i32_302 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_303 : BitVec 32 := 2#32
  let v436 : BitVec 32 := Scalar.muli v13 c2_i32_303
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v438 : BitVec 32 := Scalar.muli v8 c1_i32_304
  let v439 : BitVec 32 := Scalar.addi v437 v438
  v439.toNat
def k0_dev21 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v446 : BitVec 32 := Scalar.muli v2 c4_i32_311
  let v447 : BitVec 32 := Scalar.addi c0_i32_312 v446
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v448 : BitVec 32 := Scalar.muli v5 c2_i32_313
  let v449 : BitVec 32 := Scalar.addi v447 v448
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_314 : BitVec 32 := 1#32
  let v450 : BitVec 32 := Scalar.muli v9 c1_i32_314
  let v451 : BitVec 32 := Scalar.addi v449 v450
  v451.toNat
def k0_dev22 (d0 : Dev nD) : Nat :=
  let c0_i32_322 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_321 : BitVec 32 := 4#32
  let v458 : BitVec 32 := Scalar.muli v10 c4_i32_321
  let v459 : BitVec 32 := Scalar.addi c0_i32_322 v458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v460 : BitVec 32 := Scalar.muli v5 c2_i32_323
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v462 : BitVec 32 := Scalar.muli v8 c1_i32_324
  let v463 : BitVec 32 := Scalar.addi v461 v462
  v463.toNat
def k0_dev23 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_331 : BitVec 32 := 4#32
  let v470 : BitVec 32 := Scalar.muli v2 c4_i32_331
  let v471 : BitVec 32 := Scalar.addi c0_i32_332 v470
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_333 : BitVec 32 := 2#32
  let v472 : BitVec 32 := Scalar.muli v11 c2_i32_333
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_334 : BitVec 32 := 1#32
  let v474 : BitVec 32 := Scalar.muli v8 c1_i32_334
  let v475 : BitVec 32 := Scalar.addi v473 v474
  v475.toNat
def k0_dev24 (d0 : Dev nD) : Nat :=
  let c0_i32_342 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_341 : BitVec 32 := 4#32
  let v482 : BitVec 32 := Scalar.muli v12 c4_i32_341
  let v483 : BitVec 32 := Scalar.addi c0_i32_342 v482
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_343 : BitVec 32 := 2#32
  let v484 : BitVec 32 := Scalar.muli v13 c2_i32_343
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_344 : BitVec 32 := 1#32
  let v486 : BitVec 32 := Scalar.muli v8 c1_i32_344
  let v487 : BitVec 32 := Scalar.addi v485 v486
  v487.toNat
def k0_dev25 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v494 : BitVec 32 := Scalar.muli v2 c4_i32_351
  let v495 : BitVec 32 := Scalar.addi c0_i32_352 v494
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v496 : BitVec 32 := Scalar.muli v5 c2_i32_353
  let v497 : BitVec 32 := Scalar.addi v495 v496
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_354 : BitVec 32 := 1#32
  let v498 : BitVec 32 := Scalar.muli v9 c1_i32_354
  let v499 : BitVec 32 := Scalar.addi v497 v498
  v499.toNat
def k0_dev26 (d0 : Dev nD) : Nat :=
  let c0_i32_362 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_361 : BitVec 32 := 4#32
  let v506 : BitVec 32 := Scalar.muli v10 c4_i32_361
  let v507 : BitVec 32 := Scalar.addi c0_i32_362 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v508 : BitVec 32 := Scalar.muli v5 c2_i32_363
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v510 : BitVec 32 := Scalar.muli v8 c1_i32_364
  let v511 : BitVec 32 := Scalar.addi v509 v510
  v511.toNat
def k0_dev27 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v518 : BitVec 32 := Scalar.muli v2 c4_i32_371
  let v519 : BitVec 32 := Scalar.addi c0_i32_372 v518
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_373 : BitVec 32 := 2#32
  let v520 : BitVec 32 := Scalar.muli v11 c2_i32_373
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_374 : BitVec 32 := 1#32
  let v522 : BitVec 32 := Scalar.muli v8 c1_i32_374
  let v523 : BitVec 32 := Scalar.addi v521 v522
  v523.toNat
def k0_dev28 (d0 : Dev nD) : Nat :=
  let c0_i32_382 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_381 : BitVec 32 := 4#32
  let v530 : BitVec 32 := Scalar.muli v12 c4_i32_381
  let v531 : BitVec 32 := Scalar.addi c0_i32_382 v530
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_383 : BitVec 32 := 2#32
  let v532 : BitVec 32 := Scalar.muli v13 c2_i32_383
  let v533 : BitVec 32 := Scalar.addi v531 v532
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v534 : BitVec 32 := Scalar.muli v8 c1_i32_384
  let v535 : BitVec 32 := Scalar.addi v533 v534
  v535.toNat
def k0_dev29 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v542 : BitVec 32 := Scalar.muli v2 c4_i32_391
  let v543 : BitVec 32 := Scalar.addi c0_i32_392 v542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v544 : BitVec 32 := Scalar.muli v5 c2_i32_393
  let v545 : BitVec 32 := Scalar.addi v543 v544
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_394 : BitVec 32 := 1#32
  let v546 : BitVec 32 := Scalar.muli v9 c1_i32_394
  let v547 : BitVec 32 := Scalar.addi v545 v546
  v547.toNat
def k0_dev30 (d0 : Dev nD) : Nat :=
  let c0_i32_402 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_401 : BitVec 32 := 4#32
  let v554 : BitVec 32 := Scalar.muli v10 c4_i32_401
  let v555 : BitVec 32 := Scalar.addi c0_i32_402 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_403 : BitVec 32 := 2#32
  let v556 : BitVec 32 := Scalar.muli v5 c2_i32_403
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_404 : BitVec 32 := 1#32
  let v558 : BitVec 32 := Scalar.muli v8 c1_i32_404
  let v559 : BitVec 32 := Scalar.addi v557 v558
  v559.toNat
def k0_dev31 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v566 : BitVec 32 := Scalar.muli v2 c4_i32_411
  let v567 : BitVec 32 := Scalar.addi c0_i32_412 v566
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_413 : BitVec 32 := 2#32
  let v568 : BitVec 32 := Scalar.muli v11 c2_i32_413
  let v569 : BitVec 32 := Scalar.addi v567 v568
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_414 : BitVec 32 := 1#32
  let v570 : BitVec 32 := Scalar.muli v8 c1_i32_414
  let v571 : BitVec 32 := Scalar.addi v569 v570
  v571.toNat
def k0_dev32 (d0 : Dev nD) : Nat :=
  let c0_i32_422 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_421 : BitVec 32 := 4#32
  let v578 : BitVec 32 := Scalar.muli v12 c4_i32_421
  let v579 : BitVec 32 := Scalar.addi c0_i32_422 v578
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_423 : BitVec 32 := 2#32
  let v580 : BitVec 32 := Scalar.muli v13 c2_i32_423
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_424 : BitVec 32 := 1#32
  let v582 : BitVec 32 := Scalar.muli v8 c1_i32_424
  let v583 : BitVec 32 := Scalar.addi v581 v582
  v583.toNat
def k0_off5 (d0 : Dev nD) : Fin 3 → Nat :=
  let c4_i32_429 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v594 : BitVec 32 := Scalar.muli c4_i32_429 v10
  let c2_i32_430 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v595 : BitVec 32 := Scalar.muli c2_i32_430 v5
  let v596 : BitVec 32 := Scalar.addi v594 v595
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v597 : BitVec 32 := Scalar.addi v596 v8
  let c0_i32_439 : BitVec 32 := 0#32
  let c0_i32_440 : BitVec 32 := 0#32
  ![v597.toNat, 0, 0]
def k0_dev33 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v618 : BitVec 32 := Scalar.muli v2 c4_i32_451
  let v619 : BitVec 32 := Scalar.addi c0_i32_452 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v620 : BitVec 32 := Scalar.muli v5 c2_i32_453
  let v621 : BitVec 32 := Scalar.addi v619 v620
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_454 : BitVec 32 := 1#32
  let v622 : BitVec 32 := Scalar.muli v9 c1_i32_454
  let v623 : BitVec 32 := Scalar.addi v621 v622
  v623.toNat
def k0_off6 (d0 : Dev nD) : Fin 3 → Nat :=
  let c4_i32_461 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v636 : BitVec 32 := Scalar.muli c4_i32_461 v10
  let c2_i32_462 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v637 : BitVec 32 := Scalar.muli c2_i32_462 v5
  let v638 : BitVec 32 := Scalar.addi v636 v637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v639 : BitVec 32 := Scalar.addi v638 v8
  let c0_i32_471 : BitVec 32 := 0#32
  let c0_i32_472 : BitVec 32 := 0#32
  ![v639.toNat, 0, 0]
def k0_dev34 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v660 : BitVec 32 := Scalar.muli v2 c4_i32_483
  let v661 : BitVec 32 := Scalar.addi c0_i32_484 v660
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v662 : BitVec 32 := Scalar.muli v5 c2_i32_485
  let v663 : BitVec 32 := Scalar.addi v661 v662
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_486 : BitVec 32 := 1#32
  let v664 : BitVec 32 := Scalar.muli v9 c1_i32_486
  let v665 : BitVec 32 := Scalar.addi v663 v664
  v665.toNat
def k0_off7 (d0 : Dev nD) : Fin 3 → Nat :=
  let c4_i32_493 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v678 : BitVec 32 := Scalar.muli c4_i32_493 v10
  let c2_i32_494 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v679 : BitVec 32 := Scalar.muli c2_i32_494 v5
  let v680 : BitVec 32 := Scalar.addi v678 v679
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v681 : BitVec 32 := Scalar.addi v680 v8
  let c0_i32_503 : BitVec 32 := 0#32
  let c0_i32_504 : BitVec 32 := 0#32
  ![v681.toNat, 0, 0]
def k0_dev35 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v702 : BitVec 32 := Scalar.muli v2 c4_i32_515
  let v703 : BitVec 32 := Scalar.addi c0_i32_516 v702
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_517 : BitVec 32 := 2#32
  let v704 : BitVec 32 := Scalar.muli v5 c2_i32_517
  let v705 : BitVec 32 := Scalar.addi v703 v704
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_518 : BitVec 32 := 1#32
  let v706 : BitVec 32 := Scalar.muli v9 c1_i32_518
  let v707 : BitVec 32 := Scalar.addi v705 v706
  v707.toNat
def k0_off8 (d0 : Dev nD) : Fin 3 → Nat :=
  let c4_i32_525 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v720 : BitVec 32 := Scalar.muli c4_i32_525 v10
  let c2_i32_526 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v721 : BitVec 32 := Scalar.muli c2_i32_526 v5
  let v722 : BitVec 32 := Scalar.addi v720 v721
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v723 : BitVec 32 := Scalar.addi v722 v8
  let c0_i32_535 : BitVec 32 := 0#32
  let c0_i32_536 : BitVec 32 := 0#32
  ![v723.toNat, 0, 0]
def k0_dev36 (d0 : Dev nD) : Nat :=
  let c0_i32_548 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_547 : BitVec 32 := 4#32
  let v744 : BitVec 32 := Scalar.muli v2 c4_i32_547
  let v745 : BitVec 32 := Scalar.addi c0_i32_548 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_549 : BitVec 32 := 2#32
  let v746 : BitVec 32 := Scalar.muli v5 c2_i32_549
  let v747 : BitVec 32 := Scalar.addi v745 v746
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_550 : BitVec 32 := 1#32
  let v748 : BitVec 32 := Scalar.muli v9 c1_i32_550
  let v749 : BitVec 32 := Scalar.addi v747 v748
  v749.toNat
def k0_dev37 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v786 : BitVec 32 := Scalar.muli v2 c4_i32_579
  let v787 : BitVec 32 := Scalar.addi c0_i32_580 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_581 : BitVec 32 := 2#32
  let v788 : BitVec 32 := Scalar.muli v5 c2_i32_581
  let v789 : BitVec 32 := Scalar.addi v787 v788
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_582 : BitVec 32 := 1#32
  let v790 : BitVec 32 := Scalar.muli v9 c1_i32_582
  let v791 : BitVec 32 := Scalar.addi v789 v790
  v791.toNat
def k0_dev38 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_611 : BitVec 32 := 4#32
  let v828 : BitVec 32 := Scalar.muli v2 c4_i32_611
  let v829 : BitVec 32 := Scalar.addi c0_i32_612 v828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_613 : BitVec 32 := 2#32
  let v830 : BitVec 32 := Scalar.muli v5 c2_i32_613
  let v831 : BitVec 32 := Scalar.addi v829 v830
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_614 : BitVec 32 := 1#32
  let v832 : BitVec 32 := Scalar.muli v9 c1_i32_614
  let v833 : BitVec 32 := Scalar.addi v831 v832
  v833.toNat
def k0_dev39 (d0 : Dev nD) : Nat :=
  let c0_i32_644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_643 : BitVec 32 := 4#32
  let v870 : BitVec 32 := Scalar.muli v2 c4_i32_643
  let v871 : BitVec 32 := Scalar.addi c0_i32_644 v870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_645 : BitVec 32 := 2#32
  let v872 : BitVec 32 := Scalar.muli v5 c2_i32_645
  let v873 : BitVec 32 := Scalar.addi v871 v872
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_646 : BitVec 32 := 1#32
  let v874 : BitVec 32 := Scalar.muli v9 c1_i32_646
  let v875 : BitVec 32 := Scalar.addi v873 v874
  v875.toNat
def k0_dev40 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v912 : BitVec 32 := Scalar.muli v2 c4_i32_675
  let v913 : BitVec 32 := Scalar.addi c0_i32_676 v912
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_677 : BitVec 32 := 2#32
  let v914 : BitVec 32 := Scalar.muli v5 c2_i32_677
  let v915 : BitVec 32 := Scalar.addi v913 v914
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_678 : BitVec 32 := 1#32
  let v916 : BitVec 32 := Scalar.muli v9 c1_i32_678
  let v917 : BitVec 32 := Scalar.addi v915 v916
  v917.toNat
def k0_off9 (d0 : Dev nD) : Fin 3 → Nat :=
  let c4_i32_685 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v930 : BitVec 32 := Scalar.muli c4_i32_685 v2
  let c2_i32_686 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v931 : BitVec 32 := Scalar.muli c2_i32_686 v11
  let v932 : BitVec 32 := Scalar.addi v930 v931
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v933 : BitVec 32 := Scalar.addi v932 v8
  let c0_i32_695 : BitVec 32 := 0#32
  let c0_i32_696 : BitVec 32 := 0#32
  ![v933.toNat, 0, 0]
def k0_dev41 (d0 : Dev nD) : Nat :=
  let c0_i32_708 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_707 : BitVec 32 := 4#32
  let v954 : BitVec 32 := Scalar.muli v2 c4_i32_707
  let v955 : BitVec 32 := Scalar.addi c0_i32_708 v954
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_709 : BitVec 32 := 2#32
  let v956 : BitVec 32 := Scalar.muli v5 c2_i32_709
  let v957 : BitVec 32 := Scalar.addi v955 v956
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_710 : BitVec 32 := 1#32
  let v958 : BitVec 32 := Scalar.muli v9 c1_i32_710
  let v959 : BitVec 32 := Scalar.addi v957 v958
  v959.toNat
def k0_off10 (d0 : Dev nD) : Fin 3 → Nat :=
  let c4_i32_717 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v972 : BitVec 32 := Scalar.muli c4_i32_717 v2
  let c2_i32_718 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v973 : BitVec 32 := Scalar.muli c2_i32_718 v11
  let v974 : BitVec 32 := Scalar.addi v972 v973
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v975 : BitVec 32 := Scalar.addi v974 v8
  let c0_i32_727 : BitVec 32 := 0#32
  let c0_i32_728 : BitVec 32 := 0#32
  ![v975.toNat, 0, 0]
def k0_dev42 (d0 : Dev nD) : Nat :=
  let c0_i32_740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_739 : BitVec 32 := 4#32
  let v996 : BitVec 32 := Scalar.muli v2 c4_i32_739
  let v997 : BitVec 32 := Scalar.addi c0_i32_740 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_741 : BitVec 32 := 2#32
  let v998 : BitVec 32 := Scalar.muli v5 c2_i32_741
  let v999 : BitVec 32 := Scalar.addi v997 v998
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_742 : BitVec 32 := 1#32
  let v1000 : BitVec 32 := Scalar.muli v9 c1_i32_742
  let v1001 : BitVec 32 := Scalar.addi v999 v1000
  v1001.toNat
def k0_off11 (d0 : Dev nD) : Fin 3 → Nat :=
  let c4_i32_749 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1014 : BitVec 32 := Scalar.muli c4_i32_749 v2
  let c2_i32_750 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1015 : BitVec 32 := Scalar.muli c2_i32_750 v11
  let v1016 : BitVec 32 := Scalar.addi v1014 v1015
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1017 : BitVec 32 := Scalar.addi v1016 v8
  let c0_i32_759 : BitVec 32 := 0#32
  let c0_i32_760 : BitVec 32 := 0#32
  ![v1017.toNat, 0, 0]
def k0_dev43 (d0 : Dev nD) : Nat :=
  let c0_i32_772 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_771 : BitVec 32 := 4#32
  let v1038 : BitVec 32 := Scalar.muli v2 c4_i32_771
  let v1039 : BitVec 32 := Scalar.addi c0_i32_772 v1038
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_773 : BitVec 32 := 2#32
  let v1040 : BitVec 32 := Scalar.muli v5 c2_i32_773
  let v1041 : BitVec 32 := Scalar.addi v1039 v1040
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_774 : BitVec 32 := 1#32
  let v1042 : BitVec 32 := Scalar.muli v9 c1_i32_774
  let v1043 : BitVec 32 := Scalar.addi v1041 v1042
  v1043.toNat
def k0_off12 (d0 : Dev nD) : Fin 3 → Nat :=
  let c4_i32_781 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1056 : BitVec 32 := Scalar.muli c4_i32_781 v2
  let c2_i32_782 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1057 : BitVec 32 := Scalar.muli c2_i32_782 v11
  let v1058 : BitVec 32 := Scalar.addi v1056 v1057
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1059 : BitVec 32 := Scalar.addi v1058 v8
  let c0_i32_791 : BitVec 32 := 0#32
  let c0_i32_792 : BitVec 32 := 0#32
  ![v1059.toNat, 0, 0]
def k0_dev44 (d0 : Dev nD) : Nat :=
  let c0_i32_804 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_803 : BitVec 32 := 4#32
  let v1080 : BitVec 32 := Scalar.muli v2 c4_i32_803
  let v1081 : BitVec 32 := Scalar.addi c0_i32_804 v1080
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_805 : BitVec 32 := 2#32
  let v1082 : BitVec 32 := Scalar.muli v5 c2_i32_805
  let v1083 : BitVec 32 := Scalar.addi v1081 v1082
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_806 : BitVec 32 := 1#32
  let v1084 : BitVec 32 := Scalar.muli v9 c1_i32_806
  let v1085 : BitVec 32 := Scalar.addi v1083 v1084
  v1085.toNat
def k0_dev45 (d0 : Dev nD) : Nat :=
  let c0_i32_836 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_835 : BitVec 32 := 4#32
  let v1122 : BitVec 32 := Scalar.muli v2 c4_i32_835
  let v1123 : BitVec 32 := Scalar.addi c0_i32_836 v1122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_837 : BitVec 32 := 2#32
  let v1124 : BitVec 32 := Scalar.muli v5 c2_i32_837
  let v1125 : BitVec 32 := Scalar.addi v1123 v1124
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_838 : BitVec 32 := 1#32
  let v1126 : BitVec 32 := Scalar.muli v9 c1_i32_838
  let v1127 : BitVec 32 := Scalar.addi v1125 v1126
  v1127.toNat
def k0_dev46 (d0 : Dev nD) : Nat :=
  let c0_i32_868 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_867 : BitVec 32 := 4#32
  let v1164 : BitVec 32 := Scalar.muli v2 c4_i32_867
  let v1165 : BitVec 32 := Scalar.addi c0_i32_868 v1164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_869 : BitVec 32 := 2#32
  let v1166 : BitVec 32 := Scalar.muli v5 c2_i32_869
  let v1167 : BitVec 32 := Scalar.addi v1165 v1166
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_870 : BitVec 32 := 1#32
  let v1168 : BitVec 32 := Scalar.muli v9 c1_i32_870
  let v1169 : BitVec 32 := Scalar.addi v1167 v1168
  v1169.toNat
def k0_dev47 (d0 : Dev nD) : Nat :=
  let c0_i32_900 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_899 : BitVec 32 := 4#32
  let v1206 : BitVec 32 := Scalar.muli v2 c4_i32_899
  let v1207 : BitVec 32 := Scalar.addi c0_i32_900 v1206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_901 : BitVec 32 := 2#32
  let v1208 : BitVec 32 := Scalar.muli v5 c2_i32_901
  let v1209 : BitVec 32 := Scalar.addi v1207 v1208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_902 : BitVec 32 := 1#32
  let v1210 : BitVec 32 := Scalar.muli v9 c1_i32_902
  let v1211 : BitVec 32 := Scalar.addi v1209 v1210
  v1211.toNat
def k0_dev48 (d0 : Dev nD) : Nat :=
  let c0_i32_932 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_931 : BitVec 32 := 4#32
  let v1248 : BitVec 32 := Scalar.muli v2 c4_i32_931
  let v1249 : BitVec 32 := Scalar.addi c0_i32_932 v1248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_933 : BitVec 32 := 2#32
  let v1250 : BitVec 32 := Scalar.muli v5 c2_i32_933
  let v1251 : BitVec 32 := Scalar.addi v1249 v1250
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_934 : BitVec 32 := 1#32
  let v1252 : BitVec 32 := Scalar.muli v9 c1_i32_934
  let v1253 : BitVec 32 := Scalar.addi v1251 v1252
  v1253.toNat
def k0_off13 (d0 : Dev nD) : Fin 3 → Nat :=
  let c4_i32_941 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1266 : BitVec 32 := Scalar.muli c4_i32_941 v12
  let c2_i32_942 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1267 : BitVec 32 := Scalar.muli c2_i32_942 v13
  let v1268 : BitVec 32 := Scalar.addi v1266 v1267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1269 : BitVec 32 := Scalar.addi v1268 v8
  let c0_i32_951 : BitVec 32 := 0#32
  let c0_i32_952 : BitVec 32 := 0#32
  ![v1269.toNat, 0, 0]
def k0_dev49 (d0 : Dev nD) : Nat :=
  let c0_i32_964 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_963 : BitVec 32 := 4#32
  let v1290 : BitVec 32 := Scalar.muli v2 c4_i32_963
  let v1291 : BitVec 32 := Scalar.addi c0_i32_964 v1290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_965 : BitVec 32 := 2#32
  let v1292 : BitVec 32 := Scalar.muli v5 c2_i32_965
  let v1293 : BitVec 32 := Scalar.addi v1291 v1292
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_966 : BitVec 32 := 1#32
  let v1294 : BitVec 32 := Scalar.muli v9 c1_i32_966
  let v1295 : BitVec 32 := Scalar.addi v1293 v1294
  v1295.toNat
def k0_off14 (d0 : Dev nD) : Fin 3 → Nat :=
  let c4_i32_973 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1308 : BitVec 32 := Scalar.muli c4_i32_973 v12
  let c2_i32_974 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1309 : BitVec 32 := Scalar.muli c2_i32_974 v13
  let v1310 : BitVec 32 := Scalar.addi v1308 v1309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1311 : BitVec 32 := Scalar.addi v1310 v8
  let c0_i32_983 : BitVec 32 := 0#32
  let c0_i32_984 : BitVec 32 := 0#32
  ![v1311.toNat, 0, 0]
def k0_dev50 (d0 : Dev nD) : Nat :=
  let c0_i32_996 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_995 : BitVec 32 := 4#32
  let v1332 : BitVec 32 := Scalar.muli v2 c4_i32_995
  let v1333 : BitVec 32 := Scalar.addi c0_i32_996 v1332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_997 : BitVec 32 := 2#32
  let v1334 : BitVec 32 := Scalar.muli v5 c2_i32_997
  let v1335 : BitVec 32 := Scalar.addi v1333 v1334
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_998 : BitVec 32 := 1#32
  let v1336 : BitVec 32 := Scalar.muli v9 c1_i32_998
  let v1337 : BitVec 32 := Scalar.addi v1335 v1336
  v1337.toNat
def k0_off15 (d0 : Dev nD) : Fin 3 → Nat :=
  let c4_i32_1005 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1350 : BitVec 32 := Scalar.muli c4_i32_1005 v12
  let c2_i32_1006 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1351 : BitVec 32 := Scalar.muli c2_i32_1006 v13
  let v1352 : BitVec 32 := Scalar.addi v1350 v1351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1353 : BitVec 32 := Scalar.addi v1352 v8
  let c0_i32_1015 : BitVec 32 := 0#32
  let c0_i32_1016 : BitVec 32 := 0#32
  ![v1353.toNat, 0, 0]
def k0_dev51 (d0 : Dev nD) : Nat :=
  let c0_i32_1028 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1027 : BitVec 32 := 4#32
  let v1374 : BitVec 32 := Scalar.muli v2 c4_i32_1027
  let v1375 : BitVec 32 := Scalar.addi c0_i32_1028 v1374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1029 : BitVec 32 := 2#32
  let v1376 : BitVec 32 := Scalar.muli v5 c2_i32_1029
  let v1377 : BitVec 32 := Scalar.addi v1375 v1376
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1030 : BitVec 32 := 1#32
  let v1378 : BitVec 32 := Scalar.muli v9 c1_i32_1030
  let v1379 : BitVec 32 := Scalar.addi v1377 v1378
  v1379.toNat
def k0_off16 (d0 : Dev nD) : Fin 3 → Nat :=
  let c4_i32_1037 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1392 : BitVec 32 := Scalar.muli c4_i32_1037 v12
  let c2_i32_1038 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1393 : BitVec 32 := Scalar.muli c2_i32_1038 v13
  let v1394 : BitVec 32 := Scalar.addi v1392 v1393
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1395 : BitVec 32 := Scalar.addi v1394 v8
  let c0_i32_1047 : BitVec 32 := 0#32
  let c0_i32_1048 : BitVec 32 := 0#32
  ![v1395.toNat, 0, 0]
def k0_dev52 (d0 : Dev nD) : Nat :=
  let c0_i32_1060 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1059 : BitVec 32 := 4#32
  let v1416 : BitVec 32 := Scalar.muli v2 c4_i32_1059
  let v1417 : BitVec 32 := Scalar.addi c0_i32_1060 v1416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1061 : BitVec 32 := 2#32
  let v1418 : BitVec 32 := Scalar.muli v5 c2_i32_1061
  let v1419 : BitVec 32 := Scalar.addi v1417 v1418
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1062 : BitVec 32 := 1#32
  let v1420 : BitVec 32 := Scalar.muli v9 c1_i32_1062
  let v1421 : BitVec 32 := Scalar.addi v1419 v1420
  v1421.toNat
def k0_dev53 (d0 : Dev nD) : Nat :=
  let c0_i32_1092 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1091 : BitVec 32 := 4#32
  let v1458 : BitVec 32 := Scalar.muli v2 c4_i32_1091
  let v1459 : BitVec 32 := Scalar.addi c0_i32_1092 v1458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1093 : BitVec 32 := 2#32
  let v1460 : BitVec 32 := Scalar.muli v5 c2_i32_1093
  let v1461 : BitVec 32 := Scalar.addi v1459 v1460
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1094 : BitVec 32 := 1#32
  let v1462 : BitVec 32 := Scalar.muli v9 c1_i32_1094
  let v1463 : BitVec 32 := Scalar.addi v1461 v1462
  v1463.toNat
def k0_dev54 (d0 : Dev nD) : Nat :=
  let c0_i32_1124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1123 : BitVec 32 := 4#32
  let v1500 : BitVec 32 := Scalar.muli v2 c4_i32_1123
  let v1501 : BitVec 32 := Scalar.addi c0_i32_1124 v1500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1125 : BitVec 32 := 2#32
  let v1502 : BitVec 32 := Scalar.muli v5 c2_i32_1125
  let v1503 : BitVec 32 := Scalar.addi v1501 v1502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1126 : BitVec 32 := 1#32
  let v1504 : BitVec 32 := Scalar.muli v9 c1_i32_1126
  let v1505 : BitVec 32 := Scalar.addi v1503 v1504
  v1505.toNat
def k0_dev55 (d0 : Dev nD) : Nat :=
  let c0_i32_1156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1155 : BitVec 32 := 4#32
  let v1542 : BitVec 32 := Scalar.muli v2 c4_i32_1155
  let v1543 : BitVec 32 := Scalar.addi c0_i32_1156 v1542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1157 : BitVec 32 := 2#32
  let v1544 : BitVec 32 := Scalar.muli v5 c2_i32_1157
  let v1545 : BitVec 32 := Scalar.addi v1543 v1544
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1158 : BitVec 32 := 1#32
  let v1546 : BitVec 32 := Scalar.muli v9 c1_i32_1158
  let v1547 : BitVec 32 := Scalar.addi v1545 v1546
  v1547.toNat
def k0_dev56 (d0 : Dev nD) : Nat :=
  let c0_i32_1188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1187 : BitVec 32 := 4#32
  let v1584 : BitVec 32 := Scalar.muli v2 c4_i32_1187
  let v1585 : BitVec 32 := Scalar.addi c0_i32_1188 v1584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1189 : BitVec 32 := 2#32
  let v1586 : BitVec 32 := Scalar.muli v5 c2_i32_1189
  let v1587 : BitVec 32 := Scalar.addi v1585 v1586
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1190 : BitVec 32 := 1#32
  let v1588 : BitVec 32 := Scalar.muli v9 c1_i32_1190
  let v1589 : BitVec 32 := Scalar.addi v1587 v1588
  v1589.toNat
def k0_off17 (d0 : Dev nD) : Fin 3 → Nat :=
  let c4_i32_1197 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1602 : BitVec 32 := Scalar.muli c4_i32_1197 v2
  let c2_i32_1198 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1603 : BitVec 32 := Scalar.muli c2_i32_1198 v5
  let v1604 : BitVec 32 := Scalar.addi v1602 v1603
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1605 : BitVec 32 := Scalar.addi v1604 v9
  let c0_i32_1207 : BitVec 32 := 0#32
  let c0_i32_1208 : BitVec 32 := 0#32
  ![v1605.toNat, 0, 0]
def k0_off18 (d0 : Dev nD) : Fin 3 → Nat :=
  let c4_i32_1214 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1623 : BitVec 32 := Scalar.muli c4_i32_1214 v10
  let c2_i32_1215 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1624 : BitVec 32 := Scalar.muli c2_i32_1215 v5
  let v1625 : BitVec 32 := Scalar.addi v1623 v1624
  let c1_i32_1211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1618 : BitVec 32 := Scalar.subi c1_i32_1211 v8
  let v1626 : BitVec 32 := Scalar.addi v1625 v1618
  let c0_i32_1224 : BitVec 32 := 0#32
  let c0_i32_1225 : BitVec 32 := 0#32
  ![v1626.toNat, 0, 0]
def k0_off19 (d0 : Dev nD) : Fin 3 → Nat :=
  let c4_i32_1231 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1644 : BitVec 32 := Scalar.muli c4_i32_1231 v2
  let c2_i32_1232 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1645 : BitVec 32 := Scalar.muli c2_i32_1232 v11
  let v1646 : BitVec 32 := Scalar.addi v1644 v1645
  let c1_i32_1228 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1639 : BitVec 32 := Scalar.subi c1_i32_1228 v8
  let v1647 : BitVec 32 := Scalar.addi v1646 v1639
  let c0_i32_1241 : BitVec 32 := 0#32
  let c0_i32_1242 : BitVec 32 := 0#32
  ![v1647.toNat, 0, 0]
def k0_off20 (d0 : Dev nD) : Fin 3 → Nat :=
  let c4_i32_1248 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1665 : BitVec 32 := Scalar.muli c4_i32_1248 v12
  let c2_i32_1249 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1666 : BitVec 32 := Scalar.muli c2_i32_1249 v13
  let v1667 : BitVec 32 := Scalar.addi v1665 v1666
  let c1_i32_1245 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1660 : BitVec 32 := Scalar.subi c1_i32_1245 v8
  let v1668 : BitVec 32 := Scalar.addi v1667 v1660
  let c0_i32_1258 : BitVec 32 := 0#32
  let c0_i32_1259 : BitVec 32 := 0#32
  ![v1668.toNat, 0, 0]
def k0_off21 (d0 : Dev nD) : Fin 3 → Nat :=
  let c4_i32_1264 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1685 : BitVec 32 := Scalar.muli c4_i32_1264 v2
  let c2_i32_1265 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1686 : BitVec 32 := Scalar.muli c2_i32_1265 v5
  let v1687 : BitVec 32 := Scalar.addi v1685 v1686
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1688 : BitVec 32 := Scalar.addi v1687 v9
  let c0_i32_1274 : BitVec 32 := 0#32
  let c0_i32_1275 : BitVec 32 := 0#32
  ![v1688.toNat, 0, 0]
def k0_off22 (d0 : Dev nD) : Fin 3 → Nat :=
  let c4_i32_1281 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1706 : BitVec 32 := Scalar.muli c4_i32_1281 v10
  let c2_i32_1282 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1707 : BitVec 32 := Scalar.muli c2_i32_1282 v5
  let v1708 : BitVec 32 := Scalar.addi v1706 v1707
  let c1_i32_1278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1701 : BitVec 32 := Scalar.subi c1_i32_1278 v8
  let v1709 : BitVec 32 := Scalar.addi v1708 v1701
  let c0_i32_1291 : BitVec 32 := 0#32
  let c0_i32_1292 : BitVec 32 := 0#32
  ![v1709.toNat, 0, 0]
def k0_off23 (d0 : Dev nD) : Fin 3 → Nat :=
  let c4_i32_1298 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1727 : BitVec 32 := Scalar.muli c4_i32_1298 v2
  let c2_i32_1299 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1728 : BitVec 32 := Scalar.muli c2_i32_1299 v11
  let v1729 : BitVec 32 := Scalar.addi v1727 v1728
  let c1_i32_1295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1722 : BitVec 32 := Scalar.subi c1_i32_1295 v8
  let v1730 : BitVec 32 := Scalar.addi v1729 v1722
  let c0_i32_1308 : BitVec 32 := 0#32
  let c0_i32_1309 : BitVec 32 := 0#32
  ![v1730.toNat, 0, 0]
def k0_off24 (d0 : Dev nD) : Fin 3 → Nat :=
  let c4_i32_1315 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1748 : BitVec 32 := Scalar.muli c4_i32_1315 v12
  let c2_i32_1316 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1749 : BitVec 32 := Scalar.muli c2_i32_1316 v13
  let v1750 : BitVec 32 := Scalar.addi v1748 v1749
  let c1_i32_1312 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1743 : BitVec 32 := Scalar.subi c1_i32_1312 v8
  let v1751 : BitVec 32 := Scalar.addi v1750 v1743
  let c0_i32_1325 : BitVec 32 := 0#32
  let c0_i32_1326 : BitVec 32 := 0#32
  ![v1751.toNat, 0, 0]
def k0_off25 (d0 : Dev nD) : Fin 3 → Nat :=
  let c4_i32_1331 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1768 : BitVec 32 := Scalar.muli c4_i32_1331 v2
  let c2_i32_1332 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1769 : BitVec 32 := Scalar.muli c2_i32_1332 v5
  let v1770 : BitVec 32 := Scalar.addi v1768 v1769
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1771 : BitVec 32 := Scalar.addi v1770 v9
  let c0_i32_1341 : BitVec 32 := 0#32
  let c0_i32_1342 : BitVec 32 := 0#32
  ![v1771.toNat, 0, 0]
def k0_off26 (d0 : Dev nD) : Fin 3 → Nat :=
  let c4_i32_1348 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1789 : BitVec 32 := Scalar.muli c4_i32_1348 v10
  let c2_i32_1349 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1790 : BitVec 32 := Scalar.muli c2_i32_1349 v5
  let v1791 : BitVec 32 := Scalar.addi v1789 v1790
  let c1_i32_1345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1784 : BitVec 32 := Scalar.subi c1_i32_1345 v8
  let v1792 : BitVec 32 := Scalar.addi v1791 v1784
  let c0_i32_1358 : BitVec 32 := 0#32
  let c0_i32_1359 : BitVec 32 := 0#32
  ![v1792.toNat, 0, 0]
def k0_off27 (d0 : Dev nD) : Fin 3 → Nat :=
  let c4_i32_1365 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1810 : BitVec 32 := Scalar.muli c4_i32_1365 v2
  let c2_i32_1366 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1811 : BitVec 32 := Scalar.muli c2_i32_1366 v11
  let v1812 : BitVec 32 := Scalar.addi v1810 v1811
  let c1_i32_1362 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1805 : BitVec 32 := Scalar.subi c1_i32_1362 v8
  let v1813 : BitVec 32 := Scalar.addi v1812 v1805
  let c0_i32_1375 : BitVec 32 := 0#32
  let c0_i32_1376 : BitVec 32 := 0#32
  ![v1813.toNat, 0, 0]
def k0_off28 (d0 : Dev nD) : Fin 3 → Nat :=
  let c4_i32_1382 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1831 : BitVec 32 := Scalar.muli c4_i32_1382 v12
  let c2_i32_1383 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1832 : BitVec 32 := Scalar.muli c2_i32_1383 v13
  let v1833 : BitVec 32 := Scalar.addi v1831 v1832
  let c1_i32_1379 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1826 : BitVec 32 := Scalar.subi c1_i32_1379 v8
  let v1834 : BitVec 32 := Scalar.addi v1833 v1826
  let c0_i32_1392 : BitVec 32 := 0#32
  let c0_i32_1393 : BitVec 32 := 0#32
  ![v1834.toNat, 0, 0]
def k0_off29 (d0 : Dev nD) : Fin 3 → Nat :=
  let c4_i32_1398 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1851 : BitVec 32 := Scalar.muli c4_i32_1398 v2
  let c2_i32_1399 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1852 : BitVec 32 := Scalar.muli c2_i32_1399 v5
  let v1853 : BitVec 32 := Scalar.addi v1851 v1852
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1854 : BitVec 32 := Scalar.addi v1853 v9
  let c0_i32_1408 : BitVec 32 := 0#32
  let c0_i32_1409 : BitVec 32 := 0#32
  ![v1854.toNat, 0, 0]
def k0_off30 (d0 : Dev nD) : Fin 3 → Nat :=
  let c4_i32_1415 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1872 : BitVec 32 := Scalar.muli c4_i32_1415 v10
  let c2_i32_1416 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1873 : BitVec 32 := Scalar.muli c2_i32_1416 v5
  let v1874 : BitVec 32 := Scalar.addi v1872 v1873
  let c1_i32_1412 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1867 : BitVec 32 := Scalar.subi c1_i32_1412 v8
  let v1875 : BitVec 32 := Scalar.addi v1874 v1867
  let c0_i32_1425 : BitVec 32 := 0#32
  let c0_i32_1426 : BitVec 32 := 0#32
  ![v1875.toNat, 0, 0]
def k0_off31 (d0 : Dev nD) : Fin 3 → Nat :=
  let c4_i32_1432 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1893 : BitVec 32 := Scalar.muli c4_i32_1432 v2
  let c2_i32_1433 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1894 : BitVec 32 := Scalar.muli c2_i32_1433 v11
  let v1895 : BitVec 32 := Scalar.addi v1893 v1894
  let c1_i32_1429 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1888 : BitVec 32 := Scalar.subi c1_i32_1429 v8
  let v1896 : BitVec 32 := Scalar.addi v1895 v1888
  let c0_i32_1442 : BitVec 32 := 0#32
  let c0_i32_1443 : BitVec 32 := 0#32
  ![v1896.toNat, 0, 0]
def k0_off32 (d0 : Dev nD) : Fin 3 → Nat :=
  let c4_i32_1449 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1914 : BitVec 32 := Scalar.muli c4_i32_1449 v12
  let c2_i32_1450 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1915 : BitVec 32 := Scalar.muli c2_i32_1450 v13
  let v1916 : BitVec 32 := Scalar.addi v1914 v1915
  let c1_i32_1446 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1909 : BitVec 32 := Scalar.subi c1_i32_1446 v8
  let v1917 : BitVec 32 := Scalar.addi v1916 v1909
  let c0_i32_1459 : BitVec 32 := 0#32
  let c0_i32_1460 : BitVec 32 := 0#32
  ![v1917.toNat, 0, 0]
-- ==== GatherRef.lean ====
abbrev S2048x7168 : Shape := ⟨2, ![2048, 7168]⟩
abbrev S2048x2048 : Shape := ⟨2, ![2048, 2048]⟩
abbrev S2048x11264 : Shape := ⟨2, ![2048, 11264]⟩
abbrev S5632x2048 : Shape := ⟨2, ![5632, 2048]⟩
abbrev S2048x4x1792 : Shape := ⟨3, ![2048, 4, 1792]⟩
abbrev S4x2048x1792 : Shape := ⟨3, ![4, 2048, 1792]⟩
abbrev S8x1024x1792 : Shape := ⟨3, ![8, 1024, 1792]⟩
abbrev S8x256x2048 : Shape := ⟨3, ![8, 256, 2048]⟩
abbrev S2048x4x2816 : Shape := ⟨3, ![2048, 4, 2816]⟩
abbrev S4x2048x2816 : Shape := ⟨3, ![4, 2048, 2816]⟩
abbrev S8x1024x2816 : Shape := ⟨3, ![8, 1024, 2816]⟩
abbrev S8x704x2048 : Shape := ⟨3, ![8, 704, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x2048, .bf16⟩
  | .hbm, ⟨2, _⟩ => ⟨S2048x11264, .bf16⟩
  | .hbm, ⟨3, _⟩ => ⟨S5632x2048, .bf16⟩
  | .hbm, ⟨4, _⟩ => ⟨S2048x7168, .bf16⟩
  | .hbm, ⟨5, _⟩ => ⟨S2048x2048, .bf16⟩
  | .hbm, ⟨6, _⟩ => ⟨S2048x11264, .bf16⟩
  | .hbm, ⟨7, _⟩ => ⟨S5632x2048, .bf16⟩
  | .hbm, ⟨8, _⟩ => ⟨S2048x4x1792, .bf16⟩
  | .hbm, ⟨9, _⟩ => ⟨S4x2048x1792, .bf16⟩
  | .hbm, ⟨10, _⟩ => ⟨S8x1024x1792, .bf16⟩
  | .hbm, ⟨11, _⟩ => ⟨S8x256x2048, .bf16⟩
  | .hbm, ⟨12, _⟩ => ⟨S2048x4x2816, .bf16⟩
  | .hbm, ⟨13, _⟩ => ⟨S4x2048x2816, .bf16⟩
  | .hbm, ⟨14, _⟩ => ⟨S8x1024x2816, .bf16⟩
  | .hbm, ⟨15, _⟩ => ⟨S8x704x2048, .bf16⟩
  | .hbm, ⟨16, _⟩ => ⟨S2048x4x1792, .bf16⟩
  | .hbm, ⟨17, _⟩ => ⟨S4x2048x1792, .bf16⟩
  | .hbm, ⟨18, _⟩ => ⟨S8x1024x1792, .bf16⟩
  | .hbm, ⟨19, _⟩ => ⟨S8x256x2048, .bf16⟩
  | .hbm, ⟨20, _⟩ => ⟨S2048x4x2816, .bf16⟩
  | .hbm, ⟨21, _⟩ => ⟨S4x2048x2816, .bf16⟩
  | .hbm, ⟨22, _⟩ => ⟨S8x1024x2816, .bf16⟩
  | .hbm, ⟨23, _⟩ => ⟨S8x704x2048, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== AllToAll.lean ====
abbrev S4x1024x1792 : Shape := ⟨3, ![4, 1024, 1792]⟩
abbrev S4x256x2048 : Shape := ⟨3, ![4, 256, 2048]⟩
abbrev S4x1024x2816 : Shape := ⟨3, ![4, 1024, 2816]⟩
abbrev S4x704x2048 : Shape := ⟨3, ![4, 704, 2048]⟩
abbrev S8x3 : Shape := ⟨2, ![8, 3]⟩
abbrev S8 : Shape := ⟨1, ![8]⟩
abbrev S1 : Shape := ⟨1, ![1]⟩
abbrev S_ : Shape := ⟨0, ![]⟩
abbrev S1x1024x1792 : Shape := ⟨3, ![1, 1024, 1792]⟩
abbrev S1024x1792 : Shape := ⟨2, ![1024, 1792]⟩
abbrev S1x256x2048 : Shape := ⟨3, ![1, 256, 2048]⟩
abbrev S256x2048 : Shape := ⟨2, ![256, 2048]⟩
abbrev S1x1024x2816 : Shape := ⟨3, ![1, 1024, 2816]⟩
abbrev S1024x2816 : Shape := ⟨2, ![1024, 2816]⟩
abbrev S1x704x2048 : Shape := ⟨3, ![1, 704, 2048]⟩
abbrev S704x2048 : Shape := ⟨2, ![704, 2048]⟩
abbrev S1x1 : Shape := ⟨2, ![1, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x1024x1792, .bf16⟩
  | .hbm, ⟨1, _⟩ => ⟨S4x256x2048, .bf16⟩
  | .hbm, ⟨2, _⟩ => ⟨S4x1024x2816, .bf16⟩
  | .hbm, ⟨3, _⟩ => ⟨S4x704x2048, .bf16⟩
  | .hbm, ⟨4, _⟩ => ⟨S4x1024x1792, .bf16⟩
  | .hbm, ⟨5, _⟩ => ⟨S4x256x2048, .bf16⟩
  | .hbm, ⟨6, _⟩ => ⟨S4x1024x2816, .bf16⟩
  | .hbm, ⟨7, _⟩ => ⟨S4x704x2048, .bf16⟩
  | .hbm, ⟨8, _⟩ => ⟨S4x1024x1792, .bf16⟩
  | .hbm, ⟨9, _⟩ => ⟨S4x256x2048, .bf16⟩
  | .hbm, ⟨10, _⟩ => ⟨S4x1024x2816, .bf16⟩
  | .hbm, ⟨11, _⟩ => ⟨S4x704x2048, .bf16⟩
  | .hbm, ⟨12, _⟩ => ⟨S4x1024x1792, .bf16⟩
  | .hbm, ⟨13, _⟩ => ⟨S4x256x2048, .bf16⟩
  | .hbm, ⟨14, _⟩ => ⟨S4x1024x2816, .bf16⟩
  | .hbm, ⟨15, _⟩ => ⟨S4x704x2048, .bf16⟩
  | _, _ => ⟨S4x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_16 : BitVec 32 := 0#32
  let c0_i32_17 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_28 : BitVec 32 := 0#32
  let c0_i32_29 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_39 : BitVec 32 := 0#32
  let c0_i32_40 : BitVec 32 := 0#32
  ![v10.toNat, 0, 0]
def k0_off5 (d0 : Dev nD) : Fin 3 → Nat :=
  let c2_i32_12 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v21 : BitVec 32 := Scalar.muli c2_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_105 : BitVec 32 := 0#32
  let c0_i32_106 : BitVec 32 := 0#32
  ![v22.toNat, 0, 0]
def k0_dev1 (d0 : Dev nD) : Nat :=
  let c0_i32_100 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_99 : BitVec 32 := 4#32
  let v139 : BitVec 32 := Scalar.muli v17 c4_i32_99
  let v140 : BitVec 32 := Scalar.addi c0_i32_100 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v141 : BitVec 32 := Scalar.muli v5 c2_i32_101
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v143 : BitVec 32 := Scalar.muli v8 c1_i32_102
  let v144 : BitVec 32 := Scalar.addi v142 v143
  v144.toNat
def k0_off6 (d0 : Dev nD) : Fin 3 → Nat :=
  let c2_i32_13 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c2_i32_13 v2
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v24 : BitVec 32 := Scalar.addi v23 v18
  let c0_i32_117 : BitVec 32 := 0#32
  let c0_i32_118 : BitVec 32 := 0#32
  ![v24.toNat, 0, 0]
def k0_dev2 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v153 : BitVec 32 := Scalar.muli v2 c4_i32_111
  let v154 : BitVec 32 := Scalar.addi c0_i32_112 v153
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_113 : BitVec 32 := 2#32
  let v155 : BitVec 32 := Scalar.muli v18 c2_i32_113
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v157 : BitVec 32 := Scalar.muli v8 c1_i32_114
  let v158 : BitVec 32 := Scalar.addi v156 v157
  v158.toNat
def k0_off7 (d0 : Dev nD) : Fin 3 → Nat :=
  let c2_i32_14 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let v25 : BitVec 32 := Scalar.muli c2_i32_14 v19
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v26 : BitVec 32 := Scalar.addi v25 v20
  let c0_i32_129 : BitVec 32 := 0#32
  let c0_i32_130 : BitVec 32 := 0#32
  ![v26.toNat, 0, 0]
def k0_dev3 (d0 : Dev nD) : Nat :=
  let c0_i32_124 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_123 : BitVec 32 := 4#32
  let v167 : BitVec 32 := Scalar.muli v19 c4_i32_123
  let v168 : BitVec 32 := Scalar.addi c0_i32_124 v167
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let c2_i32_125 : BitVec 32 := 2#32
  let v169 : BitVec 32 := Scalar.muli v20 c2_i32_125
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v171 : BitVec 32 := Scalar.muli v8 c1_i32_126
  let v172 : BitVec 32 := Scalar.addi v170 v171
  v172.toNat
def k0_off8 (d0 : Dev nD) : Fin 3 → Nat :=
  let c2_i32_24 : BitVec 32 := 2#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_20 v2
  let v37 : BitVec 32 := Scalar.muli c2_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.addi v37 v5
  let c0_i32_141 : BitVec 32 := 0#32
  let c0_i32_142 : BitVec 32 := 0#32
  ![v38.toNat, 0, 0]
def k0_dev4 (d0 : Dev nD) : Nat :=
  let c0_i32_136 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_20 v2
  let c4_i32_135 : BitVec 32 := 4#32
  let v181 : BitVec 32 := Scalar.muli v33 c4_i32_135
  let v182 : BitVec 32 := Scalar.addi c0_i32_136 v181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v183 : BitVec 32 := Scalar.muli v5 c2_i32_137
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v185 : BitVec 32 := Scalar.muli v8 c1_i32_138
  let v186 : BitVec 32 := Scalar.addi v184 v185
  v186.toNat
def k0_off9 (d0 : Dev nD) : Fin 3 → Nat :=
  let c2_i32_25 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c2_i32_25 v2
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_21 v5
  let v40 : BitVec 32 := Scalar.addi v39 v34
  let c0_i32_153 : BitVec 32 := 0#32
  let c0_i32_154 : BitVec 32 := 0#32
  ![v40.toNat, 0, 0]
def k0_dev5 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v195 : BitVec 32 := Scalar.muli v2 c4_i32_147
  let v196 : BitVec 32 := Scalar.addi c0_i32_148 v195
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_21 v5
  let c2_i32_149 : BitVec 32 := 2#32
  let v197 : BitVec 32 := Scalar.muli v34 c2_i32_149
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v199 : BitVec 32 := Scalar.muli v8 c1_i32_150
  let v200 : BitVec 32 := Scalar.addi v198 v199
  v200.toNat
def k0_off10 (d0 : Dev nD) : Fin 3 → Nat :=
  let c2_i32_26 : BitVec 32 := 2#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.subi c1_i32_22 v2
  let v41 : BitVec 32 := Scalar.muli c2_i32_26 v35
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_23 v5
  let v42 : BitVec 32 := Scalar.addi v41 v36
  let c0_i32_165 : BitVec 32 := 0#32
  let c0_i32_166 : BitVec 32 := 0#32
  ![v42.toNat, 0, 0]
def k0_dev6 (d0 : Dev nD) : Nat :=
  let c0_i32_160 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.subi c1_i32_22 v2
  let c4_i32_159 : BitVec 32 := 4#32
  let v209 : BitVec 32 := Scalar.muli v35 c4_i32_159
  let v210 : BitVec 32 := Scalar.addi c0_i32_160 v209
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_23 v5
  let c2_i32_161 : BitVec 32 := 2#32
  let v211 : BitVec 32 := Scalar.muli v36 c2_i32_161
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v213 : BitVec 32 := Scalar.muli v8 c1_i32_162
  let v214 : BitVec 32 := Scalar.addi v212 v213
  v214.toNat
def k0_off11 (d0 : Dev nD) : Fin 3 → Nat :=
  let c2_i32_36 : BitVec 32 := 2#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.subi c1_i32_32 v2
  let v53 : BitVec 32 := Scalar.muli c2_i32_36 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.addi v53 v5
  let c0_i32_177 : BitVec 32 := 0#32
  let c0_i32_178 : BitVec 32 := 0#32
  ![v54.toNat, 0, 0]
def k0_dev7 (d0 : Dev nD) : Nat :=
  let c0_i32_172 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.subi c1_i32_32 v2
  let c4_i32_171 : BitVec 32 := 4#32
  let v223 : BitVec 32 := Scalar.muli v49 c4_i32_171
  let v224 : BitVec 32 := Scalar.addi c0_i32_172 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v225 : BitVec 32 := Scalar.muli v5 c2_i32_173
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v227 : BitVec 32 := Scalar.muli v8 c1_i32_174
  let v228 : BitVec 32 := Scalar.addi v226 v227
  v228.toNat
def k0_off12 (d0 : Dev nD) : Fin 3 → Nat :=
  let c2_i32_37 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c2_i32_37 v2
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_33 v5
  let v56 : BitVec 32 := Scalar.addi v55 v50
  let c0_i32_189 : BitVec 32 := 0#32
  let c0_i32_190 : BitVec 32 := 0#32
  ![v56.toNat, 0, 0]
def k0_dev8 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v237 : BitVec 32 := Scalar.muli v2 c4_i32_183
  let v238 : BitVec 32 := Scalar.addi c0_i32_184 v237
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_33 v5
  let c2_i32_185 : BitVec 32 := 2#32
  let v239 : BitVec 32 := Scalar.muli v50 c2_i32_185
  let v240 : BitVec 32 := Scalar.addi v238 v239
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v241 : BitVec 32 := Scalar.muli v8 c1_i32_186
  let v242 : BitVec 32 := Scalar.addi v240 v241
  v242.toNat
def k0_off13 (d0 : Dev nD) : Fin 3 → Nat :=
  let c2_i32_38 : BitVec 32 := 2#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_34 v2
  let v57 : BitVec 32 := Scalar.muli c2_i32_38 v51
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v52 : BitVec 32 := Scalar.subi c1_i32_35 v5
  let v58 : BitVec 32 := Scalar.addi v57 v52
  let c0_i32_201 : BitVec 32 := 0#32
  let c0_i32_202 : BitVec 32 := 0#32
  ![v58.toNat, 0, 0]
def k0_dev9 (d0 : Dev nD) : Nat :=
  let c0_i32_196 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_34 v2
  let c4_i32_195 : BitVec 32 := 4#32
  let v251 : BitVec 32 := Scalar.muli v51 c4_i32_195
  let v252 : BitVec 32 := Scalar.addi c0_i32_196 v251
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v52 : BitVec 32 := Scalar.subi c1_i32_35 v5
  let c2_i32_197 : BitVec 32 := 2#32
  let v253 : BitVec 32 := Scalar.muli v52 c2_i32_197
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v255 : BitVec 32 := Scalar.muli v8 c1_i32_198
  let v256 : BitVec 32 := Scalar.addi v254 v255
  v256.toNat
def k0_off14 (d0 : Dev nD) : Fin 3 → Nat :=
  let c2_i32_47 : BitVec 32 := 2#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.subi c1_i32_43 v2
  let v69 : BitVec 32 := Scalar.muli c2_i32_47 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.addi v69 v5
  let c0_i32_213 : BitVec 32 := 0#32
  let c0_i32_214 : BitVec 32 := 0#32
  ![v70.toNat, 0, 0]
def k0_dev10 (d0 : Dev nD) : Nat :=
  let c0_i32_208 : BitVec 32 := 0#32
  let c1_i32_43 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.subi c1_i32_43 v2
  let c4_i32_207 : BitVec 32 := 4#32
  let v265 : BitVec 32 := Scalar.muli v65 c4_i32_207
  let v266 : BitVec 32 := Scalar.addi c0_i32_208 v265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v267 : BitVec 32 := Scalar.muli v5 c2_i32_209
  let v268 : BitVec 32 := Scalar.addi v266 v267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v269 : BitVec 32 := Scalar.muli v8 c1_i32_210
  let v270 : BitVec 32 := Scalar.addi v268 v269
  v270.toNat
def k0_off15 (d0 : Dev nD) : Fin 3 → Nat :=
  let c2_i32_48 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.muli c2_i32_48 v2
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_44 v5
  let v72 : BitVec 32 := Scalar.addi v71 v66
  let c0_i32_225 : BitVec 32 := 0#32
  let c0_i32_226 : BitVec 32 := 0#32
  ![v72.toNat, 0, 0]
def k0_dev11 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v279 : BitVec 32 := Scalar.muli v2 c4_i32_219
  let v280 : BitVec 32 := Scalar.addi c0_i32_220 v279
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_44 v5
  let c2_i32_221 : BitVec 32 := 2#32
  let v281 : BitVec 32 := Scalar.muli v66 c2_i32_221
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v283 : BitVec 32 := Scalar.muli v8 c1_i32_222
  let v284 : BitVec 32 := Scalar.addi v282 v283
  v284.toNat
def k0_off16 (d0 : Dev nD) : Fin 3 → Nat :=
  let c2_i32_49 : BitVec 32 := 2#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_45 v2
  let v73 : BitVec 32 := Scalar.muli c2_i32_49 v67
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_46 v5
  let v74 : BitVec 32 := Scalar.addi v73 v68
  let c0_i32_237 : BitVec 32 := 0#32
  let c0_i32_238 : BitVec 32 := 0#32
  ![v74.toNat, 0, 0]
def k0_dev12 (d0 : Dev nD) : Nat :=
  let c0_i32_232 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_45 v2
  let c4_i32_231 : BitVec 32 := 4#32
  let v293 : BitVec 32 := Scalar.muli v67 c4_i32_231
  let v294 : BitVec 32 := Scalar.addi c0_i32_232 v293
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v68 : BitVec 32 := Scalar.subi c1_i32_46 v5
  let c2_i32_233 : BitVec 32 := 2#32
  let v295 : BitVec 32 := Scalar.muli v68 c2_i32_233
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v297 : BitVec 32 := Scalar.muli v8 c1_i32_234
  let v298 : BitVec 32 := Scalar.addi v296 v297
  v298.toNat
def k0_dev13 (d0 : Dev nD) : Nat :=
  let c0_i32_244 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v81 : BitVec 32 := Scalar.subi c1_i32_55 v2
  let c4_i32_243 : BitVec 32 := 4#32
  let v307 : BitVec 32 := Scalar.muli v81 c4_i32_243
  let v308 : BitVec 32 := Scalar.addi c0_i32_244 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v309 : BitVec 32 := Scalar.muli v5 c2_i32_245
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v311 : BitVec 32 := Scalar.muli v8 c1_i32_246
  let v312 : BitVec 32 := Scalar.addi v310 v311
  v312.toNat
def k0_dev14 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v321 : BitVec 32 := Scalar.muli v2 c4_i32_255
  let v322 : BitVec 32 := Scalar.addi c0_i32_256 v321
  let c1_i32_56 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v82 : BitVec 32 := Scalar.subi c1_i32_56 v5
  let c2_i32_257 : BitVec 32 := 2#32
  let v323 : BitVec 32 := Scalar.muli v82 c2_i32_257
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v325 : BitVec 32 := Scalar.muli v8 c1_i32_258
  let v326 : BitVec 32 := Scalar.addi v324 v325
  v326.toNat
def k0_dev15 (d0 : Dev nD) : Nat :=
  let c0_i32_268 : BitVec 32 := 0#32
  let c1_i32_57 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v83 : BitVec 32 := Scalar.subi c1_i32_57 v2
  let c4_i32_267 : BitVec 32 := 4#32
  let v335 : BitVec 32 := Scalar.muli v83 c4_i32_267
  let v336 : BitVec 32 := Scalar.addi c0_i32_268 v335
  let c1_i32_58 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v84 : BitVec 32 := Scalar.subi c1_i32_58 v5
  let c2_i32_269 : BitVec 32 := 2#32
  let v337 : BitVec 32 := Scalar.muli v84 c2_i32_269
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v339 : BitVec 32 := Scalar.muli v8 c1_i32_270
  let v340 : BitVec 32 := Scalar.addi v338 v339
  v340.toNat
def k0_dev16 (d0 : Dev nD) : Nat :=
  let c0_i32_280 : BitVec 32 := 0#32
  let c1_i32_66 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v97 : BitVec 32 := Scalar.subi c1_i32_66 v2
  let c4_i32_279 : BitVec 32 := 4#32
  let v349 : BitVec 32 := Scalar.muli v97 c4_i32_279
  let v350 : BitVec 32 := Scalar.addi c0_i32_280 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v351 : BitVec 32 := Scalar.muli v5 c2_i32_281
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_282 : BitVec 32 := 1#32
  let v353 : BitVec 32 := Scalar.muli v8 c1_i32_282
  let v354 : BitVec 32 := Scalar.addi v352 v353
  v354.toNat
def k0_dev17 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v363 : BitVec 32 := Scalar.muli v2 c4_i32_291
  let v364 : BitVec 32 := Scalar.addi c0_i32_292 v363
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v98 : BitVec 32 := Scalar.subi c1_i32_67 v5
  let c2_i32_293 : BitVec 32 := 2#32
  let v365 : BitVec 32 := Scalar.muli v98 c2_i32_293
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v367 : BitVec 32 := Scalar.muli v8 c1_i32_294
  let v368 : BitVec 32 := Scalar.addi v366 v367
  v368.toNat
def k0_dev18 (d0 : Dev nD) : Nat :=
  let c0_i32_304 : BitVec 32 := 0#32
  let c1_i32_68 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v99 : BitVec 32 := Scalar.subi c1_i32_68 v2
  let c4_i32_303 : BitVec 32 := 4#32
  let v377 : BitVec 32 := Scalar.muli v99 c4_i32_303
  let v378 : BitVec 32 := Scalar.addi c0_i32_304 v377
  let c1_i32_69 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v100 : BitVec 32 := Scalar.subi c1_i32_69 v5
  let c2_i32_305 : BitVec 32 := 2#32
  let v379 : BitVec 32 := Scalar.muli v100 c2_i32_305
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_306 : BitVec 32 := 1#32
  let v381 : BitVec 32 := Scalar.muli v8 c1_i32_306
  let v382 : BitVec 32 := Scalar.addi v380 v381
  v382.toNat
def k0_dev19 (d0 : Dev nD) : Nat :=
  let c0_i32_316 : BitVec 32 := 0#32
  let c1_i32_77 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v113 : BitVec 32 := Scalar.subi c1_i32_77 v2
  let c4_i32_315 : BitVec 32 := 4#32
  let v391 : BitVec 32 := Scalar.muli v113 c4_i32_315
  let v392 : BitVec 32 := Scalar.addi c0_i32_316 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v393 : BitVec 32 := Scalar.muli v5 c2_i32_317
  let v394 : BitVec 32 := Scalar.addi v392 v393
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v395 : BitVec 32 := Scalar.muli v8 c1_i32_318
  let v396 : BitVec 32 := Scalar.addi v394 v395
  v396.toNat
def k0_dev20 (d0 : Dev nD) : Nat :=
  let c0_i32_328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_327 : BitVec 32 := 4#32
  let v405 : BitVec 32 := Scalar.muli v2 c4_i32_327
  let v406 : BitVec 32 := Scalar.addi c0_i32_328 v405
  let c1_i32_78 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_78 v5
  let c2_i32_329 : BitVec 32 := 2#32
  let v407 : BitVec 32 := Scalar.muli v114 c2_i32_329
  let v408 : BitVec 32 := Scalar.addi v406 v407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v409 : BitVec 32 := Scalar.muli v8 c1_i32_330
  let v410 : BitVec 32 := Scalar.addi v408 v409
  v410.toNat
def k0_dev21 (d0 : Dev nD) : Nat :=
  let c0_i32_340 : BitVec 32 := 0#32
  let c1_i32_79 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.subi c1_i32_79 v2
  let c4_i32_339 : BitVec 32 := 4#32
  let v419 : BitVec 32 := Scalar.muli v115 c4_i32_339
  let v420 : BitVec 32 := Scalar.addi c0_i32_340 v419
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v116 : BitVec 32 := Scalar.subi c1_i32_80 v5
  let c2_i32_341 : BitVec 32 := 2#32
  let v421 : BitVec 32 := Scalar.muli v116 c2_i32_341
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_342 : BitVec 32 := 1#32
  let v423 : BitVec 32 := Scalar.muli v8 c1_i32_342
  let v424 : BitVec 32 := Scalar.addi v422 v423
  v424.toNat
def k0_dev22 (d0 : Dev nD) : Nat :=
  let c0_i32_352 : BitVec 32 := 0#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v129 : BitVec 32 := Scalar.subi c1_i32_88 v2
  let c4_i32_351 : BitVec 32 := 4#32
  let v433 : BitVec 32 := Scalar.muli v129 c4_i32_351
  let v434 : BitVec 32 := Scalar.addi c0_i32_352 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v435 : BitVec 32 := Scalar.muli v5 c2_i32_353
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v437 : BitVec 32 := Scalar.muli v8 c1_i32_354
  let v438 : BitVec 32 := Scalar.addi v436 v437
  v438.toNat
def k0_dev23 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_363 : BitVec 32 := 4#32
  let v447 : BitVec 32 := Scalar.muli v2 c4_i32_363
  let v448 : BitVec 32 := Scalar.addi c0_i32_364 v447
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v130 : BitVec 32 := Scalar.subi c1_i32_89 v5
  let c2_i32_365 : BitVec 32 := 2#32
  let v449 : BitVec 32 := Scalar.muli v130 c2_i32_365
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_366 : BitVec 32 := 1#32
  let v451 : BitVec 32 := Scalar.muli v8 c1_i32_366
  let v452 : BitVec 32 := Scalar.addi v450 v451
  v452.toNat
def k0_dev24 (d0 : Dev nD) : Nat :=
  let c0_i32_376 : BitVec 32 := 0#32
  let c1_i32_90 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v131 : BitVec 32 := Scalar.subi c1_i32_90 v2
  let c4_i32_375 : BitVec 32 := 4#32
  let v461 : BitVec 32 := Scalar.muli v131 c4_i32_375
  let v462 : BitVec 32 := Scalar.addi c0_i32_376 v461
  let c1_i32_91 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v132 : BitVec 32 := Scalar.subi c1_i32_91 v5
  let c2_i32_377 : BitVec 32 := 2#32
  let v463 : BitVec 32 := Scalar.muli v132 c2_i32_377
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v465 : BitVec 32 := Scalar.muli v8 c1_i32_378
  let v466 : BitVec 32 := Scalar.addi v464 v465
  v466.toNat
-- ==== AllToAllRef.lean ====
abbrev S32x1024x1792 : Shape := ⟨3, ![32, 1024, 1792]⟩
abbrev S32x256x2048 : Shape := ⟨3, ![32, 256, 2048]⟩
abbrev S32x1024x2816 : Shape := ⟨3, ![32, 1024, 2816]⟩
abbrev S32x704x2048 : Shape := ⟨3, ![32, 704, 2048]⟩
abbrev S4x2x4x1024x1792 : Shape := ⟨5, ![4, 2, 4, 1024, 1792]⟩
abbrev S4x2x4x256x2048 : Shape := ⟨5, ![4, 2, 4, 256, 2048]⟩
abbrev S4x2x4x1024x2816 : Shape := ⟨5, ![4, 2, 4, 1024, 2816]⟩
abbrev S4x2x4x704x2048 : Shape := ⟨5, ![4, 2, 4, 704, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32x1024x1792, .bf16⟩
  | .hbm, ⟨1, _⟩ => ⟨S32x256x2048, .bf16⟩
  | .hbm, ⟨2, _⟩ => ⟨S32x1024x2816, .bf16⟩
  | .hbm, ⟨3, _⟩ => ⟨S32x704x2048, .bf16⟩
  | .hbm, ⟨4, _⟩ => ⟨S32x1024x1792, .bf16⟩
  | .hbm, ⟨5, _⟩ => ⟨S32x256x2048, .bf16⟩
  | .hbm, ⟨6, _⟩ => ⟨S32x1024x2816, .bf16⟩
  | .hbm, ⟨7, _⟩ => ⟨S32x704x2048, .bf16⟩
  | .hbm, ⟨8, _⟩ => ⟨S4x2x4x1024x1792, .bf16⟩
  | .hbm, ⟨9, _⟩ => ⟨S4x2x4x1024x1792, .bf16⟩
  | .hbm, ⟨10, _⟩ => ⟨S32x1024x1792, .bf16⟩
  | .hbm, ⟨11, _⟩ => ⟨S4x2x4x256x2048, .bf16⟩
  | .hbm, ⟨12, _⟩ => ⟨S4x2x4x256x2048, .bf16⟩
  | .hbm, ⟨13, _⟩ => ⟨S32x256x2048, .bf16⟩
  | .hbm, ⟨14, _⟩ => ⟨S4x2x4x1024x2816, .bf16⟩
  | .hbm, ⟨15, _⟩ => ⟨S4x2x4x1024x2816, .bf16⟩
  | .hbm, ⟨16, _⟩ => ⟨S32x1024x2816, .bf16⟩
  | .hbm, ⟨17, _⟩ => ⟨S4x2x4x704x2048, .bf16⟩
  | .hbm, ⟨18, _⟩ => ⟨S4x2x4x704x2048, .bf16⟩
  | .hbm, ⟨19, _⟩ => ⟨S32x704x2048, .bf16⟩
  | .hbm, ⟨20, _⟩ => ⟨S4x2x4x1024x1792, .bf16⟩
  | .hbm, ⟨21, _⟩ => ⟨S4x2x4x1024x1792, .bf16⟩
  | .hbm, ⟨22, _⟩ => ⟨S32x1024x1792, .bf16⟩
  | .hbm, ⟨23, _⟩ => ⟨S4x2x4x256x2048, .bf16⟩
  | .hbm, ⟨24, _⟩ => ⟨S4x2x4x256x2048, .bf16⟩
  | .hbm, ⟨25, _⟩ => ⟨S32x256x2048, .bf16⟩
  | .hbm, ⟨26, _⟩ => ⟨S4x2x4x1024x2816, .bf16⟩
  | .hbm, ⟨27, _⟩ => ⟨S4x2x4x1024x2816, .bf16⟩
  | .hbm, ⟨28, _⟩ => ⟨S32x1024x2816, .bf16⟩
  | .hbm, ⟨29, _⟩ => ⟨S4x2x4x704x2048, .bf16⟩
  | .hbm, ⟨30, _⟩ => ⟨S4x2x4x704x2048, .bf16⟩
  | .hbm, ⟨31, _⟩ => ⟨S32x704x2048, .bf16⟩
  | _, _ => ⟨S32x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Swap.lean ====
abbrev S4x2048x1792 : Shape := ⟨3, ![4, 2048, 1792]⟩
abbrev S4x512x2048 : Shape := ⟨3, ![4, 512, 2048]⟩
abbrev S4x2048x2816 : Shape := ⟨3, ![4, 2048, 2816]⟩
abbrev S4x1408x2048 : Shape := ⟨3, ![4, 1408, 2048]⟩
abbrev S4x1024x1792 : Shape := ⟨3, ![4, 1024, 1792]⟩
abbrev S4x256x2048 : Shape := ⟨3, ![4, 256, 2048]⟩
abbrev S4x1024x2816 : Shape := ⟨3, ![4, 1024, 2816]⟩
abbrev S4x704x2048 : Shape := ⟨3, ![4, 704, 2048]⟩
abbrev S8x4 : Shape := ⟨2, ![8, 4]⟩
abbrev S1x1 : Shape := ⟨2, ![1, 1]⟩
abbrev S_ : Shape := ⟨0, ![]⟩
abbrev S1x1024x1792 : Shape := ⟨3, ![1, 1024, 1792]⟩
abbrev S1024x1792 : Shape := ⟨2, ![1024, 1792]⟩
abbrev S1x256x2048 : Shape := ⟨3, ![1, 256, 2048]⟩
abbrev S256x2048 : Shape := ⟨2, ![256, 2048]⟩
abbrev S1x1024x2816 : Shape := ⟨3, ![1, 1024, 2816]⟩
abbrev S1024x2816 : Shape := ⟨2, ![1024, 2816]⟩
abbrev S1x704x2048 : Shape := ⟨3, ![1, 704, 2048]⟩
abbrev S704x2048 : Shape := ⟨2, ![704, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1792, .bf16⟩
  | .hbm, ⟨1, _⟩ => ⟨S4x512x2048, .bf16⟩
  | .hbm, ⟨2, _⟩ => ⟨S4x2048x2816, .bf16⟩
  | .hbm, ⟨3, _⟩ => ⟨S4x1408x2048, .bf16⟩
  | .hbm, ⟨4, _⟩ => ⟨S4x2048x1792, .bf16⟩
  | .hbm, ⟨5, _⟩ => ⟨S4x512x2048, .bf16⟩
  | .hbm, ⟨6, _⟩ => ⟨S4x2048x2816, .bf16⟩
  | .hbm, ⟨7, _⟩ => ⟨S4x1408x2048, .bf16⟩
  | .hbm, ⟨8, _⟩ => ⟨S4x1024x1792, .bf16⟩
  | .hbm, ⟨9, _⟩ => ⟨S4x256x2048, .bf16⟩
  | .hbm, ⟨10, _⟩ => ⟨S4x1024x2816, .bf16⟩
  | .hbm, ⟨11, _⟩ => ⟨S4x704x2048, .bf16⟩
  | .hbm, ⟨12, _⟩ => ⟨S4x1024x1792, .bf16⟩
  | .hbm, ⟨13, _⟩ => ⟨S4x256x2048, .bf16⟩
  | .hbm, ⟨14, _⟩ => ⟨S4x1024x2816, .bf16⟩
  | .hbm, ⟨15, _⟩ => ⟨S4x704x2048, .bf16⟩
  | _, _ => ⟨S4x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  v10
def k0_mult2 (d0 : Dev nD) : BitVec 32 :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1024_i32_6 : BitVec 32 := 1024#32
  let v14 : BitVec 32 := Scalar.muli v13 c1024_i32_6
  v14
def k0_mult3 (d0 : Dev nD) : BitVec 32 :=
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1024_i32_9 : BitVec 32 := 1024#32
  let v18 : BitVec 32 := Scalar.muli v17 c1024_i32_9
  v18
def k0_mult4 (d0 : Dev nD) : BitVec 32 :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1024_i32_12 : BitVec 32 := 1024#32
  let v22 : BitVec 32 := Scalar.muli v21 c1024_i32_12
  v22
def k0_mult5 (d0 : Dev nD) : BitVec 32 :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c256_i32 : BitVec 32 := 256#32
  let v26 : BitVec 32 := Scalar.muli v25 c256_i32
  v26
def k0_mult6 (d0 : Dev nD) : BitVec 32 :=
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_16 v8
  let c256_i32_17 : BitVec 32 := 256#32
  let v30 : BitVec 32 := Scalar.muli v29 c256_i32_17
  v30
def k0_mult7 (d0 : Dev nD) : BitVec 32 :=
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_19 v8
  let c256_i32_20 : BitVec 32 := 256#32
  let v34 : BitVec 32 := Scalar.muli v33 c256_i32_20
  v34
def k0_mult8 (d0 : Dev nD) : BitVec 32 :=
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_22 v8
  let c256_i32_23 : BitVec 32 := 256#32
  let v38 : BitVec 32 := Scalar.muli v37 c256_i32_23
  v38
def k0_mult9 (d0 : Dev nD) : BitVec 32 :=
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_25 v8
  let c1024_i32_26 : BitVec 32 := 1024#32
  let v42 : BitVec 32 := Scalar.muli v41 c1024_i32_26
  v42
def k0_mult10 (d0 : Dev nD) : BitVec 32 :=
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_28 v8
  let c1024_i32_29 : BitVec 32 := 1024#32
  let v46 : BitVec 32 := Scalar.muli v45 c1024_i32_29
  v46
def k0_mult11 (d0 : Dev nD) : BitVec 32 :=
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_31 v8
  let c1024_i32_32 : BitVec 32 := 1024#32
  let v50 : BitVec 32 := Scalar.muli v49 c1024_i32_32
  v50
def k0_mult12 (d0 : Dev nD) : BitVec 32 :=
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_34 v8
  let c1024_i32_35 : BitVec 32 := 1024#32
  let v54 : BitVec 32 := Scalar.muli v53 c1024_i32_35
  v54
def k0_mult13 (d0 : Dev nD) : BitVec 32 :=
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_37 v8
  let c704_i32 : BitVec 32 := 704#32
  let v58 : BitVec 32 := Scalar.muli v57 c704_i32
  v58
def k0_mult14 (d0 : Dev nD) : BitVec 32 :=
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c704_i32_40 : BitVec 32 := 704#32
  let v62 : BitVec 32 := Scalar.muli v61 c704_i32_40
  v62
def k0_mult15 (d0 : Dev nD) : BitVec 32 :=
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c704_i32_43 : BitVec 32 := 704#32
  let v66 : BitVec 32 := Scalar.muli v65 c704_i32_43
  v66
def k0_mult16 (d0 : Dev nD) : BitVec 32 :=
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_45 v8
  let c704_i32_46 : BitVec 32 := 704#32
  let v70 : BitVec 32 := Scalar.muli v69 c704_i32_46
  v70
def k0_mult17 (d0 : Dev nD) : BitVec 32 :=
  let c1_i32_48 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_48 v8
  let c1024_i32_49 : BitVec 32 := 1024#32
  let v74 : BitVec 32 := Scalar.muli v73 c1024_i32_49
  v74
def k0_mult18 (d0 : Dev nD) : BitVec 32 :=
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v77 : BitVec 32 := Scalar.subi c1_i32_51 v8
  let c1024_i32_52 : BitVec 32 := 1024#32
  let v78 : BitVec 32 := Scalar.muli v77 c1024_i32_52
  v78
def k0_mult19 (d0 : Dev nD) : BitVec 32 :=
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_54 v8
  let c1024_i32_55 : BitVec 32 := 1024#32
  let v82 : BitVec 32 := Scalar.muli v81 c1024_i32_55
  v82
def k0_mult20 (d0 : Dev nD) : BitVec 32 :=
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1024_i32_58 : BitVec 32 := 1024#32
  let v86 : BitVec 32 := Scalar.muli v85 c1024_i32_58
  v86
def k0_mult21 (d0 : Dev nD) : BitVec 32 :=
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.subi c1_i32_60 v8
  let c256_i32_61 : BitVec 32 := 256#32
  let v90 : BitVec 32 := Scalar.muli v89 c256_i32_61
  v90
def k0_mult22 (d0 : Dev nD) : BitVec 32 :=
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v93 : BitVec 32 := Scalar.subi c1_i32_63 v8
  let c256_i32_64 : BitVec 32 := 256#32
  let v94 : BitVec 32 := Scalar.muli v93 c256_i32_64
  v94
def k0_mult23 (d0 : Dev nD) : BitVec 32 :=
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_66 v8
  let c256_i32_67 : BitVec 32 := 256#32
  let v98 : BitVec 32 := Scalar.muli v97 c256_i32_67
  v98
def k0_mult24 (d0 : Dev nD) : BitVec 32 :=
  let c1_i32_69 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v101 : BitVec 32 := Scalar.subi c1_i32_69 v8
  let c256_i32_70 : BitVec 32 := 256#32
  let v102 : BitVec 32 := Scalar.muli v101 c256_i32_70
  v102
def k0_mult25 (d0 : Dev nD) : BitVec 32 :=
  let c1_i32_72 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.subi c1_i32_72 v8
  let c1024_i32_73 : BitVec 32 := 1024#32
  let v106 : BitVec 32 := Scalar.muli v105 c1024_i32_73
  v106
def k0_mult26 (d0 : Dev nD) : BitVec 32 :=
  let c1_i32_75 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.subi c1_i32_75 v8
  let c1024_i32_76 : BitVec 32 := 1024#32
  let v110 : BitVec 32 := Scalar.muli v109 c1024_i32_76
  v110
def k0_mult27 (d0 : Dev nD) : BitVec 32 :=
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.subi c1_i32_78 v8
  let c1024_i32_79 : BitVec 32 := 1024#32
  let v114 : BitVec 32 := Scalar.muli v113 c1024_i32_79
  v114
def k0_mult28 (d0 : Dev nD) : BitVec 32 :=
  let c1_i32_81 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.subi c1_i32_81 v8
  let c1024_i32_82 : BitVec 32 := 1024#32
  let v118 : BitVec 32 := Scalar.muli v117 c1024_i32_82
  v118
def k0_mult29 (d0 : Dev nD) : BitVec 32 :=
  let c1_i32_84 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v121 : BitVec 32 := Scalar.subi c1_i32_84 v8
  let c704_i32_85 : BitVec 32 := 704#32
  let v122 : BitVec 32 := Scalar.muli v121 c704_i32_85
  v122
def k0_mult30 (d0 : Dev nD) : BitVec 32 :=
  let c1_i32_87 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.subi c1_i32_87 v8
  let c704_i32_88 : BitVec 32 := 704#32
  let v126 : BitVec 32 := Scalar.muli v125 c704_i32_88
  v126
def k0_mult31 (d0 : Dev nD) : BitVec 32 :=
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.subi c1_i32_90 v8
  let c704_i32_91 : BitVec 32 := 704#32
  let v130 : BitVec 32 := Scalar.muli v129 c704_i32_91
  v130
def k0_mult32 (d0 : Dev nD) : BitVec 32 :=
  let c1_i32_93 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v133 : BitVec 32 := Scalar.subi c1_i32_93 v8
  let c704_i32_94 : BitVec 32 := 704#32
  let v134 : BitVec 32 := Scalar.muli v133 c704_i32_94
  v134
def k0_off1 (d0 : Dev nD) : Fin 3 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  let v11 : BitVec 32 := v10
  let c0_i32_107 : BitVec 32 := 0#32
  ![0, v11.toNat, 0]
def k0_dev1 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v137 : BitVec 32 := Scalar.muli v2 c4_i32_101
  let v138 : BitVec 32 := Scalar.addi c0_i32_102 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v139 : BitVec 32 := Scalar.muli v5 c2_i32_103
  let v140 : BitVec 32 := Scalar.addi v138 v139
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_104 : BitVec 32 := 1#32
  let v141 : BitVec 32 := Scalar.muli v12 c1_i32_104
  let v142 : BitVec 32 := Scalar.addi v140 v141
  v142.toNat
def k0_off2 (d0 : Dev nD) : Fin 3 → Nat :=
  let c1_i32_108 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1024_i32_6 : BitVec 32 := 1024#32
  let v14 : BitVec 32 := Scalar.muli v13 c1024_i32_6
  let v15 : BitVec 32 := v14
  let c0_i32_120 : BitVec 32 := 0#32
  ![1, v15.toNat, 0]
def k0_dev2 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v151 : BitVec 32 := Scalar.muli v2 c4_i32_114
  let v152 : BitVec 32 := Scalar.addi c0_i32_115 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v153 : BitVec 32 := Scalar.muli v5 c2_i32_116
  let v154 : BitVec 32 := Scalar.addi v152 v153
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_7 v8
  let c1_i32_117 : BitVec 32 := 1#32
  let v155 : BitVec 32 := Scalar.muli v16 c1_i32_117
  let v156 : BitVec 32 := Scalar.addi v154 v155
  v156.toNat
def k0_off3 (d0 : Dev nD) : Fin 3 → Nat :=
  let c2_i32_121 : BitVec 32 := 2#32
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1024_i32_9 : BitVec 32 := 1024#32
  let v18 : BitVec 32 := Scalar.muli v17 c1024_i32_9
  let v19 : BitVec 32 := v18
  let c0_i32_133 : BitVec 32 := 0#32
  ![2, v19.toNat, 0]
def k0_dev3 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v165 : BitVec 32 := Scalar.muli v2 c4_i32_127
  let v166 : BitVec 32 := Scalar.addi c0_i32_128 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v167 : BitVec 32 := Scalar.muli v5 c2_i32_129
  let v168 : BitVec 32 := Scalar.addi v166 v167
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_10 v8
  let c1_i32_130 : BitVec 32 := 1#32
  let v169 : BitVec 32 := Scalar.muli v20 c1_i32_130
  let v170 : BitVec 32 := Scalar.addi v168 v169
  v170.toNat
def k0_off4 (d0 : Dev nD) : Fin 3 → Nat :=
  let c3_i32 : BitVec 32 := 3#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1024_i32_12 : BitVec 32 := 1024#32
  let v22 : BitVec 32 := Scalar.muli v21 c1024_i32_12
  let v23 : BitVec 32 := v22
  let c0_i32_145 : BitVec 32 := 0#32
  ![3, v23.toNat, 0]
def k0_dev4 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v179 : BitVec 32 := Scalar.muli v2 c4_i32_139
  let v180 : BitVec 32 := Scalar.addi c0_i32_140 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v181 : BitVec 32 := Scalar.muli v5 c2_i32_141
  let v182 : BitVec 32 := Scalar.addi v180 v181
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_13 v8
  let c1_i32_142 : BitVec 32 := 1#32
  let v183 : BitVec 32 := Scalar.muli v24 c1_i32_142
  let v184 : BitVec 32 := Scalar.addi v182 v183
  v184.toNat
def k0_off5 (d0 : Dev nD) : Fin 3 → Nat :=
  let c0_i32_146 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c256_i32 : BitVec 32 := 256#32
  let v26 : BitVec 32 := Scalar.muli v25 c256_i32
  let v27 : BitVec 32 := v26
  let c0_i32_158 : BitVec 32 := 0#32
  ![0, v27.toNat, 0]
def k0_dev5 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_152 : BitVec 32 := 4#32
  let v193 : BitVec 32 := Scalar.muli v2 c4_i32_152
  let v194 : BitVec 32 := Scalar.addi c0_i32_153 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_154 : BitVec 32 := 2#32
  let v195 : BitVec 32 := Scalar.muli v5 c2_i32_154
  let v196 : BitVec 32 := Scalar.addi v194 v195
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_155 : BitVec 32 := 1#32
  let v197 : BitVec 32 := Scalar.muli v28 c1_i32_155
  let v198 : BitVec 32 := Scalar.addi v196 v197
  v198.toNat
def k0_off6 (d0 : Dev nD) : Fin 3 → Nat :=
  let c1_i32_159 : BitVec 32 := 1#32
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_16 v8
  let c256_i32_17 : BitVec 32 := 256#32
  let v30 : BitVec 32 := Scalar.muli v29 c256_i32_17
  let v31 : BitVec 32 := v30
  let c0_i32_171 : BitVec 32 := 0#32
  ![1, v31.toNat, 0]
def k0_dev6 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v207 : BitVec 32 := Scalar.muli v2 c4_i32_165
  let v208 : BitVec 32 := Scalar.addi c0_i32_166 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_167 : BitVec 32 := 2#32
  let v209 : BitVec 32 := Scalar.muli v5 c2_i32_167
  let v210 : BitVec 32 := Scalar.addi v208 v209
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_18 v8
  let c1_i32_168 : BitVec 32 := 1#32
  let v211 : BitVec 32 := Scalar.muli v32 c1_i32_168
  let v212 : BitVec 32 := Scalar.addi v210 v211
  v212.toNat
def k0_off7 (d0 : Dev nD) : Fin 3 → Nat :=
  let c2_i32_172 : BitVec 32 := 2#32
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_19 v8
  let c256_i32_20 : BitVec 32 := 256#32
  let v34 : BitVec 32 := Scalar.muli v33 c256_i32_20
  let v35 : BitVec 32 := v34
  let c0_i32_184 : BitVec 32 := 0#32
  ![2, v35.toNat, 0]
def k0_dev7 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v221 : BitVec 32 := Scalar.muli v2 c4_i32_178
  let v222 : BitVec 32 := Scalar.addi c0_i32_179 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_180 : BitVec 32 := 2#32
  let v223 : BitVec 32 := Scalar.muli v5 c2_i32_180
  let v224 : BitVec 32 := Scalar.addi v222 v223
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_21 v8
  let c1_i32_181 : BitVec 32 := 1#32
  let v225 : BitVec 32 := Scalar.muli v36 c1_i32_181
  let v226 : BitVec 32 := Scalar.addi v224 v225
  v226.toNat
def k0_off8 (d0 : Dev nD) : Fin 3 → Nat :=
  let c3_i32_185 : BitVec 32 := 3#32
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_22 v8
  let c256_i32_23 : BitVec 32 := 256#32
  let v38 : BitVec 32 := Scalar.muli v37 c256_i32_23
  let v39 : BitVec 32 := v38
  let c0_i32_197 : BitVec 32 := 0#32
  ![3, v39.toNat, 0]
def k0_dev8 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v235 : BitVec 32 := Scalar.muli v2 c4_i32_191
  let v236 : BitVec 32 := Scalar.addi c0_i32_192 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v237 : BitVec 32 := Scalar.muli v5 c2_i32_193
  let v238 : BitVec 32 := Scalar.addi v236 v237
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_24 v8
  let c1_i32_194 : BitVec 32 := 1#32
  let v239 : BitVec 32 := Scalar.muli v40 c1_i32_194
  let v240 : BitVec 32 := Scalar.addi v238 v239
  v240.toNat
def k0_off9 (d0 : Dev nD) : Fin 3 → Nat :=
  let c0_i32_198 : BitVec 32 := 0#32
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_25 v8
  let c1024_i32_26 : BitVec 32 := 1024#32
  let v42 : BitVec 32 := Scalar.muli v41 c1024_i32_26
  let v43 : BitVec 32 := v42
  let c0_i32_210 : BitVec 32 := 0#32
  ![0, v43.toNat, 0]
def k0_dev9 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v249 : BitVec 32 := Scalar.muli v2 c4_i32_204
  let v250 : BitVec 32 := Scalar.addi c0_i32_205 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v251 : BitVec 32 := Scalar.muli v5 c2_i32_206
  let v252 : BitVec 32 := Scalar.addi v250 v251
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_27 v8
  let c1_i32_207 : BitVec 32 := 1#32
  let v253 : BitVec 32 := Scalar.muli v44 c1_i32_207
  let v254 : BitVec 32 := Scalar.addi v252 v253
  v254.toNat
def k0_off10 (d0 : Dev nD) : Fin 3 → Nat :=
  let c1_i32_211 : BitVec 32 := 1#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_28 v8
  let c1024_i32_29 : BitVec 32 := 1024#32
  let v46 : BitVec 32 := Scalar.muli v45 c1024_i32_29
  let v47 : BitVec 32 := v46
  let c0_i32_223 : BitVec 32 := 0#32
  ![1, v47.toNat, 0]
def k0_dev10 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v263 : BitVec 32 := Scalar.muli v2 c4_i32_217
  let v264 : BitVec 32 := Scalar.addi c0_i32_218 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v265 : BitVec 32 := Scalar.muli v5 c2_i32_219
  let v266 : BitVec 32 := Scalar.addi v264 v265
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_30 v8
  let c1_i32_220 : BitVec 32 := 1#32
  let v267 : BitVec 32 := Scalar.muli v48 c1_i32_220
  let v268 : BitVec 32 := Scalar.addi v266 v267
  v268.toNat
def k0_off11 (d0 : Dev nD) : Fin 3 → Nat :=
  let c2_i32_224 : BitVec 32 := 2#32
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_31 v8
  let c1024_i32_32 : BitVec 32 := 1024#32
  let v50 : BitVec 32 := Scalar.muli v49 c1024_i32_32
  let v51 : BitVec 32 := v50
  let c0_i32_236 : BitVec 32 := 0#32
  ![2, v51.toNat, 0]
def k0_dev11 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v277 : BitVec 32 := Scalar.muli v2 c4_i32_230
  let v278 : BitVec 32 := Scalar.addi c0_i32_231 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_232 : BitVec 32 := 2#32
  let v279 : BitVec 32 := Scalar.muli v5 c2_i32_232
  let v280 : BitVec 32 := Scalar.addi v278 v279
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_33 v8
  let c1_i32_233 : BitVec 32 := 1#32
  let v281 : BitVec 32 := Scalar.muli v52 c1_i32_233
  let v282 : BitVec 32 := Scalar.addi v280 v281
  v282.toNat
def k0_off12 (d0 : Dev nD) : Fin 3 → Nat :=
  let c3_i32_237 : BitVec 32 := 3#32
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_34 v8
  let c1024_i32_35 : BitVec 32 := 1024#32
  let v54 : BitVec 32 := Scalar.muli v53 c1024_i32_35
  let v55 : BitVec 32 := v54
  let c0_i32_249 : BitVec 32 := 0#32
  ![3, v55.toNat, 0]
def k0_dev12 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v291 : BitVec 32 := Scalar.muli v2 c4_i32_243
  let v292 : BitVec 32 := Scalar.addi c0_i32_244 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v293 : BitVec 32 := Scalar.muli v5 c2_i32_245
  let v294 : BitVec 32 := Scalar.addi v292 v293
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_36 v8
  let c1_i32_246 : BitVec 32 := 1#32
  let v295 : BitVec 32 := Scalar.muli v56 c1_i32_246
  let v296 : BitVec 32 := Scalar.addi v294 v295
  v296.toNat
def k0_off13 (d0 : Dev nD) : Fin 3 → Nat :=
  let c0_i32_250 : BitVec 32 := 0#32
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_37 v8
  let c704_i32 : BitVec 32 := 704#32
  let v58 : BitVec 32 := Scalar.muli v57 c704_i32
  let v59 : BitVec 32 := v58
  let c0_i32_262 : BitVec 32 := 0#32
  ![0, v59.toNat, 0]
def k0_dev13 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v305 : BitVec 32 := Scalar.muli v2 c4_i32_256
  let v306 : BitVec 32 := Scalar.addi c0_i32_257 v305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v307 : BitVec 32 := Scalar.muli v5 c2_i32_258
  let v308 : BitVec 32 := Scalar.addi v306 v307
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v60 : BitVec 32 := Scalar.subi c1_i32_38 v8
  let c1_i32_259 : BitVec 32 := 1#32
  let v309 : BitVec 32 := Scalar.muli v60 c1_i32_259
  let v310 : BitVec 32 := Scalar.addi v308 v309
  v310.toNat
def k0_off14 (d0 : Dev nD) : Fin 3 → Nat :=
  let c1_i32_263 : BitVec 32 := 1#32
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c704_i32_40 : BitVec 32 := 704#32
  let v62 : BitVec 32 := Scalar.muli v61 c704_i32_40
  let v63 : BitVec 32 := v62
  let c0_i32_275 : BitVec 32 := 0#32
  ![1, v63.toNat, 0]
def k0_dev14 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v319 : BitVec 32 := Scalar.muli v2 c4_i32_269
  let v320 : BitVec 32 := Scalar.addi c0_i32_270 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v321 : BitVec 32 := Scalar.muli v5 c2_i32_271
  let v322 : BitVec 32 := Scalar.addi v320 v321
  let c1_i32_41 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_41 v8
  let c1_i32_272 : BitVec 32 := 1#32
  let v323 : BitVec 32 := Scalar.muli v64 c1_i32_272
  let v324 : BitVec 32 := Scalar.addi v322 v323
  v324.toNat
def k0_off15 (d0 : Dev nD) : Fin 3 → Nat :=
  let c2_i32_276 : BitVec 32 := 2#32
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c704_i32_43 : BitVec 32 := 704#32
  let v66 : BitVec 32 := Scalar.muli v65 c704_i32_43
  let v67 : BitVec 32 := v66
  let c0_i32_288 : BitVec 32 := 0#32
  ![2, v67.toNat, 0]
def k0_dev15 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v333 : BitVec 32 := Scalar.muli v2 c4_i32_282
  let v334 : BitVec 32 := Scalar.addi c0_i32_283 v333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v335 : BitVec 32 := Scalar.muli v5 c2_i32_284
  let v336 : BitVec 32 := Scalar.addi v334 v335
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.subi c1_i32_44 v8
  let c1_i32_285 : BitVec 32 := 1#32
  let v337 : BitVec 32 := Scalar.muli v68 c1_i32_285
  let v338 : BitVec 32 := Scalar.addi v336 v337
  v338.toNat
def k0_off16 (d0 : Dev nD) : Fin 3 → Nat :=
  let c3_i32_289 : BitVec 32 := 3#32
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_45 v8
  let c704_i32_46 : BitVec 32 := 704#32
  let v70 : BitVec 32 := Scalar.muli v69 c704_i32_46
  let v71 : BitVec 32 := v70
  let c0_i32_301 : BitVec 32 := 0#32
  ![3, v71.toNat, 0]
def k0_dev16 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_295 : BitVec 32 := 4#32
  let v347 : BitVec 32 := Scalar.muli v2 c4_i32_295
  let v348 : BitVec 32 := Scalar.addi c0_i32_296 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_297 : BitVec 32 := 2#32
  let v349 : BitVec 32 := Scalar.muli v5 c2_i32_297
  let v350 : BitVec 32 := Scalar.addi v348 v349
  let c1_i32_47 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_47 v8
  let c1_i32_298 : BitVec 32 := 1#32
  let v351 : BitVec 32 := Scalar.muli v72 c1_i32_298
  let v352 : BitVec 32 := Scalar.addi v350 v351
  v352.toNat
def k0_dev17 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_308 : BitVec 32 := 4#32
  let v361 : BitVec 32 := Scalar.muli v2 c4_i32_308
  let v362 : BitVec 32 := Scalar.addi c0_i32_309 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_310 : BitVec 32 := 2#32
  let v363 : BitVec 32 := Scalar.muli v5 c2_i32_310
  let v364 : BitVec 32 := Scalar.addi v362 v363
  let c1_i32_50 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v76 : BitVec 32 := Scalar.subi c1_i32_50 v8
  let c1_i32_311 : BitVec 32 := 1#32
  let v365 : BitVec 32 := Scalar.muli v76 c1_i32_311
  let v366 : BitVec 32 := Scalar.addi v364 v365
  v366.toNat
def k0_dev18 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v375 : BitVec 32 := Scalar.muli v2 c4_i32_321
  let v376 : BitVec 32 := Scalar.addi c0_i32_322 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v377 : BitVec 32 := Scalar.muli v5 c2_i32_323
  let v378 : BitVec 32 := Scalar.addi v376 v377
  let c1_i32_53 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v80 : BitVec 32 := Scalar.subi c1_i32_53 v8
  let c1_i32_324 : BitVec 32 := 1#32
  let v379 : BitVec 32 := Scalar.muli v80 c1_i32_324
  let v380 : BitVec 32 := Scalar.addi v378 v379
  v380.toNat
def k0_dev19 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v389 : BitVec 32 := Scalar.muli v2 c4_i32_334
  let v390 : BitVec 32 := Scalar.addi c0_i32_335 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v391 : BitVec 32 := Scalar.muli v5 c2_i32_336
  let v392 : BitVec 32 := Scalar.addi v390 v391
  let c1_i32_56 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v84 : BitVec 32 := Scalar.subi c1_i32_56 v8
  let c1_i32_337 : BitVec 32 := 1#32
  let v393 : BitVec 32 := Scalar.muli v84 c1_i32_337
  let v394 : BitVec 32 := Scalar.addi v392 v393
  v394.toNat
def k0_dev20 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v403 : BitVec 32 := Scalar.muli v2 c4_i32_347
  let v404 : BitVec 32 := Scalar.addi c0_i32_348 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v405 : BitVec 32 := Scalar.muli v5 c2_i32_349
  let v406 : BitVec 32 := Scalar.addi v404 v405
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v88 : BitVec 32 := Scalar.subi c1_i32_59 v8
  let c1_i32_350 : BitVec 32 := 1#32
  let v407 : BitVec 32 := Scalar.muli v88 c1_i32_350
  let v408 : BitVec 32 := Scalar.addi v406 v407
  v408.toNat
def k0_dev21 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v417 : BitVec 32 := Scalar.muli v2 c4_i32_359
  let v418 : BitVec 32 := Scalar.addi c0_i32_360 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v419 : BitVec 32 := Scalar.muli v5 c2_i32_361
  let v420 : BitVec 32 := Scalar.addi v418 v419
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_62 v8
  let c1_i32_362 : BitVec 32 := 1#32
  let v421 : BitVec 32 := Scalar.muli v92 c1_i32_362
  let v422 : BitVec 32 := Scalar.addi v420 v421
  v422.toNat
def k0_dev22 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v431 : BitVec 32 := Scalar.muli v2 c4_i32_372
  let v432 : BitVec 32 := Scalar.addi c0_i32_373 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v433 : BitVec 32 := Scalar.muli v5 c2_i32_374
  let v434 : BitVec 32 := Scalar.addi v432 v433
  let c1_i32_65 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v96 : BitVec 32 := Scalar.subi c1_i32_65 v8
  let c1_i32_375 : BitVec 32 := 1#32
  let v435 : BitVec 32 := Scalar.muli v96 c1_i32_375
  let v436 : BitVec 32 := Scalar.addi v434 v435
  v436.toNat
def k0_dev23 (d0 : Dev nD) : Nat :=
  let c0_i32_386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_385 : BitVec 32 := 4#32
  let v445 : BitVec 32 := Scalar.muli v2 c4_i32_385
  let v446 : BitVec 32 := Scalar.addi c0_i32_386 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_387 : BitVec 32 := 2#32
  let v447 : BitVec 32 := Scalar.muli v5 c2_i32_387
  let v448 : BitVec 32 := Scalar.addi v446 v447
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_68 v8
  let c1_i32_388 : BitVec 32 := 1#32
  let v449 : BitVec 32 := Scalar.muli v100 c1_i32_388
  let v450 : BitVec 32 := Scalar.addi v448 v449
  v450.toNat
def k0_dev24 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v459 : BitVec 32 := Scalar.muli v2 c4_i32_398
  let v460 : BitVec 32 := Scalar.addi c0_i32_399 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v461 : BitVec 32 := Scalar.muli v5 c2_i32_400
  let v462 : BitVec 32 := Scalar.addi v460 v461
  let c1_i32_71 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v104 : BitVec 32 := Scalar.subi c1_i32_71 v8
  let c1_i32_401 : BitVec 32 := 1#32
  let v463 : BitVec 32 := Scalar.muli v104 c1_i32_401
  let v464 : BitVec 32 := Scalar.addi v462 v463
  v464.toNat
def k0_dev25 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v473 : BitVec 32 := Scalar.muli v2 c4_i32_410
  let v474 : BitVec 32 := Scalar.addi c0_i32_411 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v475 : BitVec 32 := Scalar.muli v5 c2_i32_412
  let v476 : BitVec 32 := Scalar.addi v474 v475
  let c1_i32_74 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v108 : BitVec 32 := Scalar.subi c1_i32_74 v8
  let c1_i32_413 : BitVec 32 := 1#32
  let v477 : BitVec 32 := Scalar.muli v108 c1_i32_413
  let v478 : BitVec 32 := Scalar.addi v476 v477
  v478.toNat
def k0_dev26 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v487 : BitVec 32 := Scalar.muli v2 c4_i32_423
  let v488 : BitVec 32 := Scalar.addi c0_i32_424 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v489 : BitVec 32 := Scalar.muli v5 c2_i32_425
  let v490 : BitVec 32 := Scalar.addi v488 v489
  let c1_i32_77 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v112 : BitVec 32 := Scalar.subi c1_i32_77 v8
  let c1_i32_426 : BitVec 32 := 1#32
  let v491 : BitVec 32 := Scalar.muli v112 c1_i32_426
  let v492 : BitVec 32 := Scalar.addi v490 v491
  v492.toNat
def k0_dev27 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v501 : BitVec 32 := Scalar.muli v2 c4_i32_436
  let v502 : BitVec 32 := Scalar.addi c0_i32_437 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_438 : BitVec 32 := 2#32
  let v503 : BitVec 32 := Scalar.muli v5 c2_i32_438
  let v504 : BitVec 32 := Scalar.addi v502 v503
  let c1_i32_80 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v116 : BitVec 32 := Scalar.subi c1_i32_80 v8
  let c1_i32_439 : BitVec 32 := 1#32
  let v505 : BitVec 32 := Scalar.muli v116 c1_i32_439
  let v506 : BitVec 32 := Scalar.addi v504 v505
  v506.toNat
def k0_dev28 (d0 : Dev nD) : Nat :=
  let c0_i32_450 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_449 : BitVec 32 := 4#32
  let v515 : BitVec 32 := Scalar.muli v2 c4_i32_449
  let v516 : BitVec 32 := Scalar.addi c0_i32_450 v515
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_451 : BitVec 32 := 2#32
  let v517 : BitVec 32 := Scalar.muli v5 c2_i32_451
  let v518 : BitVec 32 := Scalar.addi v516 v517
  let c1_i32_83 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v120 : BitVec 32 := Scalar.subi c1_i32_83 v8
  let c1_i32_452 : BitVec 32 := 1#32
  let v519 : BitVec 32 := Scalar.muli v120 c1_i32_452
  let v520 : BitVec 32 := Scalar.addi v518 v519
  v520.toNat
def k0_dev29 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_461 : BitVec 32 := 4#32
  let v529 : BitVec 32 := Scalar.muli v2 c4_i32_461
  let v530 : BitVec 32 := Scalar.addi c0_i32_462 v529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_463 : BitVec 32 := 2#32
  let v531 : BitVec 32 := Scalar.muli v5 c2_i32_463
  let v532 : BitVec 32 := Scalar.addi v530 v531
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_86 v8
  let c1_i32_464 : BitVec 32 := 1#32
  let v533 : BitVec 32 := Scalar.muli v124 c1_i32_464
  let v534 : BitVec 32 := Scalar.addi v532 v533
  v534.toNat
def k0_dev30 (d0 : Dev nD) : Nat :=
  let c0_i32_475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_474 : BitVec 32 := 4#32
  let v543 : BitVec 32 := Scalar.muli v2 c4_i32_474
  let v544 : BitVec 32 := Scalar.addi c0_i32_475 v543
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_476 : BitVec 32 := 2#32
  let v545 : BitVec 32 := Scalar.muli v5 c2_i32_476
  let v546 : BitVec 32 := Scalar.addi v544 v545
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.subi c1_i32_89 v8
  let c1_i32_477 : BitVec 32 := 1#32
  let v547 : BitVec 32 := Scalar.muli v128 c1_i32_477
  let v548 : BitVec 32 := Scalar.addi v546 v547
  v548.toNat
def k0_dev31 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v557 : BitVec 32 := Scalar.muli v2 c4_i32_487
  let v558 : BitVec 32 := Scalar.addi c0_i32_488 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v559 : BitVec 32 := Scalar.muli v5 c2_i32_489
  let v560 : BitVec 32 := Scalar.addi v558 v559
  let c1_i32_92 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.subi c1_i32_92 v8
  let c1_i32_490 : BitVec 32 := 1#32
  let v561 : BitVec 32 := Scalar.muli v132 c1_i32_490
  let v562 : BitVec 32 := Scalar.addi v560 v561
  v562.toNat
def k0_dev32 (d0 : Dev nD) : Nat :=
  let c0_i32_501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_500 : BitVec 32 := 4#32
  let v571 : BitVec 32 := Scalar.muli v2 c4_i32_500
  let v572 : BitVec 32 := Scalar.addi c0_i32_501 v571
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_502 : BitVec 32 := 2#32
  let v573 : BitVec 32 := Scalar.muli v5 c2_i32_502
  let v574 : BitVec 32 := Scalar.addi v572 v573
  let c1_i32_95 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_95 v8
  let c1_i32_503 : BitVec 32 := 1#32
  let v575 : BitVec 32 := Scalar.muli v136 c1_i32_503
  let v576 : BitVec 32 := Scalar.addi v574 v575
  v576.toNat
-- ==== SwapRef.lean ====
abbrev S32x2048x1792 : Shape := ⟨3, ![32, 2048, 1792]⟩
abbrev S32x512x2048 : Shape := ⟨3, ![32, 512, 2048]⟩
abbrev S32x2048x2816 : Shape := ⟨3, ![32, 2048, 2816]⟩
abbrev S32x1408x2048 : Shape := ⟨3, ![32, 1408, 2048]⟩
abbrev S4x2x4x2x1024x1792 : Shape := ⟨6, ![4, 2, 4, 2, 1024, 1792]⟩
abbrev S4x1x4x1x1024x1792 : Shape := ⟨6, ![4, 1, 4, 1, 1024, 1792]⟩
abbrev S4x4x1024x1792 : Shape := ⟨4, ![4, 4, 1024, 1792]⟩
abbrev S4x1x4x1024x1792 : Shape := ⟨5, ![4, 1, 4, 1024, 1792]⟩
abbrev S4x2x4x1024x1792 : Shape := ⟨5, ![4, 2, 4, 1024, 1792]⟩
abbrev S32x1024x1792 : Shape := ⟨3, ![32, 1024, 1792]⟩
abbrev S4x2x4x2x256x2048 : Shape := ⟨6, ![4, 2, 4, 2, 256, 2048]⟩
abbrev S4x1x4x1x256x2048 : Shape := ⟨6, ![4, 1, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S32x256x2048 : Shape := ⟨3, ![32, 256, 2048]⟩
abbrev S4x2x4x2x1024x2816 : Shape := ⟨6, ![4, 2, 4, 2, 1024, 2816]⟩
abbrev S4x1x4x1x1024x2816 : Shape := ⟨6, ![4, 1, 4, 1, 1024, 2816]⟩
abbrev S4x4x1024x2816 : Shape := ⟨4, ![4, 4, 1024, 2816]⟩
abbrev S4x1x4x1024x2816 : Shape := ⟨5, ![4, 1, 4, 1024, 2816]⟩
abbrev S4x2x4x1024x2816 : Shape := ⟨5, ![4, 2, 4, 1024, 2816]⟩
abbrev S32x1024x2816 : Shape := ⟨3, ![32, 1024, 2816]⟩
abbrev S4x2x4x2x704x2048 : Shape := ⟨6, ![4, 2, 4, 2, 704, 2048]⟩
abbrev S4x1x4x1x704x2048 : Shape := ⟨6, ![4, 1, 4, 1, 704, 2048]⟩
abbrev S4x4x704x2048 : Shape := ⟨4, ![4, 4, 704, 2048]⟩
abbrev S4x1x4x704x2048 : Shape := ⟨5, ![4, 1, 4, 704, 2048]⟩
abbrev S4x2x4x704x2048 : Shape := ⟨5, ![4, 2, 4, 704, 2048]⟩
abbrev S32x704x2048 : Shape := ⟨3, ![32, 704, 2048]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1792, .bf16⟩
  | .hbm, ⟨1, _⟩ => ⟨S32x512x2048, .bf16⟩
  | .hbm, ⟨2, _⟩ => ⟨S32x2048x2816, .bf16⟩
  | .hbm, ⟨3, _⟩ => ⟨S32x1408x2048, .bf16⟩
  | .hbm, ⟨4, _⟩ => ⟨S32x2048x1792, .bf16⟩
  | .hbm, ⟨5, _⟩ => ⟨S32x512x2048, .bf16⟩
  | .hbm, ⟨6, _⟩ => ⟨S32x2048x2816, .bf16⟩
  | .hbm, ⟨7, _⟩ => ⟨S32x1408x2048, .bf16⟩
  | .hbm, ⟨8, _⟩ => ⟨S4x2x4x2x1024x1792, .bf16⟩
  | .hbm, ⟨9, _⟩ => ⟨S4x1x4x1x1024x1792, .bf16⟩
  | .hbm, ⟨10, _⟩ => ⟨S4x4x1024x1792, .bf16⟩
  | .hbm, ⟨11, _⟩ => ⟨S4x1x4x1x1024x1792, .bf16⟩
  | .hbm, ⟨12, _⟩ => ⟨S4x4x1024x1792, .bf16⟩
  | .hbm, ⟨13, _⟩ => ⟨S4x1x4x1024x1792, .bf16⟩
  | .hbm, ⟨14, _⟩ => ⟨S4x1x4x1024x1792, .bf16⟩
  | .hbm, ⟨15, _⟩ => ⟨S4x2x4x1024x1792, .bf16⟩
  | .hbm, ⟨16, _⟩ => ⟨S32x1024x1792, .bf16⟩
  | .hbm, ⟨17, _⟩ => ⟨S4x2x4x2x256x2048, .bf16⟩
  | .hbm, ⟨18, _⟩ => ⟨S4x1x4x1x256x2048, .bf16⟩
  | .hbm, ⟨19, _⟩ => ⟨S4x4x256x2048, .bf16⟩
  | .hbm, ⟨20, _⟩ => ⟨S4x1x4x1x256x2048, .bf16⟩
  | .hbm, ⟨21, _⟩ => ⟨S4x4x256x2048, .bf16⟩
  | .hbm, ⟨22, _⟩ => ⟨S4x1x4x256x2048, .bf16⟩
  | .hbm, ⟨23, _⟩ => ⟨S4x1x4x256x2048, .bf16⟩
  | .hbm, ⟨24, _⟩ => ⟨S4x2x4x256x2048, .bf16⟩
  | .hbm, ⟨25, _⟩ => ⟨S32x256x2048, .bf16⟩
  | .hbm, ⟨26, _⟩ => ⟨S4x2x4x2x1024x2816, .bf16⟩
  | .hbm, ⟨27, _⟩ => ⟨S4x1x4x1x1024x2816, .bf16⟩
  | .hbm, ⟨28, _⟩ => ⟨S4x4x1024x2816, .bf16⟩
  | .hbm, ⟨29, _⟩ => ⟨S4x1x4x1x1024x2816, .bf16⟩
  | .hbm, ⟨30, _⟩ => ⟨S4x4x1024x2816, .bf16⟩
  | .hbm, ⟨31, _⟩ => ⟨S4x1x4x1024x2816, .bf16⟩
  | .hbm, ⟨32, _⟩ => ⟨S4x1x4x1024x2816, .bf16⟩
  | .hbm, ⟨33, _⟩ => ⟨S4x2x4x1024x2816, .bf16⟩
  | .hbm, ⟨34, _⟩ => ⟨S32x1024x2816, .bf16⟩
  | .hbm, ⟨35, _⟩ => ⟨S4x2x4x2x704x2048, .bf16⟩
  | .hbm, ⟨36, _⟩ => ⟨S4x1x4x1x704x2048, .bf16⟩
  | .hbm, ⟨37, _⟩ => ⟨S4x4x704x2048, .bf16⟩
  | .hbm, ⟨38, _⟩ => ⟨S4x1x4x1x704x2048, .bf16⟩
  | .hbm, ⟨39, _⟩ => ⟨S4x4x704x2048, .bf16⟩
  | .hbm, ⟨40, _⟩ => ⟨S4x1x4x704x2048, .bf16⟩
  | .hbm, ⟨41, _⟩ => ⟨S4x1x4x704x2048, .bf16⟩
  | .hbm, ⟨42, _⟩ => ⟨S4x2x4x704x2048, .bf16⟩
  | .hbm, ⟨43, _⟩ => ⟨S32x704x2048, .bf16⟩
  | .hbm, ⟨44, _⟩ => ⟨S4x2x4x2x1024x1792, .bf16⟩
  | .hbm, ⟨45, _⟩ => ⟨S4x1x4x1x1024x1792, .bf16⟩
  | .hbm, ⟨46, _⟩ => ⟨S4x4x1024x1792, .bf16⟩
  | .hbm, ⟨47, _⟩ => ⟨S4x1x4x1x1024x1792, .bf16⟩
  | .hbm, ⟨48, _⟩ => ⟨S4x4x1024x1792, .bf16⟩
  | .hbm, ⟨49, _⟩ => ⟨S4x1x4x1024x1792, .bf16⟩
  | .hbm, ⟨50, _⟩ => ⟨S4x1x4x1024x1792, .bf16⟩
  | .hbm, ⟨51, _⟩ => ⟨S4x2x4x1024x1792, .bf16⟩
  | .hbm, ⟨52, _⟩ => ⟨S32x1024x1792, .bf16⟩
  | .hbm, ⟨53, _⟩ => ⟨S4x2x4x2x256x2048, .bf16⟩
  | .hbm, ⟨54, _⟩ => ⟨S4x1x4x1x256x2048, .bf16⟩
  | .hbm, ⟨55, _⟩ => ⟨S4x4x256x2048, .bf16⟩
  | .hbm, ⟨56, _⟩ => ⟨S4x1x4x1x256x2048, .bf16⟩
  | .hbm, ⟨57, _⟩ => ⟨S4x4x256x2048, .bf16⟩
  | .hbm, ⟨58, _⟩ => ⟨S4x1x4x256x2048, .bf16⟩
  | .hbm, ⟨59, _⟩ => ⟨S4x1x4x256x2048, .bf16⟩
  | .hbm, ⟨60, _⟩ => ⟨S4x2x4x256x2048, .bf16⟩
  | .hbm, ⟨61, _⟩ => ⟨S32x256x2048, .bf16⟩
  | .hbm, ⟨62, _⟩ => ⟨S4x2x4x2x1024x2816, .bf16⟩
  | .hbm, ⟨63, _⟩ => ⟨S4x1x4x1x1024x2816, .bf16⟩
  | .hbm, ⟨64, _⟩ => ⟨S4x4x1024x2816, .bf16⟩
  | .hbm, ⟨65, _⟩ => ⟨S4x1x4x1x1024x2816, .bf16⟩
  | .hbm, ⟨66, _⟩ => ⟨S4x4x1024x2816, .bf16⟩
  | .hbm, ⟨67, _⟩ => ⟨S4x1x4x1024x2816, .bf16⟩
  | .hbm, ⟨68, _⟩ => ⟨S4x1x4x1024x2816, .bf16⟩
  | .hbm, ⟨69, _⟩ => ⟨S4x2x4x1024x2816, .bf16⟩
  | .hbm, ⟨70, _⟩ => ⟨S32x1024x2816, .bf16⟩
  | .hbm, ⟨71, _⟩ => ⟨S4x2x4x2x704x2048, .bf16⟩
  | .hbm, ⟨72, _⟩ => ⟨S4x1x4x1x704x2048, .bf16⟩
  | .hbm, ⟨73, _⟩ => ⟨S4x4x704x2048, .bf16⟩
  | .hbm, ⟨74, _⟩ => ⟨S4x1x4x1x704x2048, .bf16⟩
  | .hbm, ⟨75, _⟩ => ⟨S4x4x704x2048, .bf16⟩
  | .hbm, ⟨76, _⟩ => ⟨S4x1x4x704x2048, .bf16⟩
  | .hbm, ⟨77, _⟩ => ⟨S4x1x4x704x2048, .bf16⟩
  | .hbm, ⟨78, _⟩ => ⟨S4x2x4x704x2048, .bf16⟩
  | .hbm, ⟨79, _⟩ => ⟨S32x704x2048, .bf16⟩
  | _, _ => ⟨S32x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== Share.lean ====
abbrev S1024x1792 : Shape := ⟨2, ![1024, 1792]⟩
abbrev S256x2048 : Shape := ⟨2, ![256, 2048]⟩
abbrev S1024x2816 : Shape := ⟨2, ![1024, 2816]⟩
abbrev S704x2048 : Shape := ⟨2, ![704, 2048]⟩
abbrev S2x1024x1792 : Shape := ⟨3, ![2, 1024, 1792]⟩
abbrev S2x256x2048 : Shape := ⟨3, ![2, 256, 2048]⟩
abbrev S2x1024x2816 : Shape := ⟨3, ![2, 1024, 2816]⟩
abbrev S2x704x2048 : Shape := ⟨3, ![2, 704, 2048]⟩
abbrev S8 : Shape := ⟨1, ![8]⟩
abbrev S1 : Shape := ⟨1, ![1]⟩
abbrev S_ : Shape := ⟨0, ![]⟩
abbrev S1x1024x1792 : Shape := ⟨3, ![1, 1024, 1792]⟩
abbrev S1x256x2048 : Shape := ⟨3, ![1, 256, 2048]⟩
abbrev S1x1024x2816 : Shape := ⟨3, ![1, 1024, 2816]⟩
abbrev S1x704x2048 : Shape := ⟨3, ![1, 704, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S256x2048, .f32⟩
  | .hbm, ⟨2, _⟩ => ⟨S1024x2816, .f32⟩
  | .hbm, ⟨3, _⟩ => ⟨S704x2048, .f32⟩
  | .hbm, ⟨4, _⟩ => ⟨S1024x1792, .f32⟩
  | .hbm, ⟨5, _⟩ => ⟨S256x2048, .f32⟩
  | .hbm, ⟨6, _⟩ => ⟨S1024x2816, .f32⟩
  | .hbm, ⟨7, _⟩ => ⟨S704x2048, .f32⟩
  | .hbm, ⟨8, _⟩ => ⟨S2x1024x1792, .f32⟩
  | .hbm, ⟨9, _⟩ => ⟨S2x256x2048, .f32⟩
  | .hbm, ⟨10, _⟩ => ⟨S2x1024x2816, .f32⟩
  | .hbm, ⟨11, _⟩ => ⟨S2x704x2048, .f32⟩
  | .hbm, ⟨12, _⟩ => ⟨S2x1024x1792, .f32⟩
  | .hbm, ⟨13, _⟩ => ⟨S2x256x2048, .f32⟩
  | .hbm, ⟨14, _⟩ => ⟨S2x1024x2816, .f32⟩
  | .hbm, ⟨15, _⟩ => ⟨S2x704x2048, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_3 : BitVec 32 := 0#32
  let c0_i32_4 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_7 : BitVec 32 := 0#32
  let c0_i32_8 : BitVec 32 := 0#32
  ![v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let c0_i32_12 : BitVec 32 := 0#32
  ![v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_14 : BitVec 32 := 0#32
  let c0_i32_15 : BitVec 32 := 0#32
  ![v8.toNat, 0, 0]
def k0_dev1 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v49 : BitVec 32 := Scalar.muli v2 c4_i32_32
  let v50 : BitVec 32 := Scalar.addi c0_i32_33 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v51 : BitVec 32 := Scalar.muli v5 c2_i32_34
  let v52 : BitVec 32 := Scalar.addi v50 v51
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_35 : BitVec 32 := 1#32
  let v53 : BitVec 32 := Scalar.muli v13 c1_i32_35
  let v54 : BitVec 32 := Scalar.addi v52 v53
  v54.toNat
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v63 : BitVec 32 := Scalar.muli v5 c2_i32_42
  let v64 : BitVec 32 := Scalar.addi v62 v63
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_43 : BitVec 32 := 1#32
  let v65 : BitVec 32 := Scalar.muli v18 c1_i32_43
  let v66 : BitVec 32 := Scalar.addi v64 v65
  v66.toNat
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v73 : BitVec 32 := Scalar.muli v2 c4_i32_48
  let v74 : BitVec 32 := Scalar.addi c0_i32_49 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v75 : BitVec 32 := Scalar.muli v5 c2_i32_50
  let v76 : BitVec 32 := Scalar.addi v74 v75
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_51 : BitVec 32 := 1#32
  let v77 : BitVec 32 := Scalar.muli v23 c1_i32_51
  let v78 : BitVec 32 := Scalar.addi v76 v77
  v78.toNat
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v87 : BitVec 32 := Scalar.muli v5 c2_i32_58
  let v88 : BitVec 32 := Scalar.addi v86 v87
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_16 v8
  let c1_i32_59 : BitVec 32 := 1#32
  let v89 : BitVec 32 := Scalar.muli v28 c1_i32_59
  let v90 : BitVec 32 := Scalar.addi v88 v89
  v90.toNat
def k0_dev5 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v97 : BitVec 32 := Scalar.muli v2 c4_i32_64
  let v98 : BitVec 32 := Scalar.addi c0_i32_65 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v99 : BitVec 32 := Scalar.muli v5 c2_i32_66
  let v100 : BitVec 32 := Scalar.addi v98 v99
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_20 v8
  let c1_i32_67 : BitVec 32 := 1#32
  let v101 : BitVec 32 := Scalar.muli v33 c1_i32_67
  let v102 : BitVec 32 := Scalar.addi v100 v101
  v102.toNat
def k0_dev6 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v109 : BitVec 32 := Scalar.muli v2 c4_i32_72
  let v110 : BitVec 32 := Scalar.addi c0_i32_73 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v111 : BitVec 32 := Scalar.muli v5 c2_i32_74
  let v112 : BitVec 32 := Scalar.addi v110 v111
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.subi c1_i32_23 v8
  let c1_i32_75 : BitVec 32 := 1#32
  let v113 : BitVec 32 := Scalar.muli v38 c1_i32_75
  let v114 : BitVec 32 := Scalar.addi v112 v113
  v114.toNat
def k0_dev7 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v121 : BitVec 32 := Scalar.muli v2 c4_i32_80
  let v122 : BitVec 32 := Scalar.addi c0_i32_81 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v123 : BitVec 32 := Scalar.muli v5 c2_i32_82
  let v124 : BitVec 32 := Scalar.addi v122 v123
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_26 v8
  let c1_i32_83 : BitVec 32 := 1#32
  let v125 : BitVec 32 := Scalar.muli v43 c1_i32_83
  let v126 : BitVec 32 := Scalar.addi v124 v125
  v126.toNat
def k0_dev8 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v133 : BitVec 32 := Scalar.muli v2 c4_i32_88
  let v134 : BitVec 32 := Scalar.addi c0_i32_89 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v135 : BitVec 32 := Scalar.muli v5 c2_i32_90
  let v136 : BitVec 32 := Scalar.addi v134 v135
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_29 v8
  let c1_i32_91 : BitVec 32 := 1#32
  let v137 : BitVec 32 := Scalar.muli v48 c1_i32_91
  let v138 : BitVec 32 := Scalar.addi v136 v137
  v138.toNat
-- ==== ShareRef.lean ====
abbrev S2048x7168 : Shape := ⟨2, ![2048, 7168]⟩
abbrev S2048x2048 : Shape := ⟨2, ![2048, 2048]⟩
abbrev S2048x11264 : Shape := ⟨2, ![2048, 11264]⟩
abbrev S5632x2048 : Shape := ⟨2, ![5632, 2048]⟩
abbrev S2x1024x7168 : Shape := ⟨3, ![2, 1024, 7168]⟩
abbrev S8x256x2048 : Shape := ⟨3, ![8, 256, 2048]⟩
abbrev S2x1024x11264 : Shape := ⟨3, ![2, 1024, 11264]⟩
abbrev S8x704x2048 : Shape := ⟨3, ![8, 704, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x2048, .f32⟩
  | .hbm, ⟨2, _⟩ => ⟨S2048x11264, .f32⟩
  | .hbm, ⟨3, _⟩ => ⟨S5632x2048, .f32⟩
  | .hbm, ⟨4, _⟩ => ⟨S2048x7168, .f32⟩
  | .hbm, ⟨5, _⟩ => ⟨S2048x2048, .f32⟩
  | .hbm, ⟨6, _⟩ => ⟨S2048x11264, .f32⟩
  | .hbm, ⟨7, _⟩ => ⟨S5632x2048, .f32⟩
  | .hbm, ⟨8, _⟩ => ⟨S2x1024x7168, .f32⟩
  | .hbm, ⟨9, _⟩ => ⟨S8x256x2048, .f32⟩
  | .hbm, ⟨10, _⟩ => ⟨S2x1024x11264, .f32⟩
  | .hbm, ⟨11, _⟩ => ⟨S8x704x2048, .f32⟩
  | .hbm, ⟨12, _⟩ => ⟨S2x1024x7168, .f32⟩
  | .hbm, ⟨13, _⟩ => ⟨S8x256x2048, .f32⟩
  | .hbm, ⟨14, _⟩ => ⟨S2x1024x11264, .f32⟩
  | .hbm, ⟨15, _⟩ => ⟨S8x704x2048, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== SumIn.lean ====
abbrev S4x1024x1792 : Shape := ⟨3, ![4, 1024, 1792]⟩
abbrev S1024x1792 : Shape := ⟨2, ![1024, 1792]⟩
abbrev S1x1024x1792 : Shape := ⟨3, ![1, 1024, 1792]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x1792, .bf16⟩
  | .hbm, ⟨1, _⟩ => ⟨S1024x1792, .f32⟩
  | .local _ .vmem, ⟨0, _⟩ => ⟨S4x1024x1792, .bf16⟩
  | .local _ .vmem, ⟨1, _⟩ => ⟨S1024x1792, .f32⟩
  | _, _ => ⟨S4x1024x1792, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumInIdeal.lean ====
abbrev S4x1024x1792 : Shape := ⟨3, ![4, 1024, 1792]⟩
abbrev S1024x1792 : Shape := ⟨2, ![1024, 1792]⟩
abbrev S1x1024x1792 : Shape := ⟨3, ![1, 1024, 1792]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x1792, .bf16⟩
  | .hbm, ⟨1, _⟩ => ⟨S1024x1792, .f32⟩
  | .local _ .vmem, ⟨0, _⟩ => ⟨S4x1024x1792, .bf16⟩
  | .local _ .vmem, ⟨1, _⟩ => ⟨S1024x1792, .f32⟩
  | _, _ => ⟨S4x1024x1792, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumInRefIdeal.lean ====
abbrev S4x1024x1792 : Shape := ⟨3, ![4, 1024, 1792]⟩
abbrev S_ : Shape := ⟨0, ![]⟩
abbrev S1024x1792 : Shape := ⟨2, ![1024, 1792]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1792, .bf16⟩
  | .hbm, ⟨1, _⟩ => ⟨S4x1024x1792, .f32⟩
  | .hbm, ⟨2, _⟩ => ⟨S_, .f32⟩
  | .hbm, ⟨3, _⟩ => ⟨S1024x1792, .f32⟩
  | _, _ => ⟨S4x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x256x2048, .bf16⟩
  | .local _ .vmem, ⟨1, _⟩ => ⟨S256x2048, .f32⟩
  | _, _ => ⟨S4x256x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S4x1024x2816 : Shape := ⟨3, ![4, 1024, 2816]⟩
abbrev S1024x2816 : Shape := ⟨2, ![1024, 2816]⟩
abbrev S1x1024x2816 : Shape := ⟨3, ![1, 1024, 2816]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x2816, .bf16⟩
  | .hbm, ⟨1, _⟩ => ⟨S1024x2816, .f32⟩
  | .local _ .vmem, ⟨0, _⟩ => ⟨S4x1024x2816, .bf16⟩
  | .local _ .vmem, ⟨1, _⟩ => ⟨S1024x2816, .f32⟩
  | _, _ => ⟨S4x1024x2816, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumUpIdeal.lean ====
abbrev S4x1024x2816 : Shape := ⟨3, ![4, 1024, 2816]⟩
abbrev S1024x2816 : Shape := ⟨2, ![1024, 2816]⟩
abbrev S1x1024x2816 : Shape := ⟨3, ![1, 1024, 2816]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x2816, .bf16⟩
  | .hbm, ⟨1, _⟩ => ⟨S1024x2816, .f32⟩
  | .local _ .vmem, ⟨0, _⟩ => ⟨S4x1024x2816, .bf16⟩
  | .local _ .vmem, ⟨1, _⟩ => ⟨S1024x2816, .f32⟩
  | _, _ => ⟨S4x1024x2816, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumUpRefIdeal.lean ====
abbrev S4x1024x2816 : Shape := ⟨3, ![4, 1024, 2816]⟩
abbrev S_ : Shape := ⟨0, ![]⟩
abbrev S1024x2816 : Shape := ⟨2, ![1024, 2816]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2816, .bf16⟩
  | .hbm, ⟨1, _⟩ => ⟨S4x1024x2816, .f32⟩
  | .hbm, ⟨2, _⟩ => ⟨S_, .f32⟩
  | .hbm, ⟨3, _⟩ => ⟨S1024x2816, .f32⟩
  | _, _ => ⟨S4x1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S4x704x2048 : Shape := ⟨3, ![4, 704, 2048]⟩
abbrev S_ : Shape := ⟨0, ![]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .f32⟩
  | .hbm, ⟨2, _⟩ => ⟨S_, .f32⟩
  | .hbm, ⟨3, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x1288x128 : Shape := ⟨3, ![8, 1288, 128]⟩
abbrev S1288x128 : Shape := ⟨2, ![1288, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1288x128, .f32⟩
  | .hbm, ⟨1, _⟩ => ⟨S1288x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x1288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![161], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x1288x128 : Shape := ⟨3, ![8, 1288, 128]⟩
abbrev S_ : Shape := ⟨0, ![]⟩
abbrev S1288x128 : Shape := ⟨2, ![1288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1288x128, .f32⟩
  | .hbm, ⟨1, _⟩ => ⟨S_, .f32⟩
  | .hbm, ⟨2, _⟩ => ⟨S1288x128, .f32⟩
  | _, _ => ⟨S8x1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamAda.lean ====
abbrev S4096x3072 : Shape := ⟨2, ![4096, 3072]⟩
abbrev S2048x3072 : Shape := ⟨2, ![2048, 3072]⟩
abbrev S128x3072 : Shape := ⟨2, ![128, 3072]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S2048x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | .local _ .vmem, ⟨17, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaIdeal.lean ====
abbrev S4096x3072 : Shape := ⟨2, ![4096, 3072]⟩
abbrev S2048x3072 : Shape := ⟨2, ![2048, 3072]⟩
abbrev S128x3072 : Shape := ⟨2, ![128, 3072]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S2048x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | .local _ .vmem, ⟨17, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaRefIdeal.lean ====
abbrev S4096x3072 : Shape := ⟨2, ![4096, 3072]⟩
abbrev S2048x3072 : Shape := ⟨2, ![2048, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S2048x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S_, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S4096x1792 : Shape := ⟨2, ![4096, 1792]⟩
abbrev S2048x1792 : Shape := ⟨2, ![2048, 1792]⟩
abbrev S256x1792 : Shape := ⟨2, ![256, 1792]⟩

abbrev nBuf : Space → Nat
  | .hbm => 9
  | .vmem => 18
  | .smem => 0
  | _ => 0

abbrev bufTy : (tb : Table) → Fin (tcTables nBuf tb) → BufTy
  | .hbm, ⟨0, _⟩ => ⟨S4096x1792, .f32⟩
  | .hbm, ⟨1, _⟩ => ⟨S2048x1792, .f32⟩
  | .hbm, ⟨2, _⟩ => ⟨S2048x1792, .f32⟩
  | .hbm, ⟨3, _⟩ => ⟨S4096x1792, .f32⟩
  | .hbm, ⟨4, _⟩ => ⟨S4096x1792, .f32⟩
  | .hbm, ⟨5, _⟩ => ⟨S4096x1792, .f32⟩
  | .hbm, ⟨6, _⟩ => ⟨S4096x1792, .f32⟩
  | .hbm, ⟨7, _⟩ => ⟨S4096x1792, .f32⟩
  | .hbm, ⟨8, _⟩ => ⟨S4096x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x1792, .f32⟩
  | .local _ .vmem, ⟨17, _⟩ => ⟨S256x1792, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S4096x1792 : Shape := ⟨2, ![4096, 1792]⟩
abbrev S2048x1792 : Shape := ⟨2, ![2048, 1792]⟩
abbrev S256x1792 : Shape := ⟨2, ![256, 1792]⟩

abbrev nBuf : Space → Nat
  | .hbm => 9
  | .vmem => 18
  | .smem => 0
  | _ => 0

abbrev bufTy : (tb : Table) → Fin (tcTables nBuf tb) → BufTy
  | .hbm, ⟨0, _⟩ => ⟨S4096x1792, .f32⟩
  | .hbm, ⟨1, _⟩ => ⟨S2048x1792, .f32⟩
  | .hbm, ⟨2, _⟩ => ⟨S2048x1792, .f32⟩
  | .hbm, ⟨3, _⟩ => ⟨S4096x1792, .f32⟩
  | .hbm, ⟨4, _⟩ => ⟨S4096x1792, .f32⟩
  | .hbm, ⟨5, _⟩ => ⟨S4096x1792, .f32⟩
  | .hbm, ⟨6, _⟩ => ⟨S4096x1792, .f32⟩
  | .hbm, ⟨7, _⟩ => ⟨S4096x1792, .f32⟩
  | .hbm, ⟨8, _⟩ => ⟨S4096x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x1792, .f32⟩
  | .local _ .vmem, ⟨17, _⟩ => ⟨S256x1792, .f32⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S4096x1792 : Shape := ⟨2, ![4096, 1792]⟩
abbrev S2048x1792 : Shape := ⟨2, ![2048, 1792]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S2048x1792, .f32⟩
  | .hbm, ⟨2, _⟩ => ⟨S2048x1792, .f32⟩
  | .hbm, ⟨3, _⟩ => ⟨S4096x1792, .f32⟩
  | .hbm, ⟨4, _⟩ => ⟨S4096x1792, .f32⟩
  | .hbm, ⟨5, _⟩ => ⟨S4096x1792, .f32⟩
  | .hbm, ⟨6, _⟩ => ⟨S_, .f32⟩
  | .hbm, ⟨7, _⟩ => ⟨S4096x1792, .f32⟩
  | .hbm, ⟨8, _⟩ => ⟨S4096x1792, .f32⟩
  | .hbm, ⟨9, _⟩ => ⟨S_, .f32⟩
  | .hbm, ⟨10, _⟩ => ⟨S4096x1792, .f32⟩
  | .hbm, ⟨11, _⟩ => ⟨S4096x1792, .f32⟩
  | .hbm, ⟨12, _⟩ => ⟨S4096x1792, .f32⟩
  | .hbm, ⟨13, _⟩ => ⟨S_, .f32⟩
  | .hbm, ⟨14, _⟩ => ⟨S4096x1792, .f32⟩
  | .hbm, ⟨15, _⟩ => ⟨S4096x1792, .f32⟩
  | .hbm, ⟨16, _⟩ => ⟨S4096x1792, .f32⟩
  | .hbm, ⟨17, _⟩ => ⟨S_, .f32⟩
  | .hbm, ⟨18, _⟩ => ⟨S4096x1792, .f32⟩
  | .hbm, ⟨19, _⟩ => ⟨S4096x1792, .f32⟩
  | .hbm, ⟨20, _⟩ => ⟨S4096x1792, .f32⟩
  | .hbm, ⟨21, _⟩ => ⟨S_, .f32⟩
  | .hbm, ⟨22, _⟩ => ⟨S4096x1792, .f32⟩
  | .hbm, ⟨23, _⟩ => ⟨S4096x1792, .f32⟩
  | .hbm, ⟨24, _⟩ => ⟨S_, .f32⟩
  | .hbm, ⟨25, _⟩ => ⟨S4096x1792, .f32⟩
  | .hbm, ⟨26, _⟩ => ⟨S4096x1792, .f32⟩
  | .hbm, ⟨27, _⟩ => ⟨S4096x1792, .f32⟩
  | .hbm, ⟨28, _⟩ => ⟨S_, .f32⟩
  | .hbm, ⟨29, _⟩ => ⟨S4096x1792, .f32⟩
  | .hbm, ⟨30, _⟩ => ⟨S4096x1792, .f32⟩
  | .hbm, ⟨31, _⟩ => ⟨S4096x1792, .f32⟩
  | .hbm, ⟨32, _⟩ => ⟨S_, .f32⟩
  | .hbm, ⟨33, _⟩ => ⟨S4096x1792, .f32⟩
  | .hbm, ⟨34, _⟩ => ⟨S4096x1792, .f32⟩
  | .hbm, ⟨35, _⟩ => ⟨S4096x1792, .f32⟩
  | .hbm, ⟨36, _⟩ => ⟨S_, .f32⟩
  | .hbm, ⟨37, _⟩ => ⟨S4096x1792, .f32⟩
  | .hbm, ⟨38, _⟩ => ⟨S4096x1792, .f32⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S1024x2048 : Shape := ⟨2, ![1024, 2048]⟩
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S512x2048, .f32⟩
  | .hbm, ⟨2, _⟩ => ⟨S512x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S1024x2048 : Shape := ⟨2, ![1024, 2048]⟩
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S512x2048, .f32⟩
  | .hbm, ⟨2, _⟩ => ⟨S512x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1024x2048 : Shape := ⟨2, ![1024, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S512x2048, .f32⟩
  | .hbm, ⟨2, _⟩ => ⟨S512x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S4096x2816 : Shape := ⟨2, ![4096, 2816]⟩
abbrev S2048x2816 : Shape := ⟨2, ![2048, 2816]⟩
abbrev S128x2816 : Shape := ⟨2, ![128, 2816]⟩

abbrev nBuf : Space → Nat
  | .hbm => 9
  | .vmem => 18
  | .smem => 0
  | _ => 0

abbrev bufTy : (tb : Table) → Fin (tcTables nBuf tb) → BufTy
  | .hbm, ⟨0, _⟩ => ⟨S4096x2816, .f32⟩
  | .hbm, ⟨1, _⟩ => ⟨S2048x2816, .f32⟩
  | .hbm, ⟨2, _⟩ => ⟨S2048x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S4096x2816 : Shape := ⟨2, ![4096, 2816]⟩
abbrev S2048x2816 : Shape := ⟨2, ![2048, 2816]⟩
abbrev S128x2816 : Shape := ⟨2, ![128, 2816]⟩

abbrev nBuf : Space → Nat
  | .hbm => 9
  | .vmem => 18
  | .smem => 0
  | _ => 0

abbrev bufTy : (tb : Table) → Fin (tcTables nBuf tb) → BufTy
  | .hbm, ⟨0, _⟩ => ⟨S4096x2816, .f32⟩
  | .hbm, ⟨1, _⟩ => ⟨S2048x2816, .f32⟩
  | .hbm, ⟨2, _⟩ => ⟨S2048x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S4096x2816 : Shape := ⟨2, ![4096, 2816]⟩
abbrev S2048x2816 : Shape := ⟨2, ![2048, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2048x2816, .f32⟩
  | .hbm, ⟨2, _⟩ => ⟨S2048x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S2816x2048 : Shape := ⟨2, ![2816, 2048]⟩
abbrev S1408x2048 : Shape := ⟨2, ![1408, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2816x2048, .f32⟩
  | .hbm, ⟨1, _⟩ => ⟨S1408x2048, .f32⟩
  | .hbm, ⟨2, _⟩ => ⟨S1408x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownIdeal.lean ====
abbrev S2816x2048 : Shape := ⟨2, ![2816, 2048]⟩
abbrev S1408x2048 : Shape := ⟨2, ![1408, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2816x2048, .f32⟩
  | .hbm, ⟨1, _⟩ => ⟨S1408x2048, .f32⟩
  | .hbm, ⟨2, _⟩ => ⟨S1408x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S2816x2048 : Shape := ⟨2, ![2816, 2048]⟩
abbrev S1408x2048 : Shape := ⟨2, ![1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S1408x2048, .f32⟩
  | .hbm, ⟨2, _⟩ => ⟨S1408x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S_, .f32⟩
  | .hbm, ⟨7, _⟩ => ⟨S2816x2048, .f32⟩
  | .hbm, ⟨8, _⟩ => ⟨S2816x2048, .f32⟩
  | .hbm, ⟨9, _⟩ => ⟨S_, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S_, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S_, .f32⟩
  | .hbm, ⟨18, _⟩ => ⟨S2816x2048, .f32⟩
  | .hbm, ⟨19, _⟩ => ⟨S2816x2048, .f32⟩
  | .hbm, ⟨20, _⟩ => ⟨S2816x2048, .f32⟩
  | .hbm, ⟨21, _⟩ => ⟨S_, .f32⟩
  | .hbm, ⟨22, _⟩ => ⟨S2816x2048, .f32⟩
  | .hbm, ⟨23, _⟩ => ⟨S2816x2048, .f32⟩
  | .hbm, ⟨24, _⟩ => ⟨S_, .f32⟩
  | .hbm, ⟨25, _⟩ => ⟨S2816x2048, .f32⟩
  | .hbm, ⟨26, _⟩ => ⟨S2816x2048, .f32⟩
  | .hbm, ⟨27, _⟩ => ⟨S2816x2048, .f32⟩
  | .hbm, ⟨28, _⟩ => ⟨S_, .f32⟩
  | .hbm, ⟨29, _⟩ => ⟨S2816x2048, .f32⟩
  | .hbm, ⟨30, _⟩ => ⟨S2816x2048, .f32⟩
  | .hbm, ⟨31, _⟩ => ⟨S2816x2048, .f32⟩
  | .hbm, ⟨32, _⟩ => ⟨S_, .f32⟩
  | .hbm, ⟨33, _⟩ => ⟨S2816x2048, .f32⟩
  | .hbm, ⟨34, _⟩ => ⟨S2816x2048, .f32⟩
  | .hbm, ⟨35, _⟩ => ⟨S2816x2048, .f32⟩
  | .hbm, ⟨36, _⟩ => ⟨S_, .f32⟩
  | .hbm, ⟨37, _⟩ => ⟨S2816x2048, .f32⟩
  | .hbm, ⟨38, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S680x128 : Shape := ⟨2, ![680, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S680x128, .f32⟩
  | .hbm, ⟨1, _⟩ => ⟨S680x128, .f32⟩
  | .hbm, ⟨2, _⟩ => ⟨S680x128, .f32⟩
  | .hbm, ⟨3, _⟩ => ⟨S680x128, .f32⟩
  | .hbm, ⟨4, _⟩ => ⟨S680x128, .f32⟩
  | .hbm, ⟨5, _⟩ => ⟨S680x128, .f32⟩
  | .hbm, ⟨6, _⟩ => ⟨S680x128, .f32⟩
  | .hbm, ⟨7, _⟩ => ⟨S680x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![85], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c84_i32 : BitVec 32 := 84#32
  let v1 : BitVec 32 := Scalar.maxsi c0_i32_0 v0
  let v2 : BitVec 32 := Scalar.minsi c84_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S680x128 : Shape := ⟨2, ![680, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S680x128, .f32⟩
  | .hbm, ⟨1, _⟩ => ⟨S680x128, .f32⟩
  | .hbm, ⟨2, _⟩ => ⟨S680x128, .f32⟩
  | .hbm, ⟨3, _⟩ => ⟨S680x128, .f32⟩
  | .hbm, ⟨4, _⟩ => ⟨S_, .f32⟩
  | .hbm, ⟨5, _⟩ => ⟨S680x128, .f32⟩
  | .hbm, ⟨6, _⟩ => ⟨S680x128, .f32⟩
  | .hbm, ⟨7, _⟩ => ⟨S_, .f32⟩
  | .hbm, ⟨8, _⟩ => ⟨S680x128, .f32⟩
  | .hbm, ⟨9, _⟩ => ⟨S680x128, .f32⟩
  | .hbm, ⟨10, _⟩ => ⟨S680x128, .f32⟩
  | .hbm, ⟨11, _⟩ => ⟨S_, .f32⟩
  | .hbm, ⟨12, _⟩ => ⟨S680x128, .f32⟩
  | .hbm, ⟨13, _⟩ => ⟨S680x128, .f32⟩
  | .hbm, ⟨14, _⟩ => ⟨S680x128, .f32⟩
  | .hbm, ⟨15, _⟩ => ⟨S_, .f32⟩
  | .hbm, ⟨16, _⟩ => ⟨S680x128, .f32⟩
  | .hbm, ⟨17, _⟩ => ⟨S680x128, .f32⟩
  | .hbm, ⟨18, _⟩ => ⟨S680x128, .f32⟩
  | .hbm, ⟨19, _⟩ => ⟨S_, .f32⟩
  | .hbm, ⟨20, _⟩ => ⟨S680x128, .f32⟩
  | .hbm, ⟨21, _⟩ => ⟨S680x128, .f32⟩
  | .hbm, ⟨22, _⟩ => ⟨S_, .f32⟩
  | .hbm, ⟨23, _⟩ => ⟨S680x128, .f32⟩
  | .hbm, ⟨24, _⟩ => ⟨S680x128, .f32⟩
  | .hbm, ⟨25, _⟩ => ⟨S680x128, .f32⟩
  | .hbm, ⟨26, _⟩ => ⟨S_, .f32⟩
  | .hbm, ⟨27, _⟩ => ⟨S680x128, .f32⟩
  | .hbm, ⟨28, _⟩ => ⟨S680x128, .f32⟩
  | .hbm, ⟨29, _⟩ => ⟨S680x128, .f32⟩
  | .hbm, ⟨30, _⟩ => ⟨S_, .f32⟩
  | .hbm, ⟨31, _⟩ => ⟨S680x128, .f32⟩
  | .hbm, ⟨32, _⟩ => ⟨S680x128, .f32⟩
  | .hbm, ⟨33, _⟩ => ⟨S680x128, .f32⟩
  | .hbm, ⟨34, _⟩ => ⟨S_, .f32⟩
  | .hbm, ⟨35, _⟩ => ⟨S680x128, .f32⟩
  | .hbm, ⟨36, _⟩ => ⟨S680x128, .f32⟩
  | _, _ => ⟨S680x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradAda.lean ====
abbrev S16x2048 : Shape := ⟨2, ![16, 2048]⟩
abbrev S16x3072 : Shape := ⟨2, ![16, 3072]⟩
abbrev S1x2048x3072 : Shape := ⟨3, ![1, 2048, 3072]⟩
abbrev S16x1024 : Shape := ⟨2, ![16, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S1x2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAdaRefIdeal.lean ====
abbrev S16x2048 : Shape := ⟨2, ![16, 2048]⟩
abbrev S16x3072 : Shape := ⟨2, ![16, 3072]⟩
abbrev S2048x3072 : Shape := ⟨2, ![2048, 3072]⟩
abbrev S2048x1x3072 : Shape := ⟨3, ![2048, 1, 3072]⟩
abbrev S1x2048x3072 : Shape := ⟨3, ![1, 2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S2048x3072, .f32⟩
  | .hbm, ⟨3, _⟩ => ⟨S2048x1x3072, .f32⟩
  | .hbm, ⟨4, _⟩ => ⟨S1x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradIn.lean ====
abbrev S4352x2048 : Shape := ⟨2, ![4352, 2048]⟩
abbrev S4352x7168 : Shape := ⟨2, ![4352, 7168]⟩
abbrev S4x2048x1792 : Shape := ⟨3, ![4, 2048, 1792]⟩
abbrev S1088x1024 : Shape := ⟨2, ![1088, 1024]⟩
abbrev S1088x896 : Shape := ⟨2, ![1088, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x7168, .bf16⟩
  | .hbm, ⟨2, _⟩ => ⟨S4x2048x1792, .bf16⟩
  | .local _ .vmem, ⟨0, _⟩ => ⟨S1088x1024, .bf16⟩
  | .local _ .vmem, ⟨1, _⟩ => ⟨S1088x1024, .bf16⟩
  | .local _ .vmem, ⟨2, _⟩ => ⟨S1088x896, .bf16⟩
  | .local _ .vmem, ⟨3, _⟩ => ⟨S1088x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInIdeal.lean ====
abbrev S4352x2048 : Shape := ⟨2, ![4352, 2048]⟩
abbrev S4352x7168 : Shape := ⟨2, ![4352, 7168]⟩
abbrev S4x2048x1792 : Shape := ⟨3, ![4, 2048, 1792]⟩
abbrev S1088x1024 : Shape := ⟨2, ![1088, 1024]⟩
abbrev S1088x896 : Shape := ⟨2, ![1088, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x7168, .bf16⟩
  | .hbm, ⟨2, _⟩ => ⟨S4x2048x1792, .bf16⟩
  | .local _ .vmem, ⟨0, _⟩ => ⟨S1088x1024, .bf16⟩
  | .local _ .vmem, ⟨1, _⟩ => ⟨S1088x1024, .bf16⟩
  | .local _ .vmem, ⟨2, _⟩ => ⟨S1088x896, .bf16⟩
  | .local _ .vmem, ⟨3, _⟩ => ⟨S1088x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S4352x2048 : Shape := ⟨2, ![4352, 2048]⟩
abbrev S4352x7168 : Shape := ⟨2, ![4352, 7168]⟩
abbrev S2048x7168 : Shape := ⟨2, ![2048, 7168]⟩
abbrev S2048x4x1792 : Shape := ⟨3, ![2048, 4, 1792]⟩
abbrev S4x2048x1792 : Shape := ⟨3, ![4, 2048, 1792]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x7168, .bf16⟩
  | .hbm, ⟨2, _⟩ => ⟨S4352x2048, .f32⟩
  | .hbm, ⟨3, _⟩ => ⟨S4352x7168, .f32⟩
  | .hbm, ⟨4, _⟩ => ⟨S2048x7168, .f32⟩
  | .hbm, ⟨5, _⟩ => ⟨S2048x4x1792, .f32⟩
  | .hbm, ⟨6, _⟩ => ⟨S4x2048x1792, .f32⟩
  | .hbm, ⟨7, _⟩ => ⟨S4x2048x1792, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradOut.lean ====
abbrev S4352x2048 : Shape := ⟨2, ![4352, 2048]⟩
abbrev S1x2048x2048 : Shape := ⟨3, ![1, 2048, 2048]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S1x2048x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutIdeal.lean ====
abbrev S4352x2048 : Shape := ⟨2, ![4352, 2048]⟩
abbrev S1x2048x2048 : Shape := ⟨3, ![1, 2048, 2048]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S1x2048x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRefIdeal.lean ====
abbrev S4352x2048 : Shape := ⟨2, ![4352, 2048]⟩
abbrev S2048x2048 : Shape := ⟨2, ![2048, 2048]⟩
abbrev S2048x1x2048 : Shape := ⟨3, ![2048, 1, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x1x2048, .f32⟩
  | .hbm, ⟨6, _⟩ => ⟨S1x2048x2048, .f32⟩
  | .hbm, ⟨7, _⟩ => ⟨S1x2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradUp.lean ====
abbrev S4352x2048 : Shape := ⟨2, ![4352, 2048]⟩
abbrev S4352x11264 : Shape := ⟨2, ![4352, 11264]⟩
abbrev S4x2048x2816 : Shape := ⟨3, ![4, 2048, 2816]⟩
abbrev S1088x1024 : Shape := ⟨2, ![1088, 1024]⟩
abbrev S1088x1408 : Shape := ⟨2, ![1088, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S4x2048x2816, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1408, .bf16⟩
  | .local _ .vmem, ⟨3, _⟩ => ⟨S1088x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S4352x2048 : Shape := ⟨2, ![4352, 2048]⟩
abbrev S4352x11264 : Shape := ⟨2, ![4352, 11264]⟩
abbrev S2048x11264 : Shape := ⟨2, ![2048, 11264]⟩
abbrev S2048x4x2816 : Shape := ⟨3, ![2048, 4, 2816]⟩
abbrev S4x2048x2816 : Shape := ⟨3, ![4, 2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S4352x2048, .f32⟩
  | .hbm, ⟨3, _⟩ => ⟨S4352x11264, .f32⟩
  | .hbm, ⟨4, _⟩ => ⟨S2048x11264, .f32⟩
  | .hbm, ⟨5, _⟩ => ⟨S2048x4x2816, .f32⟩
  | .hbm, ⟨6, _⟩ => ⟨S4x2048x2816, .f32⟩
  | .hbm, ⟨7, _⟩ => ⟨S4x2048x2816, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradDown.lean ====
abbrev S4352x5632 : Shape := ⟨2, ![4352, 5632]⟩
abbrev S4352x2048 : Shape := ⟨2, ![4352, 2048]⟩
abbrev S1x5632x2048 : Shape := ⟨3, ![1, 5632, 2048]⟩
abbrev S1088x512 : Shape := ⟨2, ![1088, 512]⟩
abbrev S1088x1024 : Shape := ⟨2, ![1088, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S1x5632x2048, .bf16⟩
  | .local _ .vmem, ⟨0, _⟩ => ⟨S1088x512, .bf16⟩
  | .local _ .vmem, ⟨1, _⟩ => ⟨S1088x512, .bf16⟩
  | .local _ .vmem, ⟨2, _⟩ => ⟨S1088x1024, .bf16⟩
  | .local _ .vmem, ⟨3, _⟩ => ⟨S1088x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S4352x5632 : Shape := ⟨2, ![4352, 5632]⟩
abbrev S4352x2048 : Shape := ⟨2, ![4352, 2048]⟩
abbrev S5632x2048 : Shape := ⟨2, ![5632, 2048]⟩
abbrev S5632x1x2048 : Shape := ⟨3, ![5632, 1, 2048]⟩
abbrev S1x5632x2048 : Shape := ⟨3, ![1, 5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S4352x2048, .f32⟩
  | .hbm, ⟨4, _⟩ => ⟨S5632x2048, .f32⟩
  | .hbm, ⟨5, _⟩ => ⟨S5632x1x2048, .f32⟩
  | .hbm, ⟨6, _⟩ => ⟨S1x5632x2048, .f32⟩
  | .hbm, ⟨7, _⟩ => ⟨S1x5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairIn0.lean ====
abbrev S4x2048x1792 : Shape := ⟨3, ![4, 2048, 1792]⟩
abbrev S4x1024x1792 : Shape := ⟨3, ![4, 1024, 1792]⟩
abbrev S_ : Shape := ⟨0, ![]⟩
abbrev S1 : Shape := ⟨1, ![1]⟩
abbrev S1x512x1792 : Shape := ⟨3, ![1, 512, 1792]⟩
abbrev S512x1792 : Shape := ⟨2, ![512, 1792]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S_, .i32⟩
  | .hbm, ⟨3, _⟩ => ⟨S4x1024x1792, .bf16⟩
  | .local _ .vmem, ⟨0, _⟩ => ⟨S1x512x1792, .bf16⟩
  | .local _ .vmem, ⟨1, _⟩ => ⟨S1x512x1792, .bf16⟩
  | .local _ .vmem, ⟨2, _⟩ => ⟨S1x512x1792, .bf16⟩
  | .local _ .vmem, ⟨3, _⟩ => ⟨S1x512x1792, .bf16⟩
  | .local _ .vmem, ⟨4, _⟩ => ⟨S1x512x1792, .bf16⟩
  | .local _ .vmem, ⟨5, _⟩ => ⟨S1x512x1792, .bf16⟩
  | .local _ .smem, ⟨0, _⟩ => ⟨S1, .i32⟩
  | _, _ => ⟨S4x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairIn0Ideal.lean ====
abbrev S4x2048x1792 : Shape := ⟨3, ![4, 2048, 1792]⟩
abbrev S4x1024x1792 : Shape := ⟨3, ![4, 1024, 1792]⟩
abbrev S_ : Shape := ⟨0, ![]⟩
abbrev S1 : Shape := ⟨1, ![1]⟩
abbrev S1x512x1792 : Shape := ⟨3, ![1, 512, 1792]⟩
abbrev S512x1792 : Shape := ⟨2, ![512, 1792]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S_, .i32⟩
  | .hbm, ⟨3, _⟩ => ⟨S4x1024x1792, .bf16⟩
  | .local _ .vmem, ⟨0, _⟩ => ⟨S1x512x1792, .bf16⟩
  | .local _ .vmem, ⟨1, _⟩ => ⟨S1x512x1792, .bf16⟩
  | .local _ .vmem, ⟨2, _⟩ => ⟨S1x512x1792, .bf16⟩
  | .local _ .vmem, ⟨3, _⟩ => ⟨S1x512x1792, .bf16⟩
  | .local _ .vmem, ⟨4, _⟩ => ⟨S1x512x1792, .bf16⟩
  | .local _ .vmem, ⟨5, _⟩ => ⟨S1x512x1792, .bf16⟩
  | .local _ .smem, ⟨0, _⟩ => ⟨S1, .i32⟩
  | _, _ => ⟨S4x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairIn0RefIdeal.lean ====
abbrev S4x2048x1792 : Shape := ⟨3, ![4, 2048, 1792]⟩
abbrev S4x1024x1792 : Shape := ⟨3, ![4, 1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S4x1024x1792, .bf16⟩
  | .hbm, ⟨3, _⟩ => ⟨S4x1024x1792, .bf16⟩
  | .hbm, ⟨4, _⟩ => ⟨S4x1024x1792, .f32⟩
  | .hbm, ⟨5, _⟩ => ⟨S4x1024x1792, .f32⟩
  | .hbm, ⟨6, _⟩ => ⟨S4x1024x1792, .f32⟩
  | .hbm, ⟨7, _⟩ => ⟨S4x1024x1792, .bf16⟩
  | _, _ => ⟨S4x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairIn0Ref.lean ====
abbrev S4x2048x1792 : Shape := ⟨3, ![4, 2048, 1792]⟩
abbrev S4x1024x1792 : Shape := ⟨3, ![4, 1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S4x1024x1792, .bf16⟩
  | .hbm, ⟨3, _⟩ => ⟨S4x1024x1792, .bf16⟩
  | .hbm, ⟨4, _⟩ => ⟨S4x1024x1792, .f32⟩
  | .hbm, ⟨5, _⟩ => ⟨S4x1024x1792, .f32⟩
  | .hbm, ⟨6, _⟩ => ⟨S4x1024x1792, .f32⟩
  | .hbm, ⟨7, _⟩ => ⟨S4x1024x1792, .bf16⟩
  | _, _ => ⟨S4x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairIn1.lean ====
abbrev S4x2048x1792 : Shape := ⟨3, ![4, 2048, 1792]⟩
abbrev S4x1024x1792 : Shape := ⟨3, ![4, 1024, 1792]⟩
abbrev S_ : Shape := ⟨0, ![]⟩
abbrev S1 : Shape := ⟨1, ![1]⟩
abbrev S1x512x1792 : Shape := ⟨3, ![1, 512, 1792]⟩
abbrev S512x1792 : Shape := ⟨2, ![512, 1792]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S_, .i32⟩
  | .hbm, ⟨3, _⟩ => ⟨S4x1024x1792, .bf16⟩
  | .local _ .vmem, ⟨0, _⟩ => ⟨S1x512x1792, .bf16⟩
  | .local _ .vmem, ⟨1, _⟩ => ⟨S1x512x1792, .bf16⟩
  | .local _ .vmem, ⟨2, _⟩ => ⟨S1x512x1792, .bf16⟩
  | .local _ .vmem, ⟨3, _⟩ => ⟨S1x512x1792, .bf16⟩
  | .local _ .vmem, ⟨4, _⟩ => ⟨S1x512x1792, .bf16⟩
  | .local _ .vmem, ⟨5, _⟩ => ⟨S1x512x1792, .bf16⟩
  | .local _ .smem, ⟨0, _⟩ => ⟨S1, .i32⟩
  | _, _ => ⟨S4x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairIn1Ideal.lean ====
abbrev S4x2048x1792 : Shape := ⟨3, ![4, 2048, 1792]⟩
abbrev S4x1024x1792 : Shape := ⟨3, ![4, 1024, 1792]⟩
abbrev S_ : Shape := ⟨0, ![]⟩
abbrev S1 : Shape := ⟨1, ![1]⟩
abbrev S1x512x1792 : Shape := ⟨3, ![1, 512, 1792]⟩
abbrev S512x1792 : Shape := ⟨2, ![512, 1792]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S_, .i32⟩
  | .hbm, ⟨3, _⟩ => ⟨S4x1024x1792, .bf16⟩
  | .local _ .vmem, ⟨0, _⟩ => ⟨S1x512x1792, .bf16⟩
  | .local _ .vmem, ⟨1, _⟩ => ⟨S1x512x1792, .bf16⟩
  | .local _ .vmem, ⟨2, _⟩ => ⟨S1x512x1792, .bf16⟩
  | .local _ .vmem, ⟨3, _⟩ => ⟨S1x512x1792, .bf16⟩
  | .local _ .vmem, ⟨4, _⟩ => ⟨S1x512x1792, .bf16⟩
  | .local _ .vmem, ⟨5, _⟩ => ⟨S1x512x1792, .bf16⟩
  | .local _ .smem, ⟨0, _⟩ => ⟨S1, .i32⟩
  | _, _ => ⟨S4x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairIn1RefIdeal.lean ====
abbrev S4x2048x1792 : Shape := ⟨3, ![4, 2048, 1792]⟩
abbrev S4x1024x1792 : Shape := ⟨3, ![4, 1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S4x1024x1792, .bf16⟩
  | .hbm, ⟨3, _⟩ => ⟨S4x1024x1792, .bf16⟩
  | .hbm, ⟨4, _⟩ => ⟨S4x1024x1792, .f32⟩
  | .hbm, ⟨5, _⟩ => ⟨S4x1024x1792, .f32⟩
  | .hbm, ⟨6, _⟩ => ⟨S4x1024x1792, .f32⟩
  | .hbm, ⟨7, _⟩ => ⟨S4x1024x1792, .bf16⟩
  | _, _ => ⟨S4x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairIn1Ref.lean ====
abbrev S4x2048x1792 : Shape := ⟨3, ![4, 2048, 1792]⟩
abbrev S4x1024x1792 : Shape := ⟨3, ![4, 1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1792, .bf16⟩
  | .hbm, ⟨1, _⟩ => ⟨S4x1024x1792, .bf16⟩
  | .hbm, ⟨2, _⟩ => ⟨S4x1024x1792, .bf16⟩
  | .hbm, ⟨3, _⟩ => ⟨S4x1024x1792, .bf16⟩
  | .hbm, ⟨4, _⟩ => ⟨S4x1024x1792, .f32⟩
  | .hbm, ⟨5, _⟩ => ⟨S4x1024x1792, .f32⟩
  | .hbm, ⟨6, _⟩ => ⟨S4x1024x1792, .f32⟩
  | .hbm, ⟨7, _⟩ => ⟨S4x1024x1792, .bf16⟩
  | _, _ => ⟨S4x2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairOut0.lean ====
abbrev S4x512x2048 : Shape := ⟨3, ![4, 512, 2048]⟩
abbrev S4x256x2048 : Shape := ⟨3, ![4, 256, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOut0Ideal.lean ====
abbrev S4x512x2048 : Shape := ⟨3, ![4, 512, 2048]⟩
abbrev S4x256x2048 : Shape := ⟨3, ![4, 256, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOut0RefIdeal.lean ====
abbrev S4x512x2048 : Shape := ⟨3, ![4, 512, 2048]⟩
abbrev S4x256x2048 : Shape := ⟨3, ![4, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S4x256x2048, .bf16⟩
  | .hbm, ⟨3, _⟩ => ⟨S4x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .bf16⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairOut0Ref.lean ====
abbrev S4x512x2048 : Shape := ⟨3, ![4, 512, 2048]⟩
abbrev S4x256x2048 : Shape := ⟨3, ![4, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S4x256x2048, .bf16⟩
  | .hbm, ⟨3, _⟩ => ⟨S4x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .bf16⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairOut1.lean ====
abbrev S4x512x2048 : Shape := ⟨3, ![4, 512, 2048]⟩
abbrev S4x256x2048 : Shape := ⟨3, ![4, 256, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOut1Ideal.lean ====
abbrev S4x512x2048 : Shape := ⟨3, ![4, 512, 2048]⟩
abbrev S4x256x2048 : Shape := ⟨3, ![4, 256, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S_, .i32⟩
  | .hbm, ⟨3, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOut1RefIdeal.lean ====
abbrev S4x512x2048 : Shape := ⟨3, ![4, 512, 2048]⟩
abbrev S4x256x2048 : Shape := ⟨3, ![4, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S4x256x2048, .bf16⟩
  | .hbm, ⟨3, _⟩ => ⟨S4x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .bf16⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairOut1Ref.lean ====
abbrev S4x512x2048 : Shape := ⟨3, ![4, 512, 2048]⟩
abbrev S4x256x2048 : Shape := ⟨3, ![4, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x256x2048, .bf16⟩
  | .hbm, ⟨2, _⟩ => ⟨S4x256x2048, .bf16⟩
  | .hbm, ⟨3, _⟩ => ⟨S4x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .bf16⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairUp0.lean ====
abbrev S4x2048x2816 : Shape := ⟨3, ![4, 2048, 2816]⟩
abbrev S4x1024x2816 : Shape := ⟨3, ![4, 1024, 2816]⟩
abbrev S_ : Shape := ⟨0, ![]⟩
abbrev S1 : Shape := ⟨1, ![1]⟩
abbrev S1x512x2816 : Shape := ⟨3, ![1, 512, 2816]⟩
abbrev S512x2816 : Shape := ⟨2, ![512, 2816]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S_, .i32⟩
  | .hbm, ⟨3, _⟩ => ⟨S4x1024x2816, .bf16⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .smem, ⟨0, _⟩ => ⟨S1, .i32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUp0Ideal.lean ====
abbrev S4x2048x2816 : Shape := ⟨3, ![4, 2048, 2816]⟩
abbrev S4x1024x2816 : Shape := ⟨3, ![4, 1024, 2816]⟩
abbrev S_ : Shape := ⟨0, ![]⟩
abbrev S1 : Shape := ⟨1, ![1]⟩
abbrev S1x512x2816 : Shape := ⟨3, ![1, 512, 2816]⟩
abbrev S512x2816 : Shape := ⟨2, ![512, 2816]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S_, .i32⟩
  | .hbm, ⟨3, _⟩ => ⟨S4x1024x2816, .bf16⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .smem, ⟨0, _⟩ => ⟨S1, .i32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUp0RefIdeal.lean ====
abbrev S4x2048x2816 : Shape := ⟨3, ![4, 2048, 2816]⟩
abbrev S4x1024x2816 : Shape := ⟨3, ![4, 1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S4x1024x2816, .bf16⟩
  | .hbm, ⟨3, _⟩ => ⟨S4x1024x2816, .bf16⟩
  | .hbm, ⟨4, _⟩ => ⟨S4x1024x2816, .f32⟩
  | .hbm, ⟨5, _⟩ => ⟨S4x1024x2816, .f32⟩
  | .hbm, ⟨6, _⟩ => ⟨S4x1024x2816, .f32⟩
  | .hbm, ⟨7, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairUp0Ref.lean ====
abbrev S4x2048x2816 : Shape := ⟨3, ![4, 2048, 2816]⟩
abbrev S4x1024x2816 : Shape := ⟨3, ![4, 1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S4x1024x2816, .bf16⟩
  | .hbm, ⟨3, _⟩ => ⟨S4x1024x2816, .bf16⟩
  | .hbm, ⟨4, _⟩ => ⟨S4x1024x2816, .f32⟩
  | .hbm, ⟨5, _⟩ => ⟨S4x1024x2816, .f32⟩
  | .hbm, ⟨6, _⟩ => ⟨S4x1024x2816, .f32⟩
  | .hbm, ⟨7, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairUp1.lean ====
abbrev S4x2048x2816 : Shape := ⟨3, ![4, 2048, 2816]⟩
abbrev S4x1024x2816 : Shape := ⟨3, ![4, 1024, 2816]⟩
abbrev S_ : Shape := ⟨0, ![]⟩
abbrev S1 : Shape := ⟨1, ![1]⟩
abbrev S1x512x2816 : Shape := ⟨3, ![1, 512, 2816]⟩
abbrev S512x2816 : Shape := ⟨2, ![512, 2816]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S_, .i32⟩
  | .hbm, ⟨3, _⟩ => ⟨S4x1024x2816, .bf16⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .smem, ⟨0, _⟩ => ⟨S1, .i32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUp1Ideal.lean ====
abbrev S4x2048x2816 : Shape := ⟨3, ![4, 2048, 2816]⟩
abbrev S4x1024x2816 : Shape := ⟨3, ![4, 1024, 2816]⟩
abbrev S_ : Shape := ⟨0, ![]⟩
abbrev S1 : Shape := ⟨1, ![1]⟩
abbrev S1x512x2816 : Shape := ⟨3, ![1, 512, 2816]⟩
abbrev S512x2816 : Shape := ⟨2, ![512, 2816]⟩

abbrev nBuf : Space → Nat
  | .hbm => 4
  | .vmem => 6
  | .smem => 1
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S_, .i32⟩
  | .hbm, ⟨3, _⟩ => ⟨S4x1024x2816, .bf16⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .smem, ⟨0, _⟩ => ⟨S1, .i32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUp1RefIdeal.lean ====
abbrev S4x2048x2816 : Shape := ⟨3, ![4, 2048, 2816]⟩
abbrev S4x1024x2816 : Shape := ⟨3, ![4, 1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S4x1024x2816, .bf16⟩
  | .hbm, ⟨3, _⟩ => ⟨S4x1024x2816, .bf16⟩
  | .hbm, ⟨4, _⟩ => ⟨S4x1024x2816, .f32⟩
  | .hbm, ⟨5, _⟩ => ⟨S4x1024x2816, .f32⟩
  | .hbm, ⟨6, _⟩ => ⟨S4x1024x2816, .f32⟩
  | .hbm, ⟨7, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairUp1Ref.lean ====
abbrev S4x2048x2816 : Shape := ⟨3, ![4, 2048, 2816]⟩
abbrev S4x1024x2816 : Shape := ⟨3, ![4, 1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S4x1024x2816, .bf16⟩
  | .hbm, ⟨3, _⟩ => ⟨S4x1024x2816, .bf16⟩
  | .hbm, ⟨4, _⟩ => ⟨S4x1024x2816, .f32⟩
  | .hbm, ⟨5, _⟩ => ⟨S4x1024x2816, .f32⟩
  | .hbm, ⟨6, _⟩ => ⟨S4x1024x2816, .f32⟩
  | .hbm, ⟨7, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairDown0.lean ====
abbrev S4x1408x2048 : Shape := ⟨3, ![4, 1408, 2048]⟩
abbrev S4x704x2048 : Shape := ⟨3, ![4, 704, 2048]⟩
abbrev S_ : Shape := ⟨0, ![]⟩
abbrev S1 : Shape := ⟨1, ![1]⟩
abbrev S1x64x2048 : Shape := ⟨3, ![1, 64, 2048]⟩
abbrev S64x2048 : Shape := ⟨2, ![64, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1408x2048, .bf16⟩
  | .hbm, ⟨1, _⟩ => ⟨S4x704x2048, .bf16⟩
  | .hbm, ⟨2, _⟩ => ⟨S_, .i32⟩
  | .hbm, ⟨3, _⟩ => ⟨S4x704x2048, .bf16⟩
  | .local _ .vmem, ⟨0, _⟩ => ⟨S1x64x2048, .bf16⟩
  | .local _ .vmem, ⟨1, _⟩ => ⟨S1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x64x2048, .bf16⟩
  | .local _ .vmem, ⟨5, _⟩ => ⟨S1x64x2048, .bf16⟩
  | .local _ .smem, ⟨0, _⟩ => ⟨S1, .i32⟩
  | _, _ => ⟨S4x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c11_i32 : BitVec 32 := 11#32
  let v1 : BitVec 32 := Scalar.muli v0 c11_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDown0Ref.lean ====
abbrev S4x1408x2048 : Shape := ⟨3, ![4, 1408, 2048]⟩
abbrev S4x704x2048 : Shape := ⟨3, ![4, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x1408x2048, .bf16⟩
  | .hbm, ⟨1, _⟩ => ⟨S4x704x2048, .bf16⟩
  | .hbm, ⟨2, _⟩ => ⟨S4x704x2048, .bf16⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .bf16⟩
  | _, _ => ⟨S4x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairDown1.lean ====
abbrev S4x1408x2048 : Shape := ⟨3, ![4, 1408, 2048]⟩
abbrev S4x704x2048 : Shape := ⟨3, ![4, 704, 2048]⟩
abbrev S_ : Shape := ⟨0, ![]⟩
abbrev S1 : Shape := ⟨1, ![1]⟩
abbrev S1x64x2048 : Shape := ⟨3, ![1, 64, 2048]⟩
abbrev S64x2048 : Shape := ⟨2, ![64, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1408x2048, .bf16⟩
  | .hbm, ⟨1, _⟩ => ⟨S4x704x2048, .bf16⟩
  | .hbm, ⟨2, _⟩ => ⟨S_, .i32⟩
  | .hbm, ⟨3, _⟩ => ⟨S4x704x2048, .bf16⟩
  | .local _ .vmem, ⟨0, _⟩ => ⟨S1x64x2048, .bf16⟩
  | .local _ .vmem, ⟨1, _⟩ => ⟨S1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x64x2048, .bf16⟩
  | .local _ .vmem, ⟨5, _⟩ => ⟨S1x64x2048, .bf16⟩
  | .local _ .smem, ⟨0, _⟩ => ⟨S1, .i32⟩
  | _, _ => ⟨S4x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c11_i32 : BitVec 32 := 11#32
  let v1 : BitVec 32 := Scalar.muli v0 c11_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDown1Ref.lean ====
abbrev S4x1408x2048 : Shape := ⟨3, ![4, 1408, 2048]⟩
abbrev S4x704x2048 : Shape := ⟨3, ![4, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x1408x2048, .bf16⟩
  | .hbm, ⟨1, _⟩ => ⟨S4x704x2048, .bf16⟩
  | .hbm, ⟨2, _⟩ => ⟨S4x704x2048, .bf16⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .bf16⟩
  | _, _ => ⟨S4x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjIn.lean ====
abbrev S4352x2048 : Shape := ⟨2, ![4352, 2048]⟩
abbrev S4x2048x1792 : Shape := ⟨3, ![4, 2048, 1792]⟩
abbrev S4352x7168 : Shape := ⟨2, ![4352, 7168]⟩
abbrev S1088x2048 : Shape := ⟨2, ![1088, 2048]⟩
abbrev S1x2048x896 : Shape := ⟨3, ![1, 2048, 896]⟩
abbrev S1088x896 : Shape := ⟨2, ![1088, 896]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4x2048x1792, .bf16⟩
  | .hbm, ⟨2, _⟩ => ⟨S4352x7168, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1088x896, .f32⟩
  | .local _ .vmem, ⟨5, _⟩ => ⟨S1088x896, .f32⟩
  | .local _ .vmem, ⟨6, _⟩ => ⟨S1088x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInIdeal.lean ====
abbrev S4352x2048 : Shape := ⟨2, ![4352, 2048]⟩
abbrev S4x2048x1792 : Shape := ⟨3, ![4, 2048, 1792]⟩
abbrev S4352x7168 : Shape := ⟨2, ![4352, 7168]⟩
abbrev S1088x2048 : Shape := ⟨2, ![1088, 2048]⟩
abbrev S1x2048x896 : Shape := ⟨3, ![1, 2048, 896]⟩
abbrev S1088x896 : Shape := ⟨2, ![1088, 896]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4x2048x1792, .bf16⟩
  | .hbm, ⟨2, _⟩ => ⟨S4352x7168, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1088x896, .f32⟩
  | .local _ .vmem, ⟨5, _⟩ => ⟨S1088x896, .f32⟩
  | .local _ .vmem, ⟨6, _⟩ => ⟨S1088x896, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S4352x2048 : Shape := ⟨2, ![4352, 2048]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S4352x7168 : Shape := ⟨2, ![4352, 7168]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2048x1792, .bf16⟩
  | .hbm, ⟨2, _⟩ => ⟨S4352x2048, .f32⟩
  | .hbm, ⟨3, _⟩ => ⟨S2048x4x1792, .bf16⟩
  | .hbm, ⟨4, _⟩ => ⟨S2048x7168, .bf16⟩
  | .hbm, ⟨5, _⟩ => ⟨S2048x7168, .f32⟩
  | .hbm, ⟨6, _⟩ => ⟨S4352x7168, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjOut.lean ====
abbrev S4352x2048 : Shape := ⟨2, ![4352, 2048]⟩
abbrev S1x2048x2048 : Shape := ⟨3, ![1, 2048, 2048]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1x2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutIdeal.lean ====
abbrev S4352x2048 : Shape := ⟨2, ![4352, 2048]⟩
abbrev S1x2048x2048 : Shape := ⟨3, ![1, 2048, 2048]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1x2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutRefIdeal.lean ====
abbrev S4352x2048 : Shape := ⟨2, ![4352, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1x2048x2048, .bf16⟩
  | .hbm, ⟨2, _⟩ => ⟨S4352x2048, .f32⟩
  | .hbm, ⟨3, _⟩ => ⟨S2048x1x2048, .bf16⟩
  | .hbm, ⟨4, _⟩ => ⟨S2048x2048, .bf16⟩
  | .hbm, ⟨5, _⟩ => ⟨S2048x2048, .f32⟩
  | .hbm, ⟨6, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUp.lean ====
abbrev S4352x2048 : Shape := ⟨2, ![4352, 2048]⟩
abbrev S4x2048x2816 : Shape := ⟨3, ![4, 2048, 2816]⟩
abbrev S4352x11264 : Shape := ⟨2, ![4352, 11264]⟩
abbrev S1088x2048 : Shape := ⟨2, ![1088, 2048]⟩
abbrev S1x2048x1408 : Shape := ⟨3, ![1, 2048, 1408]⟩
abbrev S1088x1408 : Shape := ⟨2, ![1088, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4x2048x2816, .bf16⟩
  | .hbm, ⟨2, _⟩ => ⟨S4352x11264, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .f32⟩
  | .local _ .vmem, ⟨5, _⟩ => ⟨S1088x1408, .f32⟩
  | .local _ .vmem, ⟨6, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpIdeal.lean ====
abbrev S4352x2048 : Shape := ⟨2, ![4352, 2048]⟩
abbrev S4x2048x2816 : Shape := ⟨3, ![4, 2048, 2816]⟩
abbrev S4352x11264 : Shape := ⟨2, ![4352, 11264]⟩
abbrev S1088x2048 : Shape := ⟨2, ![1088, 2048]⟩
abbrev S1x2048x1408 : Shape := ⟨3, ![1, 2048, 1408]⟩
abbrev S1088x1408 : Shape := ⟨2, ![1088, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4x2048x2816, .bf16⟩
  | .hbm, ⟨2, _⟩ => ⟨S4352x11264, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .f32⟩
  | .local _ .vmem, ⟨5, _⟩ => ⟨S1088x1408, .f32⟩
  | .local _ .vmem, ⟨6, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4352x2048 : Shape := ⟨2, ![4352, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4352x11264 : Shape := ⟨2, ![4352, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4x2048x2816, .bf16⟩
  | .hbm, ⟨2, _⟩ => ⟨S4352x2048, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S4352x11264, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnDown.lean ====
abbrev S4352x5632 : Shape := ⟨2, ![4352, 5632]⟩
abbrev S1x5632x2048 : Shape := ⟨3, ![1, 5632, 2048]⟩
abbrev S4352x2048 : Shape := ⟨2, ![4352, 2048]⟩
abbrev S1088x1408 : Shape := ⟨2, ![1088, 1408]⟩
abbrev S1x1408x1024 : Shape := ⟨3, ![1, 1408, 1024]⟩
abbrev S1088x1024 : Shape := ⟨2, ![1088, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S1x5632x2048, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownIdeal.lean ====
abbrev S4352x5632 : Shape := ⟨2, ![4352, 5632]⟩
abbrev S1x5632x2048 : Shape := ⟨3, ![1, 5632, 2048]⟩
abbrev S4352x2048 : Shape := ⟨2, ![4352, 2048]⟩
abbrev S1088x1408 : Shape := ⟨2, ![1088, 1408]⟩
abbrev S1x1408x1024 : Shape := ⟨3, ![1, 1408, 1024]⟩
abbrev S1088x1024 : Shape := ⟨2, ![1088, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S1x5632x2048, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S4352x5632 : Shape := ⟨2, ![4352, 5632]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S1x5632x2048, .bf16⟩
  | .hbm, ⟨2, _⟩ => ⟨S4352x5632, .f32⟩
  | .hbm, ⟨3, _⟩ => ⟨S5632x1x2048, .bf16⟩
  | .hbm, ⟨4, _⟩ => ⟨S5632x2048, .bf16⟩
  | .hbm, ⟨5, _⟩ => ⟨S5632x2048, .f32⟩
  | .hbm, ⟨6, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdaFwd.lean ====
abbrev S16x2048 : Shape := ⟨2, ![16, 2048]⟩
abbrev S1x2048x3072 : Shape := ⟨3, ![1, 2048, 3072]⟩
abbrev S16x3072 : Shape := ⟨2, ![16, 3072]⟩
abbrev S1x2048x1024 : Shape := ⟨3, ![1, 2048, 1024]⟩
abbrev S16x1024 : Shape := ⟨2, ![16, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S1x2048x3072, .f32⟩
  | .hbm, ⟨2, _⟩ => ⟨S16x3072, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaFwdRefIdeal.lean ====
abbrev S16x2048 : Shape := ⟨2, ![16, 2048]⟩
abbrev S1x2048x3072 : Shape := ⟨3, ![1, 2048, 3072]⟩
abbrev S2048x1x3072 : Shape := ⟨3, ![2048, 1, 3072]⟩
abbrev S2048x3072 : Shape := ⟨2, ![2048, 3072]⟩
abbrev S16x3072 : Shape := ⟨2, ![16, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x3072, .f32⟩
  | .hbm, ⟨2, _⟩ => ⟨S2048x1x3072, .f32⟩
  | .hbm, ⟨3, _⟩ => ⟨S2048x3072, .f32⟩
  | .hbm, ⟨4, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjInBwd.lean ====
abbrev S4352x7168 : Shape := ⟨2, ![4352, 7168]⟩
abbrev S4x2048x1792 : Shape := ⟨3, ![4, 2048, 1792]⟩
abbrev S4352x2048 : Shape := ⟨2, ![4352, 2048]⟩
abbrev S1088x896 : Shape := ⟨2, ![1088, 896]⟩
abbrev S1x1024x896 : Shape := ⟨3, ![1, 1024, 896]⟩
abbrev S1088x1024 : Shape := ⟨2, ![1088, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x7168, .bf16⟩
  | .hbm, ⟨1, _⟩ => ⟨S4x2048x1792, .bf16⟩
  | .hbm, ⟨2, _⟩ => ⟨S4352x2048, .f32⟩
  | .local _ .vmem, ⟨0, _⟩ => ⟨S1088x896, .bf16⟩
  | .local _ .vmem, ⟨1, _⟩ => ⟨S1088x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInBwdIdeal.lean ====
abbrev S4352x7168 : Shape := ⟨2, ![4352, 7168]⟩
abbrev S4x2048x1792 : Shape := ⟨3, ![4, 2048, 1792]⟩
abbrev S4352x2048 : Shape := ⟨2, ![4352, 2048]⟩
abbrev S1088x896 : Shape := ⟨2, ![1088, 896]⟩
abbrev S1x1024x896 : Shape := ⟨3, ![1, 1024, 896]⟩
abbrev S1088x1024 : Shape := ⟨2, ![1088, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4352x7168, .bf16⟩
  | .hbm, ⟨1, _⟩ => ⟨S4x2048x1792, .bf16⟩
  | .hbm, ⟨2, _⟩ => ⟨S4352x2048, .f32⟩
  | .local _ .vmem, ⟨0, _⟩ => ⟨S1088x896, .bf16⟩
  | .local _ .vmem, ⟨1, _⟩ => ⟨S1088x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInBwdRefIdeal.lean ====
abbrev S4352x7168 : Shape := ⟨2, ![4352, 7168]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S7168x2048 : Shape := ⟨2, ![7168, 2048]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x7168, .bf16⟩
  | .hbm, ⟨1, _⟩ => ⟨S4x2048x1792, .bf16⟩
  | .hbm, ⟨2, _⟩ => ⟨S4352x7168, .f32⟩
  | .hbm, ⟨3, _⟩ => ⟨S2048x4x1792, .bf16⟩
  | .hbm, ⟨4, _⟩ => ⟨S2048x7168, .bf16⟩
  | .hbm, ⟨5, _⟩ => ⟨S2048x7168, .f32⟩
  | .hbm, ⟨6, _⟩ => ⟨S7168x2048, .f32⟩
  | .hbm, ⟨7, _⟩ => ⟨S4352x2048, .f32⟩
  | _, _ => ⟨S4352x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjOutBwd.lean ====
abbrev S4352x2048 : Shape := ⟨2, ![4352, 2048]⟩
abbrev S1x2048x2048 : Shape := ⟨3, ![1, 2048, 2048]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1x2048x2048, .bf16⟩
  | .hbm, ⟨2, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutBwdIdeal.lean ====
abbrev S4352x2048 : Shape := ⟨2, ![4352, 2048]⟩
abbrev S1x2048x2048 : Shape := ⟨3, ![1, 2048, 2048]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1x2048x2048, .bf16⟩
  | .hbm, ⟨2, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutBwdRefIdeal.lean ====
abbrev S4352x2048 : Shape := ⟨2, ![4352, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1x2048x2048, .bf16⟩
  | .hbm, ⟨2, _⟩ => ⟨S4352x2048, .f32⟩
  | .hbm, ⟨3, _⟩ => ⟨S2048x1x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUpBwd.lean ====
abbrev S4352x11264 : Shape := ⟨2, ![4352, 11264]⟩
abbrev S4x2048x2816 : Shape := ⟨3, ![4, 2048, 2816]⟩
abbrev S4352x2048 : Shape := ⟨2, ![4352, 2048]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S4x2048x2816, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpBwdIdeal.lean ====
abbrev S4352x11264 : Shape := ⟨2, ![4352, 11264]⟩
abbrev S4x2048x2816 : Shape := ⟨3, ![4, 2048, 2816]⟩
abbrev S4352x2048 : Shape := ⟨2, ![4352, 2048]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4352x11264, .bf16⟩
  | .hbm, ⟨1, _⟩ => ⟨S4x2048x2816, .bf16⟩
  | .hbm, ⟨2, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpBwdRefIdeal.lean ====
abbrev S4352x11264 : Shape := ⟨2, ![4352, 11264]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S4x2048x2816, .bf16⟩
  | .hbm, ⟨2, _⟩ => ⟨S4352x11264, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S11264x2048, .f32⟩
  | .hbm, ⟨7, _⟩ => ⟨S4352x2048, .f32⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnDownBwd.lean ====
abbrev S4352x2048 : Shape := ⟨2, ![4352, 2048]⟩
abbrev S1x5632x2048 : Shape := ⟨3, ![1, 5632, 2048]⟩
abbrev S4352x5632 : Shape := ⟨2, ![4352, 5632]⟩
abbrev S1088x1024 : Shape := ⟨2, ![1088, 1024]⟩
abbrev S1x512x1024 : Shape := ⟨3, ![1, 512, 1024]⟩
abbrev S1088x512 : Shape := ⟨2, ![1088, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1x5632x2048, .bf16⟩
  | .hbm, ⟨2, _⟩ => ⟨S4352x5632, .f32⟩
  | .local _ .vmem, ⟨0, _⟩ => ⟨S1088x1024, .bf16⟩
  | .local _ .vmem, ⟨1, _⟩ => ⟨S1088x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownBwdIdeal.lean ====
abbrev S4352x2048 : Shape := ⟨2, ![4352, 2048]⟩
abbrev S1x5632x2048 : Shape := ⟨3, ![1, 5632, 2048]⟩
abbrev S4352x5632 : Shape := ⟨2, ![4352, 5632]⟩
abbrev S1088x1024 : Shape := ⟨2, ![1088, 1024]⟩
abbrev S1x512x1024 : Shape := ⟨3, ![1, 512, 1024]⟩
abbrev S1088x512 : Shape := ⟨2, ![1088, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1x5632x2048, .bf16⟩
  | .hbm, ⟨2, _⟩ => ⟨S4352x5632, .f32⟩
  | .local _ .vmem, ⟨0, _⟩ => ⟨S1088x1024, .bf16⟩
  | .local _ .vmem, ⟨1, _⟩ => ⟨S1088x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownBwdRefIdeal.lean ====
abbrev S4352x2048 : Shape := ⟨2, ![4352, 2048]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S2048x5632 : Shape := ⟨2, ![2048, 5632]⟩
abbrev S4352x5632 : Shape := ⟨2, ![4352, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1x5632x2048, .bf16⟩
  | .hbm, ⟨2, _⟩ => ⟨S4352x2048, .f32⟩
  | .hbm, ⟨3, _⟩ => ⟨S5632x1x2048, .bf16⟩
  | .hbm, ⟨4, _⟩ => ⟨S5632x2048, .bf16⟩
  | .hbm, ⟨5, _⟩ => ⟨S5632x2048, .f32⟩
  | .hbm, ⟨6, _⟩ => ⟨S2048x5632, .f32⟩
  | .hbm, ⟨7, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AdaBwd.lean ====
abbrev S16x3072 : Shape := ⟨2, ![16, 3072]⟩
abbrev S1x2048x3072 : Shape := ⟨3, ![1, 2048, 3072]⟩
abbrev S16x2048 : Shape := ⟨2, ![16, 2048]⟩
abbrev S16x1024 : Shape := ⟨2, ![16, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16x3072, .f32⟩
  | .hbm, ⟨1, _⟩ => ⟨S1x2048x3072, .f32⟩
  | .hbm, ⟨2, _⟩ => ⟨S16x2048, .f32⟩
  | .local _ .vmem, ⟨0, _⟩ => ⟨S16x1024, .f32⟩
  | .local _ .vmem, ⟨1, _⟩ => ⟨S16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaBwdRefIdeal.lean ====
abbrev S16x3072 : Shape := ⟨2, ![16, 3072]⟩
abbrev S1x2048x3072 : Shape := ⟨3, ![1, 2048, 3072]⟩
abbrev S2048x1x3072 : Shape := ⟨3, ![2048, 1, 3072]⟩
abbrev S2048x3072 : Shape := ⟨2, ![2048, 3072]⟩
abbrev S3072x2048 : Shape := ⟨2, ![3072, 2048]⟩
abbrev S16x2048 : Shape := ⟨2, ![16, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S1x2048x3072, .f32⟩
  | .hbm, ⟨2, _⟩ => ⟨S2048x1x3072, .f32⟩
  | .hbm, ⟨3, _⟩ => ⟨S2048x3072, .f32⟩
  | .hbm, ⟨4, _⟩ => ⟨S3072x2048, .f32⟩
  | .hbm, ⟨5, _⟩ => ⟨S16x2048, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormIn.lean ====
abbrev S4352x2048 : Shape := ⟨2, ![4352, 2048]⟩
abbrev S1x16x2048 : Shape := ⟨3, ![1, 16, 2048]⟩
abbrev S2x16x2048 : Shape := ⟨3, ![2, 16, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩

abbrev nBuf : Space → Nat
  | .hbm => 5
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S1x16x2048, .f32⟩
  | .hbm, ⟨2, _⟩ => ⟨S2x16x2048, .f32⟩
  | .hbm, ⟨3, _⟩ => ⟨S2x16x2048, .f32⟩
  | .hbm, ⟨4, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x16x2048, .f32⟩
  | .local _ .vmem, ⟨7, _⟩ => ⟨S256x2048, .bf16⟩
  | .local _ .vmem, ⟨8, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_1 : BitVec 32 := 16#32
  let v1 : BitVec 32 := Scalar.muli arg6 c16_i32_1
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_1 : BitVec 32 := 16#32
  let v1 : BitVec 32 := Scalar.muli arg6 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInRefIdeal.lean ====
abbrev S4352x2048 : Shape := ⟨2, ![4352, 2048]⟩
abbrev S1x16x2048 : Shape := ⟨3, ![1, 16, 2048]⟩
abbrev S2x16x2048 : Shape := ⟨3, ![2, 16, 2048]⟩
abbrev S_ : Shape := ⟨0, ![]⟩
abbrev S4352 : Shape := ⟨1, ![4352]⟩
abbrev S4352x1 : Shape := ⟨2, ![4352, 1]⟩
abbrev S272x16x2048 : Shape := ⟨3, ![272, 16, 2048]⟩
abbrev S16x16x2048 : Shape := ⟨3, ![16, 16, 2048]⟩
abbrev S256x16x2048 : Shape := ⟨3, ![256, 16, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x16x2048, .f32⟩
  | .hbm, ⟨2, _⟩ => ⟨S2x16x2048, .f32⟩
  | .hbm, ⟨3, _⟩ => ⟨S2x16x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x2048, .f32⟩
  | .hbm, ⟨16, _⟩ => ⟨S4352x2048, .f32⟩
  | .hbm, ⟨17, _⟩ => ⟨S272x16x2048, .f32⟩
  | .hbm, ⟨18, _⟩ => ⟨S4352x2048, .f32⟩
  | .hbm, ⟨19, _⟩ => ⟨S4352x2048, .f32⟩
  | .hbm, ⟨20, _⟩ => ⟨S1x16x2048, .f32⟩
  | .hbm, ⟨21, _⟩ => ⟨S16x16x2048, .f32⟩
  | .hbm, ⟨22, _⟩ => ⟨S1x16x2048, .f32⟩
  | .hbm, ⟨23, _⟩ => ⟨S256x16x2048, .f32⟩
  | .hbm, ⟨24, _⟩ => ⟨S272x16x2048, .f32⟩
  | .hbm, ⟨25, _⟩ => ⟨S4352x2048, .f32⟩
  | .hbm, ⟨26, _⟩ => ⟨S_, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S1x16x2048, .f32⟩
  | .hbm, ⟨31, _⟩ => ⟨S16x16x2048, .f32⟩
  | .hbm, ⟨32, _⟩ => ⟨S1x16x2048, .f32⟩
  | .hbm, ⟨33, _⟩ => ⟨S256x16x2048, .f32⟩
  | .hbm, ⟨34, _⟩ => ⟨S272x16x2048, .f32⟩
  | .hbm, ⟨35, _⟩ => ⟨S4352x2048, .f32⟩
  | .hbm, ⟨36, _⟩ => ⟨S4352x2048, .f32⟩
  | .hbm, ⟨37, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== GateNorm.lean ====
abbrev S4352x2048 : Shape := ⟨2, ![4352, 2048]⟩
abbrev S2x16x2048 : Shape := ⟨3, ![2, 16, 2048]⟩
abbrev S1x16x2048 : Shape := ⟨3, ![1, 16, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩

abbrev nBuf : Space → Nat
  | .hbm => 8
  | .vmem => 15
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2x16x2048, .f32⟩
  | .hbm, ⟨3, _⟩ => ⟨S1x16x2048, .f32⟩
  | .hbm, ⟨4, _⟩ => ⟨S2x16x2048, .f32⟩
  | .hbm, ⟨5, _⟩ => ⟨S2x16x2048, .f32⟩
  | .hbm, ⟨6, _⟩ => ⟨S4352x2048, .f32⟩
  | .hbm, ⟨7, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x16x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateNormRefIdeal.lean ====
abbrev S4352x2048 : Shape := ⟨2, ![4352, 2048]⟩
abbrev S2x16x2048 : Shape := ⟨3, ![2, 16, 2048]⟩
abbrev S1x16x2048 : Shape := ⟨3, ![1, 16, 2048]⟩
abbrev S16x16x2048 : Shape := ⟨3, ![16, 16, 2048]⟩
abbrev S256x16x2048 : Shape := ⟨3, ![256, 16, 2048]⟩
abbrev S272x16x2048 : Shape := ⟨3, ![272, 16, 2048]⟩
abbrev S_ : Shape := ⟨0, ![]⟩
abbrev S4352 : Shape := ⟨1, ![4352]⟩
abbrev S4352x1 : Shape := ⟨2, ![4352, 1]⟩

abbrev nBuf : Space → Nat
  | .hbm => 48
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2x16x2048, .f32⟩
  | .hbm, ⟨3, _⟩ => ⟨S1x16x2048, .f32⟩
  | .hbm, ⟨4, _⟩ => ⟨S2x16x2048, .f32⟩
  | .hbm, ⟨5, _⟩ => ⟨S2x16x2048, .f32⟩
  | .hbm, ⟨6, _⟩ => ⟨S1x16x2048, .f32⟩
  | .hbm, ⟨7, _⟩ => ⟨S16x16x2048, .f32⟩
  | .hbm, ⟨8, _⟩ => ⟨S1x16x2048, .f32⟩
  | .hbm, ⟨9, _⟩ => ⟨S256x16x2048, .f32⟩
  | .hbm, ⟨10, _⟩ => ⟨S272x16x2048, .f32⟩
  | .hbm, ⟨11, _⟩ => ⟨S4352x2048, .f32⟩
  | .hbm, ⟨12, _⟩ => ⟨S4352x2048, .f32⟩
  | .hbm, ⟨13, _⟩ => ⟨S4352x2048, .f32⟩
  | .hbm, ⟨14, _⟩ => ⟨S4352x2048, .f32⟩
  | .hbm, ⟨15, _⟩ => ⟨S_, .f32⟩
  | .hbm, ⟨16, _⟩ => ⟨S4352, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S_, .f32⟩
  | .hbm, ⟨22, _⟩ => ⟨S4352x1, .f32⟩
  | .hbm, ⟨23, _⟩ => ⟨S4352x1, .f32⟩
  | .hbm, ⟨24, _⟩ => ⟨S4352x1, .f32⟩
  | .hbm, ⟨25, _⟩ => ⟨S4352x2048, .f32⟩
  | .hbm, ⟨26, _⟩ => ⟨S4352x2048, .f32⟩
  | .hbm, ⟨27, _⟩ => ⟨S272x16x2048, .f32⟩
  | .hbm, ⟨28, _⟩ => ⟨S4352x2048, .f32⟩
  | .hbm, ⟨29, _⟩ => ⟨S4352x2048, .f32⟩
  | .hbm, ⟨30, _⟩ => ⟨S1x16x2048, .f32⟩
  | .hbm, ⟨31, _⟩ => ⟨S16x16x2048, .f32⟩
  | .hbm, ⟨32, _⟩ => ⟨S1x16x2048, .f32⟩
  | .hbm, ⟨33, _⟩ => ⟨S256x16x2048, .f32⟩
  | .hbm, ⟨34, _⟩ => ⟨S272x16x2048, .f32⟩
  | .hbm, ⟨35, _⟩ => ⟨S4352x2048, .f32⟩
  | .hbm, ⟨36, _⟩ => ⟨S_, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S1x16x2048, .f32⟩
  | .hbm, ⟨41, _⟩ => ⟨S16x16x2048, .f32⟩
  | .hbm, ⟨42, _⟩ => ⟨S1x16x2048, .f32⟩
  | .hbm, ⟨43, _⟩ => ⟨S256x16x2048, .f32⟩
  | .hbm, ⟨44, _⟩ => ⟨S272x16x2048, .f32⟩
  | .hbm, ⟨45, _⟩ => ⟨S4352x2048, .f32⟩
  | .hbm, ⟨46, _⟩ => ⟨S4352x2048, .f32⟩
  | .hbm, ⟨47, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.Deal.lean ====
module

public import Idealize.ShloMosaic.Lib.Pipeline.Launch

@[expose] public section

noncomputable section

/-!
The launch of a program whose @main is one kernel region that moves everything by its own transfers:
no window, no prefetched table, every array in HBM.  The cores exchange data without asking each other
first, so a core's receiving semaphore AND the stretch of its output it is sent into are the sender's
from the start.  Hence the deal below: one update is handed every core's own semaphores at zero and
every core's arrays together, and divides them as the protocol wants (`hdeal`).  The cores' posts are
read against the final memory together too (`hread`): what a device's array holds at the end is spread
over the cores that wrote it.
-/

namespace Cert.Deal

open Idealize.ShloMosaic Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open Idealize.ShloMosaic.TcCoe
open Idealize.ShloMosaic.Pipeline Idealize.ShloMosaic.Pipeline.PerCore Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The levels of every TensorCore's cells, assigned once for the machine. -/
theorem assign [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans ?_
  refine (BI.bigSep_bupd _ _).trans (BI.bupd_mono ?_)
  have hnone (d : Dev nD) (q : Proc τ) (hq : q ∈ Finset.univ.erase Proc.tc) :
      (coreLevAts ((d, q) : Thread nD τ) L lv : sProp 𝕄) = BI.emp := by
    unfold coreLevAts
    refine (bigSep_congr (Ψ := fun _ => (BI.emp : sProp 𝕄)) fun sm _ => ?_).trans (BI.bigSep_emp_const _)
    rw [hL _ (Finset.ne_of_mem_erase hq), BI.bigSep_empty]
  have hrest : (bigSep Finset.univ fun d : Dev nD => bigSep (Finset.univ.erase Proc.tc) fun q =>
      (coreLevAts ((d, q) : Thread nD τ) L lv : sProp 𝕄)) = BI.emp :=
    (bigSep_congr fun d _ => (bigSep_congr fun q hq => hnone d q hq).trans (BI.bigSep_emp_const _)).trans (BI.bigSep_emp_const _)
  have hall : (levAts L lv : sProp 𝕄) = bigSep Finset.univ fun d : Dev nD => coreLevAts (d.tc : Thread nD τ) L lv := by
    rw [show (levAts L lv : sProp 𝕄) = bigSep Finset.univ fun t : Thread nD τ => coreLevAts t L lv
      from bigSep_univ_prod fun g : GSem nD τ sig => bigSep (L g) fun ι => levAt g ι (lv g ι),
      bigSep_threads (fun t : Thread nD τ => coreLevAts t L lv), hrest]
    exact BI.equiv_iff.mp BI.sep_emp
  rw [hall, bigSep_sep']
  have hdrop (A B : sProp 𝕄) : iprop(A ∗ B) ⊢ B := by
    iintro ⟨-, H⟩
    iexact H
  exact hdrop _ _

variable {Λ₀ : Labels} {P : Type} [Fintype P]
variable (pcs : P → PCfg sig Λ₀ Val) (a : Dev nD → (p : P) → (pcs p).Adm)
  (rdats : (p : P) → (c : Dev nD) → RDat τ Val Ix Name U Lvl (pinD pcs a c p) c) (ι : Ix)
  (phinj : Function.Injective (cellOf (nD := nD) (pinD pcs a))) (p : P)
  {K : Type} [Fintype K] {osem : K → SemLoc sig}
  (hw : WinFacts₀ (pcs p).spec) (ho : OwnSemFacts (pcs p).spec osem)
  (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

include phinj hw ho in
/-- An @main that is one region without windows or tables, its cores exchanging data unannounced: from every core's
    own semaphores and arrays dealt at once (`hdeal`) and the body's obligation, every fair execution ends, the final
    memory satisfies what the cores' posts say together (`hread`), and every semaphore the program has scoped, and
    every one of a thread other than a TensorCore, is back at zero. -/
theorem θ_run_deal [DecidableEq P] [Preorder Lvl] [∀ e, Nonempty (Val e)] [Infinite Name]
    [EP.LandsIn (upEmb : UEmb _ 𝕄)] [IsEmpty (Fin (pcs p).W)] [IsEmpty (Fin (pcs p).pre.K)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, (rdats p c).BodyObligation defs₀ 𝒱₀ ι Set.univ)
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (G : sProp 𝕄) (u₀ : U)
    (hu₀ : (ownU u₀ : sProp 𝕄)
      ⊢ |={Set.univ}=> iprop(BI.own (EP (initOf (cells (pinD pcs a) phinj) (launchToks (pinD pcs a) phinj))) ∗ G))
    (X Y : Dev nD → sProp 𝕄)
    (hdeal : iprop((bigSep Finset.univ fun c => ownSems0 osem c)
        ∗ (bigSep Finset.univ fun c => unscopedBufs c (fun b => m ((c.tc : Thread nD τ).loc b)))
        ∗ (bigSep Finset.univ fun c => launchCred O₀ c) ∗ levAts L lv ∗ G)
      ⊢ |={Set.univ}=> bigSep Finset.univ X)
    (hin : ∀ c, iprop(X c ∗ scopedRest (pinD pcs a c p).spec c) ⊢ (rdats p c).Φ 0)
    (hout : ∀ c, (rdats p c).Φ (Fin.last (pinD pcs a c p).N) ⊢ iprop(Y c ∗ ownSems0 osem c ∗ scopedRest (pinD pcs a c p).spec c))
    (QY : MemSt nD τ sig Val → Prop)
    (hread : ∀ s' : Phys nD τ sig Val, iprop((bigSep Finset.univ Y) ∗ SI s') ⊢ |={Set.univ}=> iprop(⌜QY s'.mem⌝ ∗ SI s')) :
    θ_run 𝔻 (onTc main) ⟨m, fun _ => 0, g⟩ (fun r => QY r.2
      ∧ ∀ g' : GSem nD τ sig, (g'.1.2 ≠ .tc ∨ g'.2.isScoped .tc = true) → r.2.sem g' = 0) := by
  classical
  have hsems := fun c : Dev nD => scopedSems0_split (pinD pcs a) phinj p (fun _ => hw) (fun _ => ho) (Ix := Ix) (Val := Val) (Name := Name) (U := U) (Lvl := Lvl) c
  have hbufs := fun c : Dev nD => scopedBufs_split (pinD pcs a) p c hw.stage_scoped hw.stage_inj (fun w => isEmptyElim w) (nD := nD) (τ := τ) (Ix := Ix) (Val := Val) (Name := Name) (U := U) (Lvl := Lvl)
  -- the storage of the region that the protocol does not touch
  let own : Dev nD → sProp 𝕄 := fun c => iprop(scopedBufs (c.tc : Thread nD τ) ∗ cellsSems0 (pinD pcs a) p c ∗ idleSems0 (pinD pcs a) phinj p (fun _ => ho) c)
  let pre : Dev nD → sProp 𝕄 := fun c => iprop(own c ∗ owes (c.tc : Thread nD τ) (O₀ c) ∅
    ∗ cellsGhost (pinD pcs a) EP p c ∗ toksInit (pinD pcs a) EP p c ∗ X c)
  let fin : Dev nD → sProp 𝕄 := fun c => iprop(Y c ∗ scopedSems0 (c.tc : Thread nD τ))
  refine (θ_run 𝔻 _ _).mono (Q := fun r => (QY r.2
      ∧ ∀ c : Dev nD, ∀ sm : SemLoc sig, sm.isScoped .tc = true → r.2.sem ((c.tc : Thread nD τ), sm) = 0)
      ∧ ∀ g' : GSem nD τ sig, g'.1.2 ≠ .tc → r.2.sem g' = 0)
    (fun r hr => ⟨hr.1.1, sems_of_reads hr.1.2 hr.2⟩) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcore (c : Dev nD) :
        coreInit (Ix := Ix) (Name := Name) (U := U) (Lvl := Lvl) (owing O₀) 0 (⟨m, fun _ => 0, g⟩ : MemSt nD τ sig Val) (c.tc : Thread nD τ)
          ⊢ iprop(own c ∗ ownSems0 osem c ∗ unscopedBufs c (fun b => m ((c.tc : Thread nD τ).loc b))
              ∗ owes (c.tc : Thread nD τ) (O₀ c) ∅ ∗ levels0 c ∗ launchCred O₀ c) :=
      (coreInit_boundary_owing O₀ m g c).trans (by
        simp only [own]
        unfold boundary
        rw [hsems c]
        iintro ⟨⟨Hbuf, ⟨⟨Hcell, Hown⟩, Hidle⟩, -⟩, Hub, -, Howe, Hlev, -, Hcred⟩
        isplitl [Hbuf Hcell Hidle]
        · isplitl [Hbuf]; · iexact Hbuf
          isplitl [Hcell] <;> iassumption
        isplitl [Hown]; · iexact Hown
        isplitl [Hub]; · iexact Hub
        isplitl [Howe]; · iexact Howe
        isplitl [Hlev] <;> iassumption)
    have hcores := bigSep_mono (s := Finset.univ) fun (c : Dev nD) _ => hcore c
    simp only [bigSep_sep'] at hcores
    replace hcores := (show (_ : sProp 𝕄) ⊢ (_ : sProp 𝕄) from hcores)
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave H := hcores $$ Hcores
    icases H with ⟨Hstore, Hown, Hub, Howe, Hlev, Hcred⟩
    imod (assign L lv hL) $$ Hlev with Hlev
    imod hu₀ $$ Hu with ⟨HP, HG⟩
    imod (fund_ghost (pinD pcs a) EP phinj) $$ HP with ⟨Hg, Ht⟩
    imod hdeal $$ [Hown Hub Hcred Hlev HG] with HX
    · isplitl [Hown]; · iexact Hown
      isplitl [Hub]; · iexact Hub
      isplitl [Hcred]; · iexact Hcred
      isplitl [Hlev] <;> iassumption
    imodintro
    iexists ()
    isplitr []
    · simp only [pre, bigSep_sep']
      isplitl [Hstore]; · iexact Hstore
      isplitl [Howe]; · iexact Howe
      isplitl [Hg]; · iapply (hpick fun p' c => cellsGhost (pinD pcs a) EP p' c); iexact Hg
      isplitl [Ht]; · iapply (hpick fun p' c => toksInit (pinD pcs a) EP p' c); iexact Ht
      iexact HX
    · iempintro
  · have hout' : iprop((rdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hsems c, hbufs c]
      iintro ⟨HΦ, Hcell, Hst, Hidle⟩
      ihave H := (hout c) $$ HΦ
      icases H with ⟨HY, Hown, Hrest⟩
      isplitl [HY]; · iexact HY
      isplitl [Hcell Hown Hidle]
      · isplitl [Hcell Hown]; · isplitl [Hcell] <;> iassumption
        iexact Hidle
      isplitl [Hst] <;> iassumption
    have hin' : iprop(X c ∗ prefHeld (pcs p).pre c (fun _ => fullShare.right) (a c p).1 ∗ scopedRest (pinD pcs a c p).spec c) ⊢ (rdats p c).Φ 0 := by
      refine (show _ ⊢ iprop(X c ∗ scopedRest (pinD pcs a c p).spec c) from ?_).trans (hin c)
      iintro ⟨HX, -, Hr⟩
      isplitl [HX] <;> iassumption
    simp only [pre, own]
    rw [hmain c]
    iintro ⟨⟨Hbuf, Hcell, Hidle⟩, Howe, Hg, Ht, HX⟩
    iapply (fupd_wp frame (wpE 𝔻 𝕍 (c.tc : Thread nD τ) none) Set.univ _ _)
    imod (PerCore.RDat.cellsInit_alloc (pinD pcs a) rdats EP phinj p c) $$ [Hcell Hg] with ⟨%κ, -, Hinit⟩
    · isplitl [Hcell] <;> iassumption
    imodintro
    iapply (PerCore.RDat.wp_customCall_entry_frame pcs a rdats ι EP κ phinj p defs₀ 𝒱₀ (fun _ => fullShare.right) c Set.univ (fun _ _ => Set.mem_univ _)
        (hbody c) (fun w => isEmptyElim w) none (fun u h => nomatch h) (X := X c) (Y := Y c) (R := scopedRest (pinD pcs a c p).spec c) (I := idleSems0 (pinD pcs a) phinj p (fun _ => ho) c)
        (Entails.of_eq (hbufs c)) hin' hout'
        (k := fun _ => .ret ⟨⟩) (Q := fun _ => post (liftTc fin BI.emp) (c.tc : Thread nD τ))) $$ [Howe Hinit Ht HX Hidle Hbuf]
    · isplitl [Howe Hinit Ht]
      · unfold PerCore.RDat.EntryPre RDat.owesAt owesWithin RDat.arrays PerCore.RDat.cellsWaits
        rw [howed₀ c, Finset.univ_eq_empty, BI.bigSep_empty, BI.bigSep_empty]
        isplitr; · iempintro
        isplitl [Howe]
        · iexists ∅; isplitr; · ipureintro; rw [Finset.coe_empty]; exact Set.empty_subset _
          iexact Howe
        isplitr; · iempintro
        isplitl [Hinit] <;> iassumption
      isplitr
      · unfold prefHeld
        rw [Finset.univ_eq_empty, BI.bigSep_empty]
        iempintro
      isplitl [HX]; · iexact HX
      isplitl [Hidle]; · iexact Hidle
      iexact Hbuf
    iintro ⟨Hpost, HY, Hz, -⟩
    rw [wp_ret]; imodintro
    unfold post; simp only [liftTc_tc, fin]
    isplitl [HY Hz]
    · isplitl [HY] <;> iassumption
    · unfold PerCore.RDat.EntryPost RDat.owesAt owesWithin
      rw [howedN c]
      icases Hpost with ⟨-, ⟨%W, -, HW⟩⟩
      iexists W; iexact HW
  · have hzero (c : Dev nD) (s' : Phys nD τ sig Val) : iprop(scopedSems0 (c.tc : Thread nD τ) ∗ SI s')
        ⊢ (|={Set.univ}=> iprop(⌜∀ sm : SemLoc sig, sm.isScoped .tc = true → s'.mem.sem ((c.tc : Thread nD τ), sm) = 0⌝ ∗ SI s') : sProp 𝕄) := by
      iintro ⟨Hz, HSI⟩
      ihave %hz := (tcScoped_read_pers c s') $$ [Hz HSI]
      · isplitl [Hz] <;> iassumption
      imodintro
      isplitr
      · ipureintro; exact hz
      · iexact HSI
    iintro ⟨H, -, Hsc⟩ %s' HSI
    ihave %hsc := (scSems_read_zero m g s') $$ [Hsc HSI]
    · isplitl [Hsc] <;> iassumption
    simp only [fin, bigSep_sep']
    icases H with ⟨HY, Hz⟩
    imod (hread s') $$ [HY HSI] with ⟨%hy, HSI⟩
    · isplitl [HY] <;> iassumption
    imod (posts_fupd (Φ := fun c : Dev nD => scopedSems0 (c.tc : Thread nD τ))
      (q := fun c s' => ∀ sm : SemLoc sig, sm.isScoped .tc = true → s'.mem.sem ((c.tc : Thread nD τ), sm) = 0) Finset.univ
      (fun c s' => hzero c s') s') $$ [Hz HSI] with %h
    · isplitl [Hz] <;> iassumption
    imodintro
    ipureintro
    exact ⟨⟨hy, fun c => h c (Finset.mem_univ c)⟩, hsc⟩

end Cert.Deal
-- ==== Proof.Exchange.lean ====
module

public import proofs.«01_k».proof.Proof.Deal
public import Idealize.ShloMosaic.Lib.Pipeline.Kit
public import Idealize.ShloMosaic.Lib.Tactic

@[expose] public section

noncomputable section

/-!
An exchange: each device starts some transfers within itself (`L`) and some to other devices (`R`), each on
semaphores used for that transfer alone, and waits for them.  A transfer to another device names its peer,
and the peer's peer is the device itself, so the transfer that a device receives as `r` is the one its
`r`-peer sends as `r`.

Every semaphore has one round of one contribution.  What it hands over, with contents read off one final
memory `B` that is fixed in advance:
* a local transfer's: the source back and the destination at its final contents;
* a send semaphore: the source back;
* a receive semaphore: the stretch of this device's output that the peer wrote.
The sender holds that stretch of the peer's output, and the right to credit the peer's receive semaphore,
from the launch on.
-/

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- One transfer, as each device performs it: source and destination in HBM, the share of the source it reads
    through, and what a wait for it consumes. -/
structure Xfer (nD : Nat) (sig : RefSig) where
  s : Shape
  e : EltTy
  src : Dev nD → Memref sig .tc .hbm s e
  dst : Dev nD → Memref sig .tc .hbm s e
  hsrc : ∀ c, (src c).view.WordExact
  hdst : ∀ c, (dst c).view.WordExact
  share : PosShare TreeShare
  N : ℕ
  hN : ∀ c, (dst c).view.dmaCredit = N
  hN' : ∀ c, (src c).view.dmaCredit = N
  pos : 0 < N
  hsc : ∀ c, (dst c).view.ref.isScScratch = false

/-- An exchange's transfers, their semaphores and peers. -/
structure Talk (nD : Nat) (sig : RefSig) (L R : Type) where
  ls : L → Xfer nD sig
  rs : R → Xfer nD sig
  /-- The semaphores: a local transfer's, a send semaphore's, a receive semaphore's. -/
  sem : L ⊕ R ⊕ R → DmaSem sig
  sem_inj : Function.Injective sem
  peer : R → Dev nD → Dev nD
  peer_peer : ∀ r c, peer r (peer r c) = c
  /-- The receive semaphores' levels, each above every other semaphore's. -/
  lev : R → ℕ
  lev_pos : ∀ r, 0 < lev r

variable {nD : Nat} {τ : Topo} {sig : RefSig} {Val : EltTy → Type} {L R : Type}
variable [Fintype L] [DecidableEq L] [Fintype R] [DecidableEq R]

abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (T : Talk nD sig L R)

/-! ## Cells -/

def N : L ⊕ R ⊕ R → ℕ
  | .inl l => (T.ls l).N
  | .inr (.inl r) => (T.rs r).N
  | .inr (.inr r) => (T.rs r).N

theorem N_pos : ∀ k, 0 < N T k
  | .inl l => (T.ls l).pos
  | .inr (.inl r) => (T.rs r).pos
  | .inr (.inr r) => (T.rs r).pos

def level : L ⊕ R ⊕ R → ℕ
  | .inl _ => 0
  | .inr (.inl _) => 0
  | .inr (.inr r) => T.lev r

/-- The program's own semaphores. -/
abbrev osem (k : L ⊕ R ⊕ R) : SemLoc sig := .dma (T.sem k)

/-- Semaphore `k` on device `c`. -/
abbrev cell (ck : Dev nD × (L ⊕ R ⊕ R)) : GSem nD τ sig := ((ck.1.tc : Thread nD τ), osem T ck.2)

theorem cell_inj : Function.Injective (cell T : Dev nD × (L ⊕ R ⊕ R) → GSem nD τ sig) := by
  rintro ⟨c, k⟩ ⟨c', k'⟩ h
  have hc : c = c' := congrArg (fun g : GSem nD τ sig => g.1.1) h
  have hk : osem T k = osem T k' := congrArg Prod.snd h
  rw [hc, T.sem_inj (SemLoc.dma.inj hk)]

/-! ## What is held of the arrays -/

variable (B m : (ℓ : Loc nD τ sig) → Buf Val ℓ)

/-- The source of a transfer by device `c`, at the share it is read through. -/
def srcAt (x : Xfer nD sig) (c : Dev nD) : sProp 𝕄 :=
  (x.src c).view.loc (c.tc : Thread nD τ) ↦[(x.src c).view.set]{x.share} B _

/-- The destination of a transfer by device `c` into device `d`'s memory, at the contents `V`. -/
def dstAt (x : Xfer nD sig) (c d : Dev nD) (V : (ℓ : Loc nD τ sig) → Buf Val ℓ) : sProp 𝕄 :=
  (x.dst c).view.loc (d.tc : Thread nD τ) ↦[(x.dst c).view.set]{fullShare} V _

instance srcAt_storable (x : Xfer nD sig) (c : Dev nD) : BI.Storable (upEmb : UEmb _ 𝕄) (srcAt B x c) := by
  unfold srcAt; infer_instance
instance dstAt_storable (x : Xfer nD sig) (c d : Dev nD) : BI.Storable (upEmb : UEmb _ 𝕄) (dstAt x c d B) := by
  unfold dstAt; infer_instance

/-- What semaphore `k` of device `c` hands over. -/
def pay (ck : Dev nD × (L ⊕ R ⊕ R)) : sProp 𝕄 :=
  match ck.2 with
  | .inl l => iprop(dstAt (T.ls l) ck.1 ck.1 B ∗ srcAt B (T.ls l) ck.1)
  | .inr (.inl r) => srcAt B (T.rs r) ck.1
  | .inr (.inr r) => dstAt (T.rs r) (T.peer r ck.1) ck.1 B

instance pay_storable (ck : Dev nD × (L ⊕ R ⊕ R)) : BI.Storable (upEmb : UEmb _ 𝕄) (pay T B ck) := by
  unfold pay; split <;> infer_instance

/-- The transfers carry the final memory: each destination reads there what its source does. -/
structure Carries : Prop where
  here : ∀ l c, ((T.ls l).dst c).view.read Val (B (((T.ls l).dst c).view.loc (c.tc : Thread nD τ)))
    = ((T.ls l).src c).view.read Val (B (((T.ls l).src c).view.loc (c.tc : Thread nD τ)))
  there : ∀ r c, ((T.rs r).dst c).view.read Val (B (((T.rs r).dst c).view.loc ((T.peer r c).tc : Thread nD τ)))
    = ((T.rs r).src c).view.read Val (B (((T.rs r).src c).view.loc (c.tc : Thread nD τ)))

/-- A view written with what another contents reads through it is at that contents. -/
theorem write_read_eq {sp : Space} {s : Shape} {e : EltTy} {κ : Kind} (v : View sig κ sp s e) (f g : v.ty.Contents Val) (w : s.Idx → Val e)
    (h : v.read Val g = w) : ∀ i ∈ v.set, v.write Val f w Finset.univ i = g i := by
  intro i hi
  obtain ⟨x, -, rfl⟩ := Finset.mem_map.mp hi
  subst h
  rw [View.write_emb_of_mem _ _ (Finset.mem_univ x), View.read_apply, cast_cast, cast_eq]

theorem landed (x : Xfer nD sig) (c d : Dev nD)
    (h : (x.dst c).view.read Val (B ((x.dst c).view.loc (d.tc : Thread nD τ))) = (x.src c).view.read Val (B ((x.src c).view.loc (c.tc : Thread nD τ)))) :
    ((x.dst c).view.loc (d.tc : Thread nD τ) ↦[(x.dst c).view.set]{fullShare}
        (x.dst c).view.write Val (m ((x.dst c).view.loc (d.tc : Thread nD τ))) ((x.src c).view.read Val (B ((x.src c).view.loc (c.tc : Thread nD τ)))) Finset.univ : sProp 𝕄)
      = dstAt x c d B :=
  pointsTo_congr (write_read_eq (x.dst c).view _ _ _ h)

/-! ## The schedule -/

open Classical in
def sched : Rounds.Schedule (GSem nD τ sig) Unit 𝕄 where
  duties g r := if r = 0 ∧ ∃ ck, cell T ck = g then {()} else ∅
  amount g _ _ := Function.extend (cell T) (fun ck => N T ck.2) (fun _ => 1) g
  payload g _ _ := Function.extend (cell T) (pay T B) (fun _ => iprop(emp)) g
  amount_pos g _ _ _ := by
    unfold Function.extend
    split
    · exact N_pos T _
    · exact Nat.one_pos

instance sched_storable (g : GSem nD τ sig) (r : ℕ) (d : Unit) : BI.Storable (upEmb : UEmb _ 𝕄) ((sched T B).payload g r d) := by
  show BI.Storable _ (Function.extend (cell T) (pay T B) (fun _ => iprop(emp)) g)
  unfold Function.extend
  split <;> infer_instance

theorem duties_zero (ck : Dev nD × (L ⊕ R ⊕ R)) : (sched (τ := τ) T B).duties (cell T ck) 0 = {()} :=
  if_pos ⟨rfl, ck, rfl⟩
theorem duties_later (g : GSem nD τ sig) (r : ℕ) (hr : 1 ≤ r) : (sched (τ := τ) T B).duties g r = ∅ :=
  if_neg fun h => by omega
theorem mem_duties (ck : Dev nD × (L ⊕ R ⊕ R)) : () ∈ (sched (τ := τ) T B).duties (cell T ck) 0 := by
  rw [duties_zero]; exact Finset.mem_singleton_self _
theorem amount_eq (ck : Dev nD × (L ⊕ R ⊕ R)) (r : ℕ) (d : Unit) : (sched (τ := τ) T B).amount (cell T ck) r d = N T ck.2 := by
  show Function.extend (cell (τ := τ) T) (fun ck => N T ck.2) (fun _ => 1) (cell T ck) = N T ck.2
  exact (cell_inj T).extend_apply _ _ ck
theorem payload_eq (ck : Dev nD × (L ⊕ R ⊕ R)) (r : ℕ) (d : Unit) : (sched (τ := τ) T B).payload (cell T ck) r d = pay T B ck := by
  show Function.extend (cell (τ := τ) T) (pay T B) (fun _ => iprop(emp)) (cell T ck) = pay T B ck
  exact (cell_inj T).extend_apply _ _ ck
theorem expect_eq (ck : Dev nD × (L ⊕ R ⊕ R)) : (sched (τ := τ) T B).expect (cell T ck) 0 = N T ck.2 := by
  unfold Schedule.expect Schedule.amountOf
  rw [duties_zero, Finset.sum_singleton, amount_eq]
theorem rest_eq (ck : Dev nD × (L ⊕ R ⊕ R)) :
    bigSep ((sched (τ := τ) T B).duties (cell T ck) 0 \ ∅) (fun u => (sched T B).payload (cell T ck) 0 u) = pay T B ck := by
  rw [Finset.sdiff_empty, duties_zero, bigSep_singleton, payload_eq]

/-! ## What a device owes, and the levels -/

/-- What device `c` owes while it has yet to start the transfers `l`. -/
def owing (c : Dev nD) : List R → CellTallies nD τ sig Unit
  | [] => 0
  | r :: l => owing c l + tallyAt (cell T (T.peer r c, .inr (.inr r))) () (T.rs r).N

theorem owing_pos {c : Dev nD} {g : GSem nD τ sig} {u : Unit} : ∀ {l : List R}, 0 < owing T c l g u →
    ∃ r ∈ l, g = cell T (T.peer r c, .inr (.inr r))
  | [], h => absurd h (Nat.lt_irrefl 0)
  | r :: l, h => by
    unfold owing at h
    rw [Pi.add_apply, Finsupp.add_apply, tallyAt_apply] at h
    by_cases hg : g = cell T (T.peer r c, .inr (.inr r))
    · exact ⟨r, List.mem_cons_self, hg⟩
    · rw [if_neg (fun h' => hg h'.1), Nat.add_zero] at h
      obtain ⟨r', hr', e⟩ := owing_pos h
      exact ⟨r', List.mem_cons_of_mem _ hr', e⟩

def Lx (g : GSem nD τ sig) : Finset Unit := if g.1.2 = .tc then {()} else ∅
def lv (g : GSem nD τ sig) (_ : Unit) : ℕ := Function.extend (cell T) (fun ck => level T ck.2) (fun _ => 0) g

theorem Lx_ne (g : GSem nD τ sig) (h : g.1.2 ≠ .tc) : Lx g = ∅ := if_neg h
theorem Lx_tc (c : Dev nD) (sm : SemLoc sig) (u : Unit) : u ∈ Lx ((c.tc : Thread nD τ), sm) := by
  unfold Lx; rw [if_pos rfl]; exact Finset.mem_singleton_self _
theorem lv_cell (ck : Dev nD × (L ⊕ R ⊕ R)) (u : Unit) : lv T (cell T ck : GSem nD τ sig) u = level T ck.2 :=
  (cell_inj T).extend_apply _ _ ck

/-- A device may wait on semaphore `k` while every transfer it has yet to start goes to a receive semaphore above it. -/
theorem mayWait (c : Dev nD) (k : L ⊕ R ⊕ R) (l : List R) (h : ∀ r ∈ l, level T k < T.lev r) :
    (levAts Lx (lv T) : sProp 𝕄) ⊢ MayWait (c.tc : Thread nD τ) (osem T k) () (owing T c l) :=
  MayOwe.of_cut (L := Lx) (lev := lv T) (level T k)
    (fun p hp => by rw [Finset.mem_singleton.mp hp]; exact Lx_tc _ _ _)
    (fun g u hg => by obtain ⟨r, -, rfl⟩ := owing_pos T hg; exact Lx_tc _ _ _)
    (fun p hp => by rw [Finset.mem_singleton.mp hp]; exact (lv_cell T (c, k) ()).le)
    (fun g u hg => by
      obtain ⟨r, hr, rfl⟩ := owing_pos T hg
      rw [lv_cell]
      exact h r hr)

/-! ## A run of like steps -/

/-- Steps taken one after another, each using its own `P i` and the books kept beside (`O`), under persistent facts `C`. -/
theorem phase {I : Type} {Prg : Type 1} {C : sProp 𝕄} [BI.Persistent C] (W : Prg → sProp 𝕄) (run : I → Prg → Prg) (P Q : I → sProp 𝕄) (O : List I → sProp 𝕄)
    (h : ∀ i l k, iprop(C ∗ P i ∗ O (i :: l)) ⊢ iprop((iprop(Q i ∗ O l) -∗ W k) -∗ W (run i k))) (k : Prg) :
    ∀ l : List I, iprop(C ∗ bigSepL l P ∗ O l) ⊢ iprop((iprop(bigSepL l Q ∗ O []) -∗ W k) -∗ W (l.foldr run k))
  | [] => by
    rw [List.foldr_nil]
    iintro ⟨-, -, HO⟩ Hk
    iapply Hk
    isplitr; · iempintro
    iexact HO
  | i :: l => by
    rw [List.foldr_cons, bigSepL_cons i l P, bigSepL_cons i l Q]
    show iprop(C ∗ (P i ∗ bigSepL l P) ∗ O (i :: l)) ⊢ iprop((iprop((Q i ∗ bigSepL l Q) ∗ O []) -∗ W k) -∗ W (run i (l.foldr run k)))
    iintro ⟨#HC, ⟨HP, HPs⟩, HO⟩ Hk
    iapply (h i l (l.foldr run k)) $$ [HP HO]
    · isplitr; · iexact HC
      isplitl [HP] <;> iassumption
    iintro ⟨HQ, HO⟩
    iapply (phase W run P Q O h k l) $$ [HPs HO]
    · isplitr; · iexact HC
      isplitl [HPs] <;> iassumption
    iintro ⟨HQs, HO⟩
    iapply Hk
    isplitl [HQ HQs]
    · isplitl [HQ] <;> iassumption
    · iexact HO

/-! ## The steps -/

section Steps

/-- The semaphores' invariants, that each is at its first round, and the levels: known to every device. -/
def records (κ : Dev nD × (L ⊕ R ⊕ R) → ℕ) : sProp 𝕄 :=
  iprop((bigSep Finset.univ fun ck => cellInv ER (sched T B) (κ ck) (cell T ck))
    ∗ (bigSep Finset.univ fun ck => reached ER (cell T ck) 0) ∗ levAts Lx (lv T))

instance records_persistent (κ : Dev nD × (L ⊕ R ⊕ R) → ℕ) : BI.Persistent (records (Val := Val) (τ := τ) T B κ) := by
  unfold records; infer_instance

variable (κ : Dev nD × (L ⊕ R ⊕ R) → ℕ)

theorem records_inv (ck : Dev nD × (L ⊕ R ⊕ R)) : records T B κ ⊢ (cellInv ER (sched T B) (κ ck) (cell T ck) : sProp 𝕄) := by
  unfold records
  exact sep_elim_left.trans (bigSep_elim (Φ := fun ck => (cellInv ER (sched T B) (κ ck) (cell T ck) : sProp 𝕄)) (Finset.mem_univ ck))

theorem records_reached (ck : Dev nD × (L ⊕ R ⊕ R)) : records T B κ ⊢ (reached ER (cell T ck) 0 : sProp 𝕄) := by
  unfold records
  exact sep_elim_right.trans (sep_elim_left.trans (bigSep_elim (Φ := fun ck => (reached ER (cell T ck) 0 : sProp 𝕄)) (Finset.mem_univ ck)))

theorem records_lev : records T B κ ⊢ (levAts Lx (lv T) : sProp 𝕄) := by
  unfold records
  iintro ⟨-, -, H⟩
  iexact H

/-- What device `c` owes, whatever waits it has recorded. -/
def owesAny (c : Dev nD) (O : CellTallies nD τ sig Unit) : sProp 𝕄 := iprop(∃ W, owes (c.tc : Thread nD τ) O W)

variable {Λ : Labels} (defs : Defs nD τ sig Val Λ) (𝒱 : Variants) (c : Dev nD)

abbrev Prg (τ : Topo) (sig : RefSig) (nD : Nat) (Val : EltTy → Type) (Λ : Labels) : Type 1 := Prog (TpuEff nD τ sig Val Λ .tc) PUnit

abbrev copyOp (l : L) (k : Prg τ sig nD Val Λ) : Prg τ sig nD Val Λ :=
  .op (.enqueueDma ((T.ls l).src c) (.here ((T.ls l).dst c)) (osem T (.inl l)) ((T.ls l).hsrc c) ((T.ls l).hdst c) ⟨Or.inl rfl, trivial⟩) fun _ => k

abbrev sendOp (r : R) (k : Prg τ sig nD Val Λ) : Prg τ sig nD Val Λ :=
  .op (.enqueueDma ((T.rs r).src c) (.remote (Dev.tc (T.peer r c)) ((T.rs r).dst c) (osem T (.inr (.inl r))) ((T.rs r).hsc c)) (osem T (.inr (.inr r)))
    ((T.rs r).hsrc c) ((T.rs r).hdst c) ⟨⟨rfl, Or.inl rfl⟩, trivial⟩) fun _ => k

abbrev waitSendOp (r : R) (k : Prg τ sig nD Val Λ) : Prg τ sig nD Val Λ :=
  .op (.waitDma2 (T.sem (.inr (.inl r))) ((T.rs r).dst c) ((T.rs r).src c) ((T.rs r).hdst c) ((T.rs r).hsrc c)) fun _ => k

abbrev waitRecvOp (r : R) (k : Prg τ sig nD Val Λ) : Prg τ sig nD Val Λ :=
  .op (.waitDma2 (T.sem (.inr (.inr r))) ((T.rs r).src c) ((T.rs r).dst c) ((T.rs r).hsrc c) ((T.rs r).hdst c)) fun _ => k

abbrev waitHereOp (l : L) (k : Prg τ sig nD Val Λ) : Prg τ sig nD Val Λ :=
  .op (.waitDma2 (T.sem (.inl l)) ((T.ls l).src c) ((T.ls l).dst c) ((T.ls l).hsrc c) ((T.ls l).hdst c)) fun _ => k

variable (k : Prg τ sig nD Val Λ) (Q : PUnit.{1} → sProp (MT nD τ sig Unit Val ℕ (UU nD τ sig) ℕ))

/-- The program `p`, run by device `c`'s TensorCore, ends in `Q`. -/
abbrev Runs (Q : PUnit.{1} → sProp (MT nD τ sig Unit Val ℕ (UU nD τ sig) ℕ)) (p : Prg τ sig nD Val Λ) : sProp 𝕄 :=
  wp frame (wpE defs 𝒱 (c.tc : Thread nD τ) none) Set.univ p Q

/-- What a device needs to start a local transfer. -/
def copyPre (l : L) : sProp 𝕄 :=
  iprop((srcAt B (T.ls l) c ∗ dstAt (T.ls l) c c m) ∗ dutyTok ER (cell T (c, .inl l)) 0 ())
/-- What it needs to start one to its peer, its source aside. -/
def sendPre (r : R) : sProp 𝕄 :=
  iprop(dstAt (T.rs r) c (T.peer r c) m ∗ dutyTok ER (cell T (c, .inr (.inl r))) 0 () ∗ dutyTok ER (cell T (T.peer r c, .inr (.inr r))) 0 ())
/-- A semaphore of its own with the transfer under way. -/
def pending (j : L ⊕ R ⊕ R) : sProp 𝕄 := cred (tallyAt (cell T (c, j) : GSem nD τ sig) () (N T j))
/-- A semaphore of its own not yet waited on. -/
def fresh (j : L ⊕ R ⊕ R) : sProp 𝕄 := atPos ER (cell T (c, j) : GSem nD τ sig) 0 ∅ 0
/-- A semaphore of its own back at zero. -/
def done (j : L ⊕ R ⊕ R) : sProp 𝕄 := semVal (cell T (c, j) : GSem nD τ sig) 0

include m in
theorem copy_pays (hB : Carries T B) (l : L) :
    iprop((((T.ls l).dst c).view.loc (c.tc : Thread nD τ) ↦[((T.ls l).dst c).view.set]{fullShare}
        ((T.ls l).dst c).view.write Val (m (((T.ls l).dst c).view.loc (c.tc : Thread nD τ))) (((T.ls l).src c).view.read Val (B (((T.ls l).src c).view.loc (c.tc : Thread nD τ)))) Finset.univ)
        ∗ srcAt B (T.ls l) c) ⊢ (sched T B).payload (cell T (c, .inl l)) 0 () := by
  rw [payload_eq, landed B m (T.ls l) c c (hB.here l c)]
  exact BI.Entails.refl _

theorem send_pays (r : R) : srcAt B (T.rs r) c ⊢ (sched T B).payload (cell T (c, .inr (.inl r))) 0 () := by
  rw [payload_eq]
  exact BI.Entails.refl _

include m in
theorem recv_pays (hB : Carries T B) (r : R) :
    (((T.rs r).dst c).view.loc ((T.peer r c).tc : Thread nD τ) ↦[((T.rs r).dst c).view.set]{fullShare}
        ((T.rs r).dst c).view.write Val (m (((T.rs r).dst c).view.loc ((T.peer r c).tc : Thread nD τ))) (((T.rs r).src c).view.read Val (B (((T.rs r).src c).view.loc (c.tc : Thread nD τ)))) Finset.univ : sProp 𝕄)
      ⊢ (sched T B).payload (cell T (T.peer r c, .inr (.inr r))) 0 () := by
  rw [payload_eq, landed B m (T.rs r) c (T.peer r c) (hB.there r c)]
  show dstAt (T.rs r) c (T.peer r c) B ⊢ dstAt (T.rs r) (T.peer r (T.peer r c)) (T.peer r c) B
  rw [T.peer_peer]

theorem run_copy (hB : Carries T B) (l : L) :
    iprop(records T B κ ∗ copyPre T B m c l) ⊢ iprop((pending T c (.inl l) -∗ Runs defs 𝒱 c Q k) -∗ Runs defs 𝒱 c Q (copyOp T c l k)) := by
  unfold copyPre pending srcAt dstAt
  iintro ⟨#HR, ⟨Hs, Hd⟩, Ht⟩ Hk
  iapply (Rounds.wp_copy_pointsTo 𝒱 ER (sched T B) (c.tc : Thread nD τ) none (κ := κ (c, .inl l)) (r := 0) (d := ())
      (q := (T.ls l).share) (fs := B _) (fd := m _)
      (mem_duties T B (c, .inl l)) () (T.ls l).N ((T.ls l).hN c) (amount_eq T B (c, .inl l) 0 ())
      (copy_pays T B m c hB l)) $$ [Hs Hd Ht]
  · isplitr; · iapply (records_inv T B κ (c, .inl l)); iexact HR
    isplitl [Hs]; · iexact Hs
    isplitl [Hd]; · iexact Hd
    isplitl [Ht]; · iexact Ht
    iapply (records_reached T B κ (c, .inl l)); iexact HR
  iexact Hk

theorem run_send (hB : Carries T B) (r : R) (O : CellTallies nD τ sig Unit) :
    iprop(records T B κ ∗ (srcAt B (T.rs r) c ∗ sendPre T m c r)
        ∗ owesAny c (O + tallyAt (cell T (T.peer r c, .inr (.inr r))) () (T.rs r).N))
      ⊢ iprop((iprop(pending T c (.inr (.inl r)) ∗ owesAny c O) -∗ Runs defs 𝒱 c Q k) -∗ Runs defs 𝒱 c Q (sendOp T c r k)) := by
  unfold sendPre pending owesAny srcAt dstAt
  iintro ⟨#HR, ⟨Hs, Hd, Ht₁, Ht₂⟩, ⟨%W, HO⟩⟩ Hk
  iapply (Rounds.wp_send_pointsTo 𝒱 ER (sched T B) (c.tc : Thread nD τ) none (κ₁ := κ (c, .inr (.inl r))) (κ₂ := κ (T.peer r c, .inr (.inr r)))
      (r₁ := 0) (r₂ := 0) (d₁ := ()) (d₂ := ()) (q := (T.rs r).share) (fs := B _) (fd := m _)
      (mem_duties T B (c, .inr (.inl r))) (mem_duties T B (T.peer r c, .inr (.inr r))) () () (T.rs r).N ((T.rs r).hN c)
      (amount_eq T B (c, .inr (.inl r)) 0 ()) (amount_eq T B (T.peer r c, .inr (.inr r)) 0 ()) O rfl
      (send_pays T B c r) (recv_pays T B m c hB r)) $$ [Hs Hd Ht₁ Ht₂ HO]
  · isplitr; · iapply (records_inv T B κ (c, .inr (.inl r))); iexact HR
    isplitr; · iapply (records_inv T B κ (T.peer r c, .inr (.inr r))); iexact HR
    isplitl [Hs]; · iexact Hs
    isplitl [Hd]; · iexact Hd
    isplitl [HO]; · iexact HO
    isplitl [Ht₁]; · iexact Ht₁
    isplitr; · iapply (records_reached T B κ (c, .inr (.inl r))); iexact HR
    isplitl [Ht₂]; · iexact Ht₂
    iapply (records_reached T B κ (T.peer r c, .inr (.inr r))); iexact HR
  iintro ⟨Hc, HO⟩
  iapply Hk
  isplitl [Hc]; · iexact Hc
  iexists W; iexact HO

/-- A wait on semaphore `j`, through any memref of the transfer's credit: the semaphore is back at zero and hands over
    what it was to. -/
theorem run_wait (j : L ⊕ R ⊕ R) (l : List R) (hl : ∀ r ∈ l, level T j < T.lev r)
    {s : Shape} {e : EltTy} {src dst : Memref sig .tc .hbm s e} {hsrc : src.view.WordExact} {hdst : dst.view.WordExact} (hN : dst.view.dmaCredit = N T j) :
    iprop(records T B κ ∗ (pending T c j ∗ fresh T c j) ∗ owesAny c (owing T c l))
      ⊢ iprop((iprop((done T c j ∗ pay T B (c, j)) ∗ owesAny c (owing T c l)) -∗ Runs defs 𝒱 c Q k)
          -∗ Runs defs 𝒱 c Q (.op (.waitDma2 (T.sem j) src dst hsrc hdst) fun _ => k)) := by
  unfold pending fresh done owesAny
  iintro ⟨#HR, ⟨Hc, Ha⟩, ⟨%W, HO⟩⟩ Hk
  iapply (Rounds.wp_wait_rest_token 𝒱 ER (sched T B) (c.tc : Thread nD τ) none (κ := κ (c, j))
      (wpE_waitDma2_eq 𝒱 (c.tc : Thread nD τ) none Set.univ) (Set.mem_univ _) () (O := owing T c l) (W := W) (R := 0) (m := 0) (T := ∅)
      (by rw [Nat.zero_add, hN, expect_eq T B (c, j)])) $$ [Hc HO Ha]
  · isplitr; · iapply (records_inv T B κ (c, j)); iexact HR
    isplitl [Hc]; · rw [hN]; iexact Hc
    isplitl [HO]; · iexact HO
    isplitr; · iapply (mayWait T c j l hl); iapply (records_lev T B κ); iexact HR
    iexact Ha
  iintro ⟨HO, Ha, -, Hp⟩
  ihave Hp := (Entails.of_eq (rest_eq T B (c, j))) $$ Hp
  imod (Rounds.cell_close ER (sched T B) (Set.mem_univ (κ (c, j))) (fun h => h) (R := 0 + 1) (duties_later T B (cell T (c, j)))) $$ [Ha] with Hz
  · isplitr; · iapply (records_inv T B κ (c, j)); iexact HR
    iexact Ha
  iapply Hk
  isplitl [Hz Hp]
  · isplitl [Hz] <;> iassumption
  iexists _; iexact HO

end Steps

end Cert.Exchange
-- ==== Proof.Start.lean ====
module

public import proofs.«01_k».proof.Proof.Exchange

@[expose] public section

noncomputable section

/-!
The launch of an exchange: its semaphores' invariants, the right to credit each receive semaphore handed to
the device that sends there, and the arrays cut into what each transfer reads and writes.
-/

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {L R : Type}
variable [Fintype L] [DecidableEq L] [Fintype R] [DecidableEq R]

local notation "𝕄" => MT nD τ sig Unit Val ℕ (UU nD τ sig) ℕ

variable (T : Talk nD sig L R) (B m : (ℓ : Loc nD τ sig) → Buf Val ℓ)

/-! ## The semaphores -/

def allCells : Finset (GSem nD τ sig) := Finset.univ.map ⟨cell T, cell_inj T⟩
def allToks : Finset (GSem nD τ sig × ℕ × Unit) :=
  Finset.univ.map ⟨fun ck : Dev nD × (L ⊕ R ⊕ R) => (cell T ck, 0, ()), fun _ _ h => cell_inj T (congrArg Prod.fst h)⟩

/-- The schedule's state at its start. -/
def G : sProp 𝕄 :=
  iprop((bigSep Finset.univ fun ck => roundState ER (sched T B) (cell T ck) 0)
    ∗ (bigSep Finset.univ fun ck => atPos ER (cell T ck) 0 ∅ 0)
    ∗ (bigSep Finset.univ fun ck => reached ER (cell T ck) 0)
    ∗ bigSep Finset.univ fun ck => dutyTok ER (cell T ck) 0 ())

theorem fund : BI.own (ER (initOf (allCells T) (allToks T))) ⊢ (|==> G T B : sProp 𝕄) := by
  have hX (Φ : GSem nD τ sig → sProp 𝕄) : bigSep (allCells T) Φ = bigSep Finset.univ fun ck => Φ (cell T ck) := by
    unfold allCells; rw [bigSep_map]; rfl
  have hT : bigSep (allToks T) (fun x => (dutyTok ER x.1 x.2.1 x.2.2 : sProp 𝕄)) = bigSep Finset.univ fun ck => dutyTok ER (cell T ck) 0 () := by
    unfold allToks; rw [bigSep_map]; rfl
  iintro HX
  imod (Rounds.fund ER (sched T B) (allCells T) (allToks T)) $$ HX with ⟨Hst, Hr, Hat, Htok⟩
  imodintro
  ihave Hst' := (Entails.of_eq (hX fun g => roundState ER (sched T B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  isplitl [Hst']; · iexact Hst'
  isplitl [Hat']; · iexact Hat'
  isplitl [Hr']; · iexact Hr'
  iexact Htok'

/-- The launch: pipelines' state and the schedule's, out of one resource. -/
theorem start_own (x : UR sig nD τ) :
    (ownU (x, initOf (allCells T) (allToks T)) : sProp 𝕄) ⊢ |={Set.univ}=> iprop(BI.own (EP x) ∗ G T B) := by
  iintro Hu
  ihave H := (ownU_pair _ _) $$ Hu
  icases H with ⟨HP, HX⟩
  imod (fund T B) $$ HX with HG
  imodintro
  isplitl [HP] <;> iassumption

/-! ## The credit a receive semaphore is launched with -/

theorem owing_apply (d c : Dev nD) (r : R) : ∀ l : List R, l.Nodup →
    owing (τ := τ) T d l (cell T (c, .inr (.inr r))) () = if r ∈ l ∧ d = T.peer r c then (T.rs r).N else 0
  | [], _ => by rw [if_neg (fun h => by cases h.1)]; rfl
  | r' :: l, h => by
    obtain ⟨h1, h2⟩ := List.nodup_cons.mp h
    unfold owing
    rw [Pi.add_apply, Finsupp.add_apply, tallyAt_apply, owing_apply d c r l h2]
    by_cases hr : r = r'
    · subst hr
      rw [if_neg (fun h => h1 h.1), Nat.zero_add]
      by_cases hd : d = T.peer r c
      · subst hd; rw [T.peer_peer, if_pos ⟨rfl, rfl⟩, if_pos ⟨List.mem_cons_self, rfl⟩]
      · rw [if_neg (fun h => hd (by
          have := congrArg Prod.fst (cell_inj T h.1)
          have hc : c = T.peer r d := this
          rw [hc, T.peer_peer])), if_neg (fun h => hd h.2)]
    · have hne : ¬ (cell (τ := τ) T (c, .inr (.inr r)) = cell T (T.peer r' d, .inr (.inr r')) ∧ () = ()) := fun h => hr (by
          have := congrArg Prod.snd (cell_inj T h.1)
          exact Sum.inr.inj (Sum.inr.inj this))
      rw [if_neg hne, Nat.add_zero]
      refine if_congr ?_ rfl rfl
      rw [List.mem_cons]
      exact ⟨fun h => ⟨Or.inr h.1, h.2⟩, fun h => ⟨h.1.resolve_left hr, h.2⟩⟩

theorem launch_recv (rl : List R) (hn : rl.Nodup) (hm : ∀ r, r ∈ rl) (c : Dev nD) (r : R) :
    tallyOn (cell (τ := τ) T (c, .inr (.inr r))) (launchCredit (Pipeline.owing fun d => owing (τ := τ) T d rl) 0 (cell (τ := τ) T (c, .inr (.inr r))))
      = (tallyAt (cell T (c, .inr (.inr r))) () (T.rs r).N : CellTallies nD τ sig Unit) := by
  unfold tallyAt; refine congrArg (tallyOn (cell (τ := τ) T (c, .inr (.inr r)))) (Finsupp.ext fun u => ?_); cases u
  rw [Pipeline.launchCredit_owing, Finsupp.single_eq_same, Finset.sum_congr rfl fun d _ => owing_apply T d c r rl hn,
    Finset.sum_congr rfl fun d _ => if_congr (and_iff_right (hm r)) rfl rfl,
    Finset.sum_ite_eq' Finset.univ (T.peer r c) fun _ => (T.rs r).N, if_pos (Finset.mem_univ _)]

theorem creds (rl : List R) (hn : rl.Nodup) (hm : ∀ r, r ∈ rl) (c : Dev nD) :
    (Pipeline.launchCred (fun d => owing T d rl) c : sProp 𝕄) ⊢ bigSep Finset.univ fun r => pending T c (.inr (.inr r)) := by
  have hinj : Function.Injective fun r : R => osem T (.inr (.inr r)) := fun r r' h =>
    Sum.inr.inj (Sum.inr.inj (T.sem_inj (SemLoc.dma.inj h)))
  unfold Pipeline.launchCred
  refine (bigSep_subset (Finset.subset_univ (Finset.univ.map ⟨fun r : R => osem T (.inr (.inr r)), hinj⟩))).trans ?_
  rw [bigSep_map]
  exact bigSep_mono fun r _ => Entails.of_eq (congrArg cred (launch_recv T rl hn hm c r))

/-! ## Every device's start -/

/-- What device `c` starts with beside the arrays: its semaphores fresh, credit for what it is to be sent, and the
    rights to complete its transfers. -/
def linear (c : Dev nD) : sProp 𝕄 :=
  iprop((bigSep Finset.univ fun j => fresh T c j)
    ∗ (bigSep Finset.univ fun r => pending T c (.inr (.inr r)))
    ∗ (bigSep Finset.univ fun l => dutyTok ER (cell T (c, .inl l)) 0 ())
    ∗ (bigSep Finset.univ fun r => dutyTok ER (cell T (c, .inr (.inl r))) 0 ())
    ∗ bigSep Finset.univ fun r => dutyTok ER (cell T (T.peer r c, .inr (.inr r))) 0 ())

/-- A bijection of the devices: the peers of one transfer. -/
def peerEquiv (r : R) : Dev nD ≃ Dev nD := ⟨T.peer r, T.peer r, T.peer_peer r, T.peer_peer r⟩

theorem toks_around :
    (bigSep Finset.univ fun ck : Dev nD × (L ⊕ R ⊕ R) => (dutyTok ER (cell T ck) 0 () : sProp 𝕄))
      = bigSep Finset.univ fun c => iprop((bigSep Finset.univ fun l => dutyTok ER (cell T (c, .inl l)) 0 ())
          ∗ (bigSep Finset.univ fun r => dutyTok ER (cell T (c, .inr (.inl r))) 0 ())
          ∗ bigSep Finset.univ fun r => dutyTok ER (cell T (T.peer r c, .inr (.inr r))) 0 ()) := by
  have hsplit (c : Dev nD) : (bigSep Finset.univ fun j : L ⊕ R ⊕ R => (dutyTok ER (cell T (c, j)) 0 () : sProp 𝕄))
      = iprop((bigSep Finset.univ fun l => dutyTok ER (cell T (c, .inl l)) 0 ())
          ∗ (bigSep Finset.univ fun r => dutyTok ER (cell T (c, .inr (.inl r))) 0 ())
          ∗ bigSep Finset.univ fun r => dutyTok ER (cell T (c, .inr (.inr r))) 0 ()) := by
    rw [bigSep_univ_sum, bigSep_univ_sum]; rfl
  have hround : (bigSep Finset.univ fun c => bigSep Finset.univ fun r => (dutyTok ER (cell T (c, .inr (.inr r))) 0 () : sProp 𝕄))
      = bigSep Finset.univ fun c => bigSep Finset.univ fun r => dutyTok ER (cell T (T.peer r c, .inr (.inr r))) 0 () := by
    rw [bigSep_univ_comm, bigSep_univ_comm (fun c r => (dutyTok ER (cell T (T.peer r c, .inr (.inr r))) 0 () : sProp 𝕄))]
    exact bigSep_congr fun r _ => bigSep_univ_equiv (peerEquiv T r) fun c => (dutyTok ER (cell T (c, .inr (.inr r))) 0 () : sProp 𝕄)
  rw [bigSep_univ_prod, bigSep_congr fun c _ => hsplit c]
  simp only [bigSep_sep']
  rw [hround]

/-- A fact kept by all beside each one's own. -/
theorem share_fact {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

theorem allot (rl : List R) (hn : rl.Nodup) (hm : ∀ r, r ∈ rl) (X : Dev nD → sProp 𝕄) :
    iprop((bigSep Finset.univ fun c => Pipeline.ownSems0 (Ix := Unit) (Name := ℕ) (U := UU nD τ sig) (Lvl := ℕ) (Val := Val) (osem T) c)
        ∗ (bigSep Finset.univ X) ∗ (bigSep Finset.univ fun c => Pipeline.launchCred (fun d => owing T d rl) c)
        ∗ levAts Lx (lv T) ∗ G T B)
      ⊢ |={Set.univ}=> bigSep Finset.univ fun c => iprop((∃ κ, records T B κ) ∗ linear T c ∗ X c) := by
  have hinv : iprop((bigSep Finset.univ fun ck => (semVal (cell T ck) 0 : sProp 𝕄)) ∗ bigSep Finset.univ fun ck => roundState ER (sched T B) (cell T ck) 0)
      ⊢ (|={Set.univ}=> bigSep Finset.univ fun ck => iprop(∃ κ : ℕ, cellInv ER (sched T B) κ (cell T ck)) : sProp 𝕄) := by
    rw [← bigSep_sep']
    exact (bigSep_mono fun ck _ => (Rounds.body_intro ER (sched T B) (cell T ck)).trans inv_alloc).trans (bigSep_fupd _ _)
  have hsem : (bigSep Finset.univ fun c => Pipeline.ownSems0 (Ix := Unit) (Name := ℕ) (U := UU nD τ sig) (Lvl := ℕ) (Val := Val) (τ := τ) (osem T) c)
      = bigSep Finset.univ fun ck => (semVal (cell T ck) 0 : sProp 𝕄) := by
    rw [bigSep_univ_prod]; rfl
  have hat : (bigSep Finset.univ fun ck => (atPos ER (cell T ck) 0 ∅ 0 : sProp 𝕄)) = bigSep Finset.univ fun c => bigSep Finset.univ fun j => fresh T c j := by
    rw [bigSep_univ_prod]; rfl
  have hcred := (show (bigSep Finset.univ fun c => (Pipeline.launchCred (fun d => owing T d rl) c : sProp 𝕄)) ⊢ (_ : sProp 𝕄) from
    bigSep_mono fun c _ => creds T rl hn hm c)
  rw [hsem]
  unfold G
  rw [hat, toks_around]
  iintro ⟨Hz, HX, Hcr, #Hlev, Hst, Hat, #Hr, Ht⟩
  imod hinv $$ [Hz Hst] with HI
  · isplitl [Hz] <;> iassumption
  ihave HK := (BI.bigSep_exists_pi Finset.univ (fun (ck : Dev nD × (L ⊕ R ⊕ R)) (κ : ℕ) => (cellInv ER (sched T B) κ (cell T ck) : sProp 𝕄))) $$ HI
  icases HK with ⟨%κ, #HI⟩
  ihave Hcr := hcred $$ Hcr
  imodintro
  have heach (c : Dev nD) : iprop(records T B κ ∗ linear T c ∗ X c) ⊢ iprop((∃ κ, records T B κ) ∗ linear T c ∗ X c) :=
    sep_mono_left (by iintro H; iexists κ; iexact H)
  iapply (share_fact (P := records T B κ) (Φ := fun c => iprop(linear T c ∗ X c)) fun c _ => heach c)
  isplitr
  · unfold records; isplitl; · iexact HI
    isplitl; · iexact Hr
    iexact Hlev
  · unfold linear
    simp only [bigSep_sep']
    icases Ht with ⟨Ht1, Ht2, Ht3⟩
    isplitr [HX]
    · isplitl [Hat]; · iexact Hat
      isplitl [Hcr]; · iexact Hcr
      isplitl [Ht1]; · iexact Ht1
      isplitl [Ht2]; · iexact Ht2
      iexact Ht3
    · iexact HX

end Cert.Exchange
-- ==== Proof.Plain.lean ====
module

public import proofs.«01_k».proof.Proof.Start

@[expose] public section

noncomputable section

/-!
An exchange whose devices start every transfer, then wait for every transfer: the body's run, the arrays dealt to
the transfers and read at the end, and the run of a program that is one such exchange.
-/

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {L R : Type}
variable [Fintype L] [DecidableEq L] [Fintype R] [DecidableEq R]

local notation "𝕄" => MT nD τ sig Unit Val ℕ (UU nD τ sig) ℕ

variable (T : Talk nD sig L R) (B m : (ℓ : Loc nD τ sig) → Buf Val ℓ)

/-! ## The body -/

section Body

variable {Λ : Labels} (defs : Defs nD τ sig Val Λ) (𝒱 : Variants) (c : Dev nD)

/-- Every transfer started, then every one waited for. -/
def plain (ls : List L) (rs : List R) : Prg τ sig nD Val Λ :=
  ls.foldr (copyOp T c) (rs.foldr (sendOp T c)
    (rs.foldr (fun r k => waitSendOp T c r (waitRecvOp T c r k)) (ls.foldr (waitHereOp T c) (.ret ⟨⟩))))

/-- The arrays as device `c`'s transfers need them. -/
def mem : sProp 𝕄 :=
  iprop((bigSep Finset.univ fun l => iprop(srcAt B (T.ls l) c ∗ dstAt (T.ls l) c c m))
    ∗ (bigSep Finset.univ fun r => srcAt B (T.rs r) c)
    ∗ bigSep Finset.univ fun r => dstAt (T.rs r) c (T.peer r c) m)

/-- What device `c` starts with, and what it ends with. -/
def begins (M : sProp 𝕄) : sProp 𝕄 := iprop((∃ κ, records T B κ) ∗ linear T c ∗ M)
def ends (Y : sProp 𝕄) : sProp 𝕄 := iprop(Y ∗ bigSep Finset.univ fun j => done T c j)

theorem split3 (Φ : L ⊕ R ⊕ R → sProp 𝕄) : bigSep Finset.univ Φ
    = iprop((bigSep Finset.univ fun l => Φ (.inl l)) ∗ (bigSep Finset.univ fun r => Φ (.inr (.inl r))) ∗ bigSep Finset.univ fun r => Φ (.inr (.inr r))) := by
  rw [bigSep_univ_sum, bigSep_univ_sum]; rfl

variable (κ : Dev nD × (L ⊕ R ⊕ R) → ℕ)

theorem wp_copies (hB : Carries T B) (O : CellTallies nD τ sig Unit) (Q : PUnit.{1} → sProp (MT nD τ sig Unit Val ℕ (UU nD τ sig) ℕ)) (k : Prg τ sig nD Val Λ) (l : List L) :
    iprop(records T B κ ∗ bigSepL l (copyPre T B m c) ∗ owesAny c O)
      ⊢ iprop((iprop((bigSepL l fun l => pending T c (.inl l)) ∗ owesAny c O) -∗ Runs defs 𝒱 c Q k) -∗ Runs defs 𝒱 c Q (l.foldr (copyOp T c) k)) :=
  phase (Runs defs 𝒱 c Q) (copyOp T c) _ _ (fun _ => owesAny c O) (fun i _ k => by
    iintro ⟨#HR, HP, HO⟩ Hk
    iapply (run_copy T B m κ defs 𝒱 c k Q hB i) $$ [HP]
    · isplitr; · iexact HR
      iexact HP
    iintro Hc
    iapply Hk
    isplitl [Hc]; · iexact Hc
    iexact HO) k l

theorem wp_sends (hB : Carries T B) (rest : List R) (Q : PUnit.{1} → sProp (MT nD τ sig Unit Val ℕ (UU nD τ sig) ℕ)) (k : Prg τ sig nD Val Λ) (l : List R) :
    iprop(records T B κ ∗ (bigSepL l fun r => iprop(srcAt B (T.rs r) c ∗ sendPre T m c r)) ∗ owesAny c (owing T c (l ++ rest)))
      ⊢ iprop((iprop((bigSepL l fun r => pending T c (.inr (.inl r))) ∗ owesAny c (owing T c rest)) -∗ Runs defs 𝒱 c Q k) -∗ Runs defs 𝒱 c Q (l.foldr (sendOp T c) k)) :=
  phase (Runs defs 𝒱 c Q) (sendOp T c) _ _ (fun l => owesAny c (owing T c (l ++ rest))) (fun i l k => by
    iintro ⟨#HR, HP, HO⟩ Hk
    iapply (run_send T B m κ defs 𝒱 c k Q hB i (owing T c (l ++ rest))) $$ [HP HO]
    · isplitr; · iexact HR
      isplitl [HP]; · iexact HP
      iexact HO
    iexact Hk) k l

theorem wp_waitBoth (Q : PUnit.{1} → sProp (MT nD τ sig Unit Val ℕ (UU nD τ sig) ℕ)) (k : Prg τ sig nD Val Λ) (l : List R) :
    iprop(records T B κ ∗ (bigSepL l fun r => iprop((pending T c (.inr (.inl r)) ∗ fresh T c (.inr (.inl r)))
          ∗ (pending T c (.inr (.inr r)) ∗ fresh T c (.inr (.inr r))))) ∗ owesAny c (owing T c []))
      ⊢ iprop((iprop((bigSepL l fun r => iprop((done T c (.inr (.inl r)) ∗ pay T B (c, .inr (.inl r)))
          ∗ (done T c (.inr (.inr r)) ∗ pay T B (c, .inr (.inr r))))) ∗ owesAny c (owing T c [])) -∗ Runs defs 𝒱 c Q k)
        -∗ Runs defs 𝒱 c Q (l.foldr (fun r k => waitSendOp T c r (waitRecvOp T c r k)) k)) :=
  phase (Runs defs 𝒱 c Q) _ _ _ (fun _ => owesAny c (owing T c [])) (fun i l k => by
    iintro ⟨#HR, ⟨H1, H2⟩, HO⟩ Hk
    iapply (run_wait T B κ defs 𝒱 c (waitRecvOp T c i k) Q (.inr (.inl i)) [] (fun _ h => nomatch h) ((T.rs i).hN' c)) $$ [H1 HO]
    · isplitr; · iexact HR
      isplitl [H1] <;> iassumption
    iintro ⟨H1, HO⟩
    iapply (run_wait T B κ defs 𝒱 c k Q (.inr (.inr i)) [] (fun _ h => nomatch h) ((T.rs i).hN c)) $$ [H2 HO]
    · isplitr; · iexact HR
      isplitl [H2] <;> iassumption
    iintro ⟨H2, HO⟩
    iapply Hk
    isplitl [H1 H2]
    · isplitl [H1] <;> iassumption
    · iexact HO) k l

theorem wp_waitHere (Q : PUnit.{1} → sProp (MT nD τ sig Unit Val ℕ (UU nD τ sig) ℕ)) (k : Prg τ sig nD Val Λ) (l : List L) :
    iprop(records T B κ ∗ (bigSepL l fun l => iprop(pending T c (.inl l) ∗ fresh T c (.inl l))) ∗ owesAny c (owing T c []))
      ⊢ iprop((iprop((bigSepL l fun l => iprop(done T c (.inl l) ∗ pay T B (c, .inl l))) ∗ owesAny c (owing T c [])) -∗ Runs defs 𝒱 c Q k)
        -∗ Runs defs 𝒱 c Q (l.foldr (waitHereOp T c) k)) :=
  phase (Runs defs 𝒱 c Q) _ _ _ (fun _ => owesAny c (owing T c [])) (fun i l k => by
    iintro ⟨#HR, H1, HO⟩ Hk
    iapply (run_wait T B κ defs 𝒱 c k Q (.inl i) [] (fun _ h => nomatch h) ((T.ls i).hN c)) $$ [H1 HO]
    · isplitr; · iexact HR
      isplitl [H1] <;> iassumption
    iexact Hk) k l

/-- The body's run: from what a device starts with to every semaphore back at zero and every transfer's source and
    destination at the final contents. -/
theorem wp_plain (hB : Carries T B) (ls : List L) (rs : List R) (hl : Finset.univ = ls.toFinset) (hln : ls.Nodup)
    (hr : Finset.univ = rs.toFinset) (hrn : rs.Nodup) (Z : sProp 𝕄) :
    iprop(begins T B c iprop(mem T B m c ∗ Z) ∗ owesAny c (owing T c rs))
      ⊢ Runs defs 𝒱 c (fun _ => iprop(ends T c iprop((bigSep Finset.univ fun j => pay T B (c, j)) ∗ Z) ∗ owesAny c 0)) (plain T c ls rs) := by
  have eL (Φ : L → sProp 𝕄) : bigSep Finset.univ Φ = bigSepL ls Φ := bigSep_univ_eq_bigSepL ls hl hln Φ
  have eR (Φ : R → sProp 𝕄) : bigSep Finset.univ Φ = bigSepL rs Φ := bigSep_univ_eq_bigSepL rs hr hrn Φ
  have e1 : (bigSepL ls (copyPre T B m c) : sProp 𝕄) = iprop((bigSep Finset.univ fun l => iprop(srcAt B (T.ls l) c ∗ dstAt (T.ls l) c c m))
      ∗ bigSep Finset.univ fun l => dutyTok ER (cell T (c, .inl l)) 0 ()) := by
    rw [← eL, ← bigSep_sep']; rfl
  have e2 : (bigSepL rs fun r => iprop(srcAt B (T.rs r) c ∗ sendPre T m c r) : sProp 𝕄)
      = iprop((bigSep Finset.univ fun r => srcAt B (T.rs r) c) ∗ (bigSep Finset.univ fun r => dstAt (T.rs r) c (T.peer r c) m)
        ∗ (bigSep Finset.univ fun r => dutyTok ER (cell T (c, .inr (.inl r))) 0 ())
        ∗ bigSep Finset.univ fun r => dutyTok ER (cell T (T.peer r c, .inr (.inr r))) 0 ()) := by
    rw [← eR, ← bigSep_sep', ← bigSep_sep', ← bigSep_sep']; rfl
  have e3 : (bigSepL rs fun r => iprop((pending T c (.inr (.inl r)) ∗ fresh T c (.inr (.inl r)))
          ∗ (pending T c (.inr (.inr r)) ∗ fresh T c (.inr (.inr r)))) : sProp 𝕄)
      = iprop(((bigSepL rs fun r => pending T c (.inr (.inl r))) ∗ (bigSep Finset.univ fun r => fresh T c (.inr (.inl r))))
        ∗ (bigSep Finset.univ fun r => pending T c (.inr (.inr r))) ∗ (bigSep Finset.univ fun r => fresh T c (.inr (.inr r)))) := by
    rw [← eR, ← eR, ← bigSep_sep', ← bigSep_sep', ← bigSep_sep']
  have e4 : (bigSepL ls fun l => iprop(pending T c (.inl l) ∗ fresh T c (.inl l)) : sProp 𝕄)
      = iprop((bigSepL ls fun l => pending T c (.inl l)) ∗ bigSep Finset.univ fun l => fresh T c (.inl l)) := by
    rw [← eL, ← eL, ← bigSep_sep']
  have e5 : iprop((bigSepL rs fun r => iprop((done T c (.inr (.inl r)) ∗ pay T B (c, .inr (.inl r)))
          ∗ (done T c (.inr (.inr r)) ∗ pay T B (c, .inr (.inr r)))) : sProp 𝕄))
      = iprop(((bigSep Finset.univ fun r => done T c (.inr (.inl r))) ∗ (bigSep Finset.univ fun r => pay T B (c, .inr (.inl r))))
        ∗ (bigSep Finset.univ fun r => done T c (.inr (.inr r))) ∗ (bigSep Finset.univ fun r => pay T B (c, .inr (.inr r)))) := by
    rw [← eR, ← bigSep_sep', ← bigSep_sep', ← bigSep_sep']
  have e6 : (bigSepL ls fun l => iprop(done T c (.inl l) ∗ pay T B (c, .inl l)) : sProp 𝕄)
      = iprop((bigSep Finset.univ fun l => done T c (.inl l)) ∗ bigSep Finset.univ fun l => pay T B (c, .inl l)) := by
    rw [← eL, ← bigSep_sep']
  unfold begins linear mem ends plain
  rw [split3 fun j => fresh T c j, split3 fun j => done T c j, split3 fun j => pay T B (c, j)]
  iintro ⟨⟨⟨%κ, #HR⟩, ⟨⟨Hf1, Hf2, Hf3⟩, Hp3, Ht1, Ht2, Ht3⟩, ⟨Hml, Hms, Hmd⟩, HZ⟩, HO⟩
  iapply (wp_copies T B m defs 𝒱 c κ hB (owing T c rs) _ _ ls) $$ [Hml Ht1 HO]
  · isplitr; · iexact HR
    rw [e1]
    isplitl [Hml Ht1]
    · isplitl [Hml] <;> iassumption
    · iexact HO
  iintro ⟨Hp1, HO⟩
  iapply (wp_sends T B m defs 𝒱 c κ hB [] _ _ rs) $$ [Hms Hmd Ht2 Ht3 HO]
  · isplitr; · iexact HR
    rw [e2, List.append_nil]
    isplitl [Hms Hmd Ht2 Ht3]
    · isplitl [Hms]; · iexact Hms
      isplitl [Hmd]; · iexact Hmd
      isplitl [Ht2] <;> iassumption
    · iexact HO
  iintro ⟨Hp2, HO⟩
  iapply (wp_waitBoth T B defs 𝒱 c κ _ _ rs) $$ [Hp2 Hf2 Hp3 Hf3 HO]
  · isplitr; · iexact HR
    rw [e3]
    isplitl [Hp2 Hf2 Hp3 Hf3]
    · isplitl [Hp2 Hf2]
      · isplitl [Hp2] <;> iassumption
      · isplitl [Hp3] <;> iassumption
    · iexact HO
  iintro ⟨H23, HO⟩
  ihave H23 := (Entails.of_eq e5) $$ H23
  icases H23 with ⟨⟨Hz2, Hy2⟩, Hz3, Hy3⟩
  iapply (wp_waitHere T B defs 𝒱 c κ _ _ ls) $$ [Hp1 Hf1 HO]
  · isplitr; · iexact HR
    rw [e4]
    isplitl [Hp1 Hf1]
    · isplitl [Hp1] <;> iassumption
    · iexact HO
  iintro ⟨H1, HO⟩
  ihave H1 := (Entails.of_eq e6) $$ H1
  icases H1 with ⟨Hz1, Hy1⟩
  unfold Runs; rw [wp_ret]; imodintro
  isplitr [HO]
  · isplitr [Hz1 Hz2 Hz3]
    · isplitr [HZ]
      · isplitl [Hy1]; · iexact Hy1
        isplitl [Hy2] <;> iassumption
      · iexact HZ
    · isplitl [Hz1]; · iexact Hz1
      isplitl [Hz2] <;> iassumption
  · iexact HO

end Body

end Cert.Exchange
-- ==== Proof.Arrays.lean ====
module

public import proofs.«01_k».proof.Proof.Plain
public import Idealize.ShloMosaic.Lib.Transfers

@[expose] public section

noncomputable section

/-!
An exchange's arrays: each input read through several shares at once, each output cut into slots that different
devices write.  At the launch the slots of all devices' outputs go to their writers; at the end every device's
array is read off what the writers' semaphores handed over.
-/

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

local notation "𝕄" => MT nD τ sig Unit Val ℕ (UU nD τ sig) ℕ

/-! ## Inputs -/

/-- The share `x` reads an input through, when all of `X` do. -/
def pieceOf (X : Type) [Fintype X] (x : X) : PosShare TreeShare :=
  Transfers.dealOf fullShare (Finset.univ : Finset (Fin (Fintype.card X))) (Fintype.equivFin X x)

theorem deal_in (X : Type) [Fintype X] [Nonempty X] {ℓ : Loc nD τ sig} {S : Finset (Idx ℓ)} {f : Buf Val ℓ} :
    (ℓ ↦[S]{fullShare} f : sProp 𝕄) = bigSep Finset.univ fun x : X => (ℓ ↦[S]{pieceOf X x} f : sProp 𝕄) := by
  have hne : (Finset.univ : Finset (Fin (Fintype.card X))).Nonempty :=
    ⟨Fintype.equivFin X (Classical.arbitrary X), Finset.mem_univ _⟩
  rw [Transfers.pointsTo_deal Finset.univ hne fullShare, bigSep_univ_equiv (Fintype.equivFin X)]
  rfl

/-! ## Outputs -/

/-- One output array, its slots told apart by `lead`: slot `k` of device `d` is what one transfer of one device writes. -/
theorem deal_out {J K : Type} [Fintype J] [Fintype K] [DecidableEq K] (b : Ref sig .tc)
    (lead : (Proc.devRef (τ := τ) .tc b).ty.Idx → K) (target : Dev nD × J ≃ Dev nD × K)
    (S : Dev nD → J → Finset (Proc.devRef (τ := τ) .tc b).ty.Idx) (hS : ∀ c j i, i ∈ S c j ↔ lead i = (target (c, j)).2)
    (V : (ℓ : Loc nD τ sig) → Buf Val ℓ) :
    (bigSep Finset.univ fun d : Dev nD => (((d.tc : Thread nD τ).loc b) ↦[Finset.univ]{fullShare} V _ : sProp 𝕄))
      = bigSep Finset.univ fun c : Dev nD => bigSep Finset.univ fun j : J =>
          ((((target (c, j)).1.tc : Thread nD τ).loc b) ↦[S c j]{fullShare} V _ : sProp 𝕄) := by
  classical
  let Φ : Dev nD × K → sProp 𝕄 := fun p => (((p.1.tc : Thread nD τ).loc b) ↦[Finset.univ.filter fun i => lead i = p.2]{fullShare} V _)
  have hΦ (c : Dev nD) (j : J) : ((((target (c, j)).1.tc : Thread nD τ).loc b) ↦[S c j]{fullShare} V _ : sProp 𝕄) = Φ (target (c, j)) := by
    have : S c j = Finset.univ.filter fun i => lead i = (target (c, j)).2 := by
      ext i; rw [hS, Finset.mem_filter]; exact ⟨fun h => ⟨Finset.mem_univ _, h⟩, fun h => h.2⟩
    rw [this]
  have hcut (d : Dev nD) : (((d.tc : Thread nD τ).loc b) ↦[Finset.univ]{fullShare} V _ : sProp 𝕄) = bigSep Finset.univ fun k => Φ (d, k) := by
    have hu : (Finset.univ : Finset (Idx ((d.tc : Thread nD τ).loc b))) = (Finset.univ : Finset K).biUnion fun k => Finset.univ.filter fun i => lead i = k := by
      ext i
      rw [Finset.mem_biUnion]
      exact ⟨fun _ => ⟨lead i, Finset.mem_univ _, Finset.mem_filter.mpr ⟨Finset.mem_univ _, rfl⟩⟩, fun _ => Finset.mem_univ _⟩
    conv_lhs => rw [hu]
    exact pointsTo_biUnion _ _ fun k _ k' _ hk => Finset.disjoint_left.mpr fun i hi hi' =>
      hk ((Finset.mem_filter.mp hi).2.symm.trans (Finset.mem_filter.mp hi').2)
  rw [bigSep_congr fun d _ => hcut d, ← bigSep_univ_prod Φ, bigSep_univ_equiv target, bigSep_univ_prod]
  exact bigSep_congr fun c _ => bigSep_congr fun j _ => (hΦ c j).symm

/-! ## Reading the final memory -/

/-- A fact of the memory that each of several resources pins. -/
theorem read_each {I : Type} [DecidableEq I] (S : Finset I) (Φ : I → sProp 𝕄) (φ : I → Prop) (s' : Phys nD τ sig Val)
    (h : ∀ i ∈ S, iprop(Φ i ∗ SI s') ⊢ (⌜φ i⌝ : sProp 𝕄)) : iprop(bigSep S Φ ∗ SI s') ⊢ (⌜∀ i ∈ S, φ i⌝ : sProp 𝕄) := by
  by_cases hφ : ∀ i ∈ S, φ i
  · iintro -
    ipureintro; exact hφ
  · obtain ⟨i, hφ⟩ := not_forall.mp hφ
    obtain ⟨hi, hn⟩ := Classical.not_imp.mp hφ
    iintro ⟨HΦ, HSI⟩
    ihave HΦ := (show (bigSep S Φ : sProp 𝕄) ⊢ (_ : sProp 𝕄) from bigSep_elim (Φ := Φ) hi) $$ HΦ
    ihave %hf := (h i hi) $$ [HΦ HSI]
    · isplitl [HΦ] <;> iassumption
    exact absurd hf hn

theorem read_one {ℓ : Loc nD τ sig} {S : Finset (Idx ℓ)} {q : PosShare TreeShare} (f : Buf Val ℓ) (s' : Phys nD τ sig Val) :
    iprop((ℓ ↦[S]{q} f) ∗ SI s') ⊢ (⌜∀ i ∈ S, s'.mem.mem ℓ i = f i⌝ : sProp 𝕄) := by
  iintro ⟨H, HSI⟩
  iapply SI_pointsTo_agree
  isplitl [HSI] <;> iassumption

variable {A SL SR : Type} [Fintype A] [DecidableEq A] [Fintype SL] [DecidableEq SL] [Fintype SR] [DecidableEq SR]

/-- How the transfers named `a` fill one output array `b` of every device. -/
structure Slots (T : Talk nD sig (A × SL) (A × SR)) (a : A) (b : Ref sig .tc) where
  K : Type
  fintype : Fintype K
  decEq : DecidableEq K
  lead : (Proc.devRef (τ := τ) .tc b).ty.Idx → K
  target : Dev nD × (SL ⊕ SR) ≃ Dev nD × K
  S : Dev nD → SL ⊕ SR → Finset (Proc.devRef (τ := τ) .tc b).ty.Idx
  hS : ∀ c j i, i ∈ S c j ↔ lead i = (target (c, j)).2
  here : ∀ c s (V : (ℓ : Loc nD τ sig) → Buf Val ℓ), (dstAt (T.ls (a, s)) c c V : sProp 𝕄)
    = ((((target (c, .inl s)).1.tc : Thread nD τ).loc b) ↦[S c (.inl s)]{fullShare} V _)
  there : ∀ c s (V : (ℓ : Loc nD τ sig) → Buf Val ℓ), (dstAt (T.rs (a, s)) c (T.peer (a, s) c) V : sProp 𝕄)
    = ((((target (c, .inr s)).1.tc : Thread nD τ).loc b) ↦[S c (.inr s)]{fullShare} V _)

variable {T : Talk nD sig (A × SL) (A × SR)}

/-- The transfers' destinations named `a`, on device `c`. -/
def dsts (T : Talk nD sig (A × SL) (A × SR)) (V : (ℓ : Loc nD τ sig) → Buf Val ℓ) (a : A) (c : Dev nD) : sProp 𝕄 :=
  iprop((bigSep Finset.univ fun s => dstAt (T.ls (a, s)) c c V) ∗ bigSep Finset.univ fun s => dstAt (T.rs (a, s)) c (T.peer (a, s) c) V)

theorem Slots.deal {a : A} {b : Ref sig .tc} (Z : Slots (τ := τ) (Val := Val) T a b) (V : (ℓ : Loc nD τ sig) → Buf Val ℓ) :
    (bigSep Finset.univ fun d : Dev nD => (((d.tc : Thread nD τ).loc b) ↦[Finset.univ]{fullShare} V _ : sProp 𝕄))
      = bigSep Finset.univ fun c => dsts T V a c := by
  haveI := Z.fintype
  haveI := Z.decEq
  rw [deal_out b Z.lead Z.target Z.S Z.hS V]
  refine bigSep_congr fun c _ => ?_
  unfold dsts
  rw [bigSep_univ_sum, bigSep_congr fun s _ => Z.here c s V, bigSep_congr fun s _ => Z.there c s V]
  rfl

theorem read_all {b : Ref sig .tc} (q : PosShare TreeShare) (V : (ℓ : Loc nD τ sig) → Buf Val ℓ) (s' : Phys nD τ sig Val) :
    iprop((bigSep Finset.univ fun d : Dev nD => (((d.tc : Thread nD τ).loc b) ↦[Finset.univ]{q} V _ : sProp 𝕄)) ∗ SI s')
      ⊢ (⌜∀ d : Dev nD, s'.mem.mem ((d.tc : Thread nD τ).loc b) = V ((d.tc : Thread nD τ).loc b)⌝ : sProp 𝕄) := by
  let Φ : Dev nD → sProp 𝕄 := fun d => (((d.tc : Thread nD τ).loc b) ↦[Finset.univ]{q} V _ : sProp 𝕄)
  have hone (d : Dev nD) (_ : d ∈ Finset.univ) : iprop(Φ d ∗ SI s') ⊢ (⌜∀ i, s'.mem.mem ((d.tc : Thread nD τ).loc b) i = V ((d.tc : Thread nD τ).loc b) i⌝ : sProp 𝕄) :=
    (read_one (V ((d.tc : Thread nD τ).loc b)) s').trans (Laws.pure_mono fun h i => h i (Finset.mem_univ _))
  exact (read_each Finset.univ Φ (fun d : Dev nD => ∀ i, s'.mem.mem ((d.tc : Thread nD τ).loc b) i = V ((d.tc : Thread nD τ).loc b) i) s' hone).trans
    (Laws.pure_mono fun h d => funext fun i => h d (Finset.mem_univ _) i)

/-! ## All the arrays of a program -/

section Program

variable (inp out : A → Ref sig .tc)

theorem arrays_of_unscoped (hinj : Function.Injective (Sum.elim inp out)) (huns : ∀ x, (Sum.elim inp out x).isScoped = false) (c : Dev nD)
    (V : (ℓ : Loc nD τ sig) → Buf Val ℓ) :
    (unscopedBufs c (fun b => V ((c.tc : Thread nD τ).loc b)) : sProp 𝕄)
      ⊢ iprop((bigSep Finset.univ fun a => (((c.tc : Thread nD τ).loc (inp a)) ↦[Finset.univ]{fullShare} V _ : sProp 𝕄))
        ∗ bigSep Finset.univ fun a => (((c.tc : Thread nD τ).loc (out a)) ↦[Finset.univ]{fullShare} V _ : sProp 𝕄)) := by
  have hsub : Finset.univ.map ⟨Sum.elim inp out, hinj⟩ ⊆ Finset.univ.filter fun b : Ref sig .tc => ¬ b.isScoped := fun b hb => by
    obtain ⟨x, -, rfl⟩ := Finset.mem_map.mp hb
    exact Finset.mem_filter.mpr ⟨Finset.mem_univ _, by rw [show (⟨Sum.elim inp out, hinj⟩ : A ⊕ A ↪ Ref sig .tc) x = Sum.elim inp out x from rfl, huns x]; exact Bool.false_ne_true⟩
  unfold unscopedBufs
  refine (bigSep_subset hsub).trans ?_
  rw [bigSep_map, bigSep_univ_sum]
  exact BI.Entails.refl _

/-- What device `c` keeps of its inputs, so as to read them at the end. -/
def keep (X : Type) [Fintype X] (m : (ℓ : Loc nD τ sig) → Buf Val ℓ) (c : Dev nD) : sProp 𝕄 :=
  bigSep Finset.univ fun a => (((c.tc : Thread nD τ).loc (inp a)) ↦[Finset.univ]{pieceOf (Unit ⊕ X) (.inl ())} m _ : sProp 𝕄)

/-- Every device's arrays, cut: its inputs by the shares they are read through, all outputs by their writers. -/
theorem arrays_cut (X : Type) [Fintype X] (hinj : Function.Injective (Sum.elim inp out)) (huns : ∀ x, (Sum.elim inp out x).isScoped = false)
    (Z : ∀ a, Slots (τ := τ) (Val := Val) T a (out a)) (m : (ℓ : Loc nD τ sig) → Buf Val ℓ) :
    (bigSep Finset.univ fun c : Dev nD => (unscopedBufs c (fun b => m ((c.tc : Thread nD τ).loc b)) : sProp 𝕄))
      ⊢ bigSep Finset.univ fun c : Dev nD => iprop((bigSep Finset.univ fun a => bigSep Finset.univ fun x : X =>
          (((c.tc : Thread nD τ).loc (inp a)) ↦[Finset.univ]{pieceOf (Unit ⊕ X) (.inr x)} m _ : sProp 𝕄))
        ∗ (bigSep Finset.univ fun a => dsts T m a c) ∗ keep inp X m c) := by
  have hin (c : Dev nD) : (bigSep Finset.univ fun a => (((c.tc : Thread nD τ).loc (inp a)) ↦[Finset.univ]{fullShare} m _ : sProp 𝕄))
      = iprop(keep inp X m c ∗ bigSep Finset.univ fun a => bigSep Finset.univ fun x : X =>
          (((c.tc : Thread nD τ).loc (inp a)) ↦[Finset.univ]{pieceOf (Unit ⊕ X) (.inr x)} m _ : sProp 𝕄)) := by
    unfold keep
    rw [← bigSep_sep']
    refine bigSep_congr fun a _ => ?_
    rw [deal_in (Unit ⊕ X), bigSep_univ_sum, bigSep_univ_of_subsingleton ()]
    rfl
  have hout : (bigSep Finset.univ fun c : Dev nD => bigSep Finset.univ fun a => (((c.tc : Thread nD τ).loc (out a)) ↦[Finset.univ]{fullShare} m _ : sProp 𝕄))
      = bigSep Finset.univ fun c : Dev nD => bigSep Finset.univ fun a => dsts T m a c := by
    rw [bigSep_univ_comm, bigSep_congr fun a _ => (Z a).deal m, bigSep_univ_comm]
  refine (show _ ⊢ (_ : sProp 𝕄) from bigSep_mono fun c _ => arrays_of_unscoped inp out hinj huns c m).trans ?_
  simp only [bigSep_sep']
  rw [hout, bigSep_congr fun c _ => hin c]
  simp only [bigSep_sep']
  iintro ⟨⟨H1, H2⟩, H3⟩
  isplitl [H2]; · iexact H2
  isplitl [H3]; · iexact H3
  iexact H1

/-- What every device kept and what the transfers wrote fix the final memory. -/
theorem read_end (X : Type) [Fintype X] (Z : ∀ a, Slots (τ := τ) (Val := Val) T a (out a)) (m B : (ℓ : Loc nD τ sig) → Buf Val ℓ) (s' : Phys nD τ sig Val) :
    iprop((bigSep Finset.univ fun c : Dev nD => iprop((bigSep Finset.univ fun a => dsts T B a c) ∗ keep inp X m c)) ∗ SI s')
      ⊢ (⌜∀ a, ∀ d : Dev nD, s'.mem.mem ((d.tc : Thread nD τ).loc (inp a)) = m _ ∧ s'.mem.mem ((d.tc : Thread nD τ).loc (out a)) = B _⌝ : sProp 𝕄) := by
  unfold keep
  simp only [bigSep_sep']
  rw [bigSep_univ_comm (fun (c : Dev nD) a => dsts T B a c), bigSep_univ_comm (fun (c : Dev nD) a => (((c.tc : Thread nD τ).loc (inp a)) ↦[Finset.univ]{pieceOf (Unit ⊕ X) (.inl ())} m _ : sProp 𝕄)),
    ← bigSep_congr fun a _ => (Z a).deal B]
  have ho := read_each Finset.univ (fun a => bigSep Finset.univ fun d : Dev nD => (((d.tc : Thread nD τ).loc (out a)) ↦[Finset.univ]{fullShare} B _ : sProp 𝕄))
    (fun a => ∀ d : Dev nD, s'.mem.mem ((d.tc : Thread nD τ).loc (out a)) = B ((d.tc : Thread nD τ).loc (out a))) s' fun a _ => read_all fullShare B s'
  have hi := read_each Finset.univ (fun a => bigSep Finset.univ fun d : Dev nD => (((d.tc : Thread nD τ).loc (inp a)) ↦[Finset.univ]{pieceOf (Unit ⊕ X) (.inl ())} m _ : sProp 𝕄))
    (fun a => ∀ d : Dev nD, s'.mem.mem ((d.tc : Thread nD τ).loc (inp a)) = m ((d.tc : Thread nD τ).loc (inp a))) s' fun a _ => read_all _ m s'
  iintro ⟨⟨Ho, Hi⟩, HSI⟩
  ihave %h1 := ho $$ [Ho HSI]
  · isplitl [Ho] <;> iassumption
  ihave %h2 := hi $$ [Hi HSI]
  · isplitl [Hi] <;> iassumption
  ipureintro
  exact fun a d => ⟨h2 a (Finset.mem_univ _) d, h1 a (Finset.mem_univ _) d⟩

end Program

end Cert.Exchange
-- ==== Proof.Whole.lean ====
module

public import proofs.«01_k».proof.Proof.Arrays

@[expose] public section

noncomputable section

/-!
The run of a program whose @main is one exchange: every fair execution ends, every array is as the transfers
leave it, and every semaphore of the program is back at zero.
-/

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg RDat cellOf)

variable {nD : Nat} {τ : Topo} {sig : RefSig} {Val : EltTy → Type}

local notation "𝕄" => MT nD τ sig Unit Val ℕ (UU nD τ sig) ℕ

section Launch

variable {L R : Type} [Fintype L] [DecidableEq L] [Fintype R] [DecidableEq R]
variable (T : Talk nD sig L R) (B : (ℓ : Loc nD τ sig) → Buf Val ℓ)
variable {Λ₀ : Labels} (cfg : Cfg sig Λ₀) [IsEmpty (Fin cfg.W)]

/-- The one region's data: what a device starts with, and what it ends with. -/
def data (rl : List R) (M Y : Dev nD → sProp 𝕄) (c : Dev nD) : RDat τ Val Unit ℕ (UU nD τ sig) ℕ cfg c where
  A w := isEmptyElim w
  after _ _ _ _ := True
  Φ t := if t.val = 0 then begins T B c (M c) else ends T c (Y c)
  q _ := fullShare
  owed t := if t.val = 0 then owing T c rl else 0

theorem data_start (rl : List R) (M Y : Dev nD → sProp 𝕄) (c : Dev nD) (t : Fin (cfg.N + 1)) (h : t.val = 0) :
    (data T B cfg rl M Y c).Φ t = begins T B c (M c) ∧ (data T B cfg rl M Y c).owed t = owing T c rl := by
  simp only [data]
  rw [if_pos h, if_pos h]
  exact ⟨rfl, rfl⟩

theorem data_end (rl : List R) (M Y : Dev nD → sProp 𝕄) (c : Dev nD) (t : Fin (cfg.N + 1)) (h : ¬ t.val = 0) :
    (data T B cfg rl M Y c).Φ t = ends T c (Y c) ∧ (data T B cfg rl M Y c).owed t = 0 := by
  simp only [data]
  rw [if_neg h, if_neg h]
  exact ⟨rfl, rfl⟩

theorem run_exchange [∀ e, Nonempty (Val e)] (hN : cfg.N = 1)
    (phinj : Function.Injective (cellOf (nD := nD) (τ := τ) fun _ : Fin 1 => cfg)) (hw : Pipeline.WinFacts₀ cfg.spec)
    (hrest : ∀ c : Dev nD, (Pipeline.scopedRest (Ix := Unit) (Name := ℕ) (U := UU nD τ sig) (Lvl := ℕ) (Val := Val) cfg.spec c : sProp 𝕄) = BI.emp)
    (defs₀ : Defs nD τ sig Val Λ₀) (m : (ℓ : Loc nD τ sig) → Buf Val ℓ) (g : Dev nD → PrngReg)
    (main : Dev nD → Prog (TpuEff nD τ sig Val (Pipeline.Sig Λ₀ (Fin 1) fun _ => (cfg.toPCfg (Val := Val)).Adm) .tc) PUnit)
    (hmain : ∀ c, main c = .op (.customCall (Pipeline.entry (0 : Fin 1)) ()) fun _ => .ret ⟨⟩)
    (hsc : ∀ j, (osem T j).isScoped .tc = true) (rl : List R) (hn : rl.Nodup) (hm : ∀ r, r ∈ rl) (M Y : Dev nD → sProp 𝕄)
    (hcut : (bigSep Finset.univ fun c : Dev nD => (unscopedBufs c (fun b => m ((c.tc : Thread nD τ).loc b)) : sProp 𝕄)) ⊢ bigSep Finset.univ M)
    (hbody : ∀ (c : Dev nD) (t : Fin cfg.N), iprop(begins T B c (M c) ∗ owesAny c (owing T c rl))
      ⊢ wp frame (wpE defs₀ Variants.none (c.tc : Thread nD τ) none) Set.univ (defs₀ .tc cfg.body (cfg.bodyArgs t (cfg.slots t)))
          fun _ => iprop(ends T c (Y c) ∗ owesAny c 0))
    (QY : MemSt nD τ sig Val → Prop)
    (hread : ∀ s' : Phys nD τ sig Val, iprop((bigSep Finset.univ Y) ∗ SI s') ⊢ (⌜QY s'.mem⌝ : sProp 𝕄)) :
    θ_run (Pipeline.defs (fun _ : Fin 1 => cfg.toPCfg (Val := Val)) defs₀) (onTc main) ⟨m, fun _ => 0, g⟩ (fun r => QY r.2
      ∧ ∀ g' : GSem nD τ sig, (g'.1.2 ≠ .tc ∨ g'.2.isScoped .tc = true) → r.2.sem g' = 0) := by
  have ho : Pipeline.OwnSemFacts cfg.spec (osem T) := ⟨hsc, fun a b h => T.sem_inj (SemLoc.dma.inj h), fun k w => isEmptyElim w⟩
  haveI : IsEmpty (Fin ((fun _ : Fin 1 => cfg.toPCfg (Val := Val)) 0).W) := ‹IsEmpty (Fin cfg.W)›
  haveI : IsEmpty (Fin ((fun _ : Fin 1 => cfg.toPCfg (Val := Val)) 0).pre.K) := (inferInstance : IsEmpty (Fin 0))
  refine Cert.Deal.θ_run_deal (fun _ : Fin 1 => cfg.toPCfg (Val := Val)) (fun _ _ => cfg.toPCfg_adm) (fun _ c => data T B cfg rl M Y c) () phinj 0 hw ho EP defs₀ Variants.none
    m g main hmain (fun c => ?_) (fun c => owing T c rl) (fun c => (data_start T B cfg rl M Y c 0 rfl).2) (fun c => ?_) Lx (lv T) Lx_ne (G T B) (initOf _ _, initOf (allCells T) (allToks T)) (start_own T B _)
    (fun c => iprop((∃ κ, records T B κ) ∗ linear T c ∗ M c)) Y ?_ (fun c => ?_) (fun c => ?_) QY (fun s' => ?_)
  · intro t Z _
    have h0 : t.castSucc.val = 0 := by have : t.val < cfg.N := t.isLt; show t.val = 0; omega
    have h1 : ¬ t.succ.val = 0 := Nat.succ_ne_zero _
    obtain ⟨hstart, howe⟩ := data_start T B cfg rl M Y c t.castSucc h0
    obtain ⟨hend, hnone⟩ := data_end T B cfg rl M Y c t.succ h1
    have hany : Set.univ ⊆ (data T B cfg rl M Y c).bound () t.succ := Set.subset_union_left
    refine (show _ ⊢ (_ : sProp 𝕄) from ?_).trans ((hbody c t).trans (wp_mono _ _ _ fun _ => ?_))
    · unfold RDat.owesAt Pipeline.owesWithin owesAny
      rw [hstart, howe]
      iintro ⟨HM, ⟨%W, -, HO⟩, -⟩
      isplitl [HM]; · iexact HM
      iexists W; iexact HO
    · unfold RDat.owesAt Pipeline.owesWithin owesAny
      rw [hend, hnone, Finset.univ_eq_empty, BI.bigSep_empty]
      iintro ⟨HY, ⟨%W, HO⟩⟩
      isplitl [HY]; · iexact HY
      isplitl [HO]
      · iexists W
        isplitr; · ipureintro; exact fun _ _ => hany (Set.mem_univ _)
        iexact HO
      · iempintro
  · exact (data_end T B cfg rl M Y c (Fin.last cfg.N) (by show cfg.N ≠ 0; omega)).2
  · iintro ⟨Hz, Hu, Hc, Hl, HG⟩
    iapply (allot T B rl hn hm M)
    isplitl [Hz]; · iexact Hz
    isplitl [Hu]; · iapply hcut; iexact Hu
    isplitl [Hc]; · iexact Hc
    isplitl [Hl] <;> iassumption
  · rw [(data_start T B cfg rl M Y c 0 rfl).1]
    unfold begins
    iintro ⟨H, -⟩
    iexact H
  · rw [(data_end T B cfg rl M Y c (Fin.last cfg.N) (by show cfg.N ≠ 0; omega)).1]
    show _ ⊢ iprop(Y c ∗ Pipeline.ownSems0 (osem T) c ∗ Pipeline.scopedRest cfg.spec c)
    rw [hrest c]
    unfold ends done Pipeline.ownSems0
    iintro ⟨HY, Hz⟩
    isplitl [HY]; · iexact HY
    isplitl [Hz]; · iexact Hz
    iempintro
  · iintro ⟨HY, HSI⟩
    ihave %h := (hread s') $$ [HY HSI]
    · isplitl [HY] <;> iassumption
    imodintro
    isplitr; · ipureintro; exact h
    iexact HSI

end Launch

/-! ## An exchange that starts everything, then waits for everything -/

section Plain

variable {A SL SR : Type} [Fintype A] [DecidableEq A] [Fintype SL] [DecidableEq SL] [Fintype SR] [DecidableEq SR]
variable (T : Talk nD sig (A × SL) (A × SR)) (inp out : A → Ref sig .tc) (m B : (ℓ : Loc nD τ sig) → Buf Val ℓ)

/-- The transfers read the inputs, each through the share dealt to it. -/
structure Reads : Prop where
  here : ∀ a s (c : Dev nD), (((c.tc : Thread nD τ).loc (inp a)) ↦[Finset.univ]{pieceOf (Unit ⊕ (SL ⊕ SR)) (.inr (.inl s))} m _ : sProp 𝕄) ⊢ srcAt B (T.ls (a, s)) c
  there : ∀ a s (c : Dev nD), (((c.tc : Thread nD τ).loc (inp a)) ↦[Finset.univ]{pieceOf (Unit ⊕ (SL ⊕ SR)) (.inr (.inr s))} m _ : sProp 𝕄) ⊢ srcAt B (T.rs (a, s)) c

theorem mem_of_cut (hR : Reads T inp m B) (c : Dev nD) :
    iprop((bigSep Finset.univ fun a => bigSep Finset.univ fun x : SL ⊕ SR =>
          (((c.tc : Thread nD τ).loc (inp a)) ↦[Finset.univ]{pieceOf (Unit ⊕ (SL ⊕ SR)) (.inr x)} m _ : sProp 𝕄))
        ∗ bigSep Finset.univ fun a => dsts T m a c)
      ⊢ mem T B m c := by
  have hs (a : A) : (bigSep Finset.univ fun x : SL ⊕ SR => (((c.tc : Thread nD τ).loc (inp a)) ↦[Finset.univ]{pieceOf (Unit ⊕ (SL ⊕ SR)) (.inr x)} m _ : sProp 𝕄))
      ⊢ iprop((bigSep Finset.univ fun s => srcAt B (T.ls (a, s)) c) ∗ bigSep Finset.univ fun s => srcAt B (T.rs (a, s)) c) := by
    rw [bigSep_univ_sum]
    exact Laws.sep_mono (bigSep_mono fun s _ => hR.here a s c) (bigSep_mono fun s _ => hR.there a s c)
  refine (Laws.sep_mono_left (show _ ⊢ (_ : sProp 𝕄) from bigSep_mono fun a _ => hs a)).trans ?_
  unfold dsts mem
  rw [bigSep_univ_prod (fun l : A × SL => iprop(srcAt B (T.ls l) c ∗ dstAt (T.ls l) c c m)), bigSep_univ_prod (fun r : A × SR => srcAt B (T.rs r) c),
    bigSep_univ_prod (fun r : A × SR => dstAt (T.rs r) c (T.peer r c) m)]
  simp only [bigSep_sep']
  iintro ⟨⟨H1, H2⟩, H3, H4⟩
  isplitl [H1 H3]
  · isplitl [H1] <;> iassumption
  isplitl [H2] <;> iassumption

/-- What every device was sent is what the transfers wrote. -/
theorem dsts_around :
    (bigSep Finset.univ fun c : Dev nD => iprop((bigSep Finset.univ fun l => (dstAt (T.ls l) c c B : sProp 𝕄)) ∗ bigSep Finset.univ fun r => dstAt (T.rs r) (T.peer r c) c B))
      = bigSep Finset.univ fun c : Dev nD => bigSep Finset.univ fun a => dsts T B a c := by
  have hround : (bigSep Finset.univ fun c : Dev nD => bigSep Finset.univ fun r => (dstAt (T.rs r) (T.peer r c) c B : sProp 𝕄))
      = bigSep Finset.univ fun c : Dev nD => bigSep Finset.univ fun r => dstAt (T.rs r) c (T.peer r c) B := by
    rw [bigSep_univ_comm, bigSep_univ_comm (fun (c : Dev nD) r => (dstAt (T.rs r) c (T.peer r c) B : sProp 𝕄))]
    refine bigSep_congr fun r _ => ?_
    rw [bigSep_univ_equiv (peerEquiv T r) fun c => (dstAt (T.rs r) (T.peer r c) c B : sProp 𝕄)]
    refine bigSep_congr fun c _ => ?_
    show dstAt (T.rs r) (T.peer r (T.peer r c)) (T.peer r c) B = _
    rw [T.peer_peer]
  rw [bigSep_sep', hround, ← bigSep_sep']
  refine bigSep_congr fun c _ => ?_
  unfold dsts
  rw [bigSep_univ_prod (fun l : A × SL => (dstAt (T.ls l) c c B : sProp 𝕄)), bigSep_univ_prod (fun r : A × SR => (dstAt (T.rs r) c (T.peer r c) B : sProp 𝕄)), bigSep_sep']

theorem dsts_of_pays :
    (bigSep Finset.univ fun c : Dev nD => bigSep Finset.univ fun j => (pay T B (c, j) : sProp 𝕄))
      ⊢ bigSep Finset.univ fun c : Dev nD => bigSep Finset.univ fun a => dsts T B a c := by
  rw [← dsts_around]
  refine bigSep_mono fun c _ => ?_
  rw [split3 fun j => (pay T B (c, j) : sProp 𝕄)]
  have h1 : (bigSep Finset.univ fun l => (pay T B (c, .inl l) : sProp 𝕄)) ⊢ bigSep Finset.univ fun l => dstAt (T.ls l) c c B :=
    bigSep_mono fun l _ => (show iprop(dstAt (T.ls l) c c B ∗ srcAt B (T.ls l) c) ⊢ dstAt (T.ls l) c c B from sep_elim_left)
  refine (show (_ : sProp 𝕄) ⊢ (_ : sProp 𝕄) from ?_)
  iintro ⟨H1, -, H3⟩
  isplitl [H1]; · iapply h1; iexact H1
  iexact H3

variable {Λ₀ : Labels} (cfg : Cfg sig Λ₀) [IsEmpty (Fin cfg.W)]

/-- The run: the inputs are unchanged, the outputs are `B`'s, and every semaphore is back at zero. -/
theorem run_plain [∀ e, Nonempty (Val e)] (hN : cfg.N = 1)
    (phinj : Function.Injective (cellOf (nD := nD) (τ := τ) fun _ : Fin 1 => cfg)) (hw : Pipeline.WinFacts₀ cfg.spec)
    (hrest : ∀ c : Dev nD, (Pipeline.scopedRest (Ix := Unit) (Name := ℕ) (U := UU nD τ sig) (Lvl := ℕ) (Val := Val) cfg.spec c : sProp 𝕄) = BI.emp)
    (defs₀ : Defs nD τ sig Val Λ₀) (g : Dev nD → PrngReg)
    (main : Dev nD → Prog (TpuEff nD τ sig Val (Pipeline.Sig Λ₀ (Fin 1) fun _ => (cfg.toPCfg (Val := Val)).Adm) .tc) PUnit)
    (hmain : ∀ c, main c = .op (.customCall (Pipeline.entry (0 : Fin 1)) ()) fun _ => .ret ⟨⟩)
    (hsc : ∀ j, (osem T j).isScoped .tc = true)
    (ls : List (A × SL)) (rs : List (A × SR)) (hl : Finset.univ = ls.toFinset) (hln : ls.Nodup) (hr : Finset.univ = rs.toFinset) (hrn : rs.Nodup)
    (hinj : Function.Injective (Sum.elim inp out)) (huns : ∀ x, (Sum.elim inp out x).isScoped = false)
    (Z : ∀ a, Slots (τ := τ) (Val := Val) T a (out a)) (hB : Carries T B) (hR : Reads T inp m B)
    (hbody : ∀ (c : Dev nD) (t : Fin cfg.N) (Q : PUnit → sProp (MT nD τ sig Unit Val ℕ (UU nD τ sig) ℕ)), Runs defs₀ Variants.none c Q (plain T c ls rs)
      ⊢ wp frame (wpE defs₀ Variants.none (c.tc : Thread nD τ) none) Set.univ (defs₀ .tc cfg.body (cfg.bodyArgs t (cfg.slots t))) fun _ => Q ⟨⟩) :
    θ_run (Pipeline.defs (fun _ : Fin 1 => cfg.toPCfg (Val := Val)) defs₀) (onTc main) ⟨m, fun _ => 0, g⟩ (fun r =>
      (∀ a, ∀ d : Dev nD, r.2.mem ((d.tc : Thread nD τ).loc (inp a)) = m _ ∧ r.2.mem ((d.tc : Thread nD τ).loc (out a)) = B _)
      ∧ ∀ g' : GSem nD τ sig, (g'.1.2 ≠ .tc ∨ g'.2.isScoped .tc = true) → r.2.sem g' = 0) := by
  refine run_exchange T B cfg hN phinj hw hrest defs₀ m g main hmain hsc rs hrn (fun r => List.mem_toFinset.mp (hr ▸ Finset.mem_univ r))
    (fun c => iprop(mem T B m c ∗ keep inp (SL ⊕ SR) m c)) (fun c => iprop((bigSep Finset.univ fun j => pay T B (c, j)) ∗ keep inp (SL ⊕ SR) m c)) ?_
    (fun c t => (wp_plain T B m defs₀ Variants.none c hB ls rs hl hln hr hrn (keep inp (SL ⊕ SR) m c)).trans (hbody c t _))
    (fun μ => ∀ a, ∀ d : Dev nD, μ.mem ((d.tc : Thread nD τ).loc (inp a)) = m _ ∧ μ.mem ((d.tc : Thread nD τ).loc (out a)) = B _) fun s' => ?_
  · refine (arrays_cut inp out (SL ⊕ SR) hinj huns Z m).trans (bigSep_mono fun c _ => ?_)
    have hm := mem_of_cut T inp m B hR c
    refine (show _ ⊢ (_ : sProp 𝕄) from ?_)
    iintro ⟨H1, H2, H3⟩
    isplitl [H1 H2]
    · iapply hm
      isplitl [H1] <;> iassumption
    · iexact H3
  · have hd := dsts_of_pays T B
    have he := read_end inp out (SL ⊕ SR) Z m B s'
    simp only [bigSep_sep'] at he ⊢
    iintro ⟨⟨HP, HK⟩, HSI⟩
    iapply he
    isplitr [HSI]
    · isplitl [HP]
      · iapply hd; iexact HP
      · iexact HK
    · iexact HSI

end Plain

end Cert.Exchange
-- ==== Proof.Slot.lean ====
module

public import proofs.«01_k».proof.Proof.Whole
public import Idealize.ShloMosaic.Lib.Pipeline.Value

@[expose] public section

noncomputable section

/-!
A stack of matrices, one array of three axes, and the part of one of its matrices that a transfer reads or writes:
which elements that part has, and what reading it gives.  Also a memory that differs from another in chosen arrays.
-/

namespace Cert.Slot

open Idealize.ShloMosaic
open Idealize.ShloMosaic.TcCoe

variable {sig : RefSig} {e : EltTy} {g r n p q : ℕ}

/-- The part of `p × q` elements, from `off` on, of a stack of `g` matrices of `r × n`. -/
abbrev part (M : Memref sig .tc .hbm ⟨3, ![g, r, n]⟩ e) (off : Fin 3 → ℕ) (inb : ∀ a, off a + (⟨3, ![1, p, q]⟩ : Shape).size a ≤ (⟨3, ![g, r, n]⟩ : Shape).size a)
    (hq : (⟨3, ![1, p, q]⟩ : Shape).Squeezes ⟨2, ![p, q]⟩) : Memref sig .tc .hbm ⟨2, ![p, q]⟩ e :=
  (M.slice (Rect.unit (s := ⟨3, ![g, r, n]⟩) off (⟨3, ![1, p, q]⟩ : Shape).size inb) (fun _ => rfl)).squeeze ⟨2, ![p, q]⟩ hq

variable (M : Memref sig .tc .hbm ⟨3, ![g, r, n]⟩ e) (off : Fin 3 → ℕ) (inb : ∀ a, off a + (⟨3, ![1, p, q]⟩ : Shape).size a ≤ (⟨3, ![g, r, n]⟩ : Shape).size a)
  (hq : (⟨3, ![1, p, q]⟩ : Shape).Squeezes ⟨2, ![p, q]⟩)

theorem mem_part (i : (⟨3, ![g, r, n]⟩ : Shape).Idx) : M.view.emb i ∈ (part M off inb hq).view.set
    ↔ ((i 0).val = off 0 ∧ (off 1 ≤ (i 1).val ∧ (i 1).val < off 1 + p) ∧ off 2 ≤ (i 2).val ∧ (i 2).val < off 2 + q) := by
  have h : (part M off inb hq).view.set = (Rect.unit (s := ⟨3, ![g, r, n]⟩) off (⟨3, ![1, p, q]⟩ : Shape).size inb).set.map M.view.emb :=
    (View.set_reshape _ _).trans (View.set_slice _ _)
  rw [h, Finset.mem_map' M.view.emb, Rect.mem_set_unit]
  constructor
  · intro h
    have h0 := h 0; have h1 := h 1; have h2 := h 2
    simp at h0 h1 h2
    exact ⟨by omega, h1, h2⟩
  · rintro ⟨h0, h1, h2⟩ a
    match a with
    | 0 => exact ⟨h0.ge, by show (i 0).val < off 0 + 1; omega⟩
    | 1 => exact h1
    | 2 => exact h2

/-- A whole matrix of the stack is told apart by the first coordinate alone. -/
theorem mem_matrix (hp : p = r) (hn : q = n) (h1 : off 1 = 0) (h2 : off 2 = 0) (i : (⟨3, ![g, r, n]⟩ : Shape).Idx) :
    M.view.emb i ∈ (part M off inb hq).view.set ↔ (i 0).val = off 0 := by
  rw [mem_part]
  have e1 : (i 1).val < r := (i 1).isLt
  have e2 : (i 2).val < n := (i 2).isLt
  constructor
  · exact fun h => h.1
  · exact fun h => ⟨h, by omega, by omega⟩

theorem read_part {Val : EltTy → Type} (f : M.view.ty.Contents Val) (y : (⟨2, ![p, q]⟩ : Shape).Idx) (i : (⟨3, ![g, r, n]⟩ : Shape).Idx)
    (h0 : (i 0).val = off 0) (h1 : (i 1).val = off 1 + (y 0).val) (h2 : (i 2).val = off 2 + (y 1).val) :
    (part M off inb hq).view.read Val f y = M.view.read Val f i := by
  have h : (part M off inb hq).view.read Val f y
      = M.view.read Val f ((Rect.unit (s := ⟨3, ![g, r, n]⟩) off (⟨3, ![1, p, q]⟩ : Shape).size inb).emb (Shape.reshapeEquiv hq.numel_eq y)) := rfl
  rw [h, Shape.reshapeEquiv_cons_one]
  congr 1
  funext a
  apply Fin.ext
  rw [Rect.emb_apply]
  match a with
  | ⟨0, _⟩ => show off 0 + 1 * 0 = (i 0).val; omega
  | ⟨1, _⟩ => show off 1 + 1 * (y 0).val = (i 1).val; omega
  | ⟨2, _⟩ => show off 2 + 1 * (y 1).val = (i 2).val; omega

variable {M off inb hq} {g' r' n' : ℕ} {M' : Memref sig .tc .hbm ⟨3, ![g', r', n']⟩ e} {off' : Fin 3 → ℕ}
  {inb' : ∀ a, off' a + (⟨3, ![1, p, q]⟩ : Shape).size a ≤ (⟨3, ![g', r', n']⟩ : Shape).size a}
  {hq' : (⟨3, ![1, p, q]⟩ : Shape).Squeezes ⟨2, ![p, q]⟩}

/-- Where an element of one part lies in the other stack. -/
def Moves (off off' : Fin 3 → ℕ) (i : (⟨3, ![g, r, n]⟩ : Shape).Idx) (k : (⟨3, ![g', r', n']⟩ : Shape).Idx) : Prop :=
  ∀ a, (k a).val + off a = off' a + (i a).val

/-- Two parts read the same if the stacks do at each pair of matching elements. -/
theorem read_parts {Val : EltTy → Type} {f : M.view.ty.Contents Val} {f' : M'.view.ty.Contents Val}
    (pick : (⟨3, ![g, r, n]⟩ : Shape).Idx → (⟨3, ![g', r', n']⟩ : Shape).Idx)
    (hp : ∀ i : (⟨3, ![g, r, n]⟩ : Shape).Idx, (i 0).val = off 0 → Moves off off' i (pick i))
    (h : ∀ i : (⟨3, ![g, r, n]⟩ : Shape).Idx, (i 0).val = off 0 → M.view.read Val f i = M'.view.read Val f' (pick i)) :
    (part M off inb hq).view.read Val f = (part M' off' inb' hq').view.read Val f' := by
  funext y
  have y0 : (y 0).val < p := (y 0).isLt
  have y1 : (y 1).val < q := (y 1).isLt
  have b0 : off 0 + 1 ≤ g := inb 0
  have b1 : off 1 + p ≤ r := inb 1
  have b2 : off 2 + q ≤ n := inb 2
  let i : (⟨3, ![g, r, n]⟩ : Shape).Idx := fun
    | 0 => ⟨off 0, b0⟩
    | 1 => ⟨off 1 + (y 0).val, by show _ < r; omega⟩
    | 2 => ⟨off 2 + (y 1).val, by show _ < n; omega⟩
  have m0 : (pick i 0).val + off 0 = off' 0 + off 0 := hp i rfl 0
  have m1 : (pick i 1).val + off 1 = off' 1 + (off 1 + (y 0).val) := hp i rfl 1
  have m2 : (pick i 2).val + off 2 = off' 2 + (off 2 + (y 1).val) := hp i rfl 2
  rw [read_part M off inb hq f y i rfl rfl rfl, h i rfl]
  exact (read_part M' off' inb' hq' f' y (pick i) (by omega) (by omega) (by omega)).symm

end Cert.Slot

namespace Cert.Slot

open Idealize.ShloMosaic
open Idealize.ShloMosaic.TcCoe

variable {nD : Nat} {τ : Topo} {sig : RefSig} {Val : EltTy → Type} {A : Type}

open Classical in
/-- The memory `m` with device `d`'s array `out a` at `W a d`. -/
def overlay (out : A → Ref sig .tc) (W : ∀ a (d : Dev nD), Buf Val ((d.tc : Thread nD τ).loc (out a))) (m : (ℓ : Loc nD τ sig) → Buf Val ℓ) :
    (ℓ : Loc nD τ sig) → Buf Val ℓ := fun ℓ =>
  if h : ∃ x : A × Dev nD, (x.2.tc : Thread nD τ).loc (out x.1) = ℓ then h.choose_spec ▸ W h.choose.1 h.choose.2 else m ℓ

variable (out : A → Ref sig .tc) (W : ∀ a (d : Dev nD), Buf Val ((d.tc : Thread nD τ).loc (out a))) (m : (ℓ : Loc nD τ sig) → Buf Val ℓ)

theorem overlay_out (hinj : Function.Injective out) (a : A) (d : Dev nD) :
    overlay out W m ((d.tc : Thread nD τ).loc (out a)) = W a d := by
  classical
  have hx : ∃ x : A × Dev nD, (x.2.tc : Thread nD τ).loc (out x.1) = (d.tc : Thread nD τ).loc (out a) := ⟨(a, d), rfl⟩
  have key : ∀ (x : A × Dev nD) (h : (x.2.tc : Thread nD τ).loc (out x.1) = (d.tc : Thread nD τ).loc (out a)), (h ▸ W x.1 x.2 : Buf Val _) = W a d := by
    rintro ⟨a', d'⟩ h
    obtain rfl : d' = d := congrArg Prod.fst h
    obtain rfl : a' = a := hinj (Proc.devRef_injective .tc (congrArg Prod.snd h))
    rfl
  unfold overlay
  rw [dif_pos hx]
  exact key hx.choose hx.choose_spec

theorem overlay_other (b : Ref sig .tc) (hb : ∀ a, out a ≠ b) (d : Dev nD) :
    overlay out W m ((d.tc : Thread nD τ).loc b) = m _ := by
  unfold overlay
  exact dif_neg fun ⟨x, hx⟩ => hb x.1 (Proc.devRef_injective .tc (congrArg Prod.snd hx))

end Cert.Slot

namespace Cert.Slot

open Idealize.ShloMosaic

variable {g r n p q : ℕ}

/-- The index of a matrix of a stack that an index of the stack names. -/
def below (i : (⟨3, ![g, r, n]⟩ : Shape).Idx) : (⟨2, ![r, n]⟩ : Shape).Idx := fun
  | 0 => i 1
  | 1 => i 2

/-- The index of a stack that an index of its matrix `k` names. -/
def above (k : Fin g) (y : (⟨2, ![r, n]⟩ : Shape).Idx) : (⟨3, ![g, r, n]⟩ : Shape).Idx := fun
  | 0 => k
  | 1 => y 0
  | 2 => y 1

/-- The index of a stack of matrices of twice the rows that an index of their halves `k` names. -/
def half (k : Fin 2) (i : (⟨3, ![g, r, n]⟩ : Shape).Idx) : (⟨3, ![g, 2 * r, n]⟩ : Shape).Idx := fun
  | 0 => i 0
  | 1 => ⟨k.val * r + (i 1).val, by
      have h : (i 1).val < r := (i 1).isLt
      have hk : k.val * r ≤ 1 * r := Nat.mul_le_mul_right r (by have := k.isLt; omega)
      show _ < 2 * r
      omega⟩
  | 2 => i 2

theorem below_above (k : Fin g) (y : (⟨2, ![r, n]⟩ : Shape).Idx) : below (above k y) = y := by
  funext a
  match a with
  | 0 => rfl
  | 1 => rfl

end Cert.Slot

namespace Cert.Slot

open Idealize.ShloMosaic
open Idealize.ShloMosaic.TcCoe
open Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type}

/-- Reading a whole array is more than reading some of it. -/
theorem narrow {ℓ : Loc nD τ sig} (S : Finset (Idx ℓ)) {q : PosShare TreeShare} {f f' : Buf Val ℓ} (h : f' = f) :
    (ℓ ↦[Finset.univ]{q} f : sProp (MT nD τ sig Unit Val ℕ (Cert.Exchange.UU nD τ sig) ℕ)) ⊢ ℓ ↦[S]{q} f' := by
  subst h
  exact (pointsTo_split_subset (Finset.subset_univ S)).1.trans sep_elim_left

end Cert.Slot

namespace Cert.Slot

/-- Names for the eight arrays a program exchanges. -/
inductive Eight
  | a0 | a1 | a2 | a3 | a4 | a5 | a6 | a7
  deriving DecidableEq

instance : Fintype Eight := ⟨{.a0, .a1, .a2, .a3, .a4, .a5, .a6, .a7}, fun x => by cases x <;> decide⟩

end Cert.Slot
-- ==== Proof.Relay.lean ====
module

public import proofs.«01_k».proof.Proof.Whole
public import Idealize.ShloMosaic.Lib.Pipeline.BigSepL

@[expose] public section

noncomputable section

/-!
An exchange that passes on what it receives: the devices start their first transfers, then each waits in turn for one it
is to pass on and starts that, reading it out of its own output; and then it waits for all the others.
-/

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg cellOf)

variable {nD : Nat} {τ : Topo} {sig : RefSig} {Val : EltTy → Type} {L R P : Type}
variable [Fintype L] [DecidableEq L] [Fintype R] [DecidableEq R]

local notation "𝕄" => MT nD τ sig Unit Val ℕ (UU nD τ sig) ℕ

theorem bigSepL_both {I : Type} (Φ Ψ : I → sProp 𝕄) : ∀ l : List I, bigSepL l (fun i => iprop(Φ i ∗ Ψ i)) = iprop(bigSepL l Φ ∗ bigSepL l Ψ)
  | [] => (equiv_iff.mp emp_sep).symm
  | i :: l => by
    rw [bigSepL_cons', bigSepL_cons', bigSepL_cons', bigSepL_both Φ Ψ l]
    refine Entails.antisymm (show (_ : sProp 𝕄) ⊢ (_ : sProp 𝕄) from ?_) (show (_ : sProp 𝕄) ⊢ (_ : sProp 𝕄) from ?_)
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

/-- What is passed on: the transfers, the one that each passes on, and where a device waits to see what it receives. -/
structure Relay (T : Talk nD sig L R) (P : Type) where
  out : P → R
  via : P → R
  got : ∀ r : R, Dev nD → Memref sig .tc .hbm (T.rs r).s (T.rs r).e
  got_words : ∀ r c, (got r c).view.WordExact
  got_N : ∀ r c, (got r c).view.dmaCredit = (T.rs r).N
  later : ∀ p q, T.lev (via p) < T.lev (out q)

variable (T : Talk nD sig L R) (K : Relay T P) (B m : (ℓ : Loc nD τ sig) → Buf Val ℓ)

/-- What was received is what is passed on. -/
def PassesOn : Prop := ∀ p c, (dstAt (T.rs (K.via p)) (T.peer (K.via p) c) c B : sProp 𝕄) = srcAt B (T.rs (K.out p)) c

section Body

variable {Λ : Labels} (defs : Defs nD τ sig Val Λ) (𝒱 : Variants) (c : Dev nD)

abbrev gotOp (r : R) (k : Prg τ sig nD Val Λ) : Prg τ sig nD Val Λ :=
  .op (.waitDma2 (T.sem (.inr (.inr r))) (K.got r c) (K.got r c) (K.got_words r c) (K.got_words r c)) fun _ => k

abbrev passOp (p : P) (k : Prg τ sig nD Val Λ) : Prg τ sig nD Val Λ := gotOp T K c (K.via p) (sendOp T c (K.out p) k)

/-- The first transfers, then those passed on, then the waits that are left. -/
def relay (ls : List L) (fs : List R) (ps : List P) (ws : List R) : Prg τ sig nD Val Λ :=
  ls.foldr (copyOp T c) (fs.foldr (sendOp T c) (ps.foldr (passOp T K c) (ws.foldr (gotOp T K c)
    ((fs ++ ps.map K.out).foldr (waitSendOp T c) (ls.foldr (waitHereOp T c) (.ret ⟨⟩))))))

/-- The arrays as the transfers need them at first: what is passed on is not yet there to read. -/
def relayMem (fs : List R) : sProp 𝕄 :=
  iprop((bigSep Finset.univ fun l => iprop(srcAt B (T.ls l) c ∗ dstAt (T.ls l) c c m))
    ∗ (bigSepL fs fun r => srcAt B (T.rs r) c)
    ∗ bigSep Finset.univ fun r => dstAt (T.rs r) c (T.peer r c) m)

/-- What the transfers leave of the outputs. -/
def written : sProp 𝕄 :=
  iprop((bigSep Finset.univ fun l => dstAt (T.ls l) c c B) ∗ bigSep Finset.univ fun r => dstAt (T.rs r) (T.peer r c) c B)

variable (κ : Dev nD × (L ⊕ R ⊕ R) → ℕ)

theorem run_got (r : R) (rest : List R) (hl : ∀ r' ∈ rest, T.lev r < T.lev r') (Q : PUnit.{1} → sProp (MT nD τ sig Unit Val ℕ (UU nD τ sig) ℕ)) (k : Prg τ sig nD Val Λ) :
    iprop(records T B κ ∗ (pending T c (.inr (.inr r)) ∗ fresh T c (.inr (.inr r))) ∗ owesAny c (owing T c rest))
      ⊢ iprop((iprop((done T c (.inr (.inr r)) ∗ dstAt (T.rs r) (T.peer r c) c B) ∗ owesAny c (owing T c rest)) -∗ Runs defs 𝒱 c Q k) -∗ Runs defs 𝒱 c Q (gotOp T K c r k)) :=
  run_wait T B κ defs 𝒱 c k Q (.inr (.inr r)) rest hl (K.got_N r c)

theorem wp_passes (hB : Carries T B) (hP : PassesOn T K B) (Q : PUnit.{1} → sProp (MT nD τ sig Unit Val ℕ (UU nD τ sig) ℕ)) (k : Prg τ sig nD Val Λ) (l : List P) :
    iprop(records T B κ ∗ (bigSepL l fun p => iprop((pending T c (.inr (.inr (K.via p))) ∗ fresh T c (.inr (.inr (K.via p)))) ∗ sendPre T m c (K.out p)))
        ∗ owesAny c (owing T c (l.map K.out)))
      ⊢ iprop((iprop((bigSepL l fun p => iprop(done T c (.inr (.inr (K.via p))) ∗ pending T c (.inr (.inl (K.out p))))) ∗ owesAny c (owing T c [])) -∗ Runs defs 𝒱 c Q k)
        -∗ Runs defs 𝒱 c Q (l.foldr (passOp T K c) k)) :=
  phase (Runs defs 𝒱 c Q) (passOp T K c) _ _ (fun l => owesAny c (owing T c (l.map K.out))) (fun p l k => by
    have hl : ∀ r' ∈ (p :: l).map K.out, T.lev (K.via p) < T.lev r' := fun r' h => by
      obtain ⟨q, -, rfl⟩ := List.mem_map.mp h
      exact K.later p q
    iintro ⟨#HR, ⟨H1, H2⟩, HO⟩ Hk
    iapply (run_got T K B defs 𝒱 c κ (K.via p) ((p :: l).map K.out) hl Q (sendOp T c (K.out p) k)) $$ [H1 HO]
    · isplitr; · iexact HR
      isplitl [H1] <;> iassumption
    iintro ⟨⟨Hz, Hy⟩, HO⟩
    ihave Hy := (Entails.of_eq (hP p c)) $$ Hy
    iapply (run_send T B m κ defs 𝒱 c k Q hB (K.out p) (owing T c (l.map K.out))) $$ [H2 Hy HO]
    · isplitr; · iexact HR
      isplitl [H2 Hy]
      · isplitl [Hy] <;> iassumption
      · iexact HO
    iintro ⟨Hp, HO⟩
    iapply Hk
    isplitl [Hz Hp]
    · isplitl [Hz] <;> iassumption
    · iexact HO) k l

theorem wp_gots (Q : PUnit.{1} → sProp (MT nD τ sig Unit Val ℕ (UU nD τ sig) ℕ)) (k : Prg τ sig nD Val Λ) (l : List R) :
    iprop(records T B κ ∗ (bigSepL l fun r => iprop(pending T c (.inr (.inr r)) ∗ fresh T c (.inr (.inr r)))) ∗ owesAny c (owing T c []))
      ⊢ iprop((iprop((bigSepL l fun r => iprop(done T c (.inr (.inr r)) ∗ dstAt (T.rs r) (T.peer r c) c B)) ∗ owesAny c (owing T c [])) -∗ Runs defs 𝒱 c Q k)
        -∗ Runs defs 𝒱 c Q (l.foldr (gotOp T K c) k)) :=
  phase (Runs defs 𝒱 c Q) (gotOp T K c) _ _ (fun _ => owesAny c (owing T c [])) (fun r _ k => run_got T K B defs 𝒱 c κ r [] (fun _ h => nomatch h) Q k) k l

theorem wp_sents (Q : PUnit.{1} → sProp (MT nD τ sig Unit Val ℕ (UU nD τ sig) ℕ)) (k : Prg τ sig nD Val Λ) (l : List R) :
    iprop(records T B κ ∗ (bigSepL l fun r => iprop(pending T c (.inr (.inl r)) ∗ fresh T c (.inr (.inl r)))) ∗ owesAny c (owing T c []))
      ⊢ iprop((iprop((bigSepL l fun r => iprop(done T c (.inr (.inl r)) ∗ srcAt B (T.rs r) c)) ∗ owesAny c (owing T c [])) -∗ Runs defs 𝒱 c Q k)
        -∗ Runs defs 𝒱 c Q (l.foldr (waitSendOp T c) k)) :=
  phase (Runs defs 𝒱 c Q) (waitSendOp T c) _ _ (fun _ => owesAny c (owing T c []))
    (fun r _ k => run_wait T B κ defs 𝒱 c k Q (.inr (.inl r)) [] (fun _ h => nomatch h) ((T.rs r).hN' c)) k l

/-- The body's run: from what a device starts with to every semaphore back at zero and every destination at the final
    contents. -/
theorem wp_relay (hB : Carries T B) (hP : PassesOn T K B) (ls : List L) (fs : List R) (ps : List P) (ws : List R)
    (hl : Finset.univ = ls.toFinset) (hln : ls.Nodup) (hr : Finset.univ = (fs ++ ps.map K.out).toFinset) (hrn : (fs ++ ps.map K.out).Nodup)
    (hw : Finset.univ = (ps.map K.via ++ ws).toFinset) (hwn : (ps.map K.via ++ ws).Nodup) (Z : sProp 𝕄) :
    iprop(begins T B c iprop(relayMem T B m c fs ∗ Z) ∗ owesAny c (owing T c (fs ++ ps.map K.out)))
      ⊢ Runs defs 𝒱 c (fun _ => iprop(ends T c iprop(written T B c ∗ Z) ∗ owesAny c 0)) (relay T K c ls fs ps ws) := by
  have eL (Φ : L → sProp 𝕄) : bigSep Finset.univ Φ = bigSepL ls Φ := bigSep_univ_eq_bigSepL ls hl hln Φ
  have eS (Φ : R → sProp 𝕄) : bigSep Finset.univ Φ = iprop(bigSepL fs Φ ∗ bigSepL ps fun p => Φ (K.out p)) := by
    rw [bigSep_univ_eq_bigSepL _ hr hrn Φ, bigSepL_append, bigSepL_map]
  have eW (Φ : R → sProp 𝕄) : bigSep Finset.univ Φ = iprop((bigSepL ps fun p => Φ (K.via p)) ∗ bigSepL ws Φ) := by
    rw [bigSep_univ_eq_bigSepL _ hw hwn Φ, bigSepL_append, bigSepL_map]
  have e1 : (bigSepL ls (copyPre T B m c) : sProp 𝕄) = iprop((bigSepL ls fun l => iprop(srcAt B (T.ls l) c ∗ dstAt (T.ls l) c c m))
      ∗ bigSepL ls fun l => dutyTok ER (cell T (c, .inl l)) 0 ()) := by rw [← bigSepL_both]; rfl
  unfold begins linear relayMem ends written relay
  rw [split3 fun j => fresh T c j, split3 fun j => done T c j]
  simp only [eL]
  rw [eS fun r => fresh T c (.inr (.inl r)), eS fun r => done T c (.inr (.inl r)), eS fun r => dutyTok ER (cell T (c, .inr (.inl r))) 0 (),
    eS fun r => dutyTok ER (cell T (T.peer r c, .inr (.inr r))) 0 (), eS fun r => dstAt (T.rs r) c (T.peer r c) m,
    eW fun r => fresh T c (.inr (.inr r)), eW fun r => done T c (.inr (.inr r)), eW fun r => pending T c (.inr (.inr r)),
    eW fun r => dstAt (T.rs r) (T.peer r c) c B]
  iintro ⟨⟨⟨%κ, #HR⟩, ⟨⟨Hf1, ⟨Hfs, Hfo⟩, ⟨Hfv, Hfw⟩⟩, ⟨Hpv, Hpw⟩, Ht1, ⟨Ht2, Ht2'⟩, ⟨Ht3, Ht3'⟩⟩, ⟨Hml, Hms, ⟨Hmd, Hmd'⟩⟩, HZ⟩, HO⟩
  iapply (wp_copies T B m defs 𝒱 c κ hB (owing T c (fs ++ ps.map K.out)) _ _ ls) $$ [Hml Ht1 HO]
  · isplitr; · iexact HR
    isplitl [Hml Ht1]
    · rw [e1]
      isplitl [Hml] <;> iassumption
    · iexact HO
  iintro ⟨Hp1, HO⟩
  iapply (wp_sends T B m defs 𝒱 c κ hB (ps.map K.out) _ _ fs) $$ [Hms Hmd Ht2 Ht3 HO]
  · isplitr; · iexact HR
    isplitl [Hms Hmd Ht2 Ht3]
    · unfold sendPre
      simp only [bigSepL_both]
      isplitl [Hms]; · iexact Hms
      isplitl [Hmd]; · iexact Hmd
      isplitl [Ht2] <;> iassumption
    · iexact HO
  iintro ⟨Hp2, HO⟩
  iapply (wp_passes T K B m defs 𝒱 c κ hB hP _ _ ps) $$ [Hpv Hfv Hmd' Ht2' Ht3' HO]
  · isplitr; · iexact HR
    isplitl [Hpv Hfv Hmd' Ht2' Ht3']
    · unfold sendPre
      simp only [bigSepL_both]
      isplitl [Hpv Hfv]
      · isplitl [Hpv] <;> iassumption
      isplitl [Hmd']; · iexact Hmd'
      isplitl [Ht2'] <;> iassumption
    · iexact HO
  rw [bigSepL_both]
  iintro ⟨⟨Hzv, Hpo⟩, HO⟩
  iapply (wp_gots T K B defs 𝒱 c κ _ _ ws) $$ [Hpw Hfw HO]
  · isplitr; · iexact HR
    isplitl [Hpw Hfw]
    · rw [bigSepL_both]
      isplitl [Hpw] <;> iassumption
    · iexact HO
  rw [bigSepL_both]
  iintro ⟨⟨Hzw, Hyw⟩, HO⟩
  iapply (wp_sents T B defs 𝒱 c κ _ _ (fs ++ ps.map K.out)) $$ [Hp2 Hpo Hfs Hfo HO]
  · isplitr; · iexact HR
    isplitl [Hp2 Hpo Hfs Hfo]
    · rw [bigSepL_both, bigSepL_append, bigSepL_append, bigSepL_map, bigSepL_map]
      isplitl [Hp2 Hpo]
      · isplitl [Hp2] <;> iassumption
      · isplitl [Hfs] <;> iassumption
    · iexact HO
  rw [bigSepL_both, bigSepL_append, bigSepL_append, bigSepL_map, bigSepL_map]
  iintro ⟨⟨⟨Hzs, Hzo⟩, ⟨-, Hyo⟩⟩, HO⟩
  iapply (wp_waitHere T B defs 𝒱 c κ _ _ ls) $$ [Hp1 Hf1 HO]
  · isplitr; · iexact HR
    isplitl [Hp1 Hf1]
    · rw [bigSepL_both]
      isplitl [Hp1] <;> iassumption
    · iexact HO
  rw [bigSepL_both]
  iintro ⟨⟨Hz1, Hy1⟩, HO⟩
  have hy1 : (bigSepL ls fun l => pay T B (c, .inl l) : sProp 𝕄) ⊢ bigSepL ls fun l => dstAt (T.ls l) c c B := by
    rw [show (fun l => pay T B (c, .inl l) : L → sProp 𝕄) = fun l => iprop(dstAt (T.ls l) c c B ∗ srcAt B (T.ls l) c) from rfl, bigSepL_both]
    exact sep_elim_left
  have hyo : (bigSepL ps fun p => srcAt B (T.rs (K.out p)) c : sProp 𝕄) = bigSepL ps fun p => dstAt (T.rs (K.via p)) (T.peer (K.via p) c) c B :=
    congrArg (bigSepL ps) (funext fun p => (hP p c).symm)
  ihave Hy1 := hy1 $$ Hy1
  ihave Hyo := (Entails.of_eq hyo) $$ Hyo
  unfold Runs; rw [wp_ret]; imodintro
  isplitr [HO]
  · isplitr [Hz1 Hzs Hzo Hzv Hzw]
    · isplitr [HZ]
      · isplitl [Hy1]; · iexact Hy1
        isplitl [Hyo] <;> iassumption
      · iexact HZ
    · isplitl [Hz1]; · iexact Hz1
      isplitl [Hzs Hzo]
      · isplitl [Hzs] <;> iassumption
      · isplitl [Hzv] <;> iassumption
  · iexact HO

end Body

/-! ## The run of a program that is one such exchange -/

section Whole

variable {A SL SF SP : Type} [Fintype A] [DecidableEq A] [Fintype SL] [DecidableEq SL] [Fintype SF] [DecidableEq SF] [Fintype SP] [DecidableEq SP]
variable (T : Talk nD sig (A × SL) (A × (SF ⊕ SP))) (K : Relay T (A × SP)) (inp out : A → Ref sig .tc) (m B : (ℓ : Loc nD τ sig) → Buf Val ℓ)

/-- A first transfer among all of them. -/
abbrev isFirst (x : A × SF) : A × (SF ⊕ SP) := (x.1, .inl x.2)

/-- The first transfers and those within a device read the inputs, each through the share dealt to it. -/
structure ReadsFirst : Prop where
  here : ∀ a s (c : Dev nD), (((c.tc : Thread nD τ).loc (inp a)) ↦[Finset.univ]{pieceOf (Unit ⊕ (SL ⊕ SF)) (.inr (.inl s))} m _ : sProp 𝕄) ⊢ srcAt B (T.ls (a, s)) c
  there : ∀ a s (c : Dev nD), (((c.tc : Thread nD τ).loc (inp a)) ↦[Finset.univ]{pieceOf (Unit ⊕ (SL ⊕ SF)) (.inr (.inr s))} m _ : sProp 𝕄) ⊢ srcAt B (T.rs (a, .inl s)) c

theorem relayMem_of_cut (hR : ReadsFirst T inp m B) (fs : List (A × SF)) (hf : Finset.univ = fs.toFinset) (hfn : fs.Nodup) (c : Dev nD) :
    iprop((bigSep Finset.univ fun a => bigSep Finset.univ fun x : SL ⊕ SF =>
          (((c.tc : Thread nD τ).loc (inp a)) ↦[Finset.univ]{pieceOf (Unit ⊕ (SL ⊕ SF)) (.inr x)} m _ : sProp 𝕄))
        ∗ bigSep Finset.univ fun a => dsts T m a c)
      ⊢ relayMem T B m c (fs.map isFirst) := by
  have hs (a : A) : (bigSep Finset.univ fun x : SL ⊕ SF => (((c.tc : Thread nD τ).loc (inp a)) ↦[Finset.univ]{pieceOf (Unit ⊕ (SL ⊕ SF)) (.inr x)} m _ : sProp 𝕄))
      ⊢ iprop((bigSep Finset.univ fun s => srcAt B (T.ls (a, s)) c) ∗ bigSep Finset.univ fun s => srcAt B (T.rs (a, .inl s)) c) := by
    rw [bigSep_univ_sum]
    exact Laws.sep_mono (bigSep_mono fun s _ => hR.here a s c) (bigSep_mono fun s _ => hR.there a s c)
  refine (Laws.sep_mono_left (show _ ⊢ (_ : sProp 𝕄) from bigSep_mono fun a _ => hs a)).trans ?_
  unfold dsts relayMem
  rw [bigSepL_map, ← bigSep_univ_eq_bigSepL fs hf hfn fun x => srcAt B (T.rs (isFirst x)) c,
    bigSep_univ_prod (fun l : A × SL => iprop(srcAt B (T.ls l) c ∗ dstAt (T.ls l) c c m)), bigSep_univ_prod (fun x : A × SF => srcAt B (T.rs (isFirst x)) c),
    bigSep_univ_prod (fun r : A × (SF ⊕ SP) => dstAt (T.rs r) c (T.peer r c) m)]
  simp only [bigSep_sep']
  iintro ⟨⟨H1, H2⟩, H3, H4⟩
  isplitl [H1 H3]
  · isplitl [H1] <;> iassumption
  isplitl [H2] <;> iassumption

variable {Λ₀ : Labels} (cfg : Cfg sig Λ₀) [IsEmpty (Fin cfg.W)]

/-- The run: the inputs are unchanged, the outputs are `B`'s, and every semaphore is back at zero. -/
theorem run_relay [∀ e, Nonempty (Val e)] (hN : cfg.N = 1)
    (phinj : Function.Injective (cellOf (nD := nD) (τ := τ) fun _ : Fin 1 => cfg)) (hw : Pipeline.WinFacts₀ cfg.spec)
    (hrest : ∀ c : Dev nD, (Pipeline.scopedRest (Ix := Unit) (Name := ℕ) (U := UU nD τ sig) (Lvl := ℕ) (Val := Val) cfg.spec c : sProp 𝕄) = BI.emp)
    (defs₀ : Defs nD τ sig Val Λ₀) (g : Dev nD → PrngReg)
    (main : Dev nD → Prog (TpuEff nD τ sig Val (Pipeline.Sig Λ₀ (Fin 1) fun _ => (cfg.toPCfg (Val := Val)).Adm) .tc) PUnit)
    (hmain : ∀ c, main c = .op (.customCall (Pipeline.entry (0 : Fin 1)) ()) fun _ => .ret ⟨⟩)
    (hsc : ∀ j, (osem T j).isScoped .tc = true)
    (ls : List (A × SL)) (fs : List (A × SF)) (ps : List (A × SP)) (ws : List (A × (SF ⊕ SP)))
    (hl : Finset.univ = ls.toFinset) (hln : ls.Nodup) (hf : Finset.univ = fs.toFinset) (hfn : fs.Nodup)
    (hr : Finset.univ = (fs.map isFirst ++ ps.map K.out).toFinset) (hrn : (fs.map isFirst ++ ps.map K.out).Nodup)
    (hv : Finset.univ = (ps.map K.via ++ ws).toFinset) (hvn : (ps.map K.via ++ ws).Nodup)
    (hinj : Function.Injective (Sum.elim inp out)) (huns : ∀ x, (Sum.elim inp out x).isScoped = false)
    (Z : ∀ a, Slots (τ := τ) (Val := Val) T a (out a)) (hB : Carries T B) (hP : PassesOn T K B) (hR : ReadsFirst T inp m B)
    (hbody : ∀ (c : Dev nD) (t : Fin cfg.N) (Q : PUnit → sProp (MT nD τ sig Unit Val ℕ (UU nD τ sig) ℕ)), Runs defs₀ Variants.none c Q (relay T K c ls (fs.map isFirst) ps ws)
      ⊢ wp frame (wpE defs₀ Variants.none (c.tc : Thread nD τ) none) Set.univ (defs₀ .tc cfg.body (cfg.bodyArgs t (cfg.slots t))) fun _ => Q ⟨⟩) :
    θ_run (Pipeline.defs (fun _ : Fin 1 => cfg.toPCfg (Val := Val)) defs₀) (onTc main) ⟨m, fun _ => 0, g⟩ (fun r =>
      (∀ a, ∀ d : Dev nD, r.2.mem ((d.tc : Thread nD τ).loc (inp a)) = m _ ∧ r.2.mem ((d.tc : Thread nD τ).loc (out a)) = B _)
      ∧ ∀ g' : GSem nD τ sig, (g'.1.2 ≠ .tc ∨ g'.2.isScoped .tc = true) → r.2.sem g' = 0) := by
  refine run_exchange T B cfg hN phinj hw hrest defs₀ m g main hmain hsc (fs.map isFirst ++ ps.map K.out) hrn (fun r => List.mem_toFinset.mp (hr ▸ Finset.mem_univ r))
    (fun c => iprop(relayMem T B m c (fs.map isFirst) ∗ keep inp (SL ⊕ SF) m c)) (fun c => iprop(written T B c ∗ keep inp (SL ⊕ SF) m c)) ?_
    (fun c t => (wp_relay T K B m defs₀ Variants.none c hB hP ls (fs.map isFirst) ps ws hl hln hr hrn hv hvn (keep inp (SL ⊕ SF) m c)).trans (hbody c t _))
    (fun μ => ∀ a, ∀ d : Dev nD, μ.mem ((d.tc : Thread nD τ).loc (inp a)) = m _ ∧ μ.mem ((d.tc : Thread nD τ).loc (out a)) = B _) fun s' => ?_
  · refine (arrays_cut inp out (SL ⊕ SF) hinj huns Z m).trans (bigSep_mono fun c _ => ?_)
    have hm := relayMem_of_cut T inp m B hR fs hf hfn c
    refine (show _ ⊢ (_ : sProp 𝕄) from ?_)
    iintro ⟨H1, H2, H3⟩
    isplitl [H1 H2]
    · iapply hm
      isplitl [H1] <;> iassumption
    · iexact H3
  · have he := read_end inp out (SL ⊕ SF) Z m B s'
    have hd := dsts_around (τ := τ) T B
    unfold written
    rw [bigSep_sep'] at he ⊢
    rw [hd]
    exact he

end Whole

end Cert.Exchange
-- ==== Proof.GatherRun.lean ====
module

public import proofs.«01_k».proof.Proof.Slot
public import proofs.«01_k».proof.Proof.Relay
public import proofs.«01_k».proof.Proof.Gen.GatherIdeal.Launch
public import proofs.«01_k».proof.Proof.Gen.GatherIdeal.Points

@[expose] public section

noncomputable section

/-!
The program that gathers the weights on every device: its transfers, and its run.  A device sends its eight matrices to
the other core of its chip and to the same core of the other chips, and passes what those send it on to the other core.
-/

namespace Cert.GatherIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Slot
open Cert.GatherIdeal Cert.GatherIdeal.Gen

variable {F : FTy → Type} [FloatOps F]

/-! ## The arrays -/

abbrev inp : Eight → Ref sig .tc
  | .a0 => main_arg0
  | .a1 => main_arg1
  | .a2 => main_arg2
  | .a3 => main_arg3
  | .a4 => main_arg4
  | .a5 => main_arg5
  | .a6 => main_arg6
  | .a7 => main_arg7
abbrev out : Eight → Ref sig .tc
  | .a0 => main_v1_0
  | .a1 => main_v1_1
  | .a2 => main_v1_2
  | .a3 => main_v1_3
  | .a4 => main_v1_4
  | .a5 => main_v1_5
  | .a6 => main_v1_6
  | .a7 => main_v1_7

/-- The rows and columns of an array's matrices. -/
abbrev rows : Eight → ℕ
  | .a0 | .a4 => 1024
  | .a1 | .a5 => 256
  | .a2 | .a6 => 1024
  | .a3 | .a7 => 704
abbrev cols : Eight → ℕ
  | .a0 | .a4 => 1792
  | .a1 | .a5 => 2048
  | .a2 | .a6 => 2816
  | .a3 | .a7 => 2048

/-- The matrices, and the stacks of all devices' matrices. -/
abbrev given : ∀ a, Memref sig .tc .hbm ⟨2, ![rows a, cols a]⟩ .bf16
  | .a0 => Memref.whole main_arg0
  | .a1 => Memref.whole main_arg1
  | .a2 => Memref.whole main_arg2
  | .a3 => Memref.whole main_arg3
  | .a4 => Memref.whole main_arg4
  | .a5 => Memref.whole main_arg5
  | .a6 => Memref.whole main_arg6
  | .a7 => Memref.whole main_arg7
abbrev taken : ∀ a, Memref sig .tc .hbm ⟨3, ![8, rows a, cols a]⟩ .bf16
  | .a0 => Memref.whole main_v1_0
  | .a1 => Memref.whole main_v1_1
  | .a2 => Memref.whole main_v1_2
  | .a3 => Memref.whole main_v1_3
  | .a4 => Memref.whole main_v1_4
  | .a5 => Memref.whole main_v1_5
  | .a6 => Memref.whole main_v1_6
  | .a7 => Memref.whole main_v1_7

theorem given_whole (a : Eight) : (given a).IsWhole := by cases a <;> exact Memref.isWhole_whole _
theorem taken_whole (a : Eight) : (taken a).IsWhole := by cases a <;> exact Memref.isWhole_whole _

/-- The names of the transfers to other devices: the four that start from the inputs, and the three passed on. -/
abbrev Name : Type := Fin 4 ⊕ Fin 3

/-- The device whose matrix device `c` receives as `k`, and device `c` itself, as the kernel computes them. -/
abbrev awayOf (c : Dev nD) : Name → ℕ
  | .inl k => ![k0_off17 c 0, k0_off5 c 0, k0_off9 c 0, k0_off13 c 0] k
  | .inr j => ![k0_off18 c 0, k0_off19 c 0, k0_off20 c 0] j

abbrev place (x : ℕ) : Fin 3 → ℕ := ![x, 0, 0]
abbrev one (a : Eight) : Shape := ⟨3, ![1, rows a, cols a]⟩
abbrev Stack (a : Eight) : Shape := ⟨3, ![8, rows a, cols a]⟩

theorem away_lt : ∀ c k, awayOf c k < 8 := by decide +kernel
theorem mine_lt : ∀ c, k0_off1 c 0 < 8 := by decide +kernel

abbrev away (c : Dev nD) (k : Name) : Fin 8 := ⟨awayOf c k, away_lt c k⟩
abbrev mine (c : Dev nD) : Fin 8 := ⟨k0_off1 c 0, mine_lt c⟩

/-- The device whose matrix device `c` sends as `k`: its own, or the one that it passes on. -/
abbrev sends (c : Dev nD) : Name → Fin 8
  | .inl _ => mine c
  | .inr j => away c (.inl j.succ)

theorem place_inb (a : Eight) (x : Fin 8) : ∀ y, place x.val y + (one a).size y ≤ (Stack a).size y
  | 0 => x.isLt
  | 1 => (Nat.zero_add _).le
  | 2 => (Nat.zero_add _).le
theorem words : ∀ a x, (Rect.unit (s := Stack a) (place x.val) (one a).size (place_inb a x)).WholeWords (EltTy.packing .bf16) := by decide +kernel
theorem squeezes : ∀ a, (one a).Squeezes ⟨2, ![rows a, cols a]⟩
  | .a0 | .a4 => squeezes_S1x1024x1792_S1024x1792
  | .a1 | .a5 => squeezes_S1x256x2048_S256x2048
  | .a2 | .a6 => squeezes_S1x1024x2816_S1024x2816
  | .a3 | .a7 => squeezes_S1x704x2048_S704x2048

/-- Device `x`'s place in the stack of array `a`. -/
abbrev slot (a : Eight) (x : Fin 8) := part (taken a) (place x.val) (place_inb a x) (squeezes a)

theorem slot_words (a : Eight) (x : Fin 8) : (slot a x).view.WordExact := ((taken_whole a).wordExact_slice rfl _ (words a x)).reshape _ _
theorem slot_credit (a : Eight) (x : Fin 8) : (slot a x).view.dmaCredit = (slot a 0).view.dmaCredit := rfl
theorem given_credit (a : Eight) : (given a).view.dmaCredit = (slot a 0).view.dmaCredit := by cases a <;> rfl
theorem slot_pos (a : Eight) : 0 < (slot a 0).view.dmaCredit := View.dmaCredit_pos _ (by cases a <;> decide)

/-! ## The transfers -/

abbrev mateOf (c : Dev nD) : Name → ℕ
  | .inl k => ![k0_dev1 c, k0_dev2 c, k0_dev3 c, k0_dev4 c] k
  | .inr _ => k0_dev1 c
theorem mate_lt : ∀ k c, mateOf c k < nD := by decide +kernel

/-- Where a transfer goes: the other core of the chip, or the same core of another chip, as the kernel computes it. -/
abbrev mate (k : Name) (c : Dev nD) : Dev nD := ⟨mateOf c k, mate_lt k c⟩

abbrev shareHere : PosShare TreeShare := pieceOf (Unit ⊕ (Unit ⊕ Fin 4)) (.inr (.inl ()))
abbrev shareThere : Name → PosShare TreeShare
  | .inl k => pieceOf (Unit ⊕ (Unit ⊕ Fin 4)) (.inr (.inr k))
  | .inr _ => fullShare

abbrev move (a : Eight) : Xfer nD sig where
  s := ⟨2, ![rows a, cols a]⟩
  e := .bf16
  src _ := given a
  dst c := slot a (mine c)
  hsrc _ := (given_whole a).wordExact
  hdst c := slot_words a (mine c)
  share := shareHere
  N := (slot a 0).view.dmaCredit
  hN _ := rfl
  hN' _ := given_credit a
  pos := slot_pos a
  hsc _ := by cases a <;> rfl

abbrev source (a : Eight) (c : Dev nD) : Name → Memref sig .tc .hbm ⟨2, ![rows a, cols a]⟩ .bf16
  | .inl _ => given a
  | .inr j => slot a (away c (.inl j.succ))

abbrev send (a : Eight) (k : Name) : Xfer nD sig where
  s := ⟨2, ![rows a, cols a]⟩
  e := .bf16
  src c := source a c k
  dst c := slot a (sends c k)
  hsrc c := match k with
    | .inl _ => (given_whole a).wordExact
    | .inr j => slot_words a (away c (.inl j.succ))
  hdst c := slot_words a (sends c k)
  share := shareThere k
  N := (slot a 0).view.dmaCredit
  hN _ := rfl
  hN' _ := match k with
    | .inl _ => given_credit a
    | .inr _ => rfl
  pos := slot_pos a
  hsc _ := by cases a <;> rfl

abbrev number : Eight → Fin 8
  | .a0 => 0 | .a1 => 1 | .a2 => 2 | .a3 => 3 | .a4 => 4 | .a5 => 5 | .a6 => 6 | .a7 => 7

abbrev count : Name → Fin 7
  | .inl k => ![0, 1, 2, 3] k
  | .inr j => ![4, 5, 6] j

theorem sem_inb : ∀ (a : Eight) (k : Name) x, (![(number a).val, (count k).val] : Fin 2 → ℕ) x + S1x1.size x ≤ S8x7.size x := by decide +kernel
theorem sem_inb' : ∀ (a : Eight) x, (![(number a).val] : Fin 1 → ℕ) x + S1.size x ≤ S8.size x := by decide +kernel

/-- One of the fifty-six semaphores of an array of them, and one of eight. -/
abbrev pick (b : DmaSems sig S8x7) (a : Eight) (k : Name) : DmaSem sig :=
  ((b.slice (Rect.unit (s := S8x7) ![(number a).val, (count k).val] S1x1.size (sem_inb a k))).squeeze S_ squeezes_S1x1_S_).sem
abbrev pick' (b : DmaSems sig S8) (a : Eight) : DmaSem sig :=
  ((b.slice (Rect.unit (s := S8) ![(number a).val] S1.size (sem_inb' a))).squeeze S_ squeezes_S1_S_).sem

abbrev semOf : (Eight × Unit) ⊕ (Eight × Name) ⊕ (Eight × Name) → DmaSem sig
  | .inl (a, _) => pick' cc0_scratch2 a
  | .inr (.inl (a, k)) => pick cc0_scratch0 a k
  | .inr (.inr (a, k)) => pick cc0_scratch1 a k

theorem mate_mate : ∀ k c, mate k (mate k c) = c := by decide +kernel

abbrev talk : Talk nD sig (Eight × Unit) (Eight × Name) where
  ls l := move l.1
  rs r := send r.1 r.2
  sem := semOf
  sem_inj := by decide +kernel
  peer r := mate r.2
  peer_peer r := mate_mate r.2
  lev r := match r.2 with
    | .inl _ => 1
    | .inr _ => 2
  lev_pos r := by
    rcases r with ⟨a, k | j⟩
    · exact Nat.one_pos
    · exact Nat.two_pos

/-- What comes from the same core of another chip goes on to the other core. -/
abbrev passed : Relay talk (Eight × Fin 3) where
  out p := (p.1, .inr p.2)
  via p := (p.1, .inl p.2.succ)
  got r c := slot r.1 (away c r.2)
  got_words r c := slot_words r.1 (away c r.2)
  got_N _ _ := rfl
  later _ _ := Nat.one_lt_two

def eight : List Eight := [.a0, .a1, .a2, .a3, .a4, .a5, .a6, .a7]
def locals : List (Eight × Unit) := eight.map fun a => (a, ())
def firsts : List (Eight × Fin 4) := eight.flatMap fun a => [(a, 0), (a, 1), (a, 2), (a, 3)]
def passes : List (Eight × Fin 3) := [0, 1, 2].flatMap fun j => eight.map fun a => (a, j)
def rest : List (Eight × Name) := eight.flatMap fun a => [(a, .inl 0), (a, .inr 0), (a, .inr 1), (a, .inr 2)]

/-- The kernel's body starts its first transfers, passes on what is to be passed on, then waits for all that is left. -/
theorem body_eq (t : Fin cfg0.N) : defs₀ (F := F) .tc cfg0.body (cfg0.bodyArgs t (cfg0.slots t)) = .op .deviceId fun c => relay talk passed c locals (firsts.map isFirst) passes rest := rfl

/-! ## What the run leaves -/

/-- The device that a place of a stack belongs to. -/
def dev (x : Fin 8) : Dev nD := ⟨x.val, x.isLt⟩

theorem dev_mine : ∀ c, dev (mine c) = c := by decide +kernel
theorem passed_on : ∀ c (j : Fin 3), mine (mate (.inl j.succ) c) = away c (.inl j.succ) := by decide +kernel

section Values

variable (m : (ℓ : Loc nD τ sig) → Buf (Elt F) ℓ)

/-- What every device's output `a` ends at: all devices' matrices. -/
def result (a : Eight) (d : Dev nD) : Buf (Elt F) ((d.tc : Thread nD τ).loc (out a)) :=
  match a with
  | .a0 => fun i => m (((dev (i 0)).tc : Thread nD τ).loc main_arg0) (below i)
  | .a1 => fun i => m (((dev (i 0)).tc : Thread nD τ).loc main_arg1) (below i)
  | .a2 => fun i => m (((dev (i 0)).tc : Thread nD τ).loc main_arg2) (below i)
  | .a3 => fun i => m (((dev (i 0)).tc : Thread nD τ).loc main_arg3) (below i)
  | .a4 => fun i => m (((dev (i 0)).tc : Thread nD τ).loc main_arg4) (below i)
  | .a5 => fun i => m (((dev (i 0)).tc : Thread nD τ).loc main_arg5) (below i)
  | .a6 => fun i => m (((dev (i 0)).tc : Thread nD τ).loc main_arg6) (below i)
  | .a7 => fun i => m (((dev (i 0)).tc : Thread nD τ).loc main_arg7) (below i)

/-- The memory at the end. -/
def final : (ℓ : Loc nD τ sig) → Buf (Elt F) ℓ := overlay out (result m) m

theorem inj : Function.Injective (Sum.elim inp out) := by decide +kernel

theorem final_out (a : Eight) (d : Dev nD) : final m ((d.tc : Thread nD τ).loc (out a)) = result m a d :=
  overlay_out out (result m) m (fun _ _ h => Sum.inr.inj (inj h)) a d
theorem final_in (a : Eight) (d : Dev nD) : final m ((d.tc : Thread nD τ).loc (inp a)) = m _ :=
  overlay_other out (result m) m (inp a) (fun a' h => Sum.inl_ne_inr (inj (a₁ := .inl a) (a₂ := .inr a') h.symm)) d

/-- Device `x`'s place, on any device, reads as device `x`'s matrix. -/
theorem slot_read (a : Eight) (x : Fin 8) (d : Dev nD) :
    (slot a x).view.read (Elt F) (final m ((slot a x).view.loc (d.tc : Thread nD τ)))
      = (given a).view.read (Elt F) (final m ((given a).view.loc ((dev x).tc : Thread nD τ))) := by
  funext y
  have h1 := final_out m a d
  have h2 := final_in m a (dev x)
  refine (read_part (taken a) (place x.val) (place_inb a x) (squeezes a) _ y (above x y) rfl (Nat.zero_add _).symm (Nat.zero_add _).symm).trans ?_
  cases a <;> exact (congrFun h1 _).trans ((congrArg _ (below_above x y)).trans (congrFun h2 _).symm)

theorem carries : Carries talk (final m) where
  here l c := by
    have h := slot_read m l.1 (mine c) c
    rw [dev_mine] at h
    exact h
  there r c := by
    rcases r with ⟨a, k | j⟩
    · have h := slot_read m a (mine c) (mate (.inl k) c)
      rw [dev_mine] at h
      exact h
    · exact (slot_read m a (away c (.inl j.succ)) (mate (.inr j) c)).trans (slot_read m a (away c (.inl j.succ)) c).symm

theorem passes_on : PassesOn talk passed (final m) := fun p c => by
  show dstAt (send p.1 (.inl p.2.succ)) (mate (.inl p.2.succ) c) c (final m) = srcAt (final m) (send p.1 (.inr p.2)) c
  have e := passed_on c p.2
  have h : ∀ x x' : Fin 8, x = x' → ((slot p.1 x).view.loc (c.tc : Thread nD τ) ↦[(slot p.1 x).view.set]{fullShare} final m _ : sProp (MT nD τ sig Unit (Elt F) ℕ (UU nD τ sig) ℕ))
      = ((slot p.1 x').view.loc (c.tc : Thread nD τ) ↦[(slot p.1 x').view.set]{fullShare} final m _) := fun x x' hx => by subst hx; rfl
  exact h _ _ e

theorem reads : ReadsFirst talk inp m (final m) where
  here a _ c := by
    have h := final_in m a c
    cases a <;> exact narrow _ h
  there a _ c := by
    have h := final_in m a c
    cases a <;> exact narrow _ h

/-! ## The outputs, cut by their writers -/

/-- Where a device writes, and whose matrix. -/
def goal : Dev nD × (Unit ⊕ Name) → Dev nD × Fin 8
  | (c, .inl _) => (c, mine c)
  | (c, .inr k) => (mate k c, sends c k)

theorem goal_bij : Function.Bijective goal := by decide +kernel

def lead (a : Eight) : (Proc.devRef (τ := τ) .tc (out a)).ty.Idx → Fin 8 :=
  match a with
  | .a0 | .a1 | .a2 | .a3 | .a4 | .a5 | .a6 | .a7 => fun i => i 0

/-- The elements of device `x`'s place. -/
def elements (a : Eight) (x : Fin 8) : Finset (Proc.devRef (τ := τ) .tc (out a)).ty.Idx :=
  match a with
  | .a0 => (slot .a0 x).view.set
  | .a1 => (slot .a1 x).view.set
  | .a2 => (slot .a2 x).view.set
  | .a3 => (slot .a3 x).view.set
  | .a4 => (slot .a4 x).view.set
  | .a5 => (slot .a5 x).view.set
  | .a6 => (slot .a6 x).view.set
  | .a7 => (slot .a7 x).view.set

theorem mem_elements (a : Eight) (x : Fin 8) (i : (Proc.devRef (τ := τ) .tc (out a)).ty.Idx) : i ∈ elements a x ↔ lead a i = x := by
  have h := mem_matrix (taken a) (place x.val) (place_inb a x) (squeezes a) rfl rfl rfl rfl
  cases a <;> exact (h i).trans Fin.ext_iff.symm

def slots (a : Eight) : Slots (τ := τ) (Val := Elt F) talk a (out a) where
  K := Fin 8
  fintype := inferInstance
  decEq := inferInstance
  lead := lead a
  target := Equiv.ofBijective goal goal_bij
  S c j := elements a (goal (c, j)).2
  hS c j i := mem_elements a _ i
  here c _ V := by cases a <;> rfl
  there c k V := by cases a <;> rfl

theorem body_runs (c : Dev nD) (t : Fin cfg0.N) (Q : PUnit → sProp (MT nD τ sig Unit (Elt F) ℕ (UU nD τ sig) ℕ)) :
    Runs (defs₀ (F := F)) Variants.none c Q (relay talk passed c locals (firsts.map isFirst) passes rest)
      ⊢ wp frame (wpE (defs₀ (F := F)) Variants.none (c.tc : Thread nD τ) none) Set.univ (defs₀ .tc cfg0.body (cfg0.bodyArgs t (cfg0.slots t))) fun _ => Q ⟨⟩ := by
  rw [body_eq, wp_deviceId]

/-- The run: every device's arrays are as they were, its outputs hold all devices' matrices,
    and every semaphore is back at zero. -/
theorem run_main (g : Dev nD → PrngReg) :
    θ_run (defs (F := F)) (onTc main) ⟨m, fun _ => 0, g⟩ (fun r =>
      (∀ a, ∀ d : Dev nD, r.2.mem ((d.tc : Thread nD τ).loc (inp a)) = m _ ∧ r.2.mem ((d.tc : Thread nD τ).loc (out a)) = result m a d)
      ∧ ∀ g' : GSem nD τ sig, (g'.1.2 ≠ .tc ∨ g'.2.isScoped .tc = true) → r.2.sem g' = 0) := by
  haveI : IsEmpty (Fin cfg0.W) := (inferInstance : IsEmpty (Fin 0))
  have h := run_relay talk passed inp out m (final m) cfg0 N_0 cellOf_inj winFacts0.to₀ scopedRest0_eq (defs₀ (F := F)) g main (fun _ => rfl)
    (by decide +kernel) locals firsts passes rest (by decide +kernel) (by decide +kernel) (by decide +kernel) (by decide +kernel) (by decide +kernel) (by decide +kernel)
    (by decide +kernel) (by decide +kernel) inj (by decide +kernel) slots (carries m) (passes_on m) (reads m) fun c t Q => by
      have h := body_runs (F := F) c t Q
      generalize relay talk passed c locals (firsts.map isFirst) passes rest = X at h ⊢
      exact h
  simp only [final_out] at h
  exact h

end Values

end Cert.GatherIdeal.Own
-- ==== Proof.Blocks.lean ====
module

public import proofs.«01_k».proof.Proof.Slot
public import Idealize.ShloMosaic.Lib.Layout
public import Idealize.ShloMosaic.Lib.Pipeline.Value

@[expose] public section

noncomputable section

/-!
The arrays of the eight devices as parts of whole arrays: what each device of the mesh holds of a matrix cut by
columns over the four chips and by rows over a chip's two cores, or by rows over all eight; and of a stack of matrices.
-/

namespace Cert.Slot

open Idealize.ShloMosaic

variable {α : Type} {r n R N : ℕ}

/-- A device's places on the three axes of the mesh. -/
theorem coord0 (c : ℕ) : Layout.meshCoord [2, 2, 2] c 0 = c / 4 % 2 := rfl
theorem coord1 (c : ℕ) : Layout.meshCoord [2, 2, 2] c 1 = c / 2 % 2 := rfl
theorem coord2 (c : ℕ) : Layout.meshCoord [2, 2, 2] c 2 = c % 2 := by show c / 1 % 2 = c % 2; omega

theorem chip_lin (c : Fin 8) : Layout.meshLin [2, 2, 2] c.val [0, 1] = c.val / 2 := by
  show Layout.meshCoord [2, 2, 2] c.val 0 * 2 + (Layout.meshCoord [2, 2, 2] c.val 1 * 1 + 0) = _
  rw [coord0, coord1]; omega

theorem core_lin (c : Fin 8) : Layout.meshLin [2, 2, 2] c.val [2] = c.val % 2 := by
  show Layout.meshCoord [2, 2, 2] c.val 2 * 1 + 0 = _
  rw [coord2]; omega

/-- The device of `d`'s chip whose core is `k`. -/
def onChip (d : Fin 8) (k : Fin 2) : Fin 8 := ⟨2 * (d.val / 2) + k.val, by have := d.isLt; have := k.isLt; omega⟩

/-- The two halves of rows of a chip's columns, from the whole matrix. -/
theorem halves_cols (v : (⟨2, ![R, N]⟩ : Shape).Idx → α)
    (h2 : Layout.TilesN ⟨2, ![r, n]⟩ ⟨2, ![R, N]⟩ fun b => Layout.cutSize [2, 2, 2] ((![[2], [0, 1]] : Fin 2 → List ℕ) b))
    (h3 : Layout.TilesN ⟨3, ![2, r, n]⟩ ⟨3, ![2, r, N]⟩ fun b => Layout.cutSize [2, 2, 2] ((![[], [], [0, 1]] : Fin 3 → List ℕ) b))
    (hs : (⟨2, ![R, N]⟩ : Shape).ShapeCasts ⟨3, ![2, r, N]⟩) (d : Fin 8) (i : (⟨3, ![2, r, n]⟩ : Shape).Idx) :
    Layout.blockN ⟨2, ![r, n]⟩ ⟨2, ![R, N]⟩ (Layout.meshBlock [2, 2, 2] ![[2], [0, 1]] (onChip d (i 0))) v h2 (below i)
      = Layout.blockN ⟨3, ![2, r, n]⟩ ⟨3, ![2, r, N]⟩ (Layout.meshBlock [2, 2, 2] ![[], [], [0, 1]] d) (shapeCast _ v hs) h3 i := by
  rw [Layout.blockN_apply, Layout.blockN_apply]
  refine (shapeCast_apply v hs _ _ ?_).symm
  rw [Shape.rowMajor_val_two, Shape.rowMajor_val_three]
  have e0 : (i 0).val < 2 := (i 0).isLt
  have a0 : (h2.idx (Layout.meshBlock [2, 2, 2] ![[2], [0, 1]] (onChip d (i 0))) (below i) 0).val = (i 0).val * r + (i 1).val := by
    show Layout.meshLin [2, 2, 2] (onChip d (i 0)).val [2] * r + (i 1).val = _
    rw [core_lin]; show (2 * (d.val / 2) + (i 0).val) % 2 * r + _ = _
    congr 2; omega
  have a1 : (h2.idx (Layout.meshBlock [2, 2, 2] ![[2], [0, 1]] (onChip d (i 0))) (below i) 1).val = d.val / 2 * n + (i 2).val := by
    show Layout.meshLin [2, 2, 2] (onChip d (i 0)).val [0, 1] * n + (i 2).val = _
    rw [chip_lin]; show (2 * (d.val / 2) + (i 0).val) / 2 * n + _ = _
    congr 2; omega
  have b0 : (h3.idx (Layout.meshBlock [2, 2, 2] ![[], [], [0, 1]] d) i 0).val = (i 0).val := by
    show 0 * 2 + (i 0).val = _; omega
  have b1 : (h3.idx (Layout.meshBlock [2, 2, 2] ![[], [], [0, 1]] d) i 1).val = (i 1).val := by
    show 0 * r + (i 1).val = _; omega
  have b2 : (h3.idx (Layout.meshBlock [2, 2, 2] ![[], [], [0, 1]] d) i 2).val = d.val / 2 * n + (i 2).val := by
    show Layout.meshLin [2, 2, 2] d.val [0, 1] * n + (i 2).val = _
    rw [chip_lin]
  rw [a0, a1, b0, b1, b2]
  rfl

/-- The two runs of rows of a chip, from the whole matrix. -/
theorem halves_rows (v : (⟨2, ![R, n]⟩ : Shape).Idx → α)
    (h2 : Layout.Tiles ⟨2, ![r, n]⟩ ⟨2, ![R, n]⟩ 0 8)
    (h3 : Layout.TilesN ⟨3, ![2, r, n]⟩ ⟨3, ![8, r, n]⟩ fun b => Layout.cutSize [2, 2, 2] ((![[0, 1], [], []] : Fin 3 → List ℕ) b))
    (hs : (⟨2, ![R, n]⟩ : Shape).ShapeCasts ⟨3, ![8, r, n]⟩) (d : Fin 8) (i : (⟨3, ![2, r, n]⟩ : Shape).Idx) :
    Layout.block ⟨2, ![r, n]⟩ ⟨2, ![R, n]⟩ 0 8 (onChip d (i 0)) v h2 (below i)
      = Layout.blockN ⟨3, ![2, r, n]⟩ ⟨3, ![8, r, n]⟩ (Layout.meshBlock [2, 2, 2] ![[0, 1], [], []] d) (shapeCast _ v hs) h3 i := by
  rw [Layout.block_apply, Layout.blockN_apply]
  refine (shapeCast_apply v hs _ _ ?_).symm
  rw [Shape.rowMajor_val_two, Shape.rowMajor_val_three]
  have a0 : (h2.idx (onChip d (i 0)) (below i) 0).val = (2 * (d.val / 2) + (i 0).val) * r + (i 1).val := rfl
  have a1 : (h2.idx (onChip d (i 0)) (below i) 1).val = (i 2).val := rfl
  have b0 : (h3.idx (Layout.meshBlock [2, 2, 2] ![[0, 1], [], []] d) i 0).val = 2 * (d.val / 2) + (i 0).val := by
    show Layout.meshLin [2, 2, 2] d.val [0, 1] * 2 + (i 0).val = _
    rw [chip_lin]; omega
  have b1 : (h3.idx (Layout.meshBlock [2, 2, 2] ![[0, 1], [], []] d) i 1).val = (i 1).val := by
    show 0 * r + (i 1).val = _; omega
  have b2 : (h3.idx (Layout.meshBlock [2, 2, 2] ![[0, 1], [], []] d) i 2).val = (i 2).val := by
    show 0 * n + (i 2).val = _; omega
  rw [a0, a1, b0, b1, b2]
  rfl

/-- A chip's columns in two halves of rows, on every device of it, are a part of the whole matrix in two halves of rows. -/
theorem cols {x : Fin 8 → (⟨2, ![r, n]⟩ : Shape).Idx → α} {v : (⟨2, ![R, N]⟩ : Shape).Idx → α}
    {h2 : Layout.TilesN ⟨2, ![r, n]⟩ ⟨2, ![R, N]⟩ fun b => Layout.cutSize [2, 2, 2] ((![[2], [0, 1]] : Fin 2 → List ℕ) b)}
    {h3 : Layout.TilesN ⟨3, ![2, r, n]⟩ ⟨3, ![2, r, N]⟩ fun b => Layout.cutSize [2, 2, 2] ((![[], [], [0, 1]] : Fin 3 → List ℕ) b)}
    {hs : (⟨2, ![R, N]⟩ : Shape).ShapeCasts ⟨3, ![2, r, N]⟩}
    (hx : ∀ d, x d = Layout.blockN ⟨2, ![r, n]⟩ ⟨2, ![R, N]⟩ (Layout.meshBlock [2, 2, 2] ![[2], [0, 1]] d) v h2) (d : Fin 8) :
    (fun i : (⟨3, ![2, r, n]⟩ : Shape).Idx => x (onChip d (i 0)) (below i))
      = Layout.blockN ⟨3, ![2, r, n]⟩ ⟨3, ![2, r, N]⟩ (Layout.meshBlock [2, 2, 2] ![[], [], [0, 1]] d) (shapeCast _ v hs) h3 := by
  funext i
  rw [hx]
  exact halves_cols v h2 h3 hs d i

/-- A chip's two runs of rows, on every device of it, are a part of the whole matrix in eight runs of rows. -/
theorem rows {x : Fin 8 → (⟨2, ![r, n]⟩ : Shape).Idx → α} {v : (⟨2, ![R, n]⟩ : Shape).Idx → α}
    {h2 : Layout.Tiles ⟨2, ![r, n]⟩ ⟨2, ![R, n]⟩ 0 8}
    {h3 : Layout.TilesN ⟨3, ![2, r, n]⟩ ⟨3, ![8, r, n]⟩ fun b => Layout.cutSize [2, 2, 2] ((![[0, 1], [], []] : Fin 3 → List ℕ) b)}
    {hs : (⟨2, ![R, n]⟩ : Shape).ShapeCasts ⟨3, ![8, r, n]⟩}
    (hx : ∀ d, x d = Layout.block ⟨2, ![r, n]⟩ ⟨2, ![R, n]⟩ 0 8 d v h2) (d : Fin 8) :
    (fun i : (⟨3, ![2, r, n]⟩ : Shape).Idx => x (onChip d (i 0)) (below i))
      = Layout.blockN ⟨3, ![2, r, n]⟩ ⟨3, ![8, r, n]⟩ (Layout.meshBlock [2, 2, 2] ![[0, 1], [], []] d) (shapeCast _ v hs) h3 := by
  funext i
  rw [hx]
  exact halves_rows v h2 h3 hs d i

end Cert.Slot

end
-- ==== Proof.Stacks.lean ====
module

public import proofs.«01_k».proof.Proof.Blocks
public import Idealize.ShloMosaic.Lib.ValueIdxRank6

@[expose] public section

noncomputable section

/-!
The reference's results read at one element, for stacks of matrices: the two cores of each chip with the halves of their
rows exchanged, the four chips with their matrices exchanged, and all eight devices' blocks side by side.
-/

namespace Cert.Slot

open Idealize.ShloMosaic Idealize.ShloMosaic.ValueIdx

variable {α : Type} {r n R N : ℕ}

/-- One core's half of the rows of every matrix, taken from each chip. -/
theorem one_half (v : (⟨3, ![32, R, n]⟩ : Shape).Idx → α) (hR : R = 2 * r) (a b : ℕ) (ha : a < 2) (hb : b < 2)
    (h1 : (⟨3, ![32, R, n]⟩ : Shape).ShapeCasts ⟨6, ![4, 2, 4, 2, r, n]⟩)
    (h2 : (⟨6, ![4, 2, 4, 2, r, n]⟩ : Shape).Slices ![0, a, 0, b, 0, 0] ⟨6, ![4, 1, 4, 1, r, n]⟩)
    (h3 : (⟨6, ![4, 1, 4, 1, r, n]⟩ : Shape).ShapeCasts ⟨4, ![4, 4, r, n]⟩)
    (h4 : (⟨4, ![4, 4, r, n]⟩ : Shape).BroadcastsInDim ⟨5, ![4, 1, 4, r, n]⟩ ![0, 2, 3, 4])
    (p s : Fin 4) (i : Fin r) (j : Fin n) (k : (⟨3, ![32, R, n]⟩ : Shape).Idx)
    (k0 : (k 0).val = 8 * p.val + 4 * a + s.val) (k1 : (k 1).val = b * r + i.val) (k2 : (k 2).val = j.val) :
    broadcastInDim ⟨5, ![4, 1, 4, r, n]⟩ ![0, 2, 3, 4] h4
        (shapeCast _ (extractStridedSlice ⟨6, ![4, 1, 4, 1, r, n]⟩ ![0, a, 0, b, 0, 0] (shapeCast _ v h1) h2) h3) (ix5 p 0 s i j)
      = v k := by
  refine (broadcastInDim_apply ![0, 2, 3, 4] h4 _ _ (ix4 p s i j) ?_).trans ?_
  · intro x
    match x with
    | ⟨0, _⟩ => rfl
    | ⟨1, _⟩ => rfl
    | ⟨2, _⟩ => show i.val = if r = 1 then 0 else i.val; split <;> omega
    | ⟨3, _⟩ => show j.val = if n = 1 then 0 else j.val; split <;> omega
  refine (shapeCast_apply _ h3 _ (ix6 p 0 s 0 i j) ?_).trans ?_
  · rw [Shape.rowMajor_val_six, Shape.rowMajor_val_four]
    show (((((p.val * 1 + 0) * 4 + s.val) * 1 + 0) * r + i.val) * n + j.val) = ((p.val * 4 + s.val) * r + i.val) * n + j.val
    simp only [Nat.mul_one, Nat.add_zero]
  refine (extractStridedSlice_apply _ _ h2 _ (ix6 p ⟨a, ha⟩ s ⟨b, hb⟩ i j) ?_).trans ?_
  · intro x
    match x with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm
    | ⟨5, _⟩ => exact (Nat.zero_add _).symm
  refine shapeCast_apply _ h1 _ k ?_
  rw [Shape.rowMajor_val_six, Shape.rowMajor_val_three, k0, k1, k2]
  show ((8 * p.val + 4 * a + s.val) * R + (b * r + i.val)) * n + j.val = ((((p.val * 2 + a) * 4 + s.val) * 2 + b) * r + i.val) * n + j.val
  rw [hR, show (p.val * 2 + a) * 4 + s.val = 8 * p.val + 4 * a + s.val by omega, Nat.add_mul _ b r, Nat.mul_assoc _ 2 r, Nat.add_assoc (_ * (2 * r))]

/-- The reference's halves exchanged, at one element. -/
theorem crossed (v : (⟨3, ![32, R, n]⟩ : Shape).Idx → α) (hR : R = 2 * r)
    (h1 : (⟨3, ![32, R, n]⟩ : Shape).ShapeCasts ⟨6, ![4, 2, 4, 2, r, n]⟩)
    (h2 : (⟨6, ![4, 2, 4, 2, r, n]⟩ : Shape).Slices ![0, 1, 0, 0, 0, 0] ⟨6, ![4, 1, 4, 1, r, n]⟩)
    (h2' : (⟨6, ![4, 2, 4, 2, r, n]⟩ : Shape).Slices ![0, 0, 0, 1, 0, 0] ⟨6, ![4, 1, 4, 1, r, n]⟩)
    (h3 : (⟨6, ![4, 1, 4, 1, r, n]⟩ : Shape).ShapeCasts ⟨4, ![4, 4, r, n]⟩)
    (h4 : (⟨4, ![4, 4, r, n]⟩ : Shape).BroadcastsInDim ⟨5, ![4, 1, 4, r, n]⟩ ![0, 2, 3, 4])
    (h5 : Shape.Concatenates [⟨5, ![4, 1, 4, r, n]⟩, ⟨5, ![4, 1, 4, r, n]⟩] ⟨5, ![4, 2, 4, r, n]⟩ 1)
    (h6 : (⟨5, ![4, 2, 4, r, n]⟩ : Shape).ShapeCasts ⟨3, ![32, r, n]⟩)
    (d : Fin 8) (s : Fin 4) (i : (⟨3, ![32, r, n]⟩ : Shape).Idx) (hi : (i 0).val = 4 * d.val + s.val) (k : (⟨3, ![32, R, n]⟩ : Shape).Idx)
    (k0 : (k 0).val = 8 * (d.val / 2) + 4 * (1 - d.val % 2) + s.val) (k1 : (k 1).val = d.val % 2 * r + (i 1).val) (k2 : (k 2).val = (i 2).val) :
    shapeCast _ (concatenate ⟨5, ![4, 2, 4, r, n]⟩ 1
        [⟨⟨5, ![4, 1, 4, r, n]⟩, broadcastInDim ⟨5, ![4, 1, 4, r, n]⟩ ![0, 2, 3, 4] h4
          (shapeCast _ (extractStridedSlice ⟨6, ![4, 1, 4, 1, r, n]⟩ ![0, 1, 0, 0, 0, 0] (shapeCast _ v h1) h2) h3)⟩,
         ⟨⟨5, ![4, 1, 4, r, n]⟩, broadcastInDim ⟨5, ![4, 1, 4, r, n]⟩ ![0, 2, 3, 4] h4
          (shapeCast _ (extractStridedSlice ⟨6, ![4, 1, 4, 1, r, n]⟩ ![0, 0, 0, 1, 0, 0] (shapeCast _ v h1) h2') h3)⟩] h5) h6 i
      = v k := by
  have hd := d.isLt
  refine (shapeCast_apply _ h6 i (ix5 (⟨d.val / 2, by omega⟩ : Fin 4) (⟨d.val % 2, by omega⟩ : Fin 2) s (i 1) (i 2)) ?_).trans ?_
  · rw [Shape.rowMajor_val_five, Shape.rowMajor_val_three, hi]
    show (((d.val / 2 * 2 + d.val % 2) * 4 + s.val) * r + (i 1).val) * n + (i 2).val = ((4 * d.val + s.val) * r + (i 1).val) * n + (i 2).val
    rw [show d.val / 2 * 2 + d.val % 2 = d.val by omega, Nat.mul_comm d.val 4]
  rcases Nat.mod_two_eq_zero_or_one d.val with h | h
  · refine (concatenate_pair_apply_left _ _ _ h5 _ rfl (ix5 (⟨d.val / 2, by omega⟩ : Fin 4) (0 : Fin 1) s (i 1) (i 2)) ?_).trans ?_
    · intro x
      match x with
      | ⟨0, _⟩ => rfl
      | ⟨1, _⟩ => exact h.symm
      | ⟨2, _⟩ => rfl
      | ⟨3, _⟩ => rfl
      | ⟨4, _⟩ => rfl
    · exact one_half v hR 1 0 (by omega) (by omega) h1 h2 h3 h4 _ s (i 1) (i 2) k (by rw [k0, h]) (by rw [k1, h]) k2
  · refine (concatenate_pair_apply_right _ _ _ h5 _ rfl rfl (ix5 (⟨d.val / 2, by omega⟩ : Fin 4) (0 : Fin 1) s (i 1) (i 2)) ?_ ?_).trans ?_
    · intro x
      match x with
      | ⟨0, _⟩ => exact fun _ => rfl
      | ⟨1, _⟩ => exact fun hx => absurd rfl hx
      | ⟨2, _⟩ => exact fun _ => rfl
      | ⟨3, _⟩ => exact fun _ => rfl
      | ⟨4, _⟩ => exact fun _ => rfl
    · show 0 + 1 = d.val % 2; omega
    · exact one_half v hR 0 1 (by omega) (by omega) h1 h2' h3 h4 _ s (i 1) (i 2) k (by rw [k0, h]) (by rw [k1, h]) k2

/-- The other core of device `d`'s chip. -/
def across (d : Fin 8) : Fin 8 := ⟨2 * (d.val / 2) + (1 - d.val % 2), by have := d.isLt; omega⟩

/-- The halves exchanged between the cores of a chip are the reference's. -/
theorem swapped {x : Fin 8 → (⟨3, ![4, 2 * r, n]⟩ : Shape).Idx → α} {v : (⟨3, ![32, 2 * r, n]⟩ : Shape).Idx → α}
    {hx : Layout.Tiles ⟨3, ![4, 2 * r, n]⟩ ⟨3, ![32, 2 * r, n]⟩ 0 8} {hy : Layout.Tiles ⟨3, ![4, r, n]⟩ ⟨3, ![32, r, n]⟩ 0 8}
    {h1 : (⟨3, ![32, 2 * r, n]⟩ : Shape).ShapeCasts ⟨6, ![4, 2, 4, 2, r, n]⟩}
    {h2 : (⟨6, ![4, 2, 4, 2, r, n]⟩ : Shape).Slices ![0, 1, 0, 0, 0, 0] ⟨6, ![4, 1, 4, 1, r, n]⟩}
    {h2' : (⟨6, ![4, 2, 4, 2, r, n]⟩ : Shape).Slices ![0, 0, 0, 1, 0, 0] ⟨6, ![4, 1, 4, 1, r, n]⟩}
    {h3 : (⟨6, ![4, 1, 4, 1, r, n]⟩ : Shape).ShapeCasts ⟨4, ![4, 4, r, n]⟩}
    {h4 : (⟨4, ![4, 4, r, n]⟩ : Shape).BroadcastsInDim ⟨5, ![4, 1, 4, r, n]⟩ ![0, 2, 3, 4]}
    {h5 : Shape.Concatenates [⟨5, ![4, 1, 4, r, n]⟩, ⟨5, ![4, 1, 4, r, n]⟩] ⟨5, ![4, 2, 4, r, n]⟩ 1}
    {h6 : (⟨5, ![4, 2, 4, r, n]⟩ : Shape).ShapeCasts ⟨3, ![32, r, n]⟩}
    (he : ∀ d, x d = Layout.block ⟨3, ![4, 2 * r, n]⟩ ⟨3, ![32, 2 * r, n]⟩ 0 8 d v hx) (d : Fin 8) (k : Fin 2) (hk : k.val = d.val % 2) :
    (fun i : (⟨3, ![4, r, n]⟩ : Shape).Idx => x (across d) (half k i))
      = Layout.block ⟨3, ![4, r, n]⟩ ⟨3, ![32, r, n]⟩ 0 8 d (shapeCast _ (concatenate ⟨5, ![4, 2, 4, r, n]⟩ 1
        [⟨⟨5, ![4, 1, 4, r, n]⟩, broadcastInDim ⟨5, ![4, 1, 4, r, n]⟩ ![0, 2, 3, 4] h4
          (shapeCast _ (extractStridedSlice ⟨6, ![4, 1, 4, 1, r, n]⟩ ![0, 1, 0, 0, 0, 0] (shapeCast _ v h1) h2) h3)⟩,
         ⟨⟨5, ![4, 1, 4, r, n]⟩, broadcastInDim ⟨5, ![4, 1, 4, r, n]⟩ ![0, 2, 3, 4] h4
          (shapeCast _ (extractStridedSlice ⟨6, ![4, 1, 4, 1, r, n]⟩ ![0, 0, 0, 1, 0, 0] (shapeCast _ v h1) h2') h3)⟩] h5) h6) hy := by
  funext i
  rw [he, Layout.block_apply, Layout.block_apply]
  refine (crossed v rfl h1 h2 h2' h3 h4 h5 h6 d (i 0) _ ?_ _ ?_ ?_ ?_).symm
  · show d.val * 4 + (i 0).val = _; omega
  · show (2 * (d.val / 2) + (1 - d.val % 2)) * 4 + (i 0).val = _; omega
  · show k.val * r + (i 1).val = d.val % 2 * r + (i 1).val; rw [hk]
  · rfl

/-- The device of chip `q` that is the same core as `d`. -/
def abreast (d : Fin 8) (q : Fin 4) : Fin 8 := ⟨2 * q.val + d.val % 2, by have := q.isLt; omega⟩

/-- The matrices exchanged between the four chips are the reference's. -/
theorem dealt {x : Fin 8 → (⟨3, ![4, r, n]⟩ : Shape).Idx → α} {v : (⟨3, ![32, r, n]⟩ : Shape).Idx → α}
    {hx : Layout.Tiles ⟨3, ![4, r, n]⟩ ⟨3, ![32, r, n]⟩ 0 8}
    {h1 : (⟨3, ![32, r, n]⟩ : Shape).ShapeCasts ⟨5, ![4, 2, 4, r, n]⟩}
    {h2 : (⟨5, ![4, 2, 4, r, n]⟩ : Shape).Transposes [2, 1, 0, 3, 4] ⟨5, ![4, 2, 4, r, n]⟩}
    {h3 : (⟨5, ![4, 2, 4, r, n]⟩ : Shape).ShapeCasts ⟨3, ![32, r, n]⟩}
    (he : ∀ d, x d = Layout.block ⟨3, ![4, r, n]⟩ ⟨3, ![32, r, n]⟩ 0 8 d v hx) (d : Fin 8) (k : Fin 4) (hk : k.val = d.val / 2) :
    (fun i : (⟨3, ![4, r, n]⟩ : Shape).Idx => x (abreast d (i 0)) (above k (below i)))
      = Layout.block ⟨3, ![4, r, n]⟩ ⟨3, ![32, r, n]⟩ 0 8 d
          (shapeCast _ (transpose ⟨5, ![4, 2, 4, r, n]⟩ [2, 1, 0, 3, 4] (shapeCast _ v h1) h2) h3) hx := by
  funext i
  rw [he, Layout.block_apply, Layout.block_apply]
  refine ((shapeCast_apply _ h3 _ (ix5 k (⟨d.val % 2, by omega⟩ : Fin 2) (i 0) (i 1) (i 2)) ?_).trans ?_).symm
  · rw [Shape.rowMajor_val_five, Shape.rowMajor_val_three]
    show (((k.val * 2 + d.val % 2) * 4 + (i 0).val) * r + (i 1).val) * n + (i 2).val = ((d.val * 4 + (i 0).val) * r + (i 1).val) * n + (i 2).val
    rw [hk, show d.val / 2 * 2 + d.val % 2 = d.val by omega]
  refine (transpose_apply _ _ h2 _ (ix5 (i 0) (⟨d.val % 2, by omega⟩ : Fin 2) k (i 1) (i 2)) ?_).trans ?_
  · intro b
    match b with
    | ⟨0, _⟩ => rfl
    | ⟨1, _⟩ => rfl
    | ⟨2, _⟩ => rfl
    | ⟨3, _⟩ => rfl
    | ⟨4, _⟩ => rfl
  refine shapeCast_apply _ h1 _ _ ?_
  rw [Shape.rowMajor_val_five, Shape.rowMajor_val_three]
  show (((2 * (i 0).val + d.val % 2) * 4 + k.val) * r + (i 1).val) * n + (i 2).val = ((((i 0).val * 2 + d.val % 2) * 4 + k.val) * r + (i 1).val) * n + (i 2).val
  rw [Nat.mul_comm 2 (i 0).val]

/-- Device `d`'s matrix, its chip's columns and its core's rows, is place `d` of the reference's stack. -/
theorem place_cols {R N : ℕ} (v : (⟨2, ![R, N]⟩ : Shape).Idx → α)
    (hx : Layout.TilesN ⟨2, ![r, n]⟩ ⟨2, ![R, N]⟩ fun b => Layout.cutSize [2, 2, 2] ((![[2], [0, 1]] : Fin 2 → List ℕ) b))
    (h1 : (⟨2, ![R, N]⟩ : Shape).ShapeCasts ⟨3, ![R, 4, n]⟩)
    (h2 : (⟨3, ![R, 4, n]⟩ : Shape).Transposes [1, 0, 2] ⟨3, ![4, R, n]⟩)
    (h3 : (⟨3, ![4, R, n]⟩ : Shape).ShapeCasts ⟨3, ![8, r, n]⟩)
    (hR : R = 2 * r) (hN : N = 4 * n) (d : Fin 8) (i : (⟨3, ![8, r, n]⟩ : Shape).Idx) (hd : (i 0).val = d.val) :
    Layout.blockN ⟨2, ![r, n]⟩ ⟨2, ![R, N]⟩ (Layout.meshBlock [2, 2, 2] ![[2], [0, 1]] d) v hx (below i)
      = shapeCast _ (transpose ⟨3, ![4, R, n]⟩ [1, 0, 2] (shapeCast _ v h1) h2) h3 i := by
  rw [Layout.blockN_apply]
  have e1 : (i 1).val < r := (i 1).isLt
  have e : d.val / 2 * R + d.val % 2 * r = d.val * r := by
    rw [hR, ← Nat.mul_assoc, ← Nat.add_mul]; congr 1; omega
  have e2 : d.val % 2 * r ≤ r := (Nat.mul_le_mul_right r (show d.val % 2 ≤ 1 by omega)).trans (Nat.one_mul r).le
  refine ((shapeCast_apply _ h3 _ (ix3 (⟨d.val / 2, by omega⟩ : Fin 4) (⟨d.val % 2 * r + (i 1).val, by omega⟩ : Fin R) (i 2)) ?_).trans ?_).symm
  · rw [Shape.rowMajor_val_three, Shape.rowMajor_val_three]
    show (d.val / 2 * R + (d.val % 2 * r + (i 1).val)) * n + (i 2).val = ((i 0).val * r + (i 1).val) * n + (i 2).val
    rw [hd, ← Nat.add_assoc, e]
  refine (transpose_apply _ _ h2 _ (ix3 (⟨d.val % 2 * r + (i 1).val, by omega⟩ : Fin R) (⟨d.val / 2, by omega⟩ : Fin 4) (i 2)) ?_).trans ?_
  · intro b
    match b with
    | ⟨0, _⟩ => rfl
    | ⟨1, _⟩ => rfl
    | ⟨2, _⟩ => rfl
  refine shapeCast_apply _ h1 _ _ ?_
  rw [Shape.rowMajor_val_two, Shape.rowMajor_val_three]
  have a0 : (hx.idx (Layout.meshBlock [2, 2, 2] ![[2], [0, 1]] d) (below i) 0).val = d.val % 2 * r + (i 1).val := by
    show Layout.meshLin [2, 2, 2] d.val [2] * r + (i 1).val = _
    rw [core_lin]
  have a1 : (hx.idx (Layout.meshBlock [2, 2, 2] ![[2], [0, 1]] d) (below i) 1).val = d.val / 2 * n + (i 2).val := by
    show Layout.meshLin [2, 2, 2] d.val [0, 1] * n + (i 2).val = _
    rw [chip_lin]
  rw [a0, a1]
  show (d.val % 2 * r + (i 1).val) * N + (d.val / 2 * n + (i 2).val) = ((d.val % 2 * r + (i 1).val) * 4 + d.val / 2) * n + (i 2).val
  rw [hN, Nat.add_mul _ _ n, ← Nat.add_assoc, Nat.mul_assoc _ 4 n]

/-- The matrices of all devices, each its chip's columns and its core's rows, are the reference's stack. -/
theorem gathered_cols {R N : ℕ} {x : Fin 8 → (⟨2, ![r, n]⟩ : Shape).Idx → α} {v : (⟨2, ![R, N]⟩ : Shape).Idx → α}
    {hx : Layout.TilesN ⟨2, ![r, n]⟩ ⟨2, ![R, N]⟩ fun b => Layout.cutSize [2, 2, 2] ((![[2], [0, 1]] : Fin 2 → List ℕ) b)}
    {h1 : (⟨2, ![R, N]⟩ : Shape).ShapeCasts ⟨3, ![R, 4, n]⟩}
    {h2 : (⟨3, ![R, 4, n]⟩ : Shape).Transposes [1, 0, 2] ⟨3, ![4, R, n]⟩}
    {h3 : (⟨3, ![4, R, n]⟩ : Shape).ShapeCasts ⟨3, ![8, r, n]⟩}
    (hR : R = 2 * r) (hN : N = 4 * n)
    (he : ∀ d, x d = Layout.blockN ⟨2, ![r, n]⟩ ⟨2, ![R, N]⟩ (Layout.meshBlock [2, 2, 2] ![[2], [0, 1]] d) v hx) :
    (fun i : (⟨3, ![8, r, n]⟩ : Shape).Idx => x (i 0) (below i))
      = shapeCast _ (transpose ⟨3, ![4, R, n]⟩ [1, 0, 2] (shapeCast _ v h1) h2) h3 :=
  funext fun i => (congrFun (he (i 0)) (below i)).trans (place_cols v hx h1 h2 h3 hR hN (i 0) i rfl)

/-- Device `d`'s run of rows is place `d` of the reference's stack. -/
theorem place_rows {R : ℕ} (v : (⟨2, ![R, n]⟩ : Shape).Idx → α) (hx : Layout.Tiles ⟨2, ![r, n]⟩ ⟨2, ![R, n]⟩ 0 8)
    (h1 : (⟨2, ![R, n]⟩ : Shape).ShapeCasts ⟨3, ![8, r, n]⟩) (d : Fin 8) (i : (⟨3, ![8, r, n]⟩ : Shape).Idx) (hd : (i 0).val = d.val) :
    Layout.block ⟨2, ![r, n]⟩ ⟨2, ![R, n]⟩ 0 8 d v hx (below i) = shapeCast _ v h1 i := by
  rw [Layout.block_apply]
  refine (shapeCast_apply _ h1 _ _ ?_).symm
  rw [Shape.rowMajor_val_two, Shape.rowMajor_val_three]
  show (d.val * r + (i 1).val) * n + (i 2).val = ((i 0).val * r + (i 1).val) * n + (i 2).val
  rw [hd]

/-- The runs of rows of all devices are the reference's stack. -/
theorem gathered_rows {R : ℕ} {x : Fin 8 → (⟨2, ![r, n]⟩ : Shape).Idx → α} {v : (⟨2, ![R, n]⟩ : Shape).Idx → α}
    {hx : Layout.Tiles ⟨2, ![r, n]⟩ ⟨2, ![R, n]⟩ 0 8} {h1 : (⟨2, ![R, n]⟩ : Shape).ShapeCasts ⟨3, ![8, r, n]⟩}
    (he : ∀ d, x d = Layout.block ⟨2, ![r, n]⟩ ⟨2, ![R, n]⟩ 0 8 d v hx) :
    (fun i : (⟨3, ![8, r, n]⟩ : Shape).Idx => x (i 0) (below i)) = shapeCast _ v h1 :=
  funext fun i => (congrFun (he (i 0)) (below i)).trans (place_rows v hx h1 (i 0) i rfl)

end Cert.Slot

end
-- ==== Proof.GatherClaims.lean ====
module

public import proofs.«01_k».proof.Defs
public import proofs.«01_k».proof.Proof.GatherRun
public import proofs.«01_k».proof.Proof.Stacks
public import proofs.«01_k».proof.Proof.Gen.Gather
public import proofs.«01_k».proof.Proof.Gen.GatherRef.Run
public import proofs.«01_k».proof.Proof.Gen.GatherRefIdeal.Run
public import Idealize.ShloMosaic.Lib.Quiescent

@[expose] public section

noncomputable section

/-!
The claims about `Gather`: what its run leaves in every array, in terms of the whole arrays, is the reference's result.
-/

namespace Cert.GatherIdeal.Own

open Cert.GatherIdeal Cert.GatherIdeal.Gen Cert.Slot
open Idealize.ShloMosaic Idealize.ShloMosaic.TcCoe Idealize.SL.Sem

theorem all_scoped : ∀ s : SemLoc sig, s.isScoped .tc = true := by decide +kernel

theorem frame_ideal : Cert.quiescent_GatherIdeal := fun m g _ =>
  (θ_run (Cert.GatherIdeal.defs (F := Ideal)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Ideal) m g)

theorem frame_bits : Cert.quiescent_Gather := fun m g _ =>
  (θ_run (Cert.GatherIdeal.defs (F := Bits)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Bits) m g)

theorem reference_ideal : Cert.quiescent_GatherRefIdeal := fun m g _ =>
  (θ_run (Cert.GatherRefIdeal.defs (F := Ideal)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.GatherRefIdeal.Value.run m g)

theorem reference_bits : Cert.quiescent_GatherRef := fun m g _ =>
  (θ_run (Cert.GatherRef.defs (F := Bits)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.GatherRef.Value.run m g)

theorem value_ideal : Cert.algebraic_GatherIdeal_GatherRefIdeal := fun m g m' g' _ hm =>
  ⟨_, _, _, _, _, _, _, _,
    (θ_run (Cert.GatherIdeal.defs (F := Ideal)) _ _).mono (fun _ h c => ⟨(h.1 .a0 c).2.trans (gathered_cols (r := 1024) (n := 1792) rfl rfl (fun d => (hm d).1)), (h.1 .a1 c).2.trans (gathered_rows (r := 256) (n := 2048) (fun d => (hm d).2.1)), (h.1 .a2 c).2.trans (gathered_cols (r := 1024) (n := 2816) rfl rfl (fun d => (hm d).2.2.1)), (h.1 .a3 c).2.trans (gathered_rows (r := 704) (n := 2048) (fun d => (hm d).2.2.2.1)), (h.1 .a4 c).2.trans (gathered_cols (r := 1024) (n := 1792) rfl rfl (fun d => (hm d).2.2.2.2.1)), (h.1 .a5 c).2.trans (gathered_rows (r := 256) (n := 2048) (fun d => (hm d).2.2.2.2.2.1)), (h.1 .a6 c).2.trans (gathered_cols (r := 1024) (n := 2816) rfl rfl (fun d => (hm d).2.2.2.2.2.2.1)), (h.1 .a7 c).2.trans (gathered_rows (r := 704) (n := 2048) (fun d => (hm d).2.2.2.2.2.2.2)), (h.1 .a0 c).1, (h.1 .a1 c).1, (h.1 .a2 c).1, (h.1 .a3 c).1, (h.1 .a4 c).1, (h.1 .a5 c).1, (h.1 .a6 c).1, (h.1 .a7 c).1⟩) (run_main (F := Ideal) m g),
    (θ_run (Cert.GatherRefIdeal.defs (F := Ideal)) _ _).mono (fun _ h => h 0) (Cert.GatherRefIdeal.Value.run m' g')⟩

theorem value_bits : Cert.bitexact_Gather_GatherRef := fun m g m' g' _ hm =>
  ⟨_, _, _, _, _, _, _, _,
    (θ_run (Cert.GatherIdeal.defs (F := Bits)) _ _).mono (fun _ h c => ⟨(h.1 .a0 c).2.trans (gathered_cols (r := 1024) (n := 1792) rfl rfl (fun d => (hm d).1)), (h.1 .a1 c).2.trans (gathered_rows (r := 256) (n := 2048) (fun d => (hm d).2.1)), (h.1 .a2 c).2.trans (gathered_cols (r := 1024) (n := 2816) rfl rfl (fun d => (hm d).2.2.1)), (h.1 .a3 c).2.trans (gathered_rows (r := 704) (n := 2048) (fun d => (hm d).2.2.2.1)), (h.1 .a4 c).2.trans (gathered_cols (r := 1024) (n := 1792) rfl rfl (fun d => (hm d).2.2.2.2.1)), (h.1 .a5 c).2.trans (gathered_rows (r := 256) (n := 2048) (fun d => (hm d).2.2.2.2.2.1)), (h.1 .a6 c).2.trans (gathered_cols (r := 1024) (n := 2816) rfl rfl (fun d => (hm d).2.2.2.2.2.2.1)), (h.1 .a7 c).2.trans (gathered_rows (r := 704) (n := 2048) (fun d => (hm d).2.2.2.2.2.2.2)), (h.1 .a0 c).1, (h.1 .a1 c).1, (h.1 .a2 c).1, (h.1 .a3 c).1, (h.1 .a4 c).1, (h.1 .a5 c).1, (h.1 .a6 c).1, (h.1 .a7 c).1⟩) (run_main (F := Bits) m g),
    (θ_run (Cert.GatherRef.defs (F := Bits)) _ _).mono (fun _ h => h 0) (Cert.GatherRef.Value.run m' g')⟩

end Cert.GatherIdeal.Own

end
-- ==== Proof.AllToAllRun.lean ====
module

public import proofs.«01_k».proof.Proof.Slot
public import proofs.«01_k».proof.Proof.Gen.AllToAllIdeal.Launch
public import proofs.«01_k».proof.Proof.Gen.AllToAllIdeal.Points

@[expose] public section

noncomputable section

/-!
The program that exchanges matrices between the four chips: its transfers, and its run.  Of each of its eight stacks,
a device sends matrix `q` to the same core of chip `q`, and keeps its own chip's.
-/

namespace Cert.AllToAllIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Slot
open Cert.AllToAllIdeal Cert.AllToAllIdeal.Gen

variable {F : FTy → Type} [FloatOps F]

/-! ## The arrays -/

abbrev inp : Eight → Ref sig .tc
  | .a0 => main_arg0
  | .a1 => main_arg1
  | .a2 => main_arg2
  | .a3 => main_arg3
  | .a4 => main_arg4
  | .a5 => main_arg5
  | .a6 => main_arg6
  | .a7 => main_arg7
abbrev out : Eight → Ref sig .tc
  | .a0 => main_v1_0
  | .a1 => main_v1_1
  | .a2 => main_v1_2
  | .a3 => main_v1_3
  | .a4 => main_v1_4
  | .a5 => main_v1_5
  | .a6 => main_v1_6
  | .a7 => main_v1_7

/-- The rows and columns of an array's matrices. -/
abbrev rows : Eight → ℕ
  | .a0 | .a4 => 1024
  | .a1 | .a5 => 256
  | .a2 | .a6 => 1024
  | .a3 | .a7 => 704
abbrev cols : Eight → ℕ
  | .a0 | .a4 => 1792
  | .a1 | .a5 => 2048
  | .a2 | .a6 => 2816
  | .a3 | .a7 => 2048

/-- The arrays as stacks. -/
abbrev given : ∀ a, Memref sig .tc .hbm ⟨3, ![4, rows a, cols a]⟩ .bf16
  | .a0 => Memref.whole main_arg0
  | .a1 => Memref.whole main_arg1
  | .a2 => Memref.whole main_arg2
  | .a3 => Memref.whole main_arg3
  | .a4 => Memref.whole main_arg4
  | .a5 => Memref.whole main_arg5
  | .a6 => Memref.whole main_arg6
  | .a7 => Memref.whole main_arg7
abbrev taken : ∀ a, Memref sig .tc .hbm ⟨3, ![4, rows a, cols a]⟩ .bf16
  | .a0 => Memref.whole main_v1_0
  | .a1 => Memref.whole main_v1_1
  | .a2 => Memref.whole main_v1_2
  | .a3 => Memref.whole main_v1_3
  | .a4 => Memref.whole main_v1_4
  | .a5 => Memref.whole main_v1_5
  | .a6 => Memref.whole main_v1_6
  | .a7 => Memref.whole main_v1_7

theorem given_whole (a : Eight) : (given a).IsWhole := by cases a <;> exact Memref.isWhole_whole _
theorem taken_whole (a : Eight) : (taken a).IsWhole := by cases a <;> exact Memref.isWhole_whole _

/-- The other chip that a transfer goes to, and device `c`'s own, as the kernel computes them. -/
abbrev far (k : Fin 3) (c : Dev nD) : ℕ := ![k0_off5 c 0, k0_off6 c 0, k0_off7 c 0] k
abbrev mine (c : Dev nD) : ℕ := k0_off1 c 0

abbrev place (x : ℕ) : Fin 3 → ℕ := ![x, 0, 0]
abbrev one (a : Eight) : Shape := ⟨3, ![1, rows a, cols a]⟩
abbrev Stack (a : Eight) : Shape := ⟨3, ![4, rows a, cols a]⟩

theorem far_lt : ∀ k c, far k c < 4 := by decide +kernel
theorem mine_lt : ∀ c, mine c < 4 := by decide +kernel
theorem place_inb (a : Eight) (x : ℕ) (hx : x < 4) : ∀ y, place x y + (one a).size y ≤ (Stack a).size y
  | 0 => hx
  | 1 => (Nat.zero_add _).le
  | 2 => (Nat.zero_add _).le
theorem far_words : ∀ a k c, (Rect.unit (s := Stack a) (place (far k c)) (one a).size (place_inb a _ (far_lt k c))).WholeWords (EltTy.packing .bf16) := by decide +kernel
theorem mine_words : ∀ a c, (Rect.unit (s := Stack a) (place (mine c)) (one a).size (place_inb a _ (mine_lt c))).WholeWords (EltTy.packing .bf16) := by decide +kernel
theorem squeezes : ∀ a, (one a).Squeezes ⟨2, ![rows a, cols a]⟩
  | .a0 | .a4 => squeezes_S1x1024x1792_S1024x1792
  | .a1 | .a5 => squeezes_S1x256x2048_S256x2048
  | .a2 | .a6 => squeezes_S1x1024x2816_S1024x2816
  | .a3 | .a7 => squeezes_S1x704x2048_S704x2048

abbrev sent (a : Eight) (k : Fin 3) (c : Dev nD) := part (given a) (place (far k c)) (place_inb a _ (far_lt k c)) (squeezes a)
abbrev kept (a : Eight) (c : Dev nD) := part (given a) (place (mine c)) (place_inb a _ (mine_lt c)) (squeezes a)
abbrev dst (a : Eight) (c : Dev nD) := part (taken a) (place (mine c)) (place_inb a _ (mine_lt c)) (squeezes a)

/-! ## The transfers -/

theorem mate_lt : ∀ (k : Fin 3) c, (![k0_dev1 c, k0_dev2 c, k0_dev3 c] : Fin 3 → ℕ) k < nD := by decide +kernel

/-- The same core of another chip, as the kernel computes it. -/
abbrev mate (k : Fin 3) (c : Dev nD) : Dev nD := ⟨![k0_dev1 c, k0_dev2 c, k0_dev3 c] k, mate_lt k c⟩

abbrev shareHere : PosShare TreeShare := pieceOf (Unit ⊕ (Unit ⊕ Fin 3)) (.inr (.inl ()))
abbrev shareThere (k : Fin 3) : PosShare TreeShare := pieceOf (Unit ⊕ (Unit ⊕ Fin 3)) (.inr (.inr k))

abbrev move (a : Eight) : Xfer nD sig where
  s := ⟨2, ![rows a, cols a]⟩
  e := .bf16
  src := kept a
  dst := dst a
  hsrc c := ((given_whole a).wordExact_slice rfl _ (mine_words a c)).reshape _ _
  hdst c := ((taken_whole a).wordExact_slice rfl _ (mine_words a c)).reshape _ _
  share := shareHere
  N := (dst a 0).view.dmaCredit
  hN _ := rfl
  hN' _ := by cases a <;> rfl
  pos := View.dmaCredit_pos _ (by cases a <;> decide)
  hsc _ := by cases a <;> rfl

abbrev send (a : Eight) (k : Fin 3) : Xfer nD sig where
  s := ⟨2, ![rows a, cols a]⟩
  e := .bf16
  src := sent a k
  dst := dst a
  hsrc c := ((given_whole a).wordExact_slice rfl _ (far_words a k c)).reshape _ _
  hdst c := ((taken_whole a).wordExact_slice rfl _ (mine_words a c)).reshape _ _
  share := shareThere k
  N := (dst a 0).view.dmaCredit
  hN _ := rfl
  hN' _ := by cases a <;> rfl
  pos := View.dmaCredit_pos _ (by cases a <;> decide)
  hsc _ := by cases a <;> rfl

abbrev number : Eight → Fin 8
  | .a0 => 0 | .a1 => 1 | .a2 => 2 | .a3 => 3 | .a4 => 4 | .a5 => 5 | .a6 => 6 | .a7 => 7

theorem sem_inb : ∀ (a : Eight) (k : Fin 3) x, (![(number a).val, k.val] : Fin 2 → ℕ) x + S1x1.size x ≤ S8x3.size x := by decide +kernel
theorem sem_inb' : ∀ (a : Eight) x, (![(number a).val] : Fin 1 → ℕ) x + S1.size x ≤ S8.size x := by decide +kernel

/-- One of the twenty-four semaphores of an array of them, and one of eight. -/
abbrev pick (b : DmaSems sig S8x3) (a : Eight) (k : Fin 3) : DmaSem sig :=
  ((b.slice (Rect.unit (s := S8x3) ![(number a).val, k.val] S1x1.size (sem_inb a k))).squeeze S_ squeezes_S1x1_S_).sem
abbrev pick' (b : DmaSems sig S8) (a : Eight) : DmaSem sig :=
  ((b.slice (Rect.unit (s := S8) ![(number a).val] S1.size (sem_inb' a))).squeeze S_ squeezes_S1_S_).sem

abbrev semOf : (Eight × Unit) ⊕ (Eight × Fin 3) ⊕ (Eight × Fin 3) → DmaSem sig
  | .inl (a, _) => pick' cc0_scratch2 a
  | .inr (.inl (a, k)) => pick cc0_scratch0 a k
  | .inr (.inr (a, k)) => pick cc0_scratch1 a k

theorem mate_mate : ∀ k c, mate k (mate k c) = c := by decide +kernel

abbrev talk : Talk nD sig (Eight × Unit) (Eight × Fin 3) where
  ls l := move l.1
  rs r := send r.1 r.2
  sem := semOf
  sem_inj := by decide +kernel
  peer r := mate r.2
  peer_peer r := mate_mate r.2
  lev _ := 1
  lev_pos _ := Nat.one_pos

abbrev eight : List Eight := [.a0, .a1, .a2, .a3, .a4, .a5, .a6, .a7]
abbrev locals : List (Eight × Unit) := eight.map fun a => (a, ())
abbrev remotes : List (Eight × Fin 3) := eight.flatMap fun a => [(a, 0), (a, 1), (a, 2)]

/-- The kernel's body starts every transfer, then waits for every one. -/
theorem body_eq (t : Fin cfg0.N) : defs₀ (F := F) .tc cfg0.body (cfg0.bodyArgs t (cfg0.slots t)) = .op .deviceId fun c => plain talk c locals remotes := rfl

/-! ## What the run leaves -/

/-- The chip that device `d` is on, and the device of chip `q` that is the same core as `d`. -/
def chip (d : Dev nD) : Fin 4 := ⟨d.val / 2, by have : d.val < 8 := d.isLt; omega⟩
def peer (d : Dev nD) (q : Fin 4) : Dev nD := ⟨2 * q.val + d.val % 2, by have := q.isLt; show 2 * q.val + d.val % 2 < 8; omega⟩

theorem mine_eq : ∀ c, mine c = (chip c).val := by decide +kernel
theorem far_eq : ∀ k c, far k c = (chip (mate k c)).val := by decide +kernel
theorem peer_self : ∀ c, peer c (chip c) = c := by decide +kernel
theorem peer_mate : ∀ k c, peer (mate k c) (chip c) = c := by decide +kernel

section Values

variable (m : (ℓ : Loc nD τ sig) → Buf (Elt F) ℓ)

/-- What device `d`'s output `a` ends at: in place `q`, chip `q`'s matrix meant for `d`'s chip. -/
def result (a : Eight) (d : Dev nD) : Buf (Elt F) ((d.tc : Thread nD τ).loc (out a)) :=
  match a with
  | .a0 => fun i => m (((peer d (i 0)).tc : Thread nD τ).loc main_arg0) (above (chip d) (below i))
  | .a1 => fun i => m (((peer d (i 0)).tc : Thread nD τ).loc main_arg1) (above (chip d) (below i))
  | .a2 => fun i => m (((peer d (i 0)).tc : Thread nD τ).loc main_arg2) (above (chip d) (below i))
  | .a3 => fun i => m (((peer d (i 0)).tc : Thread nD τ).loc main_arg3) (above (chip d) (below i))
  | .a4 => fun i => m (((peer d (i 0)).tc : Thread nD τ).loc main_arg4) (above (chip d) (below i))
  | .a5 => fun i => m (((peer d (i 0)).tc : Thread nD τ).loc main_arg5) (above (chip d) (below i))
  | .a6 => fun i => m (((peer d (i 0)).tc : Thread nD τ).loc main_arg6) (above (chip d) (below i))
  | .a7 => fun i => m (((peer d (i 0)).tc : Thread nD τ).loc main_arg7) (above (chip d) (below i))

/-- The memory at the end. -/
def final : (ℓ : Loc nD τ sig) → Buf (Elt F) ℓ := overlay out (result m) m

theorem inj : Function.Injective (Sum.elim inp out) := by decide +kernel

theorem final_out (a : Eight) (d : Dev nD) : final m ((d.tc : Thread nD τ).loc (out a)) = result m a d :=
  overlay_out out (result m) m (fun _ _ h => Sum.inr.inj (inj h)) a d
theorem final_in (a : Eight) (d : Dev nD) : final m ((d.tc : Thread nD τ).loc (inp a)) = m _ :=
  overlay_other out (result m) m (inp a) (fun a' h => Sum.inl_ne_inr (inj (a₁ := .inl a) (a₂ := .inr a') h.symm)) d

theorem final_read (a : Eight) (d : Dev nD) (i : (Stack a).Idx) :
    (taken a).view.read (Elt F) (final m ((taken a).view.loc (d.tc : Thread nD τ))) i
      = (given a).view.read (Elt F) (final m ((given a).view.loc ((peer d (i 0)).tc : Thread nD τ))) (above (chip d) (below i)) := by
  have h1 := final_out m a d
  have h2 := final_in m a (peer d (i 0))
  cases a <;> exact (congrFun h1 _).trans (congrFun h2 _).symm

/-- A matrix of device `c` that lands in its place on device `d`. -/
theorem carried (a : Eight) (c d : Dev nD) (x : ℕ) (hx : x < 4) (hd : x = (chip d).val) (hp : peer d (chip c) = c) :
    (dst a c).view.read (Elt F) (final m ((dst a c).view.loc (d.tc : Thread nD τ)))
      = (part (given a) (place x) (place_inb a x hx) (squeezes a)).view.read (Elt F)
          (final m ((part (given a) (place x) (place_inb a x hx) (squeezes a)).view.loc (c.tc : Thread nD τ))) := by
  refine read_parts (hq := squeezes a) (hq' := squeezes a) (fun i => above (chip d) (below i)) (fun i hi y => ?_) fun i hi => ?_
  · match y with
    | 0 => show (chip d).val + mine c = x + (i 0).val; have : (i 0).val = mine c := hi; omega
    | 1 => exact Nat.add_comm (i 1).val 0
    | 2 => exact Nat.add_comm (i 2).val 0
  · refine (final_read m a d i).trans ?_
    rw [show i 0 = chip c from Fin.ext (hi.trans (mine_eq c)), hp]

theorem carries : Carries talk (final m) where
  here l c := carried m l.1 c c (mine c) (mine_lt c) (mine_eq c) (peer_self c)
  there r c := carried m r.1 c (mate r.2 c) (far r.2 c) (far_lt r.2 c) (far_eq r.2 c) (peer_mate r.2 c)

theorem reads : Reads talk inp m (final m) where
  here a _ c := by
    have h := final_in m a c
    cases a <;> exact narrow _ h
  there a _ c := by
    have h := final_in m a c
    cases a <;> exact narrow _ h

/-! ## The outputs, cut by their writers -/

/-- Which device's matrix a device writes. -/
def goal : Dev nD × (Unit ⊕ Fin 3) → Dev nD × Fin 4
  | (c, .inl _) => (c, chip c)
  | (c, .inr k) => (mate k c, chip c)

theorem goal_bij : Function.Bijective goal := by decide +kernel

def lead (a : Eight) : (Proc.devRef (τ := τ) .tc (out a)).ty.Idx → Fin 4 :=
  match a with
  | .a0 | .a1 | .a2 | .a3 | .a4 | .a5 | .a6 | .a7 => fun i => i 0

/-- The elements of output `a` that device `c` writes. -/
def slot (a : Eight) (c : Dev nD) : Finset (Proc.devRef (τ := τ) .tc (out a)).ty.Idx :=
  match a with
  | .a0 => (dst .a0 c).view.set
  | .a1 => (dst .a1 c).view.set
  | .a2 => (dst .a2 c).view.set
  | .a3 => (dst .a3 c).view.set
  | .a4 => (dst .a4 c).view.set
  | .a5 => (dst .a5 c).view.set
  | .a6 => (dst .a6 c).view.set
  | .a7 => (dst .a7 c).view.set

theorem mem_slot (a : Eight) (c : Dev nD) (i : (Proc.devRef (τ := τ) .tc (out a)).ty.Idx) : i ∈ slot a c ↔ lead a i = chip c := by
  have h := mem_matrix (taken a) (place (mine c)) (place_inb a _ (mine_lt c)) (squeezes a) rfl rfl rfl rfl
  have e : place (mine c) 0 = (chip c).val := mine_eq c
  simp only [e] at h
  cases a <;> exact (h i).trans Fin.ext_iff.symm

def slots (a : Eight) : Slots (τ := τ) (Val := Elt F) talk a (out a) where
  K := Fin 4
  fintype := inferInstance
  decEq := inferInstance
  lead := lead a
  target := Equiv.ofBijective goal goal_bij
  S c _ := slot a c
  hS c j i := by
    rw [show ((Equiv.ofBijective goal goal_bij) (c, j)).2 = chip c from by cases j <;> rfl]
    exact mem_slot a c i
  here c _ V := by cases a <;> rfl
  there c _ V := by cases a <;> rfl

theorem body_runs (c : Dev nD) (t : Fin cfg0.N) (Q : PUnit → sProp (MT nD τ sig Unit (Elt F) ℕ (UU nD τ sig) ℕ)) :
    Runs (defs₀ (F := F)) Variants.none c Q (plain talk c locals remotes)
      ⊢ wp frame (wpE (defs₀ (F := F)) Variants.none (c.tc : Thread nD τ) none) Set.univ (defs₀ .tc cfg0.body (cfg0.bodyArgs t (cfg0.slots t))) fun _ => Q ⟨⟩ := by
  rw [body_eq, wp_deviceId]

/-- The run: every device's arrays are as they were, its outputs hold the matrices meant for its chip,
    and every semaphore is back at zero. -/
theorem run_main (g : Dev nD → PrngReg) :
    θ_run (defs (F := F)) (onTc main) ⟨m, fun _ => 0, g⟩ (fun r =>
      (∀ a, ∀ d : Dev nD, r.2.mem ((d.tc : Thread nD τ).loc (inp a)) = m _ ∧ r.2.mem ((d.tc : Thread nD τ).loc (out a)) = result m a d)
      ∧ ∀ g' : GSem nD τ sig, (g'.1.2 ≠ .tc ∨ g'.2.isScoped .tc = true) → r.2.sem g' = 0) := by
  haveI : IsEmpty (Fin cfg0.W) := (inferInstance : IsEmpty (Fin 0))
  have h := run_plain talk inp out m (final m) cfg0 N_0 cellOf_inj winFacts0.to₀ scopedRest0_eq (defs₀ (F := F)) g main (fun _ => rfl)
    (by decide +kernel) locals remotes (by decide +kernel) (by decide +kernel) (by decide +kernel) (by decide +kernel) inj (by decide +kernel) slots (carries m) (reads m) body_runs
  simp only [final_out] at h
  exact h

end Values

end Cert.AllToAllIdeal.Own
-- ==== Proof.AllToAllClaims.lean ====
module

public import proofs.«01_k».proof.Defs
public import proofs.«01_k».proof.Proof.AllToAllRun
public import proofs.«01_k».proof.Proof.Stacks
public import proofs.«01_k».proof.Proof.Gen.AllToAll
public import proofs.«01_k».proof.Proof.Gen.AllToAllRef.Run
public import proofs.«01_k».proof.Proof.Gen.AllToAllRefIdeal.Run
public import Idealize.ShloMosaic.Lib.Quiescent

@[expose] public section

noncomputable section

/-!
The claims about `AllToAll`: what its run leaves in every array, in terms of the whole arrays, is the reference's result.
-/

namespace Cert.AllToAllIdeal.Own

open Cert.AllToAllIdeal Cert.AllToAllIdeal.Gen Cert.Slot
open Idealize.ShloMosaic Idealize.ShloMosaic.TcCoe Idealize.SL.Sem

theorem all_scoped : ∀ s : SemLoc sig, s.isScoped .tc = true := by decide +kernel

theorem frame_ideal : Cert.quiescent_AllToAllIdeal := fun m g _ =>
  (θ_run (Cert.AllToAllIdeal.defs (F := Ideal)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Ideal) m g)

theorem frame_bits : Cert.quiescent_AllToAll := fun m g _ =>
  (θ_run (Cert.AllToAllIdeal.defs (F := Bits)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Bits) m g)

theorem reference_ideal : Cert.quiescent_AllToAllRefIdeal := fun m g _ =>
  (θ_run (Cert.AllToAllRefIdeal.defs (F := Ideal)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.AllToAllRefIdeal.Value.run m g)

theorem reference_bits : Cert.quiescent_AllToAllRef := fun m g _ =>
  (θ_run (Cert.AllToAllRef.defs (F := Bits)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.AllToAllRef.Value.run m g)

theorem value_ideal : Cert.algebraic_AllToAllIdeal_AllToAllRefIdeal := fun m g m' g' _ hm =>
  ⟨_, _, _, _, _, _, _, _,
    (θ_run (Cert.AllToAllIdeal.defs (F := Ideal)) _ _).mono (fun _ h c => ⟨(h.1 .a0 c).2.trans (dealt (r := 1024) (n := 1792) (fun d => (hm d).1) c (chip c) rfl), (h.1 .a1 c).2.trans (dealt (r := 256) (n := 2048) (fun d => (hm d).2.1) c (chip c) rfl), (h.1 .a2 c).2.trans (dealt (r := 1024) (n := 2816) (fun d => (hm d).2.2.1) c (chip c) rfl), (h.1 .a3 c).2.trans (dealt (r := 704) (n := 2048) (fun d => (hm d).2.2.2.1) c (chip c) rfl), (h.1 .a4 c).2.trans (dealt (r := 1024) (n := 1792) (fun d => (hm d).2.2.2.2.1) c (chip c) rfl), (h.1 .a5 c).2.trans (dealt (r := 256) (n := 2048) (fun d => (hm d).2.2.2.2.2.1) c (chip c) rfl), (h.1 .a6 c).2.trans (dealt (r := 1024) (n := 2816) (fun d => (hm d).2.2.2.2.2.2.1) c (chip c) rfl), (h.1 .a7 c).2.trans (dealt (r := 704) (n := 2048) (fun d => (hm d).2.2.2.2.2.2.2) c (chip c) rfl), (h.1 .a0 c).1, (h.1 .a1 c).1, (h.1 .a2 c).1, (h.1 .a3 c).1, (h.1 .a4 c).1, (h.1 .a5 c).1, (h.1 .a6 c).1, (h.1 .a7 c).1⟩) (run_main (F := Ideal) m g),
    (θ_run (Cert.AllToAllRefIdeal.defs (F := Ideal)) _ _).mono (fun _ h => h 0) (Cert.AllToAllRefIdeal.Value.run m' g')⟩

theorem value_bits : Cert.bitexact_AllToAll_AllToAllRef := fun m g m' g' _ hm =>
  ⟨_, _, _, _, _, _, _, _,
    (θ_run (Cert.AllToAllIdeal.defs (F := Bits)) _ _).mono (fun _ h c => ⟨(h.1 .a0 c).2.trans (dealt (r := 1024) (n := 1792) (fun d => (hm d).1) c (chip c) rfl), (h.1 .a1 c).2.trans (dealt (r := 256) (n := 2048) (fun d => (hm d).2.1) c (chip c) rfl), (h.1 .a2 c).2.trans (dealt (r := 1024) (n := 2816) (fun d => (hm d).2.2.1) c (chip c) rfl), (h.1 .a3 c).2.trans (dealt (r := 704) (n := 2048) (fun d => (hm d).2.2.2.1) c (chip c) rfl), (h.1 .a4 c).2.trans (dealt (r := 1024) (n := 1792) (fun d => (hm d).2.2.2.2.1) c (chip c) rfl), (h.1 .a5 c).2.trans (dealt (r := 256) (n := 2048) (fun d => (hm d).2.2.2.2.2.1) c (chip c) rfl), (h.1 .a6 c).2.trans (dealt (r := 1024) (n := 2816) (fun d => (hm d).2.2.2.2.2.2.1) c (chip c) rfl), (h.1 .a7 c).2.trans (dealt (r := 704) (n := 2048) (fun d => (hm d).2.2.2.2.2.2.2) c (chip c) rfl), (h.1 .a0 c).1, (h.1 .a1 c).1, (h.1 .a2 c).1, (h.1 .a3 c).1, (h.1 .a4 c).1, (h.1 .a5 c).1, (h.1 .a6 c).1, (h.1 .a7 c).1⟩) (run_main (F := Bits) m g),
    (θ_run (Cert.AllToAllRef.defs (F := Bits)) _ _).mono (fun _ h => h 0) (Cert.AllToAllRef.Value.run m' g')⟩

end Cert.AllToAllIdeal.Own

end
-- ==== Proof.SwapRun.lean ====
module

public import proofs.«01_k».proof.Proof.Slot
public import proofs.«01_k».proof.Proof.Gen.SwapIdeal.Launch
public import proofs.«01_k».proof.Proof.Gen.SwapIdeal.Points

@[expose] public section

noncomputable section

/-!
The program that hands half of each partial gradient to the other core of the chip: its transfers, and its run.
Device `c` sends the other core's half of the rows of each of its four matrices, from each of eight stacks.
-/

namespace Cert.SwapIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Slot
open Cert.SwapIdeal Cert.SwapIdeal.Gen

variable {F : FTy → Type} [FloatOps F]

/-! ## The arrays -/

abbrev inp : Eight → Ref sig .tc
  | .a0 => main_arg0
  | .a1 => main_arg1
  | .a2 => main_arg2
  | .a3 => main_arg3
  | .a4 => main_arg4
  | .a5 => main_arg5
  | .a6 => main_arg6
  | .a7 => main_arg7
abbrev out : Eight → Ref sig .tc
  | .a0 => main_v1_0
  | .a1 => main_v1_1
  | .a2 => main_v1_2
  | .a3 => main_v1_3
  | .a4 => main_v1_4
  | .a5 => main_v1_5
  | .a6 => main_v1_6
  | .a7 => main_v1_7

/-- The rows and columns of a result's matrices. -/
abbrev rows : Eight → ℕ
  | .a0 | .a4 => 1024
  | .a1 | .a5 => 256
  | .a2 | .a6 => 1024
  | .a3 | .a7 => 704
abbrev cols : Eight → ℕ
  | .a0 | .a4 => 1792
  | .a1 | .a5 => 2048
  | .a2 | .a6 => 2816
  | .a3 | .a7 => 2048

/-- The arrays as stacks. -/
abbrev given : ∀ a, Memref sig .tc .hbm ⟨3, ![4, 2 * rows a, cols a]⟩ .bf16
  | .a0 => Memref.whole main_arg0
  | .a1 => Memref.whole main_arg1
  | .a2 => Memref.whole main_arg2
  | .a3 => Memref.whole main_arg3
  | .a4 => Memref.whole main_arg4
  | .a5 => Memref.whole main_arg5
  | .a6 => Memref.whole main_arg6
  | .a7 => Memref.whole main_arg7
abbrev taken : ∀ a, Memref sig .tc .hbm ⟨3, ![4, rows a, cols a]⟩ .bf16
  | .a0 => Memref.whole main_v1_0
  | .a1 => Memref.whole main_v1_1
  | .a2 => Memref.whole main_v1_2
  | .a3 => Memref.whole main_v1_3
  | .a4 => Memref.whole main_v1_4
  | .a5 => Memref.whole main_v1_5
  | .a6 => Memref.whole main_v1_6
  | .a7 => Memref.whole main_v1_7

theorem given_whole (a : Eight) : (given a).IsWhole := by cases a <;> exact Memref.isWhole_whole _
theorem taken_whole (a : Eight) : (taken a).IsWhole := by cases a <;> exact Memref.isWhole_whole _

/-- The first row that device `c` sends, as the kernel computes it. -/
abbrev first (a : Eight) (c : Dev nD) : ℕ :=
  match a with
  | .a0 | .a4 => k0_off1 c 1
  | .a1 | .a5 => k0_off5 c 1
  | .a2 | .a6 => k0_off9 c 1
  | .a3 | .a7 => k0_off13 c 1

theorem first_eq : ∀ a c, first a c = (1 - c.val % 2) * rows a := by decide +kernel

abbrev source (a : Eight) (s : Fin 4) (c : Dev nD) : Fin 3 → ℕ := ![s.val, first a c, 0]
abbrev target (s : Fin 4) : Fin 3 → ℕ := ![s.val, 0, 0]
abbrev one (a : Eight) : Shape := ⟨3, ![1, rows a, cols a]⟩

theorem source_inb : ∀ a s c x, source a s c x + (one a).size x ≤ (⟨3, ![4, 2 * rows a, cols a]⟩ : Shape).size x := by decide +kernel
theorem target_inb : ∀ a s x, target s x + (one a).size x ≤ (⟨3, ![4, rows a, cols a]⟩ : Shape).size x := by decide +kernel
theorem source_words : ∀ a s c, (Rect.unit (s := ⟨3, ![4, 2 * rows a, cols a]⟩) (source a s c) (one a).size (source_inb a s c)).WholeWords (EltTy.packing .bf16) := by decide +kernel
theorem target_words : ∀ a s, (Rect.unit (s := ⟨3, ![4, rows a, cols a]⟩) (target s) (one a).size (target_inb a s)).WholeWords (EltTy.packing .bf16) := by decide +kernel
theorem squeezes : ∀ a, (one a).Squeezes ⟨2, ![rows a, cols a]⟩
  | .a0 | .a4 => squeezes_S1x1024x1792_S1024x1792
  | .a1 | .a5 => squeezes_S1x256x2048_S256x2048
  | .a2 | .a6 => squeezes_S1x1024x2816_S1024x2816
  | .a3 | .a7 => squeezes_S1x704x2048_S704x2048

abbrev src (a : Eight) (s : Fin 4) (c : Dev nD) := part (given a) (source a s c) (source_inb a s c) (squeezes a)
abbrev dst (a : Eight) (s : Fin 4) := part (taken a) (target s) (target_inb a s) (squeezes a)

/-! ## The transfers -/

/-- The other core of the chip, as the kernel computes it. -/
abbrev mate (c : Dev nD) : Dev nD := ⟨k0_dev1 c, k0_dev1_lt c⟩

abbrev share (s : Fin 4) : PosShare TreeShare := pieceOf (Unit ⊕ (Empty ⊕ Fin 4)) (.inr (.inr s))

abbrev xfer (a : Eight) (s : Fin 4) : Xfer nD sig where
  s := ⟨2, ![rows a, cols a]⟩
  e := .bf16
  src := src a s
  dst _ := dst a s
  hsrc c := ((given_whole a).wordExact_slice rfl _ (source_words a s c)).reshape _ _
  hdst _ := ((taken_whole a).wordExact_slice rfl _ (target_words a s)).reshape _ _
  share := share s
  N := (dst a s).view.dmaCredit
  hN _ := rfl
  hN' _ := by cases a <;> rfl
  pos := View.dmaCredit_pos _ (by cases a <;> decide)
  hsc _ := by cases a <;> rfl

abbrev number : Eight → Fin 8
  | .a0 => 0 | .a1 => 1 | .a2 => 2 | .a3 => 3 | .a4 => 4 | .a5 => 5 | .a6 => 6 | .a7 => 7

theorem sem_inb : ∀ (a : Eight) (s : Fin 4) x, (![(number a).val, s.val] : Fin 2 → ℕ) x + S1x1.size x ≤ S8x4.size x := by decide +kernel

/-- One of the thirty-two semaphores of an array of them. -/
abbrev pick (b : DmaSems sig S8x4) (a : Eight) (s : Fin 4) : DmaSem sig :=
  ((b.slice (Rect.unit (s := S8x4) ![(number a).val, s.val] S1x1.size (sem_inb a s))).squeeze S_ squeezes_S1x1_S_).sem

abbrev semOf : (Eight × Empty) ⊕ (Eight × Fin 4) ⊕ (Eight × Fin 4) → DmaSem sig
  | .inl x => x.2.elim
  | .inr (.inl (a, s)) => pick cc0_scratch0 a s
  | .inr (.inr (a, s)) => pick cc0_scratch1 a s

abbrev talk : Talk nD sig (Eight × Empty) (Eight × Fin 4) where
  ls l := l.2.elim
  rs r := xfer r.1 r.2
  sem := semOf
  sem_inj := by decide +kernel
  peer _ := mate
  peer_peer := fun _ => by decide +kernel
  lev _ := 1
  lev_pos _ := Nat.one_pos

abbrev order : List (Eight × Fin 4) := [Eight.a0, .a1, .a2, .a3, .a4, .a5, .a6, .a7].flatMap fun a => [(a, 0), (a, 1), (a, 2), (a, 3)]

/-- The kernel's body starts every transfer, then waits for every one. -/
theorem body_eq (t : Fin cfg0.N) : defs₀ (F := F) .tc cfg0.body (cfg0.bodyArgs t (cfg0.slots t)) = .op .deviceId fun c => plain talk c [] order := rfl

/-! ## What the run leaves -/

/-- The side of a chip that device `d` is. -/
def side (d : Dev nD) : Fin 2 := ⟨d.val % 2, Nat.mod_lt _ (by decide)⟩

/-- The other core of device `d`'s chip. -/
def partner (d : Dev nD) : Dev nD := ⟨2 * (d.val / 2) + (1 - d.val % 2), by have : d.val < 8 := d.isLt; show 2 * (d.val / 2) + (1 - d.val % 2) < 8; omega⟩

section Values

variable (m : (ℓ : Loc nD τ sig) → Buf (Elt F) ℓ)

/-- What device `d`'s output `a` ends at: its half of the rows of the other core's input. -/
def result (a : Eight) (d : Dev nD) : Buf (Elt F) ((d.tc : Thread nD τ).loc (out a)) :=
  match a with
  | .a0 => fun i => m (((partner d).tc : Thread nD τ).loc main_arg0) (half (r := rows .a0) (side d) i)
  | .a1 => fun i => m (((partner d).tc : Thread nD τ).loc main_arg1) (half (r := rows .a1) (side d) i)
  | .a2 => fun i => m (((partner d).tc : Thread nD τ).loc main_arg2) (half (r := rows .a2) (side d) i)
  | .a3 => fun i => m (((partner d).tc : Thread nD τ).loc main_arg3) (half (r := rows .a3) (side d) i)
  | .a4 => fun i => m (((partner d).tc : Thread nD τ).loc main_arg4) (half (r := rows .a4) (side d) i)
  | .a5 => fun i => m (((partner d).tc : Thread nD τ).loc main_arg5) (half (r := rows .a5) (side d) i)
  | .a6 => fun i => m (((partner d).tc : Thread nD τ).loc main_arg6) (half (r := rows .a6) (side d) i)
  | .a7 => fun i => m (((partner d).tc : Thread nD τ).loc main_arg7) (half (r := rows .a7) (side d) i)

/-- The memory at the end. -/
def final : (ℓ : Loc nD τ sig) → Buf (Elt F) ℓ := overlay out (result m) m

theorem inj : Function.Injective (Sum.elim inp out) := by decide +kernel

theorem final_out (a : Eight) (d : Dev nD) : final m ((d.tc : Thread nD τ).loc (out a)) = result m a d :=
  overlay_out out (result m) m (fun _ _ h => Sum.inr.inj (inj h)) a d
theorem final_in (a : Eight) (d : Dev nD) : final m ((d.tc : Thread nD τ).loc (inp a)) = m _ :=
  overlay_other out (result m) m (inp a) (fun a' h => Sum.inl_ne_inr (inj (a₁ := .inl a) (a₂ := .inr a') h.symm)) d

theorem final_read (a : Eight) (d : Dev nD) (i : (⟨3, ![4, rows a, cols a]⟩ : Shape).Idx) :
    (taken a).view.read (Elt F) (final m ((taken a).view.loc (d.tc : Thread nD τ))) i
      = (given a).view.read (Elt F) (final m ((given a).view.loc ((partner d).tc : Thread nD τ))) (half (side d) i) := by
  have h1 := final_out m a d
  have h2 := final_in m a (partner d)
  cases a <;> exact (congrFun h1 _).trans (congrFun h2 _).symm

theorem partner_mate (c : Dev nD) : partner (mate c) = c := by revert c; decide +kernel
theorem side_mate (c : Dev nD) : (side (mate c)).val = 1 - c.val % 2 := by revert c; decide +kernel

theorem carries : Carries talk (final m) where
  here l := l.2.elim
  there := fun (a, s) c => by
    refine read_parts (hq := squeezes a) (hq' := squeezes a) (half (side (mate c))) (fun i hi x => ?_) fun i _ => ?_
    · match x with
      | 0 => show (i 0).val + s.val = s.val + (i 0).val; omega
      | 1 => show (side (mate c)).val * rows a + (i 1).val + 0 = first a c + (i 1).val; rw [first_eq, side_mate]; rfl
      | 2 => show (i 2).val + 0 = 0 + (i 2).val; omega
    · refine (final_read m a (mate c) i).trans ?_
      rw [partner_mate]

theorem reads : Reads talk inp m (final m) where
  here _ s := s.elim
  there a s c := by
    have h := final_in m a c
    cases a <;> exact narrow _ h

/-! ## The outputs, cut by their writers -/

/-- Which device's matrix a device writes. -/
def goal : Dev nD × (Empty ⊕ Fin 4) → Dev nD × Fin 4
  | (_, .inl s) => s.elim
  | (c, .inr s) => (mate c, s)

theorem goal_bij : Function.Bijective goal := by decide +kernel

def lead (a : Eight) : (Proc.devRef (τ := τ) .tc (out a)).ty.Idx → Fin 4 :=
  match a with
  | .a0 | .a1 | .a2 | .a3 | .a4 | .a5 | .a6 | .a7 => fun i => i 0

/-- The elements of matrix `s` of output `a`. -/
def slot (a : Eight) (s : Fin 4) : Finset (Proc.devRef (τ := τ) .tc (out a)).ty.Idx :=
  match a with
  | .a0 => (dst .a0 s).view.set
  | .a1 => (dst .a1 s).view.set
  | .a2 => (dst .a2 s).view.set
  | .a3 => (dst .a3 s).view.set
  | .a4 => (dst .a4 s).view.set
  | .a5 => (dst .a5 s).view.set
  | .a6 => (dst .a6 s).view.set
  | .a7 => (dst .a7 s).view.set

theorem mem_slot (a : Eight) (s : Fin 4) (i : (Proc.devRef (τ := τ) .tc (out a)).ty.Idx) : i ∈ slot a s ↔ lead a i = s := by
  have h := mem_matrix (taken a) (target s) (target_inb a s) (squeezes a) rfl rfl rfl rfl
  cases a <;> exact (h i).trans Fin.ext_iff.symm

def slots (a : Eight) : Slots (τ := τ) (Val := Elt F) talk a (out a) where
  K := Fin 4
  fintype := inferInstance
  decEq := inferInstance
  lead := lead a
  target := Equiv.ofBijective goal goal_bij
  S _ j := j.elim Empty.elim (slot a)
  hS c j i := by
    match j with
    | .inr s => exact mem_slot a s i
  here _ s := s.elim
  there c s V := by cases a <;> rfl

theorem body_runs (c : Dev nD) (t : Fin cfg0.N) (Q : PUnit → sProp (MT nD τ sig Unit (Elt F) ℕ (UU nD τ sig) ℕ)) :
    Runs (defs₀ (F := F)) Variants.none c Q (plain talk c [] order)
      ⊢ wp frame (wpE (defs₀ (F := F)) Variants.none (c.tc : Thread nD τ) none) Set.univ (defs₀ .tc cfg0.body (cfg0.bodyArgs t (cfg0.slots t))) fun _ => Q ⟨⟩ := by
  rw [body_eq, wp_deviceId]

/-- The run: every device's arrays are as they were, its outputs hold its half of the rows of the other core's arrays,
    and every semaphore is back at zero. -/
theorem run_main (g : Dev nD → PrngReg) :
    θ_run (defs (F := F)) (onTc main) ⟨m, fun _ => 0, g⟩ (fun r =>
      (∀ a, ∀ d : Dev nD, r.2.mem ((d.tc : Thread nD τ).loc (inp a)) = m _ ∧ r.2.mem ((d.tc : Thread nD τ).loc (out a)) = result m a d)
      ∧ ∀ g' : GSem nD τ sig, (g'.1.2 ≠ .tc ∨ g'.2.isScoped .tc = true) → r.2.sem g' = 0) := by
  haveI : IsEmpty (Fin cfg0.W) := (inferInstance : IsEmpty (Fin 0))
  have h := run_plain talk inp out m (final m) cfg0 N_0 cellOf_inj winFacts0.to₀ scopedRest0_eq (defs₀ (F := F)) g main (fun _ => rfl)
    (by decide +kernel) [] order (by decide) (by decide) (by decide +kernel) (by decide +kernel) inj (by decide +kernel) slots (carries m) (reads m) body_runs
  simp only [final_out] at h
  exact h

end Values

end Cert.SwapIdeal.Own
-- ==== Proof.SwapClaims.lean ====
module

public import proofs.«01_k».proof.Defs
public import proofs.«01_k».proof.Proof.SwapRun
public import proofs.«01_k».proof.Proof.Stacks
public import proofs.«01_k».proof.Proof.Gen.Swap
public import proofs.«01_k».proof.Proof.Gen.SwapRef.Run
public import proofs.«01_k».proof.Proof.Gen.SwapRefIdeal.Run
public import Idealize.ShloMosaic.Lib.Quiescent

@[expose] public section

noncomputable section

/-!
The claims about `Swap`: what its run leaves in every array, in terms of the whole arrays, is the reference's result.
-/

namespace Cert.SwapIdeal.Own

open Cert.SwapIdeal Cert.SwapIdeal.Gen Cert.Slot
open Idealize.ShloMosaic Idealize.ShloMosaic.TcCoe Idealize.SL.Sem

theorem all_scoped : ∀ s : SemLoc sig, s.isScoped .tc = true := by decide +kernel

theorem frame_ideal : Cert.quiescent_SwapIdeal := fun m g _ =>
  (θ_run (Cert.SwapIdeal.defs (F := Ideal)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Ideal) m g)

theorem frame_bits : Cert.quiescent_Swap := fun m g _ =>
  (θ_run (Cert.SwapIdeal.defs (F := Bits)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Bits) m g)

theorem reference_ideal : Cert.quiescent_SwapRefIdeal := fun m g _ =>
  (θ_run (Cert.SwapRefIdeal.defs (F := Ideal)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.SwapRefIdeal.Value.run m g)

theorem reference_bits : Cert.quiescent_SwapRef := fun m g _ =>
  (θ_run (Cert.SwapRef.defs (F := Bits)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.SwapRef.Value.run m g)

theorem value_ideal : Cert.algebraic_SwapIdeal_SwapRefIdeal := fun m g m' g' _ hm =>
  ⟨_, _, _, _, _, _, _, _,
    (θ_run (Cert.SwapIdeal.defs (F := Ideal)) _ _).mono (fun _ h c => ⟨(h.1 .a0 c).2.trans (swapped (r := 1024) (n := 1792) (fun d => (hm d).1) c (side c) rfl), (h.1 .a1 c).2.trans (swapped (r := 256) (n := 2048) (fun d => (hm d).2.1) c (side c) rfl), (h.1 .a2 c).2.trans (swapped (r := 1024) (n := 2816) (fun d => (hm d).2.2.1) c (side c) rfl), (h.1 .a3 c).2.trans (swapped (r := 704) (n := 2048) (fun d => (hm d).2.2.2.1) c (side c) rfl), (h.1 .a4 c).2.trans (swapped (r := 1024) (n := 1792) (fun d => (hm d).2.2.2.2.1) c (side c) rfl), (h.1 .a5 c).2.trans (swapped (r := 256) (n := 2048) (fun d => (hm d).2.2.2.2.2.1) c (side c) rfl), (h.1 .a6 c).2.trans (swapped (r := 1024) (n := 2816) (fun d => (hm d).2.2.2.2.2.2.1) c (side c) rfl), (h.1 .a7 c).2.trans (swapped (r := 704) (n := 2048) (fun d => (hm d).2.2.2.2.2.2.2) c (side c) rfl), (h.1 .a0 c).1, (h.1 .a1 c).1, (h.1 .a2 c).1, (h.1 .a3 c).1, (h.1 .a4 c).1, (h.1 .a5 c).1, (h.1 .a6 c).1, (h.1 .a7 c).1⟩) (run_main (F := Ideal) m g),
    (θ_run (Cert.SwapRefIdeal.defs (F := Ideal)) _ _).mono (fun _ h => h 0) (Cert.SwapRefIdeal.Value.run m' g')⟩

theorem value_bits : Cert.bitexact_Swap_SwapRef := fun m g m' g' _ hm =>
  ⟨_, _, _, _, _, _, _, _,
    (θ_run (Cert.SwapIdeal.defs (F := Bits)) _ _).mono (fun _ h c => ⟨(h.1 .a0 c).2.trans (swapped (r := 1024) (n := 1792) (fun d => (hm d).1) c (side c) rfl), (h.1 .a1 c).2.trans (swapped (r := 256) (n := 2048) (fun d => (hm d).2.1) c (side c) rfl), (h.1 .a2 c).2.trans (swapped (r := 1024) (n := 2816) (fun d => (hm d).2.2.1) c (side c) rfl), (h.1 .a3 c).2.trans (swapped (r := 704) (n := 2048) (fun d => (hm d).2.2.2.1) c (side c) rfl), (h.1 .a4 c).2.trans (swapped (r := 1024) (n := 1792) (fun d => (hm d).2.2.2.2.1) c (side c) rfl), (h.1 .a5 c).2.trans (swapped (r := 256) (n := 2048) (fun d => (hm d).2.2.2.2.2.1) c (side c) rfl), (h.1 .a6 c).2.trans (swapped (r := 1024) (n := 2816) (fun d => (hm d).2.2.2.2.2.2.1) c (side c) rfl), (h.1 .a7 c).2.trans (swapped (r := 704) (n := 2048) (fun d => (hm d).2.2.2.2.2.2.2) c (side c) rfl), (h.1 .a0 c).1, (h.1 .a1 c).1, (h.1 .a2 c).1, (h.1 .a3 c).1, (h.1 .a4 c).1, (h.1 .a5 c).1, (h.1 .a6 c).1, (h.1 .a7 c).1⟩) (run_main (F := Bits) m g),
    (θ_run (Cert.SwapRef.defs (F := Bits)) _ _).mono (fun _ h => h 0) (Cert.SwapRef.Value.run m' g')⟩

end Cert.SwapIdeal.Own

end
-- ==== Proof.ShareRun.lean ====
module

public import proofs.«01_k».proof.Proof.Slot
public import proofs.«01_k».proof.Proof.Gen.ShareIdeal.Launch
public import proofs.«01_k».proof.Proof.Gen.ShareIdeal.Points

@[expose] public section

noncomputable section

/-!
The program that shares the combined gradients between the two cores of a chip: its transfers, and its run.
Device `c` copies each of its eight arrays into matrix `c % 2` of its own output and of the other core's.
-/

namespace Cert.ShareIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Slot
open Cert.ShareIdeal Cert.ShareIdeal.Gen

variable {F : FTy → Type} [FloatOps F]

/-- The arrays. -/
abbrev inp : Eight → Ref sig .tc
  | .a0 => main_arg0
  | .a1 => main_arg1
  | .a2 => main_arg2
  | .a3 => main_arg3
  | .a4 => main_arg4
  | .a5 => main_arg5
  | .a6 => main_arg6
  | .a7 => main_arg7
abbrev out : Eight → Ref sig .tc
  | .a0 => main_v1_0
  | .a1 => main_v1_1
  | .a2 => main_v1_2
  | .a3 => main_v1_3
  | .a4 => main_v1_4
  | .a5 => main_v1_5
  | .a6 => main_v1_6
  | .a7 => main_v1_7

/-- The other core of the chip, as the kernel computes it for each array. -/
abbrev mate (a : Eight) (c : Dev nD) : Dev nD :=
  match a with
    | .a0 => ⟨k0_dev1 c, k0_dev1_lt c⟩
    | .a1 => ⟨k0_dev2 c, k0_dev2_lt c⟩
    | .a2 => ⟨k0_dev3 c, k0_dev3_lt c⟩
    | .a3 => ⟨k0_dev4 c, k0_dev4_lt c⟩
    | .a4 => ⟨k0_dev5 c, k0_dev5_lt c⟩
    | .a5 => ⟨k0_dev6 c, k0_dev6_lt c⟩
    | .a6 => ⟨k0_dev7 c, k0_dev7_lt c⟩
    | .a7 => ⟨k0_dev8 c, k0_dev8_lt c⟩

/-- The core itself and the core across. -/
abbrev shareHere : PosShare TreeShare := pieceOf (Unit ⊕ (Unit ⊕ Unit)) (.inr (.inl ()))
abbrev shareThere : PosShare TreeShare := pieceOf (Unit ⊕ (Unit ⊕ Unit)) (.inr (.inr ()))

/-- Device `c`'s matrix of each output. -/
abbrev dst0 (c : Dev nD) : Memref sig .tc .hbm S1024x1792 .f32 := ((Memref.whole main_v1_0).slice (Rect.unit (s := S2x1024x1792) (k0_off1 c) S1x1024x1792.size (k0_off1_inb c)) (fun _ => rfl)).squeeze S1024x1792 squeezes_S1x1024x1792_S1024x1792
abbrev dst1 (c : Dev nD) : Memref sig .tc .hbm S256x2048 .f32 := ((Memref.whole main_v1_1).slice (Rect.unit (s := S2x256x2048) (k0_off2 c) S1x256x2048.size (k0_off2_inb c)) (fun _ => rfl)).squeeze S256x2048 squeezes_S1x256x2048_S256x2048
abbrev dst2 (c : Dev nD) : Memref sig .tc .hbm S1024x2816 .f32 := ((Memref.whole main_v1_2).slice (Rect.unit (s := S2x1024x2816) (k0_off3 c) S1x1024x2816.size (k0_off3_inb c)) (fun _ => rfl)).squeeze S1024x2816 squeezes_S1x1024x2816_S1024x2816
abbrev dst3 (c : Dev nD) : Memref sig .tc .hbm S704x2048 .f32 := ((Memref.whole main_v1_3).slice (Rect.unit (s := S2x704x2048) (k0_off4 c) S1x704x2048.size (k0_off4_inb c)) (fun _ => rfl)).squeeze S704x2048 squeezes_S1x704x2048_S704x2048
abbrev dst4 (c : Dev nD) : Memref sig .tc .hbm S1024x1792 .f32 := ((Memref.whole main_v1_4).slice (Rect.unit (s := S2x1024x1792) (k0_off1 c) S1x1024x1792.size (k0_off1_inb c)) (fun _ => rfl)).squeeze S1024x1792 squeezes_S1x1024x1792_S1024x1792
abbrev dst5 (c : Dev nD) : Memref sig .tc .hbm S256x2048 .f32 := ((Memref.whole main_v1_5).slice (Rect.unit (s := S2x256x2048) (k0_off2 c) S1x256x2048.size (k0_off2_inb c)) (fun _ => rfl)).squeeze S256x2048 squeezes_S1x256x2048_S256x2048
abbrev dst6 (c : Dev nD) : Memref sig .tc .hbm S1024x2816 .f32 := ((Memref.whole main_v1_6).slice (Rect.unit (s := S2x1024x2816) (k0_off3 c) S1x1024x2816.size (k0_off3_inb c)) (fun _ => rfl)).squeeze S1024x2816 squeezes_S1x1024x2816_S1024x2816
abbrev dst7 (c : Dev nD) : Memref sig .tc .hbm S704x2048 .f32 := ((Memref.whole main_v1_7).slice (Rect.unit (s := S2x704x2048) (k0_off4 c) S1x704x2048.size (k0_off4_inb c)) (fun _ => rfl)).squeeze S704x2048 squeezes_S1x704x2048_S704x2048

/-! Each array written into a device's own matrix of the output, read through the share `q`. -/
abbrev xfer0 (q : PosShare TreeShare) : Xfer nD sig where
  s := S1024x1792
  e := .f32
  src _ := Memref.whole main_arg0
  dst := dst0
  hsrc _ := (Memref.isWhole_whole _).wordExact
  hdst _ := (View.wordExact_bits rfl).reshape _ _
  share := q
  N := (Memref.whole main_arg0 : Memref sig .tc .hbm S1024x1792 .f32).view.dmaCredit
  hN _ := rfl
  hN' _ := rfl
  pos := View.dmaCredit_pos _ (by decide)
  hsc _ := rfl
abbrev xfer1 (q : PosShare TreeShare) : Xfer nD sig where
  s := S256x2048
  e := .f32
  src _ := Memref.whole main_arg1
  dst := dst1
  hsrc _ := (Memref.isWhole_whole _).wordExact
  hdst _ := (View.wordExact_bits rfl).reshape _ _
  share := q
  N := (Memref.whole main_arg1 : Memref sig .tc .hbm S256x2048 .f32).view.dmaCredit
  hN _ := rfl
  hN' _ := rfl
  pos := View.dmaCredit_pos _ (by decide)
  hsc _ := rfl
abbrev xfer2 (q : PosShare TreeShare) : Xfer nD sig where
  s := S1024x2816
  e := .f32
  src _ := Memref.whole main_arg2
  dst := dst2
  hsrc _ := (Memref.isWhole_whole _).wordExact
  hdst _ := (View.wordExact_bits rfl).reshape _ _
  share := q
  N := (Memref.whole main_arg2 : Memref sig .tc .hbm S1024x2816 .f32).view.dmaCredit
  hN _ := rfl
  hN' _ := rfl
  pos := View.dmaCredit_pos _ (by decide)
  hsc _ := rfl
abbrev xfer3 (q : PosShare TreeShare) : Xfer nD sig where
  s := S704x2048
  e := .f32
  src _ := Memref.whole main_arg3
  dst := dst3
  hsrc _ := (Memref.isWhole_whole _).wordExact
  hdst _ := (View.wordExact_bits rfl).reshape _ _
  share := q
  N := (Memref.whole main_arg3 : Memref sig .tc .hbm S704x2048 .f32).view.dmaCredit
  hN _ := rfl
  hN' _ := rfl
  pos := View.dmaCredit_pos _ (by decide)
  hsc _ := rfl
abbrev xfer4 (q : PosShare TreeShare) : Xfer nD sig where
  s := S1024x1792
  e := .f32
  src _ := Memref.whole main_arg4
  dst := dst4
  hsrc _ := (Memref.isWhole_whole _).wordExact
  hdst _ := (View.wordExact_bits rfl).reshape _ _
  share := q
  N := (Memref.whole main_arg4 : Memref sig .tc .hbm S1024x1792 .f32).view.dmaCredit
  hN _ := rfl
  hN' _ := rfl
  pos := View.dmaCredit_pos _ (by decide)
  hsc _ := rfl
abbrev xfer5 (q : PosShare TreeShare) : Xfer nD sig where
  s := S256x2048
  e := .f32
  src _ := Memref.whole main_arg5
  dst := dst5
  hsrc _ := (Memref.isWhole_whole _).wordExact
  hdst _ := (View.wordExact_bits rfl).reshape _ _
  share := q
  N := (Memref.whole main_arg5 : Memref sig .tc .hbm S256x2048 .f32).view.dmaCredit
  hN _ := rfl
  hN' _ := rfl
  pos := View.dmaCredit_pos _ (by decide)
  hsc _ := rfl
abbrev xfer6 (q : PosShare TreeShare) : Xfer nD sig where
  s := S1024x2816
  e := .f32
  src _ := Memref.whole main_arg6
  dst := dst6
  hsrc _ := (Memref.isWhole_whole _).wordExact
  hdst _ := (View.wordExact_bits rfl).reshape _ _
  share := q
  N := (Memref.whole main_arg6 : Memref sig .tc .hbm S1024x2816 .f32).view.dmaCredit
  hN _ := rfl
  hN' _ := rfl
  pos := View.dmaCredit_pos _ (by decide)
  hsc _ := rfl
abbrev xfer7 (q : PosShare TreeShare) : Xfer nD sig where
  s := S704x2048
  e := .f32
  src _ := Memref.whole main_arg7
  dst := dst7
  hsrc _ := (Memref.isWhole_whole _).wordExact
  hdst _ := (View.wordExact_bits rfl).reshape _ _
  share := q
  N := (Memref.whole main_arg7 : Memref sig .tc .hbm S704x2048 .f32).view.dmaCredit
  hN _ := rfl
  hN' _ := rfl
  pos := View.dmaCredit_pos _ (by decide)
  hsc _ := rfl

abbrev xfer (q : PosShare TreeShare) (a : Eight) : Xfer nD sig :=
  match a with
    | .a0 => xfer0 q
    | .a1 => xfer1 q
    | .a2 => xfer2 q
    | .a3 => xfer3 q
    | .a4 => xfer4 q
    | .a5 => xfer5 q
    | .a6 => xfer6 q
    | .a7 => xfer7 q

/-- One of eight semaphores. -/
abbrev one (s : DmaSems sig S8) (a : Eight) : DmaSem sig :=
  match a with
    | .a0 => ((s.slice (Rect.unit (s := S8) ![0] S1.size inb_S8_S1_0)).squeeze S_ squeezes_S1_S_).sem
    | .a1 => ((s.slice (Rect.unit (s := S8) ![1] S1.size inb_S8_S1_1)).squeeze S_ squeezes_S1_S_).sem
    | .a2 => ((s.slice (Rect.unit (s := S8) ![2] S1.size inb_S8_S1_2)).squeeze S_ squeezes_S1_S_).sem
    | .a3 => ((s.slice (Rect.unit (s := S8) ![3] S1.size inb_S8_S1_3)).squeeze S_ squeezes_S1_S_).sem
    | .a4 => ((s.slice (Rect.unit (s := S8) ![4] S1.size inb_S8_S1_4)).squeeze S_ squeezes_S1_S_).sem
    | .a5 => ((s.slice (Rect.unit (s := S8) ![5] S1.size inb_S8_S1_5)).squeeze S_ squeezes_S1_S_).sem
    | .a6 => ((s.slice (Rect.unit (s := S8) ![6] S1.size inb_S8_S1_6)).squeeze S_ squeezes_S1_S_).sem
    | .a7 => ((s.slice (Rect.unit (s := S8) ![7] S1.size inb_S8_S1_7)).squeeze S_ squeezes_S1_S_).sem

abbrev semOf : (Eight × Unit) ⊕ (Eight × Unit) ⊕ (Eight × Unit) → DmaSem sig
  | .inl (a, _) => one cc0_scratch2 a
  | .inr (.inl (a, _)) => one cc0_scratch0 a
  | .inr (.inr (a, _)) => one cc0_scratch1 a

abbrev talk : Talk nD sig (Eight × Unit) (Eight × Unit) where
  ls l := xfer shareHere l.1
  rs r := xfer shareThere r.1
  sem := semOf
  sem_inj := by decide +kernel
  peer r := mate r.1
  peer_peer := by decide +kernel
  lev _ := 1
  lev_pos _ := Nat.one_pos

/-- The device of `d`'s chip whose core is `k`. -/
def core (d : Dev nD) (k : Fin 2) : Dev nD := ⟨2 * (d.val / 2) + k.val, by have : d.val < 8 := d.isLt; have := k.isLt; show 2 * (d.val / 2) + k.val < 8; omega⟩

section Values

variable (m : (ℓ : Loc nD τ sig) → Buf (Elt F) ℓ)

/-- What device `d`'s output `a` ends at: matrix `k` is core `k`'s array. -/
def result (a : Eight) (d : Dev nD) : Buf (Elt F) ((d.tc : Thread nD τ).loc (out a)) :=
  match a with
    | .a0 => fun i => m (((core d (i 0)).tc : Thread nD τ).loc main_arg0) (below i)
    | .a1 => fun i => m (((core d (i 0)).tc : Thread nD τ).loc main_arg1) (below i)
    | .a2 => fun i => m (((core d (i 0)).tc : Thread nD τ).loc main_arg2) (below i)
    | .a3 => fun i => m (((core d (i 0)).tc : Thread nD τ).loc main_arg3) (below i)
    | .a4 => fun i => m (((core d (i 0)).tc : Thread nD τ).loc main_arg4) (below i)
    | .a5 => fun i => m (((core d (i 0)).tc : Thread nD τ).loc main_arg5) (below i)
    | .a6 => fun i => m (((core d (i 0)).tc : Thread nD τ).loc main_arg6) (below i)
    | .a7 => fun i => m (((core d (i 0)).tc : Thread nD τ).loc main_arg7) (below i)

/-- The memory at the end. -/
def final : (ℓ : Loc nD τ sig) → Buf (Elt F) ℓ := overlay out (result m) m

theorem inj : Function.Injective (Sum.elim inp out) := by decide +kernel

theorem final_out (a : Eight) (d : Dev nD) : final m ((d.tc : Thread nD τ).loc (out a)) = result m a d :=
  overlay_out out (result m) m (fun _ _ h => Sum.inr.inj (inj h)) a d
theorem final_in (a : Eight) (d : Dev nD) : final m ((d.tc : Thread nD τ).loc (inp a)) = m _ :=
  overlay_other out (result m) m (inp a) (fun a' h => Sum.inl_ne_inr (inj (a₁ := .inl a) (a₂ := .inr a') h.symm)) d

def half (c : Dev nD) : Fin 2 := ⟨c.val % 2, Nat.mod_lt _ (by decide)⟩
theorem core_self (c : Dev nD) : core c (half c) = c := by revert c; decide +kernel
theorem core_mate (a : Eight) (c : Dev nD) : core (mate a c) (half c) = c := by revert a c; decide +kernel

theorem carried0 (c d : Dev nD) (hd : core d (half c) = c) :
    (dst0 c).view.read (Elt F) (final m ((d.tc : Thread nD τ).loc main_v1_0))
      = (Memref.whole main_arg0 : Memref sig .tc .hbm S1024x1792 .f32).view.read (Elt F) (final m ((c.tc : Thread nD τ).loc main_arg0)) := by
  refine funext fun (y : S1024x1792.Idx) => ?_
  refine (read_part (Memref.whole main_v1_0) (k0_off1 c) (k0_off1_inb c) squeezes_S1x1024x1792_S1024x1792 (final m ((d.tc : Thread nD τ).loc main_v1_0)) y (above (half c) y) (by rw [k0_off1_eq]; rfl) (by rw [k0_off1_eq]; exact (Nat.zero_add _).symm) (by rw [k0_off1_eq]; exact (Nat.zero_add _).symm)).trans ?_
  show final m ((d.tc : Thread nD τ).loc (out .a0)) (above (half c) y) = final m ((c.tc : Thread nD τ).loc (inp .a0)) y
  rw [final_out, final_in]
  show m (((core d (half c)).tc : Thread nD τ).loc main_arg0) (below (above (half c) y)) = _
  rw [hd, below_above]

theorem carried1 (c d : Dev nD) (hd : core d (half c) = c) :
    (dst1 c).view.read (Elt F) (final m ((d.tc : Thread nD τ).loc main_v1_1))
      = (Memref.whole main_arg1 : Memref sig .tc .hbm S256x2048 .f32).view.read (Elt F) (final m ((c.tc : Thread nD τ).loc main_arg1)) := by
  refine funext fun (y : S256x2048.Idx) => ?_
  refine (read_part (Memref.whole main_v1_1) (k0_off2 c) (k0_off2_inb c) squeezes_S1x256x2048_S256x2048 (final m ((d.tc : Thread nD τ).loc main_v1_1)) y (above (half c) y) (by rw [k0_off2_eq]; rfl) (by rw [k0_off2_eq]; exact (Nat.zero_add _).symm) (by rw [k0_off2_eq]; exact (Nat.zero_add _).symm)).trans ?_
  show final m ((d.tc : Thread nD τ).loc (out .a1)) (above (half c) y) = final m ((c.tc : Thread nD τ).loc (inp .a1)) y
  rw [final_out, final_in]
  show m (((core d (half c)).tc : Thread nD τ).loc main_arg1) (below (above (half c) y)) = _
  rw [hd, below_above]

theorem carried2 (c d : Dev nD) (hd : core d (half c) = c) :
    (dst2 c).view.read (Elt F) (final m ((d.tc : Thread nD τ).loc main_v1_2))
      = (Memref.whole main_arg2 : Memref sig .tc .hbm S1024x2816 .f32).view.read (Elt F) (final m ((c.tc : Thread nD τ).loc main_arg2)) := by
  refine funext fun (y : S1024x2816.Idx) => ?_
  refine (read_part (Memref.whole main_v1_2) (k0_off3 c) (k0_off3_inb c) squeezes_S1x1024x2816_S1024x2816 (final m ((d.tc : Thread nD τ).loc main_v1_2)) y (above (half c) y) (by rw [k0_off3_eq]; rfl) (by rw [k0_off3_eq]; exact (Nat.zero_add _).symm) (by rw [k0_off3_eq]; exact (Nat.zero_add _).symm)).trans ?_
  show final m ((d.tc : Thread nD τ).loc (out .a2)) (above (half c) y) = final m ((c.tc : Thread nD τ).loc (inp .a2)) y
  rw [final_out, final_in]
  show m (((core d (half c)).tc : Thread nD τ).loc main_arg2) (below (above (half c) y)) = _
  rw [hd, below_above]

theorem carried3 (c d : Dev nD) (hd : core d (half c) = c) :
    (dst3 c).view.read (Elt F) (final m ((d.tc : Thread nD τ).loc main_v1_3))
      = (Memref.whole main_arg3 : Memref sig .tc .hbm S704x2048 .f32).view.read (Elt F) (final m ((c.tc : Thread nD τ).loc main_arg3)) := by
  refine funext fun (y : S704x2048.Idx) => ?_
  refine (read_part (Memref.whole main_v1_3) (k0_off4 c) (k0_off4_inb c) squeezes_S1x704x2048_S704x2048 (final m ((d.tc : Thread nD τ).loc main_v1_3)) y (above (half c) y) (by rw [k0_off4_eq]; rfl) (by rw [k0_off4_eq]; exact (Nat.zero_add _).symm) (by rw [k0_off4_eq]; exact (Nat.zero_add _).symm)).trans ?_
  show final m ((d.tc : Thread nD τ).loc (out .a3)) (above (half c) y) = final m ((c.tc : Thread nD τ).loc (inp .a3)) y
  rw [final_out, final_in]
  show m (((core d (half c)).tc : Thread nD τ).loc main_arg3) (below (above (half c) y)) = _
  rw [hd, below_above]

theorem carried4 (c d : Dev nD) (hd : core d (half c) = c) :
    (dst4 c).view.read (Elt F) (final m ((d.tc : Thread nD τ).loc main_v1_4))
      = (Memref.whole main_arg4 : Memref sig .tc .hbm S1024x1792 .f32).view.read (Elt F) (final m ((c.tc : Thread nD τ).loc main_arg4)) := by
  refine funext fun (y : S1024x1792.Idx) => ?_
  refine (read_part (Memref.whole main_v1_4) (k0_off1 c) (k0_off1_inb c) squeezes_S1x1024x1792_S1024x1792 (final m ((d.tc : Thread nD τ).loc main_v1_4)) y (above (half c) y) (by rw [k0_off1_eq]; rfl) (by rw [k0_off1_eq]; exact (Nat.zero_add _).symm) (by rw [k0_off1_eq]; exact (Nat.zero_add _).symm)).trans ?_
  show final m ((d.tc : Thread nD τ).loc (out .a4)) (above (half c) y) = final m ((c.tc : Thread nD τ).loc (inp .a4)) y
  rw [final_out, final_in]
  show m (((core d (half c)).tc : Thread nD τ).loc main_arg4) (below (above (half c) y)) = _
  rw [hd, below_above]

theorem carried5 (c d : Dev nD) (hd : core d (half c) = c) :
    (dst5 c).view.read (Elt F) (final m ((d.tc : Thread nD τ).loc main_v1_5))
      = (Memref.whole main_arg5 : Memref sig .tc .hbm S256x2048 .f32).view.read (Elt F) (final m ((c.tc : Thread nD τ).loc main_arg5)) := by
  refine funext fun (y : S256x2048.Idx) => ?_
  refine (read_part (Memref.whole main_v1_5) (k0_off2 c) (k0_off2_inb c) squeezes_S1x256x2048_S256x2048 (final m ((d.tc : Thread nD τ).loc main_v1_5)) y (above (half c) y) (by rw [k0_off2_eq]; rfl) (by rw [k0_off2_eq]; exact (Nat.zero_add _).symm) (by rw [k0_off2_eq]; exact (Nat.zero_add _).symm)).trans ?_
  show final m ((d.tc : Thread nD τ).loc (out .a5)) (above (half c) y) = final m ((c.tc : Thread nD τ).loc (inp .a5)) y
  rw [final_out, final_in]
  show m (((core d (half c)).tc : Thread nD τ).loc main_arg5) (below (above (half c) y)) = _
  rw [hd, below_above]

theorem carried6 (c d : Dev nD) (hd : core d (half c) = c) :
    (dst6 c).view.read (Elt F) (final m ((d.tc : Thread nD τ).loc main_v1_6))
      = (Memref.whole main_arg6 : Memref sig .tc .hbm S1024x2816 .f32).view.read (Elt F) (final m ((c.tc : Thread nD τ).loc main_arg6)) := by
  refine funext fun (y : S1024x2816.Idx) => ?_
  refine (read_part (Memref.whole main_v1_6) (k0_off3 c) (k0_off3_inb c) squeezes_S1x1024x2816_S1024x2816 (final m ((d.tc : Thread nD τ).loc main_v1_6)) y (above (half c) y) (by rw [k0_off3_eq]; rfl) (by rw [k0_off3_eq]; exact (Nat.zero_add _).symm) (by rw [k0_off3_eq]; exact (Nat.zero_add _).symm)).trans ?_
  show final m ((d.tc : Thread nD τ).loc (out .a6)) (above (half c) y) = final m ((c.tc : Thread nD τ).loc (inp .a6)) y
  rw [final_out, final_in]
  show m (((core d (half c)).tc : Thread nD τ).loc main_arg6) (below (above (half c) y)) = _
  rw [hd, below_above]

theorem carried7 (c d : Dev nD) (hd : core d (half c) = c) :
    (dst7 c).view.read (Elt F) (final m ((d.tc : Thread nD τ).loc main_v1_7))
      = (Memref.whole main_arg7 : Memref sig .tc .hbm S704x2048 .f32).view.read (Elt F) (final m ((c.tc : Thread nD τ).loc main_arg7)) := by
  refine funext fun (y : S704x2048.Idx) => ?_
  refine (read_part (Memref.whole main_v1_7) (k0_off4 c) (k0_off4_inb c) squeezes_S1x704x2048_S704x2048 (final m ((d.tc : Thread nD τ).loc main_v1_7)) y (above (half c) y) (by rw [k0_off4_eq]; rfl) (by rw [k0_off4_eq]; exact (Nat.zero_add _).symm) (by rw [k0_off4_eq]; exact (Nat.zero_add _).symm)).trans ?_
  show final m ((d.tc : Thread nD τ).loc (out .a7)) (above (half c) y) = final m ((c.tc : Thread nD τ).loc (inp .a7)) y
  rw [final_out, final_in]
  show m (((core d (half c)).tc : Thread nD τ).loc main_arg7) (below (above (half c) y)) = _
  rw [hd, below_above]

theorem carried (q : PosShare TreeShare) (a : Eight) (c d : Dev nD) (hd : core d (half c) = c) :
    ((xfer q a).dst c).view.read (Elt F) (final m (((xfer q a).dst c).view.loc (d.tc : Thread nD τ)))
      = ((xfer q a).src c).view.read (Elt F) (final m (((xfer q a).src c).view.loc (c.tc : Thread nD τ))) := by
  match a with
    | .a0 => exact carried0 m c d hd
    | .a1 => exact carried1 m c d hd
    | .a2 => exact carried2 m c d hd
    | .a3 => exact carried3 m c d hd
    | .a4 => exact carried4 m c d hd
    | .a5 => exact carried5 m c d hd
    | .a6 => exact carried6 m c d hd
    | .a7 => exact carried7 m c d hd

theorem carries : Carries talk (final m) where
  here l c := carried m shareHere l.1 c c (core_self c)
  there r c := carried m shareThere r.1 c (mate r.1 c) (core_mate r.1 c)

theorem source (q : PosShare TreeShare) (a : Eight) (c : Dev nD) :
    (((c.tc : Thread nD τ).loc (inp a)) ↦[Finset.univ]{q} m _ : sProp (MT nD τ sig Unit (Elt F) ℕ (UU nD τ sig) ℕ)) = srcAt (final m) (xfer q a) c := by
  match a with
  | .a0 =>
    show (((c.tc : Thread nD τ).loc main_arg0) ↦[Finset.univ]{q} m _ : sProp (MT nD τ sig Unit (Elt F) ℕ (UU nD τ sig) ℕ)) = (((c.tc : Thread nD τ).loc main_arg0) ↦[(View.whole main_arg0).set]{q} final m _)
    rw [View.set_whole, show final m ((c.tc : Thread nD τ).loc main_arg0) = m _ from final_in m .a0 c]
  | .a1 =>
    show (((c.tc : Thread nD τ).loc main_arg1) ↦[Finset.univ]{q} m _ : sProp (MT nD τ sig Unit (Elt F) ℕ (UU nD τ sig) ℕ)) = (((c.tc : Thread nD τ).loc main_arg1) ↦[(View.whole main_arg1).set]{q} final m _)
    rw [View.set_whole, show final m ((c.tc : Thread nD τ).loc main_arg1) = m _ from final_in m .a1 c]
  | .a2 =>
    show (((c.tc : Thread nD τ).loc main_arg2) ↦[Finset.univ]{q} m _ : sProp (MT nD τ sig Unit (Elt F) ℕ (UU nD τ sig) ℕ)) = (((c.tc : Thread nD τ).loc main_arg2) ↦[(View.whole main_arg2).set]{q} final m _)
    rw [View.set_whole, show final m ((c.tc : Thread nD τ).loc main_arg2) = m _ from final_in m .a2 c]
  | .a3 =>
    show (((c.tc : Thread nD τ).loc main_arg3) ↦[Finset.univ]{q} m _ : sProp (MT nD τ sig Unit (Elt F) ℕ (UU nD τ sig) ℕ)) = (((c.tc : Thread nD τ).loc main_arg3) ↦[(View.whole main_arg3).set]{q} final m _)
    rw [View.set_whole, show final m ((c.tc : Thread nD τ).loc main_arg3) = m _ from final_in m .a3 c]
  | .a4 =>
    show (((c.tc : Thread nD τ).loc main_arg4) ↦[Finset.univ]{q} m _ : sProp (MT nD τ sig Unit (Elt F) ℕ (UU nD τ sig) ℕ)) = (((c.tc : Thread nD τ).loc main_arg4) ↦[(View.whole main_arg4).set]{q} final m _)
    rw [View.set_whole, show final m ((c.tc : Thread nD τ).loc main_arg4) = m _ from final_in m .a4 c]
  | .a5 =>
    show (((c.tc : Thread nD τ).loc main_arg5) ↦[Finset.univ]{q} m _ : sProp (MT nD τ sig Unit (Elt F) ℕ (UU nD τ sig) ℕ)) = (((c.tc : Thread nD τ).loc main_arg5) ↦[(View.whole main_arg5).set]{q} final m _)
    rw [View.set_whole, show final m ((c.tc : Thread nD τ).loc main_arg5) = m _ from final_in m .a5 c]
  | .a6 =>
    show (((c.tc : Thread nD τ).loc main_arg6) ↦[Finset.univ]{q} m _ : sProp (MT nD τ sig Unit (Elt F) ℕ (UU nD τ sig) ℕ)) = (((c.tc : Thread nD τ).loc main_arg6) ↦[(View.whole main_arg6).set]{q} final m _)
    rw [View.set_whole, show final m ((c.tc : Thread nD τ).loc main_arg6) = m _ from final_in m .a6 c]
  | .a7 =>
    show (((c.tc : Thread nD τ).loc main_arg7) ↦[Finset.univ]{q} m _ : sProp (MT nD τ sig Unit (Elt F) ℕ (UU nD τ sig) ℕ)) = (((c.tc : Thread nD τ).loc main_arg7) ↦[(View.whole main_arg7).set]{q} final m _)
    rw [View.set_whole, show final m ((c.tc : Thread nD τ).loc main_arg7) = m _ from final_in m .a7 c]

theorem reads : Reads talk inp m (final m) where
  here a _ c := Entails.of_eq (source m shareHere a c)
  there a _ c := Entails.of_eq (source m shareThere a c)

/-- Which device's matrix a device writes. -/
def target (a : Eight) : Dev nD × (Unit ⊕ Unit) → Dev nD × Fin 2
  | (c, .inl _) => (c, half c)
  | (c, .inr _) => (mate a c, half c)

theorem target_bij : ∀ a, Function.Bijective (target a) := by decide +kernel
def targets (a : Eight) : Dev nD × (Unit ⊕ Unit) ≃ Dev nD × Fin 2 := Equiv.ofBijective (target a) (target_bij a)

def lead (a : Eight) : (Proc.devRef (τ := τ) .tc (out a)).ty.Idx → Fin 2 :=
  match a with
    | .a0 => fun i => i 0
    | .a1 => fun i => i 0
    | .a2 => fun i => i 0
    | .a3 => fun i => i 0
    | .a4 => fun i => i 0
    | .a5 => fun i => i 0
    | .a6 => fun i => i 0
    | .a7 => fun i => i 0

/-- The elements of output `a` that device `c` writes. -/
def slot (a : Eight) (c : Dev nD) : Finset (Proc.devRef (τ := τ) .tc (out a)).ty.Idx :=
  match a with
    | .a0 => (dst0 c).view.set
    | .a1 => (dst1 c).view.set
    | .a2 => (dst2 c).view.set
    | .a3 => (dst3 c).view.set
    | .a4 => (dst4 c).view.set
    | .a5 => (dst5 c).view.set
    | .a6 => (dst6 c).view.set
    | .a7 => (dst7 c).view.set

theorem mem_slot (a : Eight) (c : Dev nD) (i : (Proc.devRef (τ := τ) .tc (out a)).ty.Idx) : i ∈ slot a c ↔ lead a i = half c := by
  match a with
  | .a0 =>
    refine (mem_matrix (Memref.whole main_v1_0) (k0_off1 c) (k0_off1_inb c) squeezes_S1x1024x1792_S1024x1792 rfl rfl (by rw [k0_off1_eq]; rfl) (by rw [k0_off1_eq]; rfl) i).trans ?_
    rw [k0_off1_eq]
    exact (Fin.ext_iff (a := lead .a0 i) (b := half c)).symm
  | .a1 =>
    refine (mem_matrix (Memref.whole main_v1_1) (k0_off2 c) (k0_off2_inb c) squeezes_S1x256x2048_S256x2048 rfl rfl (by rw [k0_off2_eq]; rfl) (by rw [k0_off2_eq]; rfl) i).trans ?_
    rw [k0_off2_eq]
    exact (Fin.ext_iff (a := lead .a1 i) (b := half c)).symm
  | .a2 =>
    refine (mem_matrix (Memref.whole main_v1_2) (k0_off3 c) (k0_off3_inb c) squeezes_S1x1024x2816_S1024x2816 rfl rfl (by rw [k0_off3_eq]; rfl) (by rw [k0_off3_eq]; rfl) i).trans ?_
    rw [k0_off3_eq]
    exact (Fin.ext_iff (a := lead .a2 i) (b := half c)).symm
  | .a3 =>
    refine (mem_matrix (Memref.whole main_v1_3) (k0_off4 c) (k0_off4_inb c) squeezes_S1x704x2048_S704x2048 rfl rfl (by rw [k0_off4_eq]; rfl) (by rw [k0_off4_eq]; rfl) i).trans ?_
    rw [k0_off4_eq]
    exact (Fin.ext_iff (a := lead .a3 i) (b := half c)).symm
  | .a4 =>
    refine (mem_matrix (Memref.whole main_v1_4) (k0_off1 c) (k0_off1_inb c) squeezes_S1x1024x1792_S1024x1792 rfl rfl (by rw [k0_off1_eq]; rfl) (by rw [k0_off1_eq]; rfl) i).trans ?_
    rw [k0_off1_eq]
    exact (Fin.ext_iff (a := lead .a4 i) (b := half c)).symm
  | .a5 =>
    refine (mem_matrix (Memref.whole main_v1_5) (k0_off2 c) (k0_off2_inb c) squeezes_S1x256x2048_S256x2048 rfl rfl (by rw [k0_off2_eq]; rfl) (by rw [k0_off2_eq]; rfl) i).trans ?_
    rw [k0_off2_eq]
    exact (Fin.ext_iff (a := lead .a5 i) (b := half c)).symm
  | .a6 =>
    refine (mem_matrix (Memref.whole main_v1_6) (k0_off3 c) (k0_off3_inb c) squeezes_S1x1024x2816_S1024x2816 rfl rfl (by rw [k0_off3_eq]; rfl) (by rw [k0_off3_eq]; rfl) i).trans ?_
    rw [k0_off3_eq]
    exact (Fin.ext_iff (a := lead .a6 i) (b := half c)).symm
  | .a7 =>
    refine (mem_matrix (Memref.whole main_v1_7) (k0_off4 c) (k0_off4_inb c) squeezes_S1x704x2048_S704x2048 rfl rfl (by rw [k0_off4_eq]; rfl) (by rw [k0_off4_eq]; rfl) i).trans ?_
    rw [k0_off4_eq]
    exact (Fin.ext_iff (a := lead .a7 i) (b := half c)).symm

theorem dst_slot (q : PosShare TreeShare) (a : Eight) (c d : Dev nD) (V : (ℓ : Loc nD τ sig) → Buf (Elt F) ℓ) :
    (dstAt (xfer q a) c d V : sProp (MT nD τ sig Unit (Elt F) ℕ (UU nD τ sig) ℕ)) = (((d.tc : Thread nD τ).loc (out a)) ↦[slot a c]{fullShare} V _) := by
  match a with
    | .a0 => rfl
    | .a1 => rfl
    | .a2 => rfl
    | .a3 => rfl
    | .a4 => rfl
    | .a5 => rfl
    | .a6 => rfl
    | .a7 => rfl

def slots (a : Eight) : Slots (τ := τ) (Val := Elt F) talk a (out a) where
  K := Fin 2
  fintype := inferInstance
  decEq := inferInstance
  lead := lead a
  target := targets a
  S c _ := slot a c
  hS c j i := by
    rw [show (targets a (c, j)).2 = half c from by cases j <;> rfl]
    exact mem_slot a c i
  here c _ V := dst_slot shareHere a c c V
  there c _ V := dst_slot shareThere a c (mate a c) V

abbrev order : List (Eight × Unit) := [(.a0, ()), (.a1, ()), (.a2, ()), (.a3, ()), (.a4, ()), (.a5, ()), (.a6, ()), (.a7, ())]

/-- The kernel's body starts every transfer, then waits for every one. -/
theorem body_eq (t : Fin cfg0.N) : bodyAt0 (F := F) t = .op .deviceId fun c => plain talk c order order := rfl

theorem body_runs (c : Dev nD) (t : Fin cfg0.N) (Q : PUnit → sProp (MT nD τ sig Unit (Elt F) ℕ (UU nD τ sig) ℕ)) :
    Runs (defs₀ (F := F)) Variants.none c Q (plain talk c order order)
      ⊢ wp frame (wpE (defs₀ (F := F)) Variants.none (c.tc : Thread nD τ) none) Set.univ (defs₀ .tc cfg0.body (cfg0.bodyArgs t (cfg0.slots t))) fun _ => Q ⟨⟩ := by
  show _ ⊢ wp frame (wpE (defs₀ (F := F)) Variants.none (c.tc : Thread nD τ) none) Set.univ (bodyAt0 t) fun _ => Q ⟨⟩
  rw [body_eq, wp_deviceId]

theorem nonempty_elt (e : EltTy) : Nonempty (Elt F e) := inferInstance

/-- The run: every device's arrays are as they were, its outputs hold both cores' arrays, and every semaphore is back at
    zero. -/
theorem run_main (g : Dev nD → PrngReg) :
    θ_run (defs (F := F)) (onTc main) ⟨m, fun _ => 0, g⟩ (fun r =>
      (∀ a, ∀ d : Dev nD, r.2.mem ((d.tc : Thread nD τ).loc (inp a)) = m _ ∧ r.2.mem ((d.tc : Thread nD τ).loc (out a)) = result m a d)
      ∧ ∀ g' : GSem nD τ sig, (g'.1.2 ≠ .tc ∨ g'.2.isScoped .tc = true) → r.2.sem g' = 0) := by
  haveI : IsEmpty (Fin cfg0.W) := (inferInstance : IsEmpty (Fin 0))
  have h := run_plain talk inp out m (final m) cfg0 N_0 cellOf_inj winFacts0.to₀ scopedRest0_eq (defs₀ (F := F)) g main (fun _ => rfl)
    (by decide +kernel) order order (by decide) (by decide) (by decide) (by decide) inj (by decide +kernel) slots (carries m) (reads m) body_runs
  simp only [final_out] at h
  exact h

end Values

end Cert.ShareIdeal.Own
-- ==== Proof.ShareClaims.lean ====
module

public import proofs.«01_k».proof.Defs
public import proofs.«01_k».proof.Proof.ShareRun
public import proofs.«01_k».proof.Proof.Blocks
public import proofs.«01_k».proof.Proof.Gen.Share
public import proofs.«01_k».proof.Proof.Gen.ShareRef.Run
public import proofs.«01_k».proof.Proof.Gen.ShareRefIdeal.Run
public import Idealize.ShloMosaic.Lib.Quiescent

@[expose] public section

noncomputable section

/-!
The claims about `Share`: what its run leaves in every array, in terms of the whole arrays, is the reference's result.
-/

namespace Cert.ShareIdeal.Own

open Cert.ShareIdeal Cert.ShareIdeal.Gen Cert.Slot
open Idealize.ShloMosaic Idealize.ShloMosaic.TcCoe Idealize.SL.Sem

theorem all_scoped : ∀ s : SemLoc sig, s.isScoped .tc = true := by decide +kernel

theorem frame_ideal : Cert.quiescent_ShareIdeal := fun m g _ =>
  (θ_run (Cert.ShareIdeal.defs (F := Ideal)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Ideal) m g)

theorem frame_bits : Cert.quiescent_Share := fun m g _ =>
  (θ_run (Cert.ShareIdeal.defs (F := Bits)) _ _).mono (fun _ h => ⟨fun c => ⟨(h.1 .a0 c).1, (h.1 .a1 c).1, (h.1 .a2 c).1, (h.1 .a3 c).1, (h.1 .a4 c).1, (h.1 .a5 c).1, (h.1 .a6 c).1, (h.1 .a7 c).1⟩, sem_eq_zero_of_scoped all_scoped h.2⟩) (run_main (F := Bits) m g)

theorem reference_ideal : Cert.quiescent_ShareRefIdeal := fun m g _ =>
  (θ_run (Cert.ShareRefIdeal.defs (F := Ideal)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.ShareRefIdeal.Value.run m g)

theorem reference_bits : Cert.quiescent_ShareRef := fun m g _ =>
  (θ_run (Cert.ShareRef.defs (F := Bits)) _ _).mono (fun r h => ⟨fun c => ⟨(h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩, sem_eq_zero_of_no_sems (by decide) r.2⟩) (Cert.ShareRef.Value.run m g)

theorem value_ideal : Cert.algebraic_ShareIdeal_ShareRefIdeal := fun m g m' g' _ hm =>
  ⟨_, _, _, _, _, _, _, _,
    (θ_run (Cert.ShareIdeal.defs (F := Ideal)) _ _).mono (fun _ h c => ⟨(h.1 .a0 c).2.trans (cols (fun d => (hm d).1) c), (h.1 .a1 c).2.trans (rows (fun d => (hm d).2.1) c), (h.1 .a2 c).2.trans (cols (fun d => (hm d).2.2.1) c), (h.1 .a3 c).2.trans (rows (fun d => (hm d).2.2.2.1) c), (h.1 .a4 c).2.trans (cols (fun d => (hm d).2.2.2.2.1) c), (h.1 .a5 c).2.trans (rows (fun d => (hm d).2.2.2.2.2.1) c), (h.1 .a6 c).2.trans (cols (fun d => (hm d).2.2.2.2.2.2.1) c), (h.1 .a7 c).2.trans (rows (fun d => (hm d).2.2.2.2.2.2.2) c), (h.1 .a0 c).1, (h.1 .a1 c).1, (h.1 .a2 c).1, (h.1 .a3 c).1, (h.1 .a4 c).1, (h.1 .a5 c).1, (h.1 .a6 c).1, (h.1 .a7 c).1⟩) (run_main (F := Ideal) m g),
    (θ_run (Cert.ShareRefIdeal.defs (F := Ideal)) _ _).mono (fun _ h => h 0) (Cert.ShareRefIdeal.Value.run m' g')⟩

theorem value_bits : Cert.bitexact_Share_ShareRef := fun m g m' g' _ hm =>
  ⟨_, _, _, _, _, _, _, _,
    (θ_run (Cert.ShareIdeal.defs (F := Bits)) _ _).mono (fun _ h c => ⟨(h.1 .a0 c).2.trans (cols (fun d => (hm d).1) c), (h.1 .a1 c).2.trans (rows (fun d => (hm d).2.1) c), (h.1 .a2 c).2.trans (cols (fun d => (hm d).2.2.1) c), (h.1 .a3 c).2.trans (rows (fun d => (hm d).2.2.2.1) c), (h.1 .a4 c).2.trans (cols (fun d => (hm d).2.2.2.2.1) c), (h.1 .a5 c).2.trans (rows (fun d => (hm d).2.2.2.2.2.1) c), (h.1 .a6 c).2.trans (cols (fun d => (hm d).2.2.2.2.2.2.1) c), (h.1 .a7 c).2.trans (rows (fun d => (hm d).2.2.2.2.2.2.2) c), (h.1 .a0 c).1, (h.1 .a1 c).1, (h.1 .a2 c).1, (h.1 .a3 c).1, (h.1 .a4 c).1, (h.1 .a5 c).1, (h.1 .a6 c).1, (h.1 .a7 c).1⟩) (run_main (F := Bits) m g),
    (θ_run (Cert.ShareRef.defs (F := Bits)) _ _).mono (fun _ h => h 0) (Cert.ShareRef.Value.run m' g')⟩

end Cert.ShareIdeal.Own

end
-- ==== Proof.Calls.lean ====
module

public import Idealize.ShloMosaic.Lib.Pipeline.Value
public import Idealize.ShloMosaic.Lib.Quiescent

@[expose] public section

noncomputable section

/-!
What the claims about every call need: a body's loads and stores of whole buffers, and the frame of a reference, which has
no semaphores.
-/

namespace Cert.Calls

open Idealize.ShloMosaic Idealize.ShloMosaic.TcCoe Idealize.SL.Sem

variable {nD : ℕ} {τ : Topo} {sig : RefSig} {Val : EltTy → Type}

section Buffers
variable {κ : Kind} {sp : Space} {S : Shape} {e : EltTy}

/-- A buffer that is stored to as a whole, last, holds what was stored. -/
theorem kept [∀ e, Nonempty (Val e)] (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ fun y => ⟨_, List.mem_cons_self, by
    subst h; show y ∈ (Rect.whole S).set; rw [Rect.set_whole]; exact Finset.mem_univ y⟩]
  exact View.canon_cons_unit_zero h inb w L

/-- A buffer that is loaded as a whole gives what it holds. -/
theorem found {a : Memref sig κ sp S e} (ha : a.IsWhole) {off : Fin S.rank → ℕ} (h : off = fun _ => 0)
    (inb : ∀ a, off a + S.size a ≤ S.size a) (x : S.Idx → Val e) :
    a.view.readAt Val (Rect.unit off S.size inb).toLoadRect (ha.unread x) = x := by
  rw [View.readAt_eq_ld, ha.read_unread, View.ld_unit_zero h]

end Buffers

/-- A run that leaves the arguments as they were, of a program without semaphores, is its frame. -/
theorem quiet {Λ : Labels} {defs : Defs nD τ sig Val Λ} {p : (c : Thread nD τ) → Prog (TpuEff nD τ sig Val Λ c.2) PUnit}
    {s : MemSt nD τ sig Val} {V U : Dev nD → PUnit × MemSt nD τ sig Val → Prop} (none : sig.nSem + sig.nDmaSem = 0)
    (h : θ_run defs p s fun r => ∀ c, V c r ∧ U c r) : θ_run defs p s fun r => (∀ c, U c r) ∧ r.2.sem = fun _ => 0 :=
  (θ_run defs p s).mono (fun r h => ⟨fun c => (h c).2, sem_eq_zero_of_no_sems none r.2⟩) h

end Cert.Calls

end
-- ==== Proof.Adam.lean ====
module

public import Idealize.ShloMosaic.PureOps
public import Idealize.ShloMosaic.PureOps.Ideal
public import Idealize.ShloMosaic.Lib.Pipeline.Value

@[expose] public section

noncomputable section

/-!
The AdamW step of one weight, block of rows by block of rows.

`Block t x X` says that the block `x` is the `t`-th block of rows of the array `X`. Each operation of the step is done
element by element, so blocks of its operands give the same block of its result; the gradient, which comes as one
array for each layer, is the block of the layers' arrays one after the other.
-/

namespace Cert.Adam

open Idealize.ShloMosaic

variable {F : FTy → Type} [FloatOps F] {α : Type}
variable {b n C R : ℕ}

/-- An array of `n` rows of `C` entries. -/
abbrev Rows (n C : ℕ) : Shape := ⟨2, ![n, C]⟩

/-! ## The step on whole arrays of any shape -/

section Step
variable {s : Shape}

/-- The gradients' running mean. -/
def mean (m g : FVec F s .f32) : FVec F s .f32 :=
  addf (mulf (broadcast s (Scalar.ofBits .f32 0x3F666666#32)) m) (mulf (broadcast s (Scalar.ofBits .f32 0x3DCCCCCD#32)) g)

/-- The squared gradients' running mean. -/
def square (v g : FVec F s .f32) : FVec F s .f32 :=
  addf (mulf (broadcast s (Scalar.ofBits .f32 0x3F7FBE77#32)) v)
    (mulf (broadcast s (Scalar.ofBits .f32 0x3A83126F#32)) (mulf g g))

/-- The change of the weight, from the weight and the two new means. -/
def delta (w m v : FVec F s .f32) : FVec F s .f32 :=
  mulf (broadcast s (Scalar.ofBits .f32 0xBA83126F#32))
    (addf
      (divf (divf m (broadcast s (Scalar.ofBits .f32 0x3F26BD02#32)))
        (addf (sqrt (divf v (broadcast s (Scalar.ofBits .f32 0x3C231ACC#32))))
          (broadcast s (Scalar.ofBits .f32 0x322BCC77#32))))
      (mulf (broadcast s (Scalar.ofBits .f32 0x3C23D70A#32)) w))

end Step

/-! ## Blocks of rows -/

/-- Entry `y` of the `t`-th block is entry `i` of the array. -/
def At (t : ℕ) (y : (Rows b C).Idx) (i : (Rows n C).Idx) : Prop :=
  (i 0).val = t * b + (y 0).val ∧ (i 1).val = (y 1).val

theorem At.unique {t : ℕ} {y : (Rows b C).Idx} {i j : (Rows n C).Idx} (hi : At t y i) (hj : At t y j) : i = j :=
  Shape.idx_ext₂ (hi.1.trans hj.1.symm) (hi.2.trans hj.2.symm)

/-- An entry at a block's offset plus its own place. -/
theorem At.of_offset {t : ℕ} {q : Fin 2 → ℕ} (hq : q 0 = t ∧ q 1 = 0) {y : (Rows b C).Idx} {i : (Rows n C).Idx}
    (h0 : (i 0).val = q 0 * b + 1 * (y 0).val) (h1 : (i 1).val = q 1 * C + 1 * (y 1).val) : At t y i := by
  refine ⟨?_, ?_⟩
  · rw [h0, hq.1, Nat.one_mul]
  · rw [h1, hq.2, Nat.zero_mul, Nat.zero_add, Nat.one_mul]

/-- `x` is the `t`-th block of rows of `X`. -/
def Block (t : ℕ) (x : (Rows b C).Idx → α) (X : (Rows n C).Idx → α) : Prop :=
  ∀ y, ∃ i, At t y i ∧ x y = X i

theorem Block.at {t : ℕ} {x : (Rows b C).Idx → α} {X : (Rows n C).Idx → α} (h : Block t x X) {y : (Rows b C).Idx}
    {i : (Rows n C).Idx} (hi : At t y i) : x y = X i := by
  obtain ⟨j, hj, e⟩ := h y
  rw [e, hj.unique hi]

/-- The blocks of rows cover an array of as many rows as they have together. -/
theorem covered {N : ℕ} (hn : n = N * b) (emb : Fin N → (Rows b C).Idx → (Rows n C).Idx) (h : ∀ t y, At t.val y (emb t y))
    (i : (Rows n C).Idx) : ∃ t y, emb t y = i := by
  have hi : (i 0).val < N * b := lt_of_lt_of_eq (i 0).isLt hn
  have hb : 0 < b := Nat.pos_of_ne_zero fun e => by
    rw [e, Nat.mul_zero] at hi
    exact absurd hi (Nat.not_lt_zero _)
  let y : (Rows b C).Idx := Fin.cons ⟨(i 0).val % b, Nat.mod_lt _ hb⟩ (Fin.cons (⟨(i 1).val, (i 1).isLt⟩ : Fin C) finZeroElim)
  let t : Fin N := ⟨(i 0).val / b, Nat.div_lt_of_lt_mul (lt_of_lt_of_eq hi (Nat.mul_comm _ _))⟩
  have at' : At t.val y i := ⟨by show (i 0).val = (i 0).val / b * b + (i 0).val % b; rw [Nat.mul_comm]; exact (Nat.div_add_mod _ _).symm, rfl⟩
  exact ⟨t, y, (h t y).unique at'⟩

/-! ## The step on blocks -/

theorem Block.mean {t : ℕ} {m g : FVec F (Rows b C) .f32} {M G : FVec F (Rows n C) .f32} (hm : Block t m M) (hg : Block t g G) :
    Block t (mean m g) (mean M G) := fun y => by
  obtain ⟨i, hi, e⟩ := hm y
  refine ⟨i, hi, ?_⟩
  have e' := hg.at hi
  simp only [Adam.mean, addf, mulf, broadcast, e, e']

theorem Block.square {t : ℕ} {v g : FVec F (Rows b C) .f32} {V G : FVec F (Rows n C) .f32} (hv : Block t v V) (hg : Block t g G) :
    Block t (square v g) (square V G) := fun y => by
  obtain ⟨i, hi, e⟩ := hv y
  refine ⟨i, hi, ?_⟩
  have e' := hg.at hi
  simp only [Adam.square, addf, mulf, broadcast, e, e']

theorem Block.delta {t : ℕ} {w m v : FVec F (Rows b C) .f32} {W M V : FVec F (Rows n C) .f32} (hw : Block t w W)
    (hm : Block t m M) (hv : Block t v V) : Block t (delta w m v) (delta W M V) := fun y => by
  obtain ⟨i, hi, e⟩ := hw y
  refine ⟨i, hi, ?_⟩
  have e' := hm.at hi
  have e'' := hv.at hi
  simp only [Adam.delta, addf, mulf, divf, sqrt, broadcast, e, e', e'']

/-- Two layers' gradients: the block taken from the first layer below its end and from the second past it is the block
    of the two one after the other. -/
theorem Block.layers {t k : ℕ} {x y : (Rows b C).Idx → α} {A B : (Rows R C).Idx → α} (hR : R = k * b)
    (h : Shape.Concatenates [Rows R C, Rows R C] (Rows n C) 0) (hx : t < k → Block t x A)
    (hy : k ≤ t → t < 2 * k → Block (t - k) y B) (ht : t < 2 * k) :
    Block t (if t < k then x else y) (concatenate (Rows n C) 0 [⟨Rows R C, A⟩, ⟨Rows R C, B⟩] h) := fun z => by
  have hn : n = R + R := by have e := h.2.2; simpa using e.symm
  have hz0 : (z 0).val < b := (z 0).isLt
  have hz1 : (z 1).val < C := (z 1).isLt
  have bound : t * b + (z 0).val < n := by
    have : (t + 1) * b ≤ (2 * k) * b := Nat.mul_le_mul_right _ ht
    rw [Nat.add_mul, Nat.one_mul, Nat.mul_assoc, ← hR] at this
    omega
  let i : (Rows n C).Idx := Fin.cons ⟨t * b + (z 0).val, bound⟩ (Fin.cons (⟨(z 1).val, hz1⟩ : Fin C) finZeroElim)
  refine ⟨i, ⟨rfl, rfl⟩, ?_⟩
  by_cases htk : t < k
  · rw [if_pos htk]
    obtain ⟨j, hj, e⟩ := hx htk z
    rw [e, concatenate_pair_apply_left 0 A B h i rfl j]
    exact fun a => match a with
      | ⟨0, _⟩ => hj.1
      | ⟨1, _⟩ => hj.2
  · rw [if_neg htk]
    obtain ⟨j, hj, e⟩ := hy (Nat.le_of_not_lt htk) ht z
    have split : (t - k) * b + k * b = t * b := by rw [← Nat.add_mul, Nat.sub_add_cancel (Nat.le_of_not_lt htk)]
    rw [e, concatenate_pair_apply_right 0 A B h i rfl rfl j]
    · exact fun a => match a with
        | ⟨0, _⟩ => fun ne => absurd rfl ne
        | ⟨1, _⟩ => fun _ => hj.2
    · show (j 0).val + R = t * b + (z 0).val
      rw [hj.1, hR]
      omega

/-! ## The kernel's choice of layer, loads and stores -/

/-- The kernel's test that the step numbered `a` is of the second layer: `a` over the `k` steps of a layer, rounded
    down, is one. -/
def second (k a : BitVec 32) : BitVec 1 :=
  Scalar.cmpi .eq
    (Scalar.select
      (Scalar.andi
        (Scalar.cmpi .ne
          (Scalar.subi (Scalar.extui (Scalar.cmpi .sgt a 0#32)) (Scalar.extui (Scalar.cmpi .slt a 0#32)))
          (Scalar.subi (Scalar.extui (Scalar.cmpi .sgt k 0#32)) (Scalar.extui (Scalar.cmpi .slt k 0#32)) : BitVec 32))
        (Scalar.cmpi .ne (Scalar.remsi a k) 0#32))
      (Scalar.subi (Scalar.divsi a k) 1#32) (Scalar.divsi a k))
    1#32

theorem chosen {p : BitVec 1} {t k : ℕ} (h : p = if t < k then 0#1 else 1#1) (x y : α) :
    Scalar.select p y x = if t < k then x else y := by
  subst h
  by_cases ht : t < k
  · rw [if_pos ht, if_pos ht]; rfl
  · rw [if_neg ht, if_neg ht]; rfl

theorem zeros : (![0, 0] : Fin 2 → ℕ) = fun _ => 0 := by decide

theorem loaded (inb : ∀ a, (![0, 0] : Fin 2 → ℕ) a + (Rows b C).size a ≤ (Rows b C).size a) (x : Vec F (Rows b C) .f32) :
    View.ld (S := Rows b C) x (Rect.unit ![0, 0] (Rows b C).size inb) = x := View.ld_unit_zero zeros inb x

theorem stored (inb : ∀ a, (![0, 0] : Fin 2 → ℕ) a + (Rows b C).size a ≤ (Rows b C).size a) (x : Vec F (Rows b C) .f32) :
    View.canon (Val := Elt F) [(⟨Rect.unit (s := Rows b C) ![0, 0] (Rows b C).size inb, x⟩ : View.Piece (Elt F) (Rows b C) .f32)] = x :=
  View.canon_unit_zero zeros inb x

/-! ## The whole step -/

/-- An array whose blocks are the blocks of `G` is `G`. -/
theorem filled {N : ℕ} (hn : n = N * b) {X G : (Rows n C).Idx → α} {x : Fin N → (Rows b C).Idx → α}
    {emb : Fin N → (Rows b C).Idx → (Rows n C).Idx} (h : ∀ t y, At t.val y (emb t y))
    (e : ∀ t, (fun y => X (emb t y)) = x t) (hx : ∀ t, Block t.val (x t) G) : X = G := funext fun i => by
  obtain ⟨t, y, rfl⟩ := covered hn emb h i
  exact (congrFun (e t) y).trans ((hx t).at (h t y))

/-- The four arrays the kernel leaves, from what it leaves in each of their blocks. -/
theorem step {N : ℕ} (hn : n = N * b) {W G M V : FVec F (Rows n C) .f32} {w g m v : Fin N → FVec F (Rows b C) .f32}
    (hw : ∀ t, Block t.val (w t) W) (hg : ∀ t, Block t.val (g t) G) (hm : ∀ t, Block t.val (m t) M)
    (hv : ∀ t, Block t.val (v t) V) {G' D' M' V' : FVec F (Rows n C) .f32}
    {embG embD embM embV : Fin N → (Rows b C).Idx → (Rows n C).Idx}
    (hG : ∀ t y, At t.val y (embG t y)) (hD : ∀ t y, At t.val y (embD t y))
    (hM : ∀ t y, At t.val y (embM t y)) (hV : ∀ t y, At t.val y (embV t y))
    (eG : ∀ t, (fun y => G' (embG t y)) = g t)
    (eD : ∀ t, (fun y => D' (embD t y)) = delta (w t) (mean (m t) (g t)) (square (v t) (g t)))
    (eM : ∀ t, (fun y => M' (embM t y)) = mean (m t) (g t))
    (eV : ∀ t, (fun y => V' (embV t y)) = square (v t) (g t)) :
    G' = G ∧ D' = delta W (mean M G) (square V G) ∧ M' = mean M G ∧ V' = square V G :=
  ⟨filled hn hG eG hg,
    filled hn hD eD fun t => (hw t).delta ((hm t).mean (hg t)) ((hv t).square (hg t)),
    filled hn hM eM fun t => (hm t).mean (hg t),
    filled hn hV eV fun t => (hv t).square (hg t)⟩

/-- The gradient's block as the kernel chooses it. -/
theorem choice {N k : ℕ} (hN : N = 2 * k) (hR : R = k * b) {A B : (Rows R C).Idx → α}
    (h : Shape.Concatenates [Rows R C, Rows R C] (Rows n C) 0) {x y : Fin N → (Rows b C).Idx → α} {p : Fin N → BitVec 1}
    (hp : ∀ t, p t = if t.val < k then 0#1 else 1#1) (hx : ∀ t, t.val < k → Block t.val (x t) A)
    (hy : ∀ t, k ≤ t.val → Block (t.val - k) (y t) B) (t : Fin N) :
    Block t.val (Scalar.select (p t) (y t) (x t)) (concatenate (Rows n C) 0 [⟨Rows R C, A⟩, ⟨Rows R C, B⟩] h) := by
  rw [chosen (hp t)]
  exact .layers hR h (hx t) (fun ht _ => hy t ht) (lt_of_lt_of_eq t.isLt hN)

/-! ## The step as the reference writes it -/

section Reference
variable {s : Shape}

/-- A number over every entry, as the reference spreads it. -/
abbrev spread (h : (⟨0, ![]⟩ : Shape).BroadcastsInDim s ![]) (z : BitVec 32) : FVec F s .f32 :=
  broadcastInDim s ![] h (constant (F := F) ⟨0, ![]⟩ .f32 z)

/-- The reference's change of the weight. -/
abbrev change (h : (⟨0, ![]⟩ : Shape).BroadcastsInDim s ![]) (w m v : FVec F s .f32) : FVec F s .f32 :=
  mulf (spread h 0xBA83126F#32)
    (addf
      (Host.divf (Host.divf m (spread h 0x3F26BD02#32))
        (addf (Host.sqrt (Host.divf v (spread h 0x3C231ACC#32))) (spread h 0x322BCC77#32)))
      (mulf (spread h 0x3C23D70A#32) w))

/-- The reference's running mean. -/
abbrev mean' (h : (⟨0, ![]⟩ : Shape).BroadcastsInDim s ![]) (m g : FVec F s .f32) : FVec F s .f32 :=
  addf (mulf (spread h 0x3F666666#32) m) (mulf (spread h 0x3DCCCCCD#32) g)

/-- The reference's running mean of squares. -/
abbrev square' (h : (⟨0, ![]⟩ : Shape).BroadcastsInDim s ![]) (v g : FVec F s .f32) : FVec F s .f32 :=
  addf (mulf (spread h 0x3F7FBE77#32) v) (mulf (spread h 0x3A83126F#32) (mulf g g))

/-- Over the extended reals the reference's quotient and root are the kernel's, so from equal arrays the two steps
    leave equal arrays. -/
theorem agree (h : (⟨0, ![]⟩ : Shape).BroadcastsInDim s ![]) {w g m v w' g' m' v' : FVec Ideal s .f32} (hw : w' = w)
    (hg : g' = g) (hm : m' = m) (hv : v' = v) {G D M V : FVec Ideal s .f32}
    (e : G = g ∧ D = delta w (mean m g) (square v g) ∧ M = mean m g ∧ V = square v g) :
    G = g' ∧ D = change h w' (mean' h m' g') (square' h v' g') ∧ M = mean' h m' g' ∧ V = square' h v' g' := by
  subst hw hg hm hv
  exact e

/-- The two layers' gradients one after the other, from equal gradients. -/
theorem joined (h : Shape.Concatenates [Rows R C, Rows R C] (Rows n C) 0) {A B A' B' : (Rows R C).Idx → α} (hA : A' = A)
    (hB : B' = B) : concatenate (Rows n C) 0 [⟨Rows R C, A'⟩, ⟨Rows R C, B'⟩] h
      = concatenate (Rows n C) 0 [⟨Rows R C, A⟩, ⟨Rows R C, B⟩] h := by
  subst hA hB
  rfl

end Reference

end Cert.Adam

end
-- ==== Proof.Sums.lean ====
module

public import proofs.«01_k».proof.Proof.Adam
public import Idealize.ShloMosaic.Lib.ValueLayout
public import Idealize.ShloMosaic.Lib.Pointwise.Reduce
public import Idealize.ShloMosaic.PureOps.Ideal.Laws

@[expose] public section

noncomputable section

/-!
The sum of the matrices of a stack, block of rows by block of rows: a block of the sum is the sum of the blocks.
-/

namespace Cert.Sums

open Idealize.ShloMosaic Cert.Adam

variable {F : FTy → Type} [FloatOps F] {α : Type} {φ ψ : FTy}
variable {p b n C : ℕ}

/-- A stack of `p` matrices of `n` rows of `C` entries. -/
abbrev Stack (p n C : ℕ) : Shape := ⟨3, ![p, n, C]⟩

/-- Matrix `k` of a stack. -/
def slab (k : Fin p) (X : (Stack p n C).Idx → α) : (Rows n C).Idx → α := fun i => X (ix3 k (i 0) (i 1))

theorem three {z : Fin 3 → ℕ} {i j : (a : Fin 3) → Fin (z a)} (h0 : (i 0).val = j 0) (h1 : (i 1).val = j 1)
    (h2 : (i 2).val = j 2) : i = j := funext fun a => Fin.ext (match a with
  | ⟨0, _⟩ => h0
  | ⟨1, _⟩ => h1
  | ⟨2, _⟩ => h2)

/-- Every matrix of `x` is the `t`-th block of rows of that matrix of `X`. -/
def Blocks (t : ℕ) (x : (Stack p b C).Idx → α) (X : (Stack p n C).Idx → α) : Prop := ∀ k, Block t (slab k x) (slab k X)

/-- A block read from the stack at its offset. -/
theorem Blocks.of_offset {t : ℕ} {q : Fin 3 → ℕ} (hq : q 0 = 0 ∧ q 1 = t ∧ q 2 = 0) {emb : (Stack p b C).Idx → (Stack p n C).Idx}
    (h0 : ∀ y, (emb y 0).val = q 0 * p + 1 * (y 0).val) (h1 : ∀ y, (emb y 1).val = q 1 * b + 1 * (y 1).val)
    (h2 : ∀ y, (emb y 2).val = q 2 * C + 1 * (y 2).val) (X : (Stack p n C).Idx → α) :
    Blocks t (fun y => X (emb y)) X := fun k y => by
  let j : (Stack p b C).Idx := ix3 k (y 0) (y 1)
  refine ⟨ix2 (emb j 1) (emb j 2), ⟨?_, ?_⟩, congrArg X (three ?_ rfl rfl)⟩
  · show (emb j 1).val = _
    rw [h1, hq.2.1, Nat.one_mul]
    rfl
  · show (emb j 2).val = _
    rw [h2, hq.2.2, Nat.zero_mul, Nat.zero_add, Nat.one_mul]
    rfl
  · show (emb j 0).val = _
    rw [h0, hq.1, Nat.zero_mul, Nat.zero_add, Nat.one_mul]
    rfl

/-- What the kernel loads of matrix `k`. -/
theorem loaded {o : ℕ} (k : Fin p) (ho : o = k.val) {e : EltTy} (x : Vec F (Stack p b C) e)
    (inb : ∀ a, (![o, 0, 0] : Fin 3 → ℕ) a + (Stack 1 b C).size a ≤ (Stack p b C).size a)
    (h : (Stack 1 b C).ShapeCasts (Rows b C)) :
    shapeCast (Rows b C) (View.ld (S := Stack p b C) x (Rect.unit ![o, 0, 0] (Stack 1 b C).size inb)) h = slab k x := by
  subst ho
  exact funext fun y => (congrArg _ (Shape.idx_ext₂ rfl rfl)).trans ((ValueIdx.shapeCast_1ab_ab_apply _ h (y 0) (y 1)).trans
    (congrArg x (three (by show k.val + 1 * 0 = k.val; rfl) (by show 0 + 1 * (y 0).val = (y 0).val; omega)
      (by show 0 + 1 * (y 1).val = (y 1).val; omega))))

theorem add {t : ℕ} {x y : FVec F (Rows b C) φ} {X Y : FVec F (Rows n C) φ} (hx : Block t x X) (hy : Block t y Y) :
    Block t (addf x y) (addf X Y) := fun z => by
  obtain ⟨i, hi, e⟩ := hx z
  refine ⟨i, hi, ?_⟩
  have e' := hy.at hi
  simp only [addf, e, e']

theorem widen {t : ℕ} {x : FVec F (Rows b C) φ} {X : FVec F (Rows n C) φ} (h : φ.bits < ψ.bits) (hx : Block t x X) :
    Block t (extf ψ x h) (extf ψ X h) := fun z => by
  obtain ⟨i, hi, e⟩ := hx z
  refine ⟨i, hi, ?_⟩
  simp only [extf, e]

/-! ## The sum as the kernel writes it, from the first matrix on -/

/-- The sum of four matrices of bfloat16. -/
def four (X : FVec F (Stack 4 n C) .bf16) : FVec F (Rows n C) .f32 :=
  addf (addf (addf (extf .f32 (slab 0 X) (by decide)) (extf .f32 (slab 1 X) (by decide))) (extf .f32 (slab 2 X) (by decide)))
    (extf .f32 (slab 3 X) (by decide))

/-- The sum of eight matrices. -/
def eight (X : FVec F (Stack 8 n C) .f32) : FVec F (Rows n C) .f32 :=
  addf (addf (addf (addf (addf (addf (addf (slab 0 X) (slab 1 X)) (slab 2 X)) (slab 3 X)) (slab 4 X)) (slab 5 X)) (slab 6 X))
    (slab 7 X)

theorem Blocks.four {t : ℕ} {x : FVec F (Stack 4 b C) .bf16} {X : FVec F (Stack 4 n C) .bf16} (h : Blocks t x X) :
    Block t (four x) (four X) :=
  add (add (add (widen _ (h 0)) (widen _ (h 1))) (widen _ (h 2))) (widen _ (h 3))

theorem Blocks.eight {t : ℕ} {x : FVec F (Stack 8 b C) .f32} {X : FVec F (Stack 8 n C) .f32} (h : Blocks t x X) :
    Block t (eight x) (eight X) :=
  add (add (add (add (add (add (add (h 0) (h 1)) (h 2)) (h 3)) (h 4)) (h 5)) (h 6)) (h 7)

/-! ## The sum as the reference writes it -/

/-- Over the extended reals the host's sum over the stack is the sum of its matrices. -/
theorem total {X : FVec Ideal (Stack p n C) .f32} (h : (Stack p n C).ReducesTo [0] (Rows n C)) (hs : 0 < (⟨0, ![]⟩ : Shape).numel) :
    Host.reduceAdd X (constant (F := Ideal) ⟨0, ![]⟩ .f32 0x00000000#32) h hs = fun i => ∑ k : Fin p, (slab k X i : EReal) :=
  funext fun i => (Ideal.hostReduceAdd_r3_a0 h X _ i).trans (by
    show Ideal.ofBits .f32 0x00000000#32 + _ = _
    rw [Ideal.ofBits_zero_f32, zero_add]
    rfl)

theorem four_total {X X' : FVec Ideal (Stack 4 n C) .bf16} (e : X' = X) (hb : FTy.bits .bf16 < FTy.bits .f32)
    (h : (Stack 4 n C).ReducesTo [0] (Rows n C)) (hs : 0 < (⟨0, ![]⟩ : Shape).numel) :
    four X = Host.reduceAdd (extf .f32 X' hb) (constant (F := Ideal) ⟨0, ![]⟩ .f32 0x00000000#32) h hs := by
  rw [total, e]
  exact funext fun i => (Fin.sum_univ_four fun k : Fin 4 => (slab k (extf .f32 X hb) i : EReal)).symm

theorem eight_total {X X' : FVec Ideal (Stack 8 n C) .f32} (e : X' = X)
    (h : (Stack 8 n C).ReducesTo [0] (Rows n C)) (hs : 0 < (⟨0, ![]⟩ : Shape).numel) :
    eight X = Host.reduceAdd X' (constant (F := Ideal) ⟨0, ![]⟩ .f32 0x00000000#32) h hs := by
  rw [total, e]
  exact funext fun i => (Fin.sum_univ_eight fun k : Fin 8 => (slab k X i : EReal)).symm

end Cert.Sums

end
-- ==== Proof.SumInClaims.lean ====
module

public import proofs.«01_k».proof.Defs
public import proofs.«01_k».proof.Proof.Calls
public import proofs.«01_k».proof.Proof.Sums
public import proofs.«01_k».proof.Proof.Gen.SumIn
public import proofs.«01_k».proof.Proof.Gen.SumInIdeal.Value
public import proofs.«01_k».proof.Proof.Gen.SumInRefIdeal.Run
public import Idealize.ShloMosaic.Lib.Quiescent

@[expose] public section

noncomputable section

/-!
The claims about `SumIn`: the sum of the four chips' parts of a share of the gradient of `w_in`.
-/

namespace Cert.SumInIdeal.Own

open Cert.SumInIdeal Cert.SumInIdeal.Gen Cert.SumInIdeal.Value Cert.Adam Cert.Sums
open Idealize.ShloMosaic Idealize.ShloMosaic.TcCoe Idealize.SL.Sem

variable {F : FTy → Type} [FloatOps F] (m : (ℓ : Loc nD τ sig) → Buf (Elt F) ℓ)

/-- Where each window's block lies at each step. -/
theorem place : ∀ t : Fin cfg0.N,
    (win0_0.index t 0 = 0 ∧ win0_0.index t 1 = t.val ∧ win0_0.index t 2 = 0)
    ∧ (win0_1.index t 0 = t.val ∧ win0_1.index t 1 = 0) :=
  (by decide +kernel : ∀ t : Fin grid0.N, _)

/-- What it stores, from what it loads. -/
theorem summed (x : Vec F S4x1024x1792 .bf16) : out0_1 x = four x := by
  rw [out0_1, stored, k0_pay1, loaded (o := 0) 0 rfl, loaded (o := 1) 1 rfl, loaded (o := 2) 2 rfl, loaded (o := 3) 3 rfl]
  rfl

/-- The array it leaves. -/
theorem result (c : Dev nD) : (dats m 0 c).arrAt 1 cfg0.N = four (m ((c : Thread nD τ).loc main_arg0)) :=
  filled (b := 1024) (N := 1) rfl
    (fun t y => .of_offset (place t).2 rfl rfl : ∀ t y, At t.val y (((cfg0.win 1).blk t).view.emb y))
    (fun t => (blocks1 m c t (flush0_1 t)).trans ((flushed1 m c t).trans (summed (iblk m c 0 t))))
    fun t => (Blocks.of_offset (emb := ((cfg0.win 0).blk t).view.emb) (place t).1 (fun _ => rfl) (fun _ => rfl) (fun _ => rfl)
      (m ((c : Thread nD τ).loc main_arg0))).four

theorem frame_ideal : Cert.quiescent_SumInIdeal := fun m g _ => Gen.frame m g

theorem bodies : Cert.SumIn.defs (F := Bits) = Cert.SumInIdeal.defs :=
  congrArg (Pipeline.defs _) (congrArg Defs.onTc (funext fun l => funext fun a => match l, a with
    | ⟨0, _⟩, ⟨_, _⟩ => rfl))

theorem frame_bits : Cert.quiescent_SumIn := fun m g _ => by
  rw [bodies]
  exact Gen.frame (F := Bits) m g

theorem reference_ideal : Cert.quiescent_SumInRefIdeal := fun m g _ => Calls.quiet (by decide) (Cert.SumInRefIdeal.Value.run m g)

theorem value_ideal : Cert.algebraic_SumInIdeal_SumInRefIdeal := fun m g m' g' _ hm =>
  ⟨_, (θ_run (Cert.SumInIdeal.defs (F := Ideal)) _ _).mono
      (fun _ h c => ⟨(h c).1.trans ((result m c).trans (four_total (hm c) _ _ _)), (h c).2⟩) (run_blocks m g),
    Cert.SumInRefIdeal.Value.run m' g'⟩

end Cert.SumInIdeal.Own

end
-- ==== Proof.SumOutClaims.lean ====
module

public import proofs.«01_k».proof.Defs
public import proofs.«01_k».proof.Proof.Calls
public import proofs.«01_k».proof.Proof.Sums
public import proofs.«01_k».proof.Proof.Gen.SumOut
public import proofs.«01_k».proof.Proof.Gen.SumOutIdeal.Value
public import proofs.«01_k».proof.Proof.Gen.SumOutRefIdeal.Run
public import Idealize.ShloMosaic.Lib.Quiescent

@[expose] public section

noncomputable section

/-!
The claims about `SumOut`: the sum of the four chips' parts of a share of the gradient of `w_out`.
-/

namespace Cert.SumOutIdeal.Own

open Cert.SumOutIdeal Cert.SumOutIdeal.Gen Cert.SumOutIdeal.Value Cert.Adam Cert.Sums
open Idealize.ShloMosaic Idealize.ShloMosaic.TcCoe Idealize.SL.Sem

variable {F : FTy → Type} [FloatOps F] (m : (ℓ : Loc nD τ sig) → Buf (Elt F) ℓ)

/-- Where each window's block lies at each step. -/
theorem place : ∀ t : Fin cfg0.N,
    (win0_0.index t 0 = 0 ∧ win0_0.index t 1 = t.val ∧ win0_0.index t 2 = 0)
    ∧ (win0_1.index t 0 = t.val ∧ win0_1.index t 1 = 0) :=
  (by decide +kernel : ∀ t : Fin grid0.N, _)

/-- What it stores, from what it loads. -/
theorem summed (x : Vec F S4x256x2048 .bf16) : out0_1 x = four x := by
  rw [out0_1, stored, k0_pay1, loaded (o := 0) 0 rfl, loaded (o := 1) 1 rfl, loaded (o := 2) 2 rfl, loaded (o := 3) 3 rfl]
  rfl

/-- The array it leaves. -/
theorem result (c : Dev nD) : (dats m 0 c).arrAt 1 cfg0.N = four (m ((c : Thread nD τ).loc main_arg0)) :=
  filled (b := 256) (N := 1) rfl
    (fun t y => .of_offset (place t).2 rfl rfl : ∀ t y, At t.val y (((cfg0.win 1).blk t).view.emb y))
    (fun t => (blocks1 m c t (flush0_1 t)).trans ((flushed1 m c t).trans (summed (iblk m c 0 t))))
    fun t => (Blocks.of_offset (emb := ((cfg0.win 0).blk t).view.emb) (place t).1 (fun _ => rfl) (fun _ => rfl) (fun _ => rfl)
      (m ((c : Thread nD τ).loc main_arg0))).four

theorem frame_ideal : Cert.quiescent_SumOutIdeal := fun m g _ => Gen.frame m g

theorem bodies : Cert.SumOut.defs (F := Bits) = Cert.SumOutIdeal.defs :=
  congrArg (Pipeline.defs _) (congrArg Defs.onTc (funext fun l => funext fun a => match l, a with
    | ⟨0, _⟩, ⟨_, _⟩ => rfl))

theorem frame_bits : Cert.quiescent_SumOut := fun m g _ => by
  rw [bodies]
  exact Gen.frame (F := Bits) m g

theorem reference_ideal : Cert.quiescent_SumOutRefIdeal := fun m g _ => Calls.quiet (by decide) (Cert.SumOutRefIdeal.Value.run m g)

theorem value_ideal : Cert.algebraic_SumOutIdeal_SumOutRefIdeal := fun m g m' g' _ hm =>
  ⟨_, (θ_run (Cert.SumOutIdeal.defs (F := Ideal)) _ _).mono
      (fun _ h c => ⟨(h c).1.trans ((result m c).trans (four_total (hm c) _ _ _)), (h c).2⟩) (run_blocks m g),
    Cert.SumOutRefIdeal.Value.run m' g'⟩

end Cert.SumOutIdeal.Own

end
-- ==== Proof.SumUpClaims.lean ====
module

public import proofs.«01_k».proof.Defs
public import proofs.«01_k».proof.Proof.Calls
public import proofs.«01_k».proof.Proof.Sums
public import proofs.«01_k».proof.Proof.Gen.SumUp
public import proofs.«01_k».proof.Proof.Gen.SumUpIdeal.Value
public import proofs.«01_k».proof.Proof.Gen.SumUpRefIdeal.Run
public import Idealize.ShloMosaic.Lib.Quiescent

@[expose] public section

noncomputable section

/-!
The claims about `SumUp`: the sum of the four chips' parts of a share of the gradient of `w_up`.
-/

namespace Cert.SumUpIdeal.Own

open Cert.SumUpIdeal Cert.SumUpIdeal.Gen Cert.SumUpIdeal.Value Cert.Adam Cert.Sums
open Idealize.ShloMosaic Idealize.ShloMosaic.TcCoe Idealize.SL.Sem

variable {F : FTy → Type} [FloatOps F] (m : (ℓ : Loc nD τ sig) → Buf (Elt F) ℓ)

/-- Where each window's block lies at each step. -/
theorem place : ∀ t : Fin cfg0.N,
    (win0_0.index t 0 = 0 ∧ win0_0.index t 1 = t.val ∧ win0_0.index t 2 = 0)
    ∧ (win0_1.index t 0 = t.val ∧ win0_1.index t 1 = 0) :=
  (by decide +kernel : ∀ t : Fin grid0.N, _)

/-- What it stores, from what it loads. -/
theorem summed (x : Vec F S4x1024x2816 .bf16) : out0_1 x = four x := by
  rw [out0_1, stored, k0_pay1, loaded (o := 0) 0 rfl, loaded (o := 1) 1 rfl, loaded (o := 2) 2 rfl, loaded (o := 3) 3 rfl]
  rfl

/-- The array it leaves. -/
theorem result (c : Dev nD) : (dats m 0 c).arrAt 1 cfg0.N = four (m ((c : Thread nD τ).loc main_arg0)) :=
  filled (b := 1024) (N := 1) rfl
    (fun t y => .of_offset (place t).2 rfl rfl : ∀ t y, At t.val y (((cfg0.win 1).blk t).view.emb y))
    (fun t => (blocks1 m c t (flush0_1 t)).trans ((flushed1 m c t).trans (summed (iblk m c 0 t))))
    fun t => (Blocks.of_offset (emb := ((cfg0.win 0).blk t).view.emb) (place t).1 (fun _ => rfl) (fun _ => rfl) (fun _ => rfl)
      (m ((c : Thread nD τ).loc main_arg0))).four

theorem frame_ideal : Cert.quiescent_SumUpIdeal := fun m g _ => Gen.frame m g

theorem bodies : Cert.SumUp.defs (F := Bits) = Cert.SumUpIdeal.defs :=
  congrArg (Pipeline.defs _) (congrArg Defs.onTc (funext fun l => funext fun a => match l, a with
    | ⟨0, _⟩, ⟨_, _⟩ => rfl))

theorem frame_bits : Cert.quiescent_SumUp := fun m g _ => by
  rw [bodies]
  exact Gen.frame (F := Bits) m g

theorem reference_ideal : Cert.quiescent_SumUpRefIdeal := fun m g _ => Calls.quiet (by decide) (Cert.SumUpRefIdeal.Value.run m g)

theorem value_ideal : Cert.algebraic_SumUpIdeal_SumUpRefIdeal := fun m g m' g' _ hm =>
  ⟨_, (θ_run (Cert.SumUpIdeal.defs (F := Ideal)) _ _).mono
      (fun _ h c => ⟨(h c).1.trans ((result m c).trans (four_total (hm c) _ _ _)), (h c).2⟩) (run_blocks m g),
    Cert.SumUpRefIdeal.Value.run m' g'⟩

end Cert.SumUpIdeal.Own

end
-- ==== Proof.SumDownClaims.lean ====
module

public import proofs.«01_k».proof.Defs
public import proofs.«01_k».proof.Proof.Calls
public import proofs.«01_k».proof.Proof.Sums
public import proofs.«01_k».proof.Proof.Gen.SumDown
public import proofs.«01_k».proof.Proof.Gen.SumDownIdeal.Value
public import proofs.«01_k».proof.Proof.Gen.SumDownRefIdeal.Run
public import Idealize.ShloMosaic.Lib.Quiescent

@[expose] public section

noncomputable section

/-!
The claims about `SumDown`: the sum of the four chips' parts of a share of the gradient of `w_down`.
-/

namespace Cert.SumDownIdeal.Own

open Cert.SumDownIdeal Cert.SumDownIdeal.Gen Cert.SumDownIdeal.Value Cert.Adam Cert.Sums
open Idealize.ShloMosaic Idealize.ShloMosaic.TcCoe Idealize.SL.Sem

variable {F : FTy → Type} [FloatOps F] (m : (ℓ : Loc nD τ sig) → Buf (Elt F) ℓ)

/-- Where each window's block lies at each step. -/
theorem place : ∀ t : Fin cfg0.N,
    (win0_0.index t 0 = 0 ∧ win0_0.index t 1 = t.val ∧ win0_0.index t 2 = 0)
    ∧ (win0_1.index t 0 = t.val ∧ win0_1.index t 1 = 0) :=
  (by decide +kernel : ∀ t : Fin grid0.N, _)

/-- What it stores, from what it loads. -/
theorem summed (x : Vec F S4x64x2048 .bf16) : out0_1 x = four x := by
  rw [out0_1, stored, k0_pay1, loaded (o := 0) 0 rfl, loaded (o := 1) 1 rfl, loaded (o := 2) 2 rfl, loaded (o := 3) 3 rfl]
  rfl

/-- The array it leaves. -/
theorem result (c : Dev nD) : (dats m 0 c).arrAt 1 cfg0.N = four (m ((c : Thread nD τ).loc main_arg0)) :=
  filled (b := 64) (N := 11) rfl
    (fun t y => .of_offset (place t).2 rfl rfl : ∀ t y, At t.val y (((cfg0.win 1).blk t).view.emb y))
    (fun t => (blocks1 m c t (flush0_1 t)).trans ((flushed1 m c t).trans (summed (iblk m c 0 t))))
    fun t => (Blocks.of_offset (emb := ((cfg0.win 0).blk t).view.emb) (place t).1 (fun _ => rfl) (fun _ => rfl) (fun _ => rfl)
      (m ((c : Thread nD τ).loc main_arg0))).four

theorem frame_ideal : Cert.quiescent_SumDownIdeal := fun m g _ => Gen.frame m g

theorem bodies : Cert.SumDown.defs (F := Bits) = Cert.SumDownIdeal.defs :=
  congrArg (Pipeline.defs _) (congrArg Defs.onTc (funext fun l => funext fun a => match l, a with
    | ⟨0, _⟩, ⟨_, _⟩ => rfl))

theorem frame_bits : Cert.quiescent_SumDown := fun m g _ => by
  rw [bodies]
  exact Gen.frame (F := Bits) m g

theorem reference_ideal : Cert.quiescent_SumDownRefIdeal := fun m g _ => Calls.quiet (by decide) (Cert.SumDownRefIdeal.Value.run m g)

theorem value_ideal : Cert.algebraic_SumDownIdeal_SumDownRefIdeal := fun m g m' g' _ hm =>
  ⟨_, (θ_run (Cert.SumDownIdeal.defs (F := Ideal)) _ _).mono
      (fun _ h c => ⟨(h c).1.trans ((result m c).trans (four_total (hm c) _ _ _)), (h c).2⟩) (run_blocks m g),
    Cert.SumDownRefIdeal.Value.run m' g'⟩

end Cert.SumDownIdeal.Own

end
-- ==== Proof.SumSmallClaims.lean ====
module

public import proofs.«01_k».proof.Defs
public import proofs.«01_k».proof.Proof.Calls
public import proofs.«01_k».proof.Proof.Sums
public import proofs.«01_k».proof.Proof.Gen.SumSmall
public import proofs.«01_k».proof.Proof.Gen.SumSmallIdeal.Value
public import proofs.«01_k».proof.Proof.Gen.SumSmallRefIdeal.Run
public import Idealize.ShloMosaic.Lib.Quiescent

@[expose] public section

noncomputable section

/-!
The claims about `SumSmall`: the sum of the eight devices' parts of the small gradients.
-/

namespace Cert.SumSmallIdeal.Own

open Cert.SumSmallIdeal Cert.SumSmallIdeal.Gen Cert.SumSmallIdeal.Value Cert.Adam Cert.Sums
open Idealize.ShloMosaic Idealize.ShloMosaic.TcCoe Idealize.SL.Sem

variable {F : FTy → Type} [FloatOps F] (m : (ℓ : Loc nD τ sig) → Buf (Elt F) ℓ)

/-- Where each window's block lies at each step. -/
theorem place : ∀ t : Fin cfg0.N,
    (win0_0.index t 0 = 0 ∧ win0_0.index t 1 = t.val ∧ win0_0.index t 2 = 0)
    ∧ (win0_1.index t 0 = t.val ∧ win0_1.index t 1 = 0) :=
  (by decide +kernel : ∀ t : Fin grid0.N, _)

/-- What it stores, from what it loads. -/
theorem summed (x : Vec F S8x8x128 .f32) : out0_1 x = eight x := by
  rw [out0_1, stored, k0_pay1, loaded (o := 0) 0 rfl, loaded (o := 1) 1 rfl, loaded (o := 2) 2 rfl, loaded (o := 3) 3 rfl, loaded (o := 4) 4 rfl, loaded (o := 5) 5 rfl, loaded (o := 6) 6 rfl, loaded (o := 7) 7 rfl]
  rfl

/-- The array it leaves. -/
theorem result (c : Dev nD) : (dats m 0 c).arrAt 1 cfg0.N = eight (m ((c : Thread nD τ).loc main_arg0)) :=
  filled (b := 8) (N := 161) rfl
    (fun t y => .of_offset (place t).2 rfl rfl : ∀ t y, At t.val y (((cfg0.win 1).blk t).view.emb y))
    (fun t => (blocks1 m c t (flush0_1 t)).trans ((flushed1 m c t).trans (summed (iblk m c 0 t))))
    fun t => (Blocks.of_offset (emb := ((cfg0.win 0).blk t).view.emb) (place t).1 (fun _ => rfl) (fun _ => rfl) (fun _ => rfl)
      (m ((c : Thread nD τ).loc main_arg0))).eight

theorem frame_ideal : Cert.quiescent_SumSmallIdeal := fun m g _ => Gen.frame m g

theorem bodies : Cert.SumSmall.defs (F := Bits) = Cert.SumSmallIdeal.defs :=
  congrArg (Pipeline.defs _) (congrArg Defs.onTc (funext fun l => funext fun a => match l, a with
    | ⟨0, _⟩, ⟨_, _⟩ => rfl))

theorem frame_bits : Cert.quiescent_SumSmall := fun m g _ => by
  rw [bodies]
  exact Gen.frame (F := Bits) m g

theorem reference_ideal : Cert.quiescent_SumSmallRefIdeal := fun m g _ => Calls.quiet (by decide) (Cert.SumSmallRefIdeal.Value.run m g)

theorem value_ideal : Cert.algebraic_SumSmallIdeal_SumSmallRefIdeal := fun m g m' g' _ hm =>
  ⟨_, (θ_run (Cert.SumSmallIdeal.defs (F := Ideal)) _ _).mono
      (fun _ h c => ⟨(h c).1.trans ((result m c).trans (eight_total (hm c) _ _)), (h c).2⟩) (run_blocks m g),
    Cert.SumSmallRefIdeal.Value.run m' g'⟩

end Cert.SumSmallIdeal.Own

end
-- ==== Proof.AdamAdaClaims.lean ====
module

public import proofs.«01_k».proof.Defs
public import proofs.«01_k».proof.Proof.Adam
public import proofs.«01_k».proof.Proof.Gen.AdamAda
public import proofs.«01_k».proof.Proof.Gen.AdamAdaIdeal.Value
public import proofs.«01_k».proof.Proof.Gen.AdamAdaRefIdeal.Run
public import Idealize.ShloMosaic.Lib.Quiescent

@[expose] public section

noncomputable section

/-!
The claims about `AdamAda`: the AdamW step of `w_ada`, from its layers' gradients.
-/

namespace Cert.AdamAdaIdeal.Own

open Cert.AdamAdaIdeal Cert.AdamAdaIdeal.Gen Cert.AdamAdaIdeal.Value Cert.Adam
open Idealize.ShloMosaic Idealize.ShloMosaic.TcCoe Idealize.SL.Sem

variable {F : FTy → Type} [FloatOps F] (m : (ℓ : Loc nD τ sig) → Buf (Elt F) ℓ)

/-- Where each window's block lies at each step, and which layer the step's gradient is of. -/
theorem place : ∀ t : Fin cfg0.N,
    (win0_0.index t 0 = t.val ∧ win0_0.index t 1 = 0)
    ∧ (t.val < 16 → win0_1.index t 0 = t.val ∧ win0_1.index t 1 = 0)
    ∧ (16 ≤ t.val → win0_2.index t 0 = t.val - 16 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ second 16#32 (BitVec.ofNat 32 (grid0.coords t 0).val) = (if t.val < 16 then 0#1 else 1#1) :=
  (by decide +kernel : ∀ t : Fin grid0.N, _)

/-- The layers' gradients one after the other. -/
abbrev gradients (c : Dev nD) : FVec F (Rows 4096 3072) .f32 :=
  concatenate (Rows 4096 3072) 0
    [⟨Rows 2048 3072, m ((c : Thread nD τ).loc main_arg1)⟩, ⟨Rows 2048 3072, m ((c : Thread nD τ).loc main_arg2)⟩]
    Cert.AdamAdaRefIdeal.Gen.concatenates_S2048x3072_S2048x3072_S4096x3072_d0

theorem gradient (c : Dev nD) (t : Fin cfg0.N) :
    Block t.val (k0_pay2 (grid0.coords t) (iblk m c 1 t) (iblk m c 2 t)) (gradients m c) :=
  choice (k := 16) rfl rfl _ (fun t => (place t).2.2.2.2.2.2.2.2.2)
    (fun t ht y => ⟨((cfg0.win 1).blk t).view.emb y, .of_offset ((place t).2.1 ht) rfl rfl, rfl⟩)
    (fun t ht y => ⟨((cfg0.win 2).blk t).view.emb y, .of_offset ((place t).2.2.1 ht) rfl rfl, rfl⟩) t

/-- The four arrays it leaves. -/
theorem results (c : Dev nD) :
    (dats m 0 c).arrAt 5 cfg0.N = gradients m c
    ∧ (dats m 0 c).arrAt 6 cfg0.N = delta (m ((c : Thread nD τ).loc main_arg0))
        (mean (m ((c : Thread nD τ).loc main_arg3)) (gradients m c)) (square (m ((c : Thread nD τ).loc main_arg4)) (gradients m c))
    ∧ (dats m 0 c).arrAt 7 cfg0.N = mean (m ((c : Thread nD τ).loc main_arg3)) (gradients m c)
    ∧ (dats m 0 c).arrAt 8 cfg0.N = square (m ((c : Thread nD τ).loc main_arg4)) (gradients m c) := step (F := F) (b := 128) (N := 32) rfl
  (fun t y => ⟨((cfg0.win 0).blk t).view.emb y, .of_offset (place t).1 rfl rfl, rfl⟩ :
    ∀ t, Block t.val (iblk m c 0 t) (m ((c : Thread nD τ).loc main_arg0)))
  (gradient m c)
  (fun t y => ⟨((cfg0.win 3).blk t).view.emb y, .of_offset (place t).2.2.2.1 rfl rfl, rfl⟩ :
    ∀ t, Block t.val (iblk m c 3 t) (m ((c : Thread nD τ).loc main_arg3)))
  (fun t y => ⟨((cfg0.win 4).blk t).view.emb y, .of_offset (place t).2.2.2.2.1 rfl rfl, rfl⟩ :
    ∀ t, Block t.val (iblk m c 4 t) (m ((c : Thread nD τ).loc main_arg4)))
  (fun t y => .of_offset (place t).2.2.2.2.2.1 rfl rfl : ∀ t y, At t.val y (((cfg0.win 5).blk t).view.emb y))
  (fun t y => .of_offset (place t).2.2.2.2.2.2.1 rfl rfl : ∀ t y, At t.val y (((cfg0.win 6).blk t).view.emb y))
  (fun t y => .of_offset (place t).2.2.2.2.2.2.2.1 rfl rfl : ∀ t y, At t.val y (((cfg0.win 7).blk t).view.emb y))
  (fun t y => .of_offset (place t).2.2.2.2.2.2.2.2.1 rfl rfl : ∀ t y, At t.val y (((cfg0.win 8).blk t).view.emb y))
  (fun t => (blocks5 m c t (flush0_5 t)).trans ((flushed5 m c t).trans (by
    show out0_5 _ _ _ _ _ _ = _; rw [out0_5, stored, loaded, loaded])))
  (fun t => (blocks6 m c t (flush0_6 t)).trans ((flushed6 m c t).trans (by
    show out0_6 _ _ _ _ _ _ = _; rw [out0_6, stored, k0_pay5, k0_pay6]; simp only [loaded]; rfl)))
  (fun t => (blocks7 m c t (flush0_7 t)).trans ((flushed7 m c t).trans (by
    show out0_7 _ _ _ _ _ _ = _; rw [out0_7, stored, k0_pay5]; simp only [loaded]; rfl)))
  (fun t => (blocks8 m c t (flush0_8 t)).trans ((flushed8 m c t).trans (by
    show out0_8 _ _ _ _ _ _ = _; rw [out0_8, stored, k0_pay6]; simp only [loaded]; rfl)))

theorem frame_ideal : Cert.quiescent_AdamAdaIdeal := fun m g _ => Gen.frame m g

theorem bodies : Cert.AdamAda.defs (F := Bits) = Cert.AdamAdaIdeal.defs :=
  congrArg (Pipeline.defs _) (congrArg Defs.onTc (funext fun l => funext fun a => match l, a with
    | ⟨0, _⟩, ⟨_, _⟩ => rfl))

theorem frame_bits : Cert.quiescent_AdamAda := fun m g _ => by
  rw [bodies]
  exact Gen.frame (F := Bits) m g

theorem reference_ideal : Cert.quiescent_AdamAdaRefIdeal := fun m g _ =>
  (θ_run (Cert.AdamAdaRefIdeal.defs (F := Ideal)) _ _).mono
    (fun r h => ⟨fun c => (h c).2.2.2.2, sem_eq_zero_of_no_sems (by decide) r.2⟩) (Cert.AdamAdaRefIdeal.Value.run m g)

theorem value_ideal : Cert.algebraic_AdamAdaIdeal_AdamAdaRefIdeal := fun m g m' g' _ hm =>
  ⟨_, _, _, _,
    (θ_run (Cert.AdamAdaIdeal.defs (F := Ideal)) _ _).mono (fun _ h c =>
      have e := agree Cert.AdamAdaRefIdeal.Gen.bcast_S_S4096x3072 (hm c).1 (joined _ (hm c).2.1 (hm c).2.2.1) (hm c).2.2.2.1 (hm c).2.2.2.2 (results m c)
      ⟨(h c).1.trans e.1, (h c).2.1.trans e.2.1, (h c).2.2.1.trans e.2.2.1, (h c).2.2.2.1.trans e.2.2.2, (h c).2.2.2.2⟩)
      (run_blocks m g),
    Cert.AdamAdaRefIdeal.Value.run m' g'⟩

end Cert.AdamAdaIdeal.Own

end
-- ==== Proof.AdamInClaims.lean ====
module

public import proofs.«01_k».proof.Defs
public import proofs.«01_k».proof.Proof.Adam
public import proofs.«01_k».proof.Proof.Gen.AdamIn
public import proofs.«01_k».proof.Proof.Gen.AdamInIdeal.Value
public import proofs.«01_k».proof.Proof.Gen.AdamInRefIdeal.Run
public import Idealize.ShloMosaic.Lib.Quiescent

@[expose] public section

noncomputable section

/-!
The claims about `AdamIn`: the AdamW step of `w_in`, from its layers' gradients.
-/

namespace Cert.AdamInIdeal.Own

open Cert.AdamInIdeal Cert.AdamInIdeal.Gen Cert.AdamInIdeal.Value Cert.Adam
open Idealize.ShloMosaic Idealize.ShloMosaic.TcCoe Idealize.SL.Sem

variable {F : FTy → Type} [FloatOps F] (m : (ℓ : Loc nD τ sig) → Buf (Elt F) ℓ)

/-- Where each window's block lies at each step, and which layer the step's gradient is of. -/
theorem place : ∀ t : Fin cfg0.N,
    (win0_0.index t 0 = t.val ∧ win0_0.index t 1 = 0)
    ∧ (t.val < 8 → win0_1.index t 0 = t.val ∧ win0_1.index t 1 = 0)
    ∧ (8 ≤ t.val → win0_2.index t 0 = t.val - 8 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ second 8#32 (BitVec.ofNat 32 (grid0.coords t 0).val) = (if t.val < 8 then 0#1 else 1#1) :=
  (by decide +kernel : ∀ t : Fin grid0.N, _)

/-- The layers' gradients one after the other. -/
abbrev gradients (c : Dev nD) : FVec F (Rows 4096 1792) .f32 :=
  concatenate (Rows 4096 1792) 0
    [⟨Rows 2048 1792, m ((c : Thread nD τ).loc main_arg1)⟩, ⟨Rows 2048 1792, m ((c : Thread nD τ).loc main_arg2)⟩]
    Cert.AdamInRefIdeal.Gen.concatenates_S2048x1792_S2048x1792_S4096x1792_d0

theorem gradient (c : Dev nD) (t : Fin cfg0.N) :
    Block t.val (k0_pay2 (grid0.coords t) (iblk m c 1 t) (iblk m c 2 t)) (gradients m c) :=
  choice (k := 8) rfl rfl _ (fun t => (place t).2.2.2.2.2.2.2.2.2)
    (fun t ht y => ⟨((cfg0.win 1).blk t).view.emb y, .of_offset ((place t).2.1 ht) rfl rfl, rfl⟩)
    (fun t ht y => ⟨((cfg0.win 2).blk t).view.emb y, .of_offset ((place t).2.2.1 ht) rfl rfl, rfl⟩) t

/-- The four arrays it leaves. -/
theorem results (c : Dev nD) :
    (dats m 0 c).arrAt 5 cfg0.N = gradients m c
    ∧ (dats m 0 c).arrAt 6 cfg0.N = delta (m ((c : Thread nD τ).loc main_arg0))
        (mean (m ((c : Thread nD τ).loc main_arg3)) (gradients m c)) (square (m ((c : Thread nD τ).loc main_arg4)) (gradients m c))
    ∧ (dats m 0 c).arrAt 7 cfg0.N = mean (m ((c : Thread nD τ).loc main_arg3)) (gradients m c)
    ∧ (dats m 0 c).arrAt 8 cfg0.N = square (m ((c : Thread nD τ).loc main_arg4)) (gradients m c) := step (F := F) (b := 256) (N := 16) rfl
  (fun t y => ⟨((cfg0.win 0).blk t).view.emb y, .of_offset (place t).1 rfl rfl, rfl⟩ :
    ∀ t, Block t.val (iblk m c 0 t) (m ((c : Thread nD τ).loc main_arg0)))
  (gradient m c)
  (fun t y => ⟨((cfg0.win 3).blk t).view.emb y, .of_offset (place t).2.2.2.1 rfl rfl, rfl⟩ :
    ∀ t, Block t.val (iblk m c 3 t) (m ((c : Thread nD τ).loc main_arg3)))
  (fun t y => ⟨((cfg0.win 4).blk t).view.emb y, .of_offset (place t).2.2.2.2.1 rfl rfl, rfl⟩ :
    ∀ t, Block t.val (iblk m c 4 t) (m ((c : Thread nD τ).loc main_arg4)))
  (fun t y => .of_offset (place t).2.2.2.2.2.1 rfl rfl : ∀ t y, At t.val y (((cfg0.win 5).blk t).view.emb y))
  (fun t y => .of_offset (place t).2.2.2.2.2.2.1 rfl rfl : ∀ t y, At t.val y (((cfg0.win 6).blk t).view.emb y))
  (fun t y => .of_offset (place t).2.2.2.2.2.2.2.1 rfl rfl : ∀ t y, At t.val y (((cfg0.win 7).blk t).view.emb y))
  (fun t y => .of_offset (place t).2.2.2.2.2.2.2.2.1 rfl rfl : ∀ t y, At t.val y (((cfg0.win 8).blk t).view.emb y))
  (fun t => (blocks5 m c t (flush0_5 t)).trans ((flushed5 m c t).trans (by
    show out0_5 _ _ _ _ _ _ = _; rw [out0_5, stored, loaded, loaded])))
  (fun t => (blocks6 m c t (flush0_6 t)).trans ((flushed6 m c t).trans (by
    show out0_6 _ _ _ _ _ _ = _; rw [out0_6, stored, k0_pay5, k0_pay6]; simp only [loaded]; rfl)))
  (fun t => (blocks7 m c t (flush0_7 t)).trans ((flushed7 m c t).trans (by
    show out0_7 _ _ _ _ _ _ = _; rw [out0_7, stored, k0_pay5]; simp only [loaded]; rfl)))
  (fun t => (blocks8 m c t (flush0_8 t)).trans ((flushed8 m c t).trans (by
    show out0_8 _ _ _ _ _ _ = _; rw [out0_8, stored, k0_pay6]; simp only [loaded]; rfl)))

theorem frame_ideal : Cert.quiescent_AdamInIdeal := fun m g _ => Gen.frame m g

theorem bodies : Cert.AdamIn.defs (F := Bits) = Cert.AdamInIdeal.defs :=
  congrArg (Pipeline.defs _) (congrArg Defs.onTc (funext fun l => funext fun a => match l, a with
    | ⟨0, _⟩, ⟨_, _⟩ => rfl))

theorem frame_bits : Cert.quiescent_AdamIn := fun m g _ => by
  rw [bodies]
  exact Gen.frame (F := Bits) m g

theorem reference_ideal : Cert.quiescent_AdamInRefIdeal := fun m g _ =>
  (θ_run (Cert.AdamInRefIdeal.defs (F := Ideal)) _ _).mono
    (fun r h => ⟨fun c => (h c).2.2.2.2, sem_eq_zero_of_no_sems (by decide) r.2⟩) (Cert.AdamInRefIdeal.Value.run m g)

theorem value_ideal : Cert.algebraic_AdamInIdeal_AdamInRefIdeal := fun m g m' g' _ hm =>
  ⟨_, _, _, _,
    (θ_run (Cert.AdamInIdeal.defs (F := Ideal)) _ _).mono (fun _ h c =>
      have e := agree Cert.AdamInRefIdeal.Gen.bcast_S_S4096x1792 (hm c).1 (joined _ (hm c).2.1 (hm c).2.2.1) (hm c).2.2.2.1 (hm c).2.2.2.2 (results m c)
      ⟨(h c).1.trans e.1, (h c).2.1.trans e.2.1, (h c).2.2.1.trans e.2.2.1, (h c).2.2.2.1.trans e.2.2.2, (h c).2.2.2.2⟩)
      (run_blocks m g),
    Cert.AdamInRefIdeal.Value.run m' g'⟩

end Cert.AdamInIdeal.Own

end
-- ==== Proof.AdamOutClaims.lean ====
module

public import proofs.«01_k».proof.Defs
public import proofs.«01_k».proof.Proof.Adam
public import proofs.«01_k».proof.Proof.Gen.AdamOut
public import proofs.«01_k».proof.Proof.Gen.AdamOutIdeal.Value
public import proofs.«01_k».proof.Proof.Gen.AdamOutRefIdeal.Run
public import Idealize.ShloMosaic.Lib.Quiescent

@[expose] public section

noncomputable section

/-!
The claims about `AdamOut`: the AdamW step of `w_out`, from its layers' gradients.
-/

namespace Cert.AdamOutIdeal.Own

open Cert.AdamOutIdeal Cert.AdamOutIdeal.Gen Cert.AdamOutIdeal.Value Cert.Adam
open Idealize.ShloMosaic Idealize.ShloMosaic.TcCoe Idealize.SL.Sem

variable {F : FTy → Type} [FloatOps F] (m : (ℓ : Loc nD τ sig) → Buf (Elt F) ℓ)

/-- Where each window's block lies at each step, and which layer the step's gradient is of. -/
theorem place : ∀ t : Fin cfg0.N,
    (win0_0.index t 0 = t.val ∧ win0_0.index t 1 = 0)
    ∧ (t.val < 2 → win0_1.index t 0 = t.val ∧ win0_1.index t 1 = 0)
    ∧ (2 ≤ t.val → win0_2.index t 0 = t.val - 2 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ second 2#32 (BitVec.ofNat 32 (grid0.coords t 0).val) = (if t.val < 2 then 0#1 else 1#1) :=
  (by decide +kernel : ∀ t : Fin grid0.N, _)

/-- The layers' gradients one after the other. -/
abbrev gradients (c : Dev nD) : FVec F (Rows 1024 2048) .f32 :=
  concatenate (Rows 1024 2048) 0
    [⟨Rows 512 2048, m ((c : Thread nD τ).loc main_arg1)⟩, ⟨Rows 512 2048, m ((c : Thread nD τ).loc main_arg2)⟩]
    Cert.AdamOutRefIdeal.Gen.concatenates_S512x2048_S512x2048_S1024x2048_d0

theorem gradient (c : Dev nD) (t : Fin cfg0.N) :
    Block t.val (k0_pay2 (grid0.coords t) (iblk m c 1 t) (iblk m c 2 t)) (gradients m c) :=
  choice (k := 2) rfl rfl _ (fun t => (place t).2.2.2.2.2.2.2.2.2)
    (fun t ht y => ⟨((cfg0.win 1).blk t).view.emb y, .of_offset ((place t).2.1 ht) rfl rfl, rfl⟩)
    (fun t ht y => ⟨((cfg0.win 2).blk t).view.emb y, .of_offset ((place t).2.2.1 ht) rfl rfl, rfl⟩) t

/-- The four arrays it leaves. -/
theorem results (c : Dev nD) :
    (dats m 0 c).arrAt 5 cfg0.N = gradients m c
    ∧ (dats m 0 c).arrAt 6 cfg0.N = delta (m ((c : Thread nD τ).loc main_arg0))
        (mean (m ((c : Thread nD τ).loc main_arg3)) (gradients m c)) (square (m ((c : Thread nD τ).loc main_arg4)) (gradients m c))
    ∧ (dats m 0 c).arrAt 7 cfg0.N = mean (m ((c : Thread nD τ).loc main_arg3)) (gradients m c)
    ∧ (dats m 0 c).arrAt 8 cfg0.N = square (m ((c : Thread nD τ).loc main_arg4)) (gradients m c) := step (F := F) (b := 256) (N := 4) rfl
  (fun t y => ⟨((cfg0.win 0).blk t).view.emb y, .of_offset (place t).1 rfl rfl, rfl⟩ :
    ∀ t, Block t.val (iblk m c 0 t) (m ((c : Thread nD τ).loc main_arg0)))
  (gradient m c)
  (fun t y => ⟨((cfg0.win 3).blk t).view.emb y, .of_offset (place t).2.2.2.1 rfl rfl, rfl⟩ :
    ∀ t, Block t.val (iblk m c 3 t) (m ((c : Thread nD τ).loc main_arg3)))
  (fun t y => ⟨((cfg0.win 4).blk t).view.emb y, .of_offset (place t).2.2.2.2.1 rfl rfl, rfl⟩ :
    ∀ t, Block t.val (iblk m c 4 t) (m ((c : Thread nD τ).loc main_arg4)))
  (fun t y => .of_offset (place t).2.2.2.2.2.1 rfl rfl : ∀ t y, At t.val y (((cfg0.win 5).blk t).view.emb y))
  (fun t y => .of_offset (place t).2.2.2.2.2.2.1 rfl rfl : ∀ t y, At t.val y (((cfg0.win 6).blk t).view.emb y))
  (fun t y => .of_offset (place t).2.2.2.2.2.2.2.1 rfl rfl : ∀ t y, At t.val y (((cfg0.win 7).blk t).view.emb y))
  (fun t y => .of_offset (place t).2.2.2.2.2.2.2.2.1 rfl rfl : ∀ t y, At t.val y (((cfg0.win 8).blk t).view.emb y))
  (fun t => (blocks5 m c t (flush0_5 t)).trans ((flushed5 m c t).trans (by
    show out0_5 _ _ _ _ _ _ = _; rw [out0_5, stored, loaded, loaded])))
  (fun t => (blocks6 m c t (flush0_6 t)).trans ((flushed6 m c t).trans (by
    show out0_6 _ _ _ _ _ _ = _; rw [out0_6, stored, k0_pay5, k0_pay6]; simp only [loaded]; rfl)))
  (fun t => (blocks7 m c t (flush0_7 t)).trans ((flushed7 m c t).trans (by
    show out0_7 _ _ _ _ _ _ = _; rw [out0_7, stored, k0_pay5]; simp only [loaded]; rfl)))
  (fun t => (blocks8 m c t (flush0_8 t)).trans ((flushed8 m c t).trans (by
    show out0_8 _ _ _ _ _ _ = _; rw [out0_8, stored, k0_pay6]; simp only [loaded]; rfl)))

theorem frame_ideal : Cert.quiescent_AdamOutIdeal := fun m g _ => Gen.frame m g

theorem bodies : Cert.AdamOut.defs (F := Bits) = Cert.AdamOutIdeal.defs :=
  congrArg (Pipeline.defs _) (congrArg Defs.onTc (funext fun l => funext fun a => match l, a with
    | ⟨0, _⟩, ⟨_, _⟩ => rfl))

theorem frame_bits : Cert.quiescent_AdamOut := fun m g _ => by
  rw [bodies]
  exact Gen.frame (F := Bits) m g

theorem reference_ideal : Cert.quiescent_AdamOutRefIdeal := fun m g _ =>
  (θ_run (Cert.AdamOutRefIdeal.defs (F := Ideal)) _ _).mono
    (fun r h => ⟨fun c => (h c).2.2.2.2, sem_eq_zero_of_no_sems (by decide) r.2⟩) (Cert.AdamOutRefIdeal.Value.run m g)

theorem value_ideal : Cert.algebraic_AdamOutIdeal_AdamOutRefIdeal := fun m g m' g' _ hm =>
  ⟨_, _, _, _,
    (θ_run (Cert.AdamOutIdeal.defs (F := Ideal)) _ _).mono (fun _ h c =>
      have e := agree Cert.AdamOutRefIdeal.Gen.bcast_S_S1024x2048 (hm c).1 (joined _ (hm c).2.1 (hm c).2.2.1) (hm c).2.2.2.1 (hm c).2.2.2.2 (results m c)
      ⟨(h c).1.trans e.1, (h c).2.1.trans e.2.1, (h c).2.2.1.trans e.2.2.1, (h c).2.2.2.1.trans e.2.2.2, (h c).2.2.2.2⟩)
      (run_blocks m g),
    Cert.AdamOutRefIdeal.Value.run m' g'⟩

end Cert.AdamOutIdeal.Own

end
-- ==== Proof.AdamUpClaims.lean ====
module

public import proofs.«01_k».proof.Defs
public import proofs.«01_k».proof.Proof.Adam
public import proofs.«01_k».proof.Proof.Gen.AdamUp
public import proofs.«01_k».proof.Proof.Gen.AdamUpIdeal.Value
public import proofs.«01_k».proof.Proof.Gen.AdamUpRefIdeal.Run
public import Idealize.ShloMosaic.Lib.Quiescent

@[expose] public section

noncomputable section

/-!
The claims about `AdamUp`: the AdamW step of `w_up`, from its layers' gradients.
-/

namespace Cert.AdamUpIdeal.Own

open Cert.AdamUpIdeal Cert.AdamUpIdeal.Gen Cert.AdamUpIdeal.Value Cert.Adam
open Idealize.ShloMosaic Idealize.ShloMosaic.TcCoe Idealize.SL.Sem

variable {F : FTy → Type} [FloatOps F] (m : (ℓ : Loc nD τ sig) → Buf (Elt F) ℓ)

/-- Where each window's block lies at each step, and which layer the step's gradient is of. -/
theorem place : ∀ t : Fin cfg0.N,
    (win0_0.index t 0 = t.val ∧ win0_0.index t 1 = 0)
    ∧ (t.val < 16 → win0_1.index t 0 = t.val ∧ win0_1.index t 1 = 0)
    ∧ (16 ≤ t.val → win0_2.index t 0 = t.val - 16 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ second 16#32 (BitVec.ofNat 32 (grid0.coords t 0).val) = (if t.val < 16 then 0#1 else 1#1) :=
  (by decide +kernel : ∀ t : Fin grid0.N, _)

/-- The layers' gradients one after the other. -/
abbrev gradients (c : Dev nD) : FVec F (Rows 4096 2816) .f32 :=
  concatenate (Rows 4096 2816) 0
    [⟨Rows 2048 2816, m ((c : Thread nD τ).loc main_arg1)⟩, ⟨Rows 2048 2816, m ((c : Thread nD τ).loc main_arg2)⟩]
    Cert.AdamUpRefIdeal.Gen.concatenates_S2048x2816_S2048x2816_S4096x2816_d0

theorem gradient (c : Dev nD) (t : Fin cfg0.N) :
    Block t.val (k0_pay2 (grid0.coords t) (iblk m c 1 t) (iblk m c 2 t)) (gradients m c) :=
  choice (k := 16) rfl rfl _ (fun t => (place t).2.2.2.2.2.2.2.2.2)
    (fun t ht y => ⟨((cfg0.win 1).blk t).view.emb y, .of_offset ((place t).2.1 ht) rfl rfl, rfl⟩)
    (fun t ht y => ⟨((cfg0.win 2).blk t).view.emb y, .of_offset ((place t).2.2.1 ht) rfl rfl, rfl⟩) t

/-- The four arrays it leaves. -/
theorem results (c : Dev nD) :
    (dats m 0 c).arrAt 5 cfg0.N = gradients m c
    ∧ (dats m 0 c).arrAt 6 cfg0.N = delta (m ((c : Thread nD τ).loc main_arg0))
        (mean (m ((c : Thread nD τ).loc main_arg3)) (gradients m c)) (square (m ((c : Thread nD τ).loc main_arg4)) (gradients m c))
    ∧ (dats m 0 c).arrAt 7 cfg0.N = mean (m ((c : Thread nD τ).loc main_arg3)) (gradients m c)
    ∧ (dats m 0 c).arrAt 8 cfg0.N = square (m ((c : Thread nD τ).loc main_arg4)) (gradients m c) := step (F := F) (b := 128) (N := 32) rfl
  (fun t y => ⟨((cfg0.win 0).blk t).view.emb y, .of_offset (place t).1 rfl rfl, rfl⟩ :
    ∀ t, Block t.val (iblk m c 0 t) (m ((c : Thread nD τ).loc main_arg0)))
  (gradient m c)
  (fun t y => ⟨((cfg0.win 3).blk t).view.emb y, .of_offset (place t).2.2.2.1 rfl rfl, rfl⟩ :
    ∀ t, Block t.val (iblk m c 3 t) (m ((c : Thread nD τ).loc main_arg3)))
  (fun t y => ⟨((cfg0.win 4).blk t).view.emb y, .of_offset (place t).2.2.2.2.1 rfl rfl, rfl⟩ :
    ∀ t, Block t.val (iblk m c 4 t) (m ((c : Thread nD τ).loc main_arg4)))
  (fun t y => .of_offset (place t).2.2.2.2.2.1 rfl rfl : ∀ t y, At t.val y (((cfg0.win 5).blk t).view.emb y))
  (fun t y => .of_offset (place t).2.2.2.2.2.2.1 rfl rfl : ∀ t y, At t.val y (((cfg0.win 6).blk t).view.emb y))
  (fun t y => .of_offset (place t).2.2.2.2.2.2.2.1 rfl rfl : ∀ t y, At t.val y (((cfg0.win 7).blk t).view.emb y))
  (fun t y => .of_offset (place t).2.2.2.2.2.2.2.2.1 rfl rfl : ∀ t y, At t.val y (((cfg0.win 8).blk t).view.emb y))
  (fun t => (blocks5 m c t (flush0_5 t)).trans ((flushed5 m c t).trans (by
    show out0_5 _ _ _ _ _ _ = _; rw [out0_5, stored, loaded, loaded])))
  (fun t => (blocks6 m c t (flush0_6 t)).trans ((flushed6 m c t).trans (by
    show out0_6 _ _ _ _ _ _ = _; rw [out0_6, stored, k0_pay5, k0_pay6]; simp only [loaded]; rfl)))
  (fun t => (blocks7 m c t (flush0_7 t)).trans ((flushed7 m c t).trans (by
    show out0_7 _ _ _ _ _ _ = _; rw [out0_7, stored, k0_pay5]; simp only [loaded]; rfl)))
  (fun t => (blocks8 m c t (flush0_8 t)).trans ((flushed8 m c t).trans (by
    show out0_8 _ _ _ _ _ _ = _; rw [out0_8, stored, k0_pay6]; simp only [loaded]; rfl)))

theorem frame_ideal : Cert.quiescent_AdamUpIdeal := fun m g _ => Gen.frame m g

theorem bodies : Cert.AdamUp.defs (F := Bits) = Cert.AdamUpIdeal.defs :=
  congrArg (Pipeline.defs _) (congrArg Defs.onTc (funext fun l => funext fun a => match l, a with
    | ⟨0, _⟩, ⟨_, _⟩ => rfl))

theorem frame_bits : Cert.quiescent_AdamUp := fun m g _ => by
  rw [bodies]
  exact Gen.frame (F := Bits) m g

theorem reference_ideal : Cert.quiescent_AdamUpRefIdeal := fun m g _ =>
  (θ_run (Cert.AdamUpRefIdeal.defs (F := Ideal)) _ _).mono
    (fun r h => ⟨fun c => (h c).2.2.2.2, sem_eq_zero_of_no_sems (by decide) r.2⟩) (Cert.AdamUpRefIdeal.Value.run m g)

theorem value_ideal : Cert.algebraic_AdamUpIdeal_AdamUpRefIdeal := fun m g m' g' _ hm =>
  ⟨_, _, _, _,
    (θ_run (Cert.AdamUpIdeal.defs (F := Ideal)) _ _).mono (fun _ h c =>
      have e := agree Cert.AdamUpRefIdeal.Gen.bcast_S_S4096x2816 (hm c).1 (joined _ (hm c).2.1 (hm c).2.2.1) (hm c).2.2.2.1 (hm c).2.2.2.2 (results m c)
      ⟨(h c).1.trans e.1, (h c).2.1.trans e.2.1, (h c).2.2.1.trans e.2.2.1, (h c).2.2.2.1.trans e.2.2.2, (h c).2.2.2.2⟩)
      (run_blocks m g),
    Cert.AdamUpRefIdeal.Value.run m' g'⟩

end Cert.AdamUpIdeal.Own

end
-- ==== Proof.AdamDownClaims.lean ====
module

public import proofs.«01_k».proof.Defs
public import proofs.«01_k».proof.Proof.Adam
public import proofs.«01_k».proof.Proof.Gen.AdamDown
public import proofs.«01_k».proof.Proof.Gen.AdamDownIdeal.Value
public import proofs.«01_k».proof.Proof.Gen.AdamDownRefIdeal.Run
public import Idealize.ShloMosaic.Lib.Quiescent

@[expose] public section

noncomputable section

/-!
The claims about `AdamDown`: the AdamW step of `w_down`, from its layers' gradients.
-/

namespace Cert.AdamDownIdeal.Own

open Cert.AdamDownIdeal Cert.AdamDownIdeal.Gen Cert.AdamDownIdeal.Value Cert.Adam
open Idealize.ShloMosaic Idealize.ShloMosaic.TcCoe Idealize.SL.Sem

variable {F : FTy → Type} [FloatOps F] (m : (ℓ : Loc nD τ sig) → Buf (Elt F) ℓ)

/-- Where each window's block lies at each step, and which layer the step's gradient is of. -/
theorem place : ∀ t : Fin cfg0.N,
    (win0_0.index t 0 = t.val ∧ win0_0.index t 1 = 0)
    ∧ (t.val < 11 → win0_1.index t 0 = t.val ∧ win0_1.index t 1 = 0)
    ∧ (11 ≤ t.val → win0_2.index t 0 = t.val - 11 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ second 11#32 (BitVec.ofNat 32 (grid0.coords t 0).val) = (if t.val < 11 then 0#1 else 1#1) :=
  (by decide +kernel : ∀ t : Fin grid0.N, _)

/-- The layers' gradients one after the other. -/
abbrev gradients (c : Dev nD) : FVec F (Rows 2816 2048) .f32 :=
  concatenate (Rows 2816 2048) 0
    [⟨Rows 1408 2048, m ((c : Thread nD τ).loc main_arg1)⟩, ⟨Rows 1408 2048, m ((c : Thread nD τ).loc main_arg2)⟩]
    Cert.AdamDownRefIdeal.Gen.concatenates_S1408x2048_S1408x2048_S2816x2048_d0

theorem gradient (c : Dev nD) (t : Fin cfg0.N) :
    Block t.val (k0_pay2 (grid0.coords t) (iblk m c 1 t) (iblk m c 2 t)) (gradients m c) :=
  choice (k := 11) rfl rfl _ (fun t => (place t).2.2.2.2.2.2.2.2.2)
    (fun t ht y => ⟨((cfg0.win 1).blk t).view.emb y, .of_offset ((place t).2.1 ht) rfl rfl, rfl⟩)
    (fun t ht y => ⟨((cfg0.win 2).blk t).view.emb y, .of_offset ((place t).2.2.1 ht) rfl rfl, rfl⟩) t

/-- The four arrays it leaves. -/
theorem results (c : Dev nD) :
    (dats m 0 c).arrAt 5 cfg0.N = gradients m c
    ∧ (dats m 0 c).arrAt 6 cfg0.N = delta (m ((c : Thread nD τ).loc main_arg0))
        (mean (m ((c : Thread nD τ).loc main_arg3)) (gradients m c)) (square (m ((c : Thread nD τ).loc main_arg4)) (gradients m c))
    ∧ (dats m 0 c).arrAt 7 cfg0.N = mean (m ((c : Thread nD τ).loc main_arg3)) (gradients m c)
    ∧ (dats m 0 c).arrAt 8 cfg0.N = square (m ((c : Thread nD τ).loc main_arg4)) (gradients m c) := step (F := F) (b := 128) (N := 22) rfl
  (fun t y => ⟨((cfg0.win 0).blk t).view.emb y, .of_offset (place t).1 rfl rfl, rfl⟩ :
    ∀ t, Block t.val (iblk m c 0 t) (m ((c : Thread nD τ).loc main_arg0)))
  (gradient m c)
  (fun t y => ⟨((cfg0.win 3).blk t).view.emb y, .of_offset (place t).2.2.2.1 rfl rfl, rfl⟩ :
    ∀ t, Block t.val (iblk m c 3 t) (m ((c : Thread nD τ).loc main_arg3)))
  (fun t y => ⟨((cfg0.win 4).blk t).view.emb y, .of_offset (place t).2.2.2.2.1 rfl rfl, rfl⟩ :
    ∀ t, Block t.val (iblk m c 4 t) (m ((c : Thread nD τ).loc main_arg4)))
  (fun t y => .of_offset (place t).2.2.2.2.2.1 rfl rfl : ∀ t y, At t.val y (((cfg0.win 5).blk t).view.emb y))
  (fun t y => .of_offset (place t).2.2.2.2.2.2.1 rfl rfl : ∀ t y, At t.val y (((cfg0.win 6).blk t).view.emb y))
  (fun t y => .of_offset (place t).2.2.2.2.2.2.2.1 rfl rfl : ∀ t y, At t.val y (((cfg0.win 7).blk t).view.emb y))
  (fun t y => .of_offset (place t).2.2.2.2.2.2.2.2.1 rfl rfl : ∀ t y, At t.val y (((cfg0.win 8).blk t).view.emb y))
  (fun t => (blocks5 m c t (flush0_5 t)).trans ((flushed5 m c t).trans (by
    show out0_5 _ _ _ _ _ _ = _; rw [out0_5, stored, loaded, loaded])))
  (fun t => (blocks6 m c t (flush0_6 t)).trans ((flushed6 m c t).trans (by
    show out0_6 _ _ _ _ _ _ = _; rw [out0_6, stored, k0_pay5, k0_pay6]; simp only [loaded]; rfl)))
  (fun t => (blocks7 m c t (flush0_7 t)).trans ((flushed7 m c t).trans (by
    show out0_7 _ _ _ _ _ _ = _; rw [out0_7, stored, k0_pay5]; simp only [loaded]; rfl)))
  (fun t => (blocks8 m c t (flush0_8 t)).trans ((flushed8 m c t).trans (by
    show out0_8 _ _ _ _ _ _ = _; rw [out0_8, stored, k0_pay6]; simp only [loaded]; rfl)))

theorem frame_ideal : Cert.quiescent_AdamDownIdeal := fun m g _ => Gen.frame m g

theorem bodies : Cert.AdamDown.defs (F := Bits) = Cert.AdamDownIdeal.defs :=
  congrArg (Pipeline.defs _) (congrArg Defs.onTc (funext fun l => funext fun a => match l, a with
    | ⟨0, _⟩, ⟨_, _⟩ => rfl))

theorem frame_bits : Cert.quiescent_AdamDown := fun m g _ => by
  rw [bodies]
  exact Gen.frame (F := Bits) m g

theorem reference_ideal : Cert.quiescent_AdamDownRefIdeal := fun m g _ =>
  (θ_run (Cert.AdamDownRefIdeal.defs (F := Ideal)) _ _).mono
    (fun r h => ⟨fun c => (h c).2.2.2.2, sem_eq_zero_of_no_sems (by decide) r.2⟩) (Cert.AdamDownRefIdeal.Value.run m g)

theorem value_ideal : Cert.algebraic_AdamDownIdeal_AdamDownRefIdeal := fun m g m' g' _ hm =>
  ⟨_, _, _, _,
    (θ_run (Cert.AdamDownIdeal.defs (F := Ideal)) _ _).mono (fun _ h c =>
      have e := agree Cert.AdamDownRefIdeal.Gen.bcast_S_S2816x2048 (hm c).1 (joined _ (hm c).2.1 (hm c).2.2.1) (hm c).2.2.2.1 (hm c).2.2.2.2 (results m c)
      ⟨(h c).1.trans e.1, (h c).2.1.trans e.2.1, (h c).2.2.1.trans e.2.2.1, (h c).2.2.2.1.trans e.2.2.2, (h c).2.2.2.2⟩)
      (run_blocks m g),
    Cert.AdamDownRefIdeal.Value.run m' g'⟩

end Cert.AdamDownIdeal.Own

end
-- ==== Proof.AdamSmallClaims.lean ====
module

public import proofs.«01_k».proof.Defs
public import proofs.«01_k».proof.Proof.Adam
public import proofs.«01_k».proof.Proof.Gen.AdamSmall
public import proofs.«01_k».proof.Proof.Gen.AdamSmallIdeal.Value
public import proofs.«01_k».proof.Proof.Gen.AdamSmallRefIdeal.Run
public import Idealize.ShloMosaic.Lib.Quiescent

@[expose] public section

noncomputable section

/-!
The claims about `AdamSmall`: the AdamW step of the small weights, packed in one array with their gradients
in another.
-/

namespace Cert.AdamSmallIdeal.Own

open Cert.AdamSmallIdeal Cert.AdamSmallIdeal.Gen Cert.AdamSmallIdeal.Value Cert.Adam
open Idealize.ShloMosaic Idealize.ShloMosaic.TcCoe Idealize.SL.Sem

variable {F : FTy → Type} [FloatOps F] (m : (ℓ : Loc nD τ sig) → Buf (Elt F) ℓ)

/-- Where each window's block lies at each step. -/
theorem place : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

/-- The four arrays it leaves. -/
theorem results (c : Dev nD) :
    (dats m 0 c).arrAt 4 cfg0.N = m ((c : Thread nD τ).loc main_arg1)
    ∧ (dats m 0 c).arrAt 5 cfg0.N = delta (m ((c : Thread nD τ).loc main_arg0))
        (mean (m ((c : Thread nD τ).loc main_arg2)) (m ((c : Thread nD τ).loc main_arg1))) (square (m ((c : Thread nD τ).loc main_arg3)) (m ((c : Thread nD τ).loc main_arg1)))
    ∧ (dats m 0 c).arrAt 6 cfg0.N = mean (m ((c : Thread nD τ).loc main_arg2)) (m ((c : Thread nD τ).loc main_arg1))
    ∧ (dats m 0 c).arrAt 7 cfg0.N = square (m ((c : Thread nD τ).loc main_arg3)) (m ((c : Thread nD τ).loc main_arg1)) := step (F := F) (b := 8) (N := 85) rfl
  (fun t y => ⟨((cfg0.win 0).blk t).view.emb y, .of_offset (place t).1 rfl rfl, rfl⟩ :
    ∀ t, Block t.val (iblk m c 0 t) (m ((c : Thread nD τ).loc main_arg0)))
  (fun t y => ⟨((cfg0.win 1).blk t).view.emb y, .of_offset (place t).2.1 rfl rfl, rfl⟩ :
    ∀ t, Block t.val (iblk m c 1 t) (m ((c : Thread nD τ).loc main_arg1)))
  (fun t y => ⟨((cfg0.win 2).blk t).view.emb y, .of_offset (place t).2.2.1 rfl rfl, rfl⟩ :
    ∀ t, Block t.val (iblk m c 2 t) (m ((c : Thread nD τ).loc main_arg2)))
  (fun t y => ⟨((cfg0.win 3).blk t).view.emb y, .of_offset (place t).2.2.2.1 rfl rfl, rfl⟩ :
    ∀ t, Block t.val (iblk m c 3 t) (m ((c : Thread nD τ).loc main_arg3)))
  (fun t y => .of_offset (place t).2.2.2.2.1 rfl rfl : ∀ t y, At t.val y (((cfg0.win 4).blk t).view.emb y))
  (fun t y => .of_offset (place t).2.2.2.2.2.1 rfl rfl : ∀ t y, At t.val y (((cfg0.win 5).blk t).view.emb y))
  (fun t y => .of_offset (place t).2.2.2.2.2.2.1 rfl rfl : ∀ t y, At t.val y (((cfg0.win 6).blk t).view.emb y))
  (fun t y => .of_offset (place t).2.2.2.2.2.2.2 rfl rfl : ∀ t y, At t.val y (((cfg0.win 7).blk t).view.emb y))
  (fun t => (blocks4 m c t (flush0_4 t)).trans ((flushed4 m c t).trans (by
    show out0_4 _ _ _ _ = _; rw [out0_4, stored, loaded])))
  (fun t => (blocks5 m c t (flush0_5 t)).trans ((flushed5 m c t).trans (by
    show out0_5 _ _ _ _ = _; rw [out0_5, stored]; simp only [loaded]; rfl)))
  (fun t => (blocks6 m c t (flush0_6 t)).trans ((flushed6 m c t).trans (by
    show out0_6 _ _ _ _ = _; rw [out0_6, stored]; simp only [loaded]; rfl)))
  (fun t => (blocks7 m c t (flush0_7 t)).trans ((flushed7 m c t).trans (by
    show out0_7 _ _ _ _ = _; rw [out0_7, stored]; simp only [loaded]; rfl)))

theorem frame_ideal : Cert.quiescent_AdamSmallIdeal := fun m g _ => Gen.frame m g

theorem bodies : Cert.AdamSmall.defs (F := Bits) = Cert.AdamSmallIdeal.defs :=
  congrArg (Pipeline.defs _) (congrArg Defs.onTc (funext fun l => funext fun a => match l, a with
    | ⟨0, _⟩, ⟨_, _⟩ => rfl))

theorem frame_bits : Cert.quiescent_AdamSmall := fun m g _ => by
  rw [bodies]
  exact Gen.frame (F := Bits) m g

theorem reference_ideal : Cert.quiescent_AdamSmallRefIdeal := fun m g _ =>
  (θ_run (Cert.AdamSmallRefIdeal.defs (F := Ideal)) _ _).mono
    (fun r h => ⟨fun c => (h c).2.2.2.2, sem_eq_zero_of_no_sems (by decide) r.2⟩) (Cert.AdamSmallRefIdeal.Value.run m g)

theorem value_ideal : Cert.algebraic_AdamSmallIdeal_AdamSmallRefIdeal := fun m g m' g' _ hm =>
  ⟨_, _, _, _,
    (θ_run (Cert.AdamSmallIdeal.defs (F := Ideal)) _ _).mono (fun _ h c =>
      have e := agree Cert.AdamSmallRefIdeal.Gen.bcast_S_S680x128 (hm c).1 (hm c).2.1 (hm c).2.2.1 (hm c).2.2.2 (results m c)
      ⟨(h c).1.trans e.1, (h c).2.1.trans e.2.1, (h c).2.2.1.trans e.2.2.1, (h c).2.2.2.1.trans e.2.2.2, (h c).2.2.2.2⟩)
      (run_blocks m g),
    Cert.AdamSmallRefIdeal.Value.run m' g'⟩

end Cert.AdamSmallIdeal.Own

end
-- ==== Proof.Products.lean ====
module

public import proofs.«01_k».proof.Proof.Sums
public import Idealize.ShloMosaic.Lib.MatmulPlain
public import Idealize.ShloMosaic.Lib.Pointwise.Contract

@[expose] public section

noncomputable section

/-!
The product of a matrix, transposed, with another, tile by tile: a tile of the product is the sum, over the blocks of
rows of the two, of the products of the tiles that meet in it.

Entries and tiles are named by natural numbers, and the sum over the first `n` rows is a sum over the numbers below `n`,
so that a block of rows more is the sum of two such sums.
-/

namespace Cert.Products

open Idealize.ShloMosaic Cert.Adam Cert.Sums

variable {T K N b p q : ℕ} {α : Type}

/-! ## Sums over the first rows -/

/-- The product that row `t` adds to entry `(r, c)`. -/
def term (A : (Rows T K).Idx → EReal) (B : (Rows T N).Idx → EReal) (r c t : ℕ) : EReal :=
  if h : t < T ∧ r < K ∧ c < N then A (ValueIdx.ix2 ⟨t, h.1⟩ ⟨r, h.2.1⟩) * B (ValueIdx.ix2 ⟨t, h.1⟩ ⟨c, h.2.2⟩) else 0

/-- Entry `(r, c)` of the product of the first `n` rows. -/
def first (A : (Rows T K).Idx → EReal) (B : (Rows T N).Idx → EReal) (n r c : ℕ) : EReal :=
  ∑ t ∈ Finset.range n, term A B r c t

theorem first_all (A : (Rows T K).Idx → EReal) (B : (Rows T N).Idx → EReal) (r : Fin K) (c : Fin N) :
    first A B T r c = ∑ t : Fin T, A (ValueIdx.ix2 t r) * B (ValueIdx.ix2 t c) := by
  unfold first
  rw [Finset.sum_range]
  exact Finset.sum_congr rfl fun t _ => dif_pos ⟨t.isLt, r.isLt, c.isLt⟩

/-- `x` is the tile of `b × p` entries at `(u, v)` of `X`. -/
def Tile (u v : ℕ) (x : (Rows b p).Idx → α) (X : (Rows T K).Idx → α) : Prop :=
  ∀ (y : (Rows b p).Idx) (i : (Rows T K).Idx), (i 0).val = u * b + (y 0).val → (i 1).val = v * p + (y 1).val → x y = X i

/-- A tile read at its offset. -/
theorem Tile.of_offset {u v : ℕ} {o : Fin 2 → ℕ} (ho : o 0 = u ∧ o 1 = v) {emb : (Rows b p).Idx → (Rows T K).Idx}
    (h0 : ∀ y, (emb y 0).val = o 0 * b + 1 * (y 0).val) (h1 : ∀ y, (emb y 1).val = o 1 * p + 1 * (y 1).val)
    (X : (Rows T K).Idx → α) : Tile u v (fun y => X (emb y)) X := fun y i e0 e1 =>
  congrArg X (Shape.idx_ext₂ (by rw [h0, ho.1, e0, Nat.one_mul]) (by rw [h1, ho.2, e1, Nat.one_mul]))

/-! ## The two products -/

/-- What says that `d` takes the product of the first operand, transposed, with the second. -/
structure Transposed (d : DotDims (Rows T K) (Rows T N) (Rows K N)) : Prop where
  over : d.lhsContracting = [0]
  left : ∀ j k, Shape.Idx.norm (d.lhsIdx j (d.contrIdx₁ over rfl k)) = ValueIdx.ix2 k (j 0)
  right : ∀ j k, Shape.Idx.norm (d.rhsIdx j (d.contrIdx₁ over rfl k)) = ValueIdx.ix2 k (j 1)

theorem transposed (w : DotDims.WF (Rows T K) (Rows T N) (Rows K N) [0] [0] [1] [1] [] []) :
    Transposed (⟨[0], [0], [1], [1], [], [], w⟩ : DotDims (Rows T K) (Rows T N) (Rows K N)) :=
  ⟨rfl, fun _ _ => Shape.idx_ext₂ rfl rfl, fun _ _ => Shape.idx_ext₂ rfl rfl⟩

variable {φ ψ : FTy}

/-- The kernel's product of two tiles. -/
theorem product {d : DotDims (Rows b p) (Rows b q) (Rows p q)} (hd : Transposed d) (x : FVec Ideal (Rows b p) φ)
    (y : FVec Ideal (Rows b q) ψ) (z : (Rows p q).Idx) :
    matmul d none x y (constant (F := Ideal) (Rows p q) .f32 0x00000000#32) z
      = ∑ t : Fin b, x (ValueIdx.ix2 t (z 0)) * y (ValueIdx.ix2 t (z 1)) := by
  refine (Ideal.matmul_apply₁_of d hd.over rfl x y _ z _ _ (hd.left z) (hd.right z)).trans ?_
  show Ideal.ofBits .f32 0x00000000#32 + _ = _
  rw [Ideal.ofBits_zero_f32, zero_add]
  rfl

/-- The reference's product. -/
theorem whole {d : DotDims (Rows T K) (Rows T N) (Rows K N)} (hd : Transposed d) (A : FVec Ideal (Rows T K) φ)
    (B : FVec Ideal (Rows T N) ψ) (i : (Rows K N).Idx) : Host.dotGeneral d none A B i = first A B T (i 0).val (i 1).val := by
  rw [first_all A B (i 0) (i 1)]
  refine (Ideal.matmul_apply₁_of d hd.over rfl A B (fun _ => 0) i _ _ (hd.left i) (hd.right i)).trans ?_
  exact zero_add _

/-- The product of two tiles is what their rows add to the entries of their tile. -/
theorem added {d : DotDims (Rows b p) (Rows b q) (Rows p q)} (hd : Transposed d) {k u v : ℕ} {x : FVec Ideal (Rows b p) φ}
    {y : FVec Ideal (Rows b q) ψ} {A : FVec Ideal (Rows T K) φ} {B : FVec Ideal (Rows T N) ψ} (hx : Tile k u x A)
    (hy : Tile k v y B) (hT : k * b + b ≤ T) (hK : u * p + p ≤ K) (hN : v * q + q ≤ N) (z : (Rows p q).Idx) :
    matmul d none x y (constant (F := Ideal) (Rows p q) .f32 0x00000000#32) z
      = ∑ t ∈ Finset.range b, term A B (u * p + (z 0).val) (v * q + (z 1).val) (k * b + t) := by
  have h0 : (z 0).val < p := (z 0).isLt
  have h1 : (z 1).val < q := (z 1).isLt
  rw [product hd, Finset.sum_range]
  refine Finset.sum_congr rfl fun t _ => ?_
  have ht : t.val < b := t.isLt
  unfold term
  rw [dif_pos ⟨by omega, by omega, by omega⟩]
  exact congrArg₂ (· * ·) (hx _ _ rfl rfl) (hy _ _ rfl rfl)

/-! ## The sum of the tiles' products -/

/-- `acc` is the tile at `(u, v)` of the product of the first `n` rows. -/
def Upto (A : (Rows T K).Idx → EReal) (B : (Rows T N).Idx → EReal) (n u v : ℕ) (acc : (Rows p q).Idx → EReal) : Prop :=
  ∀ z, acc z = first A B n (u * p + (z 0).val) (v * q + (z 1).val)

theorem Upto.all {A : (Rows T K).Idx → EReal} {B : (Rows T N).Idx → EReal} {n u v : ℕ} {acc : (Rows p q).Idx → EReal}
    (h : Upto A B n u v acc) (e : n = T) : Upto A B T u v acc := e ▸ h

theorem start {d : DotDims (Rows b p) (Rows b q) (Rows p q)} (hd : Transposed d) {u v : ℕ} {x : FVec Ideal (Rows b p) φ}
    {y : FVec Ideal (Rows b q) ψ} {A : FVec Ideal (Rows T K) φ} {B : FVec Ideal (Rows T N) ψ} (hx : Tile 0 u x A)
    (hy : Tile 0 v y B) (hT : b ≤ T) (hK : u * p + p ≤ K) (hN : v * q + q ≤ N) :
    Upto A B b u v (matmul d none x y (constant (F := Ideal) (Rows p q) .f32 0x00000000#32)) := fun z => by
  rw [added hd hx hy (by omega) hK hN]
  exact Finset.sum_congr rfl fun t _ => by rw [Nat.zero_mul, Nat.zero_add]

theorem further {d : DotDims (Rows b p) (Rows b q) (Rows p q)} (hd : Transposed d) {k u v : ℕ} {x : FVec Ideal (Rows b p) φ}
    {y : FVec Ideal (Rows b q) ψ} {A : FVec Ideal (Rows T K) φ} {B : FVec Ideal (Rows T N) ψ} (hx : Tile k u x A)
    (hy : Tile k v y B) (hT : k * b + b ≤ T) (hK : u * p + p ≤ K) (hN : v * q + q ≤ N) {acc : FVec Ideal (Rows p q) .f32}
    (h : Upto A B (k * b) u v acc) :
    Upto A B (k * b + b) u v (addf acc (matmul d none x y (constant (F := Ideal) (Rows p q) .f32 0x00000000#32))) := fun z => by
  show acc z + _ = _
  rw [h z, added hd hx hy hT hK hN]
  exact (Finset.sum_range_add _ _ _).symm

/-- The running sums of a grid whose innermost axis has `s` steps, one for each block of rows. -/
theorem sums {d : DotDims (Rows b p) (Rows b q) (Rows p q)} (hd : Transposed d) {M s : ℕ} (hs : 0 < s) (hT : T = s * b) {u v : ℕ → ℕ}
    {x : Fin M → FVec Ideal (Rows b p) φ} {y : Fin M → FVec Ideal (Rows b q) ψ} {A : FVec Ideal (Rows T K) φ}
    {B : FVec Ideal (Rows T N) ψ} (hx : ∀ t, Tile (t.val % s) (u (t.val / s)) (x t) A)
    (hy : ∀ t, Tile (t.val % s) (v (t.val / s)) (y t) B) (hK : ∀ t < M, u (t / s) * p + p ≤ K)
    (hN : ∀ t < M, v (t / s) * q + q ≤ N)
    {acc : (n : ℕ) → n < M → FVec Ideal (Rows p q) .f32}
    (h0 : ∀ t : Fin M, t.val % s = 0 → acc t.val t.isLt = matmul d none (x t) (y t) (constant (F := Ideal) (Rows p q) .f32 0x00000000#32))
    (h1 : ∀ t : Fin M, t.val % s ≠ 0 → acc t.val t.isLt = addf (acc (t.val - 1) (Nat.lt_of_le_of_lt (Nat.sub_le _ _) t.isLt))
      (matmul d none (x t) (y t) (constant (F := Ideal) (Rows p q) .f32 0x00000000#32))) :
    ∀ (n : ℕ) (hn : n < M), Upto A B (n % s * b + b) (u (n / s)) (v (n / s)) (acc n hn) := fun n => by
  have room (n : ℕ) : n % s * b + b ≤ T := by
    rw [hT, ← Nat.succ_mul]
    exact Nat.mul_le_mul_right _ (Nat.mod_lt _ hs)
  induction n with
  | zero =>
    intro hn
    rw [h0 ⟨0, hn⟩ (Nat.zero_mod _)]
    have X := hx ⟨0, hn⟩
    have Y := hy ⟨0, hn⟩
    simp only [Nat.zero_mod, Nat.zero_mul, Nat.zero_add] at X Y ⊢
    exact start hd X Y (by have := room 0; rwa [Nat.zero_mod, Nat.zero_mul, Nat.zero_add] at this) (hK 0 hn) (hN 0 hn)
  | succ n ih =>
    intro hn
    by_cases e : (n + 1) % s = 0
    · rw [h0 ⟨n + 1, hn⟩ e]
      have X := hx ⟨n + 1, hn⟩
      have Y := hy ⟨n + 1, hn⟩
      simp only [e, Nat.zero_mul, Nat.zero_add] at X Y ⊢
      exact start hd X Y (by have := room (n + 1); rwa [e, Nat.zero_mul, Nat.zero_add] at this) (hK _ hn) (hN _ hn)
    · rw [h1 ⟨n + 1, hn⟩ e]
      have same : (n + 1) / s = n / s := Nat.succ_div_of_not_dvd fun h => e (Nat.mod_eq_zero_of_dvd h)
      have next : (n + 1) % s = n % s + 1 := by
        have a := Nat.div_add_mod (n + 1) s
        have b := Nat.div_add_mod n s
        rw [same] at a
        omega
      have h := ih (Nat.lt_of_succ_lt hn)
      rw [← same, ← Nat.succ_mul, Nat.succ_eq_add_one, ← next] at h
      exact further hd (hx ⟨n + 1, hn⟩) (hy ⟨n + 1, hn⟩) (room _) (hK _ hn) (hN _ hn) h

theorem zeros₃ : (![0, 0, 0] : Fin 3 → ℕ) = fun _ => 0 := by decide

/-! ## The columns in parts -/

/-- The product with its columns in `s` parts of `w`. -/
def parts (A : (Rows T K).Idx → EReal) (B : (Rows T N).Idx → EReal) (s w : ℕ) : (Stack s K w).Idx → EReal := fun i =>
  first A B T (i 1).val ((i 0).val * w + (i 2).val)

/-- The columns in parts as the reference takes them. -/
theorem split {d : DotDims (Rows T K) (Rows T N) (Rows K N)} (hd : Transposed d) {s w : ℕ} (hN : N = s * w)
    (h : (Rows K N).ShapeCasts (Stack K s w)) (h' : (Stack K s w).Transposes [1, 0, 2] (Stack s K w))
    (A : FVec Ideal (Rows T K) φ) (B : FVec Ideal (Rows T N) ψ) :
    transpose (Stack s K w) [1, 0, 2] (shapeCast (Stack K s w) (Host.dotGeneral d none A B) h) h' = parts A B s w := funext fun i => by
  have h0 : (i 0).val < s := (i 0).isLt
  have h2 : (i 2).val < w := (i 2).isLt
  have col : (i 0).val * w + (i 2).val < N := by
    have := Nat.mul_le_mul_right w (Nat.succ_le_of_lt h0)
    rw [Nat.succ_mul, ← hN] at this
    omega
  rw [transpose_apply [1, 0, 2] _ h' i (ValueIdx.ix3 (i 1) (i 0) (i 2)) (fun a => match a with
    | ⟨0, _⟩ => rfl
    | ⟨1, _⟩ => rfl
    | ⟨2, _⟩ => rfl),
    shapeCast_apply _ h _ (ValueIdx.ix2 (i 1) ⟨(i 0).val * w + (i 2).val, col⟩) (by
      rw [Shape.rowMajor_val_two, Shape.rowMajor_val_three]
      show (i 1).val * N + ((i 0).val * w + (i 2).val) = ((i 1).val * s + (i 0).val) * w + (i 2).val
      rw [hN]
      ring)]
  exact whole hd A B _

/-- A tile of the product, as the kernel leaves it in its place. -/
theorem put {A : (Rows T K).Idx → EReal} {B : (Rows T N).Idx → EReal} {s w m u v : ℕ} (hw : w = m * q) {o : Fin 3 → ℕ}
    (ho : o 0 * m + o 2 = v ∧ o 1 = u) {acc : (Rows p q).Idx → EReal} (h : Upto A B T u v acc)
    (hc : (Rows p q).ShapeCasts (Stack 1 p q)) {y : (Stack 1 p q).Idx} {i : (Stack s K w).Idx}
    (h0 : (i 0).val = o 0 * 1 + 1 * (y 0).val) (h1 : (i 1).val = o 1 * p + 1 * (y 1).val)
    (h2 : (i 2).val = o 2 * q + 1 * (y 2).val) : shapeCast (Stack 1 p q) acc hc y = parts A B s w i := by
  have e : (y 0).val = 0 := by have := (y 0).isLt; simp at this; omega
  refine (shapeCast_addUnit_apply ![p, q] acc hc y).trans ((h _).trans (congrArg₂ (first A B T) ?_ ?_))
  · show u * p + (y 1).val = _
    rw [h1, ho.2, Nat.one_mul]
  · show v * q + (y 2).val = _
    rw [h0, h2, e, ← ho.1, hw]
    ring

end Cert.Products

end
-- ==== Proof.GradAdaClaims.lean ====
module

public import proofs.«01_k».proof.Defs
public import proofs.«01_k».proof.Proof.Calls
public import proofs.«01_k».proof.Proof.Products
public import proofs.«01_k».proof.Proof.Gen.GradAda
public import proofs.«01_k».proof.Proof.Gen.GradAda.Frame
public import proofs.«01_k».proof.Proof.Gen.GradAdaIdeal.Frame
public import proofs.«01_k».proof.Proof.Gen.GradAdaRefIdeal.Run
public import Idealize.ShloMosaic.Lib.Pipeline.ValueKit.Geometry
public import Idealize.ShloMosaic.Lib.Tactic
public import Idealize.ShloMosaic.Lib.Quiescent

@[expose] public section

noncomputable section

/-!
The claims about `GradAda`: the gradient of `w_ada`, from the rows that the device has of the conditioning and of the
modulations' gradient.
-/

namespace Cert.GradAdaIdeal.Own

open Cert.GradAdaIdeal Cert.GradAdaIdeal.Gen Cert.Adam Cert.Sums Cert.Products
open Idealize.ShloMosaic Idealize.ShloMosaic.TcCoe Idealize.SL.Sem

/-- What it leaves at each step, from what it finds. -/
theorem left {F : FTy → Type} [FloatOps F] (c : Dev nD) (i : grid0.Coords) (a3 : Memref sig .tc .vmem S16x1024 .f32)
    (h3 : a3.IsWhole) (a4 : Memref sig .tc .vmem S16x1024 .f32) (h4 : a4.IsWhole) (a5 : Memref sig .tc .vmem S1x1024x1024 .f32)
    (h5 : a5.IsWhole) (a6 : Memref sig .tc .vmem S1024x1024 .f32) (h6 : a6.IsWhole) (x y : Vec F S16x1024 .f32) :
    out0_A_2 c i a3 h3 a4 h4 a5 h5 a6 h6 x y = k0_pay1 x y := by
  unfold out0_A_2 kernelRun0_A
  dsimp only
  rw [Calls.kept _ _ zeros₃]
  simp only [Calls.found h3 zeros, Calls.found h4 zeros]

/-- Where each window's block lies at each step. -/
theorem place : ∀ t : Fin cfg0.N,
    (win0_0.index t 0 = 0 ∧ win0_0.index t 1 = t.val / 3)
    ∧ (win0_1.index t 0 = 0 ∧ win0_1.index t 1 = t.val % 3)
    ∧ (win0_2.index t 0 * 3 + win0_2.index t 2 = t.val % 3 ∧ win0_2.index t 1 = t.val / 3) :=
  (by decide +kernel : ∀ t : Fin grid0.N, _)

section Value
variable (m : (ℓ : Loc nD τ sig) → Buf (Elt Ideal) ℓ) (c : Dev nD)

/-- The product of the two tiles of a step. -/
theorem tile (t : Fin cfg0.N) : Upto (m ((c : Thread nD τ).loc main_arg0)) (m ((c : Thread nD τ).loc main_arg1)) 16 (t.val / 3) (t.val % 3)
    (matmul (F := Ideal) dot_S16x1024_S16x1024_S1024x1024_0_0_1_1_n_n none (truncf .bf16 (iblk m c 0 t) bitsLt_bf16_f32)
      (truncf .bf16 (iblk m c 1 t) bitsLt_bf16_f32) (constant (F := Ideal) S1024x1024 .f32 0x00000000#32)) :=
  start (φ := .bf16) (ψ := .bf16) (transposed _) (.of_offset (place t).1 (fun _ => rfl) (fun _ => rfl) _)
    (.of_offset (place t).2.1 (fun _ => rfl) (fun _ => rfl) _) (by decide)
    (by have : t.val < 6 := lt_of_lt_of_eq t.isLt N_0; omega) (by omega)

theorem covers : (cfg0.win 2).Covers := by decide +kernel

/-- The array it leaves. -/
theorem result : (dats m 0 c).arrAt 2 cfg0.N
    = parts (m ((c : Thread nD τ).loc main_arg0)) (m ((c : Thread nD τ).loc main_arg1)) 1 3072 :=
  (dats m 0 c).arrAt_eq_of_covers 2 _ covers fun t _ y =>
    (congrFun ((after0_2 m c t).trans (left ..)) y).trans
      (put rfl (place t).2.2 (tile m c t) shapeCasts_S1024x1024_S1x1024x1024 rfl rfl rfl)

end Value

theorem frame_ideal : Cert.quiescent_GradAdaIdeal := fun m g _ => Gen.frame m g

theorem bodies : Cert.GradAda.defs (F := Bits) = Cert.GradAdaIdeal.defs :=
  congrArg (Pipeline.defs _) (congrArg Defs.onTc (funext fun l => funext fun a => match l, a with
    | ⟨0, _⟩, ⟨_, _⟩ => rfl))

theorem frame_bits : Cert.quiescent_GradAda := fun m g _ => by
  rw [bodies]
  exact Gen.frame (F := Bits) m g

theorem reference_ideal : Cert.quiescent_GradAdaRefIdeal := fun m g _ => Calls.quiet (by decide) (Cert.GradAdaRefIdeal.Value.run m g)

theorem value_ideal : Cert.algebraic_GradAdaIdeal_GradAdaRefIdeal := fun m g m' g' _ hm =>
  ⟨_, (θ_run (Cert.GradAdaIdeal.defs (F := Ideal)) _ _).mono
      (fun _ h c => ⟨((h c).1 2).trans ((result m c).trans (by
          rw [← (hm c).1, ← (hm c).2]
          exact (split (φ := .f32) (ψ := .f32) (transposed _) rfl _ _ _ _).symm)),
        ((h c).1 0).trans ((dats m 0 c).arrAt_in 0 rfl _), ((h c).1 1).trans ((dats m 0 c).arrAt_in 1 rfl _)⟩) (run_main m g),
    Cert.GradAdaRefIdeal.Value.run m' g'⟩

end Cert.GradAdaIdeal.Own

end
-- ==== Proof.GradInClaims.lean ====
module

public import proofs.«01_k».proof.Defs
public import proofs.«01_k».proof.Proof.Calls
public import proofs.«01_k».proof.Proof.Products
public import proofs.«01_k».proof.Proof.Gen.GradIn
public import proofs.«01_k».proof.Proof.Gen.GradIn.Frame
public import proofs.«01_k».proof.Proof.Gen.GradInIdeal.Frame
public import proofs.«01_k».proof.Proof.Gen.GradInRefIdeal.Run
public import Idealize.ShloMosaic.Lib.Pipeline.ValueKit.Geometry
public import Idealize.ShloMosaic.Lib.Tactic
public import Idealize.ShloMosaic.Lib.Quiescent

@[expose] public section

noncomputable section

/-!
The claims about `GradIn`: the device's part of the gradient of `w_in`, its columns in four parts.
-/

namespace Cert.GradInIdeal.Own

open Cert.GradInIdeal Cert.GradInIdeal.Gen Cert.Adam Cert.Sums Cert.Products
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1024 .bf16) (h3 : a3.IsWhole) (a4 : Memref sig .tc .vmem S1088x896 .bf16) (h4 : a4.IsWhole)
variable (a5 : Memref sig .tc .vmem S1x1024x896 .bf16) (h5 : a5.IsWhole) (a6 : Memref sig .tc .vmem S1024x896 .f32) (h6 : a6.IsWhole)
variable (x : Vec F S1088x1024 .bf16) (y : Vec F S1088x896 .bf16) (acc : Vec F S1024x896 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros, Calls.found h6 zeros, shapeCast_self]

theorem out_C (e0 : ¬cond0_0 i) (e1 : cond0_1 i) (e2 : cond0_2 i) :
    out0_C_2 c i a3 h3 a4 h4 a5 h5 a6 h6 e0 e1 e2 x y acc = k0_pay4 (addf acc (k0_pay1 x y)) := by
  unfold out0_C_2 kernelRun0_C
  dsimp only
  sl_unfold_words
  rw [Calls.kept _ _ zeros₃, View.readCov_unit_zero (S := S1024x896) _ zeros]
  unfold k0_pay3
  simp only [Calls.found h3 zeros, Calls.found h4 zeros, Calls.found h6 zeros, shapeCast_self]

end Cases

/-! ## The claims -/

/-- Where each window's block lies at each step. -/
theorem place : ∀ t : Fin cfg0.N,
    (win0_0.index t 0 = t.val % 4 ∧ win0_0.index t 1 = t.val / 4 / 8)
    ∧ (win0_1.index t 0 = t.val % 4 ∧ win0_1.index t 1 = t.val / 4 % 8)
    ∧ (win0_2.index t 0 * 2 + win0_2.index t 2 = t.val / 4 % 8 ∧ win0_2.index t 1 = t.val / 4 / 8) :=
  (by decide +kernel : ∀ t : Fin grid0.N, _)

section Value
variable (m : (ℓ : Loc nD τ sig) → Buf (Elt Ideal) ℓ) (c : Dev nD)

/-- The running sum after each step. -/
theorem sums : ∀ (n : ℕ) (hn : n < cfg0.N), Upto (m ((c : Thread nD τ).loc main_arg0)) (m ((c : Thread nD τ).loc main_arg1))
    (n % 4 * 1088 + 1088) (n / 4 / 8) (n / 4 % 8) (outsAt0 m c n hn).2 :=
  Products.sums (transposed _) (u := (· / 8)) (v := (· % 8)) (x := iblk m c 0) (y := iblk m c 1) (by decide) rfl
    (fun t => .of_offset (place t).1 (fun _ => rfl) (fun _ => rfl) _)
    (fun t => .of_offset (place t).2.1 (fun _ => rfl) (fun _ => rfl) _)
    (fun t ht => by have : cfg0.N = 64 := N_0; show t / 4 / 8 * 1024 + 1024 ≤ 2048; omega)
    (fun t _ => by show t / 4 % 8 * 896 + 896 ≤ 7168; omega)
    (fun t e => by rw [outsAt0_A m c t e (by omega) (by omega), sum_A]; rfl)
    (fun t e => by
      by_cases last : t.val % 4 = 3
      · rw [outsAt0_C m c t e (by omega) last, sum_C]; rfl
      · rw [outsAt0_B m c t e (by omega) last, sum_B]; rfl)

/-- What it writes back is the sum, rounded. -/
theorem rounded (t : Fin cfg0.N) (last : t.val % 4 = 3) :
    (outsAt0 m c t.val t.isLt).1 = k0_pay4 (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N
    = parts (m ((c : Thread nD τ).loc main_arg0)) (m ((c : Thread nD τ).loc main_arg1)) 4 1792 :=
  (dats m 0 c).arrAt_eq_of_covers 2 _ covers fun t hf y => by
    have last : t.val % 4 = 3 := (flush0_2 t).mp hf
    have whole := (sums m c t.val t.isLt).all (by rw [last])
    exact (congrFun ((after0_2 m c t).trans (rounded m c t last)) y).trans
      (put rfl (place t).2.2 whole shapeCasts_S1024x896_S1x1024x896 rfl rfl rfl)

end Value

theorem frame_ideal : Cert.quiescent_GradInIdeal := fun m g _ => Gen.frame m g

theorem bodies : Cert.GradIn.defs (F := Bits) = Cert.GradInIdeal.defs :=
  congrArg (Pipeline.defs _) (congrArg Defs.onTc (funext fun l => funext fun a => match l, a with
    | ⟨0, _⟩, ⟨_, _⟩ => rfl))

theorem frame_bits : Cert.quiescent_GradIn := fun m g _ => by
  rw [bodies]
  exact Gen.frame (F := Bits) m g

theorem reference_ideal : Cert.quiescent_GradInRefIdeal := fun m g _ => Calls.quiet (by decide) (Cert.GradInRefIdeal.Value.run m g)

theorem value_ideal : Cert.algebraic_GradInIdeal_GradInRefIdeal := fun m g m' g' _ hm =>
  ⟨_, (θ_run (Cert.GradInIdeal.defs (F := Ideal)) _ _).mono
      (fun _ h c => ⟨((h c).1 2).trans ((result m c).trans (by
          rw [← (hm c).1, ← (hm c).2]
          exact (split (φ := .f32) (ψ := .f32) (transposed _) rfl _ _ _ _).symm)),
        ((h c).1 0).trans ((dats m 0 c).arrAt_in 0 rfl _), ((h c).1 1).trans ((dats m 0 c).arrAt_in 1 rfl _)⟩) (run_main m g),
    Cert.GradInRefIdeal.Value.run m' g'⟩

end Cert.GradInIdeal.Own

end
-- ==== Proof.GradOutClaims.lean ====
module

public import proofs.«01_k».proof.Defs
public import proofs.«01_k».proof.Proof.Calls
public import proofs.«01_k».proof.Proof.Products
public import proofs.«01_k».proof.Proof.Gen.GradOut
public import proofs.«01_k».proof.Proof.Gen.GradOut.Frame
public import proofs.«01_k».proof.Proof.Gen.GradOutIdeal.Frame
public import proofs.«01_k».proof.Proof.Gen.GradOutRefIdeal.Run
public import Idealize.ShloMosaic.Lib.Pipeline.ValueKit.Geometry
public import Idealize.ShloMosaic.Lib.Tactic
public import Idealize.ShloMosaic.Lib.Quiescent

@[expose] public section

noncomputable section

/-!
The claims about `GradOut`: the device's part of the gradient of `w_out`.
-/

namespace Cert.GradOutIdeal.Own

open Cert.GradOutIdeal Cert.GradOutIdeal.Gen Cert.Adam Cert.Sums Cert.Products
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1024 .bf16) (h3 : a3.IsWhole) (a4 : Memref sig .tc .vmem S1088x1024 .bf16) (h4 : a4.IsWhole)
variable (a5 : Memref sig .tc .vmem S1x1024x1024 .bf16) (h5 : a5.IsWhole) (a6 : Memref sig .tc .vmem S1024x1024 .f32) (h6 : a6.IsWhole)
variable (x : Vec F S1088x1024 .bf16) (y : Vec F S1088x1024 .bf16) (acc : Vec F S1024x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros, Calls.found h6 zeros, shapeCast_self]

theorem out_C (e0 : ¬cond0_0 i) (e1 : cond0_1 i) (e2 : cond0_2 i) :
    out0_C_2 c i a3 h3 a4 h4 a5 h5 a6 h6 e0 e1 e2 x y acc = k0_pay4 (addf acc (k0_pay1 x y)) := by
  unfold out0_C_2 kernelRun0_C
  dsimp only
  sl_unfold_words
  rw [Calls.kept _ _ zeros₃, View.readCov_unit_zero (S := S1024x1024) _ zeros]
  unfold k0_pay3
  simp only [Calls.found h3 zeros, Calls.found h4 zeros, Calls.found h6 zeros, shapeCast_self]

end Cases

/-! ## The claims -/

/-- Where each window's block lies at each step. -/
theorem place : ∀ t : Fin cfg0.N,
    (win0_0.index t 0 = t.val % 4 ∧ win0_0.index t 1 = t.val / 4 / 2)
    ∧ (win0_1.index t 0 = t.val % 4 ∧ win0_1.index t 1 = t.val / 4 % 2)
    ∧ (win0_2.index t 0 * 2 + win0_2.index t 2 = t.val / 4 % 2 ∧ win0_2.index t 1 = t.val / 4 / 2) :=
  (by decide +kernel : ∀ t : Fin grid0.N, _)

section Value
variable (m : (ℓ : Loc nD τ sig) → Buf (Elt Ideal) ℓ) (c : Dev nD)

/-- The running sum after each step. -/
theorem sums : ∀ (n : ℕ) (hn : n < cfg0.N), Upto (m ((c : Thread nD τ).loc main_arg0)) (m ((c : Thread nD τ).loc main_arg1))
    (n % 4 * 1088 + 1088) (n / 4 / 2) (n / 4 % 2) (outsAt0 m c n hn).2 :=
  Products.sums (transposed _) (u := (· / 2)) (v := (· % 2)) (x := iblk m c 0) (y := iblk m c 1) (by decide) rfl
    (fun t => .of_offset (place t).1 (fun _ => rfl) (fun _ => rfl) _)
    (fun t => .of_offset (place t).2.1 (fun _ => rfl) (fun _ => rfl) _)
    (fun t ht => by have : cfg0.N = 16 := N_0; show t / 4 / 2 * 1024 + 1024 ≤ 2048; omega)
    (fun t _ => by show t / 4 % 2 * 1024 + 1024 ≤ 2048; omega)
    (fun t e => by rw [outsAt0_A m c t e (by omega) (by omega), sum_A]; rfl)
    (fun t e => by
      by_cases last : t.val % 4 = 3
      · rw [outsAt0_C m c t e (by omega) last, sum_C]; rfl
      · rw [outsAt0_B m c t e (by omega) last, sum_B]; rfl)

/-- What it writes back is the sum, rounded. -/
theorem rounded (t : Fin cfg0.N) (last : t.val % 4 = 3) :
    (outsAt0 m c t.val t.isLt).1 = k0_pay4 (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N
    = parts (m ((c : Thread nD τ).loc main_arg0)) (m ((c : Thread nD τ).loc main_arg1)) 1 2048 :=
  (dats m 0 c).arrAt_eq_of_covers 2 _ covers fun t hf y => by
    have last : t.val % 4 = 3 := (flush0_2 t).mp hf
    have whole := (sums m c t.val t.isLt).all (by rw [last])
    exact (congrFun ((after0_2 m c t).trans (rounded m c t last)) y).trans
      (put rfl (place t).2.2 whole shapeCasts_S1024x1024_S1x1024x1024 rfl rfl rfl)

end Value

theorem frame_ideal : Cert.quiescent_GradOutIdeal := fun m g _ => Gen.frame m g

theorem bodies : Cert.GradOut.defs (F := Bits) = Cert.GradOutIdeal.defs :=
  congrArg (Pipeline.defs _) (congrArg Defs.onTc (funext fun l => funext fun a => match l, a with
    | ⟨0, _⟩, ⟨_, _⟩ => rfl))

theorem frame_bits : Cert.quiescent_GradOut := fun m g _ => by
  rw [bodies]
  exact Gen.frame (F := Bits) m g

theorem reference_ideal : Cert.quiescent_GradOutRefIdeal := fun m g _ => Calls.quiet (by decide) (Cert.GradOutRefIdeal.Value.run m g)

theorem value_ideal : Cert.algebraic_GradOutIdeal_GradOutRefIdeal := fun m g m' g' _ hm =>
  ⟨_, (θ_run (Cert.GradOutIdeal.defs (F := Ideal)) _ _).mono
      (fun _ h c => ⟨((h c).1 2).trans ((result m c).trans (by
          rw [← (hm c).1, ← (hm c).2]
          exact (split (φ := .f32) (ψ := .f32) (transposed _) rfl _ _ _ _).symm)),
        ((h c).1 0).trans ((dats m 0 c).arrAt_in 0 rfl _), ((h c).1 1).trans ((dats m 0 c).arrAt_in 1 rfl _)⟩) (run_main m g),
    Cert.GradOutRefIdeal.Value.run m' g'⟩

end Cert.GradOutIdeal.Own

end
-- ==== Proof.GradUpClaims.lean ====
module

public import proofs.«01_k».proof.Defs
public import proofs.«01_k».proof.Proof.Calls
public import proofs.«01_k».proof.Proof.Products
public import proofs.«01_k».proof.Proof.Gen.GradUp
public import proofs.«01_k».proof.Proof.Gen.GradUp.Frame
public import proofs.«01_k».proof.Proof.Gen.GradUpIdeal.Frame
public import proofs.«01_k».proof.Proof.Gen.GradUpRefIdeal.Run
public import Idealize.ShloMosaic.Lib.Pipeline.ValueKit.Geometry
public import Idealize.ShloMosaic.Lib.Tactic
public import Idealize.ShloMosaic.Lib.Quiescent

@[expose] public section

noncomputable section

/-!
The claims about `GradUp`: the device's part of the gradient of `w_up`, its columns in four parts.
-/

namespace Cert.GradUpIdeal.Own

open Cert.GradUpIdeal Cert.GradUpIdeal.Gen Cert.Adam Cert.Sums Cert.Products
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1024 .bf16) (h3 : a3.IsWhole) (a4 : Memref sig .tc .vmem S1088x1408 .bf16) (h4 : a4.IsWhole)
variable (a5 : Memref sig .tc .vmem S1x1024x1408 .bf16) (h5 : a5.IsWhole) (a6 : Memref sig .tc .vmem S1024x1408 .f32) (h6 : a6.IsWhole)
variable (x : Vec F S1088x1024 .bf16) (y : Vec F S1088x1408 .bf16) (acc : Vec F S1024x1408 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros, Calls.found h6 zeros, shapeCast_self]

theorem out_C (e0 : ¬cond0_0 i) (e1 : cond0_1 i) (e2 : cond0_2 i) :
    out0_C_2 c i a3 h3 a4 h4 a5 h5 a6 h6 e0 e1 e2 x y acc = k0_pay4 (addf acc (k0_pay1 x y)) := by
  unfold out0_C_2 kernelRun0_C
  dsimp only
  sl_unfold_words
  rw [Calls.kept _ _ zeros₃, View.readCov_unit_zero (S := S1024x1408) _ zeros]
  unfold k0_pay3
  simp only [Calls.found h3 zeros, Calls.found h4 zeros, Calls.found h6 zeros, shapeCast_self]

end Cases

/-! ## The claims -/

/-- Where each window's block lies at each step. -/
theorem place : ∀ t : Fin cfg0.N,
    (win0_0.index t 0 = t.val % 4 ∧ win0_0.index t 1 = t.val / 4 / 8)
    ∧ (win0_1.index t 0 = t.val % 4 ∧ win0_1.index t 1 = t.val / 4 % 8)
    ∧ (win0_2.index t 0 * 2 + win0_2.index t 2 = t.val / 4 % 8 ∧ win0_2.index t 1 = t.val / 4 / 8) :=
  (by decide +kernel : ∀ t : Fin grid0.N, _)

section Value
variable (m : (ℓ : Loc nD τ sig) → Buf (Elt Ideal) ℓ) (c : Dev nD)

/-- The running sum after each step. -/
theorem sums : ∀ (n : ℕ) (hn : n < cfg0.N), Upto (m ((c : Thread nD τ).loc main_arg0)) (m ((c : Thread nD τ).loc main_arg1))
    (n % 4 * 1088 + 1088) (n / 4 / 8) (n / 4 % 8) (outsAt0 m c n hn).2 :=
  Products.sums (transposed _) (u := (· / 8)) (v := (· % 8)) (x := iblk m c 0) (y := iblk m c 1) (by decide) rfl
    (fun t => .of_offset (place t).1 (fun _ => rfl) (fun _ => rfl) _)
    (fun t => .of_offset (place t).2.1 (fun _ => rfl) (fun _ => rfl) _)
    (fun t ht => by have : cfg0.N = 64 := N_0; show t / 4 / 8 * 1024 + 1024 ≤ 2048; omega)
    (fun t _ => by show t / 4 % 8 * 1408 + 1408 ≤ 11264; omega)
    (fun t e => by rw [outsAt0_A m c t e (by omega) (by omega), sum_A]; rfl)
    (fun t e => by
      by_cases last : t.val % 4 = 3
      · rw [outsAt0_C m c t e (by omega) last, sum_C]; rfl
      · rw [outsAt0_B m c t e (by omega) last, sum_B]; rfl)

/-- What it writes back is the sum, rounded. -/
theorem rounded (t : Fin cfg0.N) (last : t.val % 4 = 3) :
    (outsAt0 m c t.val t.isLt).1 = k0_pay4 (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N
    = parts (m ((c : Thread nD τ).loc main_arg0)) (m ((c : Thread nD τ).loc main_arg1)) 4 2816 :=
  (dats m 0 c).arrAt_eq_of_covers 2 _ covers fun t hf y => by
    have last : t.val % 4 = 3 := (flush0_2 t).mp hf
    have whole := (sums m c t.val t.isLt).all (by rw [last])
    exact (congrFun ((after0_2 m c t).trans (rounded m c t last)) y).trans
      (put rfl (place t).2.2 whole shapeCasts_S1024x1408_S1x1024x1408 rfl rfl rfl)

end Value

theorem frame_ideal : Cert.quiescent_GradUpIdeal := fun m g _ => Gen.frame m g

theorem bodies : Cert.GradUp.defs (F := Bits) = Cert.GradUpIdeal.defs :=
  congrArg (Pipeline.defs _) (congrArg Defs.onTc (funext fun l => funext fun a => match l, a with
    | ⟨0, _⟩, ⟨_, _⟩ => rfl))

theorem frame_bits : Cert.quiescent_GradUp := fun m g _ => by
  rw [bodies]
  exact Gen.frame (F := Bits) m g

theorem reference_ideal : Cert.quiescent_GradUpRefIdeal := fun m g _ => Calls.quiet (by decide) (Cert.GradUpRefIdeal.Value.run m g)

theorem value_ideal : Cert.algebraic_GradUpIdeal_GradUpRefIdeal := fun m g m' g' _ hm =>
  ⟨_, (θ_run (Cert.GradUpIdeal.defs (F := Ideal)) _ _).mono
      (fun _ h c => ⟨((h c).1 2).trans ((result m c).trans (by
          rw [← (hm c).1, ← (hm c).2]
          exact (split (φ := .f32) (ψ := .f32) (transposed _) rfl _ _ _ _).symm)),
        ((h c).1 0).trans ((dats m 0 c).arrAt_in 0 rfl _), ((h c).1 1).trans ((dats m 0 c).arrAt_in 1 rfl _)⟩) (run_main m g),
    Cert.GradUpRefIdeal.Value.run m' g'⟩

end Cert.GradUpIdeal.Own

end
-- ==== Proof.GradDownClaims.lean ====
module

public import proofs.«01_k».proof.Defs
public import proofs.«01_k».proof.Proof.Calls
public import proofs.«01_k».proof.Proof.Products
public import proofs.«01_k».proof.Proof.Gen.GradDown
public import proofs.«01_k».proof.Proof.Gen.GradDown.Frame
public import proofs.«01_k».proof.Proof.Gen.GradDownIdeal.Frame
public import proofs.«01_k».proof.Proof.Gen.GradDownRefIdeal.Run
public import Idealize.ShloMosaic.Lib.Pipeline.ValueKit.Geometry
public import Idealize.ShloMosaic.Lib.Tactic
public import Idealize.ShloMosaic.Lib.Quiescent

@[expose] public section

noncomputable section

/-!
The claims about `GradDown`: the device's part of the gradient of `w_down`.
-/

namespace Cert.GradDownIdeal.Own

open Cert.GradDownIdeal Cert.GradDownIdeal.Gen Cert.Adam Cert.Sums Cert.Products
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x512 .bf16) (h3 : a3.IsWhole) (a4 : Memref sig .tc .vmem S1088x1024 .bf16) (h4 : a4.IsWhole)
variable (a5 : Memref sig .tc .vmem S1x512x1024 .bf16) (h5 : a5.IsWhole) (a6 : Memref sig .tc .vmem S512x1024 .f32) (h6 : a6.IsWhole)
variable (x : Vec F S1088x512 .bf16) (y : Vec F S1088x1024 .bf16) (acc : Vec F S512x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros, Calls.found h6 zeros, shapeCast_self]

theorem out_C (e0 : ¬cond0_0 i) (e1 : cond0_1 i) (e2 : cond0_2 i) :
    out0_C_2 c i a3 h3 a4 h4 a5 h5 a6 h6 e0 e1 e2 x y acc = k0_pay4 (addf acc (k0_pay1 x y)) := by
  unfold out0_C_2 kernelRun0_C
  dsimp only
  sl_unfold_words
  rw [Calls.kept _ _ zeros₃, View.readCov_unit_zero (S := S512x1024) _ zeros]
  unfold k0_pay3
  simp only [Calls.found h3 zeros, Calls.found h4 zeros, Calls.found h6 zeros, shapeCast_self]

end Cases

/-! ## The claims -/

/-- Where each window's block lies at each step. -/
theorem place : ∀ t : Fin cfg0.N,
    (win0_0.index t 0 = t.val % 4 ∧ win0_0.index t 1 = t.val / 4 / 2)
    ∧ (win0_1.index t 0 = t.val % 4 ∧ win0_1.index t 1 = t.val / 4 % 2)
    ∧ (win0_2.index t 0 * 2 + win0_2.index t 2 = t.val / 4 % 2 ∧ win0_2.index t 1 = t.val / 4 / 2) :=
  (by decide +kernel : ∀ t : Fin grid0.N, _)

section Value
variable (m : (ℓ : Loc nD τ sig) → Buf (Elt Ideal) ℓ) (c : Dev nD)

/-- The running sum after each step. -/
theorem sums : ∀ (n : ℕ) (hn : n < cfg0.N), Upto (m ((c : Thread nD τ).loc main_arg0)) (m ((c : Thread nD τ).loc main_arg1))
    (n % 4 * 1088 + 1088) (n / 4 / 2) (n / 4 % 2) (outsAt0 m c n hn).2 :=
  Products.sums (transposed _) (u := (· / 2)) (v := (· % 2)) (x := iblk m c 0) (y := iblk m c 1) (by decide) rfl
    (fun t => .of_offset (place t).1 (fun _ => rfl) (fun _ => rfl) _)
    (fun t => .of_offset (place t).2.1 (fun _ => rfl) (fun _ => rfl) _)
    (fun t ht => by have : cfg0.N = 88 := N_0; show t / 4 / 2 * 512 + 512 ≤ 5632; omega)
    (fun t _ => by show t / 4 % 2 * 1024 + 1024 ≤ 2048; omega)
    (fun t e => by rw [outsAt0_A m c t e (by omega) (by omega), sum_A]; rfl)
    (fun t e => by
      by_cases last : t.val % 4 = 3
      · rw [outsAt0_C m c t e (by omega) last, sum_C]; rfl
      · rw [outsAt0_B m c t e (by omega) last, sum_B]; rfl)

/-- What it writes back is the sum, rounded. -/
theorem rounded (t : Fin cfg0.N) (last : t.val % 4 = 3) :
    (outsAt0 m c t.val t.isLt).1 = k0_pay4 (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N
    = parts (m ((c : Thread nD τ).loc main_arg0)) (m ((c : Thread nD τ).loc main_arg1)) 1 2048 :=
  (dats m 0 c).arrAt_eq_of_covers 2 _ covers fun t hf y => by
    have last : t.val % 4 = 3 := (flush0_2 t).mp hf
    have whole := (sums m c t.val t.isLt).all (by rw [last])
    exact (congrFun ((after0_2 m c t).trans (rounded m c t last)) y).trans
      (put rfl (place t).2.2 whole shapeCasts_S512x1024_S1x512x1024 rfl rfl rfl)

end Value

theorem frame_ideal : Cert.quiescent_GradDownIdeal := fun m g _ => Gen.frame m g

theorem bodies : Cert.GradDown.defs (F := Bits) = Cert.GradDownIdeal.defs :=
  congrArg (Pipeline.defs _) (congrArg Defs.onTc (funext fun l => funext fun a => match l, a with
    | ⟨0, _⟩, ⟨_, _⟩ => rfl))

theorem frame_bits : Cert.quiescent_GradDown := fun m g _ => by
  rw [bodies]
  exact Gen.frame (F := Bits) m g

theorem reference_ideal : Cert.quiescent_GradDownRefIdeal := fun m g _ => Calls.quiet (by decide) (Cert.GradDownRefIdeal.Value.run m g)

theorem value_ideal : Cert.algebraic_GradDownIdeal_GradDownRefIdeal := fun m g m' g' _ hm =>
  ⟨_, (θ_run (Cert.GradDownIdeal.defs (F := Ideal)) _ _).mono
      (fun _ h c => ⟨((h c).1 2).trans ((result m c).trans (by
          rw [← (hm c).1, ← (hm c).2]
          exact (split (φ := .f32) (ψ := .f32) (transposed _) rfl _ _ _ _).symm)),
        ((h c).1 0).trans ((dats m 0 c).arrAt_in 0 rfl _), ((h c).1 1).trans ((dats m 0 c).arrAt_in 1 rfl _)⟩) (run_main m g),
    Cert.GradDownRefIdeal.Value.run m' g'⟩

end Cert.GradDownIdeal.Own

end
-- ==== Proof.Pairs.lean ====
module

public import proofs.«01_k».proof.Proof.Sums
public import Idealize.ShloMosaic.Lib.Pipeline.Value

@[expose] public section

noncomputable section

/-!
The sum of one half of the rows of the matrices of a stack and of another stack, block of rows by block of rows.
-/

namespace Cert.Pairs

open Idealize.ShloMosaic Cert.Adam Cert.Sums

variable {F : FTy → Type} [FloatOps F] {b n h C p : ℕ}

/-- The rounded sum of two stacks. -/
def pair {s : Shape} (X Y : FVec F s .bf16) : FVec F s .bf16 :=
  truncf .bf16 (addf (extf .f32 X (by decide)) (extf .f32 Y (by decide))) (by decide)

/-- What the kernel stores, from what it loads. -/
theorem stored (x y : FVec F (Stack 1 b C) .bf16) (h1 : (Stack 1 b C).ShapeCasts (Rows b C)) (h2 : (Rows b C).ShapeCasts (Stack 1 b C))
    (e : FTy.bits .bf16 < FTy.bits .f32) :
    shapeCast (Stack 1 b C) (truncf .bf16 (addf (extf .f32 (shapeCast (Rows b C) x h1) e) (extf .f32 (shapeCast (Rows b C) y h1) e)) e) h2
      = pair x y := by
  show pair (shapeCast (Stack 1 b C) (shapeCast (Rows b C) x h1) h2) (shapeCast (Stack 1 b C) (shapeCast (Rows b C) y h1) h2) = _
  rw [shapeCast_shapeCast, shapeCast_shapeCast]

/-- The sum of two blocks is a block of the sum: `o` is the first half's row from which the sum takes `X`, `u` the block
of `X`, `v` those of `Y` and of the sum. -/
theorem block {X : FVec F (Stack p n C) .bf16} {Y : FVec F (Stack p h C) .bf16} {o : ℕ} (hs : (Stack p n C).Slices ![0, o, 0] (Stack p h C))
    {u v w : Fin 3 → ℕ} (hu : u = ![w 0, o / b + w 1, w 2]) (hv : v = w) (ho : o / b * b = o)
    {k : (Stack 1 b C).Idx → (Stack p n C).Idx} {l r : (Stack 1 b C).Idx → (Stack p h C).Idx}
    (hk : ∀ y a, (k y a).val = u a * (![1, b, C] : Fin 3 → ℕ) a + 1 * (y a).val)
    (hl : ∀ y a, (l y a).val = v a * (![1, b, C] : Fin 3 → ℕ) a + 1 * (y a).val)
    (hr : ∀ y a, (r y a).val = w a * (![1, b, C] : Fin 3 → ℕ) a + 1 * (y a).val) (y : (Stack 1 b C).Idx) :
    pair (fun z => X (k z)) (fun z => Y (l z)) y = pair (extractStridedSlice (Stack p h C) ![0, o, 0] X hs) Y (r y) := by
  subst hu hv
  have left : l y = r y := funext fun a => Fin.ext ((hl y a).trans (hr y a).symm)
  have right : X (k y) = extractStridedSlice (Stack p h C) ![0, o, 0] X hs (r y) := congrArg X (three
    (((hk y 0).trans (hr y 0).symm).trans (Nat.zero_add _).symm)
    (by
      refine (hk y 1).trans ?_
      show (o / b + v 1) * b + 1 * (y 1).val = o + (r y 1).val
      rw [hr y 1, Nat.add_mul, ho]
      exact Nat.add_assoc _ _ _)
    (((hk y 2).trans (hr y 2).symm).trans (Nat.zero_add _).symm))
  simp only [pair, truncf, addf, extf, right, left]

end Cert.Pairs

end
-- ==== Proof.PairIn0Claims.lean ====
module

public import proofs.«01_k».proof.Defs
public import proofs.«01_k».proof.Proof.Calls
public import proofs.«01_k».proof.Proof.Pairs
public import proofs.«01_k».proof.Proof.Products
public import proofs.«01_k».proof.Proof.Gen.PairIn0
public import proofs.«01_k».proof.Proof.Gen.PairIn0Ideal.Frame
public import proofs.«01_k».proof.Proof.Gen.PairIn0Ref.Run
public import proofs.«01_k».proof.Proof.Gen.PairIn0RefIdeal.Run
public import Idealize.ShloMosaic.Lib.Pipeline.ValueKit.Geometry
public import Idealize.ShloMosaic.Lib.Tactic
public import Idealize.ShloMosaic.Lib.Quiescent

@[expose] public section

noncomputable section

/-!
The claims about `PairIn0`: the sum of the two cores' parts of the gradient of `w_in`, on the first core of a chip.
-/

namespace Cert.PairIn0Ideal.Own

open Cert.PairIn0Ideal Cert.PairIn0Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 0#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 0 + (i 1).val, 0] :=
  (by rintro w rfl; decide +kernel : ∀ w : BitVec 32, w = 0#32 → ∀ i : grid0.Coords, ![(BitVec.ofNat 32 (i 0).val).toNat,
    (Scalar.addi (Scalar.muli w 2#32) (BitVec.ofNat 32 (i 1).val)).toNat, (0#32 : BitVec 32).toNat] = ![(i 0).val, 0 + (i 1).val, 0])
    _ (congrFun (table m) _) i

theorem ok : Ok m := fun i => ⟨by
  rw [half]
  exact (by decide +kernel : ∀ (i : grid0.Coords) (a : Fin 3),
    ((![(i 0).val, 0 + (i 1).val, 0] : Fin 3 → ℕ) a + 1) * S1x512x1792.size a ≤ S4x2048x1792.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x512x1792.size a), fun β => by
    obtain ⟨t, h⟩ := (by decide +kernel : ∀ β : (a : Fin 3) → Fin ((S4x1024x1792.size a + S1x512x1792.size a - 1) / S1x512x1792.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x512x1792 .bf16) (h3 : a3.IsWhole)
    (a4 : Memref sig .tc .vmem S1x512x1792 .bf16) (h4 : a4.IsWhole) (a5 : Memref sig .tc .vmem S1x512x1792 .bf16) (h5 : a5.IsWhole)
    (x y : Vec F S1x512x1792 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x1024x1792 ![0, 0, 0]
    (m ((c : Thread nD τ).loc main_arg0)) (by decide : S4x2048x1792.Slices ![0, 0, 0] S4x1024x1792)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 0) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x1024x1792 ![0, 0, 0]
      (m ((c : Thread nD τ).loc main_arg0)) (by decide : S4x2048x1792.Slices ![0, 0, 0] S4x1024x1792)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairIn0Ideal := fun m g _ => Gen.frame m g (ok m)

theorem bodies : Cert.PairIn0.defs (F := Bits) = Cert.PairIn0Ideal.defs :=
  congrArg (Pipeline.defs _) (congrArg Defs.onTc (funext fun l => funext fun a => match l, a with
    | ⟨0, _⟩, ⟨_, _⟩ => rfl))

theorem frame_bits : Cert.quiescent_PairIn0 := fun m g _ => by
  rw [bodies]
  exact Gen.frame (F := Bits) m g (ok m)

theorem reference_ideal : Cert.quiescent_PairIn0RefIdeal := fun m g _ => Calls.quiet (by decide) (Cert.PairIn0RefIdeal.Value.run m g)

theorem reference_bits : Cert.quiescent_PairIn0Ref := fun m g _ => Calls.quiet (by decide) (Cert.PairIn0Ref.Value.run m g)

theorem value_ideal : Cert.algebraic_PairIn0Ideal_PairIn0RefIdeal := fun m g m' g' _ hm =>
  ⟨_, (θ_run (Cert.PairIn0Ideal.defs (F := Ideal)) _ _).mono
      (fun _ h c => ⟨(h c).1.trans (by rw [← (hm c).1, ← (hm c).2]; rfl), (h c).2⟩) (run m g),
    Cert.PairIn0RefIdeal.Value.run m' g'⟩

theorem value_bits : Cert.bitexact_PairIn0_PairIn0Ref := fun m g m' g' _ hm =>
  ⟨_, by
    rw [bodies]
    exact (θ_run (Cert.PairIn0Ideal.defs (F := Bits)) _ _).mono
      (fun _ h c => ⟨(h c).1.trans (by rw [← (hm c).1, ← (hm c).2]; rfl), (h c).2⟩) (run m g),
    Cert.PairIn0Ref.Value.run m' g'⟩

end Cert.PairIn0Ideal.Own

end
-- ==== Proof.PairIn1Claims.lean ====
module

public import proofs.«01_k».proof.Defs
public import proofs.«01_k».proof.Proof.Calls
public import proofs.«01_k».proof.Proof.Pairs
public import proofs.«01_k».proof.Proof.Products
public import proofs.«01_k».proof.Proof.Gen.PairIn1
public import proofs.«01_k».proof.Proof.Gen.PairIn1Ideal.Frame
public import proofs.«01_k».proof.Proof.Gen.PairIn1Ref.Run
public import proofs.«01_k».proof.Proof.Gen.PairIn1RefIdeal.Run
public import Idealize.ShloMosaic.Lib.Pipeline.ValueKit.Geometry
public import Idealize.ShloMosaic.Lib.Tactic
public import Idealize.ShloMosaic.Lib.Quiescent

@[expose] public section

noncomputable section

/-!
The claims about `PairIn1`: the sum of the two cores' parts of the gradient of `w_in`, on the second core of a chip.
-/

namespace Cert.PairIn1Ideal.Own

open Cert.PairIn1Ideal Cert.PairIn1Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 1#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 2 + (i 1).val, 0] :=
  (by rintro w rfl; decide +kernel : ∀ w : BitVec 32, w = 1#32 → ∀ i : grid0.Coords, ![(BitVec.ofNat 32 (i 0).val).toNat,
    (Scalar.addi (Scalar.muli w 2#32) (BitVec.ofNat 32 (i 1).val)).toNat, (0#32 : BitVec 32).toNat] = ![(i 0).val, 2 + (i 1).val, 0])
    _ (congrFun (table m) _) i

theorem ok : Ok m := fun i => ⟨by
  rw [half]
  exact (by decide +kernel : ∀ (i : grid0.Coords) (a : Fin 3),
    ((![(i 0).val, 2 + (i 1).val, 0] : Fin 3 → ℕ) a + 1) * S1x512x1792.size a ≤ S4x2048x1792.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x512x1792.size a), fun β => by
    obtain ⟨t, h⟩ := (by decide +kernel : ∀ β : (a : Fin 3) → Fin ((S4x1024x1792.size a + S1x512x1792.size a - 1) / S1x512x1792.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x512x1792 .bf16) (h3 : a3.IsWhole)
    (a4 : Memref sig .tc .vmem S1x512x1792 .bf16) (h4 : a4.IsWhole) (a5 : Memref sig .tc .vmem S1x512x1792 .bf16) (h5 : a5.IsWhole)
    (x y : Vec F S1x512x1792 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x1024x1792 ![0, 1024, 0]
    (m ((c : Thread nD τ).loc main_arg0)) (by decide : S4x2048x1792.Slices ![0, 1024, 0] S4x1024x1792)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 1024) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x1024x1792 ![0, 1024, 0]
      (m ((c : Thread nD τ).loc main_arg0)) (by decide : S4x2048x1792.Slices ![0, 1024, 0] S4x1024x1792)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairIn1Ideal := fun m g _ => Gen.frame m g (ok m)

theorem bodies : Cert.PairIn1.defs (F := Bits) = Cert.PairIn1Ideal.defs :=
  congrArg (Pipeline.defs _) (congrArg Defs.onTc (funext fun l => funext fun a => match l, a with
    | ⟨0, _⟩, ⟨_, _⟩ => rfl))

theorem frame_bits : Cert.quiescent_PairIn1 := fun m g _ => by
  rw [bodies]
  exact Gen.frame (F := Bits) m g (ok m)

theorem reference_ideal : Cert.quiescent_PairIn1RefIdeal := fun m g _ => Calls.quiet (by decide) (Cert.PairIn1RefIdeal.Value.run m g)

theorem reference_bits : Cert.quiescent_PairIn1Ref := fun m g _ => Calls.quiet (by decide) (Cert.PairIn1Ref.Value.run m g)

theorem value_ideal : Cert.algebraic_PairIn1Ideal_PairIn1RefIdeal := fun m g m' g' _ hm =>
  ⟨_, (θ_run (Cert.PairIn1Ideal.defs (F := Ideal)) _ _).mono
      (fun _ h c => ⟨(h c).1.trans (by rw [← (hm c).1, ← (hm c).2]; rfl), (h c).2⟩) (run m g),
    Cert.PairIn1RefIdeal.Value.run m' g'⟩

theorem value_bits : Cert.bitexact_PairIn1_PairIn1Ref := fun m g m' g' _ hm =>
  ⟨_, by
    rw [bodies]
    exact (θ_run (Cert.PairIn1Ideal.defs (F := Bits)) _ _).mono
      (fun _ h c => ⟨(h c).1.trans (by rw [← (hm c).1, ← (hm c).2]; rfl), (h c).2⟩) (run m g),
    Cert.PairIn1Ref.Value.run m' g'⟩

end Cert.PairIn1Ideal.Own

end
-- ==== Proof.PairOut0Claims.lean ====
module

public import proofs.«01_k».proof.Defs
public import proofs.«01_k».proof.Proof.Calls
public import proofs.«01_k».proof.Proof.Pairs
public import proofs.«01_k».proof.Proof.Products
public import proofs.«01_k».proof.Proof.Gen.PairOut0
public import proofs.«01_k».proof.Proof.Gen.PairOut0Ideal.Frame
public import proofs.«01_k».proof.Proof.Gen.PairOut0Ref.Run
public import proofs.«01_k».proof.Proof.Gen.PairOut0RefIdeal.Run
public import Idealize.ShloMosaic.Lib.Pipeline.ValueKit.Geometry
public import Idealize.ShloMosaic.Lib.Tactic
public import Idealize.ShloMosaic.Lib.Quiescent

@[expose] public section

noncomputable section

/-!
The claims about `PairOut0`: the sum of the two cores' parts of the gradient of `w_out`, on the first core of a chip.
-/

namespace Cert.PairOut0Ideal.Own

open Cert.PairOut0Ideal Cert.PairOut0Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 0#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 0 + (i 1).val, 0] :=
  (by rintro w rfl; decide +kernel : ∀ w : BitVec 32, w = 0#32 → ∀ i : grid0.Coords, ![(BitVec.ofNat 32 (i 0).val).toNat,
    (Scalar.addi (Scalar.muli w 1#32) (BitVec.ofNat 32 (i 1).val)).toNat, (0#32 : BitVec 32).toNat] = ![(i 0).val, 0 + (i 1).val, 0])
    _ (congrFun (table m) _) i

theorem ok : Ok m := fun i => ⟨by
  rw [half]
  exact (by decide +kernel : ∀ (i : grid0.Coords) (a : Fin 3),
    ((![(i 0).val, 0 + (i 1).val, 0] : Fin 3 → ℕ) a + 1) * S1x256x2048.size a ≤ S4x512x2048.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x256x2048.size a), fun β => by
    obtain ⟨t, h⟩ := (by decide +kernel : ∀ β : (a : Fin 3) → Fin ((S4x256x2048.size a + S1x256x2048.size a - 1) / S1x256x2048.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x256x2048 .bf16) (h3 : a3.IsWhole)
    (a4 : Memref sig .tc .vmem S1x256x2048 .bf16) (h4 : a4.IsWhole) (a5 : Memref sig .tc .vmem S1x256x2048 .bf16) (h5 : a5.IsWhole)
    (x y : Vec F S1x256x2048 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x256x2048 ![0, 0, 0]
    (m ((c : Thread nD τ).loc main_arg0)) (by decide : S4x512x2048.Slices ![0, 0, 0] S4x256x2048)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 0) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x256x2048 ![0, 0, 0]
      (m ((c : Thread nD τ).loc main_arg0)) (by decide : S4x512x2048.Slices ![0, 0, 0] S4x256x2048)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairOut0Ideal := fun m g _ => Gen.frame m g (ok m)

theorem bodies : Cert.PairOut0.defs (F := Bits) = Cert.PairOut0Ideal.defs :=
  congrArg (Pipeline.defs _) (congrArg Defs.onTc (funext fun l => funext fun a => match l, a with
    | ⟨0, _⟩, ⟨_, _⟩ => rfl))

theorem frame_bits : Cert.quiescent_PairOut0 := fun m g _ => by
  rw [bodies]
  exact Gen.frame (F := Bits) m g (ok m)

theorem reference_ideal : Cert.quiescent_PairOut0RefIdeal := fun m g _ => Calls.quiet (by decide) (Cert.PairOut0RefIdeal.Value.run m g)

theorem reference_bits : Cert.quiescent_PairOut0Ref := fun m g _ => Calls.quiet (by decide) (Cert.PairOut0Ref.Value.run m g)

theorem value_ideal : Cert.algebraic_PairOut0Ideal_PairOut0RefIdeal := fun m g m' g' _ hm =>
  ⟨_, (θ_run (Cert.PairOut0Ideal.defs (F := Ideal)) _ _).mono
      (fun _ h c => ⟨(h c).1.trans (by rw [← (hm c).1, ← (hm c).2]; rfl), (h c).2⟩) (run m g),
    Cert.PairOut0RefIdeal.Value.run m' g'⟩

theorem value_bits : Cert.bitexact_PairOut0_PairOut0Ref := fun m g m' g' _ hm =>
  ⟨_, by
    rw [bodies]
    exact (θ_run (Cert.PairOut0Ideal.defs (F := Bits)) _ _).mono
      (fun _ h c => ⟨(h c).1.trans (by rw [← (hm c).1, ← (hm c).2]; rfl), (h c).2⟩) (run m g),
    Cert.PairOut0Ref.Value.run m' g'⟩

end Cert.PairOut0Ideal.Own

end
-- ==== Proof.PairOut1Claims.lean ====
module

public import proofs.«01_k».proof.Defs
public import proofs.«01_k».proof.Proof.Calls
public import proofs.«01_k».proof.Proof.Pairs
public import proofs.«01_k».proof.Proof.Products
public import proofs.«01_k».proof.Proof.Gen.PairOut1
public import proofs.«01_k».proof.Proof.Gen.PairOut1Ideal.Frame
public import proofs.«01_k».proof.Proof.Gen.PairOut1Ref.Run
public import proofs.«01_k».proof.Proof.Gen.PairOut1RefIdeal.Run
public import Idealize.ShloMosaic.Lib.Pipeline.ValueKit.Geometry
public import Idealize.ShloMosaic.Lib.Tactic
public import Idealize.ShloMosaic.Lib.Quiescent

@[expose] public section

noncomputable section

/-!
The claims about `PairOut1`: the sum of the two cores' parts of the gradient of `w_out`, on the second core of a chip.
-/

namespace Cert.PairOut1Ideal.Own

open Cert.PairOut1Ideal Cert.PairOut1Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 1#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 1 + (i 1).val, 0] :=
  (by rintro w rfl; decide +kernel : ∀ w : BitVec 32, w = 1#32 → ∀ i : grid0.Coords, ![(BitVec.ofNat 32 (i 0).val).toNat,
    (Scalar.addi (Scalar.muli w 1#32) (BitVec.ofNat 32 (i 1).val)).toNat, (0#32 : BitVec 32).toNat] = ![(i 0).val, 1 + (i 1).val, 0])
    _ (congrFun (table m) _) i

theorem ok : Ok m := fun i => ⟨by
  rw [half]
  exact (by decide +kernel : ∀ (i : grid0.Coords) (a : Fin 3),
    ((![(i 0).val, 1 + (i 1).val, 0] : Fin 3 → ℕ) a + 1) * S1x256x2048.size a ≤ S4x512x2048.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x256x2048.size a), fun β => by
    obtain ⟨t, h⟩ := (by decide +kernel : ∀ β : (a : Fin 3) → Fin ((S4x256x2048.size a + S1x256x2048.size a - 1) / S1x256x2048.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x256x2048 .bf16) (h3 : a3.IsWhole)
    (a4 : Memref sig .tc .vmem S1x256x2048 .bf16) (h4 : a4.IsWhole) (a5 : Memref sig .tc .vmem S1x256x2048 .bf16) (h5 : a5.IsWhole)
    (x y : Vec F S1x256x2048 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x256x2048 ![0, 256, 0]
    (m ((c : Thread nD τ).loc main_arg0)) (by decide : S4x512x2048.Slices ![0, 256, 0] S4x256x2048)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 256) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x256x2048 ![0, 256, 0]
      (m ((c : Thread nD τ).loc main_arg0)) (by decide : S4x512x2048.Slices ![0, 256, 0] S4x256x2048)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairOut1Ideal := fun m g _ => Gen.frame m g (ok m)

theorem bodies : Cert.PairOut1.defs (F := Bits) = Cert.PairOut1Ideal.defs :=
  congrArg (Pipeline.defs _) (congrArg Defs.onTc (funext fun l => funext fun a => match l, a with
    | ⟨0, _⟩, ⟨_, _⟩ => rfl))

theorem frame_bits : Cert.quiescent_PairOut1 := fun m g _ => by
  rw [bodies]
  exact Gen.frame (F := Bits) m g (ok m)

theorem reference_ideal : Cert.quiescent_PairOut1RefIdeal := fun m g _ => Calls.quiet (by decide) (Cert.PairOut1RefIdeal.Value.run m g)

theorem reference_bits : Cert.quiescent_PairOut1Ref := fun m g _ => Calls.quiet (by decide) (Cert.PairOut1Ref.Value.run m g)

theorem value_ideal : Cert.algebraic_PairOut1Ideal_PairOut1RefIdeal := fun m g m' g' _ hm =>
  ⟨_, (θ_run (Cert.PairOut1Ideal.defs (F := Ideal)) _ _).mono
      (fun _ h c => ⟨(h c).1.trans (by rw [← (hm c).1, ← (hm c).2]; rfl), (h c).2⟩) (run m g),
    Cert.PairOut1RefIdeal.Value.run m' g'⟩

theorem value_bits : Cert.bitexact_PairOut1_PairOut1Ref := fun m g m' g' _ hm =>
  ⟨_, by
    rw [bodies]
    exact (θ_run (Cert.PairOut1Ideal.defs (F := Bits)) _ _).mono
      (fun _ h c => ⟨(h c).1.trans (by rw [← (hm c).1, ← (hm c).2]; rfl), (h c).2⟩) (run m g),
    Cert.PairOut1Ref.Value.run m' g'⟩

end Cert.PairOut1Ideal.Own

end
-- ==== Proof.PairUp0Claims.lean ====
module

public import proofs.«01_k».proof.Defs
public import proofs.«01_k».proof.Proof.Calls
public import proofs.«01_k».proof.Proof.Pairs
public import proofs.«01_k».proof.Proof.Products
public import proofs.«01_k».proof.Proof.Gen.PairUp0
public import proofs.«01_k».proof.Proof.Gen.PairUp0Ideal.Frame
public import proofs.«01_k».proof.Proof.Gen.PairUp0Ref.Run
public import proofs.«01_k».proof.Proof.Gen.PairUp0RefIdeal.Run
public import Idealize.ShloMosaic.Lib.Pipeline.ValueKit.Geometry
public import Idealize.ShloMosaic.Lib.Tactic
public import Idealize.ShloMosaic.Lib.Quiescent

@[expose] public section

noncomputable section

/-!
The claims about `PairUp0`: the sum of the two cores' parts of the gradient of `w_up`, on the first core of a chip.
-/

namespace Cert.PairUp0Ideal.Own

open Cert.PairUp0Ideal Cert.PairUp0Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 0#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 0 + (i 1).val, 0] :=
  (by rintro w rfl; decide +kernel : ∀ w : BitVec 32, w = 0#32 → ∀ i : grid0.Coords, ![(BitVec.ofNat 32 (i 0).val).toNat,
    (Scalar.addi (Scalar.muli w 2#32) (BitVec.ofNat 32 (i 1).val)).toNat, (0#32 : BitVec 32).toNat] = ![(i 0).val, 0 + (i 1).val, 0])
    _ (congrFun (table m) _) i

theorem ok : Ok m := fun i => ⟨by
  rw [half]
  exact (by decide +kernel : ∀ (i : grid0.Coords) (a : Fin 3),
    ((![(i 0).val, 0 + (i 1).val, 0] : Fin 3 → ℕ) a + 1) * S1x512x2816.size a ≤ S4x2048x2816.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x512x2816.size a), fun β => by
    obtain ⟨t, h⟩ := (by decide +kernel : ∀ β : (a : Fin 3) → Fin ((S4x1024x2816.size a + S1x512x2816.size a - 1) / S1x512x2816.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x512x2816 .bf16) (h3 : a3.IsWhole)
    (a4 : Memref sig .tc .vmem S1x512x2816 .bf16) (h4 : a4.IsWhole) (a5 : Memref sig .tc .vmem S1x512x2816 .bf16) (h5 : a5.IsWhole)
    (x y : Vec F S1x512x2816 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x1024x2816 ![0, 0, 0]
    (m ((c : Thread nD τ).loc main_arg0)) (by decide : S4x2048x2816.Slices ![0, 0, 0] S4x1024x2816)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 0) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x1024x2816 ![0, 0, 0]
      (m ((c : Thread nD τ).loc main_arg0)) (by decide : S4x2048x2816.Slices ![0, 0, 0] S4x1024x2816)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairUp0Ideal := fun m g _ => Gen.frame m g (ok m)

theorem bodies : Cert.PairUp0.defs (F := Bits) = Cert.PairUp0Ideal.defs :=
  congrArg (Pipeline.defs _) (congrArg Defs.onTc (funext fun l => funext fun a => match l, a with
    | ⟨0, _⟩, ⟨_, _⟩ => rfl))

theorem frame_bits : Cert.quiescent_PairUp0 := fun m g _ => by
  rw [bodies]
  exact Gen.frame (F := Bits) m g (ok m)

theorem reference_ideal : Cert.quiescent_PairUp0RefIdeal := fun m g _ => Calls.quiet (by decide) (Cert.PairUp0RefIdeal.Value.run m g)

theorem reference_bits : Cert.quiescent_PairUp0Ref := fun m g _ => Calls.quiet (by decide) (Cert.PairUp0Ref.Value.run m g)

theorem value_ideal : Cert.algebraic_PairUp0Ideal_PairUp0RefIdeal := fun m g m' g' _ hm =>
  ⟨_, (θ_run (Cert.PairUp0Ideal.defs (F := Ideal)) _ _).mono
      (fun _ h c => ⟨(h c).1.trans (by rw [← (hm c).1, ← (hm c).2]; rfl), (h c).2⟩) (run m g),
    Cert.PairUp0RefIdeal.Value.run m' g'⟩

theorem value_bits : Cert.bitexact_PairUp0_PairUp0Ref := fun m g m' g' _ hm =>
  ⟨_, by
    rw [bodies]
    exact (θ_run (Cert.PairUp0Ideal.defs (F := Bits)) _ _).mono
      (fun _ h c => ⟨(h c).1.trans (by rw [← (hm c).1, ← (hm c).2]; rfl), (h c).2⟩) (run m g),
    Cert.PairUp0Ref.Value.run m' g'⟩

end Cert.PairUp0Ideal.Own

end
-- ==== Proof.PairUp1Claims.lean ====
module

public import proofs.«01_k».proof.Defs
public import proofs.«01_k».proof.Proof.Calls
public import proofs.«01_k».proof.Proof.Pairs
public import proofs.«01_k».proof.Proof.Products
public import proofs.«01_k».proof.Proof.Gen.PairUp1
public import proofs.«01_k».proof.Proof.Gen.PairUp1Ideal.Frame
public import proofs.«01_k».proof.Proof.Gen.PairUp1Ref.Run
public import proofs.«01_k».proof.Proof.Gen.PairUp1RefIdeal.Run
public import Idealize.ShloMosaic.Lib.Pipeline.ValueKit.Geometry
public import Idealize.ShloMosaic.Lib.Tactic
public import Idealize.ShloMosaic.Lib.Quiescent

@[expose] public section

noncomputable section

/-!
The claims about `PairUp1`: the sum of the two cores' parts of the gradient of `w_up`, on the second core of a chip.
-/

namespace Cert.PairUp1Ideal.Own

open Cert.PairUp1Ideal Cert.PairUp1Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 1#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 2 + (i 1).val, 0] :=
  (by rintro w rfl; decide +kernel : ∀ w : BitVec 32, w = 1#32 → ∀ i : grid0.Coords, ![(BitVec.ofNat 32 (i 0).val).toNat,
    (Scalar.addi (Scalar.muli w 2#32) (BitVec.ofNat 32 (i 1).val)).toNat, (0#32 : BitVec 32).toNat] = ![(i 0).val, 2 + (i 1).val, 0])
    _ (congrFun (table m) _) i

theorem ok : Ok m := fun i => ⟨by
  rw [half]
  exact (by decide +kernel : ∀ (i : grid0.Coords) (a : Fin 3),
    ((![(i 0).val, 2 + (i 1).val, 0] : Fin 3 → ℕ) a + 1) * S1x512x2816.size a ≤ S4x2048x2816.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x512x2816.size a), fun β => by
    obtain ⟨t, h⟩ := (by decide +kernel : ∀ β : (a : Fin 3) → Fin ((S4x1024x2816.size a + S1x512x2816.size a - 1) / S1x512x2816.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x512x2816 .bf16) (h3 : a3.IsWhole)
    (a4 : Memref sig .tc .vmem S1x512x2816 .bf16) (h4 : a4.IsWhole) (a5 : Memref sig .tc .vmem S1x512x2816 .bf16) (h5 : a5.IsWhole)
    (x y : Vec F S1x512x2816 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x1024x2816 ![0, 1024, 0]
    (m ((c : Thread nD τ).loc main_arg0)) (by decide : S4x2048x2816.Slices ![0, 1024, 0] S4x1024x2816)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 1024) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x1024x2816 ![0, 1024, 0]
      (m ((c : Thread nD τ).loc main_arg0)) (by decide : S4x2048x2816.Slices ![0, 1024, 0] S4x1024x2816)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairUp1Ideal := fun m g _ => Gen.frame m g (ok m)

theorem bodies : Cert.PairUp1.defs (F := Bits) = Cert.PairUp1Ideal.defs :=
  congrArg (Pipeline.defs _) (congrArg Defs.onTc (funext fun l => funext fun a => match l, a with
    | ⟨0, _⟩, ⟨_, _⟩ => rfl))

theorem frame_bits : Cert.quiescent_PairUp1 := fun m g _ => by
  rw [bodies]
  exact Gen.frame (F := Bits) m g (ok m)

theorem reference_ideal : Cert.quiescent_PairUp1RefIdeal := fun m g _ => Calls.quiet (by decide) (Cert.PairUp1RefIdeal.Value.run m g)

theorem reference_bits : Cert.quiescent_PairUp1Ref := fun m g _ => Calls.quiet (by decide) (Cert.PairUp1Ref.Value.run m g)

theorem value_ideal : Cert.algebraic_PairUp1Ideal_PairUp1RefIdeal := fun m g m' g' _ hm =>
  ⟨_, (θ_run (Cert.PairUp1Ideal.defs (F := Ideal)) _ _).mono
      (fun _ h c => ⟨(h c).1.trans (by rw [← (hm c).1, ← (hm c).2]; rfl), (h c).2⟩) (run m g),
    Cert.PairUp1RefIdeal.Value.run m' g'⟩

theorem value_bits : Cert.bitexact_PairUp1_PairUp1Ref := fun m g m' g' _ hm =>
  ⟨_, by
    rw [bodies]
    exact (θ_run (Cert.PairUp1Ideal.defs (F := Bits)) _ _).mono
      (fun _ h c => ⟨(h c).1.trans (by rw [← (hm c).1, ← (hm c).2]; rfl), (h c).2⟩) (run m g),
    Cert.PairUp1Ref.Value.run m' g'⟩

end Cert.PairUp1Ideal.Own

end
-- ==== Proof.PairDown0Claims.lean ====
module

public import proofs.«01_k».proof.Defs
public import proofs.«01_k».proof.Proof.Calls
public import proofs.«01_k».proof.Proof.Pairs
public import proofs.«01_k».proof.Proof.Products
public import proofs.«01_k».proof.Proof.Gen.PairDown0
public import proofs.«01_k».proof.Proof.Gen.PairDown0Ideal.Frame
public import proofs.«01_k».proof.Proof.Gen.PairDown0Ref.Run
public import proofs.«01_k».proof.Proof.Gen.PairDown0RefIdeal.Run
public import Idealize.ShloMosaic.Lib.Pipeline.ValueKit.Geometry
public import Idealize.ShloMosaic.Lib.Tactic
public import Idealize.ShloMosaic.Lib.Quiescent

@[expose] public section

noncomputable section

/-!
The claims about `PairDown0`: the sum of the two cores' parts of the gradient of `w_down`, on the first core of a chip.
-/

namespace Cert.PairDown0Ideal.Own

open Cert.PairDown0Ideal Cert.PairDown0Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 0#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 0 + (i 1).val, 0] :=
  (by rintro w rfl; decide +kernel : ∀ w : BitVec 32, w = 0#32 → ∀ i : grid0.Coords, ![(BitVec.ofNat 32 (i 0).val).toNat,
    (Scalar.addi (Scalar.muli w 11#32) (BitVec.ofNat 32 (i 1).val)).toNat, (0#32 : BitVec 32).toNat] = ![(i 0).val, 0 + (i 1).val, 0])
    _ (congrFun (table m) _) i

theorem ok : Ok m := fun i => ⟨by
  rw [half]
  exact (by decide +kernel : ∀ (i : grid0.Coords) (a : Fin 3),
    ((![(i 0).val, 0 + (i 1).val, 0] : Fin 3 → ℕ) a + 1) * S1x64x2048.size a ≤ S4x1408x2048.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x64x2048.size a), fun β => by
    obtain ⟨t, h⟩ := (by decide +kernel : ∀ β : (a : Fin 3) → Fin ((S4x704x2048.size a + S1x64x2048.size a - 1) / S1x64x2048.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x64x2048 .bf16) (h3 : a3.IsWhole)
    (a4 : Memref sig .tc .vmem S1x64x2048 .bf16) (h4 : a4.IsWhole) (a5 : Memref sig .tc .vmem S1x64x2048 .bf16) (h5 : a5.IsWhole)
    (x y : Vec F S1x64x2048 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x704x2048 ![0, 0, 0]
    (m ((c : Thread nD τ).loc main_arg0)) (by decide : S4x1408x2048.Slices ![0, 0, 0] S4x704x2048)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 0) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x704x2048 ![0, 0, 0]
      (m ((c : Thread nD τ).loc main_arg0)) (by decide : S4x1408x2048.Slices ![0, 0, 0] S4x704x2048)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairDown0Ideal := fun m g _ => Gen.frame m g (ok m)

theorem bodies : Cert.PairDown0.defs (F := Bits) = Cert.PairDown0Ideal.defs :=
  congrArg (Pipeline.defs _) (congrArg Defs.onTc (funext fun l => funext fun a => match l, a with
    | ⟨0, _⟩, ⟨_, _⟩ => rfl))

theorem frame_bits : Cert.quiescent_PairDown0 := fun m g _ => by
  rw [bodies]
  exact Gen.frame (F := Bits) m g (ok m)

theorem reference_ideal : Cert.quiescent_PairDown0RefIdeal := fun m g _ => Calls.quiet (by decide) (Cert.PairDown0RefIdeal.Value.run m g)

theorem reference_bits : Cert.quiescent_PairDown0Ref := fun m g _ => Calls.quiet (by decide) (Cert.PairDown0Ref.Value.run m g)

theorem value_ideal : Cert.algebraic_PairDown0Ideal_PairDown0RefIdeal := fun m g m' g' _ hm =>
  ⟨_, (θ_run (Cert.PairDown0Ideal.defs (F := Ideal)) _ _).mono
      (fun _ h c => ⟨(h c).1.trans (by rw [← (hm c).1, ← (hm c).2]; rfl), (h c).2⟩) (run m g),
    Cert.PairDown0RefIdeal.Value.run m' g'⟩

theorem value_bits : Cert.bitexact_PairDown0_PairDown0Ref := fun m g m' g' _ hm =>
  ⟨_, by
    rw [bodies]
    exact (θ_run (Cert.PairDown0Ideal.defs (F := Bits)) _ _).mono
      (fun _ h c => ⟨(h c).1.trans (by rw [← (hm c).1, ← (hm c).2]; rfl), (h c).2⟩) (run m g),
    Cert.PairDown0Ref.Value.run m' g'⟩

end Cert.PairDown0Ideal.Own

end
-- ==== Proof.PairDown1Claims.lean ====
module

public import proofs.«01_k».proof.Defs
public import proofs.«01_k».proof.Proof.Calls
public import proofs.«01_k».proof.Proof.Pairs
public import proofs.«01_k».proof.Proof.Products
public import proofs.«01_k».proof.Proof.Gen.PairDown1
public import proofs.«01_k».proof.Proof.Gen.PairDown1Ideal.Frame
public import proofs.«01_k».proof.Proof.Gen.PairDown1Ref.Run
public import proofs.«01_k».proof.Proof.Gen.PairDown1RefIdeal.Run
public import Idealize.ShloMosaic.Lib.Pipeline.ValueKit.Geometry
public import Idealize.ShloMosaic.Lib.Tactic
public import Idealize.ShloMosaic.Lib.Quiescent

@[expose] public section

noncomputable section

/-!
The claims about `PairDown1`: the sum of the two cores' parts of the gradient of `w_down`, on the second core of a chip.
-/

namespace Cert.PairDown1Ideal.Own

open Cert.PairDown1Ideal Cert.PairDown1Ideal.Gen Cert.Adam Cert.Sums Cert.Pairs
open Idealize.ShloMosaic Idealize.ShloMosaic.TcCoe Idealize.SL.Sem

variable {F : FTy → Type} [FloatOps F] (m : (ℓ : Loc nD τ sig) → Buf (Elt F) ℓ) (c : Dev nD)

/-- The core that the host names. -/
theorem table : tbl m 0 = fun _ => 1#32 := by
  unfold tbl
  show StableHlo.after hostOps0 (fun b => m ((0 : Dev nD), b)) (Proc.devRef .tc main_v0) = _
  unfold hostOps0
  after_results
  rfl

/-- Where the block of the first argument lies. -/
theorem half (i : grid0.Coords) : cc0_transform_0 inb_S1_S1_0 numel1_S1 (tbl m) i = ![(i 0).val, 11 + (i 1).val, 0] :=
  (by rintro w rfl; decide +kernel : ∀ w : BitVec 32, w = 1#32 → ∀ i : grid0.Coords, ![(BitVec.ofNat 32 (i 0).val).toNat,
    (Scalar.addi (Scalar.muli w 11#32) (BitVec.ofNat 32 (i 1).val)).toNat, (0#32 : BitVec 32).toNat] = ![(i 0).val, 11 + (i 1).val, 0])
    _ (congrFun (table m) _) i

theorem ok : Ok m := fun i => ⟨by
  rw [half]
  exact (by decide +kernel : ∀ (i : grid0.Coords) (a : Fin 3),
    ((![(i 0).val, 11 + (i 1).val, 0] : Fin 3 → ℕ) a + 1) * S1x64x2048.size a ≤ S4x1408x2048.size a) i,
  .inr (Affine.block_words_dvd (of_decide_eq_true rfl) (by decide))⟩

/-- Where the other two windows' blocks lie. -/
theorem place : (∀ i : grid0.Coords, cc0_transform_1 i = ![(i 0).val, (i 1).val, 0])
    ∧ (∀ i : grid0.Coords, cc0_transform_2 i = ![(i 0).val, (i 1).val, 0]) := by decide +kernel

theorem covers : ((cfgM m (ok m)).win 2).Covers :=
  ⟨(by decide : ∀ a, 0 < S1x64x2048.size a), fun β => by
    obtain ⟨t, h⟩ := (by decide +kernel : ∀ β : (a : Fin 3) → Fin ((S4x704x2048.size a + S1x64x2048.size a - 1) / S1x64x2048.size a),
      ∃ t : Fin grid0.N, ∀ a, cc0_transform_2 (grid0.coords t) a = (β a).val) β
    exact ⟨t, flush0_2 _ t, fun a => ⟨h a, .inl rfl⟩⟩⟩

/-- What it leaves at each step, from what it finds. -/
theorem left (i : grid0.Coords) (a3 : Memref sig .tc .vmem S1x64x2048 .bf16) (h3 : a3.IsWhole)
    (a4 : Memref sig .tc .vmem S1x64x2048 .bf16) (h4 : a4.IsWhole) (a5 : Memref sig .tc .vmem S1x64x2048 .bf16) (h5 : a5.IsWhole)
    (x y : Vec F S1x64x2048 .bf16) (t : TbBuf0 (F := F) c tbM0_0) : out0_A_2 c i a3 h3 a4 h4 a5 h5 x y t = pair x y := by
  unfold out0_A_2 kernelRun0_A
  dsimp only
  rw [Calls.kept _ _ Products.zeros₃]
  simp only [Calls.found h3 Products.zeros₃, Calls.found h4 Products.zeros₃]
  exact stored ..

/-- The array it leaves. -/
theorem result : (dats m (ok m) 0 c).arrAt 2 (cfgM m (ok m)).N = pair (extractStridedSlice S4x704x2048 ![0, 704, 0]
    (m ((c : Thread nD τ).loc main_arg0)) (by decide : S4x1408x2048.Slices ![0, 704, 0] S4x704x2048)) (m ((c : Thread nD τ).loc main_arg1)) :=
  (dats m (ok m) 0 c).arrAt_eq_of_covers 2 _ (covers m) fun t _ y => by
    refine (congrFun ((after0_2 m (ok m) c t).trans (left ..)) y).trans ?_
    rw [← V_main_arg0 m c, ← V_main_arg1 m c]
    exact block (o := 704) _ (k := (((cfgM m (ok m)).win 0).blk t).view.emb) (l := (((cfgM m (ok m)).win 1).blk t).view.emb)
      (r := (((cfgM m (ok m)).win 2).blk t).view.emb) ((half m (grid0.coords t)).trans (by rw [place.2]; rfl))
      ((place.1 (grid0.coords t)).trans (place.2 _).symm) rfl (fun _ _ => rfl) (fun _ _ => rfl) (fun _ _ => rfl) y

/-- Its run, over any floats. -/
theorem run (g : Dev nD → PrngReg) : θ_run defs (onTc (τ := τ) (main (F := F))) ⟨m, fun _ => 0, g⟩ fun r => ∀ c : Dev nD,
    r.2.mem ((c : Thread nD τ).loc main_v1) = pair (extractStridedSlice S4x704x2048 ![0, 704, 0]
      (m ((c : Thread nD τ).loc main_arg0)) (by decide : S4x1408x2048.Slices ![0, 704, 0] S4x704x2048)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (result m c), h.2 c⟩)
    (θ_run_and (run_main m g (ok m)) (unchanged m g (ok m)))

theorem frame_ideal : Cert.quiescent_PairDown1Ideal := fun m g _ => Gen.frame m g (ok m)

theorem bodies : Cert.PairDown1.defs (F := Bits) = Cert.PairDown1Ideal.defs :=
  congrArg (Pipeline.defs _) (congrArg Defs.onTc (funext fun l => funext fun a => match l, a with
    | ⟨0, _⟩, ⟨_, _⟩ => rfl))

theorem frame_bits : Cert.quiescent_PairDown1 := fun m g _ => by
  rw [bodies]
  exact Gen.frame (F := Bits) m g (ok m)

theorem reference_ideal : Cert.quiescent_PairDown1RefIdeal := fun m g _ => Calls.quiet (by decide) (Cert.PairDown1RefIdeal.Value.run m g)

theorem reference_bits : Cert.quiescent_PairDown1Ref := fun m g _ => Calls.quiet (by decide) (Cert.PairDown1Ref.Value.run m g)

theorem value_ideal : Cert.algebraic_PairDown1Ideal_PairDown1RefIdeal := fun m g m' g' _ hm =>
  ⟨_, (θ_run (Cert.PairDown1Ideal.defs (F := Ideal)) _ _).mono
      (fun _ h c => ⟨(h c).1.trans (by rw [← (hm c).1, ← (hm c).2]; rfl), (h c).2⟩) (run m g),
    Cert.PairDown1RefIdeal.Value.run m' g'⟩

theorem value_bits : Cert.bitexact_PairDown1_PairDown1Ref := fun m g m' g' _ hm =>
  ⟨_, by
    rw [bodies]
    exact (θ_run (Cert.PairDown1Ideal.defs (F := Bits)) _ _).mono
      (fun _ h c => ⟨(h c).1.trans (by rw [← (hm c).1, ← (hm c).2]; rfl), (h c).2⟩) (run m g),
    Cert.PairDown1Ref.Value.run m' g'⟩

end Cert.PairDown1Ideal.Own

end
-- ==== Proof.Factors.lean ====
module

public import proofs.«01_k».proof.Proof.Products

@[expose] public section

noncomputable section

/-!
The product of a matrix with another whose columns lie in parts, tile by tile, and its product with that one transposed.

Each is a sum over the axis that the two share, of terms named by natural numbers. What one step adds is a block of those
terms; a tile of the product is the sum of its blocks, whichever of the two products it is.
-/

namespace Cert.Factors

open Idealize.ShloMosaic Cert.Adam Cert.Sums Cert.Products

variable {M K N S w b p q : ℕ}

/-! ## Sums in blocks of terms -/

/-- `acc` is the tile at `(u, v)` of the sums of the first `n` terms. -/
def Upto (f : ℕ → ℕ → ℕ → EReal) (n u v : ℕ) (acc : (Rows p q).Idx → EReal) : Prop :=
  ∀ z, acc z = ∑ t ∈ Finset.range n, f (u * p + (z 0).val) (v * q + (z 1).val) t

/-- `part` is what the `k`th block of `b` terms adds to the tile at `(u, v)`. -/
def Adds (f : ℕ → ℕ → ℕ → EReal) (b k u v : ℕ) (part : (Rows p q).Idx → EReal) : Prop :=
  ∀ z, part z = ∑ t ∈ Finset.range b, f (u * p + (z 0).val) (v * q + (z 1).val) (k * b + t)

variable {f : ℕ → ℕ → ℕ → EReal}

theorem Upto.all {n u v : ℕ} {acc : (Rows p q).Idx → EReal} (h : Upto f n u v acc) (e : n = K) : Upto f K u v acc := e ▸ h

/-- The first block is the sum so far. -/
theorem Adds.upto {k u v : ℕ} {part : (Rows p q).Idx → EReal} (h : Adds f b k u v part) (e : k = 0) :
    Upto f (k * b + b) u v part := fun z => by
  subst e
  rw [h z]
  simp only [Nat.zero_mul, Nat.zero_add]

/-- A further block. -/
theorem Upto.add {k u v : ℕ} {acc part : FVec Ideal (Rows p q) .f32} (h : Upto f (k * b) u v acc) (h' : Adds f b k u v part) :
    Upto f (k * b + b) u v (addf acc part) := fun z => by
  show acc z + part z = _
  rw [h z, h' z]
  exact (Finset.sum_range_add _ _ _).symm

/-- The running sums of a grid whose innermost axis has `s` steps, one for each block of terms. -/
theorem sums {s n : ℕ} {u v : ℕ → ℕ} {part : Fin n → FVec Ideal (Rows p q) .f32}
    (hp : ∀ t, Adds f b (t.val % s) (u (t.val / s)) (v (t.val / s)) (part t))
    {acc : (t : ℕ) → t < n → FVec Ideal (Rows p q) .f32} (h0 : ∀ t : Fin n, t.val % s = 0 → acc t.val t.isLt = part t)
    (h1 : ∀ t : Fin n, t.val % s ≠ 0 →
      acc t.val t.isLt = addf (acc (t.val - 1) (Nat.lt_of_le_of_lt (Nat.sub_le _ _) t.isLt)) (part t)) :
    ∀ (t : ℕ) (ht : t < n), Upto f (t % s * b + b) (u (t / s)) (v (t / s)) (acc t ht) := fun t => by
  induction t with
  | zero => exact fun ht => (h0 ⟨0, ht⟩ (Nat.zero_mod _)) ▸ (hp ⟨0, ht⟩).upto (Nat.zero_mod _)
  | succ t ih =>
    intro ht
    by_cases e : (t + 1) % s = 0
    · exact (h0 ⟨t + 1, ht⟩ e) ▸ (hp ⟨t + 1, ht⟩).upto e
    · have same : (t + 1) / s = t / s := Nat.succ_div_of_not_dvd fun h => e (Nat.mod_eq_zero_of_dvd h)
      have next : (t + 1) % s = t % s + 1 := by
        have a := Nat.div_add_mod (t + 1) s
        have b := Nat.div_add_mod t s
        rw [same] at a
        omega
      have h := ih (Nat.lt_of_succ_lt ht)
      rw [← same, ← Nat.succ_mul, Nat.succ_eq_add_one, ← next] at h
      exact (h1 ⟨t + 1, ht⟩ e) ▸ h.add (hp ⟨t + 1, ht⟩)

/-! ## The two arrays by natural numbers -/

theorem same {i j : (Stack S K w).Idx} (h0 : (i 0).val = (j 0).val) (h1 : (i 1).val = (j 1).val) (h2 : (i 2).val = (j 2).val) :
    i = j := funext fun a => match a with
  | ⟨0, _⟩ => Fin.ext h0
  | ⟨1, _⟩ => Fin.ext h1
  | ⟨2, _⟩ => Fin.ext h2

/-- Entry `(r, c)` of a matrix. -/
def entry (A : (Rows M K).Idx → EReal) (r c : ℕ) : EReal :=
  if h : r < M ∧ c < K then A (ValueIdx.ix2 ⟨r, h.1⟩ ⟨c, h.2⟩) else 0

theorem entry_val (A : (Rows M K).Idx → EReal) (i : (Rows M K).Idx) : entry A (i 0).val (i 1).val = A i :=
  (dif_pos ⟨(i 0).isLt, (i 1).isLt⟩).trans (congrArg A (Shape.idx_ext₂ rfl rfl))

/-- Entry `(r, c)` of a matrix whose columns lie in parts of `w`. -/
def joined (W : (Stack S K w).Idx → EReal) (r c : ℕ) : EReal :=
  if h : c / w < S ∧ r < K ∧ c % w < w then W (ValueIdx.ix3 ⟨c / w, h.1⟩ ⟨r, h.2.1⟩ ⟨c % w, h.2.2⟩) else 0

theorem joined_val (W : (Stack S K w).Idx → EReal) (i : (Stack S K w).Idx) {r c : ℕ} (hr : r = (i 1).val)
    (hc : c = (i 0).val * w + (i 2).val) : joined W r c = W i := by
  have h0 : (i 0).val < S := (i 0).isLt
  have h1 : (i 1).val < K := (i 1).isLt
  have h2 : (i 2).val < w := (i 2).isLt
  have d : c / w = (i 0).val := by
    rw [hc, Nat.mul_comm, Nat.mul_add_div (by omega), Nat.div_eq_of_lt h2, Nat.add_zero]
  have e : c % w = (i 2).val := by rw [hc, Nat.mul_comm, Nat.mul_add_mod, Nat.mod_eq_of_lt h2]
  refine (dif_pos ⟨d ▸ h0, hr ▸ h1, e ▸ h2⟩).trans (congrArg W (same d hr e))

/-- `x` is the tile at `(u, k)` of `A`. -/
def Left (u k : ℕ) (x : (Rows p b).Idx → EReal) (A : (Rows M K).Idx → EReal) : Prop :=
  ∀ y, x y = entry A (u * p + (y 0).val) (k * b + (y 1).val)

theorem Left.of_offset {u k : ℕ} {o : Fin 2 → ℕ} (ho : o 0 = u ∧ o 1 = k) {emb : (Rows p b).Idx → (Rows M K).Idx}
    (h0 : ∀ y, (emb y 0).val = o 0 * p + 1 * (y 0).val) (h1 : ∀ y, (emb y 1).val = o 1 * b + 1 * (y 1).val)
    (A : (Rows M K).Idx → EReal) : Left u k (fun y => A (emb y)) A := fun y => by
  show A (emb y) = _
  rw [← entry_val A (emb y), h0, h1, ho.1, ho.2, Nat.one_mul, Nat.one_mul]

/-- `x` is the tile of `p` rows and `q` columns at `(u, v)` of the matrix whose columns lie in parts. -/
def Right (u v : ℕ) (x : (Stack 1 p q).Idx → EReal) (W : (Stack S K w).Idx → EReal) : Prop :=
  ∀ y, x y = joined W (u * p + (y 1).val) (v * q + (y 2).val)

theorem Right.of_offset {u v m : ℕ} (hw : w = m * q) {o : Fin 3 → ℕ} (ho : o 1 = u ∧ o 0 * m + o 2 = v)
    {emb : (Stack 1 p q).Idx → (Stack S K w).Idx} (h0 : ∀ y, (emb y 0).val = o 0 * 1 + 1 * (y 0).val)
    (h1 : ∀ y, (emb y 1).val = o 1 * p + 1 * (y 1).val) (h2 : ∀ y, (emb y 2).val = o 2 * q + 1 * (y 2).val)
    (W : (Stack S K w).Idx → EReal) : Right u v (fun y => W (emb y)) W := fun y => by
  have e : (y 0).val = 0 := by have := (y 0).isLt; simp at this; omega
  refine (joined_val W (emb y) ?_ ?_).symm
  · rw [h1, ho.1, Nat.one_mul]
  · rw [h0, h2, e, ← ho.2, hw]
    ring

/-! ## The product -/

/-- The term `t` of entry `(r, c)` of the product. -/
def along (A : (Rows M K).Idx → EReal) (W : (Stack S K w).Idx → EReal) (r c t : ℕ) : EReal := entry A r t * joined W t c

/-- The product. -/
def times (A : (Rows M K).Idx → EReal) (W : (Stack S K w).Idx → EReal) : (Rows M N).Idx → EReal := fun i =>
  ∑ t ∈ Finset.range K, along A W (i 0).val (i 1).val t

/-- What says that `d` takes the product. -/
structure Plain (d : DotDims (Rows M K) (Rows K N) (Rows M N)) : Prop where
  over : d.lhsContracting = [1]
  left : ∀ j k, Shape.Idx.norm (d.lhsIdx j (d.contrIdx₁ over rfl k)) = ValueIdx.ix2 (j 0) k
  right : ∀ j k, Shape.Idx.norm (d.rhsIdx j (d.contrIdx₁ over rfl k)) = ValueIdx.ix2 k (j 1)

theorem plain (h : DotDims.WF (Rows M K) (Rows K N) (Rows M N) [1] [0] [0] [1] [] []) :
    Plain (⟨[1], [0], [0], [1], [], [], h⟩ : DotDims (Rows M K) (Rows K N) (Rows M N)) :=
  ⟨rfl, fun _ _ => Shape.idx_ext₂ rfl rfl, fun _ _ => Shape.idx_ext₂ rfl rfl⟩

variable {φ ψ : FTy}

/-- The product of two tiles is a block of terms. -/
theorem adds_along {d : DotDims (Rows p b) (Rows b q) (Rows p q)} (hd : Plain d) {k u v : ℕ} {x : FVec Ideal (Rows p b) φ}
    {y : FVec Ideal (Stack 1 b q) ψ} {A : FVec Ideal (Rows M K) φ} {W : FVec Ideal (Stack S K w) ψ} (hx : Left u k x A)
    (hy : Right k v y W) (hc : (Stack 1 b q).ShapeCasts (Rows b q)) :
    Adds (along A W) b k u v (matmul (φ₂ := ψ) d none x (shapeCast (Rows b q) y hc) (constant (F := Ideal) (Rows p q) .f32 0x00000000#32)) :=
  fun z => by
  refine (Ideal.matmul_apply₁_of d hd.over rfl x _ _ z _ _ (hd.left z) (hd.right z)).trans ?_
  show Ideal.ofBits .f32 0x00000000#32 + _ = _
  rw [Ideal.ofBits_zero_f32, zero_add, Finset.sum_range]
  refine Finset.sum_congr rfl fun t _ => congrArg₂ (· * ·) (hx _) ?_
  exact (ValueIdx.shapeCast_1ab_ab_apply y hc t (z 1)).trans (hy _)

/-- The matrix whose columns lie in parts, made whole. -/
theorem joined_eq (W : (Stack S K w).Idx → EReal) (hN : N = S * w) (h : (Stack S K w).Transposes [1, 0, 2] (Stack K S w))
    (h' : (Stack K S w).ShapeCasts (Rows K N)) (r : Fin K) (c : Fin N) :
    shapeCast (Rows K N) (transpose (Stack K S w) [1, 0, 2] W h) h' (ValueIdx.ix2 r c) = joined W r.val c.val := by
  subst hN
  have pos : 0 < w := Nat.pos_of_ne_zero fun e => Nat.not_lt_zero _ (lt_of_lt_of_eq c.isLt (by rw [e, Nat.mul_zero]))
  have h0 : c.val / w < S := Nat.div_lt_of_lt_mul (lt_of_lt_of_eq c.isLt (Nat.mul_comm _ _))
  have h2 : c.val % w < w := Nat.mod_lt _ pos
  rw [shapeCast_apply _ h' _ (ValueIdx.ix3 r ⟨c.val / w, h0⟩ ⟨c.val % w, h2⟩) (by
      rw [Shape.rowMajor_val_two, Shape.rowMajor_val_three]
      show (r.val * S + c.val / w) * w + c.val % w = r.val * (S * w) + c.val
      have := Nat.div_add_mod c.val w
      calc _ = r.val * (S * w) + (w * (c.val / w) + c.val % w) := by ring
        _ = _ := by rw [this]),
    transpose_apply [1, 0, 2] _ h _ (ValueIdx.ix3 ⟨c.val / w, h0⟩ r ⟨c.val % w, h2⟩) (fun a => match a with
      | ⟨0, _⟩ => rfl
      | ⟨1, _⟩ => rfl
      | ⟨2, _⟩ => rfl)]
  unfold joined
  rw [dif_pos ⟨h0, r.isLt, h2⟩]

/-- The reference's product. -/
theorem times_eq {d : DotDims (Rows M K) (Rows K N) (Rows M N)} (hd : Plain d) (hN : N = S * w) (A : FVec Ideal (Rows M K) φ)
    (W : FVec Ideal (Stack S K w) ψ) (h : (Stack S K w).Transposes [1, 0, 2] (Stack K S w))
    (h' : (Stack K S w).ShapeCasts (Rows K N)) :
    Host.dotGeneral (φ₂ := ψ) d none A (shapeCast (Rows K N) (transpose (Stack K S w) [1, 0, 2] W h) h') = times A W := funext fun i => by
  refine (Ideal.matmul_apply₁_of d hd.over rfl A _ (fun _ => 0) i _ _ (hd.left i) (hd.right i)).trans ((zero_add _).trans ?_)
  show _ = Finset.sum _ _
  rw [Finset.sum_range]
  exact Finset.sum_congr rfl fun t _ => congrArg₂ (· * ·) (entry_val A _).symm (joined_eq W hN h h' t (i 1))

/-! ## The product with the second transposed -/

/-- The term `t` of entry `(r, c)` of the product with the second transposed. -/
def across (A : (Rows M N).Idx → EReal) (W : (Stack S K w).Idx → EReal) (r c t : ℕ) : EReal := entry A r t * joined W c t

/-- The product with the second transposed. -/
def timesT (A : (Rows M N).Idx → EReal) (W : (Stack S K w).Idx → EReal) : (Rows M K).Idx → EReal := fun i =>
  ∑ t ∈ Finset.range N, across A W (i 0).val (i 1).val t

/-- What says that `d` takes the product with the second transposed. -/
structure Across (d : DotDims (Rows M K) (Rows N K) (Rows M N)) : Prop where
  over : d.lhsContracting = [1]
  left : ∀ j k, Shape.Idx.norm (d.lhsIdx j (d.contrIdx₁ over rfl k)) = ValueIdx.ix2 (j 0) k
  right : ∀ j k, Shape.Idx.norm (d.rhsIdx j (d.contrIdx₁ over rfl k)) = ValueIdx.ix2 (j 1) k

theorem turned (h : DotDims.WF (Rows M K) (Rows N K) (Rows M N) [1] [1] [0] [0] [] []) :
    Across (⟨[1], [1], [0], [0], [], [], h⟩ : DotDims (Rows M K) (Rows N K) (Rows M N)) :=
  ⟨rfl, fun _ _ => Shape.idx_ext₂ rfl rfl, fun _ _ => Shape.idx_ext₂ rfl rfl⟩

/-- The product of two tiles is a block of terms. -/
theorem adds_across {d : DotDims (Rows p b) (Rows q b) (Rows p q)} (hd : Across d) {k u v : ℕ} {x : FVec Ideal (Rows p b) φ}
    {y : FVec Ideal (Stack 1 q b) ψ} {A : FVec Ideal (Rows M N) φ} {W : FVec Ideal (Stack S K w) ψ} (hx : Left u k x A)
    (hy : Right v k y W) (hc : (Stack 1 q b).ShapeCasts (Rows q b)) :
    Adds (across A W) b k u v (matmul (φ₂ := ψ) d none x (shapeCast (Rows q b) y hc) (constant (F := Ideal) (Rows p q) .f32 0x00000000#32)) :=
  fun z => by
  refine (Ideal.matmul_apply₁_of d hd.over rfl x _ _ z _ _ (hd.left z) (hd.right z)).trans ?_
  show Ideal.ofBits .f32 0x00000000#32 + _ = _
  rw [Ideal.ofBits_zero_f32, zero_add, Finset.sum_range]
  refine Finset.sum_congr rfl fun t _ => congrArg₂ (· * ·) (hx _) ?_
  exact (ValueIdx.shapeCast_1ab_ab_apply y hc (z 1) t).trans (hy _)

/-- The reference's product with the second transposed. -/
theorem timesT_eq {d : DotDims (Rows M N) (Rows N K) (Rows M K)} (hd : Plain d) (hN : N = S * w) (A : FVec Ideal (Rows M N) φ)
    (W : FVec Ideal (Stack S K w) ψ) (h : (Stack S K w).Transposes [1, 0, 2] (Stack K S w))
    (h' : (Stack K S w).ShapeCasts (Rows K N)) (ht : (Rows K N).Transposes [1, 0] (Rows N K)) :
    Host.dotGeneral (φ₂ := ψ) d none A
      (transpose (Rows N K) [1, 0] (shapeCast (Rows K N) (transpose (Stack K S w) [1, 0, 2] W h) h') ht) = timesT A W :=
  funext fun i => by
  refine (Ideal.matmul_apply₁_of d hd.over rfl A _ (fun _ => 0) i _ _ (hd.left i) (hd.right i)).trans ((zero_add _).trans ?_)
  show _ = Finset.sum _ _
  rw [Finset.sum_range]
  refine Finset.sum_congr rfl fun t _ => congrArg₂ (· * ·) (entry_val A _).symm ?_
  exact (transpose_apply [1, 0] _ ht _ (ValueIdx.ix2 (i 1) t) (fun a => match a with
    | ⟨0, _⟩ => rfl
    | ⟨1, _⟩ => rfl)).trans (joined_eq W hN h h' (i 1) t)

/-! ## A tile in its place -/

/-- A tile of the sums of all the terms, in its place. -/
theorem Upto.put {n u v : ℕ} {o : Fin 2 → ℕ} (ho : o 0 = u ∧ o 1 = v) {acc : (Rows p q).Idx → EReal} (h : Upto f n u v acc)
    {z : (Rows p q).Idx} {i : (Rows M N).Idx} (h0 : (i 0).val = o 0 * p + 1 * (z 0).val)
    (h1 : (i 1).val = o 1 * q + 1 * (z 1).val) : acc z = ∑ t ∈ Finset.range n, f (i 0).val (i 1).val t := by
  rw [h z, h0, h1, ho.1, ho.2, Nat.one_mul, Nat.one_mul]

end Cert.Factors

end
-- ==== Proof.ProjInClaims.lean ====
module

public import proofs.«01_k».proof.Defs
public import proofs.«01_k».proof.Proof.Calls
public import proofs.«01_k».proof.Proof.Factors
public import proofs.«01_k».proof.Proof.Gen.ProjIn
public import proofs.«01_k».proof.Proof.Gen.ProjIn.Frame
public import proofs.«01_k».proof.Proof.Gen.ProjInIdeal.Frame
public import proofs.«01_k».proof.Proof.Gen.ProjInRefIdeal.Run
public import Idealize.ShloMosaic.Lib.Pipeline.ValueKit.Geometry
public import Idealize.ShloMosaic.Lib.Tactic
public import Idealize.ShloMosaic.Lib.Quiescent

@[expose] public section

noncomputable section

/-!
The claims about `ProjIn`: the product of the normalized activations with w_in.
-/

namespace Cert.ProjInIdeal.Own

open Cert.ProjInIdeal Cert.ProjInIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x2048 .bf16) (h3 : a3.IsWhole) (a4 : Memref sig .tc .vmem S1x2048x896 .bf16) (h4 : a4.IsWhole)
variable (a5 : Memref sig .tc .vmem S1088x896 .f32) (h5 : a5.IsWhole) (a6 : Memref sig .tc .vmem S1088x896 .f32) (h6 : a6.IsWhole)
variable (x : Vec F S1088x2048 .bf16) (y : Vec F S1x2048x896 .bf16)

theorem out_A : out0_A_2 c i a3 h3 a4 h4 a5 h5 a6 h6 x y = k0_pay1 x y := by
  unfold out0_A_2 kernelRun0_A
  dsimp only
  rw [Calls.kept _ _ zeros]
  simp only [Calls.found h3 zeros, Calls.found h4 zeros₃]

end Cases

/-! ## The claims -/

/-- Where each window's block lies at each step. -/
theorem place : ∀ t : Fin cfg0.N,
    (win0_0.index t 0 = t.val % 4 ∧ win0_0.index t 1 = 0)
    ∧ (win0_1.index t 1 = 0 ∧ win0_1.index t 0 * 2 + win0_1.index t 2 = t.val / 4)
    ∧ (win0_2.index t 0 = t.val % 4 ∧ win0_2.index t 1 = t.val / 4) :=
  (by decide +kernel : ∀ t : Fin grid0.N, _)

section Value
variable (m : (ℓ : Loc nD τ sig) → Buf (Elt Ideal) ℓ) (c : Dev nD)

/-- What a step adds. -/
theorem step (t : Fin cfg0.N) : Adds (along (m ((c : Thread nD τ).loc main_arg0)) (m ((c : Thread nD τ).loc main_arg1)))
    2048 (0) (t.val % 4) (t.val / 4) (k0_pay1 (F := Ideal) (iblk m c 0 t) (iblk m c 1 t)) :=
  adds_along (plain _) (.of_offset (place t).1 (fun _ => rfl) (fun _ => rfl) _)
    (.of_offset (m := 2) rfl (place t).2.1 (fun _ => rfl) (fun _ => rfl) (fun _ => rfl) _) _

theorem covers : (cfg0.win 2).Covers := by decide +kernel

/-- The array it leaves. -/
theorem result : (dats m 0 c).arrAt 2 cfg0.N = times (m ((c : Thread nD τ).loc main_arg0)) (m ((c : Thread nD τ).loc main_arg1)) :=
  (dats m 0 c).arrAt_eq_of_covers 2 _ covers fun t _ y =>
    (congrFun ((after0_2 m c t).trans (out_A ..)) y).trans (((step m c t).upto rfl).put (place t).2.2 rfl rfl)

end Value

theorem frame_ideal : Cert.quiescent_ProjInIdeal := fun m g _ => Gen.frame m g

theorem bodies : Cert.ProjIn.defs (F := Bits) = Cert.ProjInIdeal.defs :=
  congrArg (Pipeline.defs _) (congrArg Defs.onTc (funext fun l => funext fun a => match l, a with
    | ⟨0, _⟩, ⟨_, _⟩ => rfl))

theorem frame_bits : Cert.quiescent_ProjIn := fun m g _ => by
  rw [bodies]
  exact Gen.frame (F := Bits) m g

theorem reference_ideal : Cert.quiescent_ProjInRefIdeal := fun m g _ => Calls.quiet (by decide) (Cert.ProjInRefIdeal.Value.run m g)

theorem value_ideal : Cert.algebraic_ProjInIdeal_ProjInRefIdeal := fun m g m' g' _ hm =>
  ⟨_, (θ_run (Cert.ProjInIdeal.defs (F := Ideal)) _ _).mono
      (fun _ h c => ⟨((h c).1 2).trans ((result m c).trans (by
          rw [← (hm c).1, ← (hm c).2]
          exact (times_eq (φ := .f32) (ψ := .f32) (plain _) rfl _ _ _ _).symm)),
        ((h c).1 0).trans ((dats m 0 c).arrAt_in 0 rfl _), ((h c).1 1).trans ((dats m 0 c).arrAt_in 1 rfl _)⟩) (run_main m g),
    Cert.ProjInRefIdeal.Value.run m' g'⟩

end Cert.ProjInIdeal.Own

end
-- ==== Proof.ProjOutClaims.lean ====
module

public import proofs.«01_k».proof.Defs
public import proofs.«01_k».proof.Proof.Calls
public import proofs.«01_k».proof.Proof.Factors
public import proofs.«01_k».proof.Proof.Gen.ProjOut
public import proofs.«01_k».proof.Proof.Gen.ProjOut.Frame
public import proofs.«01_k».proof.Proof.Gen.ProjOutIdeal.Frame
public import proofs.«01_k».proof.Proof.Gen.ProjOutRefIdeal.Run
public import Idealize.ShloMosaic.Lib.Pipeline.ValueKit.Geometry
public import Idealize.ShloMosaic.Lib.Tactic
public import Idealize.ShloMosaic.Lib.Quiescent

@[expose] public section

noncomputable section

/-!
The claims about `ProjOut`: the product of what the three mixers give with w_out.
-/

namespace Cert.ProjOutIdeal.Own

open Cert.ProjOutIdeal Cert.ProjOutIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x2048 .bf16) (h3 : a3.IsWhole) (a4 : Memref sig .tc .vmem S1x2048x1024 .bf16) (h4 : a4.IsWhole)
variable (a5 : Memref sig .tc .vmem S1088x1024 .f32) (h5 : a5.IsWhole) (a6 : Memref sig .tc .vmem S1088x1024 .f32) (h6 : a6.IsWhole)
variable (x : Vec F S1088x2048 .bf16) (y : Vec F S1x2048x1024 .bf16)

theorem out_A : out0_A_2 c i a3 h3 a4 h4 a5 h5 a6 h6 x y = k0_pay1 x y := by
  unfold out0_A_2 kernelRun0_A
  dsimp only
  rw [Calls.kept _ _ zeros]
  simp only [Calls.found h3 zeros, Calls.found h4 zeros₃]

end Cases

/-! ## The claims -/

/-- Where each window's block lies at each step. -/
theorem place : ∀ t : Fin cfg0.N,
    (win0_0.index t 0 = t.val % 4 ∧ win0_0.index t 1 = 0)
    ∧ (win0_1.index t 1 = 0 ∧ win0_1.index t 0 * 2 + win0_1.index t 2 = t.val / 4)
    ∧ (win0_2.index t 0 = t.val % 4 ∧ win0_2.index t 1 = t.val / 4) :=
  (by decide +kernel : ∀ t : Fin grid0.N, _)

section Value
variable (m : (ℓ : Loc nD τ sig) → Buf (Elt Ideal) ℓ) (c : Dev nD)

/-- What a step adds. -/
theorem step (t : Fin cfg0.N) : Adds (along (m ((c : Thread nD τ).loc main_arg0)) (m ((c : Thread nD τ).loc main_arg1)))
    2048 (0) (t.val % 4) (t.val / 4) (k0_pay1 (F := Ideal) (iblk m c 0 t) (iblk m c 1 t)) :=
  adds_along (plain _) (.of_offset (place t).1 (fun _ => rfl) (fun _ => rfl) _)
    (.of_offset (m := 2) rfl (place t).2.1 (fun _ => rfl) (fun _ => rfl) (fun _ => rfl) _) _

theorem covers : (cfg0.win 2).Covers := by decide +kernel

/-- The array it leaves. -/
theorem result : (dats m 0 c).arrAt 2 cfg0.N = times (m ((c : Thread nD τ).loc main_arg0)) (m ((c : Thread nD τ).loc main_arg1)) :=
  (dats m 0 c).arrAt_eq_of_covers 2 _ covers fun t _ y =>
    (congrFun ((after0_2 m c t).trans (out_A ..)) y).trans (((step m c t).upto rfl).put (place t).2.2 rfl rfl)

end Value

theorem frame_ideal : Cert.quiescent_ProjOutIdeal := fun m g _ => Gen.frame m g

theorem bodies : Cert.ProjOut.defs (F := Bits) = Cert.ProjOutIdeal.defs :=
  congrArg (Pipeline.defs _) (congrArg Defs.onTc (funext fun l => funext fun a => match l, a with
    | ⟨0, _⟩, ⟨_, _⟩ => rfl))

theorem frame_bits : Cert.quiescent_ProjOut := fun m g _ => by
  rw [bodies]
  exact Gen.frame (F := Bits) m g

theorem reference_ideal : Cert.quiescent_ProjOutRefIdeal := fun m g _ => Calls.quiet (by decide) (Cert.ProjOutRefIdeal.Value.run m g)

theorem value_ideal : Cert.algebraic_ProjOutIdeal_ProjOutRefIdeal := fun m g m' g' _ hm =>
  ⟨_, (θ_run (Cert.ProjOutIdeal.defs (F := Ideal)) _ _).mono
      (fun _ h c => ⟨((h c).1 2).trans ((result m c).trans (by
          rw [← (hm c).1, ← (hm c).2]
          exact (times_eq (φ := .f32) (ψ := .f32) (plain _) rfl _ _ _ _).symm)),
        ((h c).1 0).trans ((dats m 0 c).arrAt_in 0 rfl _), ((h c).1 1).trans ((dats m 0 c).arrAt_in 1 rfl _)⟩) (run_main m g),
    Cert.ProjOutRefIdeal.Value.run m' g'⟩

end Cert.ProjOutIdeal.Own

end
-- ==== Proof.FfnUpClaims.lean ====
module

public import proofs.«01_k».proof.Defs
public import proofs.«01_k».proof.Proof.Calls
public import proofs.«01_k».proof.Proof.Factors
public import proofs.«01_k».proof.Proof.Gen.FfnUp
public import proofs.«01_k».proof.Proof.Gen.FfnUp.Frame
public import proofs.«01_k».proof.Proof.Gen.FfnUpIdeal.Frame
public import proofs.«01_k».proof.Proof.Gen.FfnUpRefIdeal.Run
public import Idealize.ShloMosaic.Lib.Pipeline.ValueKit.Geometry
public import Idealize.ShloMosaic.Lib.Tactic
public import Idealize.ShloMosaic.Lib.Quiescent

@[expose] public section

noncomputable section

/-!
The claims about `FfnUp`: the product of the normalized activations with w_up.
-/

namespace Cert.FfnUpIdeal.Own

open Cert.FfnUpIdeal Cert.FfnUpIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x2048 .bf16) (h3 : a3.IsWhole) (a4 : Memref sig .tc .vmem S1x2048x1408 .bf16) (h4 : a4.IsWhole)
variable (a5 : Memref sig .tc .vmem S1088x1408 .f32) (h5 : a5.IsWhole) (a6 : Memref sig .tc .vmem S1088x1408 .f32) (h6 : a6.IsWhole)
variable (x : Vec F S1088x2048 .bf16) (y : Vec F S1x2048x1408 .bf16)

theorem out_A : out0_A_2 c i a3 h3 a4 h4 a5 h5 a6 h6 x y = k0_pay1 x y := by
  unfold out0_A_2 kernelRun0_A
  dsimp only
  rw [Calls.kept _ _ zeros]
  simp only [Calls.found h3 zeros, Calls.found h4 zeros₃]

end Cases

/-! ## The claims -/

/-- Where each window's block lies at each step. -/
theorem place : ∀ t : Fin cfg0.N,
    (win0_0.index t 0 = t.val % 4 ∧ win0_0.index t 1 = 0)
    ∧ (win0_1.index t 1 = 0 ∧ win0_1.index t 0 * 2 + win0_1.index t 2 = t.val / 4)
    ∧ (win0_2.index t 0 = t.val % 4 ∧ win0_2.index t 1 = t.val / 4) :=
  (by decide +kernel : ∀ t : Fin grid0.N, _)

section Value
variable (m : (ℓ : Loc nD τ sig) → Buf (Elt Ideal) ℓ) (c : Dev nD)

/-- What a step adds. -/
theorem step (t : Fin cfg0.N) : Adds (along (m ((c : Thread nD τ).loc main_arg0)) (m ((c : Thread nD τ).loc main_arg1)))
    2048 (0) (t.val % 4) (t.val / 4) (k0_pay1 (F := Ideal) (iblk m c 0 t) (iblk m c 1 t)) :=
  adds_along (plain _) (.of_offset (place t).1 (fun _ => rfl) (fun _ => rfl) _)
    (.of_offset (m := 2) rfl (place t).2.1 (fun _ => rfl) (fun _ => rfl) (fun _ => rfl) _) _

theorem covers : (cfg0.win 2).Covers := by decide +kernel

/-- The array it leaves. -/
theorem result : (dats m 0 c).arrAt 2 cfg0.N = times (m ((c : Thread nD τ).loc main_arg0)) (m ((c : Thread nD τ).loc main_arg1)) :=
  (dats m 0 c).arrAt_eq_of_covers 2 _ covers fun t _ y =>
    (congrFun ((after0_2 m c t).trans (out_A ..)) y).trans (((step m c t).upto rfl).put (place t).2.2 rfl rfl)

end Value

theorem frame_ideal : Cert.quiescent_FfnUpIdeal := fun m g _ => Gen.frame m g

theorem bodies : Cert.FfnUp.defs (F := Bits) = Cert.FfnUpIdeal.defs :=
  congrArg (Pipeline.defs _) (congrArg Defs.onTc (funext fun l => funext fun a => match l, a with
    | ⟨0, _⟩, ⟨_, _⟩ => rfl))

theorem frame_bits : Cert.quiescent_FfnUp := fun m g _ => by
  rw [bodies]
  exact Gen.frame (F := Bits) m g

theorem reference_ideal : Cert.quiescent_FfnUpRefIdeal := fun m g _ => Calls.quiet (by decide) (Cert.FfnUpRefIdeal.Value.run m g)

theorem value_ideal : Cert.algebraic_FfnUpIdeal_FfnUpRefIdeal := fun m g m' g' _ hm =>
  ⟨_, (θ_run (Cert.FfnUpIdeal.defs (F := Ideal)) _ _).mono
      (fun _ h c => ⟨((h c).1 2).trans ((result m c).trans (by
          rw [← (hm c).1, ← (hm c).2]
          exact (times_eq (φ := .f32) (ψ := .f32) (plain _) rfl _ _ _ _).symm)),
        ((h c).1 0).trans ((dats m 0 c).arrAt_in 0 rfl _), ((h c).1 1).trans ((dats m 0 c).arrAt_in 1 rfl _)⟩) (run_main m g),
    Cert.FfnUpRefIdeal.Value.run m' g'⟩

end Cert.FfnUpIdeal.Own

end
-- ==== Proof.FfnDownClaims.lean ====
module

public import proofs.«01_k».proof.Defs
public import proofs.«01_k».proof.Proof.Calls
public import proofs.«01_k».proof.Proof.Factors
public import proofs.«01_k».proof.Proof.Gen.FfnDown
public import proofs.«01_k».proof.Proof.Gen.FfnDown.Frame
public import proofs.«01_k».proof.Proof.Gen.FfnDownIdeal.Frame
public import proofs.«01_k».proof.Proof.Gen.FfnDownRefIdeal.Run
public import Idealize.ShloMosaic.Lib.Pipeline.ValueKit.Geometry
public import Idealize.ShloMosaic.Lib.Tactic
public import Idealize.ShloMosaic.Lib.Quiescent

@[expose] public section

noncomputable section

/-!
The claims about `FfnDown`: the product of the gated activations with w_down.
-/

namespace Cert.FfnDownIdeal.Own

open Cert.FfnDownIdeal Cert.FfnDownIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1408 .bf16) (h3 : a3.IsWhole) (a4 : Memref sig .tc .vmem S1x1408x1024 .bf16) (h4 : a4.IsWhole)
variable (a5 : Memref sig .tc .vmem S1088x1024 .f32) (h5 : a5.IsWhole) (a6 : Memref sig .tc .vmem S1088x1024 .f32) (h6 : a6.IsWhole)
variable (x : Vec F S1088x1408 .bf16) (y : Vec F S1x1408x1024 .bf16) (acc : Vec F S1088x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros₃, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros₃, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros₃, Calls.found h6 zeros, shapeCast_self]

theorem out_C (e0 : ¬cond0_0 i) (e1 : cond0_1 i) (e2 : cond0_2 i) :
    out0_C_2 c i a3 h3 a4 h4 a5 h5 a6 h6 e0 e1 e2 x y acc = addf acc (k0_pay1 x y) := by
  unfold out0_C_2 kernelRun0_C
  dsimp only
  sl_unfold_words
  rw [Calls.kept _ _ zeros, View.readCov_unit_zero (S := S1088x1024) _ zeros]
  unfold k0_pay3
  simp only [Calls.found h3 zeros, Calls.found h4 zeros₃, Calls.found h6 zeros, shapeCast_self]

end Cases

/-! ## The claims -/

/-- Where each window's block lies at each step. -/
theorem place : ∀ t : Fin cfg0.N,
    (win0_0.index t 0 = t.val / 4 % 4 ∧ win0_0.index t 1 = t.val % 4)
    ∧ (win0_1.index t 1 = t.val % 4 ∧ win0_1.index t 0 * 2 + win0_1.index t 2 = t.val / 4 / 4)
    ∧ (win0_2.index t 0 = t.val / 4 % 4 ∧ win0_2.index t 1 = t.val / 4 / 4) :=
  (by decide +kernel : ∀ t : Fin grid0.N, _)

section Value
variable (m : (ℓ : Loc nD τ sig) → Buf (Elt Ideal) ℓ) (c : Dev nD)

/-- What a step adds. -/
theorem step (t : Fin cfg0.N) : Adds (along (m ((c : Thread nD τ).loc main_arg0)) (m ((c : Thread nD τ).loc main_arg1)))
    1408 (t.val % 4) (t.val / 4 % 4) (t.val / 4 / 4) (k0_pay1 (F := Ideal) (iblk m c 0 t) (iblk m c 1 t)) :=
  adds_along (plain _) (.of_offset (place t).1 (fun _ => rfl) (fun _ => rfl) _)
    (.of_offset (m := 2) rfl (place t).2.1 (fun _ => rfl) (fun _ => rfl) (fun _ => rfl) _) _

/-- The running sum after each step. -/
theorem sums : ∀ (n : ℕ) (hn : n < cfg0.N), Upto (along (m ((c : Thread nD τ).loc main_arg0)) (m ((c : Thread nD τ).loc main_arg1)))
    (n % 4 * 1408 + 1408) (n / 4 % 4) (n / 4 / 4) (outsAt0 m c n hn).2 :=
  Factors.sums (u := (· % 4)) (v := (· / 4)) (step m c) (fun t e => by rw [outsAt0_A m c t e (by omega) (by omega), sum_A])
    (fun t e => by
      by_cases last : t.val % 4 = 3
      · rw [outsAt0_C m c t e (by omega) last, sum_C]
      · rw [outsAt0_B m c t e (by omega) last, sum_B])

/-- What it writes back is the sum. -/
theorem written (t : Fin cfg0.N) (last : t.val % 4 = 3) :
    (outsAt0 m c t.val t.isLt).1 = (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N = times (m ((c : Thread nD τ).loc main_arg0)) (m ((c : Thread nD τ).loc main_arg1)) :=
  (dats m 0 c).arrAt_eq_of_covers 2 _ covers fun t hf y => by
    have last : t.val % 4 = 3 := (flush0_2 t).mp hf
    have whole := (sums m c t.val t.isLt).all (K := 5632) (by rw [last])
    exact (congrFun ((after0_2 m c t).trans (written m c t last)) y).trans (whole.put (place t).2.2 rfl rfl)

end Value

theorem frame_ideal : Cert.quiescent_FfnDownIdeal := fun m g _ => Gen.frame m g

theorem bodies : Cert.FfnDown.defs (F := Bits) = Cert.FfnDownIdeal.defs :=
  congrArg (Pipeline.defs _) (congrArg Defs.onTc (funext fun l => funext fun a => match l, a with
    | ⟨0, _⟩, ⟨_, _⟩ => rfl))

theorem frame_bits : Cert.quiescent_FfnDown := fun m g _ => by
  rw [bodies]
  exact Gen.frame (F := Bits) m g

theorem reference_ideal : Cert.quiescent_FfnDownRefIdeal := fun m g _ => Calls.quiet (by decide) (Cert.FfnDownRefIdeal.Value.run m g)

theorem value_ideal : Cert.algebraic_FfnDownIdeal_FfnDownRefIdeal := fun m g m' g' _ hm =>
  ⟨_, (θ_run (Cert.FfnDownIdeal.defs (F := Ideal)) _ _).mono
      (fun _ h c => ⟨((h c).1 2).trans ((result m c).trans (by
          rw [← (hm c).1, ← (hm c).2]
          exact (times_eq (φ := .f32) (ψ := .f32) (plain _) rfl _ _ _ _).symm)),
        ((h c).1 0).trans ((dats m 0 c).arrAt_in 0 rfl _), ((h c).1 1).trans ((dats m 0 c).arrAt_in 1 rfl _)⟩) (run_main m g),
    Cert.FfnDownRefIdeal.Value.run m' g'⟩

end Cert.FfnDownIdeal.Own

end
-- ==== Proof.AdaFwdClaims.lean ====
module

public import proofs.«01_k».proof.Defs
public import proofs.«01_k».proof.Proof.Calls
public import proofs.«01_k».proof.Proof.Factors
public import proofs.«01_k».proof.Proof.Gen.AdaFwd
public import proofs.«01_k».proof.Proof.Gen.AdaFwd.Frame
public import proofs.«01_k».proof.Proof.Gen.AdaFwdIdeal.Frame
public import proofs.«01_k».proof.Proof.Gen.AdaFwdRefIdeal.Run
public import Idealize.ShloMosaic.Lib.Pipeline.ValueKit.Geometry
public import Idealize.ShloMosaic.Lib.Tactic
public import Idealize.ShloMosaic.Lib.Quiescent

@[expose] public section

noncomputable section

/-!
The claims about `AdaFwd`: the product of the rows of the conditioning with w_ada.
-/

namespace Cert.AdaFwdIdeal.Own

open Cert.AdaFwdIdeal Cert.AdaFwdIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S16x2048 .f32) (h3 : a3.IsWhole) (a4 : Memref sig .tc .vmem S1x2048x1024 .f32) (h4 : a4.IsWhole)
variable (a5 : Memref sig .tc .vmem S16x1024 .f32) (h5 : a5.IsWhole) (a6 : Memref sig .tc .vmem S16x1024 .f32) (h6 : a6.IsWhole)
variable (x : Vec F S16x2048 .f32) (y : Vec F S1x2048x1024 .f32)

theorem out_A : out0_A_2 c i a3 h3 a4 h4 a5 h5 a6 h6 x y = k0_pay1 x y := by
  unfold out0_A_2 kernelRun0_A
  dsimp only
  rw [Calls.kept _ _ zeros]
  simp only [Calls.found h3 zeros, Calls.found h4 zeros₃]

end Cases

/-! ## The claims -/

/-- Where each window's block lies at each step. -/
theorem place : ∀ t : Fin cfg0.N,
    (win0_0.index t 0 = t.val % 1 ∧ win0_0.index t 1 = 0)
    ∧ (win0_1.index t 1 = 0 ∧ win0_1.index t 0 * 3 + win0_1.index t 2 = t.val / 1)
    ∧ (win0_2.index t 0 = t.val % 1 ∧ win0_2.index t 1 = t.val / 1) :=
  (by decide +kernel : ∀ t : Fin grid0.N, _)

section Value
variable (m : (ℓ : Loc nD τ sig) → Buf (Elt Ideal) ℓ) (c : Dev nD)

/-- What a step adds. -/
theorem step (t : Fin cfg0.N) : Adds (along (m ((c : Thread nD τ).loc main_arg0)) (m ((c : Thread nD τ).loc main_arg1)))
    2048 (0) (t.val % 1) (t.val / 1) (k0_pay1 (F := Ideal) (iblk m c 0 t) (iblk m c 1 t)) :=
  adds_along (φ := .bf16) (ψ := .bf16) (plain _) (.of_offset (place t).1 (fun _ => rfl) (fun _ => rfl) _)
    (.of_offset (m := 3) rfl (place t).2.1 (fun _ => rfl) (fun _ => rfl) (fun _ => rfl) _) _

theorem covers : (cfg0.win 2).Covers := by decide +kernel

/-- The array it leaves. -/
theorem result : (dats m 0 c).arrAt 2 cfg0.N = times (m ((c : Thread nD τ).loc main_arg0)) (m ((c : Thread nD τ).loc main_arg1)) :=
  (dats m 0 c).arrAt_eq_of_covers 2 _ covers fun t _ y =>
    (congrFun ((after0_2 m c t).trans (out_A ..)) y).trans (((step m c t).upto rfl).put (place t).2.2 rfl rfl)

end Value

theorem frame_ideal : Cert.quiescent_AdaFwdIdeal := fun m g _ => Gen.frame m g

theorem bodies : Cert.AdaFwd.defs (F := Bits) = Cert.AdaFwdIdeal.defs :=
  congrArg (Pipeline.defs _) (congrArg Defs.onTc (funext fun l => funext fun a => match l, a with
    | ⟨0, _⟩, ⟨_, _⟩ => rfl))

theorem frame_bits : Cert.quiescent_AdaFwd := fun m g _ => by
  rw [bodies]
  exact Gen.frame (F := Bits) m g

theorem reference_ideal : Cert.quiescent_AdaFwdRefIdeal := fun m g _ => Calls.quiet (by decide) (Cert.AdaFwdRefIdeal.Value.run m g)

theorem value_ideal : Cert.algebraic_AdaFwdIdeal_AdaFwdRefIdeal := fun m g m' g' _ hm =>
  ⟨_, (θ_run (Cert.AdaFwdIdeal.defs (F := Ideal)) _ _).mono
      (fun _ h c => ⟨((h c).1 2).trans ((result m c).trans (by
          rw [← (hm c).1, ← (hm c).2]
          exact (times_eq (φ := .f32) (ψ := .f32) (plain _) rfl _ _ _ _).symm)),
        ((h c).1 0).trans ((dats m 0 c).arrAt_in 0 rfl _), ((h c).1 1).trans ((dats m 0 c).arrAt_in 1 rfl _)⟩) (run_main m g),
    Cert.AdaFwdRefIdeal.Value.run m' g'⟩

end Cert.AdaFwdIdeal.Own

end
-- ==== Proof.ProjInBwdClaims.lean ====
module

public import proofs.«01_k».proof.Defs
public import proofs.«01_k».proof.Proof.Calls
public import proofs.«01_k».proof.Proof.Factors
public import proofs.«01_k».proof.Proof.Gen.ProjInBwd
public import proofs.«01_k».proof.Proof.Gen.ProjInBwd.Frame
public import proofs.«01_k».proof.Proof.Gen.ProjInBwdIdeal.Frame
public import proofs.«01_k».proof.Proof.Gen.ProjInBwdRefIdeal.Run
public import Idealize.ShloMosaic.Lib.Pipeline.ValueKit.Geometry
public import Idealize.ShloMosaic.Lib.Tactic
public import Idealize.ShloMosaic.Lib.Quiescent

@[expose] public section

noncomputable section

/-!
The claims about `ProjInBwd`: the product of a cotangent with w_in, transposed.
-/

namespace Cert.ProjInBwdIdeal.Own

open Cert.ProjInBwdIdeal Cert.ProjInBwdIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x896 .bf16) (h3 : a3.IsWhole) (a4 : Memref sig .tc .vmem S1x1024x896 .bf16) (h4 : a4.IsWhole)
variable (a5 : Memref sig .tc .vmem S1088x1024 .f32) (h5 : a5.IsWhole) (a6 : Memref sig .tc .vmem S1088x1024 .f32) (h6 : a6.IsWhole)
variable (x : Vec F S1088x896 .bf16) (y : Vec F S1x1024x896 .bf16) (acc : Vec F S1088x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros₃, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros₃, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros₃, Calls.found h6 zeros, shapeCast_self]

theorem out_C (e0 : ¬cond0_0 i) (e1 : cond0_1 i) (e2 : cond0_2 i) :
    out0_C_2 c i a3 h3 a4 h4 a5 h5 a6 h6 e0 e1 e2 x y acc = addf acc (k0_pay1 x y) := by
  unfold out0_C_2 kernelRun0_C
  dsimp only
  sl_unfold_words
  rw [Calls.kept _ _ zeros, View.readCov_unit_zero (S := S1088x1024) _ zeros]
  unfold k0_pay3
  simp only [Calls.found h3 zeros, Calls.found h4 zeros₃, Calls.found h6 zeros, shapeCast_self]

end Cases

/-! ## The claims -/

/-- Where each window's block lies at each step. -/
theorem place : ∀ t : Fin cfg0.N,
    (win0_0.index t 0 = t.val / 8 % 4 ∧ win0_0.index t 1 = t.val % 8)
    ∧ (win0_1.index t 1 = t.val / 8 / 4 ∧ win0_1.index t 0 * 2 + win0_1.index t 2 = t.val % 8)
    ∧ (win0_2.index t 0 = t.val / 8 % 4 ∧ win0_2.index t 1 = t.val / 8 / 4) :=
  (by decide +kernel : ∀ t : Fin grid0.N, _)

section Value
variable (m : (ℓ : Loc nD τ sig) → Buf (Elt Ideal) ℓ) (c : Dev nD)

/-- What a step adds. -/
theorem step (t : Fin cfg0.N) : Adds (across (m ((c : Thread nD τ).loc main_arg0)) (m ((c : Thread nD τ).loc main_arg1)))
    896 (t.val % 8) (t.val / 8 % 4) (t.val / 8 / 4) (k0_pay1 (F := Ideal) (iblk m c 0 t) (iblk m c 1 t)) :=
  adds_across (φ := .bf16) (ψ := .bf16) (turned dot_S1088x896_S1024x896_S1088x1024_1_1_0_0_n_n.wf)
    (.of_offset (place t).1 (fun _ => rfl) (fun _ => rfl) _)
    (.of_offset (m := 2) rfl (place t).2.1 (fun _ => rfl) (fun _ => rfl) (fun _ => rfl) _) shapeCasts_S1x1024x896_S1024x896

/-- The running sum after each step. -/
theorem sums : ∀ (n : ℕ) (hn : n < cfg0.N), Upto (across (m ((c : Thread nD τ).loc main_arg0)) (m ((c : Thread nD τ).loc main_arg1)))
    (n % 8 * 896 + 896) (n / 8 % 4) (n / 8 / 4) (outsAt0 m c n hn).2 :=
  Factors.sums (u := (· % 4)) (v := (· / 4)) (step m c) (fun t e => by rw [outsAt0_A m c t e (by omega) (by omega), sum_A])
    (fun t e => by
      by_cases last : t.val % 8 = 7
      · rw [outsAt0_C m c t e (by omega) last, sum_C]
      · rw [outsAt0_B m c t e (by omega) last, sum_B])

/-- What it writes back is the sum. -/
theorem written (t : Fin cfg0.N) (last : t.val % 8 = 7) :
    (outsAt0 m c t.val t.isLt).1 = (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N = timesT (m ((c : Thread nD τ).loc main_arg0)) (m ((c : Thread nD τ).loc main_arg1)) :=
  (dats m 0 c).arrAt_eq_of_covers 2 _ covers fun t hf y => by
    have last : t.val % 8 = 7 := (flush0_2 t).mp hf
    have whole := (sums m c t.val t.isLt).all (K := 7168) (by rw [last])
    exact (congrFun ((after0_2 m c t).trans (written m c t last)) y).trans (whole.put (place t).2.2 rfl rfl)

end Value

theorem frame_ideal : Cert.quiescent_ProjInBwdIdeal := fun m g _ => Gen.frame m g

theorem bodies : Cert.ProjInBwd.defs (F := Bits) = Cert.ProjInBwdIdeal.defs :=
  congrArg (Pipeline.defs _) (congrArg Defs.onTc (funext fun l => funext fun a => match l, a with
    | ⟨0, _⟩, ⟨_, _⟩ => rfl))

theorem frame_bits : Cert.quiescent_ProjInBwd := fun m g _ => by
  rw [bodies]
  exact Gen.frame (F := Bits) m g

theorem reference_ideal : Cert.quiescent_ProjInBwdRefIdeal := fun m g _ => Calls.quiet (by decide) (Cert.ProjInBwdRefIdeal.Value.run m g)

theorem value_ideal : Cert.algebraic_ProjInBwdIdeal_ProjInBwdRefIdeal := fun m g m' g' _ hm =>
  ⟨_, (θ_run (Cert.ProjInBwdIdeal.defs (F := Ideal)) _ _).mono
      (fun _ h c => ⟨((h c).1 2).trans ((result m c).trans (by
          rw [← (hm c).1, ← (hm c).2]
          exact (timesT_eq (φ := .f32) (ψ := .f32) (plain _) rfl _ _ _ _ _).symm)),
        ((h c).1 0).trans ((dats m 0 c).arrAt_in 0 rfl _), ((h c).1 1).trans ((dats m 0 c).arrAt_in 1 rfl _)⟩) (run_main m g),
    Cert.ProjInBwdRefIdeal.Value.run m' g'⟩

end Cert.ProjInBwdIdeal.Own

end
-- ==== Proof.ProjOutBwdClaims.lean ====
module

public import proofs.«01_k».proof.Defs
public import proofs.«01_k».proof.Proof.Calls
public import proofs.«01_k».proof.Proof.Factors
public import proofs.«01_k».proof.Proof.Gen.ProjOutBwd
public import proofs.«01_k».proof.Proof.Gen.ProjOutBwd.Frame
public import proofs.«01_k».proof.Proof.Gen.ProjOutBwdIdeal.Frame
public import proofs.«01_k».proof.Proof.Gen.ProjOutBwdRefIdeal.Run
public import Idealize.ShloMosaic.Lib.Pipeline.ValueKit.Geometry
public import Idealize.ShloMosaic.Lib.Tactic
public import Idealize.ShloMosaic.Lib.Quiescent

@[expose] public section

noncomputable section

/-!
The claims about `ProjOutBwd`: the product of a cotangent with w_out, transposed.
-/

namespace Cert.ProjOutBwdIdeal.Own

open Cert.ProjOutBwdIdeal Cert.ProjOutBwdIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1024 .bf16) (h3 : a3.IsWhole) (a4 : Memref sig .tc .vmem S1x1024x1024 .bf16) (h4 : a4.IsWhole)
variable (a5 : Memref sig .tc .vmem S1088x1024 .f32) (h5 : a5.IsWhole) (a6 : Memref sig .tc .vmem S1088x1024 .f32) (h6 : a6.IsWhole)
variable (x : Vec F S1088x1024 .bf16) (y : Vec F S1x1024x1024 .bf16) (acc : Vec F S1088x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros₃, shapeCast_self]

theorem sum_B (e0 : ¬cond0_0 i) (e1 : cond0_1 i) (e2 : cond0_2 i) :
    sout0_B_0 c i a3 h3 a4 h4 a5 h5 a6 h6 e0 e1 e2 x y acc = addf acc (k0_pay1 x y) := by
  unfold sout0_B_0 kernelRun0_B
  dsimp only
  sl_unfold_words
  rw [Calls.kept _ _ zeros]
  unfold k0_pay3
  simp only [Calls.found h3 zeros, Calls.found h4 zeros₃, Calls.found h6 zeros, shapeCast_self]

theorem out_B (e0 : ¬cond0_0 i) (e1 : cond0_1 i) (e2 : cond0_2 i) :
    out0_B_2 c i a3 h3 a4 h4 a5 h5 a6 h6 e0 e1 e2 x y acc = addf acc (k0_pay1 x y) := by
  unfold out0_B_2 kernelRun0_B
  dsimp only
  sl_unfold_words
  rw [Calls.kept _ _ zeros, View.readCov_unit_zero (S := S1088x1024) _ zeros]
  unfold k0_pay3
  simp only [Calls.found h3 zeros, Calls.found h4 zeros₃, Calls.found h6 zeros, shapeCast_self]

end Cases

/-! ## The claims -/

/-- Where each window's block lies at each step. -/
theorem place : ∀ t : Fin cfg0.N,
    (win0_0.index t 0 = t.val / 2 % 4 ∧ win0_0.index t 1 = t.val % 2)
    ∧ (win0_1.index t 1 = t.val / 2 / 4 ∧ win0_1.index t 0 * 2 + win0_1.index t 2 = t.val % 2)
    ∧ (win0_2.index t 0 = t.val / 2 % 4 ∧ win0_2.index t 1 = t.val / 2 / 4) :=
  (by decide +kernel : ∀ t : Fin grid0.N, _)

section Value
variable (m : (ℓ : Loc nD τ sig) → Buf (Elt Ideal) ℓ) (c : Dev nD)

/-- What a step adds. -/
theorem step (t : Fin cfg0.N) : Adds (across (m ((c : Thread nD τ).loc main_arg0)) (m ((c : Thread nD τ).loc main_arg1)))
    1024 (t.val % 2) (t.val / 2 % 4) (t.val / 2 / 4) (k0_pay1 (F := Ideal) (iblk m c 0 t) (iblk m c 1 t)) :=
  adds_across (φ := .bf16) (ψ := .bf16) (turned dot_S1088x1024_S1024x1024_S1088x1024_1_1_0_0_n_n.wf)
    (.of_offset (place t).1 (fun _ => rfl) (fun _ => rfl) _)
    (.of_offset (m := 2) rfl (place t).2.1 (fun _ => rfl) (fun _ => rfl) (fun _ => rfl) _) shapeCasts_S1x1024x1024_S1024x1024

/-- The running sum after each step. -/
theorem sums : ∀ (n : ℕ) (hn : n < cfg0.N), Upto (across (m ((c : Thread nD τ).loc main_arg0)) (m ((c : Thread nD τ).loc main_arg1)))
    (n % 2 * 1024 + 1024) (n / 2 % 4) (n / 2 / 4) (outsAt0 m c n hn).2 :=
  Factors.sums (u := (· % 4)) (v := (· / 4)) (step m c) (fun t e => by rw [outsAt0_A m c t e (by omega) (by omega), sum_A])
    (fun t e => by rw [outsAt0_B m c t e (by omega) (by omega), sum_B])

/-- What it writes back is the sum. -/
theorem written (t : Fin cfg0.N) (last : t.val % 2 = 1) :
    (outsAt0 m c t.val t.isLt).1 = (outsAt0 m c t.val t.isLt).2 := by
  rw [outsAt0_B m c t (by omega) last last]
  dsimp only
  rw [out_B, sum_B]

theorem covers : (cfg0.win 2).Covers := by decide +kernel

/-- The array it leaves. -/
theorem result : (dats m 0 c).arrAt 2 cfg0.N = timesT (m ((c : Thread nD τ).loc main_arg0)) (m ((c : Thread nD τ).loc main_arg1)) :=
  (dats m 0 c).arrAt_eq_of_covers 2 _ covers fun t hf y => by
    have last : t.val % 2 = 1 := (flush0_2 t).mp hf
    have whole := (sums m c t.val t.isLt).all (K := 2048) (by rw [last])
    exact (congrFun ((after0_2 m c t).trans (written m c t last)) y).trans (whole.put (place t).2.2 rfl rfl)

end Value

theorem frame_ideal : Cert.quiescent_ProjOutBwdIdeal := fun m g _ => Gen.frame m g

theorem bodies : Cert.ProjOutBwd.defs (F := Bits) = Cert.ProjOutBwdIdeal.defs :=
  congrArg (Pipeline.defs _) (congrArg Defs.onTc (funext fun l => funext fun a => match l, a with
    | ⟨0, _⟩, ⟨_, _⟩ => rfl))

theorem frame_bits : Cert.quiescent_ProjOutBwd := fun m g _ => by
  rw [bodies]
  exact Gen.frame (F := Bits) m g

theorem reference_ideal : Cert.quiescent_ProjOutBwdRefIdeal := fun m g _ => Calls.quiet (by decide) (Cert.ProjOutBwdRefIdeal.Value.run m g)

theorem value_ideal : Cert.algebraic_ProjOutBwdIdeal_ProjOutBwdRefIdeal := fun m g m' g' _ hm =>
  ⟨_, (θ_run (Cert.ProjOutBwdIdeal.defs (F := Ideal)) _ _).mono
      (fun _ h c => ⟨((h c).1 2).trans ((result m c).trans (by
          rw [← (hm c).1, ← (hm c).2]
          exact (timesT_eq (φ := .f32) (ψ := .f32) (plain _) rfl _ _ _ _ _).symm)),
        ((h c).1 0).trans ((dats m 0 c).arrAt_in 0 rfl _), ((h c).1 1).trans ((dats m 0 c).arrAt_in 1 rfl _)⟩) (run_main m g),
    Cert.ProjOutBwdRefIdeal.Value.run m' g'⟩

end Cert.ProjOutBwdIdeal.Own

end
-- ==== Proof.FfnUpBwdClaims.lean ====
module

public import proofs.«01_k».proof.Defs
public import proofs.«01_k».proof.Proof.Calls
public import proofs.«01_k».proof.Proof.Factors
public import proofs.«01_k».proof.Proof.Gen.FfnUpBwd
public import proofs.«01_k».proof.Proof.Gen.FfnUpBwd.Frame
public import proofs.«01_k».proof.Proof.Gen.FfnUpBwdIdeal.Frame
public import proofs.«01_k».proof.Proof.Gen.FfnUpBwdRefIdeal.Run
public import Idealize.ShloMosaic.Lib.Pipeline.ValueKit.Geometry
public import Idealize.ShloMosaic.Lib.Tactic
public import Idealize.ShloMosaic.Lib.Quiescent

@[expose] public section

noncomputable section

/-!
The claims about `FfnUpBwd`: the product of a cotangent with w_up, transposed.
-/

namespace Cert.FfnUpBwdIdeal.Own

open Cert.FfnUpBwdIdeal Cert.FfnUpBwdIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1408 .bf16) (h3 : a3.IsWhole) (a4 : Memref sig .tc .vmem S1x1024x1408 .bf16) (h4 : a4.IsWhole)
variable (a5 : Memref sig .tc .vmem S1088x1024 .f32) (h5 : a5.IsWhole) (a6 : Memref sig .tc .vmem S1088x1024 .f32) (h6 : a6.IsWhole)
variable (x : Vec F S1088x1408 .bf16) (y : Vec F S1x1024x1408 .bf16) (acc : Vec F S1088x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros₃, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros₃, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros₃, Calls.found h6 zeros, shapeCast_self]

theorem out_C (e0 : ¬cond0_0 i) (e1 : cond0_1 i) (e2 : cond0_2 i) :
    out0_C_2 c i a3 h3 a4 h4 a5 h5 a6 h6 e0 e1 e2 x y acc = addf acc (k0_pay1 x y) := by
  unfold out0_C_2 kernelRun0_C
  dsimp only
  sl_unfold_words
  rw [Calls.kept _ _ zeros, View.readCov_unit_zero (S := S1088x1024) _ zeros]
  unfold k0_pay3
  simp only [Calls.found h3 zeros, Calls.found h4 zeros₃, Calls.found h6 zeros, shapeCast_self]

end Cases

/-! ## The claims -/

/-- Where each window's block lies at each step. -/
theorem place : ∀ t : Fin cfg0.N,
    (win0_0.index t 0 = t.val / 8 % 4 ∧ win0_0.index t 1 = t.val % 8)
    ∧ (win0_1.index t 1 = t.val / 8 / 4 ∧ win0_1.index t 0 * 2 + win0_1.index t 2 = t.val % 8)
    ∧ (win0_2.index t 0 = t.val / 8 % 4 ∧ win0_2.index t 1 = t.val / 8 / 4) :=
  (by decide +kernel : ∀ t : Fin grid0.N, _)

section Value
variable (m : (ℓ : Loc nD τ sig) → Buf (Elt Ideal) ℓ) (c : Dev nD)

/-- What a step adds. -/
theorem step (t : Fin cfg0.N) : Adds (across (m ((c : Thread nD τ).loc main_arg0)) (m ((c : Thread nD τ).loc main_arg1)))
    1408 (t.val % 8) (t.val / 8 % 4) (t.val / 8 / 4) (k0_pay1 (F := Ideal) (iblk m c 0 t) (iblk m c 1 t)) :=
  adds_across (φ := .bf16) (ψ := .bf16) (turned dot_S1088x1408_S1024x1408_S1088x1024_1_1_0_0_n_n.wf)
    (.of_offset (place t).1 (fun _ => rfl) (fun _ => rfl) _)
    (.of_offset (m := 2) rfl (place t).2.1 (fun _ => rfl) (fun _ => rfl) (fun _ => rfl) _) shapeCasts_S1x1024x1408_S1024x1408

/-- The running sum after each step. -/
theorem sums : ∀ (n : ℕ) (hn : n < cfg0.N), Upto (across (m ((c : Thread nD τ).loc main_arg0)) (m ((c : Thread nD τ).loc main_arg1)))
    (n % 8 * 1408 + 1408) (n / 8 % 4) (n / 8 / 4) (outsAt0 m c n hn).2 :=
  Factors.sums (u := (· % 4)) (v := (· / 4)) (step m c) (fun t e => by rw [outsAt0_A m c t e (by omega) (by omega), sum_A])
    (fun t e => by
      by_cases last : t.val % 8 = 7
      · rw [outsAt0_C m c t e (by omega) last, sum_C]
      · rw [outsAt0_B m c t e (by omega) last, sum_B])

/-- What it writes back is the sum. -/
theorem written (t : Fin cfg0.N) (last : t.val % 8 = 7) :
    (outsAt0 m c t.val t.isLt).1 = (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N = timesT (m ((c : Thread nD τ).loc main_arg0)) (m ((c : Thread nD τ).loc main_arg1)) :=
  (dats m 0 c).arrAt_eq_of_covers 2 _ covers fun t hf y => by
    have last : t.val % 8 = 7 := (flush0_2 t).mp hf
    have whole := (sums m c t.val t.isLt).all (K := 11264) (by rw [last])
    exact (congrFun ((after0_2 m c t).trans (written m c t last)) y).trans (whole.put (place t).2.2 rfl rfl)

end Value

theorem frame_ideal : Cert.quiescent_FfnUpBwdIdeal := fun m g _ => Gen.frame m g

theorem bodies : Cert.FfnUpBwd.defs (F := Bits) = Cert.FfnUpBwdIdeal.defs :=
  congrArg (Pipeline.defs _) (congrArg Defs.onTc (funext fun l => funext fun a => match l, a with
    | ⟨0, _⟩, ⟨_, _⟩ => rfl))

theorem frame_bits : Cert.quiescent_FfnUpBwd := fun m g _ => by
  rw [bodies]
  exact Gen.frame (F := Bits) m g

theorem reference_ideal : Cert.quiescent_FfnUpBwdRefIdeal := fun m g _ => Calls.quiet (by decide) (Cert.FfnUpBwdRefIdeal.Value.run m g)

theorem value_ideal : Cert.algebraic_FfnUpBwdIdeal_FfnUpBwdRefIdeal := fun m g m' g' _ hm =>
  ⟨_, (θ_run (Cert.FfnUpBwdIdeal.defs (F := Ideal)) _ _).mono
      (fun _ h c => ⟨((h c).1 2).trans ((result m c).trans (by
          rw [← (hm c).1, ← (hm c).2]
          exact (timesT_eq (φ := .f32) (ψ := .f32) (plain _) rfl _ _ _ _ _).symm)),
        ((h c).1 0).trans ((dats m 0 c).arrAt_in 0 rfl _), ((h c).1 1).trans ((dats m 0 c).arrAt_in 1 rfl _)⟩) (run_main m g),
    Cert.FfnUpBwdRefIdeal.Value.run m' g'⟩

end Cert.FfnUpBwdIdeal.Own

end
-- ==== Proof.FfnDownBwdClaims.lean ====
module

public import proofs.«01_k».proof.Defs
public import proofs.«01_k».proof.Proof.Calls
public import proofs.«01_k».proof.Proof.Factors
public import proofs.«01_k».proof.Proof.Gen.FfnDownBwd
public import proofs.«01_k».proof.Proof.Gen.FfnDownBwd.Frame
public import proofs.«01_k».proof.Proof.Gen.FfnDownBwdIdeal.Frame
public import proofs.«01_k».proof.Proof.Gen.FfnDownBwdRefIdeal.Run
public import Idealize.ShloMosaic.Lib.Pipeline.ValueKit.Geometry
public import Idealize.ShloMosaic.Lib.Tactic
public import Idealize.ShloMosaic.Lib.Quiescent

@[expose] public section

noncomputable section

/-!
The claims about `FfnDownBwd`: the product of a cotangent with w_down, transposed.
-/

namespace Cert.FfnDownBwdIdeal.Own

open Cert.FfnDownBwdIdeal Cert.FfnDownBwdIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S1088x1024 .bf16) (h3 : a3.IsWhole) (a4 : Memref sig .tc .vmem S1x512x1024 .bf16) (h4 : a4.IsWhole)
variable (a5 : Memref sig .tc .vmem S1088x512 .f32) (h5 : a5.IsWhole) (a6 : Memref sig .tc .vmem S1088x512 .f32) (h6 : a6.IsWhole)
variable (x : Vec F S1088x1024 .bf16) (y : Vec F S1x512x1024 .bf16) (acc : Vec F S1088x512 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros₃, shapeCast_self]

theorem sum_B (e0 : ¬cond0_0 i) (e1 : cond0_1 i) (e2 : cond0_2 i) :
    sout0_B_0 c i a3 h3 a4 h4 a5 h5 a6 h6 e0 e1 e2 x y acc = addf acc (k0_pay1 x y) := by
  unfold sout0_B_0 kernelRun0_B
  dsimp only
  sl_unfold_words
  rw [Calls.kept _ _ zeros]
  unfold k0_pay3
  simp only [Calls.found h3 zeros, Calls.found h4 zeros₃, Calls.found h6 zeros, shapeCast_self]

theorem out_B (e0 : ¬cond0_0 i) (e1 : cond0_1 i) (e2 : cond0_2 i) :
    out0_B_2 c i a3 h3 a4 h4 a5 h5 a6 h6 e0 e1 e2 x y acc = addf acc (k0_pay1 x y) := by
  unfold out0_B_2 kernelRun0_B
  dsimp only
  sl_unfold_words
  rw [Calls.kept _ _ zeros, View.readCov_unit_zero (S := S1088x512) _ zeros]
  unfold k0_pay3
  simp only [Calls.found h3 zeros, Calls.found h4 zeros₃, Calls.found h6 zeros, shapeCast_self]

end Cases

/-! ## The claims -/

/-- Where each window's block lies at each step. -/
theorem place : ∀ t : Fin cfg0.N,
    (win0_0.index t 0 = t.val / 2 % 4 ∧ win0_0.index t 1 = t.val % 2)
    ∧ (win0_1.index t 1 = t.val / 2 / 4 ∧ win0_1.index t 0 * 2 + win0_1.index t 2 = t.val % 2)
    ∧ (win0_2.index t 0 = t.val / 2 % 4 ∧ win0_2.index t 1 = t.val / 2 / 4) :=
  (by decide +kernel : ∀ t : Fin grid0.N, _)

section Value
variable (m : (ℓ : Loc nD τ sig) → Buf (Elt Ideal) ℓ) (c : Dev nD)

/-- What a step adds. -/
theorem step (t : Fin cfg0.N) : Adds (across (m ((c : Thread nD τ).loc main_arg0)) (m ((c : Thread nD τ).loc main_arg1)))
    1024 (t.val % 2) (t.val / 2 % 4) (t.val / 2 / 4) (k0_pay1 (F := Ideal) (iblk m c 0 t) (iblk m c 1 t)) :=
  adds_across (φ := .bf16) (ψ := .bf16) (turned dot_S1088x1024_S512x1024_S1088x512_1_1_0_0_n_n.wf)
    (.of_offset (place t).1 (fun _ => rfl) (fun _ => rfl) _)
    (.of_offset (m := 2) rfl (place t).2.1 (fun _ => rfl) (fun _ => rfl) (fun _ => rfl) _) shapeCasts_S1x512x1024_S512x1024

/-- The running sum after each step. -/
theorem sums : ∀ (n : ℕ) (hn : n < cfg0.N), Upto (across (m ((c : Thread nD τ).loc main_arg0)) (m ((c : Thread nD τ).loc main_arg1)))
    (n % 2 * 1024 + 1024) (n / 2 % 4) (n / 2 / 4) (outsAt0 m c n hn).2 :=
  Factors.sums (u := (· % 4)) (v := (· / 4)) (step m c) (fun t e => by rw [outsAt0_A m c t e (by omega) (by omega), sum_A])
    (fun t e => by rw [outsAt0_B m c t e (by omega) (by omega), sum_B])

/-- What it writes back is the sum. -/
theorem written (t : Fin cfg0.N) (last : t.val % 2 = 1) :
    (outsAt0 m c t.val t.isLt).1 = (outsAt0 m c t.val t.isLt).2 := by
  rw [outsAt0_B m c t (by omega) last last]
  dsimp only
  rw [out_B, sum_B]

theorem covers : (cfg0.win 2).Covers := by decide +kernel

/-- The array it leaves. -/
theorem result : (dats m 0 c).arrAt 2 cfg0.N = timesT (m ((c : Thread nD τ).loc main_arg0)) (m ((c : Thread nD τ).loc main_arg1)) :=
  (dats m 0 c).arrAt_eq_of_covers 2 _ covers fun t hf y => by
    have last : t.val % 2 = 1 := (flush0_2 t).mp hf
    have whole := (sums m c t.val t.isLt).all (K := 2048) (by rw [last])
    exact (congrFun ((after0_2 m c t).trans (written m c t last)) y).trans (whole.put (place t).2.2 rfl rfl)

end Value

theorem frame_ideal : Cert.quiescent_FfnDownBwdIdeal := fun m g _ => Gen.frame m g

theorem bodies : Cert.FfnDownBwd.defs (F := Bits) = Cert.FfnDownBwdIdeal.defs :=
  congrArg (Pipeline.defs _) (congrArg Defs.onTc (funext fun l => funext fun a => match l, a with
    | ⟨0, _⟩, ⟨_, _⟩ => rfl))

theorem frame_bits : Cert.quiescent_FfnDownBwd := fun m g _ => by
  rw [bodies]
  exact Gen.frame (F := Bits) m g

theorem reference_ideal : Cert.quiescent_FfnDownBwdRefIdeal := fun m g _ => Calls.quiet (by decide) (Cert.FfnDownBwdRefIdeal.Value.run m g)

theorem value_ideal : Cert.algebraic_FfnDownBwdIdeal_FfnDownBwdRefIdeal := fun m g m' g' _ hm =>
  ⟨_, (θ_run (Cert.FfnDownBwdIdeal.defs (F := Ideal)) _ _).mono
      (fun _ h c => ⟨((h c).1 2).trans ((result m c).trans (by
          rw [← (hm c).1, ← (hm c).2]
          exact (timesT_eq (φ := .f32) (ψ := .f32) (plain _) rfl _ _ _ _ _).symm)),
        ((h c).1 0).trans ((dats m 0 c).arrAt_in 0 rfl _), ((h c).1 1).trans ((dats m 0 c).arrAt_in 1 rfl _)⟩) (run_main m g),
    Cert.FfnDownBwdRefIdeal.Value.run m' g'⟩

end Cert.FfnDownBwdIdeal.Own

end
-- ==== Proof.AdaBwdClaims.lean ====
module

public import proofs.«01_k».proof.Defs
public import proofs.«01_k».proof.Proof.Calls
public import proofs.«01_k».proof.Proof.Factors
public import proofs.«01_k».proof.Proof.Gen.AdaBwd
public import proofs.«01_k».proof.Proof.Gen.AdaBwd.Frame
public import proofs.«01_k».proof.Proof.Gen.AdaBwdIdeal.Frame
public import proofs.«01_k».proof.Proof.Gen.AdaBwdRefIdeal.Run
public import Idealize.ShloMosaic.Lib.Pipeline.ValueKit.Geometry
public import Idealize.ShloMosaic.Lib.Tactic
public import Idealize.ShloMosaic.Lib.Quiescent

@[expose] public section

noncomputable section

/-!
The claims about `AdaBwd`: the product of the rows of the modulations' gradients with w_ada, transposed.
-/

namespace Cert.AdaBwdIdeal.Own

open Cert.AdaBwdIdeal Cert.AdaBwdIdeal.Gen Cert.Adam Cert.Sums Cert.Products Cert.Factors
open Idealize.ShloMosaic Idealize.ShloMosaic.TcCoe Idealize.SL.Sem

/-! ## What it leaves at each step, from what it finds -/

section Cases
variable {F : FTy → Type} [FloatOps F] (c : Dev nD) (i : grid0.Coords)
variable (a3 : Memref sig .tc .vmem S16x1024 .f32) (h3 : a3.IsWhole) (a4 : Memref sig .tc .vmem S1x1024x1024 .f32) (h4 : a4.IsWhole)
variable (a5 : Memref sig .tc .vmem S16x1024 .f32) (h5 : a5.IsWhole) (a6 : Memref sig .tc .vmem S16x1024 .f32) (h6 : a6.IsWhole)
variable (x : Vec F S16x1024 .f32) (y : Vec F S1x1024x1024 .f32) (acc : Vec F S16x1024 .f32)

theorem sum_A (e0 : cond0_0 i) (e1 : ¬cond0_1 i) (e2 : ¬cond0_2 i) :
    sout0_A_0 c i a3 h3 a4 h4 a5 h5 a6 h6 e0 e1 e2 x y = k0_pay1 x y := by
  unfold sout0_A_0 kernelRun0_A
  dsimp only
  rw [Calls.kept _ _ zeros]
  unfold k0_pay2
  simp only [Calls.found h3 zeros, Calls.found h4 zeros₃, shapeCast_self]

theorem sum_B (e0 : ¬cond0_0 i) (e1 : cond0_1 i) (e2 : ¬cond0_2 i) :
    sout0_B_0 c i a3 h3 a4 h4 a5 h5 a6 h6 e0 e1 e2 x y acc = addf acc (k0_pay1 x y) := by
  unfold sout0_B_0 kernelRun0_B
  dsimp only
  rw [Calls.kept _ _ zeros]
  unfold k0_pay3
  simp only [Calls.found h3 zeros, Calls.found h4 zeros₃, Calls.found h6 zeros, shapeCast_self]

theorem sum_C (e0 : ¬cond0_0 i) (e1 : cond0_1 i) (e2 : cond0_2 i) :
    sout0_C_0 c i a3 h3 a4 h4 a5 h5 a6 h6 e0 e1 e2 x y acc = addf acc (k0_pay1 x y) := by
  unfold sout0_C_0 kernelRun0_C
  dsimp only
  sl_unfold_words
  rw [Calls.kept _ _ zeros]
  unfold k0_pay3
  simp only [Calls.found h3 zeros, Calls.found h4 zeros₃, Calls.found h6 zeros, shapeCast_self]

theorem out_C (e0 : ¬cond0_0 i) (e1 : cond0_1 i) (e2 : cond0_2 i) :
    out0_C_2 c i a3 h3 a4 h4 a5 h5 a6 h6 e0 e1 e2 x y acc = addf acc (k0_pay1 x y) := by
  unfold out0_C_2 kernelRun0_C
  dsimp only
  sl_unfold_words
  rw [Calls.kept _ _ zeros, View.readCov_unit_zero (S := S16x1024) _ zeros]
  unfold k0_pay3
  simp only [Calls.found h3 zeros, Calls.found h4 zeros₃, Calls.found h6 zeros, shapeCast_self]

end Cases

/-! ## The claims -/

/-- Where each window's block lies at each step. -/
theorem place : ∀ t : Fin cfg0.N,
    (win0_0.index t 0 = t.val / 3 % 1 ∧ win0_0.index t 1 = t.val % 3)
    ∧ (win0_1.index t 1 = t.val / 3 / 1 ∧ win0_1.index t 0 * 3 + win0_1.index t 2 = t.val % 3)
    ∧ (win0_2.index t 0 = t.val / 3 % 1 ∧ win0_2.index t 1 = t.val / 3 / 1) :=
  (by decide +kernel : ∀ t : Fin grid0.N, _)

section Value
variable (m : (ℓ : Loc nD τ sig) → Buf (Elt Ideal) ℓ) (c : Dev nD)

/-- What a step adds. -/
theorem step (t : Fin cfg0.N) : Adds (across (m ((c : Thread nD τ).loc main_arg0)) (m ((c : Thread nD τ).loc main_arg1)))
    1024 (t.val % 3) (t.val / 3 % 1) (t.val / 3 / 1) (k0_pay1 (F := Ideal) (iblk m c 0 t) (iblk m c 1 t)) :=
  adds_across (φ := .bf16) (ψ := .bf16) (turned dot_S16x1024_S1024x1024_S16x1024_1_1_0_0_n_n.wf)
    (.of_offset (place t).1 (fun _ => rfl) (fun _ => rfl) _)
    (.of_offset (m := 3) rfl (place t).2.1 (fun _ => rfl) (fun _ => rfl) (fun _ => rfl) _) shapeCasts_S1x1024x1024_S1024x1024

/-- The running sum after each step. -/
theorem sums : ∀ (n : ℕ) (hn : n < cfg0.N), Upto (across (m ((c : Thread nD τ).loc main_arg0)) (m ((c : Thread nD τ).loc main_arg1)))
    (n % 3 * 1024 + 1024) (n / 3 % 1) (n / 3 / 1) (outsAt0 m c n hn).2 :=
  Factors.sums (u := (· % 1)) (v := (· / 1)) (step m c) (fun t e => by rw [outsAt0_A m c t e (by omega) (by omega), sum_A])
    (fun t e => by
      by_cases last : t.val % 3 = 2
      · rw [outsAt0_C m c t e (by omega) last, sum_C]
      · rw [outsAt0_B m c t e (by omega) last, sum_B])

/-- What it writes back is the sum. -/
theorem written (t : Fin cfg0.N) (last : t.val % 3 = 2) :
    (outsAt0 m c t.val t.isLt).1 = (outsAt0 m c t.val t.isLt).2 := by
  rw [outsAt0_C m c t (by omega) (by omega) last]
  dsimp only
  rw [out_C, sum_C]

theorem covers : (cfg0.win 2).Covers := by decide +kernel

/-- The array it leaves. -/
theorem result : (dats m 0 c).arrAt 2 cfg0.N = timesT (m ((c : Thread nD τ).loc main_arg0)) (m ((c : Thread nD τ).loc main_arg1)) :=
  (dats m 0 c).arrAt_eq_of_covers 2 _ covers fun t hf y => by
    have last : t.val % 3 = 2 := (flush0_2 t).mp hf
    have whole := (sums m c t.val t.isLt).all (K := 3072) (by rw [last])
    exact (congrFun ((after0_2 m c t).trans (written m c t last)) y).trans (whole.put (place t).2.2 rfl rfl)

end Value

theorem frame_ideal : Cert.quiescent_AdaBwdIdeal := fun m g _ => Gen.frame m g

theorem bodies : Cert.AdaBwd.defs (F := Bits) = Cert.AdaBwdIdeal.defs :=
  congrArg (Pipeline.defs _) (congrArg Defs.onTc (funext fun l => funext fun a => match l, a with
    | ⟨0, _⟩, ⟨_, _⟩ => rfl))

theorem frame_bits : Cert.quiescent_AdaBwd := fun m g _ => by
  rw [bodies]
  exact Gen.frame (F := Bits) m g

theorem reference_ideal : Cert.quiescent_AdaBwdRefIdeal := fun m g _ => Calls.quiet (by decide) (Cert.AdaBwdRefIdeal.Value.run m g)

theorem value_ideal : Cert.algebraic_AdaBwdIdeal_AdaBwdRefIdeal := fun m g m' g' _ hm =>
  ⟨_, (θ_run (Cert.AdaBwdIdeal.defs (F := Ideal)) _ _).mono
      (fun _ h c => ⟨((h c).1 2).trans ((result m c).trans (by
          rw [← (hm c).1, ← (hm c).2]
          exact (timesT_eq (φ := .f32) (ψ := .f32) (plain _) rfl _ _ _ _ _).symm)),
        ((h c).1 0).trans ((dats m 0 c).arrAt_in 0 rfl _), ((h c).1 1).trans ((dats m 0 c).arrAt_in 1 rfl _)⟩) (run_main m g),
    Cert.AdaBwdRefIdeal.Value.run m' g'⟩

end Cert.AdaBwdIdeal.Own

end
-- ==== Proof.Norms.lean ====
module

public import proofs.«01_k».proof.Proof.Sums
public import Idealize.ShloMosaic.Lib.Pointwise
public import Idealize.ShloMosaic.Lib.IdealHost

@[expose] public section

noncomputable section

/-!
Rows normalized, with and without the gated addition before.

A row is divided by the root of its mean square, multiplied by the weights, then by one more than the scale, and the
shift is added. The weights are given for sixteen rows and repeat; the scale, the shift and the gate are given for
sixteen rows twice, once for the first 256 rows and once for the others. A block of 256 rows is done in tiles of
sixteen, the array in blocks.
-/

namespace Cert.Norms

open Idealize.ShloMosaic Cert.Adam Cert.Sums

variable {b n : ℕ}

/-! ## What is computed -/

/-- An array with the gated addition. -/
def gated (x m g : FVec Ideal (Rows n 2048) .f32) : FVec Ideal (Rows n 2048) .f32 := fun i => x i + g i * m i

/-- An array of normalized rows. -/
def normed (x w sh sc : FVec Ideal (Rows n 2048) .f32) : FVec Ideal (Rows n 2048) .bf16 := fun i =>
  x i * Ideal.rsqrt (Ideal.div (∑ k, x (ix2 (i 0) k) * x (ix2 (i 0) k)) (Ideal.ofBits .f32 0x45000000#32)
    + Ideal.ofBits .f32 0x358637BD#32) * w i * (Ideal.ofBits .f32 0x3F800000#32 + sc i) + sh i

/-- Sixteen rows, over and over. -/
def again (v : FVec Ideal (Stack 1 16 2048) .f32) : FVec Ideal (Rows n 2048) .f32 := fun i =>
  v (ix3 0 ⟨(i 0).val % 16, Nat.mod_lt _ (by decide)⟩ (i 1))

/-- Sixteen rows over and over for the first 256 rows, and sixteen others after. -/
def twice (v : FVec Ideal (Stack 2 16 2048) .f32) : FVec Ideal (Rows n 2048) .f32 := fun i =>
  v (ix3 ⟨min ((i 0).val / 256) 1, by omega⟩ ⟨(i 0).val % 16, Nat.mod_lt _ (by decide)⟩ (i 1))

/-! ## Of blocks -/

theorem block_gated {t : ℕ} {x m g : FVec Ideal (Rows b 2048) .f32} {X M G : FVec Ideal (Rows n 2048) .f32} (hx : Block t x X)
    (hm : Block t m M) (hg : Block t g G) : Block t (gated x m g) (gated X M G) := fun y => by
  obtain ⟨i, hi, e⟩ := hx y
  refine ⟨i, hi, ?_⟩
  simp only [gated, e, hm.at hi, hg.at hi]

theorem block_normed {t : ℕ} {x w sh sc : FVec Ideal (Rows b 2048) .f32} {X W SH SC : FVec Ideal (Rows n 2048) .f32}
    (hx : Block t x X) (hw : Block t w W) (hsh : Block t sh SH) (hsc : Block t sc SC) :
    Block t (normed x w sh sc) (normed X W SH SC) := fun y => by
  obtain ⟨i, hi, e⟩ := hx y
  refine ⟨i, hi, ?_⟩
  have row : ∀ k, x (ix2 (y 0) k) = X (ix2 (i 0) k) := fun k => hx.at ⟨hi.1, rfl⟩
  simp only [normed, e, row, hw.at hi, hsh.at hi, hsc.at hi]

/-- Rows that repeat are the same in each block. -/
theorem block_again {t : ℕ} (emb : (Rows b 2048).Idx → (Rows n 2048).Idx) (h : ∀ y, At t y (emb y)) (hb : 16 ∣ b)
    (v : FVec Ideal (Stack 1 16 2048) .f32) : Block t (again (n := b) v) (again (n := n) v) := fun y => by
  refine ⟨emb y, h y, congrArg v (three rfl ?_ (h y).2.symm)⟩
  show (y 0).val % 16 = (emb y 0).val % 16
  rw [(h y).1, Nat.add_mod, Nat.mod_eq_zero_of_dvd (hb.mul_left t), Nat.zero_add, Nat.mod_mod]

/-- The weights' one block has all of them. -/
theorem block_weights {t : ℕ} (emb : (Rows b 2048).Idx → (Rows n 2048).Idx) (h : ∀ y, At t y (emb y)) (hb : 16 ∣ b)
    {q : Fin 3 → ℕ} (hq : q 0 = 0 ∧ q 1 = 0 ∧ q 2 = 0) {place : (Stack 1 16 2048).Idx → (Stack 1 16 2048).Idx}
    (h0 : ∀ z, (place z 0).val = q 0 * 1 + 1 * (z 0).val) (h1 : ∀ z, (place z 1).val = q 1 * 16 + 1 * (z 1).val)
    (h2 : ∀ z, (place z 2).val = q 2 * 2048 + 1 * (z 2).val) (v : FVec Ideal (Stack 1 16 2048) .f32) :
    Block t (again (n := b) fun z => v (place z)) (again (n := n) v) := by
  have e : ∀ z, place z = z := fun z => three (by rw [h0, hq.1]; omega) (by rw [h1, hq.2.1]; omega) (by rw [h2, hq.2.2]; omega)
  simp only [e]
  exact block_again emb h hb v

/-- The block of 256 rows at `t` has the first sixteen where `t` is 0, the others elsewhere. -/
theorem block_twice {t : ℕ} (emb : (Rows 256 2048).Idx → (Rows n 2048).Idx) (h : ∀ y, At t y (emb y))
    {q : Fin 3 → ℕ} (hq : q 0 = min t 1 ∧ q 1 = 0 ∧ q 2 = 0) {place : (Stack 1 16 2048).Idx → (Stack 2 16 2048).Idx}
    (h0 : ∀ z, (place z 0).val = q 0 * 1 + 1 * (z 0).val) (h1 : ∀ z, (place z 1).val = q 1 * 16 + 1 * (z 1).val)
    (h2 : ∀ z, (place z 2).val = q 2 * 2048 + 1 * (z 2).val) (v : FVec Ideal (Stack 2 16 2048) .f32) :
    Block t (again (n := 256) fun z => v (place z)) (twice (n := n) v) := fun y => by
  have hy : (y 0).val < 256 := (y 0).isLt
  refine ⟨emb y, h y, congrArg v (three ?_ ?_ ?_)⟩
  · rw [h0, hq.1]
    show min t 1 * 1 + 1 * 0 = min ((emb y 0).val / 256) 1
    rw [(h y).1]
    omega
  · rw [h1, hq.2.1]
    show 0 * 16 + 1 * ((y 0).val % 16) = (emb y 0).val % 16
    rw [(h y).1]
    omega
  · rw [h2, hq.2.2]
    show 0 * 2048 + 1 * (y 1).val = (emb y 1).val
    rw [(h y).2]
    omega

/-- Where the tile of a trip lies. -/
theorem at_trip {k : ℕ} {off : Fin 2 → ℕ} (h : off = ![16 * k, 0]) (inb : ∀ a, off a + ![16, 2048] a ≤ (Rows 256 2048).size a)
    (y : (Rows 16 2048).Idx) : At k y ((Rect.unit (s := Rows 256 2048) off ![16, 2048] inb).emb y) := by
  subst h
  refine ⟨?_, ?_⟩
  · show 16 * k + 1 * (y 0).val = k * 16 + (y 0).val
    omega
  · show 0 + 1 * (y 1).val = (y 1).val
    omega

/-- A tile that a trip loads. -/
theorem block_loaded {sig : RefSig} {κ : Kind} {sp : Space} {a : Memref sig κ sp (Rows 256 2048) .f32} (ha : a.IsWhole) {k : ℕ}
    {off : Fin 2 → ℕ} (h : off = ![16 * k, 0]) (inb : ∀ a, off a + ![16, 2048] a ≤ (Rows 256 2048).size a)
    (x : FVec Ideal (Rows 256 2048) .f32) :
    Block k (a.view.readAt (Elt Ideal) (Rect.unit (s := Rows 256 2048) off ![16, 2048] inb).toLoadRect (ha.unread x)) x := by
  rw [View.readAt_eq_ld, ha.read_unread]
  exact fun y => ⟨_, at_trip h inb y, rfl⟩

/-! ## A tile's operations -/

theorem sixteen (v : FVec Ideal (Stack 1 16 2048) .f32) (hw : (Stack 1 16 2048).ShapeCasts (Rows 16 2048)) :
    shapeCast (Rows 16 2048) v hw = again v := by
  ext y
  unfold again
  pointwise
  exact congrArg v (three rfl (Nat.mod_eq_of_lt (y 0).isLt).symm rfl)

theorem tile (x w sh sc : FVec Ideal (Rows 16 2048) .f32)
    (hr : (Rows 16 2048).Reduces [1] ⟨1, ![16]⟩) (hc : (⟨1, ![16]⟩ : Shape).ShapeCasts (Rows 16 1))
    (hb : (Rows 16 1).Broadcasts (Rows 16 2048)) (ht : FTy.bits .bf16 < FTy.bits .f32) (h1) (h2) :
    truncf .bf16 (addf (mulf (mulf (mulf x (broadcastTo (Rows 16 2048) (rsqrt (addf (divf (shapeCast (Rows 16 1)
      (multiReduction .add [1] ⟨1, ![16]⟩ (mulf x x) 0x00000000#32 hr h1 h2) hc)
      (broadcast (Rows 16 1) (Scalar.ofBits .f32 0x45000000#32))) (broadcast (Rows 16 1) (Scalar.ofBits .f32 0x358637BD#32)))) hb))
      w) (addf (broadcast (Rows 16 2048) (Scalar.ofBits .f32 0x3F800000#32)) sc)) sh) ht
    = normed x w sh sc := by
  ext y
  unfold normed
  pointwise

/-! ## The reference's operations -/

theorem whole (x w sh sc : FVec Ideal (Rows 4352 2048) .f32) (b0) (b1) (b2) (b3)
    (hr : (Rows 4352 2048).ReducesTo [1] ⟨1, ![4352]⟩) (hu : 0 < (⟨0, ![]⟩ : Shape).numel) (ht : FTy.bits .bf16 < FTy.bits .f32) :
    truncf .bf16 (addf (mulf (mulf (mulf x (broadcastInDim (Rows 4352 2048) ![0, 1] b0 (Host.rsqrt (addf (Host.divf
      (broadcastInDim (Rows 4352 1) ![0] b1 (Host.reduceAdd (mulf x x) (constant (F := Ideal) ⟨0, ![]⟩ .f32 0x00000000#32) hr hu))
      (broadcastInDim (Rows 4352 1) ![] b2 (constant ⟨0, ![]⟩ .f32 0x45000000#32)))
      (broadcastInDim (Rows 4352 1) ![] b2 (constant ⟨0, ![]⟩ .f32 0x358637BD#32)))))) w)
      (addf (broadcastInDim (Rows 4352 2048) ![] b3 (constant ⟨0, ![]⟩ .f32 0x3F800000#32)) sc)) sh) ht
    = normed x w sh sc := by
  ext i
  unfold normed
  pointwise

theorem repeated (v : FVec Ideal (Stack 1 16 2048) .f32) (b) (hs : (Stack 272 16 2048).ShapeCasts (Rows 4352 2048)) :
    shapeCast (Rows 4352 2048) (broadcastInDim (Stack 272 16 2048) ![0, 1, 2] b v) hs = again v := by
  ext i
  unfold again
  pointwise

theorem repeated_twice (v : FVec Ideal (Stack 2 16 2048) .f32) (h0 : (Stack 2 16 2048).Slices ![0, 0, 0] (Stack 1 16 2048))
    (h1 : (Stack 2 16 2048).Slices ![1, 0, 0] (Stack 1 16 2048)) (b0) (b1)
    (hc : Shape.Concatenates [Stack 16 16 2048, Stack 256 16 2048] (Stack 272 16 2048) 0)
    (hs : (Stack 272 16 2048).ShapeCasts (Rows 4352 2048)) :
    shapeCast (Rows 4352 2048) (concatenate (Stack 272 16 2048) 0
      [⟨Stack 16 16 2048, broadcastInDim (Stack 16 16 2048) ![0, 1, 2] b0 (extractStridedSlice (Stack 1 16 2048) ![0, 0, 0] v h0)⟩,
       ⟨Stack 256 16 2048, broadcastInDim (Stack 256 16 2048) ![0, 1, 2] b1 (extractStridedSlice (Stack 1 16 2048) ![1, 0, 0] v h1)⟩] hc) hs
    = twice v := by
  ext i
  unfold twice
  pointwise
  split
  · exact congrArg v (three (by show 0 = min _ 1; omega) rfl rfl)
  · exact congrArg v (three (by show 1 = min _ 1; omega) rfl rfl)

/-! ## A list of pieces made trip by trip -/

section Trips
variable {Val : EltTy → Type} {S : Shape} {e : EltTy}

theorem pieces {G : S.Idx → Val e} {N : ℕ} (pb : ℕ → List (View.Piece Val S e)) (L : Fin N → List (View.Piece Val S e)) (zero : pb 0 = [])
    (succ : ∀ k : Fin N, pb (k.val + 1) = L k ++ pb k.val) (h : ∀ k, ∀ p ∈ L k, ∀ x, p.2 x = G (p.1.emb x)) :
    ∀ k ≤ N, ∀ p ∈ pb k, ∀ x, p.2 x = G (p.1.emb x)
  | 0, _, p, hp => by rw [zero] at hp; exact absurd hp List.not_mem_nil
  | k + 1, hk, p, hp => by
    rw [succ ⟨k, hk⟩, List.mem_append] at hp
    exact hp.elim (h _ p) (pieces pb L zero succ h k (Nat.le_of_succ_le hk) p)

end Trips

end Cert.Norms

end
-- ==== Proof.NormInClaims.lean ====
module

public import proofs.«01_k».proof.Defs
public import proofs.«01_k».proof.Proof.Calls
public import proofs.«01_k».proof.Proof.Norms
public import proofs.«01_k».proof.Proof.Products
public import proofs.«01_k».proof.Proof.Gen.NormIn
public import proofs.«01_k».proof.Proof.Gen.NormIn.Frame
public import proofs.«01_k».proof.Proof.Gen.NormInIdeal.Frame
public import proofs.«01_k».proof.Proof.Gen.NormInRefIdeal.Run
public import Idealize.ShloMosaic.Lib.Pipeline.ValueKit.Geometry
public import Idealize.ShloMosaic.Lib.Tactic
public import Idealize.ShloMosaic.Lib.Quiescent

@[expose] public section

noncomputable section

/-!
The claims about `NormIn`: the rows of the input normalized.
-/

namespace Cert.NormInIdeal.Own

open Cert.NormInIdeal Cert.NormInIdeal.Gen Cert.Adam Cert.Sums Cert.Products Cert.Norms
open Idealize.ShloMosaic Idealize.ShloMosaic.TcCoe Idealize.SL.Sem

/-! ## What it leaves at each step, from what it finds -/

theorem pay (x : FVec Ideal S16x2048 .f32) (w sh sc : FVec Ideal S1x16x2048 .f32) :
    k0_pay1 (F := Ideal) x w sh sc = normed (n := 16) x (again w) (again sh) (again sc) := by
  unfold k0_pay1
  dsimp only
  simp only [sixteen]
  exact tile ..

section Cases
variable (c : Dev nD) (i : grid0.Coords)
variable (a1 : Memref sig .tc .vmem S256x2048 .f32) (h1 : a1.IsWhole) (a2 : Memref sig .tc .vmem S1x16x2048 .f32) (h2 : a2.IsWhole)
variable (a3 : Memref sig .tc .vmem S1x16x2048 .f32) (h3 : a3.IsWhole) (a4 : Memref sig .tc .vmem S1x16x2048 .f32) (h4 : a4.IsWhole)
variable (a5 : Memref sig .tc .vmem S256x2048 .bf16) (h5 : a5.IsWhole)
variable (x : Vec Ideal S256x2048 .f32) (w sh sc : Vec Ideal S1x16x2048 .f32)

/-- What a trip stores is its tile of the normalized block. -/
theorem trip (𝒱) (bd) (k : Fin k0_t1_loop.trips) :
    ∀ p ∈ tripL_k0_t1 (F := Ideal) 𝒱 c bd i a1 h1 a2 h2 a3 h3 a4 h4 a5 h5 (h1.unread x) (h2.unread w) (h3.unread sh) (h4.unread sc) k,
      ∀ z, p.2 z = normed (n := 256) x (again w) (again sh) (again sc) (p.1.emb z) := by
  unfold tripL_k0_t1 trip_k0_t1
  dsimp only
  simp only [Calls.found h2 zeros₃, Calls.found h3 zeros₃, Calls.found h4 zeros₃, List.mem_singleton, forall_eq]
  intro z
  have hz := at_trip (k0_off1_eq k) (k0_off1_inb k)
  have hv := block_again _ hz (by decide)
  refine (congrFun (pay ..) z).trans ((block_normed (block_loaded h1 (k0_off1_eq k) _ x) (hv w) (hv sh) (hv sc)).at (hz z))

theorem out_A : out0_A_4 c i a1 h1 a2 h2 a3 h3 a4 h4 a5 h5 x w sh sc = normed (n := 256) x (again w) (again sh) (again sc) := by
  have cover := cover0_A_4 c i a1 h1 a2 h2 a3 h3 a4 h4 a5 h5 x w sh sc
  unfold out0_A_4
  rw [View.read_writes_eq_canon _ _ _ cover]
  refine funext fun y => View.canon_apply_of_pieces _ _ ?_ y (cover y)
  unfold kernelRun0_A
  exact pieces (pb_k0_t1 (F := Ideal) _ c _ i a1 h1 a2 h2 a3 h3 a4 h4 a5 h5 (h1.unread x) (h2.unread w) (h3.unread sh) (h4.unread sc)) _ rfl
    (fun k => pb_k0_t1_succ (F := Ideal) _ c _ i a1 h1 a2 h2 a3 h3 a4 h4 a5 h5 _ _ _ _ k)
    (fun k => trip c i a1 h1 a2 h2 a3 h3 a4 h4 a5 h5 x w sh sc _ _ k) _ le_rfl

end Cases

/-! ## The claims -/

/-- Where each window's block lies at each step. -/
theorem place : ∀ t : Fin cfg0.N,
    (win0_0.index t 0 = t.val ∧ win0_0.index t 1 = 0)
    ∧ (win0_1.index t 0 = 0 ∧ win0_1.index t 1 = 0 ∧ win0_1.index t 2 = 0)
    ∧ (win0_2.index t 0 = min t.val 1 ∧ win0_2.index t 1 = 0 ∧ win0_2.index t 2 = 0)
    ∧ (win0_3.index t 0 = min t.val 1 ∧ win0_3.index t 1 = 0 ∧ win0_3.index t 2 = 0)
    ∧ (win0_4.index t 0 = t.val ∧ win0_4.index t 1 = 0) :=
  (by decide +kernel : ∀ t : Fin grid0.N, _)

section Value
variable (m : (ℓ : Loc nD τ sig) → Buf (Elt Ideal) ℓ) (c : Dev nD)

theorem covers : (cfg0.win 4).Covers := by decide +kernel

/-- The array it leaves. -/
abbrev left : FVec Ideal (Rows 4352 2048) .bf16 :=
  normed (n := 4352) (m ((c : Thread nD τ).loc main_arg0)) (again (m ((c : Thread nD τ).loc main_arg1)))
    (twice (m ((c : Thread nD τ).loc main_arg2))) (twice (m ((c : Thread nD τ).loc main_arg3)))

theorem lies (t : Fin cfg0.N) (y : (Rows 256 2048).Idx) : At t.val y ((win0_4.rect t).emb y) :=
  At.of_offset (place t).2.2.2.2 rfl rfl

/-- What a step leaves is its block of it. -/
theorem step (t : Fin cfg0.N) : Block t.val (normed (n := 256) (iblk m c 0 t) (again (iblk m c 1 t)) (again (iblk m c 2 t)) (again (iblk m c 3 t)))
    (left m c) :=
  block_normed (fun y => ⟨_, At.of_offset (place t).1 rfl rfl, rfl⟩)
    (block_weights (place := ((cfg0.win 1).blk t).view.emb) _ (lies t) (by decide) (place t).2.1 (fun _ => rfl) (fun _ => rfl) (fun _ => rfl) _)
    (block_twice (place := ((cfg0.win 2).blk t).view.emb) _ (lies t) (place t).2.2.1 (fun _ => rfl) (fun _ => rfl) (fun _ => rfl) _)
    (block_twice (place := ((cfg0.win 3).blk t).view.emb) _ (lies t) (place t).2.2.2.1 (fun _ => rfl) (fun _ => rfl) (fun _ => rfl) _)

theorem result : (dats m 0 c).arrAt 4 cfg0.N = left m c :=
  (dats m 0 c).arrAt_eq_of_covers 4 _ covers fun t _ y =>
    (congrFun ((after0_4 m c t).trans (out_A ..)) y).trans ((step m c t).at (lies t y))

end Value

theorem frame_ideal : Cert.quiescent_NormInIdeal := fun m g _ => Gen.frame m g

theorem bodies : Cert.NormIn.defs (F := Bits) = Cert.NormInIdeal.defs :=
  congrArg (Pipeline.defs _) (congrArg Defs.onTc (funext fun l => funext fun a => match l, a with
    | ⟨0, _⟩, ⟨_, _⟩ => rfl))

theorem frame_bits : Cert.quiescent_NormIn := fun m g _ => by
  rw [bodies]
  exact Gen.frame (F := Bits) m g

theorem reference_ideal : Cert.quiescent_NormInRefIdeal := fun m g _ => Calls.quiet (by decide) (Cert.NormInRefIdeal.Value.run m g)

theorem value_ideal : Cert.algebraic_NormInIdeal_NormInRefIdeal := fun m g m' g' _ hm =>
  ⟨_, (θ_run (Cert.NormInIdeal.defs (F := Ideal)) _ _).mono
      (fun _ h c => ⟨((h c).1 4).trans ((result m c).trans (by
          unfold left
          rw [← (hm c).1, ← (hm c).2.1, ← (hm c).2.2.1, ← (hm c).2.2.2]
          erw [repeated, repeated_twice, repeated_twice, Norms.whole])),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m g),
    Cert.NormInRefIdeal.Value.run m' g'⟩

end Cert.NormInIdeal.Own

end
-- ==== Proof.GateNormClaims.lean ====
module

public import proofs.«01_k».proof.Defs
public import proofs.«01_k».proof.Proof.Calls
public import proofs.«01_k».proof.Proof.Norms
public import proofs.«01_k».proof.Proof.Products
public import proofs.«01_k».proof.Proof.Gen.GateNorm
public import proofs.«01_k».proof.Proof.Gen.GateNorm.Frame
public import proofs.«01_k».proof.Proof.Gen.GateNormIdeal.Frame
public import proofs.«01_k».proof.Proof.Gen.GateNormRefIdeal.Run
public import Idealize.ShloMosaic.Lib.Pipeline.ValueKit.Geometry
public import Idealize.ShloMosaic.Lib.Tactic
public import Idealize.ShloMosaic.Lib.Quiescent

@[expose] public section

noncomputable section

/-!
The claims about `GateNorm`: the gated addition, and its rows normalized.
-/

namespace Cert.GateNormIdeal.Own

open Cert.GateNormIdeal Cert.GateNormIdeal.Gen Cert.Adam Cert.Sums Cert.Products Cert.Norms
open Idealize.ShloMosaic Idealize.ShloMosaic.TcCoe Idealize.SL.Sem

/-! ## What it leaves at each step, from what it finds -/

theorem pay_rows (x a : FVec Ideal S16x2048 .f32) (g : FVec Ideal S1x16x2048 .f32) :
    k0_pay1 (F := Ideal) x a g = gated (n := 16) x a (again g) := by
  unfold k0_pay1
  dsimp only
  simp only [sixteen]
  rfl

theorem pay_norm (x a : FVec Ideal S16x2048 .f32) (g w sh sc : FVec Ideal S1x16x2048 .f32) :
    k0_pay2 (F := Ideal) x a g w sh sc = normed (n := 16) (gated x a (again g)) (again w) (again sh) (again sc) := by
  unfold k0_pay2
  dsimp only
  simp only [sixteen, pay_rows]
  exact tile ..

section Cases
variable (c : Dev nD) (i : grid0.Coords)
variable (a1 : Memref sig .tc .vmem S256x2048 .f32) (h1 : a1.IsWhole) (a2 : Memref sig .tc .vmem S256x2048 .f32) (h2 : a2.IsWhole)
variable (a3 : Memref sig .tc .vmem S1x16x2048 .f32) (h3 : a3.IsWhole) (a4 : Memref sig .tc .vmem S1x16x2048 .f32) (h4 : a4.IsWhole)
variable (a5 : Memref sig .tc .vmem S1x16x2048 .f32) (h5 : a5.IsWhole) (a6 : Memref sig .tc .vmem S1x16x2048 .f32) (h6 : a6.IsWhole)
variable (a7 : Memref sig .tc .vmem S256x2048 .f32) (h7 : a7.IsWhole) (a8 : Memref sig .tc .vmem S256x2048 .bf16) (h8 : a8.IsWhole)
variable (x a : Vec Ideal S256x2048 .f32) (g w sh sc : Vec Ideal S1x16x2048 .f32)

/-- What a trip stores is its tile of the block, gated, and its tile of that normalized. -/
theorem trip (𝒱) (bd) (k : Fin k0_t1_loop.trips) :
    (∀ p ∈ (tripL_k0_t1 (F := Ideal) 𝒱 c bd i a1 h1 a2 h2 a3 h3 a4 h4 a5 h5 a6 h6 a7 h7 a8 h8 (h1.unread x) (h2.unread a) (h3.unread g)
        (h4.unread w) (h5.unread sh) (h6.unread sc) k).1,
      ∀ z, p.2 z = gated (n := 256) x a (again g) (p.1.emb z))
    ∧ ∀ p ∈ (tripL_k0_t1 (F := Ideal) 𝒱 c bd i a1 h1 a2 h2 a3 h3 a4 h4 a5 h5 a6 h6 a7 h7 a8 h8 (h1.unread x) (h2.unread a) (h3.unread g)
        (h4.unread w) (h5.unread sh) (h6.unread sc) k).2,
      ∀ z, p.2 z = normed (n := 256) (gated x a (again g)) (again w) (again sh) (again sc) (p.1.emb z) := by
  unfold tripL_k0_t1 trip_k0_t1
  dsimp only
  simp only [Calls.found h3 zeros₃, Calls.found h4 zeros₃, Calls.found h5 zeros₃, Calls.found h6 zeros₃, List.mem_singleton, forall_eq]
  have hz := at_trip (k0_off1_eq k) (k0_off1_inb k)
  have hv := block_again _ hz (by decide)
  have hx := block_gated (block_loaded h1 (k0_off1_eq k) (k0_off1_inb k) x) (block_loaded h2 (k0_off1_eq k) (k0_off1_inb k) a) (hv g)
  exact ⟨fun z => (congrFun (pay_rows ..) z).trans (hx.at (hz z)),
    fun z => (congrFun (pay_norm ..) z).trans ((block_normed hx (hv w) (hv sh) (hv sc)).at (hz z))⟩

theorem rows_A : out0_A_6 c i a1 h1 a2 h2 a3 h3 a4 h4 a5 h5 a6 h6 a7 h7 a8 h8 x a g w sh sc = gated (n := 256) x a (again g) := by
  have cover := cover0_A_6 c i a1 h1 a2 h2 a3 h3 a4 h4 a5 h5 a6 h6 a7 h7 a8 h8 x a g w sh sc
  unfold out0_A_6
  rw [View.read_writes_eq_canon _ _ _ cover]
  refine funext fun y => View.canon_apply_of_pieces _ _ ?_ y (cover y)
  unfold kernelRun0_A
  exact pieces (fun k => (pb_k0_t1 (F := Ideal) _ c _ i a1 h1 a2 h2 a3 h3 a4 h4 a5 h5 a6 h6 a7 h7 a8 h8 (h1.unread x) (h2.unread a)
      (h3.unread g) (h4.unread w) (h5.unread sh) (h6.unread sc) k).1) _ rfl
    (fun k => congrArg Prod.fst (pb_k0_t1_succ (F := Ideal) _ c _ i a1 h1 a2 h2 a3 h3 a4 h4 a5 h5 a6 h6 a7 h7 a8 h8 _ _ _ _ _ _ k))
    (fun k => (trip c i a1 h1 a2 h2 a3 h3 a4 h4 a5 h5 a6 h6 a7 h7 a8 h8 x a g w sh sc _ _ k).1) _ le_rfl

theorem norm_A : out0_A_7 c i a1 h1 a2 h2 a3 h3 a4 h4 a5 h5 a6 h6 a7 h7 a8 h8 x a g w sh sc
    = normed (n := 256) (gated x a (again g)) (again w) (again sh) (again sc) := by
  have cover := cover0_A_7 c i a1 h1 a2 h2 a3 h3 a4 h4 a5 h5 a6 h6 a7 h7 a8 h8 x a g w sh sc
  unfold out0_A_7
  rw [View.read_writes_eq_canon _ _ _ cover]
  refine funext fun y => View.canon_apply_of_pieces _ _ ?_ y (cover y)
  unfold kernelRun0_A
  exact pieces (fun k => (pb_k0_t1 (F := Ideal) _ c _ i a1 h1 a2 h2 a3 h3 a4 h4 a5 h5 a6 h6 a7 h7 a8 h8 (h1.unread x) (h2.unread a)
      (h3.unread g) (h4.unread w) (h5.unread sh) (h6.unread sc) k).2) _ rfl
    (fun k => congrArg Prod.snd (pb_k0_t1_succ (F := Ideal) _ c _ i a1 h1 a2 h2 a3 h3 a4 h4 a5 h5 a6 h6 a7 h7 a8 h8 _ _ _ _ _ _ k))
    (fun k => (trip c i a1 h1 a2 h2 a3 h3 a4 h4 a5 h5 a6 h6 a7 h7 a8 h8 x a g w sh sc _ _ k).2) _ le_rfl

end Cases

/-! ## The claims -/

/-- Where each window's block lies at each step. -/
theorem place : ∀ t : Fin cfg0.N,
    (win0_0.index t 0 = t.val ∧ win0_0.index t 1 = 0)
    ∧ (win0_1.index t 0 = t.val ∧ win0_1.index t 1 = 0)
    ∧ (win0_2.index t 0 = min t.val 1 ∧ win0_2.index t 1 = 0 ∧ win0_2.index t 2 = 0)
    ∧ (win0_3.index t 0 = 0 ∧ win0_3.index t 1 = 0 ∧ win0_3.index t 2 = 0)
    ∧ (win0_4.index t 0 = min t.val 1 ∧ win0_4.index t 1 = 0 ∧ win0_4.index t 2 = 0)
    ∧ (win0_5.index t 0 = min t.val 1 ∧ win0_5.index t 1 = 0 ∧ win0_5.index t 2 = 0)
    ∧ (win0_6.index t 0 = t.val ∧ win0_6.index t 1 = 0)
    ∧ (win0_7.index t 0 = t.val ∧ win0_7.index t 1 = 0) :=
  (by decide +kernel : ∀ t : Fin grid0.N, _)

section Value
variable (m : (ℓ : Loc nD τ sig) → Buf (Elt Ideal) ℓ) (c : Dev nD)

theorem covers_rows : (cfg0.win 6).Covers := by decide +kernel

theorem covers_norm : (cfg0.win 7).Covers := by decide +kernel

/-- The two arrays it leaves. -/
abbrev rows : FVec Ideal (Rows 4352 2048) .f32 :=
  gated (n := 4352) (m ((c : Thread nD τ).loc main_arg0)) (m ((c : Thread nD τ).loc main_arg1)) (twice (m ((c : Thread nD τ).loc main_arg2)))

abbrev left : FVec Ideal (Rows 4352 2048) .bf16 :=
  normed (n := 4352) (rows m c) (again (m ((c : Thread nD τ).loc main_arg3)))
    (twice (m ((c : Thread nD τ).loc main_arg4))) (twice (m ((c : Thread nD τ).loc main_arg5)))

theorem lies (t : Fin cfg0.N) (y : (Rows 256 2048).Idx) : At t.val y ((win0_6.rect t).emb y) :=
  At.of_offset (place t).2.2.2.2.2.2.1 rfl rfl

theorem lies_norm (t : Fin cfg0.N) (y : (Rows 256 2048).Idx) : At t.val y ((win0_7.rect t).emb y) :=
  At.of_offset (place t).2.2.2.2.2.2.2 rfl rfl

/-- What a step leaves is its block of them. -/
theorem step_rows (t : Fin cfg0.N) : Block t.val (gated (n := 256) (iblk m c 0 t) (iblk m c 1 t) (again (iblk m c 2 t))) (rows m c) :=
  block_gated (fun y => ⟨_, At.of_offset (place t).1 rfl rfl, rfl⟩) (fun y => ⟨_, At.of_offset (place t).2.1 rfl rfl, rfl⟩)
    (block_twice (place := ((cfg0.win 2).blk t).view.emb) _ (lies t) (place t).2.2.1 (fun _ => rfl) (fun _ => rfl) (fun _ => rfl) _)

theorem step_norm (t : Fin cfg0.N) : Block t.val (normed (n := 256) (gated (iblk m c 0 t) (iblk m c 1 t) (again (iblk m c 2 t)))
    (again (iblk m c 3 t)) (again (iblk m c 4 t)) (again (iblk m c 5 t))) (left m c) :=
  block_normed (step_rows m c t)
    (block_weights (place := ((cfg0.win 3).blk t).view.emb) _ (lies t) (by decide) (place t).2.2.2.1 (fun _ => rfl) (fun _ => rfl) (fun _ => rfl) _)
    (block_twice (place := ((cfg0.win 4).blk t).view.emb) _ (lies t) (place t).2.2.2.2.1 (fun _ => rfl) (fun _ => rfl) (fun _ => rfl) _)
    (block_twice (place := ((cfg0.win 5).blk t).view.emb) _ (lies t) (place t).2.2.2.2.2.1 (fun _ => rfl) (fun _ => rfl) (fun _ => rfl) _)

theorem result_rows : (dats m 0 c).arrAt 6 cfg0.N = rows m c :=
  (dats m 0 c).arrAt_eq_of_covers 6 _ covers_rows fun t _ y =>
    (congrFun ((after0_6 m c t).trans (rows_A ..)) y).trans ((step_rows m c t).at (lies t y))

theorem result_norm : (dats m 0 c).arrAt 7 cfg0.N = left m c :=
  (dats m 0 c).arrAt_eq_of_covers 7 _ covers_norm fun t _ y =>
    (congrFun ((after0_7 m c t).trans (norm_A ..)) y).trans ((step_norm m c t).at (lies_norm t y))

end Value

theorem frame_ideal : Cert.quiescent_GateNormIdeal := fun m g _ => Gen.frame m g

theorem bodies : Cert.GateNorm.defs (F := Bits) = Cert.GateNormIdeal.defs :=
  congrArg (Pipeline.defs _) (congrArg Defs.onTc (funext fun l => funext fun a => match l, a with
    | ⟨0, _⟩, ⟨_, _⟩ => rfl))

theorem frame_bits : Cert.quiescent_GateNorm := fun m g _ => by
  rw [bodies]
  exact Gen.frame (F := Bits) m g

theorem reference_ideal : Cert.quiescent_GateNormRefIdeal := fun m g _ => by
  refine (θ_run _ _ _).mono (fun r h => ⟨fun c => (h c).2.2, sem_eq_zero_of_no_sems (by decide) r.2⟩) (Cert.GateNormRefIdeal.Value.run m g)

theorem value_ideal : Cert.algebraic_GateNormIdeal_GateNormRefIdeal := fun m g m' g' _ hm =>
  ⟨_, _, (θ_run (Cert.GateNormIdeal.defs (F := Ideal)) _ _).mono
      (fun _ h c => ⟨((h c).1 6).trans ((result_rows m c).trans (by
          unfold rows
          rw [← (hm c).1, ← (hm c).2.1, ← (hm c).2.2.1]
          erw [repeated_twice]
          rfl)),
        ((h c).1 7).trans ((result_norm m c).trans (by
          unfold left rows
          rw [← (hm c).1, ← (hm c).2.1, ← (hm c).2.2.1, ← (hm c).2.2.2.1, ← (hm c).2.2.2.2.1, ← (hm c).2.2.2.2.2]
          erw [repeated, repeated_twice, repeated_twice, repeated_twice, Norms.whole]
          rfl)),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _),
        ((h c).1 4).trans ((dats m 0 c).arrAt_in 4 rfl _), ((h c).1 5).trans ((dats m 0 c).arrAt_in 5 rfl _)⟩) (run_main m g),
    Cert.GateNormRefIdeal.Value.run m' g'⟩

end Cert.GateNormIdeal.Own

end
-- ==== Proof.lean ====
module

public import proofs.«01_k».proof.Defs
public import proofs.«01_k».proof.Proof.GatherClaims
public import proofs.«01_k».proof.Proof.AllToAllClaims
public import proofs.«01_k».proof.Proof.SwapClaims
public import proofs.«01_k».proof.Proof.ShareClaims
public import proofs.«01_k».proof.Proof.SumInClaims
public import proofs.«01_k».proof.Proof.SumOutClaims
public import proofs.«01_k».proof.Proof.SumUpClaims
public import proofs.«01_k».proof.Proof.SumDownClaims
public import proofs.«01_k».proof.Proof.SumSmallClaims
public import proofs.«01_k».proof.Proof.AdamAdaClaims
public import proofs.«01_k».proof.Proof.AdamInClaims
public import proofs.«01_k».proof.Proof.AdamOutClaims
public import proofs.«01_k».proof.Proof.AdamUpClaims
public import proofs.«01_k».proof.Proof.AdamDownClaims
public import proofs.«01_k».proof.Proof.AdamSmallClaims
public import proofs.«01_k».proof.Proof.GradAdaClaims
public import proofs.«01_k».proof.Proof.GradInClaims
public import proofs.«01_k».proof.Proof.GradOutClaims
public import proofs.«01_k».proof.Proof.GradUpClaims
public import proofs.«01_k».proof.Proof.GradDownClaims
public import proofs.«01_k».proof.Proof.PairIn0Claims
public import proofs.«01_k».proof.Proof.PairIn1Claims
public import proofs.«01_k».proof.Proof.PairOut0Claims
public import proofs.«01_k».proof.Proof.PairOut1Claims
public import proofs.«01_k».proof.Proof.PairUp0Claims
public import proofs.«01_k».proof.Proof.PairUp1Claims
public import proofs.«01_k».proof.Proof.PairDown0Claims
public import proofs.«01_k».proof.Proof.PairDown1Claims
public import proofs.«01_k».proof.Proof.ProjInClaims
public import proofs.«01_k».proof.Proof.ProjOutClaims
public import proofs.«01_k».proof.Proof.FfnUpClaims
public import proofs.«01_k».proof.Proof.FfnDownClaims
public import proofs.«01_k».proof.Proof.AdaFwdClaims
public import proofs.«01_k».proof.Proof.ProjInBwdClaims
public import proofs.«01_k».proof.Proof.ProjOutBwdClaims
public import proofs.«01_k».proof.Proof.FfnUpBwdClaims
public import proofs.«01_k».proof.Proof.FfnDownBwdClaims
public import proofs.«01_k».proof.Proof.AdaBwdClaims
public import proofs.«01_k».proof.Proof.NormInClaims
public import proofs.«01_k».proof.Proof.GateNormClaims
public import proofs.«01_k».proof.Proof.Gen.GatherRef.Run
public import proofs.«01_k».proof.Proof.Gen.GatherRefIdeal.Run
public import proofs.«01_k».proof.Proof.Gen.AllToAllRef.Run
public import proofs.«01_k».proof.Proof.Gen.AllToAllRefIdeal.Run
public import proofs.«01_k».proof.Proof.Gen.SwapRef.Run
public import proofs.«01_k».proof.Proof.Gen.SwapRefIdeal.Run
public import proofs.«01_k».proof.Proof.Gen.ShareRef.Run
public import proofs.«01_k».proof.Proof.Gen.ShareRefIdeal.Run
public import proofs.«01_k».proof.Proof.Gen.SumInRefIdeal.Run
public import proofs.«01_k».proof.Proof.Gen.SumOutRefIdeal.Run
public import proofs.«01_k».proof.Proof.Gen.SumUpRefIdeal.Run
public import proofs.«01_k».proof.Proof.Gen.SumDownRefIdeal.Run
public import proofs.«01_k».proof.Proof.Gen.SumSmallRefIdeal.Run
public import proofs.«01_k».proof.Proof.Gen.AdamAdaRefIdeal.Run
public import proofs.«01_k».proof.Proof.Gen.AdamInRefIdeal.Run
public import proofs.«01_k».proof.Proof.Gen.AdamOutRefIdeal.Run
public import proofs.«01_k».proof.Proof.Gen.AdamUpRefIdeal.Run
public import proofs.«01_k».proof.Proof.Gen.AdamDownRefIdeal.Run
public import proofs.«01_k».proof.Proof.Gen.AdamSmallRefIdeal.Run
public import proofs.«01_k».proof.Proof.Gen.GradAdaRefIdeal.Run
public import proofs.«01_k».proof.Proof.Gen.GradInRefIdeal.Run
public import proofs.«01_k».proof.Proof.Gen.GradOutRefIdeal.Run
public import proofs.«01_k».proof.Proof.Gen.GradUpRefIdeal.Run
public import proofs.«01_k».proof.Proof.Gen.GradDownRefIdeal.Run
public import proofs.«01_k».proof.Proof.Gen.PairIn0Ref.Run
public import proofs.«01_k».proof.Proof.Gen.PairIn0RefIdeal.Run
public import proofs.«01_k».proof.Proof.Gen.PairIn1Ref.Run
public import proofs.«01_k».proof.Proof.Gen.PairIn1RefIdeal.Run
public import proofs.«01_k».proof.Proof.Gen.PairOut0Ref.Run
public import proofs.«01_k».proof.Proof.Gen.PairOut0RefIdeal.Run
public import proofs.«01_k».proof.Proof.Gen.PairOut1Ref.Run
public import proofs.«01_k».proof.Proof.Gen.PairOut1RefIdeal.Run
public import proofs.«01_k».proof.Proof.Gen.PairUp0Ref.Run
public import proofs.«01_k».proof.Proof.Gen.PairUp0RefIdeal.Run
public import proofs.«01_k».proof.Proof.Gen.PairUp1Ref.Run
public import proofs.«01_k».proof.Proof.Gen.PairUp1RefIdeal.Run
public import proofs.«01_k».proof.Proof.Gen.PairDown0Ref.Run
public import proofs.«01_k».proof.Proof.Gen.PairDown0RefIdeal.Run
public import proofs.«01_k».proof.Proof.Gen.PairDown1Ref.Run
public import proofs.«01_k».proof.Proof.Gen.PairDown1RefIdeal.Run
public import proofs.«01_k».proof.Proof.Gen.ProjInRefIdeal.Run
public import proofs.«01_k».proof.Proof.Gen.ProjOutRefIdeal.Run
public import proofs.«01_k».proof.Proof.Gen.FfnUpRefIdeal.Run
public import proofs.«01_k».proof.Proof.Gen.FfnDownRefIdeal.Run
public import proofs.«01_k».proof.Proof.Gen.AdaFwdRefIdeal.Run
public import proofs.«01_k».proof.Proof.Gen.ProjInBwdRefIdeal.Run
public import proofs.«01_k».proof.Proof.Gen.ProjOutBwdRefIdeal.Run
public import proofs.«01_k».proof.Proof.Gen.FfnUpBwdRefIdeal.Run
public import proofs.«01_k».proof.Proof.Gen.FfnDownBwdRefIdeal.Run
public import proofs.«01_k».proof.Proof.Gen.AdaBwdRefIdeal.Run
public import proofs.«01_k».proof.Proof.Gen.NormInRefIdeal.Run
public import proofs.«01_k».proof.Proof.Gen.GateNormRefIdeal.Run

@[expose] public section

noncomputable section

namespace Cert.Proof

/-- Every claim: the frames of each program and of its reference, then what each program computes. -/
theorem claim : Cert.Claim := ⟨Cert.Gather.Gen.facts, Cert.GatherIdeal.Gen.facts, Cert.GatherRefIdeal.Gen.facts, Cert.GatherRef.Gen.facts, Cert.AllToAll.Gen.facts, Cert.AllToAllIdeal.Gen.facts, Cert.AllToAllRefIdeal.Gen.facts, Cert.AllToAllRef.Gen.facts, Cert.Swap.Gen.facts, Cert.SwapIdeal.Gen.facts, Cert.SwapRefIdeal.Gen.facts, Cert.SwapRef.Gen.facts, Cert.Share.Gen.facts, Cert.ShareIdeal.Gen.facts, Cert.ShareRefIdeal.Gen.facts, Cert.ShareRef.Gen.facts, Cert.SumIn.Gen.facts, Cert.SumInIdeal.Gen.facts, Cert.SumInRefIdeal.Gen.facts, Cert.SumOut.Gen.facts, Cert.SumOutIdeal.Gen.facts, Cert.SumOutRefIdeal.Gen.facts, Cert.SumUp.Gen.facts, Cert.SumUpIdeal.Gen.facts, Cert.SumUpRefIdeal.Gen.facts, Cert.SumDown.Gen.facts, Cert.SumDownIdeal.Gen.facts, Cert.SumDownRefIdeal.Gen.facts, Cert.SumSmall.Gen.facts, Cert.SumSmallIdeal.Gen.facts, Cert.SumSmallRefIdeal.Gen.facts, Cert.AdamAda.Gen.facts, Cert.AdamAdaIdeal.Gen.facts, Cert.AdamAdaRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamSmall.Gen.facts, Cert.AdamSmallIdeal.Gen.facts, Cert.AdamSmallRefIdeal.Gen.facts, Cert.GradAda.Gen.facts, Cert.GradAdaIdeal.Gen.facts, Cert.GradAdaRefIdeal.Gen.facts, Cert.GradIn.Gen.facts, Cert.GradInIdeal.Gen.facts, Cert.GradInRefIdeal.Gen.facts, Cert.GradOut.Gen.facts, Cert.GradOutIdeal.Gen.facts, Cert.GradOutRefIdeal.Gen.facts, Cert.GradUp.Gen.facts, Cert.GradUpIdeal.Gen.facts, Cert.GradUpRefIdeal.Gen.facts, Cert.GradDown.Gen.facts, Cert.GradDownIdeal.Gen.facts, Cert.GradDownRefIdeal.Gen.facts, Cert.PairIn0.Gen.facts, Cert.PairIn0Ideal.Gen.facts, Cert.PairIn0RefIdeal.Gen.facts, Cert.PairIn0Ref.Gen.facts, Cert.PairIn1.Gen.facts, Cert.PairIn1Ideal.Gen.facts, Cert.PairIn1RefIdeal.Gen.facts, Cert.PairIn1Ref.Gen.facts, Cert.PairOut0.Gen.facts, Cert.PairOut0Ideal.Gen.facts, Cert.PairOut0RefIdeal.Gen.facts, Cert.PairOut0Ref.Gen.facts, Cert.PairOut1.Gen.facts, Cert.PairOut1Ideal.Gen.facts, Cert.PairOut1RefIdeal.Gen.facts, Cert.PairOut1Ref.Gen.facts, Cert.PairUp0.Gen.facts, Cert.PairUp0Ideal.Gen.facts, Cert.PairUp0RefIdeal.Gen.facts, Cert.PairUp0Ref.Gen.facts, Cert.PairUp1.Gen.facts, Cert.PairUp1Ideal.Gen.facts, Cert.PairUp1RefIdeal.Gen.facts, Cert.PairUp1Ref.Gen.facts, Cert.PairDown0.Gen.facts, Cert.PairDown0Ideal.Gen.facts, Cert.PairDown0RefIdeal.Gen.facts, Cert.PairDown0Ref.Gen.facts, Cert.PairDown1.Gen.facts, Cert.PairDown1Ideal.Gen.facts, Cert.PairDown1RefIdeal.Gen.facts, Cert.PairDown1Ref.Gen.facts, Cert.ProjIn.Gen.facts, Cert.ProjInIdeal.Gen.facts, Cert.ProjInRefIdeal.Gen.facts, Cert.ProjOut.Gen.facts, Cert.ProjOutIdeal.Gen.facts, Cert.ProjOutRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.AdaFwd.Gen.facts, Cert.AdaFwdIdeal.Gen.facts, Cert.AdaFwdRefIdeal.Gen.facts, Cert.ProjInBwd.Gen.facts, Cert.ProjInBwdIdeal.Gen.facts, Cert.ProjInBwdRefIdeal.Gen.facts, Cert.ProjOutBwd.Gen.facts, Cert.ProjOutBwdIdeal.Gen.facts, Cert.ProjOutBwdRefIdeal.Gen.facts, Cert.FfnUpBwd.Gen.facts, Cert.FfnUpBwdIdeal.Gen.facts, Cert.FfnUpBwdRefIdeal.Gen.facts, Cert.FfnDownBwd.Gen.facts, Cert.FfnDownBwdIdeal.Gen.facts, Cert.FfnDownBwdRefIdeal.Gen.facts, Cert.AdaBwd.Gen.facts, Cert.AdaBwdIdeal.Gen.facts, Cert.AdaBwdRefIdeal.Gen.facts, Cert.NormIn.Gen.facts, Cert.NormInIdeal.Gen.facts, Cert.NormInRefIdeal.Gen.facts, Cert.GateNorm.Gen.facts, Cert.GateNormIdeal.Gen.facts, Cert.GateNormRefIdeal.Gen.facts,
  Cert.GatherIdeal.Own.frame_bits, Cert.GatherIdeal.Own.frame_ideal, Cert.GatherIdeal.Own.reference_ideal, Cert.GatherIdeal.Own.reference_bits,
  Cert.AllToAllIdeal.Own.frame_bits, Cert.AllToAllIdeal.Own.frame_ideal, Cert.AllToAllIdeal.Own.reference_ideal, Cert.AllToAllIdeal.Own.reference_bits,
  Cert.SwapIdeal.Own.frame_bits, Cert.SwapIdeal.Own.frame_ideal, Cert.SwapIdeal.Own.reference_ideal, Cert.SwapIdeal.Own.reference_bits,
  Cert.ShareIdeal.Own.frame_bits, Cert.ShareIdeal.Own.frame_ideal, Cert.ShareIdeal.Own.reference_ideal, Cert.ShareIdeal.Own.reference_bits,
  Cert.SumInIdeal.Own.frame_bits, Cert.SumInIdeal.Own.frame_ideal, Cert.SumInIdeal.Own.reference_ideal,
  Cert.SumOutIdeal.Own.frame_bits, Cert.SumOutIdeal.Own.frame_ideal, Cert.SumOutIdeal.Own.reference_ideal,
  Cert.SumUpIdeal.Own.frame_bits, Cert.SumUpIdeal.Own.frame_ideal, Cert.SumUpIdeal.Own.reference_ideal,
  Cert.SumDownIdeal.Own.frame_bits, Cert.SumDownIdeal.Own.frame_ideal, Cert.SumDownIdeal.Own.reference_ideal,
  Cert.SumSmallIdeal.Own.frame_bits, Cert.SumSmallIdeal.Own.frame_ideal, Cert.SumSmallIdeal.Own.reference_ideal,
  Cert.AdamAdaIdeal.Own.frame_bits, Cert.AdamAdaIdeal.Own.frame_ideal, Cert.AdamAdaIdeal.Own.reference_ideal,
  Cert.AdamInIdeal.Own.frame_bits, Cert.AdamInIdeal.Own.frame_ideal, Cert.AdamInIdeal.Own.reference_ideal,
  Cert.AdamOutIdeal.Own.frame_bits, Cert.AdamOutIdeal.Own.frame_ideal, Cert.AdamOutIdeal.Own.reference_ideal,
  Cert.AdamUpIdeal.Own.frame_bits, Cert.AdamUpIdeal.Own.frame_ideal, Cert.AdamUpIdeal.Own.reference_ideal,
  Cert.AdamDownIdeal.Own.frame_bits, Cert.AdamDownIdeal.Own.frame_ideal, Cert.AdamDownIdeal.Own.reference_ideal,
  Cert.AdamSmallIdeal.Own.frame_bits, Cert.AdamSmallIdeal.Own.frame_ideal, Cert.AdamSmallIdeal.Own.reference_ideal,
  Cert.GradAdaIdeal.Own.frame_bits, Cert.GradAdaIdeal.Own.frame_ideal, Cert.GradAdaIdeal.Own.reference_ideal,
  Cert.GradInIdeal.Own.frame_bits, Cert.GradInIdeal.Own.frame_ideal, Cert.GradInIdeal.Own.reference_ideal,
  Cert.GradOutIdeal.Own.frame_bits, Cert.GradOutIdeal.Own.frame_ideal, Cert.GradOutIdeal.Own.reference_ideal,
  Cert.GradUpIdeal.Own.frame_bits, Cert.GradUpIdeal.Own.frame_ideal, Cert.GradUpIdeal.Own.reference_ideal,
  Cert.GradDownIdeal.Own.frame_bits, Cert.GradDownIdeal.Own.frame_ideal, Cert.GradDownIdeal.Own.reference_ideal,
  Cert.PairIn0Ideal.Own.frame_bits, Cert.PairIn0Ideal.Own.frame_ideal, Cert.PairIn0Ideal.Own.reference_ideal, Cert.PairIn0Ideal.Own.reference_bits,
  Cert.PairIn1Ideal.Own.frame_bits, Cert.PairIn1Ideal.Own.frame_ideal, Cert.PairIn1Ideal.Own.reference_ideal, Cert.PairIn1Ideal.Own.reference_bits,
  Cert.PairOut0Ideal.Own.frame_bits, Cert.PairOut0Ideal.Own.frame_ideal, Cert.PairOut0Ideal.Own.reference_ideal, Cert.PairOut0Ideal.Own.reference_bits,
  Cert.PairOut1Ideal.Own.frame_bits, Cert.PairOut1Ideal.Own.frame_ideal, Cert.PairOut1Ideal.Own.reference_ideal, Cert.PairOut1Ideal.Own.reference_bits,
  Cert.PairUp0Ideal.Own.frame_bits, Cert.PairUp0Ideal.Own.frame_ideal, Cert.PairUp0Ideal.Own.reference_ideal, Cert.PairUp0Ideal.Own.reference_bits,
  Cert.PairUp1Ideal.Own.frame_bits, Cert.PairUp1Ideal.Own.frame_ideal, Cert.PairUp1Ideal.Own.reference_ideal, Cert.PairUp1Ideal.Own.reference_bits,
  Cert.PairDown0Ideal.Own.frame_bits, Cert.PairDown0Ideal.Own.frame_ideal, Cert.PairDown0Ideal.Own.reference_ideal, Cert.PairDown0Ideal.Own.reference_bits,
  Cert.PairDown1Ideal.Own.frame_bits, Cert.PairDown1Ideal.Own.frame_ideal, Cert.PairDown1Ideal.Own.reference_ideal, Cert.PairDown1Ideal.Own.reference_bits,
  Cert.ProjInIdeal.Own.frame_bits, Cert.ProjInIdeal.Own.frame_ideal, Cert.ProjInIdeal.Own.reference_ideal,
  Cert.ProjOutIdeal.Own.frame_bits, Cert.ProjOutIdeal.Own.frame_ideal, Cert.ProjOutIdeal.Own.reference_ideal,
  Cert.FfnUpIdeal.Own.frame_bits, Cert.FfnUpIdeal.Own.frame_ideal, Cert.FfnUpIdeal.Own.reference_ideal,
  Cert.FfnDownIdeal.Own.frame_bits, Cert.FfnDownIdeal.Own.frame_ideal, Cert.FfnDownIdeal.Own.reference_ideal,
  Cert.AdaFwdIdeal.Own.frame_bits, Cert.AdaFwdIdeal.Own.frame_ideal, Cert.AdaFwdIdeal.Own.reference_ideal,
  Cert.ProjInBwdIdeal.Own.frame_bits, Cert.ProjInBwdIdeal.Own.frame_ideal, Cert.ProjInBwdIdeal.Own.reference_ideal,
  Cert.ProjOutBwdIdeal.Own.frame_bits, Cert.ProjOutBwdIdeal.Own.frame_ideal, Cert.ProjOutBwdIdeal.Own.reference_ideal,
  Cert.FfnUpBwdIdeal.Own.frame_bits, Cert.FfnUpBwdIdeal.Own.frame_ideal, Cert.FfnUpBwdIdeal.Own.reference_ideal,
  Cert.FfnDownBwdIdeal.Own.frame_bits, Cert.FfnDownBwdIdeal.Own.frame_ideal, Cert.FfnDownBwdIdeal.Own.reference_ideal,
  Cert.AdaBwdIdeal.Own.frame_bits, Cert.AdaBwdIdeal.Own.frame_ideal, Cert.AdaBwdIdeal.Own.reference_ideal,
  Cert.NormInIdeal.Own.frame_bits, Cert.NormInIdeal.Own.frame_ideal, Cert.NormInIdeal.Own.reference_ideal,
  Cert.GateNormIdeal.Own.frame_bits, Cert.GateNormIdeal.Own.frame_ideal, Cert.GateNormIdeal.Own.reference_ideal,
  trivial, Cert.GatherIdeal.Own.value_ideal, Cert.GatherIdeal.Own.value_bits,
  trivial, Cert.AllToAllIdeal.Own.value_ideal, Cert.AllToAllIdeal.Own.value_bits,
  trivial, Cert.SwapIdeal.Own.value_ideal, Cert.SwapIdeal.Own.value_bits,
  trivial, Cert.ShareIdeal.Own.value_ideal, Cert.ShareIdeal.Own.value_bits,
  trivial, Cert.SumInIdeal.Own.value_ideal,
  trivial, Cert.SumOutIdeal.Own.value_ideal,
  trivial, Cert.SumUpIdeal.Own.value_ideal,
  trivial, Cert.SumDownIdeal.Own.value_ideal,
  trivial, Cert.SumSmallIdeal.Own.value_ideal,
  trivial, Cert.AdamAdaIdeal.Own.value_ideal,
  trivial, Cert.AdamInIdeal.Own.value_ideal,
  trivial, Cert.AdamOutIdeal.Own.value_ideal,
  trivial, Cert.AdamUpIdeal.Own.value_ideal,
  trivial, Cert.AdamDownIdeal.Own.value_ideal,
  trivial, Cert.AdamSmallIdeal.Own.value_ideal,
  trivial, Cert.GradAdaIdeal.Own.value_ideal,
  trivial, Cert.GradInIdeal.Own.value_ideal,
  trivial, Cert.GradOutIdeal.Own.value_ideal,
  trivial, Cert.GradUpIdeal.Own.value_ideal,
  trivial, Cert.GradDownIdeal.Own.value_ideal,
  trivial, Cert.PairIn0Ideal.Own.value_ideal, Cert.PairIn0Ideal.Own.value_bits,
  trivial, Cert.PairIn1Ideal.Own.value_ideal, Cert.PairIn1Ideal.Own.value_bits,
  trivial, Cert.PairOut0Ideal.Own.value_ideal, Cert.PairOut0Ideal.Own.value_bits,
  trivial, Cert.PairOut1Ideal.Own.value_ideal, Cert.PairOut1Ideal.Own.value_bits,
  trivial, Cert.PairUp0Ideal.Own.value_ideal, Cert.PairUp0Ideal.Own.value_bits,
  trivial, Cert.PairUp1Ideal.Own.value_ideal, Cert.PairUp1Ideal.Own.value_bits,
  trivial, Cert.PairDown0Ideal.Own.value_ideal, Cert.PairDown0Ideal.Own.value_bits,
  trivial, Cert.PairDown1Ideal.Own.value_ideal, Cert.PairDown1Ideal.Own.value_bits,
  trivial, Cert.ProjInIdeal.Own.value_ideal,
  trivial, Cert.ProjOutIdeal.Own.value_ideal,
  trivial, Cert.FfnUpIdeal.Own.value_ideal,
  trivial, Cert.FfnDownIdeal.Own.value_ideal,
  trivial, Cert.AdaFwdIdeal.Own.value_ideal,
  trivial, Cert.ProjInBwdIdeal.Own.value_ideal,
  trivial, Cert.ProjOutBwdIdeal.Own.value_ideal,
  trivial, Cert.FfnUpBwdIdeal.Own.value_ideal,
  trivial, Cert.FfnDownBwdIdeal.Own.value_ideal,
  trivial, Cert.AdaBwdIdeal.Own.value_ideal,
  trivial, Cert.NormInIdeal.Own.value_ideal,
  trivial, Cert.GateNormIdeal.Own.value_ideal⟩

end Cert.Proof

end
